-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mix [hPre_finite_mix : Cert.Pre_finite_mix.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mix.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mix [hPre_finite_mix : Cert.Pre_finite_mix.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mix.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_half [hPre_finite_half : Cert.Pre_finite_half.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_half [hPre_finite_half : Cert.Pre_finite_half.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_half.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_fwd [hPre_finite_fwd : Cert.Pre_finite_fwd.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_fwd.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_fwd [hPre_finite_fwd : Cert.Pre_finite_fwd.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_fwd.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_pool [hPre_finite_pool : Cert.Pre_finite_pool.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_pool.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_pool [hPre_finite_pool : Cert.Pre_finite_pool.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_pool.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite_mix [hKernel2Ideal : Cert.Kernel2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mix m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite_mix [hReference2Ideal : Cert.Reference2Ideal.Facts] [hPre_finite_mix : Cert.Pre_finite_mix.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mix m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_half [hKernel4Ideal : Cert.Kernel4Ideal.Facts] [hPre_finite_half : Cert.Pre_finite_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_half m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_half [hReference4Ideal : Cert.Reference4Ideal.Facts] [hPre_finite_half : Cert.Pre_finite_half.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_half m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_fwd [hKernel5Ideal : Cert.Kernel5Ideal.Facts] [hPre_finite_fwd : Cert.Pre_finite_fwd.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_fwd m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_fwd [hReference5Ideal : Cert.Reference5Ideal.Facts] [hPre_finite_fwd : Cert.Pre_finite_fwd.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_fwd m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Kernel6Ideal_pre_finite_pool [hKernel6Ideal : Cert.Kernel6Ideal.Facts] [hPre_finite_pool : Cert.Pre_finite_pool.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_pool m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Reference6Ideal_pre_finite_pool [hReference6Ideal : Cert.Reference6Ideal.Facts] [hPre_finite_pool : Cert.Pre_finite_pool.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_pool m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "gelu_a" .f32 0x3D372713#32 ((8943 / 200000 : ℝ) : EReal)
  ∧ IdealRules.named_const.Statement Cert.Kernel2Ideal.κ "gelu_3a" .f32 0x3E095D4F#32 ((26829 / 200000 : ℝ) : EReal)

def algebraic_Kernel2Ideal_Reference2Ideal_pre_finite_mix [hKernel2Ideal : Cert.Kernel2Ideal.Facts] [hReference2Ideal : Cert.Reference2Ideal.Facts] [hPre_finite_mix : Cert.Pre_finite_mix.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mix m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v127_0)) (v1 : (c : Dev Cert.Kernel2Ideal.nD) → Buf (Elt Ideal) ((c.tc : Thread Cert.Kernel2Ideal.nD Cert.Kernel2Ideal.τ).loc Cert.Kernel2Ideal.main_v127_1)) (v2 : (c : Dev Cert.Kernel2Ideal.nD) → Buf (Elt Ideal) ((c.tc : Thread Cert.Kernel2Ideal.nD Cert.Kernel2Ideal.τ).loc Cert.Kernel2Ideal.main_v127_2)) (v3 : (c : Dev Cert.Kernel2Ideal.nD) → Buf (Elt Ideal) ((c.tc : Thread Cert.Kernel2Ideal.nD Cert.Kernel2Ideal.τ).loc Cert.Kernel2Ideal.main_v127_3)) (v4 : (c : Dev Cert.Kernel2Ideal.nD) → Buf (Elt Ideal) ((c.tc : Thread Cert.Kernel2Ideal.nD Cert.Kernel2Ideal.τ).loc Cert.Kernel2Ideal.main_v127_4)) (v5 : (c : Dev Cert.Kernel2Ideal.nD) → Buf (Elt Ideal) ((c.tc : Thread Cert.Kernel2Ideal.nD Cert.Kernel2Ideal.τ).loc Cert.Kernel2Ideal.main_v127_5)) (v6 : (c : Dev Cert.Kernel2Ideal.nD) → Buf (Elt Ideal) ((c.tc : Thread Cert.Kernel2Ideal.nD Cert.Kernel2Ideal.τ).loc Cert.Kernel2Ideal.main_v127_6)) (v7 : (c : Dev Cert.Kernel2Ideal.nD) → Buf (Elt Ideal) ((c.tc : Thread Cert.Kernel2Ideal.nD Cert.Kernel2Ideal.τ).loc Cert.Kernel2Ideal.main_v127_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v127_0) = v0 c
          ∧ r.2.mem ((c.tc : Thread Cert.Kernel2Ideal.nD Cert.Kernel2Ideal.τ).loc Cert.Kernel2Ideal.main_v127_1) = v1 c
          ∧ r.2.mem ((c.tc : Thread Cert.Kernel2Ideal.nD Cert.Kernel2Ideal.τ).loc Cert.Kernel2Ideal.main_v127_2) = v2 c
          ∧ r.2.mem ((c.tc : Thread Cert.Kernel2Ideal.nD Cert.Kernel2Ideal.τ).loc Cert.Kernel2Ideal.main_v127_3) = v3 c
          ∧ r.2.mem ((c.tc : Thread Cert.Kernel2Ideal.nD Cert.Kernel2Ideal.τ).loc Cert.Kernel2Ideal.main_v127_4) = v4 c
          ∧ r.2.mem ((c.tc : Thread Cert.Kernel2Ideal.nD Cert.Kernel2Ideal.τ).loc Cert.Kernel2Ideal.main_v127_5) = v5 c
          ∧ r.2.mem ((c.tc : Thread Cert.Kernel2Ideal.nD Cert.Kernel2Ideal.τ).loc Cert.Kernel2Ideal.main_v127_6) = v6 c
          ∧ r.2.mem ((c.tc : Thread Cert.Kernel2Ideal.nD Cert.Kernel2Ideal.τ).loc Cert.Kernel2Ideal.main_v127_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v354) = v0 c
          ∧ r.2.mem ((c.tc : Thread Cert.Reference2Ideal.nD Cert.Reference2Ideal.τ).loc Cert.Reference2Ideal.main_v326) = v1 c
          ∧ r.2.mem ((c.tc : Thread Cert.Reference2Ideal.nD Cert.Reference2Ideal.τ).loc Cert.Reference2Ideal.main_v185) = v2 c
          ∧ r.2.mem ((c.tc : Thread Cert.Reference2Ideal.nD Cert.Reference2Ideal.τ).loc Cert.Reference2Ideal.main_v257) = v3 c
          ∧ r.2.mem ((c.tc : Thread Cert.Reference2Ideal.nD Cert.Reference2Ideal.τ).loc Cert.Reference2Ideal.main_v200) = v4 c
          ∧ r.2.mem ((c.tc : Thread Cert.Reference2Ideal.nD Cert.Reference2Ideal.τ).loc Cert.Reference2Ideal.main_v195) = v5 c
          ∧ r.2.mem ((c.tc : Thread Cert.Reference2Ideal.nD Cert.Reference2Ideal.τ).loc Cert.Reference2Ideal.main_v356) = v6 c
          ∧ r.2.mem ((c.tc : Thread Cert.Reference2Ideal.nD Cert.Reference2Ideal.τ).loc Cert.Reference2Ideal.main_v358) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v93) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_half [hKernel4Ideal : Cert.Kernel4Ideal.Facts] [hReference4Ideal : Cert.Reference4Ideal.Facts] [hPre_finite_half : Cert.Pre_finite_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_half m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_fwd [hKernel5Ideal : Cert.Kernel5Ideal.Facts] [hReference5Ideal : Cert.Reference5Ideal.Facts] [hPre_finite_fwd : Cert.Pre_finite_fwd.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_fwd m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "gelu_a" .f32 0x3D372713#32 ((8943 / 200000 : ℝ) : EReal)

def algebraic_Kernel6Ideal_Reference6Ideal_pre_finite_pool [hKernel6Ideal : Cert.Kernel6Ideal.Facts] [hReference6Ideal : Cert.Reference6Ideal.Facts] [hPre_finite_pool : Cert.Pre_finite_pool.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_pool m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v157) = v0 c
          ∧ r.2.mem ((c.tc : Thread Cert.Reference6Ideal.nD Cert.Reference6Ideal.τ).loc Cert.Reference6Ideal.main_v159) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_mix : Cert.Pre_finite_mix.Facts) (hPre_finite_ffn : Cert.Pre_finite_ffn.Facts) (hPre_finite_half : Cert.Pre_finite_half.Facts) (hPre_finite_fwd : Cert.Pre_finite_fwd.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_mix (hKernel2Ideal := hKernel2Ideal) (hPre_finite_mix := hPre_finite_mix)
    ∧ quiescent_Reference2Ideal (hReference2Ideal := hReference2Ideal)
    ∧ quiescent_Reference2Ideal_pre_finite_mix (hReference2Ideal := hReference2Ideal) (hPre_finite_mix := hPre_finite_mix)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Kernel4Ideal_pre_finite_half (hKernel4Ideal := hKernel4Ideal) (hPre_finite_half := hPre_finite_half)
    ∧ quiescent_Reference4Ideal (hReference4Ideal := hReference4Ideal)
    ∧ quiescent_Reference4Ideal_pre_finite_half (hReference4Ideal := hReference4Ideal) (hPre_finite_half := hPre_finite_half)
    ∧ quiescent_Kernel5 (hKernel5 := hKernel5)
    ∧ quiescent_Kernel5Ideal (hKernel5Ideal := hKernel5Ideal)
    ∧ quiescent_Kernel5Ideal_pre_finite_fwd (hKernel5Ideal := hKernel5Ideal) (hPre_finite_fwd := hPre_finite_fwd)
    ∧ quiescent_Reference5Ideal (hReference5Ideal := hReference5Ideal)
    ∧ quiescent_Reference5Ideal_pre_finite_fwd (hReference5Ideal := hReference5Ideal) (hPre_finite_fwd := hPre_finite_fwd)
    ∧ quiescent_Kernel6 (hKernel6 := hKernel6)
    ∧ quiescent_Kernel6Ideal (hKernel6Ideal := hKernel6Ideal)
    ∧ quiescent_Kernel6Ideal_pre_finite_pool (hKernel6Ideal := hKernel6Ideal) (hPre_finite_pool := hPre_finite_pool)
    ∧ quiescent_Reference6Ideal (hReference6Ideal := hReference6Ideal)
    ∧ quiescent_Reference6Ideal_pre_finite_pool (hReference6Ideal := hReference6Ideal) (hPre_finite_pool := hPre_finite_pool)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_mix (hKernel2Ideal := hKernel2Ideal) (hReference2Ideal := hReference2Ideal) (hPre_finite_mix := hPre_finite_mix)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal_pre_finite_half (hKernel4Ideal := hKernel4Ideal) (hReference4Ideal := hReference4Ideal) (hPre_finite_half := hPre_finite_half)
    ∧ preserves_Kernel5_Kernel5Ideal
    ∧ algebraic_Kernel5Ideal_Reference5Ideal_pre_finite_fwd (hKernel5Ideal := hKernel5Ideal) (hReference5Ideal := hReference5Ideal) (hPre_finite_fwd := hPre_finite_fwd)
    ∧ preserves_Kernel6_Kernel6Ideal
    ∧ algebraic_Kernel6Ideal_Reference6Ideal_pre_finite_pool (hKernel6Ideal := hKernel6Ideal) (hReference6Ideal := hReference6Ideal) (hPre_finite_pool := hPre_finite_pool)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x1024 .f32) (main_arg6 : FVec F S1024x5632 .f32) (main_arg7 : FVec F S2816x1024 .f32) (main_arg8 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x5632 .f32 := Host.absf main_arg6
  let main_cst_10 : FVec F S_ .f32 := constant S_ .f32 0x7F800000#32
  let main_v25 : FVec F S1024x5632 .f32 := broadcastInDim S1024x5632 ![] bcast_S_S1024x5632 main_cst_10
  let main_v26 : IVec S1024x5632 1 := cmpf .olt main_v24 main_v25
  let main_c_11 : IVec S_ 1 := constantI S_ 1 1#1
  let main_v27 : IVec S_ 1 := (fun x v => Host.reduce IntOp.andi x v reducesTo_S1024x5632_S_d0_1 h_S_) main_v26 main_c_11
  let main_v28 : FVec F S2816x1024 .f32 := Host.absf main_arg7
  let main_cst_12 : FVec F S_ .f32 := constant S_ .f32 0x7F800000#32
  let main_v29 : FVec F S2816x1024 .f32 := broadcastInDim S2816x1024 ![] bcast_S_S2816x1024 main_cst_12
  let main_v30 : IVec S2816x1024 1 := cmpf .olt main_v28 main_v29
  let main_c_13 : IVec S_ 1 := constantI S_ 1 1#1
  let main_v31 : IVec S_ 1 := (fun x v => Host.reduce IntOp.andi x v reducesTo_S2816x1024_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S2816x1024 .f32) (main_arg8 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Pre_finite_ffn.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S2816x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2816x1024 .f32 := Host.absf main_arg8
  let main_cst_14 : FVec F S_ .f32 := constant S_ .f32 0x7F800000#32
  let main_v33 : FVec F S2816x1024 .f32 := broadcastInDim S2816x1024 ![] bcast_S_S2816x1024 main_cst_14
  let main_v34 : IVec S2816x1024 1 := cmpf .olt main_v32 main_v33
  let main_c_15 : IVec S_ 1 := constantI S_ 1 1#1
  let main_v35 : IVec S_ 1 := (fun x v => Host.reduce IntOp.andi x v reducesTo_S2816x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x1024 .f32) (main_arg6 : FVec F S1x1024 .f32) (main_arg7 : FVec F S1024x5632 .f32) (main_arg8 : FVec F S2816x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1024x5632 .f32 := Host.absf main_arg7
  let main_cst_12 : FVec F S_ .f32 := constant S_ .f32 0x7F800000#32
  let main_v29 : FVec F S1024x5632 .f32 := broadcastInDim S1024x5632 ![] bcast_S_S1024x5632 main_cst_12
  let main_v30 : IVec S1024x5632 1 := cmpf .olt main_v28 main_v29
  let main_c_13 : IVec S_ 1 := constantI S_ 1 1#1
  let main_v31 : IVec S_ 1 := (fun x v => Host.reduce IntOp.andi x v reducesTo_S1024x5632_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S1x1024 .f32) (main_arg6 : FVec F S1x1024 .f32) (main_arg7 : FVec F S1024x5632 .f32) (main_arg8 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Pre_finite_fwd.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x1024 .f32) (main_arg5 : FVec F S1024x5632 .f32) (main_arg6 : FVec F S2816x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024x5632 .f32 := Host.absf main_arg5
  let main_cst_8 : FVec F S_ .f32 := constant S_ .f32 0x7F800000#32
  let main_v21 : FVec F S1024x5632 .f32 := broadcastInDim S1024x5632 ![] bcast_S_S1024x5632 main_cst_8
  let main_v22 : IVec S1024x5632 1 := cmpf .olt main_v20 main_v21
  let main_c_9 : IVec S_ 1 := constantI S_ 1 1#1
  let main_v23 : IVec S_ 1 := (fun x v => Host.reduce IntOp.andi x v reducesTo_S1024x5632_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x5632 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite_half.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1024 .f32) (main_arg5 : FVec F S1x1024 .f32) (main_arg6 : FVec F S1024x5632 .f32) (main_arg7 : FVec F S2816x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x5632 .f32 := Host.absf main_arg6
  let main_cst_10 : FVec F S_ .f32 := constant S_ .f32 0x7F800000#32
  let main_v25 : FVec F S1024x5632 .f32 := broadcastInDim S1024x5632 ![] bcast_S_S1024x5632 main_cst_10
  let main_v26 : IVec S1024x5632 1 := cmpf .olt main_v24 main_v25
  let main_c_11 : IVec S_ 1 := constantI S_ 1 1#1
  let main_v27 : IVec S_ 1 := (fun x v => Host.reduce IntOp.andi x v reducesTo_S1024x5632_S_d0_1 h_S_) main_v26 main_c_11
  let main_v28 : FVec F S2816x1024 .f32 := Host.absf main_arg7
  let main_cst_12 : FVec F S_ .f32 := constant S_ .f32 0x7F800000#32
  let main_v29 : FVec F S2816x1024 .f32 := broadcastInDim S2816x1024 ![] bcast_S_S2816x1024 main_cst_12
  let main_v30 : IVec S2816x1024 1 := cmpf .olt main_v28 main_v29
  let main_c_13 : IVec S_ 1 := constantI S_ 1 1#1
  let main_v31 : IVec S_ 1 := (fun x v => Host.reduce IntOp.andi x v reducesTo_S2816x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_v3 main_v7 main_v11 main_v15
-- ==== Pre_finite_mix.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v55 : IVec S_ 1) (main_v67 : IVec S_ 1) : IVec S_ 1 :=
  let main_v68 : IVec S_ 1 := andi main_v67 main_v55
  main_v68

def fn_part3 {F : FTy → Type} [FloatOps F] (main_arg12 : FVec F S8x128 .f32) (main_arg13 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S8x128 .f32 := Host.absf main_arg12
  let main_cst_22 : FVec F S_ .f32 := constant S_ .f32 0x7F800000#32
  let main_v49 : FVec F S8x128 .f32 := broadcastInDim S8x128 ![] bcast_S_S8x128 main_cst_22
  let main_v50 : IVec S8x128 1 := cmpf .olt main_v48 main_v49
  let main_c_23 : IVec S_ 1 := constantI S_ 1 1#1
  let main_v51 : IVec S_ 1 := (fun x v => Host.reduce IntOp.andi x v reducesTo_S8x128_S_d0_1 h_S_) main_v50 main_c_23
  let main_v52 : FVec F S1024x1024 .f32 := Host.absf main_arg13
  let main_cst_24 : FVec F S_ .f32 := constant S_ .f32 0x7F800000#32
  let main_v53 : FVec F S1024x1024 .f32 := broadcastInDim S1024x1024 ![] bcast_S_S1024x1024 main_cst_24
  let main_v54 : IVec S1024x1024 1 := cmpf .olt main_v52 main_v53
  let main_c_25 : IVec S_ 1 := constantI S_ 1 1#1
  let main_v55 : IVec S_ 1 := (fun x v => Host.reduce IntOp.andi x v reducesTo_S1024x1024_S_d0_1 h_S_) main_v54 main_c_25
  let main_v56 : IVec S_ 1 := andi main_v3 main_v7
  let main_v57 : IVec S_ 1 := andi main_v56 main_v11
  let main_v58 : IVec S_ 1 := andi main_v57 main_v15
  let main_v59 : IVec S_ 1 := andi main_v58 main_v19
  let main_v60 : IVec S_ 1 := andi main_v59 main_v23
  let main_v61 : IVec S_ 1 := andi main_v60 main_v27
  let main_v62 : IVec S_ 1 := andi main_v61 main_v31
  let main_v63 : IVec S_ 1 := andi main_v62 main_v35
  let main_v64 : IVec S_ 1 := andi main_v63 main_v39
  let main_v65 : IVec S_ 1 := andi main_v64 main_v43
  let main_v66 : IVec S_ 1 := andi main_v65 main_v47
  let main_v67 : IVec S_ 1 := andi main_v66 main_v51
  fn_part4 (F := F) main_v55 main_v67

def fn_part2 {F : FTy → Type} [FloatOps F] (main_arg8 : FVec F S1x512 .f32) (main_arg9 : FVec F S1x512 .f32) (main_arg10 : FVec F S1x512 .f32) (main_arg11 : FVec F S8x128x128 .f32) (main_arg12 : FVec F S8x128 .f32) (main_arg13 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg8
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1x512 .f32 := Host.absf main_arg9
  let main_cst_16 : FVec F S_ .f32 := constant S_ .f32 0x7F800000#32
  let main_v37 : FVec F S1x512 .f32 := broadcastInDim S1x512 ![] bcast_S_S1x512 main_cst_16
  let main_v38 : IVec S1x512 1 := cmpf .olt main_v36 main_v37
  let main_c_17 : IVec S_ 1 := constantI S_ 1 1#1
  let main_v39 : IVec S_ 1 := (fun x v => Host.reduce IntOp.andi x v reducesTo_S1x512_S_d0_1 h_S_) main_v38 main_c_17
  let main_v40 : FVec F S1x512 .f32 := Host.absf main_arg10
  let main_cst_18 : FVec F S_ .f32 := constant S_ .f32 0x7F800000#32
  let main_v41 : FVec F S1x512 .f32 := broadcastInDim S1x512 ![] bcast_S_S1x512 main_cst_18
  let main_v42 : IVec S1x512 1 := cmpf .olt main_v40 main_v41
  let main_c_19 : IVec S_ 1 := constantI S_ 1 1#1
  let main_v43 : IVec S_ 1 := (fun x v => Host.reduce IntOp.andi x v reducesTo_S1x512_S_d0_1 h_S_) main_v42 main_c_19
  let main_v44 : FVec F S8x128x128 .f32 := Host.absf main_arg11
  let main_cst_20 : FVec F S_ .f32 := constant S_ .f32 0x7F800000#32
  let main_v45 : FVec F S8x128x128 .f32 := broadcastInDim S8x128x128 ![] bcast_S_S8x128x128 main_cst_20
  let main_v46 : IVec S8x128x128 1 := cmpf .olt main_v44 main_v45
  let main_c_21 : IVec S_ 1 := constantI S_ 1 1#1
  let main_v47 : IVec S_ 1 := (fun x v => Host.reduce IntOp.andi x v reducesTo_S8x128x128_S_d0_1_2 h_S_) main_v46 main_c_21
  fn_part3 (F := F) main_arg12 main_arg13 main_v3 main_v7 main_v11 main_v15 main_v19 main_v23 main_v27 main_v31 main_v35 main_v39 main_v43 main_v47

def fn_part1 {F : FTy → Type} [FloatOps F] (main_arg4 : FVec F S1x1024 .f32) (main_arg5 : FVec F S1x1024 .f32) (main_arg6 : FVec F S1024x1536 .f32) (main_arg7 : FVec F S4x128x128 .f32) (main_arg8 : FVec F S1x512 .f32) (main_arg9 : FVec F S1x512 .f32) (main_arg10 : FVec F S1x512 .f32) (main_arg11 : FVec F S8x128x128 .f32) (main_arg12 : FVec F S8x128 .f32) (main_arg13 : FVec F S1024x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x1536 .f32 := Host.absf main_arg6
  let main_cst_10 : FVec F S_ .f32 := constant S_ .f32 0x7F800000#32
  let main_v25 : FVec F S1024x1536 .f32 := broadcastInDim S1024x1536 ![] bcast_S_S1024x1536 main_cst_10
  let main_v26 : IVec S1024x1536 1 := cmpf .olt main_v24 main_v25
  let main_c_11 : IVec S_ 1 := constantI S_ 1 1#1
  let main_v27 : IVec S_ 1 := (fun x v => Host.reduce IntOp.andi x v reducesTo_S1024x1536_S_d0_1 h_S_) main_v26 main_c_11
  let main_v28 : FVec F S4x128x128 .f32 := Host.absf main_arg7
  let main_cst_12 : FVec F S_ .f32 := constant S_ .f32 0x7F800000#32
  let main_v29 : FVec F S4x128x128 .f32 := broadcastInDim S4x128x128 ![] bcast_S_S4x128x128 main_cst_12
  let main_v30 : IVec S4x128x128 1 := cmpf .olt main_v28 main_v29
  let main_c_13 : IVec S_ 1 := constantI S_ 1 1#1
  let main_v31 : IVec S_ 1 := (fun x v => Host.reduce IntOp.andi x v reducesTo_S4x128x128_S_d0_1_2 h_S_) main_v30 main_c_13
  fn_part2 (F := F) main_arg8 main_arg9 main_arg10 main_arg11 main_arg12 main_arg13 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x1536 .f32) (main_arg7 : FVec F S4x128x128 .f32) (main_arg8 : FVec F S1x512 .f32) (main_arg9 : FVec F S1x512 .f32) (main_arg10 : FVec F S1x512 .f32) (main_arg11 : FVec F S8x128x128 .f32) (main_arg12 : FVec F S8x128 .f32) (main_arg13 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_arg11 main_arg12 main_arg13 main_v3 main_v7 main_v11 main_v15
-- ==== Pre_finite_pool.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg12 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1024x1024 .f32 := Host.absf main_arg12
  let main_cst_22 : FVec F S_ .f32 := constant S_ .f32 0x7F800000#32
  let main_v49 : FVec F S1024x1024 .f32 := broadcastInDim S1024x1024 ![] bcast_S_S1024x1024 main_cst_22
  let main_v50 : IVec S1024x1024 1 := cmpf .olt main_v48 main_v49
  let main_c_23 : IVec S_ 1 := constantI S_ 1 1#1
  let main_v51 : IVec S_ 1 := (fun x v => Host.reduce IntOp.andi x v reducesTo_S1024x1024_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S1x512 .f32) (main_arg9 : FVec F S1x512 .f32) (main_arg10 : FVec F S8x128x128 .f32) (main_arg11 : FVec F S8x128 .f32) (main_arg12 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg8
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1x512 .f32 := Host.absf main_arg9
  let main_cst_16 : FVec F S_ .f32 := constant S_ .f32 0x7F800000#32
  let main_v37 : FVec F S1x512 .f32 := broadcastInDim S1x512 ![] bcast_S_S1x512 main_cst_16
  let main_v38 : IVec S1x512 1 := cmpf .olt main_v36 main_v37
  let main_c_17 : IVec S_ 1 := constantI S_ 1 1#1
  let main_v39 : IVec S_ 1 := (fun x v => Host.reduce IntOp.andi x v reducesTo_S1x512_S_d0_1 h_S_) main_v38 main_c_17
  let main_v40 : FVec F S8x128x128 .f32 := Host.absf main_arg10
  let main_cst_18 : FVec F S_ .f32 := constant S_ .f32 0x7F800000#32
  let main_v41 : FVec F S8x128x128 .f32 := broadcastInDim S8x128x128 ![] bcast_S_S8x128x128 main_cst_18
  let main_v42 : IVec S8x128x128 1 := cmpf .olt main_v40 main_v41
  let main_c_19 : IVec S_ 1 := constantI S_ 1 1#1
  let main_v43 : IVec S_ 1 := (fun x v => Host.reduce IntOp.andi x v reducesTo_S8x128x128_S_d0_1_2 h_S_) main_v42 main_c_19
  let main_v44 : FVec F S8x128 .f32 := Host.absf main_arg11
  let main_cst_20 : FVec F S_ .f32 := constant S_ .f32 0x7F800000#32
  let main_v45 : FVec F S8x128 .f32 := broadcastInDim S8x128 ![] bcast_S_S8x128 main_cst_20
  let main_v46 : IVec S8x128 1 := cmpf .olt main_v44 main_v45
  let main_c_21 : IVec S_ 1 := constantI S_ 1 1#1
  let main_v47 : IVec S_ 1 := (fun x v => Host.reduce IntOp.andi x v reducesTo_S8x128_S_d0_1 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S1x1024 .f32) (main_arg5 : FVec F S1024x1536 .f32) (main_arg6 : FVec F S4x128x128 .f32) (main_arg7 : FVec F S1x512 .f32) (main_arg8 : FVec F S1x512 .f32) (main_arg9 : FVec F S1x512 .f32) (main_arg10 : FVec F S8x128x128 .f32) (main_arg11 : FVec F S8x128 .f32) (main_arg12 : FVec F S1024x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024x1536 .f32 := Host.absf main_arg5
  let main_cst_8 : FVec F S_ .f32 := constant S_ .f32 0x7F800000#32
  let main_v21 : FVec F S1024x1536 .f32 := broadcastInDim S1024x1536 ![] bcast_S_S1024x1536 main_cst_8
  let main_v22 : IVec S1024x1536 1 := cmpf .olt main_v20 main_v21
  let main_c_9 : IVec S_ 1 := constantI S_ 1 1#1
  let main_v23 : IVec S_ 1 := (fun x v => Host.reduce IntOp.andi x v reducesTo_S1024x1536_S_d0_1 h_S_) main_v22 main_c_9
  let main_v24 : FVec F S4x128x128 .f32 := Host.absf main_arg6
  let main_cst_10 : FVec F S_ .f32 := constant S_ .f32 0x7F800000#32
  let main_v25 : FVec F S4x128x128 .f32 := broadcastInDim S4x128x128 ![] bcast_S_S4x128x128 main_cst_10
  let main_v26 : IVec S4x128x128 1 := cmpf .olt main_v24 main_v25
  let main_c_11 : IVec S_ 1 := constantI S_ 1 1#1
  let main_v27 : IVec S_ 1 := (fun x v => Host.reduce IntOp.andi x v reducesTo_S4x128x128_S_d0_1_2 h_S_) main_v26 main_c_11
  let main_v28 : FVec F S1x512 .f32 := Host.absf main_arg7
  let main_cst_12 : FVec F S_ .f32 := constant S_ .f32 0x7F800000#32
  let main_v29 : FVec F S1x512 .f32 := broadcastInDim S1x512 ![] bcast_S_S1x512 main_cst_12
  let main_v30 : IVec S1x512 1 := cmpf .olt main_v28 main_v29
  let main_c_13 : IVec S_ 1 := constantI S_ 1 1#1
  let main_v31 : IVec S_ 1 := (fun x v => Host.reduce IntOp.andi x v reducesTo_S1x512_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x1536 .f32) (main_arg6 : FVec F S4x128x128 .f32) (main_arg7 : FVec F S1x512 .f32) (main_arg8 : FVec F S1x512 .f32) (main_arg9 : FVec F S1x512 .f32) (main_arg10 : FVec F S8x128x128 .f32) (main_arg11 : FVec F S8x128 .f32) (main_arg12 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_arg10 main_arg11 main_arg12 main_v3 main_v7 main_v11 main_v15
-- ==== Kernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S7x1024 : Shape := ⟨2, ![7, 1024]⟩
abbrev S8x1024 : Shape := ⟨2, ![8, 1024]⟩
abbrev S4x1024 : Shape := ⟨2, ![4, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S8x128 : Shape := ⟨2, ![8, 128]⟩
abbrev S512x1024 : Shape := ⟨2, ![512, 1024]⟩
abbrev S512x1408 : Shape := ⟨2, ![512, 1408]⟩
abbrev S2 : Shape := ⟨1, ![2]⟩
abbrev S1 : Shape := ⟨1, ![1]⟩
abbrev S512 : Shape := ⟨1, ![512]⟩
abbrev S512x1 : Shape := ⟨2, ![512, 1]⟩
abbrev S512x2816 : Shape := ⟨2, ![512, 2816]⟩
abbrev S1x1408x1024 : Shape := ⟨3, ![1, 1408, 1024]⟩
abbrev S1408x1024 : Shape := ⟨2, ![1408, 1024]⟩
abbrev S1x512x1024 : Shape := ⟨3, ![1, 512, 1024]⟩
abbrev S1x1x1 : Shape := ⟨3, ![1, 1, 1]⟩
abbrev S1024 : Shape := ⟨1, ![1024]⟩

abbrev nBuf : Space → Nat
  | .hbm => 32
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S1x1024, .f32⟩
  | .hbm, ⟨9, _⟩ => ⟨S_, .f32⟩
  | .hbm, ⟨10, _⟩ => ⟨S7x1024, .f32⟩
  | .hbm, ⟨11, _⟩ => ⟨S8x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S1024x1408, .f32⟩
  | .hbm, ⟨16, _⟩ => ⟨S1024x1408, .f32⟩
  | .hbm, ⟨17, _⟩ => ⟨S1024x2816, .f32⟩
  | .hbm, ⟨18, _⟩ => ⟨S1024x1408, .f32⟩
  | .hbm, ⟨19, _⟩ => ⟨S1024x1408, .f32⟩
  | .hbm, ⟨20, _⟩ => ⟨S1024x2816, .f32⟩
  | .hbm, ⟨21, _⟩ => ⟨S1x1024x2816, .f32⟩
  | .hbm, ⟨22, _⟩ => ⟨S1x1024x2816, .f32⟩
  | .hbm, ⟨23, _⟩ => ⟨S2x1024x2816, .f32⟩
  | .hbm, ⟨24, _⟩ => ⟨S2x1024x2816, .bf16⟩
  | .hbm, ⟨25, _⟩ => ⟨S2816x1024, .bf16⟩
  | .hbm, ⟨26, _⟩ => ⟨S2x1408x1024, .bf16⟩
  | .hbm, ⟨27, _⟩ => ⟨S8192x1024, .f32⟩
  | .hbm, ⟨28, _⟩ => ⟨S8192x2816, .bf16⟩
  | .hbm, ⟨29, _⟩ => ⟨S8192x2816, .bf16⟩
  | .hbm, ⟨30, _⟩ => ⟨S8x128, .f32⟩
  | .hbm, ⟨31, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S8x128, .f32⟩
  | .local _ .vmem, ⟨13, _⟩ => ⟨S8x1024, .f32⟩
  | .local _ .vmem, ⟨14, _⟩ => ⟨S512x1024, .f32⟩
  | .local _ .vmem, ⟨15, _⟩ => ⟨S2x1024x2816, .bf16⟩
  | .local _ .vmem, ⟨16, _⟩ => ⟨S2x1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let v31 : Index := Scalar.indexCast arg1
  let c0_10 : Index := 0#32
  let c0_11 : Index := 0#32
  ![v31.toNat, 0, 0]
def k0_off2 (i : grid0.Coords) : Fin 3 → Nat :=
  let arg1 : BitVec 32 := BitVec.ofNat 32 (i 1).val
  let v51 : Index := Scalar.indexCast arg1
  let c0_21 : Index := 0#32
  let c0_22 : Index := 0#32
  ![v51.toNat, 0, 0]
def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_30 : BitVec 32 := 0#32
  let v69 : BitVec 1 := Scalar.cmpi .ne v68 c0_i32_30
  v69

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x5632, .f32⟩
  | 7 => ⟨S2816x1024, .f32⟩
  | 8 => ⟨S1x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S1x1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S8192x5632, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S1x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S1x1024, .f32⟩
  | 56 => ⟨S1x1024, .f32⟩
  | 57 => ⟨S8192x5632, .f32⟩
  | 58 => ⟨S8192x2816, .f32⟩
  | 59 => ⟨S8192x2816, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S8192x2816, .f32⟩
  | 69 => ⟨S8192x2816, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S_, .f32⟩
  | 99 => ⟨S8192, .f32⟩
  | 100 => ⟨S_, .f32⟩
  | 101 => ⟨S8192, .f32⟩
  | 102 => ⟨S8192, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S8192, .f32⟩
  | 111 => ⟨S_, .f32⟩
  | 112 => ⟨S8192, .f32⟩
  | 113 => ⟨S8192, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x2816, .f32⟩
  | 12 => ⟨S8192x2816, .bf16⟩
  | 13 => ⟨S8192x2816, .f32⟩
  | 14 => ⟨S8192x2816, .bf16⟩
  | 15 => ⟨S8x128, .f32⟩
  | 16 => ⟨S_, .f32⟩
  | 17 => ⟨S7x1024, .f32⟩
  | 18 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_cst_17 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_20 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_21 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_cst_23 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x1024 : Shape := ⟨2, ![4, 1024]⟩
abbrev S8x1024 : Shape := ⟨2, ![8, 1024]⟩
abbrev S5x512 : Shape := ⟨2, ![5, 512]⟩
abbrev S8x512 : Shape := ⟨2, ![8, 512]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S128x128 : Shape := ⟨2, ![128, 128]⟩
abbrev S1x128x128 : Shape := ⟨3, ![1, 128, 128]⟩
abbrev S4x2x128x128 : Shape := ⟨4, ![4, 2, 128, 128]⟩
abbrev S4x1x128x128 : Shape := ⟨4, ![4, 1, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S512x128 : Shape := ⟨2, ![512, 128]⟩
abbrev S256x512 : Shape := ⟨2, ![256, 512]⟩
abbrev S1x128x256 : Shape := ⟨3, ![1, 128, 256]⟩
abbrev S128x256 : Shape := ⟨2, ![128, 256]⟩
abbrev S512x1536 : Shape := ⟨2, ![512, 1536]⟩
abbrev S1024 : Shape := ⟨1, ![1024]⟩

abbrev nBuf : Space → Nat
  | .hbm => 182
  | .vmem => 27
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x1536, .f32⟩
  | 7 => ⟨S4x128x128, .f32⟩
  | 8 => ⟨S1x512, .f32⟩
  | 9 => ⟨S1x512, .f32⟩
  | 10 => ⟨S1x512, .f32⟩
  | 11 => ⟨S8x128x128, .f32⟩
  | 12 => ⟨S8x128, .f32⟩
  | 13 => ⟨S1024x1024, .f32⟩
  | 14 => ⟨S_, .f32⟩
  | 15 => ⟨S4x1024, .f32⟩
  | 16 => ⟨S8x1024, .f32⟩
  | 17 => ⟨S_, .f32⟩
  | 18 => ⟨S5x512, .f32⟩
  | 19 => ⟨S8x512, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S1x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S8192x1536, .f32⟩
  | 43 => ⟨S8192x512, .f32⟩
  | 44 => ⟨S8192x4x128, .f32⟩
  | 45 => ⟨S_, .f32⟩
  | 46 => ⟨S_, .f32⟩
  | 47 => ⟨S8192x4x128, .f32⟩
  | 48 => ⟨S8192, .i32⟩
  | 49 => ⟨S8192x1x128, .f32⟩
  | 50 => ⟨S8192x128, .f32⟩
  | 51 => ⟨S_, .f32⟩
  | 52 => ⟨S2x128, .f32⟩
  | 53 => ⟨S8190x128, .f32⟩
  | 54 => ⟨S8192x128, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S8192x1, .f32⟩
  | 63 => ⟨S8192x128, .f32⟩
  | 64 => ⟨S8192x128, .f32⟩
  | 65 => ⟨S8192x128, .f32⟩
  | 66 => ⟨S8192x1x128, .f32⟩
  | 67 => ⟨S8192x128, .f32⟩
  | 68 => ⟨S8192x128, .f32⟩
  | 69 => ⟨S8192x1x128, .f32⟩
  | 70 => ⟨S8192x128, .f32⟩
  | 71 => ⟨S_, .f32⟩
  | 72 => ⟨S4x128, .f32⟩
  | 73 => ⟨S8188x128, .f32⟩
  | 74 => ⟨S8192x128, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S8192x1, .f32⟩
  | 83 => ⟨S8192x128, .f32⟩
  | 84 => ⟨S8192x128, .f32⟩
  | 85 => ⟨S8192x128, .f32⟩
  | 86 => ⟨S8192x1x128, .f32⟩
  | 87 => ⟨S8192x128, .f32⟩
  | 88 => ⟨S8192x128, .f32⟩
  | 89 => ⟨S8192x1x128, .f32⟩
  | 90 => ⟨S8192x128, .f32⟩
  | 91 => ⟨S_, .f32⟩
  | 92 => ⟨S8x128, .f32⟩
  | 93 => ⟨S8184x128, .f32⟩
  | 94 => ⟨S8192x128, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x128, .f32⟩
  | 104 => ⟨S8192x128, .f32⟩
  | 105 => ⟨S8192x128, .f32⟩
  | 106 => ⟨S8192x1x128, .f32⟩
  | 107 => ⟨S8192x128, .f32⟩
  | 108 => ⟨S8192x128, .f32⟩
  | 109 => ⟨S8192x1x128, .f32⟩
  | 110 => ⟨S8192x128, .f32⟩
  | 111 => ⟨S_, .f32⟩
  | 112 => ⟨S16x128, .f32⟩
  | 113 => ⟨S8176x128, .f32⟩
  | 114 => ⟨S8192x128, .f32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .f32⟩
  | 122 => ⟨S8192x1, .f32⟩
  | 123 => ⟨S8192x128, .f32⟩
  | 124 => ⟨S8192x128, .f32⟩
  | 125 => ⟨S8192x128, .f32⟩
  | 126 => ⟨S8192x1x128, .f32⟩
  | 127 => ⟨S8192x128, .f32⟩
  | _ => ⟨S8192x1024, .f32⟩

abbrev hbmTy0_1 (i : Nat) : BufTy := match i % 128 with
  | 0 => ⟨S8192x128, .f32⟩
  | 1 => ⟨S8192x1x128, .f32⟩
  | 2 => ⟨S8192x1x128, .f32⟩
  | 3 => ⟨S8192x1x128, .f32⟩
  | 4 => ⟨S8192x1x128, .f32⟩
  | 5 => ⟨S8192x4x128, .f32⟩
  | 6 => ⟨S8192x512, .f32⟩
  | 7 => ⟨S8192x512, .bf16⟩
  | 8 => ⟨S8192x1024, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S1x128x128, .i1⟩
  | 21 => ⟨S_, .f32⟩
  | 22 => ⟨S_, .f32⟩
  | 23 => ⟨S8x128x128, .i1⟩
  | 24 => ⟨S8x128x128, .f32⟩
  | 25 => ⟨S8x128x128, .f32⟩
  | 26 => ⟨S4x2x128x128, .f32⟩
  | 27 => ⟨S4x2x128x128, .f32⟩
  | 28 => ⟨S4x1x128x128, .f32⟩
  | 29 => ⟨S4x128x128, .f32⟩
  | 30 => ⟨S4x1x128x128, .f32⟩
  | 31 => ⟨S4x128x128, .f32⟩
  | 32 => ⟨S4x128x256, .f32⟩
  | 33 => ⟨S4x128x256, .bf16⟩
  | 34 => ⟨S4x1x128x128, .f32⟩
  | 35 => ⟨S4x128x128, .f32⟩
  | 36 => ⟨S4x1x128x128, .f32⟩
  | 37 => ⟨S4x128x128, .f32⟩
  | 38 => ⟨S4x128x256, .f32⟩
  | 39 => ⟨S4x128x256, .bf16⟩
  | 40 => ⟨S128x8, .f32⟩
  | 41 => ⟨S128x8x64, .f32⟩
  | 42 => ⟨S128x512, .f32⟩
  | 43 => ⟨S1024x1536, .bf16⟩
  | 44 => ⟨S4x128x128, .bf16⟩
  | 45 => ⟨S1024x1024, .bf16⟩
  | 46 => ⟨S8192x1024, .f32⟩
  | 47 => ⟨S1024x1536, .f32⟩
  | 48 => ⟨S1024x1024, .f32⟩
  | 49 => ⟨S4x128x128, .f32⟩
  | 50 => ⟨S8x128x128, .f32⟩
  | 51 => ⟨S8x128, .f32⟩
  | 52 => ⟨S8x512, .f32⟩
  | 53 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S1024x1536, .bf16⟩
  | .local _ .vmem, ⟨10, _⟩ => ⟨S4x128x128, .bf16⟩
  | .local _ .vmem, ⟨11, _⟩ => ⟨S8x512, .f32⟩
  | .local _ .vmem, ⟨12, _⟩ => ⟨S4x128x256, .bf16⟩
  | .local _ .vmem, ⟨13, _⟩ => ⟨S4x128x256, .bf16⟩
  | .local _ .vmem, ⟨14, _⟩ => ⟨S128x512, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1024x1536, .f32⟩
  | .local _ .vmem, ⟨19, _⟩ => ⟨S1024x1024, .f32⟩
  | .local _ .vmem, ⟨20, _⟩ => ⟨S4x128x128, .f32⟩
  | .local _ .vmem, ⟨21, _⟩ => ⟨S8x128x128, .f32⟩
  | .local _ .vmem, ⟨22, _⟩ => ⟨S8x128, .f32⟩
  | .local _ .vmem, ⟨23, _⟩ => ⟨S8x512, .f32⟩
  | .local _ .vmem, ⟨24, _⟩ => ⟨S8x1024, .f32⟩
  | .local _ .vmem, ⟨25, _⟩ => ⟨S528x512, .f32⟩
  | .local _ .vmem, ⟨26, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_call0_cst : Ref sig .tc := ⟨.hbm, 45, rfl⟩
abbrev main_call0_call0_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_16 : Ref sig .tc := ⟨.hbm, 137, rfl⟩
abbrev main_v103 : Ref sig .tc := ⟨.hbm, 138, rfl⟩
abbrev main_call1_v0 : Ref sig .tc := ⟨.hbm, 139, rfl⟩
abbrev main_call1_c : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_c_0 : Ref sig .tc := ⟨.hbm, 145, rfl⟩
abbrev main_call1_v5 : Ref sig .tc := ⟨.hbm, 146, rfl⟩
abbrev main_v104 : Ref sig .tc := ⟨.hbm, 147, rfl⟩
abbrev main_v105 : Ref sig .tc := ⟨.hbm, 148, rfl⟩
abbrev main_cst_17 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127_0 : Ref sig .tc := ⟨.hbm, 174, rfl⟩
abbrev main_v127_1 : Ref sig .tc := ⟨.hbm, 175, rfl⟩
abbrev main_v127_2 : Ref sig .tc := ⟨.hbm, 176, rfl⟩
abbrev main_v127_3 : Ref sig .tc := ⟨.hbm, 177, rfl⟩
abbrev main_v127_4 : Ref sig .tc := ⟨.hbm, 178, rfl⟩
abbrev main_v127_5 : Ref sig .tc := ⟨.hbm, 179, rfl⟩
abbrev main_v127_6 : Ref sig .tc := ⟨.hbm, 180, rfl⟩
abbrev main_v127_7 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_391 : BitVec 32 := 15#32
  let v812 : BitVec 1 := Scalar.cmpi .eq arg0 c15_i32_391
  let v813 : BitVec 32 := Scalar.extui v812
  let c0_i32_392 : BitVec 32 := 0#32
  let v814 : BitVec 1 := Scalar.cmpi .ne v813 c0_i32_392
  v814

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel2Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference2Ideal.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S1024 : Shape := ⟨1, ![1024]⟩
abbrev S512 : Shape := ⟨1, ![512]⟩
abbrev S4x8192x128 : Shape := ⟨3, ![4, 8192, 128]⟩
abbrev S1536x1024 : Shape := ⟨2, ![1536, 1024]⟩
abbrev S5x512 : Shape := ⟨2, ![5, 512]⟩
abbrev S8x512 : Shape := ⟨2, ![8, 512]⟩
abbrev S4x1024 : Shape := ⟨2, ![4, 1024]⟩
abbrev S8x1024 : Shape := ⟨2, ![8, 1024]⟩

abbrev nBuf : Space → Nat
  | .hbm => 466
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x1536, .f32⟩
  | 7 => ⟨S4x128x128, .f32⟩
  | 8 => ⟨S1x512, .f32⟩
  | 9 => ⟨S1x512, .f32⟩
  | 10 => ⟨S1x512, .f32⟩
  | 11 => ⟨S8x128x128, .f32⟩
  | 12 => ⟨S8x128, .f32⟩
  | 13 => ⟨S1024x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S8192x1536, .f32⟩
  | 41 => ⟨S8192x512, .f32⟩
  | 42 => ⟨S8192x4x128, .f32⟩
  | 43 => ⟨S_, .f32⟩
  | 44 => ⟨S_, .f32⟩
  | 45 => ⟨S8192x4x128, .f32⟩
  | 46 => ⟨S8192, .i32⟩
  | 47 => ⟨S8192x1x128, .f32⟩
  | 48 => ⟨S8192x128, .f32⟩
  | 49 => ⟨S_, .f32⟩
  | 50 => ⟨S2x128, .f32⟩
  | 51 => ⟨S8190x128, .f32⟩
  | 52 => ⟨S8192x128, .f32⟩
  | 53 => ⟨S_, .f32⟩
  | 54 => ⟨S2x128, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S8192x1, .f32⟩
  | 63 => ⟨S8192x128, .f32⟩
  | 64 => ⟨S8192x128, .f32⟩
  | 65 => ⟨S8192x128, .f32⟩
  | 66 => ⟨S8192x1x128, .f32⟩
  | 67 => ⟨S8192x128, .f32⟩
  | 68 => ⟨S8192x128, .f32⟩
  | 69 => ⟨S8192x1x128, .f32⟩
  | 70 => ⟨S8192x128, .f32⟩
  | 71 => ⟨S_, .f32⟩
  | 72 => ⟨S4x128, .f32⟩
  | 73 => ⟨S8188x128, .f32⟩
  | 74 => ⟨S8192x128, .f32⟩
  | 75 => ⟨S_, .f32⟩
  | 76 => ⟨S4x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S8192x1, .f32⟩
  | 85 => ⟨S8192x128, .f32⟩
  | 86 => ⟨S8192x128, .f32⟩
  | 87 => ⟨S8192x128, .f32⟩
  | 88 => ⟨S8192x1x128, .f32⟩
  | 89 => ⟨S8192x128, .f32⟩
  | 90 => ⟨S8192x128, .f32⟩
  | 91 => ⟨S8192x1x128, .f32⟩
  | 92 => ⟨S8192x128, .f32⟩
  | 93 => ⟨S_, .f32⟩
  | 94 => ⟨S8x128, .f32⟩
  | 95 => ⟨S8184x128, .f32⟩
  | 96 => ⟨S8192x128, .f32⟩
  | 97 => ⟨S_, .f32⟩
  | 98 => ⟨S8x128, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x128, .f32⟩
  | 108 => ⟨S8192x128, .f32⟩
  | 109 => ⟨S8192x128, .f32⟩
  | 110 => ⟨S8192x1x128, .f32⟩
  | 111 => ⟨S8192x128, .f32⟩
  | 112 => ⟨S8192x128, .f32⟩
  | 113 => ⟨S8192x1x128, .f32⟩
  | 114 => ⟨S8192x128, .f32⟩
  | 115 => ⟨S_, .f32⟩
  | 116 => ⟨S16x128, .f32⟩
  | 117 => ⟨S8176x128, .f32⟩
  | 118 => ⟨S8192x128, .f32⟩
  | 119 => ⟨S_, .f32⟩
  | 120 => ⟨S16x128, .f32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S8192, .f32⟩
  | _ => ⟨S8192x1024, .f32⟩

abbrev hbmTy0_1 (i : Nat) : BufTy := match i % 128 with
  | 0 => ⟨S8192x1, .f32⟩
  | 1 => ⟨S8192x128, .f32⟩
  | 2 => ⟨S8192x128, .f32⟩
  | 3 => ⟨S8192x128, .f32⟩
  | 4 => ⟨S8192x1x128, .f32⟩
  | 5 => ⟨S8192x128, .f32⟩
  | 6 => ⟨S8192x128, .f32⟩
  | 7 => ⟨S8192x1x128, .f32⟩
  | 8 => ⟨S8192x1x128, .f32⟩
  | 9 => ⟨S8192x1x128, .f32⟩
  | 10 => ⟨S8192x1x128, .f32⟩
  | 11 => ⟨S8192x4x128, .f32⟩
  | 12 => ⟨S4x128x8192, .f32⟩
  | 13 => ⟨S8192x4x128, .f32⟩
  | 14 => ⟨S8192x512, .f32⟩
  | 15 => ⟨S8192x512, .f32⟩
  | 16 => ⟨S8192x512, .f32⟩
  | 17 => ⟨S8192x1024, .f32⟩
  | 18 => ⟨S_, .f32⟩
  | 19 => ⟨S_, .f32⟩
  | 20 => ⟨S_, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x512, .f32⟩
  | 49 => ⟨S8192x512, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S8192x512, .f32⟩
  | 69 => ⟨S8192x512, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S64x128x8x64, .f32⟩
  | 85 => ⟨S_, .i1⟩
  | 86 => ⟨S128x128, .i1⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S_, .i1⟩
  | 94 => ⟨S128x128, .i1⟩
  | 95 => ⟨S128x128, .i1⟩
  | 96 => ⟨S1x128x128, .i1⟩
  | 97 => ⟨S_, .f32⟩
  | 98 => ⟨S8x128x128, .i1⟩
  | 99 => ⟨S8x128x128, .f32⟩
  | 100 => ⟨S8x128x128, .f32⟩
  | 101 => ⟨S_, .f32⟩
  | 102 => ⟨S8x128x128, .f32⟩
  | 103 => ⟨S8x64x64x128, .f32⟩
  | 104 => ⟨S64x128x8x64, .f32⟩
  | 105 => ⟨S128x8, .f32⟩
  | 106 => ⟨S1x128x8x1, .f32⟩
  | 107 => ⟨S64x128x8x64, .f32⟩
  | 108 => ⟨S64x128x8x64, .f32⟩
  | 109 => ⟨S8192x512, .f32⟩
  | 110 => ⟨S8192x512, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S1024x1024, .f32⟩
  | 124 => ⟨S1024x1024, .f32⟩
  | 125 => ⟨S8192x1024, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S64x128x8x64, .f32⟩
  | 3 => ⟨S_, .f32⟩
  | 4 => ⟨S128x8, .f32⟩
  | 5 => ⟨S1x128x8x1, .f32⟩
  | 6 => ⟨S_, .f32⟩
  | 7 => ⟨S128x8, .f32⟩
  | 8 => ⟨S8x128, .f32⟩
  | 9 => ⟨S8x64x64x128, .f32⟩
  | 10 => ⟨S8x128x128, .f32⟩
  | 11 => ⟨S8x64x64x128, .f32⟩
  | 12 => ⟨S64x128x8x64, .f32⟩
  | 13 => ⟨S_, .f32⟩
  | 14 => ⟨S8x128x128, .f32⟩
  | 15 => ⟨S8x128x128, .f32⟩
  | 16 => ⟨S8192x512, .f32⟩
  | 17 => ⟨S_, .f32⟩
  | 18 => ⟨S512, .f32⟩
  | 19 => ⟨S1x512, .f32⟩
  | 20 => ⟨S8192x512, .f32⟩
  | 21 => ⟨S_, .f32⟩
  | 22 => ⟨S512, .f32⟩
  | 23 => ⟨S1x512, .f32⟩
  | 24 => ⟨S8192x512, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S8192x512, .f32⟩
  | 31 => ⟨S8192x512, .f32⟩
  | 32 => ⟨S8192x1, .f32⟩
  | 33 => ⟨S8192x512, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x512, .f32⟩
  | 43 => ⟨S8192x512, .f32⟩
  | 44 => ⟨S8192x512, .f32⟩
  | 45 => ⟨S_, .f32⟩
  | 46 => ⟨S8192, .f32⟩
  | 47 => ⟨S8192x1, .f32⟩
  | 48 => ⟨S8192x512, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x512, .f32⟩
  | 56 => ⟨S8192x512, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S8192x1536, .f32⟩
  | 74 => ⟨S8192x512, .f32⟩
  | 75 => ⟨S_, .f32⟩
  | 76 => ⟨S512, .f32⟩
  | 77 => ⟨S1x512, .f32⟩
  | 78 => ⟨S8192x512, .f32⟩
  | 79 => ⟨S8192x512, .f32⟩
  | 80 => ⟨S8192x4x128, .f32⟩
  | 81 => ⟨S4x128x8192, .f32⟩
  | 82 => ⟨S4x8192x128, .f32⟩
  | 83 => ⟨S8192x4x128, .f32⟩
  | 84 => ⟨S4x128x128, .f32⟩
  | 85 => ⟨S4x128x128, .f32⟩
  | 86 => ⟨S8192x1x128, .f32⟩
  | 87 => ⟨S8192x128, .f32⟩
  | 88 => ⟨S8192x1x128, .f32⟩
  | 89 => ⟨S8192x128, .f32⟩
  | 90 => ⟨S8192x1x128, .f32⟩
  | 91 => ⟨S8192x128, .f32⟩
  | 92 => ⟨S8192x1x128, .f32⟩
  | 93 => ⟨S8192x128, .f32⟩
  | 94 => ⟨S8192x128, .f32⟩
  | 95 => ⟨S8192x1x128, .f32⟩
  | 96 => ⟨S_, .f32⟩
  | 97 => ⟨S8192x4x128, .f32⟩
  | 98 => ⟨S8192x128, .f32⟩
  | 99 => ⟨S8192x128, .f32⟩
  | 100 => ⟨S8192x128, .f32⟩
  | 101 => ⟨S16x128, .f32⟩
  | 102 => ⟨S8176x128, .f32⟩
  | 103 => ⟨S_, .f32⟩
  | 104 => ⟨S8192x128, .f32⟩
  | 105 => ⟨S8192x128, .f32⟩
  | 106 => ⟨S8192x1x128, .f32⟩
  | 107 => ⟨S_, .f32⟩
  | 108 => ⟨S8192x4x128, .f32⟩
  | 109 => ⟨S8192x128, .f32⟩
  | 110 => ⟨S8192x1x128, .f32⟩
  | 111 => ⟨S_, .f32⟩
  | 112 => ⟨S8192x4x128, .f32⟩
  | 113 => ⟨S8192x4x128, .f32⟩
  | 114 => ⟨S8192x128, .f32⟩
  | 115 => ⟨S8192x128, .f32⟩
  | 116 => ⟨S8192x128, .f32⟩
  | 117 => ⟨S8x128, .f32⟩
  | 118 => ⟨S8184x128, .f32⟩
  | 119 => ⟨S_, .f32⟩
  | 120 => ⟨S8192x128, .f32⟩
  | 121 => ⟨S8192x128, .f32⟩
  | 122 => ⟨S8192x1x128, .f32⟩
  | 123 => ⟨S_, .f32⟩
  | 124 => ⟨S8192x4x128, .f32⟩
  | 125 => ⟨S8192x4x128, .f32⟩
  | 126 => ⟨S8192x128, .f32⟩
  | 127 => ⟨S8192x1x128, .f32⟩
  | _ => ⟨S8192x1024, .f32⟩

abbrev hbmTy0_3 (i : Nat) : BufTy := match i % 128 with
  | 0 => ⟨S_, .f32⟩
  | 1 => ⟨S8192x4x128, .f32⟩
  | 2 => ⟨S8192x4x128, .f32⟩
  | 3 => ⟨S8192x128, .f32⟩
  | 4 => ⟨S8192x128, .f32⟩
  | 5 => ⟨S8192x128, .f32⟩
  | 6 => ⟨S4x128, .f32⟩
  | 7 => ⟨S8188x128, .f32⟩
  | 8 => ⟨S_, .f32⟩
  | 9 => ⟨S8192x128, .f32⟩
  | 10 => ⟨S8192x128, .f32⟩
  | 11 => ⟨S8192x1x128, .f32⟩
  | 12 => ⟨S_, .f32⟩
  | 13 => ⟨S8192x4x128, .f32⟩
  | 14 => ⟨S8192x4x128, .f32⟩
  | 15 => ⟨S8192x128, .f32⟩
  | 16 => ⟨S8192x1x128, .f32⟩
  | 17 => ⟨S_, .f32⟩
  | 18 => ⟨S8192x4x128, .f32⟩
  | 19 => ⟨S8192x4x128, .f32⟩
  | 20 => ⟨S8192x128, .f32⟩
  | 21 => ⟨S8192x128, .f32⟩
  | 22 => ⟨S8192x128, .f32⟩
  | 23 => ⟨S2x128, .f32⟩
  | 24 => ⟨S8190x128, .f32⟩
  | 25 => ⟨S_, .f32⟩
  | 26 => ⟨S8192x128, .f32⟩
  | 27 => ⟨S8192x128, .f32⟩
  | 28 => ⟨S8192x1x128, .f32⟩
  | 29 => ⟨S_, .f32⟩
  | 30 => ⟨S8192x4x128, .f32⟩
  | 31 => ⟨S8192x4x128, .f32⟩
  | 32 => ⟨S_, .f32⟩
  | 33 => ⟨S_, .f32⟩
  | 34 => ⟨S8192x4x128, .f32⟩
  | 35 => ⟨S8192x4x128, .f32⟩
  | 36 => ⟨S8192x512, .f32⟩
  | 37 => ⟨S_, .f32⟩
  | 38 => ⟨S8192x1536, .f32⟩
  | 39 => ⟨S8192x1536, .f32⟩
  | 40 => ⟨S1536x1024, .f32⟩
  | 41 => ⟨S1024x1536, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S5x512, .f32⟩
  | 78 => ⟨S8x512, .f32⟩
  | 79 => ⟨S_, .f32⟩
  | 80 => ⟨S4x1024, .f32⟩
  | 81 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_call0_cst : Ref sig .tc := ⟨.hbm, 43, rfl⟩
abbrev main_call0_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_19 : Ref sig .tc := ⟨.hbm, 146, rfl⟩
abbrev main_cst_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_23 : Ref sig .tc := ⟨.hbm, 162, rfl⟩
abbrev main_v121 : Ref sig .tc := ⟨.hbm, 163, rfl⟩
abbrev main_v122 : Ref sig .tc := ⟨.hbm, 164, rfl⟩
abbrev main_cst_24 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_25 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_27 : Ref sig .tc := ⟨.hbm, 178, rfl⟩
abbrev main_v133 : Ref sig .tc := ⟨.hbm, 179, rfl⟩
abbrev main_v134 : Ref sig .tc := ⟨.hbm, 180, rfl⟩
abbrev main_cst_28 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_29 : Ref sig .tc := ⟨.hbm, 187, rfl⟩
abbrev main_v140 : Ref sig .tc := ⟨.hbm, 188, rfl⟩
abbrev main_v141 : Ref sig .tc := ⟨.hbm, 189, rfl⟩
abbrev main_cst_30 : Ref sig .tc := ⟨.hbm, 190, rfl⟩
abbrev main_v142 : Ref sig .tc := ⟨.hbm, 191, rfl⟩
abbrev main_v143 : Ref sig .tc := ⟨.hbm, 192, rfl⟩
abbrev main_cst_31 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_32 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_33 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_c_34 : Ref sig .tc := ⟨.hbm, 213, rfl⟩
abbrev main_v161 : Ref sig .tc := ⟨.hbm, 214, rfl⟩
abbrev main_call1_v0 : Ref sig .tc := ⟨.hbm, 215, rfl⟩
abbrev main_call1_c : Ref sig .tc := ⟨.hbm, 216, rfl⟩
abbrev main_call1_v1 : Ref sig .tc := ⟨.hbm, 217, rfl⟩
abbrev main_call1_v2 : Ref sig .tc := ⟨.hbm, 218, rfl⟩
abbrev main_call1_v3 : Ref sig .tc := ⟨.hbm, 219, rfl⟩
abbrev main_call1_v4 : Ref sig .tc := ⟨.hbm, 220, rfl⟩
abbrev main_call1_c_0 : Ref sig .tc := ⟨.hbm, 221, rfl⟩
abbrev main_call1_v5 : Ref sig .tc := ⟨.hbm, 222, rfl⟩
abbrev main_v162 : Ref sig .tc := ⟨.hbm, 223, rfl⟩
abbrev main_v163 : Ref sig .tc := ⟨.hbm, 224, rfl⟩
abbrev main_cst_35 : Ref sig .tc := ⟨.hbm, 225, rfl⟩
abbrev main_v164_1 : Ref sig .tc := ⟨.hbm, 226, rfl⟩
abbrev main_call2_v1 : Ref sig .tc := ⟨.hbm, 227, rfl⟩
abbrev main_v164_0 : Ref sig .tc := ⟨.hbm, 228, rfl⟩
abbrev main_call2_cst : Ref sig .tc := ⟨.hbm, 229, rfl⟩
abbrev main_v164_2 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_cst_36 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_37 : Ref sig .tc := ⟨.hbm, 259, rfl⟩
abbrev main_v192 : Ref sig .tc := ⟨.hbm, 260, rfl⟩
abbrev main_v193 : Ref sig .tc := ⟨.hbm, 261, rfl⟩
abbrev main_cst_38 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_call3_cst : Ref sig .tc := ⟨.hbm, 269, rfl⟩
abbrev main_call3_v0 : Ref sig .tc := ⟨.hbm, 270, rfl⟩
abbrev main_v200 : Ref sig .tc := ⟨.hbm, 271, rfl⟩
abbrev main_v201 : Ref sig .tc := ⟨.hbm, 272, rfl⟩
abbrev main_cst_39 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_cst_40 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_cst_41 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_cst_42 : Ref sig .tc := ⟨.hbm, 290, rfl⟩
abbrev main_v216 : Ref sig .tc := ⟨.hbm, 291, rfl⟩
abbrev main_v217 : Ref sig .tc := ⟨.hbm, 292, rfl⟩
abbrev main_cst_43 : Ref sig .tc := ⟨.hbm, 293, rfl⟩
abbrev main_v218 : Ref sig .tc := ⟨.hbm, 294, rfl⟩
abbrev main_v219 : Ref sig .tc := ⟨.hbm, 295, rfl⟩
abbrev main_cst_44 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_cst_45 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_46 : Ref sig .tc := ⟨.hbm, 306, rfl⟩
abbrev main_v228 : Ref sig .tc := ⟨.hbm, 307, rfl⟩
abbrev main_v229 : Ref sig .tc := ⟨.hbm, 308, rfl⟩
abbrev main_cst_47 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_cst_48 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_cst_49 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_cst_50 : Ref sig .tc := ⟨.hbm, 328, rfl⟩
abbrev main_v246 : Ref sig .tc := ⟨.hbm, 329, rfl⟩
abbrev main_v247 : Ref sig .tc := ⟨.hbm, 330, rfl⟩
abbrev main_cst_51 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_cst_52 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_cst_53 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_cst_54 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_cst_55 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_cst_56 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_cst_57 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_cst_58 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_cst_59 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_cst_60 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_cst_61 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_cst_62 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_cst_63 : Ref sig .tc := ⟨.hbm, 413, rfl⟩
abbrev main_v318 : Ref sig .tc := ⟨.hbm, 414, rfl⟩
abbrev main_v319 : Ref sig .tc := ⟨.hbm, 415, rfl⟩
abbrev main_call4_call0_cst : Ref sig .tc := ⟨.hbm, 416, rfl⟩
abbrev main_call4_call0_v0 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_64 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_cst_65 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_cst_66 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_cst_67 : Ref sig .tc := ⟨.hbm, 437, rfl⟩
abbrev main_v336 : Ref sig .tc := ⟨.hbm, 438, rfl⟩
abbrev main_v337 : Ref sig .tc := ⟨.hbm, 439, rfl⟩
abbrev main_v338 : Ref sig .tc := ⟨.hbm, 440, rfl⟩
abbrev main_v339 : Ref sig .tc := ⟨.hbm, 441, rfl⟩
abbrev main_v340 : Ref sig .tc := ⟨.hbm, 442, rfl⟩
abbrev main_cst_68 : Ref sig .tc := ⟨.hbm, 443, rfl⟩
abbrev main_v341 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_v345 : Ref sig .tc := ⟨.hbm, 448, rfl⟩
abbrev main_v346 : Ref sig .tc := ⟨.hbm, 449, rfl⟩
abbrev main_cst_69 : Ref sig .tc := ⟨.hbm, 450, rfl⟩
abbrev main_v347 : Ref sig .tc := ⟨.hbm, 451, rfl⟩
abbrev main_v348 : Ref sig .tc := ⟨.hbm, 452, rfl⟩
abbrev main_cst_70 : Ref sig .tc := ⟨.hbm, 453, rfl⟩
abbrev main_v349 : Ref sig .tc := ⟨.hbm, 454, rfl⟩
abbrev main_v350 : Ref sig .tc := ⟨.hbm, 455, rfl⟩
abbrev main_v351 : Ref sig .tc := ⟨.hbm, 456, rfl⟩
abbrev main_v352 : Ref sig .tc := ⟨.hbm, 457, rfl⟩
abbrev main_v353 : Ref sig .tc := ⟨.hbm, 458, rfl⟩
abbrev main_v354 : Ref sig .tc := ⟨.hbm, 459, rfl⟩
abbrev main_cst_71 : Ref sig .tc := ⟨.hbm, 460, rfl⟩
abbrev main_v355 : Ref sig .tc := ⟨.hbm, 461, rfl⟩
abbrev main_v356 : Ref sig .tc := ⟨.hbm, 462, rfl⟩
abbrev main_cst_72 : Ref sig .tc := ⟨.hbm, 463, rfl⟩
abbrev main_v357 : Ref sig .tc := ⟨.hbm, 464, rfl⟩
abbrev main_v358 : Ref sig .tc := ⟨.hbm, 465, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2x1408x1024 : Shape := ⟨3, ![2, 1408, 1024]⟩
abbrev S2x512x1408 : Shape := ⟨3, ![2, 512, 1408]⟩
abbrev S2x352x1024 : Shape := ⟨3, ![2, 352, 1024]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩
abbrev S4 : Shape := ⟨1, ![4]⟩
abbrev S1 : Shape := ⟨1, ![1]⟩
abbrev S512 : Shape := ⟨1, ![512]⟩
abbrev S512x1 : Shape := ⟨2, ![512, 1]⟩
abbrev S512x2816 : Shape := ⟨2, ![512, 2816]⟩
abbrev S1024 : Shape := ⟨1, ![1024]⟩
abbrev S1x512x1408 : Shape := ⟨3, ![1, 512, 1408]⟩
abbrev S352x1024 : Shape := ⟨2, ![352, 1024]⟩
abbrev S1x352x1024 : Shape := ⟨3, ![1, 352, 1024]⟩

abbrev nBuf : Space → Nat
  | .hbm => 55
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x2816, .f32⟩
  | .hbm, ⟨33, _⟩ => ⟨S8192x2816, .bf16⟩
  | .hbm, ⟨34, _⟩ => ⟨S8192x2816, .f32⟩
  | .hbm, ⟨35, _⟩ => ⟨S8192x2816, .bf16⟩
  | .hbm, ⟨36, _⟩ => ⟨S_, .f32⟩
  | .hbm, ⟨37, _⟩ => ⟨S4x1024, .f32⟩
  | .hbm, ⟨38, _⟩ => ⟨S8x1024, .f32⟩
  | .hbm, ⟨39, _⟩ => ⟨S1024x1408, .f32⟩
  | .hbm, ⟨40, _⟩ => ⟨S1024x1408, .f32⟩
  | .hbm, ⟨41, _⟩ => ⟨S1024x2816, .f32⟩
  | .hbm, ⟨42, _⟩ => ⟨S1024x1408, .f32⟩
  | .hbm, ⟨43, _⟩ => ⟨S1024x1408, .f32⟩
  | .hbm, ⟨44, _⟩ => ⟨S1024x2816, .f32⟩
  | .hbm, ⟨45, _⟩ => ⟨S1x1024x2816, .f32⟩
  | .hbm, ⟨46, _⟩ => ⟨S1x1024x2816, .f32⟩
  | .hbm, ⟨47, _⟩ => ⟨S2x1024x2816, .f32⟩
  | .hbm, ⟨48, _⟩ => ⟨S2x1024x2816, .bf16⟩
  | .hbm, ⟨49, _⟩ => ⟨S2816x1024, .bf16⟩
  | .hbm, ⟨50, _⟩ => ⟨S2x1408x1024, .bf16⟩
  | .hbm, ⟨51, _⟩ => ⟨S8192x1024, .f32⟩
  | .hbm, ⟨52, _⟩ => ⟨S2x512x1408, .f32⟩
  | .hbm, ⟨53, _⟩ => ⟨S2x352x1024, .f32⟩
  | .hbm, ⟨54, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S8x1024, .f32⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2x512x1408, .f32⟩
  | .local _ .vmem, ⟨15, _⟩ => ⟨S2x352x1024, .f32⟩
  | .local _ .vmem, ⟨16, _⟩ => ⟨S8x1024, .f32⟩
  | .local _ .vmem, ⟨17, _⟩ => ⟨S1024x2816, .f32⟩
  | .local _ .vmem, ⟨18, _⟩ => ⟨S1408x1024, .f32⟩
  | .local _ .vmem, ⟨19, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v118 : BitVec 1 := Scalar.cmpi .eq arg0 c15_i32
  let v119 : BitVec 32 := Scalar.extui v118
  let c0_i32_58 : BitVec 32 := 0#32
  let v120 : BitVec 1 := Scalar.cmpi .ne v119 c0_i32_58
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1408 : Shape := ⟨2, ![1024, 1408]⟩
abbrev S1408x1024 : Shape := ⟨2, ![1408, 1024]⟩
abbrev S_ : Shape := ⟨0, ![]⟩
abbrev S8192 : Shape := ⟨1, ![8192]⟩
abbrev S8192x1 : Shape := ⟨2, ![8192, 1]⟩
abbrev S8192x1408 : Shape := ⟨2, ![8192, 1408]⟩
abbrev S1024 : Shape := ⟨1, ![1024]⟩
abbrev S512x1408 : Shape := ⟨2, ![512, 1408]⟩
abbrev S1x512x1408 : Shape := ⟨3, ![1, 512, 1408]⟩
abbrev S2x512x1408 : Shape := ⟨3, ![2, 512, 1408]⟩
abbrev S352x1024 : Shape := ⟨2, ![352, 1024]⟩
abbrev S1x352x1024 : Shape := ⟨3, ![1, 352, 1024]⟩
abbrev S2x352x1024 : Shape := ⟨3, ![2, 352, 1024]⟩
abbrev S4x1024 : Shape := ⟨2, ![4, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1x1024, .f32⟩
  | 5 => ⟨S1x1024, .f32⟩
  | 6 => ⟨S1x1024, .f32⟩
  | 7 => ⟨S1024x5632, .f32⟩
  | 8 => ⟨S2816x1024, .f32⟩
  | 9 => ⟨S1024x1408, .f32⟩
  | 10 => ⟨S1024x1408, .f32⟩
  | 11 => ⟨S1408x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S1x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S1x1024, .f32⟩
  | 40 => ⟨S1x1024, .f32⟩
  | 41 => ⟨S8192x1408, .f32⟩
  | 42 => ⟨S8192x1408, .f32⟩
  | 43 => ⟨S8192x1408, .f32⟩
  | 44 => ⟨S_, .f32⟩
  | 45 => ⟨S8192x1408, .f32⟩
  | 46 => ⟨S8192x1408, .f32⟩
  | 47 => ⟨S_, .f32⟩
  | 48 => ⟨S8192x1408, .f32⟩
  | 49 => ⟨S8192x1408, .f32⟩
  | 50 => ⟨S_, .f32⟩
  | 51 => ⟨S8192x1408, .f32⟩
  | 52 => ⟨S8192x1408, .f32⟩
  | 53 => ⟨S8192x1408, .f32⟩
  | 54 => ⟨S8192x1408, .f32⟩
  | 55 => ⟨S8192x1408, .f32⟩
  | 56 => ⟨S8192x1408, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S1024x1408, .f32⟩
  | 69 => ⟨S1408x1024, .f32⟩
  | 70 => ⟨S8192x1408, .f32⟩
  | 71 => ⟨S8192x1408, .f32⟩
  | 72 => ⟨S8192x1408, .f32⟩
  | 73 => ⟨S1408x1024, .f32⟩
  | 74 => ⟨S1024x1408, .f32⟩
  | 75 => ⟨S8192x1024, .f32⟩
  | 76 => ⟨S8192x1024, .f32⟩
  | 77 => ⟨S8192x1408, .f32⟩
  | 78 => ⟨S8192x1408, .f32⟩
  | 79 => ⟨S8192x1408, .f32⟩
  | 80 => ⟨S8192x1408, .f32⟩
  | 81 => ⟨S1408x1024, .f32⟩
  | 82 => ⟨S1024x1408, .f32⟩
  | 83 => ⟨S8192x1024, .f32⟩
  | 84 => ⟨S8192x1024, .f32⟩
  | 85 => ⟨S_, .f32⟩
  | 86 => ⟨S1x1024, .f32⟩
  | 87 => ⟨S1x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S512x1408, .f32⟩
  | 123 => ⟨S512x1408, .f32⟩
  | 124 => ⟨S1x512x1408, .f32⟩
  | 125 => ⟨S1x512x1408, .f32⟩
  | 126 => ⟨S2x512x1408, .f32⟩
  | 127 => ⟨S352x1024, .f32⟩
  | _ => ⟨S8192x1024, .f32⟩

abbrev hbmTy0_1 (i : Nat) : BufTy := match i % 128 with
  | 0 => ⟨S352x1024, .f32⟩
  | 1 => ⟨S1x352x1024, .f32⟩
  | 2 => ⟨S1x352x1024, .f32⟩
  | 3 => ⟨S2x352x1024, .f32⟩
  | 4 => ⟨S_, .f32⟩
  | 5 => ⟨S4x1024, .f32⟩
  | 6 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v27_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v27_1 : Ref sig .tc := ⟨.hbm, 53, rfl⟩
abbrev main_v27_0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_11 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_13 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2x1408x1024 : Shape := ⟨3, ![2, 1408, 1024]⟩
abbrev S2x512x1408 : Shape := ⟨3, ![2, 512, 1408]⟩
abbrev S2x352x1024 : Shape := ⟨3, ![2, 352, 1024]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩
abbrev S4 : Shape := ⟨1, ![4]⟩
abbrev S1 : Shape := ⟨1, ![1]⟩
abbrev S512 : Shape := ⟨1, ![512]⟩
abbrev S512x1 : Shape := ⟨2, ![512, 1]⟩
abbrev S512x2816 : Shape := ⟨2, ![512, 2816]⟩
abbrev S1024 : Shape := ⟨1, ![1024]⟩
abbrev S1x512x1408 : Shape := ⟨3, ![1, 512, 1408]⟩
abbrev S352x1024 : Shape := ⟨2, ![352, 1024]⟩
abbrev S1x352x1024 : Shape := ⟨3, ![1, 352, 1024]⟩

abbrev nBuf : Space → Nat
  | .hbm => 54
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x2816, .f32⟩
  | .hbm, ⟨32, _⟩ => ⟨S8192x2816, .bf16⟩
  | .hbm, ⟨33, _⟩ => ⟨S8192x2816, .f32⟩
  | .hbm, ⟨34, _⟩ => ⟨S8192x2816, .bf16⟩
  | .hbm, ⟨35, _⟩ => ⟨S_, .f32⟩
  | .hbm, ⟨36, _⟩ => ⟨S4x1024, .f32⟩
  | .hbm, ⟨37, _⟩ => ⟨S8x1024, .f32⟩
  | .hbm, ⟨38, _⟩ => ⟨S1024x1408, .f32⟩
  | .hbm, ⟨39, _⟩ => ⟨S1024x1408, .f32⟩
  | .hbm, ⟨40, _⟩ => ⟨S1024x2816, .f32⟩
  | .hbm, ⟨41, _⟩ => ⟨S1024x1408, .f32⟩
  | .hbm, ⟨42, _⟩ => ⟨S1024x1408, .f32⟩
  | .hbm, ⟨43, _⟩ => ⟨S1024x2816, .f32⟩
  | .hbm, ⟨44, _⟩ => ⟨S1x1024x2816, .f32⟩
  | .hbm, ⟨45, _⟩ => ⟨S1x1024x2816, .f32⟩
  | .hbm, ⟨46, _⟩ => ⟨S2x1024x2816, .f32⟩
  | .hbm, ⟨47, _⟩ => ⟨S2x1024x2816, .bf16⟩
  | .hbm, ⟨48, _⟩ => ⟨S2816x1024, .bf16⟩
  | .hbm, ⟨49, _⟩ => ⟨S2x1408x1024, .bf16⟩
  | .hbm, ⟨50, _⟩ => ⟨S8192x1024, .f32⟩
  | .hbm, ⟨51, _⟩ => ⟨S2x512x1408, .f32⟩
  | .hbm, ⟨52, _⟩ => ⟨S2x352x1024, .f32⟩
  | .hbm, ⟨53, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S8x1024, .f32⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S2x512x1408, .f32⟩
  | .local _ .vmem, ⟨13, _⟩ => ⟨S2x352x1024, .f32⟩
  | .local _ .vmem, ⟨14, _⟩ => ⟨S8x1024, .f32⟩
  | .local _ .vmem, ⟨15, _⟩ => ⟨S1024x2816, .f32⟩
  | .local _ .vmem, ⟨16, _⟩ => ⟨S1408x1024, .f32⟩
  | .local _ .vmem, ⟨17, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v78 : BitVec 1 := Scalar.cmpi .eq arg0 c15_i32
  let v79 : BitVec 32 := Scalar.extui v78
  let c0_i32_38 : BitVec 32 := 0#32
  let v80 : BitVec 1 := Scalar.cmpi .ne v79 c0_i32_38
  v80

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x1408 : Shape := ⟨2, ![1024, 1408]⟩
abbrev S1408x1024 : Shape := ⟨2, ![1408, 1024]⟩
abbrev S8192x1408 : Shape := ⟨2, ![8192, 1408]⟩
abbrev S1024 : Shape := ⟨1, ![1024]⟩
abbrev S512x1408 : Shape := ⟨2, ![512, 1408]⟩
abbrev S1x512x1408 : Shape := ⟨3, ![1, 512, 1408]⟩
abbrev S2x512x1408 : Shape := ⟨3, ![2, 512, 1408]⟩
abbrev S352x1024 : Shape := ⟨2, ![352, 1024]⟩
abbrev S1x352x1024 : Shape := ⟨3, ![1, 352, 1024]⟩
abbrev S2x352x1024 : Shape := ⟨3, ![2, 352, 1024]⟩
abbrev S2x1024 : Shape := ⟨2, ![2, 1024]⟩
abbrev S5x1024 : Shape := ⟨2, ![5, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1408, .f32⟩
  | .hbm, ⟨31, _⟩ => ⟨S1024x1408, .f32⟩
  | .hbm, ⟨32, _⟩ => ⟨S1408x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1408, .f32⟩
  | .hbm, ⟨37, _⟩ => ⟨S8192x1408, .f32⟩
  | .hbm, ⟨38, _⟩ => ⟨S8192x1408, .f32⟩
  | .hbm, ⟨39, _⟩ => ⟨S_, .f32⟩
  | .hbm, ⟨40, _⟩ => ⟨S8192x1408, .f32⟩
  | .hbm, ⟨41, _⟩ => ⟨S8192x1408, .f32⟩
  | .hbm, ⟨42, _⟩ => ⟨S_, .f32⟩
  | .hbm, ⟨43, _⟩ => ⟨S8192x1408, .f32⟩
  | .hbm, ⟨44, _⟩ => ⟨S8192x1408, .f32⟩
  | .hbm, ⟨45, _⟩ => ⟨S_, .f32⟩
  | .hbm, ⟨46, _⟩ => ⟨S8192x1408, .f32⟩
  | .hbm, ⟨47, _⟩ => ⟨S8192x1408, .f32⟩
  | .hbm, ⟨48, _⟩ => ⟨S8192x1408, .f32⟩
  | .hbm, ⟨49, _⟩ => ⟨S8192x1408, .f32⟩
  | .hbm, ⟨50, _⟩ => ⟨S8192x1408, .f32⟩
  | .hbm, ⟨51, _⟩ => ⟨S8192x1408, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1024x1408, .f32⟩
  | .hbm, ⟨62, _⟩ => ⟨S1408x1024, .f32⟩
  | .hbm, ⟨63, _⟩ => ⟨S8192x1408, .f32⟩
  | .hbm, ⟨64, _⟩ => ⟨S8192x1408, .f32⟩
  | .hbm, ⟨65, _⟩ => ⟨S8192x1408, .f32⟩
  | .hbm, ⟨66, _⟩ => ⟨S1408x1024, .f32⟩
  | .hbm, ⟨67, _⟩ => ⟨S1024x1408, .f32⟩
  | .hbm, ⟨68, _⟩ => ⟨S8192x1024, .f32⟩
  | .hbm, ⟨69, _⟩ => ⟨S8192x1408, .f32⟩
  | .hbm, ⟨70, _⟩ => ⟨S8192x1408, .f32⟩
  | .hbm, ⟨71, _⟩ => ⟨S8192x1408, .f32⟩
  | .hbm, ⟨72, _⟩ => ⟨S8192x1408, .f32⟩
  | .hbm, ⟨73, _⟩ => ⟨S1408x1024, .f32⟩
  | .hbm, ⟨74, _⟩ => ⟨S1024x1408, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S512x1408, .f32⟩
  | .hbm, ⟨81, _⟩ => ⟨S512x1408, .f32⟩
  | .hbm, ⟨82, _⟩ => ⟨S1x512x1408, .f32⟩
  | .hbm, ⟨83, _⟩ => ⟨S1x512x1408, .f32⟩
  | .hbm, ⟨84, _⟩ => ⟨S2x512x1408, .f32⟩
  | .hbm, ⟨85, _⟩ => ⟨S352x1024, .f32⟩
  | .hbm, ⟨86, _⟩ => ⟨S352x1024, .f32⟩
  | .hbm, ⟨87, _⟩ => ⟨S1x352x1024, .f32⟩
  | .hbm, ⟨88, _⟩ => ⟨S1x352x1024, .f32⟩
  | .hbm, ⟨89, _⟩ => ⟨S2x352x1024, .f32⟩
  | .hbm, ⟨90, _⟩ => ⟨S_, .f32⟩
  | .hbm, ⟨91, _⟩ => ⟨S2x1024, .f32⟩
  | .hbm, ⟨92, _⟩ => ⟨S_, .f32⟩
  | .hbm, ⟨93, _⟩ => ⟨S5x1024, .f32⟩
  | .hbm, ⟨94, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v24_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v24_1 : Ref sig .tc := ⟨.hbm, 48, rfl⟩
abbrev main_v24_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_6 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4x1024 : Shape := ⟨2, ![4, 1024]⟩
abbrev S8x1024 : Shape := ⟨2, ![8, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S512x1024 : Shape := ⟨2, ![512, 1024]⟩
abbrev S512x1408 : Shape := ⟨2, ![512, 1408]⟩
abbrev S2 : Shape := ⟨1, ![2]⟩
abbrev S1 : Shape := ⟨1, ![1]⟩
abbrev S512 : Shape := ⟨1, ![512]⟩
abbrev S512x1 : Shape := ⟨2, ![512, 1]⟩
abbrev S512x2816 : Shape := ⟨2, ![512, 2816]⟩
abbrev S1x1408x1024 : Shape := ⟨3, ![1, 1408, 1024]⟩
abbrev S1408x1024 : Shape := ⟨2, ![1408, 1024]⟩

abbrev nBuf : Space → Nat
  | .hbm => 25
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S_, .f32⟩
  | .hbm, ⟨8, _⟩ => ⟨S4x1024, .f32⟩
  | .hbm, ⟨9, _⟩ => ⟨S8x1024, .f32⟩
  | .hbm, ⟨10, _⟩ => ⟨S1024x1408, .f32⟩
  | .hbm, ⟨11, _⟩ => ⟨S1024x1408, .f32⟩
  | .hbm, ⟨12, _⟩ => ⟨S1024x2816, .f32⟩
  | .hbm, ⟨13, _⟩ => ⟨S1024x1408, .f32⟩
  | .hbm, ⟨14, _⟩ => ⟨S1024x1408, .f32⟩
  | .hbm, ⟨15, _⟩ => ⟨S1024x2816, .f32⟩
  | .hbm, ⟨16, _⟩ => ⟨S1x1024x2816, .f32⟩
  | .hbm, ⟨17, _⟩ => ⟨S1x1024x2816, .f32⟩
  | .hbm, ⟨18, _⟩ => ⟨S2x1024x2816, .f32⟩
  | .hbm, ⟨19, _⟩ => ⟨S2x1024x2816, .bf16⟩
  | .hbm, ⟨20, _⟩ => ⟨S2816x1024, .bf16⟩
  | .hbm, ⟨21, _⟩ => ⟨S2x1408x1024, .bf16⟩
  | .hbm, ⟨22, _⟩ => ⟨S8192x1024, .f32⟩
  | .hbm, ⟨23, _⟩ => ⟨S8192x2816, .bf16⟩
  | .hbm, ⟨24, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1024, .f32⟩
  | .local _ .vmem, ⟨10, _⟩ => ⟨S2x1024x2816, .bf16⟩
  | .local _ .vmem, ⟨11, _⟩ => ⟨S2x1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let v31 : Index := Scalar.indexCast arg1
  let c0_10 : Index := 0#32
  let c0_11 : Index := 0#32
  ![v31.toNat, 0, 0]
def k0_off2 (i : grid0.Coords) : Fin 3 → Nat :=
  let arg1 : BitVec 32 := BitVec.ofNat 32 (i 1).val
  let v51 : Index := Scalar.indexCast arg1
  let c0_21 : Index := 0#32
  let c0_22 : Index := 0#32
  ![v51.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S8192x5632, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x2816, .f32⟩
  | .hbm, ⟨73, _⟩ => ⟨S8192x2816, .bf16⟩
  | .hbm, ⟨74, _⟩ => ⟨S8192x2816, .f32⟩
  | .hbm, ⟨75, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x1024 : Shape := ⟨2, ![4, 1024]⟩
abbrev S8x1024 : Shape := ⟨2, ![8, 1024]⟩
abbrev S5x512 : Shape := ⟨2, ![5, 512]⟩
abbrev S8x512 : Shape := ⟨2, ![8, 512]⟩
abbrev S128x128 : Shape := ⟨2, ![128, 128]⟩
abbrev S1x128x128 : Shape := ⟨3, ![1, 128, 128]⟩
abbrev S4x2x128x128 : Shape := ⟨4, ![4, 2, 128, 128]⟩
abbrev S4x1x128x128 : Shape := ⟨4, ![4, 1, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S8192x512 : Shape := ⟨2, ![8192, 512]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x128 : Shape := ⟨2, ![1, 128]⟩
abbrev S256x512 : Shape := ⟨2, ![256, 512]⟩
abbrev S1x128x256 : Shape := ⟨3, ![1, 128, 256]⟩
abbrev S128x256 : Shape := ⟨2, ![128, 256]⟩

abbrev nBuf : Space → Nat
  | .hbm => 52
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x1536, .f32⟩
  | .hbm, ⟨6, _⟩ => ⟨S4x128x128, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x128x128, .f32⟩
  | .hbm, ⟨11, _⟩ => ⟨S8x128, .f32⟩
  | .hbm, ⟨12, _⟩ => ⟨S1024x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S_, .f32⟩
  | .hbm, ⟨17, _⟩ => ⟨S5x512, .f32⟩
  | .hbm, ⟨18, _⟩ => ⟨S8x512, .f32⟩
  | .hbm, ⟨19, _⟩ => ⟨S_, .i1⟩
  | .hbm, ⟨20, _⟩ => ⟨S128x128, .i1⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .i1⟩
  | .hbm, ⟨28, _⟩ => ⟨S128x128, .i1⟩
  | .hbm, ⟨29, _⟩ => ⟨S128x128, .i1⟩
  | .hbm, ⟨30, _⟩ => ⟨S1x128x128, .i1⟩
  | .hbm, ⟨31, _⟩ => ⟨S_, .f32⟩
  | .hbm, ⟨32, _⟩ => ⟨S_, .f32⟩
  | .hbm, ⟨33, _⟩ => ⟨S8x128x128, .i1⟩
  | .hbm, ⟨34, _⟩ => ⟨S8x128x128, .f32⟩
  | .hbm, ⟨35, _⟩ => ⟨S8x128x128, .f32⟩
  | .hbm, ⟨36, _⟩ => ⟨S4x2x128x128, .f32⟩
  | .hbm, ⟨37, _⟩ => ⟨S4x1x128x128, .f32⟩
  | .hbm, ⟨38, _⟩ => ⟨S4x128x128, .f32⟩
  | .hbm, ⟨39, _⟩ => ⟨S4x1x128x128, .f32⟩
  | .hbm, ⟨40, _⟩ => ⟨S4x128x128, .f32⟩
  | .hbm, ⟨41, _⟩ => ⟨S4x128x256, .f32⟩
  | .hbm, ⟨42, _⟩ => ⟨S4x128x256, .bf16⟩
  | .hbm, ⟨43, _⟩ => ⟨S128x8, .f32⟩
  | .hbm, ⟨44, _⟩ => ⟨S128x8x64, .f32⟩
  | .hbm, ⟨45, _⟩ => ⟨S128x512, .f32⟩
  | .hbm, ⟨46, _⟩ => ⟨S1024x1536, .bf16⟩
  | .hbm, ⟨47, _⟩ => ⟨S4x128x128, .bf16⟩
  | .hbm, ⟨48, _⟩ => ⟨S1024x1024, .bf16⟩
  | .hbm, ⟨49, _⟩ => ⟨S8192x1024, .f32⟩
  | .hbm, ⟨50, _⟩ => ⟨S8192x512, .bf16⟩
  | .hbm, ⟨51, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1536, .bf16⟩
  | .local _ .vmem, ⟨4, _⟩ => ⟨S4x128x128, .bf16⟩
  | .local _ .vmem, ⟨5, _⟩ => ⟨S8x512, .f32⟩
  | .local _ .vmem, ⟨6, _⟩ => ⟨S4x128x256, .bf16⟩
  | .local _ .vmem, ⟨7, _⟩ => ⟨S128x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S528x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev main_v21_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel6Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference6Ideal.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S1024x1536, .f32⟩
  | 6 => ⟨S4x128x128, .f32⟩
  | 7 => ⟨S1x512, .f32⟩
  | 8 => ⟨S1x512, .f32⟩
  | 9 => ⟨S1x512, .f32⟩
  | 10 => ⟨S8x128x128, .f32⟩
  | 11 => ⟨S8x128, .f32⟩
  | 12 => ⟨S1024x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S8192x1536, .f32⟩
  | 36 => ⟨S8192x1024, .f32⟩
  | 37 => ⟨S8192x512, .f32⟩
  | 38 => ⟨S8192x4x128, .f32⟩
  | 39 => ⟨S_, .f32⟩
  | 40 => ⟨S_, .f32⟩
  | 41 => ⟨S8192x4x128, .f32⟩
  | 42 => ⟨S8192, .i32⟩
  | 43 => ⟨S8192x1x128, .f32⟩
  | 44 => ⟨S8192x128, .f32⟩
  | 45 => ⟨S_, .f32⟩
  | 46 => ⟨S2x128, .f32⟩
  | 47 => ⟨S8190x128, .f32⟩
  | 48 => ⟨S8192x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S8192x1, .f32⟩
  | 57 => ⟨S8192x128, .f32⟩
  | 58 => ⟨S8192x128, .f32⟩
  | 59 => ⟨S8192x128, .f32⟩
  | 60 => ⟨S8192x1x128, .f32⟩
  | 61 => ⟨S8192x128, .f32⟩
  | 62 => ⟨S8192x128, .f32⟩
  | 63 => ⟨S8192x1x128, .f32⟩
  | 64 => ⟨S8192x128, .f32⟩
  | 65 => ⟨S_, .f32⟩
  | 66 => ⟨S4x128, .f32⟩
  | 67 => ⟨S8188x128, .f32⟩
  | 68 => ⟨S8192x128, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S8192, .f32⟩
  | 76 => ⟨S8192x1, .f32⟩
  | 77 => ⟨S8192x128, .f32⟩
  | 78 => ⟨S8192x128, .f32⟩
  | 79 => ⟨S8192x128, .f32⟩
  | 80 => ⟨S8192x1x128, .f32⟩
  | 81 => ⟨S8192x128, .f32⟩
  | 82 => ⟨S8192x128, .f32⟩
  | 83 => ⟨S8192x1x128, .f32⟩
  | 84 => ⟨S8192x128, .f32⟩
  | 85 => ⟨S_, .f32⟩
  | 86 => ⟨S8x128, .f32⟩
  | 87 => ⟨S8184x128, .f32⟩
  | 88 => ⟨S8192x128, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S8192x1, .f32⟩
  | 97 => ⟨S8192x128, .f32⟩
  | 98 => ⟨S8192x128, .f32⟩
  | 99 => ⟨S8192x128, .f32⟩
  | 100 => ⟨S8192x1x128, .f32⟩
  | 101 => ⟨S8192x128, .f32⟩
  | 102 => ⟨S8192x128, .f32⟩
  | 103 => ⟨S8192x1x128, .f32⟩
  | 104 => ⟨S8192x128, .f32⟩
  | 105 => ⟨S_, .f32⟩
  | 106 => ⟨S16x128, .f32⟩
  | 107 => ⟨S8176x128, .f32⟩
  | 108 => ⟨S8192x128, .f32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192, .f32⟩
  | 116 => ⟨S8192x1, .f32⟩
  | 117 => ⟨S8192x128, .f32⟩
  | 118 => ⟨S8192x128, .f32⟩
  | 119 => ⟨S8192x128, .f32⟩
  | 120 => ⟨S8192x1x128, .f32⟩
  | 121 => ⟨S8192x128, .f32⟩
  | 122 => ⟨S8192x128, .f32⟩
  | 123 => ⟨S8192x1x128, .f32⟩
  | 124 => ⟨S8192x1x128, .f32⟩
  | 125 => ⟨S8192x1x128, .f32⟩
  | 126 => ⟨S8192x1x128, .f32⟩
  | 127 => ⟨S8192x4x128, .f32⟩
  | _ => ⟨S8192x1024, .f32⟩

abbrev hbmTy0_1 (i : Nat) : BufTy := match i % 128 with
  | 0 => ⟨S4x128x8192, .f32⟩
  | 1 => ⟨S8192x4x128, .f32⟩
  | 2 => ⟨S8192x512, .f32⟩
  | 3 => ⟨S8192x512, .f32⟩
  | 4 => ⟨S8192x512, .f32⟩
  | 5 => ⟨S_, .f32⟩
  | 6 => ⟨S_, .f32⟩
  | 7 => ⟨S_, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x512, .f32⟩
  | 25 => ⟨S8192x512, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x512, .f32⟩
  | 33 => ⟨S8192x512, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x512, .f32⟩
  | 42 => ⟨S8192x512, .f32⟩
  | 43 => ⟨S_, .f32⟩
  | 44 => ⟨S8192x1, .f32⟩
  | 45 => ⟨S8192x1, .f32⟩
  | 46 => ⟨S8192x1, .f32⟩
  | 47 => ⟨S8192x512, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S64x128x8x64, .f32⟩
  | 54 => ⟨S_, .i1⟩
  | 55 => ⟨S128x128, .i1⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i1⟩
  | 62 => ⟨S_, .i1⟩
  | 63 => ⟨S128x128, .i1⟩
  | 64 => ⟨S128x128, .i1⟩
  | 65 => ⟨S1x128x128, .i1⟩
  | 66 => ⟨S_, .f32⟩
  | 67 => ⟨S8x128x128, .i1⟩
  | 68 => ⟨S8x128x128, .f32⟩
  | 69 => ⟨S8x128x128, .f32⟩
  | 70 => ⟨S8x64x64x128, .f32⟩
  | 71 => ⟨S64x128x8x64, .f32⟩
  | 72 => ⟨S128x8, .f32⟩
  | 73 => ⟨S1x128x8x1, .f32⟩
  | 74 => ⟨S64x128x8x64, .f32⟩
  | 75 => ⟨S64x128x8x64, .f32⟩
  | 76 => ⟨S8192x512, .f32⟩
  | 77 => ⟨S8192x512, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x512, .f32⟩
  | 84 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_call0_cst : Ref sig .tc := ⟨.hbm, 39, rfl⟩
abbrev main_call0_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_6 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_v80 : Ref sig .tc := ⟨.hbm, 110, rfl⟩
abbrev main_v81 : Ref sig .tc := ⟨.hbm, 111, rfl⟩
abbrev main_c_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_14 : Ref sig .tc := ⟨.hbm, 133, rfl⟩
abbrev main_cst_15 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_16 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_17 : Ref sig .tc := ⟨.hbm, 145, rfl⟩
abbrev main_v111 : Ref sig .tc := ⟨.hbm, 146, rfl⟩
abbrev main_v112 : Ref sig .tc := ⟨.hbm, 147, rfl⟩
abbrev main_cst_18 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_19 : Ref sig .tc := ⟨.hbm, 154, rfl⟩
abbrev main_v118 : Ref sig .tc := ⟨.hbm, 155, rfl⟩
abbrev main_v119 : Ref sig .tc := ⟨.hbm, 156, rfl⟩
abbrev main_cst_20 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_21 : Ref sig .tc := ⟨.hbm, 163, rfl⟩
abbrev main_v125 : Ref sig .tc := ⟨.hbm, 164, rfl⟩
abbrev main_v126 : Ref sig .tc := ⟨.hbm, 165, rfl⟩
abbrev main_cst_22 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_23 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_24 : Ref sig .tc := ⟨.hbm, 182, rfl⟩
abbrev main_v141 : Ref sig .tc := ⟨.hbm, 183, rfl⟩
abbrev main_call1_v0 : Ref sig .tc := ⟨.hbm, 184, rfl⟩
abbrev main_call1_c : Ref sig .tc := ⟨.hbm, 185, rfl⟩
abbrev main_call1_v1 : Ref sig .tc := ⟨.hbm, 186, rfl⟩
abbrev main_call1_v2 : Ref sig .tc := ⟨.hbm, 187, rfl⟩
abbrev main_call1_v3 : Ref sig .tc := ⟨.hbm, 188, rfl⟩
abbrev main_call1_v4 : Ref sig .tc := ⟨.hbm, 189, rfl⟩
abbrev main_call1_c_0 : Ref sig .tc := ⟨.hbm, 190, rfl⟩
abbrev main_call1_v5 : Ref sig .tc := ⟨.hbm, 191, rfl⟩
abbrev main_v142 : Ref sig .tc := ⟨.hbm, 192, rfl⟩
abbrev main_v143 : Ref sig .tc := ⟨.hbm, 193, rfl⟩
abbrev main_cst_25 : Ref sig .tc := ⟨.hbm, 194, rfl⟩
abbrev main_call2_v0 : Ref sig .tc := ⟨.hbm, 195, rfl⟩
abbrev main_call2_v1 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩

abbrev nD : Nat := 1
abbrev τ : Topo := Topo.v7x

variable {F : FTy → Type} [FloatOps F]
-- ==== Kernel7.lean ====
abbrev S8x1024 : Shape := ⟨2, ![8, 1024]⟩
abbrev S8x2304 : Shape := ⟨2, ![8, 2304]⟩
abbrev S1024x2304 : Shape := ⟨2, ![1024, 2304]⟩
abbrev S_ : Shape := ⟨0, ![]⟩
abbrev S1024x8 : Shape := ⟨2, ![1024, 8]⟩
abbrev S8x256 : Shape := ⟨2, ![8, 256]⟩
abbrev S1024x256 : Shape := ⟨2, ![1024, 256]⟩

abbrev nBuf : Space → Nat
  | .hbm => 19
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S1024x2304, .f32⟩
  | .hbm, ⟨16, _⟩ => ⟨S1024x2304, .f32⟩
  | .hbm, ⟨17, _⟩ => ⟨S1024x2304, .f32⟩
  | .hbm, ⟨18, _⟩ => ⟨S1024x2304, .f32⟩
  | .local _ .vmem, ⟨0, _⟩ => ⟨S1024x8, .f32⟩
  | .local _ .vmem, ⟨1, _⟩ => ⟨S8x256, .f32⟩
  | .local _ .vmem, ⟨2, _⟩ => ⟨S8x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x2304 : Shape := ⟨2, ![8, 2304]⟩
abbrev S1024x2304 : Shape := ⟨2, ![1024, 2304]⟩
abbrev S_ : Shape := ⟨0, ![]⟩
abbrev S2304x1024 : Shape := ⟨2, ![2304, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x2304, .f32⟩
  | .hbm, ⟨15, _⟩ => ⟨S2304x1024, .f32⟩
  | .hbm, ⟨16, _⟩ => ⟨S1024x2304, .f32⟩
  | .hbm, ⟨17, _⟩ => ⟨S_, .f32⟩
  | .hbm, ⟨18, _⟩ => ⟨S1024x2304, .f32⟩
  | .hbm, ⟨19, _⟩ => ⟨S1024x2304, .f32⟩
  | .hbm, ⟨20, _⟩ => ⟨S_, .f32⟩
  | .hbm, ⟨21, _⟩ => ⟨S1024x2304, .f32⟩
  | .hbm, ⟨22, _⟩ => ⟨S1024x2304, .f32⟩
  | .hbm, ⟨23, _⟩ => ⟨S1024x2304, .f32⟩
  | .hbm, ⟨24, _⟩ => ⟨S_, .f32⟩
  | .hbm, ⟨25, _⟩ => ⟨S1024x2304, .f32⟩
  | .hbm, ⟨26, _⟩ => ⟨S1024x2304, .f32⟩
  | .hbm, ⟨27, _⟩ => ⟨S1024x2304, .f32⟩
  | .hbm, ⟨28, _⟩ => ⟨S_, .f32⟩
  | .hbm, ⟨29, _⟩ => ⟨S1024x2304, .f32⟩
  | .hbm, ⟨30, _⟩ => ⟨S1024x2304, .f32⟩
  | .hbm, ⟨31, _⟩ => ⟨S1024x2304, .f32⟩
  | .hbm, ⟨32, _⟩ => ⟨S_, .f32⟩
  | .hbm, ⟨33, _⟩ => ⟨S1024x2304, .f32⟩
  | .hbm, ⟨34, _⟩ => ⟨S1024x2304, .f32⟩
  | .hbm, ⟨35, _⟩ => ⟨S_, .f32⟩
  | .hbm, ⟨36, _⟩ => ⟨S1024x2304, .f32⟩
  | .hbm, ⟨37, _⟩ => ⟨S1024x2304, .f32⟩
  | .hbm, ⟨38, _⟩ => ⟨S1024x2304, .f32⟩
  | .hbm, ⟨39, _⟩ => ⟨S_, .f32⟩
  | .hbm, ⟨40, _⟩ => ⟨S1024x2304, .f32⟩
  | .hbm, ⟨41, _⟩ => ⟨S1024x2304, .f32⟩
  | .hbm, ⟨42, _⟩ => ⟨S1024x2304, .f32⟩
  | .hbm, ⟨43, _⟩ => ⟨S_, .f32⟩
  | .hbm, ⟨44, _⟩ => ⟨S1024x2304, .f32⟩
  | .hbm, ⟨45, _⟩ => ⟨S1024x2304, .f32⟩
  | .hbm, ⟨46, _⟩ => ⟨S1024x2304, .f32⟩
  | .hbm, ⟨47, _⟩ => ⟨S_, .f32⟩
  | .hbm, ⟨48, _⟩ => ⟨S1024x2304, .f32⟩
  | .hbm, ⟨49, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel8.lean ====
abbrev S1024x1408 : Shape := ⟨2, ![1024, 1408]⟩
abbrev S512x1408 : Shape := ⟨2, ![512, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S1024x1408 : Shape := ⟨2, ![1024, 1408]⟩
abbrev S512x1408 : Shape := ⟨2, ![512, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S4x512x1408 : Shape := ⟨3, ![4, 512, 1408]⟩
abbrev S1x256x1408 : Shape := ⟨3, ![1, 256, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1408, .f32⟩
  | .hbm, ⟨1, _⟩ => ⟨S4x512x1408, .f32⟩
  | .hbm, ⟨2, _⟩ => ⟨S4x512x1408, .bf16⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | _, _ => ⟨S4x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x512x1408 : Shape := ⟨3, ![4, 512, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1408, .f32⟩
  | .hbm, ⟨1, _⟩ => ⟨S4x512x1408, .f32⟩
  | .hbm, ⟨2, _⟩ => ⟨S4x512x1408, .f32⟩
  | .hbm, ⟨3, _⟩ => ⟨S4x512x1408, .bf16⟩
  | _, _ => ⟨S4x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4x512x1408 : Shape := ⟨3, ![4, 512, 1408]⟩
abbrev S512x1408 : Shape := ⟨2, ![512, 1408]⟩
abbrev S1x256x1408 : Shape := ⟨3, ![1, 256, 1408]⟩
abbrev S256x1408 : Shape := ⟨2, ![256, 1408]⟩

abbrev nBuf : Space → Nat
  | .hbm => 3
  | .vmem => 10
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .bf16⟩
  | .hbm, ⟨2, _⟩ => ⟨S512x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S256x1408, .f32⟩
  | .local _ .vmem, ⟨9, _⟩ => ⟨S256x1408, .f32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4x512x1408 : Shape := ⟨3, ![4, 512, 1408]⟩
abbrev S1x512x1408 : Shape := ⟨3, ![1, 512, 1408]⟩
abbrev S512x1408 : Shape := ⟨2, ![512, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .bf16⟩
  | .hbm, ⟨2, _⟩ => ⟨S1x512x1408, .bf16⟩
  | .hbm, ⟨3, _⟩ => ⟨S512x1408, .bf16⟩
  | .hbm, ⟨4, _⟩ => ⟨S512x1408, .f32⟩
  | .hbm, ⟨5, _⟩ => ⟨S1x512x1408, .bf16⟩
  | .hbm, ⟨6, _⟩ => ⟨S512x1408, .bf16⟩
  | .hbm, ⟨7, _⟩ => ⟨S512x1408, .f32⟩
  | .hbm, ⟨8, _⟩ => ⟨S512x1408, .f32⟩
  | .hbm, ⟨9, _⟩ => ⟨S1x512x1408, .bf16⟩
  | .hbm, ⟨10, _⟩ => ⟨S512x1408, .bf16⟩
  | .hbm, ⟨11, _⟩ => ⟨S512x1408, .f32⟩
  | .hbm, ⟨12, _⟩ => ⟨S512x1408, .f32⟩
  | .hbm, ⟨13, _⟩ => ⟨S1x512x1408, .bf16⟩
  | .hbm, ⟨14, _⟩ => ⟨S512x1408, .bf16⟩
  | .hbm, ⟨15, _⟩ => ⟨S512x1408, .f32⟩
  | .hbm, ⟨16, _⟩ => ⟨S512x1408, .f32⟩
  | _, _ => ⟨S4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Proof.HeadRun.lean ====
/-
  What the feed-forward call with the loss leaves in each of its buffers after each point of its grid, as the
  payloads of its body over the blocks the point reads: each case's stores read back, then the running contents.
-/
module

public import proofs.«01_k».proof.Proof.Gen.KernelIdeal.Value
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.KernelIdeal.Head

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD) (t : Fin cfg0.N)

theorem hz2 : (![0, 0] : Fin 2 → Nat) = fun _ => 0 := funext fun a => by fin_cases a <;> rfl

/-- A scratch buffer holding `x` reads back as `x`. -/
theorem read0 (x : Vec F S512x1024 .f32) : View.read (Elt F) (View.whole cc0_scratch0) ((Memref.isWhole_whole cc0_scratch0).unread x) = x :=
  (Memref.isWhole_whole cc0_scratch0).read_unread x
theorem read1 (x : Vec F S2x1024x2816 .bf16) : View.read (Elt F) (View.whole cc0_scratch1) ((Memref.isWhole_whole cc0_scratch1).unread x) = x :=
  (Memref.isWhole_whole cc0_scratch1).read_unread x
theorem read2 (x : Vec F S2x1408x1024 .bf16) : View.read (Elt F) (View.whole cc0_scratch2) ((Memref.isWhole_whole cc0_scratch2).unread x) = x :=
  (Memref.isWhole_whole cc0_scratch2).read_unread x

/-- A block whose first row is stored anew: that row at the new values, the others as they were. -/
theorem row0_update (M : Memref sig .tc .vmem S8x1024 .f32) (hM : M.IsWhole) (old : Vec F S8x1024 .f32) (w : Vec F S1x1024 .f32) :
    M.view.read (Elt F) (M.view.writes (Elt F) (hM.unread old)
        [⟨Rect.unit (s := S8x1024) ![0, 0] S1x1024.size inb_S8x1024_S1x1024_0_0, w⟩])
      = fun y => if (y (0 : Fin 2)).val = 0 then w (ix2 (0 : Fin 1) (y (1 : Fin 2))) else old y := by
  funext y
  by_cases h : (y (0 : Fin 2)).val = 0
  · rw [if_pos h]
    exact View.read_writes_cons_rows_of_mem (d := S8x1024.size) (o := 0) M.view (hM.unread old) inb_S8x1024_S1x1024_0_0 w [] y
      (ix2 (0 : Fin 1) (y (1 : Fin 2))) rfl (by rw [h]; rfl) rfl
  · rw [if_neg h]
    exact (View.read_writes_cons_rows_of_not_mem (d := S8x1024.size) (o := 0) (W := 1) M.view (hM.unread old) inb_S8x1024_S1x1024_0_0 w [] y
      rfl rfl (by omega)).trans (congrFun (hM.read_unread old) y)

/-- A scratch the first point copied an array into whole reads back as that array. -/
theorem fill1 (x : Buf (Elt F) ((c : Thread nD τ).loc main_v13)) (f : (View.ty (Memref.view scM0_1)).Contents (Elt F)) :
    View.read (Elt F) scM0_1.view (scM0_1.view.writes (Elt F) f
      [⟨Rect.whole S2x1024x2816, ReadAs.same.apply (View.read (Elt F) (Memref.whole main_v13).view x)⟩]) = x := by
  funext y
  have h := View.read_writes_cons_emb (Val := Elt F) scM0_1.view f (Rect.whole S2x1024x2816)
    (ReadAs.same.apply (View.read (Elt F) (Memref.whole main_v13).view x)) [] y
  rw [Rect.emb_whole_apply] at h
  exact h
theorem fill2 (x : Buf (Elt F) ((c : Thread nD τ).loc main_v15)) (f : (View.ty (Memref.view scM0_2)).Contents (Elt F)) :
    View.read (Elt F) scM0_2.view (scM0_2.view.writes (Elt F) f
      [⟨Rect.whole S2x1408x1024, ReadAs.same.apply (View.read (Elt F) (Memref.whole main_v15).view x)⟩]) = x := by
  funext y
  have h := View.read_writes_cons_emb (Val := Elt F) scM0_2.view f (Rect.whole S2x1408x1024)
    (ReadAs.same.apply (View.read (Elt F) (Memref.whole main_v15).view x)) [] y
  rw [Rect.emb_whole_apply] at h
  exact h

/-- Row `k` of an eight-row block. -/
abbrev row (v : Vec F S8x1024 .f32) (k : ℕ) (h : ∀ a, (![k, 0] : Fin 2 → ℕ) a + S1x1024.size a ≤ S8x1024.size a) : Vec F S1x1024 .f32 :=
  View.ld v (Rect.unit (s := S8x1024) ![k, 0] S1x1024.size h)

/-- The half of a point's rows of the first weight its second coordinate selects. -/
abbrev winJ (i : grid0.Coords) (w : Vec F S2x1024x2816 .bf16) : Vec F S1x1024x2816 .bf16 :=
  View.ld w (Rect.unit (s := S2x1024x2816) (k0_off1 i) S1x1024x2816.size (k0_off1_inb i))
/-- The half of the second weight its second coordinate selects. -/
abbrev woutJ (i : grid0.Coords) (w : Vec F S2x1408x1024 .bf16) : Vec F S1x1408x1024 .bf16 :=
  View.ld w (Rect.unit (s := S2x1408x1024) (k0_off2 i) S1x1408x1024.size (k0_off2_inb i))

/-- The gate half of one point's hidden columns. -/
def gOf (i : grid0.Coords) (x : Vec F S512x1024 .f32) (v : Vec F S8x1024 .f32) (w : Vec F S2x1024x2816 .bf16) : FVec F S512x1408 .bf16 :=
  k0_pay17 x (row v 3 inb_S8x1024_S1x1024_3_0) (row v 1 inb_S8x1024_S1x1024_1_0) (row v 0 inb_S8x1024_S1x1024_0_0) (winJ i w)
/-- The other half of one point's hidden columns. -/
def uOf (i : grid0.Coords) (x : Vec F S512x1024 .f32) (v : Vec F S8x1024 .f32) (w : Vec F S2x1024x2816 .bf16) : FVec F S512x1408 .bf16 :=
  k0_pay18 x (row v 3 inb_S8x1024_S1x1024_3_0) (row v 1 inb_S8x1024_S1x1024_1_0) (row v 0 inb_S8x1024_S1x1024_0_0) (winJ i w)
/-- The running product with the second weight after the point. -/
def aOf (i : grid0.Coords) (x : Vec F S512x1024 .f32) (v : Vec F S8x1024 .f32) (w : Vec F S2x1024x2816 .bf16)
    (wo : Vec F S2x1408x1024 .bf16) (acc : Vec F S512x1024 .f32) : FVec F S512x1024 .f32 :=
  k0_pay1 (BitVec.ofNat 32 (i 1).val) (gOf i x v w) (uOf i x v w) acc (woutJ i wo)
/-- The sub-layer's output at the point, from the running product before it. -/
def yOf (i : grid0.Coords) (x : Vec F S512x1024 .f32) (v : Vec F S8x1024 .f32) (w : Vec F S2x1024x2816 .bf16)
    (wo : Vec F S2x1408x1024 .bf16) (acc : Vec F S512x1024 .f32) : FVec F S512x1024 .f32 :=
  k0_pay3 (BitVec.ofNat 32 (i 1).val) (gOf i x v w) (uOf i x v w) acc (woutJ i wo) x (row v 2 inb_S8x1024_S1x1024_2_0)

/-- The contents after the point before. -/
abbrev prev := outsAt0 m c (t.val - 1) (Nat.lt_of_le_of_lt (Nat.sub_le _ _) t.isLt)

theorem at_B_5 (h0 : ¬t.val % 32 = 0) (h1 : t.val % 2 = 1) :
    (outsAt0 m c t.val t.isLt).2.1 = gOf (grid0.coords t) (iblk m c 0 t) (iblk m c 1 t) (prev m c t).2.2.2.2.2.2.1 := by
  refine (congrArg (fun p => p.2.1) (outsAt0_B m c t h0 h1)).trans ?_
  dsimp only
  unfold out0_B_5
  rw [View.read_writes_eq_canon _ _ _ (fun _ => cover0_B_5 ..)]
  unfold kernelRun0_B
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_B_6 (h0 : ¬t.val % 32 = 0) (h1 : t.val % 2 = 1) :
    (outsAt0 m c t.val t.isLt).2.2.1 = uOf (grid0.coords t) (iblk m c 0 t) (iblk m c 1 t) (prev m c t).2.2.2.2.2.2.1 := by
  refine (congrArg (fun p => p.2.2.1) (outsAt0_B m c t h0 h1)).trans ?_
  dsimp only
  unfold out0_B_6
  rw [View.read_writes_eq_canon _ _ _ (fun _ => cover0_B_6 ..)]
  unfold kernelRun0_B
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_B_s0 (h0 : ¬t.val % 32 = 0) (h1 : t.val % 2 = 1) :
    (outsAt0 m c t.val t.isLt).2.2.2.2.2.1 = aOf (grid0.coords t) (iblk m c 0 t) (iblk m c 1 t) (prev m c t).2.2.2.2.2.2.1 (prev m c t).2.2.2.2.2.2.2 (prev m c t).2.2.2.2.2.1 := by
  refine (congrArg (fun p => p.2.2.2.2.2.1) (outsAt0_B m c t h0 h1)).trans ?_
  dsimp only
  unfold sout0_B_0
  rw [View.read_writes_eq_canon _ _ _ (fun _ => scover0_B_0 ..)]
  unfold kernelRun0_B
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  unfold k0_pay2; rw [shapeCast_self]; rfl

theorem at_B_s1 (h0 : ¬t.val % 32 = 0) (h1 : t.val % 2 = 1) :
    (outsAt0 m c t.val t.isLt).2.2.2.2.2.2.1 = (prev m c t).2.2.2.2.2.2.1 :=
  (congrArg (fun p => p.2.2.2.2.2.2.1) (outsAt0_B m c t h0 h1)).trans rfl

theorem at_B_s2 (h0 : ¬t.val % 32 = 0) (h1 : t.val % 2 = 1) :
    (outsAt0 m c t.val t.isLt).2.2.2.2.2.2.2 = (prev m c t).2.2.2.2.2.2.2 :=
  (congrArg (fun p => p.2.2.2.2.2.2.2) (outsAt0_B m c t h0 h1)).trans rfl

theorem at_C_5 (h0 : ¬t.val % 32 = 0) (h1 : ¬t.val % 2 = 1) :
    (outsAt0 m c t.val t.isLt).2.1 = gOf (grid0.coords t) (iblk m c 0 t) (iblk m c 1 t) (prev m c t).2.2.2.2.2.2.1 := by
  refine (congrArg (fun p => p.2.1) (outsAt0_C m c t h0 h1)).trans ?_
  dsimp only
  unfold out0_C_5
  rw [View.read_writes_eq_canon _ _ _ (fun _ => cover0_C_5 ..)]
  unfold kernelRun0_C
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_C_6 (h0 : ¬t.val % 32 = 0) (h1 : ¬t.val % 2 = 1) :
    (outsAt0 m c t.val t.isLt).2.2.1 = uOf (grid0.coords t) (iblk m c 0 t) (iblk m c 1 t) (prev m c t).2.2.2.2.2.2.1 := by
  refine (congrArg (fun p => p.2.2.1) (outsAt0_C m c t h0 h1)).trans ?_
  dsimp only
  unfold out0_C_6
  rw [View.read_writes_eq_canon _ _ _ (fun _ => cover0_C_6 ..)]
  unfold kernelRun0_C
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_C_s0 (h0 : ¬t.val % 32 = 0) (h1 : ¬t.val % 2 = 1) :
    (outsAt0 m c t.val t.isLt).2.2.2.2.2.1 = aOf (grid0.coords t) (iblk m c 0 t) (iblk m c 1 t) (prev m c t).2.2.2.2.2.2.1 (prev m c t).2.2.2.2.2.2.2 (prev m c t).2.2.2.2.2.1 := by
  refine (congrArg (fun p => p.2.2.2.2.2.1) (outsAt0_C m c t h0 h1)).trans ?_
  dsimp only
  unfold sout0_C_0
  rw [View.read_writes_eq_canon _ _ _ (fun _ => scover0_C_0 ..)]
  unfold kernelRun0_C
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  unfold k0_pay2; rw [shapeCast_self]; rfl

theorem at_C_s1 (h0 : ¬t.val % 32 = 0) (h1 : ¬t.val % 2 = 1) :
    (outsAt0 m c t.val t.isLt).2.2.2.2.2.2.1 = (prev m c t).2.2.2.2.2.2.1 :=
  (congrArg (fun p => p.2.2.2.2.2.2.1) (outsAt0_C m c t h0 h1)).trans rfl

theorem at_C_s2 (h0 : ¬t.val % 32 = 0) (h1 : ¬t.val % 2 = 1) :
    (outsAt0 m c t.val t.isLt).2.2.2.2.2.2.2 = (prev m c t).2.2.2.2.2.2.2 :=
  (congrArg (fun p => p.2.2.2.2.2.2.2) (outsAt0_C m c t h0 h1)).trans rfl

theorem at_C_7 (h0 : ¬t.val % 32 = 0) (h1 : ¬t.val % 2 = 1) :
    (outsAt0 m c t.val t.isLt).2.2.2.1 = (prev m c t).2.2.2.1 :=
  (congrArg (fun p => p.2.2.2.1) (outsAt0_C m c t h0 h1)).trans rfl

theorem at_C_8 (h0 : ¬t.val % 32 = 0) (h1 : ¬t.val % 2 = 1) :
    (outsAt0 m c t.val t.isLt).2.2.2.2.1 = (prev m c t).2.2.2.2.1 :=
  (congrArg (fun p => p.2.2.2.2.1) (outsAt0_C m c t h0 h1)).trans rfl

theorem at_B_4 (h0 : ¬t.val % 32 = 0) (h1 : t.val % 2 = 1) :
    (outsAt0 m c t.val t.isLt).1 = k0_pay10 (yOf (grid0.coords t) (iblk m c 0 t) (iblk m c 1 t) (prev m c t).2.2.2.2.2.2.1 (prev m c t).2.2.2.2.2.2.2 (prev m c t).2.2.2.2.2.1) (iblk m c 2 t) (row (iblk m c 3 t) 0 inb_S8x1024_S1x1024_0_0) := by
  refine (congrArg (fun p => p.1) (outsAt0_B m c t h0 h1)).trans ?_
  dsimp only
  unfold out0_B_4
  rw [View.read_writes_eq_canon _ _ _ (fun _ => cover0_B_4 ..)]
  unfold kernelRun0_B
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_B_7 (h0 : ¬t.val % 32 = 0) (h1 : t.val % 2 = 1) :
    (outsAt0 m c t.val t.isLt).2.2.2.1 = k0_pay12 (yOf (grid0.coords t) (iblk m c 0 t) (iblk m c 1 t) (prev m c t).2.2.2.2.2.2.1 (prev m c t).2.2.2.2.2.2.2 (prev m c t).2.2.2.2.2.1) (iblk m c 2 t) (row (iblk m c 3 t) 0 inb_S8x1024_S1x1024_0_0) (prev m c t).2.2.2.1 := by
  refine (congrArg (fun p => p.2.2.2.1) (outsAt0_B m c t h0 h1)).trans ?_
  dsimp only
  unfold out0_B_7
  unfold kernelRun0_B
  dsimp only
  sl_unfold_words
  rw [View.read_writes_eq_canon _ _ _ (fun _ => View.cover_of_tiledL _ S8x128.size (by sl_kernel_rfl) _), View.canon_unit_zero hz2]
  simp only [View.readAt_eq_ld, Memref.IsWhole.read_unread, View.ld_unit_zero (S := S512x1024) hz2, View.ld_unit_zero (S := S8x128) hz2, read0, read1, read2, fill1 c, fill2 c]
  rfl

theorem at_B_8 (h0 : ¬t.val % 32 = 0) (h1 : t.val % 2 = 1) :
    (outsAt0 m c t.val t.isLt).2.2.2.2.1 = fun y => if (y (0 : Fin 2)).val = 0 then
        k0_pay4 (k0_pay11 (yOf (grid0.coords t) (iblk m c 0 t) (iblk m c 1 t) (prev m c t).2.2.2.2.2.2.1 (prev m c t).2.2.2.2.2.2.2 (prev m c t).2.2.2.2.2.1) (iblk m c 2 t) (row (iblk m c 3 t) 0 inb_S8x1024_S1x1024_0_0)) (row (prev m c t).2.2.2.2.1 0 inb_S8x1024_S1x1024_0_0)
          (ix2 (0 : Fin 1) (y (1 : Fin 2)))
      else (prev m c t).2.2.2.2.1 y := by
  refine (congrArg (fun p => p.2.2.2.2.1) (outsAt0_B m c t h0 h1)).trans ?_
  dsimp only
  unfold out0_B_8
  unfold kernelRun0_B
  dsimp only
  sl_unfold_words
  simp only [View.readAt_eq_ld, Memref.IsWhole.read_unread, View.ld_unit_zero (S := S512x1024) hz2, View.ld_unit_zero (S := S8x128) hz2, read0, read1, read2, fill1 c, fill2 c]
  exact row0_update ..

theorem at_A_5 (h0 : t.val % 32 = 0) (h1 : ¬t.val % 2 = 1) :
    (outsAt0 m c t.val t.isLt).2.1 = gOf (grid0.coords t) (iblk m c 0 t) (iblk m c 1 t) (V m c main_v13) := by
  refine (congrArg (fun p => p.2.1) (outsAt0_A m c t h0 h1)).trans ?_
  dsimp only
  unfold out0_A_5
  rw [View.read_writes_eq_canon _ _ _ (fun _ => cover0_A_5 ..)]
  unfold kernelRun0_A
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_A_6 (h0 : t.val % 32 = 0) (h1 : ¬t.val % 2 = 1) :
    (outsAt0 m c t.val t.isLt).2.2.1 = uOf (grid0.coords t) (iblk m c 0 t) (iblk m c 1 t) (V m c main_v13) := by
  refine (congrArg (fun p => p.2.2.1) (outsAt0_A m c t h0 h1)).trans ?_
  dsimp only
  unfold out0_A_6
  rw [View.read_writes_eq_canon _ _ _ (fun _ => cover0_A_6 ..)]
  unfold kernelRun0_A
  dsimp only
  sl_unfold_words
  rw [View.canon_unit_zero hz2]
  simp only [View.readAt_eq_ld, Memref.IsWhole.read_unread, View.ld_unit_zero (S := S512x1024) hz2, View.ld_unit_zero (S := S8x128) hz2, read0, read1, read2, fill1 c, fill2 c]
  rfl

theorem at_A_s0 (h0 : t.val % 32 = 0) (h1 : ¬t.val % 2 = 1) :
    (outsAt0 m c t.val t.isLt).2.2.2.2.2.1 = aOf (grid0.coords t) (iblk m c 0 t) (iblk m c 1 t) (V m c main_v13) (V m c main_v15) (k0_pay13 (F := F)) := by
  refine (congrArg (fun p => p.2.2.2.2.2.1) (outsAt0_A m c t h0 h1)).trans ?_
  dsimp only
  unfold sout0_A_0
  rw [View.read_writes_eq_canon _ _ _ (fun _ => scover0_A_0 ..)]
  unfold kernelRun0_A
  dsimp only
  sl_unfold_words
  rw [View.canon_cons_unit_zero hz2, View.readCov_unit_zero (S := S512x1024) _ hz2]
  simp only [View.readAt_eq_ld, Memref.IsWhole.read_unread, View.ld_unit_zero (S := S512x1024) hz2, View.ld_unit_zero (S := S8x128) hz2, read0, read1, read2, fill1 c, fill2 c]
  unfold k0_pay2; rw [shapeCast_self]; rfl

theorem at_A_s1 (h0 : t.val % 32 = 0) (h1 : ¬t.val % 2 = 1) :
    (outsAt0 m c t.val t.isLt).2.2.2.2.2.2.1 = V m c main_v13 := by
  refine (congrArg (fun p => p.2.2.2.2.2.2.1) (outsAt0_A m c t h0 h1)).trans ?_
  dsimp only
  unfold sout0_A_1 kernelRun0_A
  dsimp only
  exact fill1 c _ _

theorem at_A_s2 (h0 : t.val % 32 = 0) (h1 : ¬t.val % 2 = 1) :
    (outsAt0 m c t.val t.isLt).2.2.2.2.2.2.2 = V m c main_v15 := by
  refine (congrArg (fun p => p.2.2.2.2.2.2.2) (outsAt0_A m c t h0 h1)).trans ?_
  dsimp only
  unfold sout0_A_2 kernelRun0_A
  dsimp only
  exact fill2 c _ _

theorem at_A_7 (h0 : t.val % 32 = 0) (h1 : ¬t.val % 2 = 1) :
    (outsAt0 m c t.val t.isLt).2.2.2.1 = k0_pay14 := by
  refine (congrArg (fun p => p.2.2.2.1) (outsAt0_A m c t h0 h1)).trans ?_
  dsimp only
  unfold out0_A_7
  rw [View.read_writes_eq_canon _ _ _ (fun _ => cover0_A_7 ..)]
  unfold kernelRun0_A
  dsimp only
  sl_unfold_words
  rw [View.canon_unit_zero hz2]

theorem at_A_8 (h0 : t.val % 32 = 0) (h1 : ¬t.val % 2 = 1) :
    (outsAt0 m c t.val t.isLt).2.2.2.2.1 = k0_pay15 := by
  refine (congrArg (fun p => p.2.2.2.2.1) (outsAt0_A m c t h0 h1)).trans ?_
  dsimp only
  unfold out0_A_8
  rw [View.read_writes_eq_canon _ _ _ (fun _ => cover0_A_8 ..)]
  unfold kernelRun0_A
  dsimp only
  sl_unfold_words
  rw [View.canon_unit_zero hz2]

end Cert.KernelIdeal.Head
-- ==== Proof.RealKit.lean ====
/-
  Arrays of real numbers inside the extended reals: the arithmetic of the ideal instance on finite values,
  the constants the programs name, and the reading of the precondition "every element is finite".
-/
module

public import Idealize.ShloMosaic.Lib.Pointwise
public import Idealize.ShloMosaic.Lib.IdealHost
public import Idealize.ShloMosaic.Lib.ReduceAll
public import Idealize.ShloMosaic.Lib.Affine

@[expose] public section

noncomputable section

namespace Cert.RealKit

open Idealize.ShloMosaic
open scoped BigOperators

/-- A finite sum of real numbers, read in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The reciprocal root of a positive number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- A quotient of two numbers, the second not zero. -/
theorem div_real {x y : ℝ} (h : y ≠ 0) : Ideal.div (x : EReal) (y : EReal) = ((x / y : ℝ) : EReal) := by
  rw [Ideal.div_coe h, ← EReal.coe_mul, mul_one_div]

/-- The `ε` of the norms, the rational its float word stands for. -/
def eps : ℝ := 8796093 / 2 ^ 43

theorem eps_pos : 0 < eps := by unfold eps; positivity

theorem c_eps : Ideal.ofBits .f32 0x358637BD#32 = ((eps : ℝ) : EReal) := by
  unfold eps; simp [Ideal.ofBits, Ideal.ieee, -EReal.coe_mul]; norm_num

theorem c_1024 : Ideal.ofBits .f32 0x44800000#32 = ((1024 : ℝ) : EReal) := by
  simp [Ideal.ofBits, Ideal.ieee, -EReal.coe_mul]; norm_num

theorem c_half : Ideal.ofBits .f32 0x3F000000#32 = ((1 / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul, -EReal.coe_neg]; norm_num

theorem c_inv1024 : Ideal.ofBits .f32 0x3A800000#32 = ((1 / 1024 : ℝ) : EReal) := by
  simp [Ideal.ofBits, Ideal.ieee, -EReal.coe_mul]; norm_num

theorem c_inv2048 : Ideal.ofBits .f32 0x3A000000#32 = ((1 / 2048 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_one : Ideal.ofBits .f32 0x3F800000#32 = ((1 : ℝ) : EReal) := by
  rw [Ideal.ofBits_one_f32]; norm_cast

theorem c_zero : Ideal.ofBits .f32 0x00000000#32 = ((0 : ℝ) : EReal) := by
  simp [Ideal.ofBits, Ideal.ieee]

theorem c_inf : Ideal.ofBits .f32 0x7F800000#32 = ⊤ := by
  simp [Ideal.ofBits, Ideal.ieee]

/-- An extended real whose absolute value is below infinity is a number. -/
theorem real_of_abs_lt {x : EReal} (h : max x (-x) < ⊤) : ∃ r : ℝ, x = (r : EReal) := by
  induction x with
  | bot => simp at h
  | top => simp at h
  | coe r => exact ⟨r, rfl⟩

/-- An array all of whose elements compare below infinity in absolute value is an array of numbers. -/
theorem real_of_all {s t u v : Shape} {axes : List (Fin s.rank)} [Subsingleton t.Idx] (x : FVec Ideal s .f32)
    (dims : Fin v.rank → Fin s.rank) (hb : v.BroadcastsInDim s dims) (init : IVec u 1) (h : s.ReducesTo axes t)
    (hu : 0 < u.numel) (j : t.Idx)
    (e : Host.reduce IntOp.andi (cmpf .olt (Host.absf x) (broadcastInDim s dims hb (constant v .f32 0x7F800000#32))) init h hu j = 1#1) :
    ∃ X : s.Idx → ℝ, x = fun i => ((X i : ℝ) : EReal) := by
  have hx : ∀ i, ∃ r : ℝ, x i = (r : EReal) := fun i => by
    have := Host.reduce_andi_all _ _ h hu j e i
    pointwise at this
    rw [show (2139095040#32 : BitVec 32) = 0x7F800000#32 from rfl, c_inf] at this
    refine real_of_abs_lt (show FloatOps.absf (x i) < ⊤ from ?_)
    by_contra hc
    rw [decide_eq_false hc] at this
    exact absurd this (by decide)
  choose X hX using hx
  exact ⟨X, funext hX⟩

end Cert.RealKit

end
-- ==== Proof.HeadTile.lean ====
/-
  The feed-forward call with the loss over the reals: what each payload of its body is at an index when the blocks it
  reads hold real numbers.
-/
module

public import proofs.«01_k».proof.Proof.HeadRun
public import proofs.«01_k».proof.Proof.RealKit

@[expose] public section

noncomputable section

namespace Cert.HeadMath

open Cert.RealKit

/-- The mean square of a row, with the small term added. -/
def msq (v : Fin 1024 → ℝ) : ℝ := (∑ d, v d * v d) / 1024 + eps
theorem msq_pos (v : Fin 1024 → ℝ) : 0 < msq v :=
  add_pos_of_nonneg_of_pos (div_nonneg (Finset.sum_nonneg fun d _ => mul_self_nonneg (v d)) (by norm_num)) eps_pos
/-- One over the root mean square of a row. -/
def rn (v : Fin 1024 → ℝ) : ℝ := (Real.sqrt (msq v))⁻¹
/-- The normalised and modulated row. -/
def hid (v gn sc sh : Fin 1024 → ℝ) (d : Fin 1024) : ℝ := v d * rn v * gn d * (1 + sc d) + sh d
/-- The gated activation. -/
def act (g u : ℝ) : ℝ := g * (1 + Real.exp (-g))⁻¹ * u
/-- A row's error against its target. -/
def err (v fg t : Fin 1024 → ℝ) (d : Fin 1024) : ℝ := v d * rn v * fg d - t d
/-- The gradient of a row's loss with respect to the row. -/
def dx (v fg t : Fin 1024 → ℝ) (d : Fin 1024) : ℝ :=
  rn v * (err v fg t d * (1 / 1024) * fg d
    - v d * rn v * ((∑ k, err v fg t k * (1 / 1024) * fg k * (v k * rn v)) / 1024))

end Cert.HeadMath

namespace Cert.KernelIdeal.Head

open Cert.KernelIdeal Cert.KernelIdeal.Gen Idealize.ShloMosaic Idealize.ShloMosaic.TcCoe Cert.RealKit Cert.HeadMath

variable {X T : Fin 512 → Fin 1024 → ℝ} {gn sc sh fg ga : Fin 1024 → ℝ}

theorem div1024 (r : ℝ) : Ideal.div (r : EReal) ((1024 : ℝ) : EReal) = ((r / 1024 : ℝ) : EReal) := div_real (by norm_num)
theorem rs_msq (v : Fin 1024 → ℝ) : Ideal.rsqrt (((∑ d, v d * v d) / 1024 + eps : ℝ) : EReal) = ((rn v : ℝ) : EReal) :=
  rsqrt_pos (msq_pos v)

theorem pay16_real {W : Fin 1024 → Fin 2816 → ℝ} (x : Vec Ideal S512x1024 .f32) (a b c : Vec Ideal S1x1024 .f32)
    (w : Vec Ideal S1x1024x2816 .bf16) (hx : ∀ r d, x (ix2 r d) = (X r d : EReal)) (ha : ∀ d, a (ix2 0 d) = (gn d : EReal))
    (hb : ∀ d, b (ix2 0 d) = (sc d : EReal)) (hc : ∀ d, c (ix2 0 d) = (sh d : EReal))
    (hw : ∀ d k, w (ix3 0 d k) = (W d k : EReal)) (r : Fin 512) (k : Fin 2816) :
    k0_pay16 x a b c w (ix2 r k) = ((∑ d, hid (X r) gn sc sh d * W d k : ℝ) : EReal) := by
  pointwise [k0_pay16]
  simp only [hx, ha, hb, hc, hw, c_1024, c_eps, ← EReal.coe_one, ← EReal.coe_mul, coe_sum, div1024, ← EReal.coe_add, rs_msq]
  rfl

theorem pay1_real_0 {G U : Fin 512 → Fin 1408 → ℝ} {W : Fin 1408 → Fin 1024 → ℝ} (g u : FVec Ideal S512x1408 .bf16)
    (acc : Vec Ideal S512x1024 .f32) (w : Vec Ideal S1x1408x1024 .bf16) (hg : ∀ r k, g (ix2 r k) = (G r k : EReal))
    (hu : ∀ r k, u (ix2 r k) = (U r k : EReal)) (hw : ∀ k d, w (ix3 0 k d) = (W k d : EReal)) (r : Fin 512) (d : Fin 1024) :
    k0_pay1 0#32 g u acc w (ix2 r d) = ((∑ k, act (G r k) (U r k) * W k d : ℝ) : EReal) := by
  pointwise [k0_pay1]
  simp only [hg, hu, hw, Ideal.logistic_coe, ← EReal.coe_mul, coe_sum]
  rfl

theorem pay1_real_1 {G U : Fin 512 → Fin 1408 → ℝ} {W : Fin 1408 → Fin 1024 → ℝ} {A : Fin 512 → Fin 1024 → ℝ}
    (g u : FVec Ideal S512x1408 .bf16)
    (acc : Vec Ideal S512x1024 .f32) (w : Vec Ideal S1x1408x1024 .bf16) (hg : ∀ r k, g (ix2 r k) = (G r k : EReal))
    (hu : ∀ r k, u (ix2 r k) = (U r k : EReal)) (hw : ∀ k d, w (ix3 0 k d) = (W k d : EReal))
    (hA : ∀ r d, acc (ix2 r d) = (A r d : EReal)) (r : Fin 512) (d : Fin 1024) :
    k0_pay1 1#32 g u acc w (ix2 r d) = ((A r d + ∑ k, act (G r k) (U r k) * W k d : ℝ) : EReal) := by
  pointwise [k0_pay1]
  simp only [hg, hu, hw, hA, Ideal.logistic_coe, ← EReal.coe_mul, coe_sum, ← EReal.coe_add]
  rfl

theorem pay3_real (n : BitVec 32) {A : Fin 512 → Fin 1024 → ℝ} (g u : FVec Ideal S512x1408 .bf16)
    (acc x : Vec Ideal S512x1024 .f32) (w : Vec Ideal S1x1408x1024 .bf16) (a : Vec Ideal S1x1024 .f32)
    (hA : ∀ r d, k0_pay1 n g u acc w (ix2 r d) = (A r d : EReal)) (hx : ∀ r d, x (ix2 r d) = (X r d : EReal))
    (ha : ∀ d, a (ix2 0 d) = (ga d : EReal)) (r : Fin 512) (d : Fin 1024) :
    k0_pay3 n g u acc w x a (ix2 r d) = ((X r d + 1 / 2 * ga d * A r d : ℝ) : EReal) := by
  pointwise [k0_pay3]
  simp only [hA, hx, ha, c_half, ← EReal.coe_mul, ← EReal.coe_add]

variable (x t : Vec Ideal S512x1024 .f32) (a : Vec Ideal S1x1024 .f32)
  (hx : ∀ r d, x (ix2 r d) = (X r d : EReal)) (ht : ∀ r d, t (ix2 r d) = (T r d : EReal)) (ha : ∀ d, a (ix2 0 d) = (fg d : EReal))
include hx ht ha

theorem pay10_real (r : Fin 512) (d : Fin 1024) : k0_pay10 x t a (ix2 r d) = ((dx (X r) fg (T r) d : ℝ) : EReal) := by
  pointwise [k0_pay10, k0_pay9, k0_pay8, k0_pay7, k0_pay6, k0_pay5]
  simp only [hx, ha, ht, c_1024, c_eps, c_inv1024, ← EReal.coe_mul, coe_sum, div1024, ← EReal.coe_add, rs_msq, ← EReal.coe_sub]
  rfl

theorem pay11_real (d : Fin 1024) :
    k0_pay11 x t a (ix2 0 d) = ((∑ r, err (X r) fg (T r) d * (1 / 1024) * (X r d * rn (X r)) : ℝ) : EReal) := by
  pointwise [k0_pay11, k0_pay9, k0_pay8, k0_pay7, k0_pay6, k0_pay5]
  simp only [hx, ha, ht, c_1024, c_eps, c_inv1024, ← EReal.coe_mul, coe_sum, div1024, ← EReal.coe_add, rs_msq, ← EReal.coe_sub]
  rfl

theorem pay12_real (b : Vec Ideal S8x128 .f32) (B : ℝ) (p : Fin 8) (q : Fin 128) (hb : b (ix2 p q) = (B : EReal)) :
    k0_pay12 x t a b (ix2 p q)
      = ((B + 1 / 2048 * ∑ r, ∑ d, err (X r) fg (T r) d * err (X r) fg (T r) d : ℝ) : EReal) := by
  pointwise [k0_pay12, k0_pay8, k0_pay7, k0_pay6, k0_pay5]
  simp only [hx, ha, ht, hb, c_1024, c_eps, c_inv2048, ← EReal.coe_mul, coe_sum, div1024, ← EReal.coe_add, rs_msq, ← EReal.coe_sub]
  rfl

end Cert.KernelIdeal.Head
-- ==== Proof.HeadHost.lean ====
/-
  The packed operands of the feed-forward call, read at an index from the arrays the host packed them from, and the
  blocks its grid points read of its arrays.
-/
module

public import proofs.«01_k».proof.Proof.HeadTile
public import Idealize.ShloMosaic.Lib.StableHlo.ReadAt

@[expose] public section

noncomputable section

namespace Cert.KernelIdeal.Head

open Cert.KernelIdeal Cert.KernelIdeal.Gen Idealize.ShloMosaic Idealize.ShloMosaic.TcCoe Cert.RealKit

variable (m : (ℓ : Loc nD τ sig) → Buf (Elt Ideal) ℓ) (c : Dev nD)

theorem V_gain (d : Fin 1024) : (V m c main_v1 : Vec Ideal S8x1024 .f32) (ix2 0 d) = (m ((c : Thread nD τ).loc main_arg8) : Vec Ideal S1x1024 .f32) (ix2 0 d) := by
  unfold V
  after_reads_at

theorem V_row0 (d : Fin 1024) : (V m c main_v3 : Vec Ideal S8x1024 .f32) (ix2 0 d) = (m ((c : Thread nD τ).loc main_arg2) : Vec Ideal S1x1024 .f32) (ix2 0 d) := by
  unfold V
  after_reads_at
theorem V_row1 (d : Fin 1024) : (V m c main_v3 : Vec Ideal S8x1024 .f32) (ix2 1 d) = (m ((c : Thread nD τ).loc main_arg3) : Vec Ideal S1x1024 .f32) (ix2 0 d) := by
  unfold V
  after_reads_at
theorem V_row2 (d : Fin 1024) : (V m c main_v3 : Vec Ideal S8x1024 .f32) (ix2 2 d) = (m ((c : Thread nD τ).loc main_arg4) : Vec Ideal S1x1024 .f32) (ix2 0 d) := by
  unfold V
  after_reads_at
theorem V_row3 (d : Fin 1024) : (V m c main_v3 : Vec Ideal S8x1024 .f32) (ix2 3 d) = (m ((c : Thread nD τ).loc main_arg5) : Vec Ideal S1x1024 .f32) (ix2 0 d) := by
  unfold V
  after_reads_at

/-- The column of the first weight a packed gate column holds. -/
abbrev gcol (j : Fin 2) (k : Fin 1408) : Fin 5632 := ⟨j.val * 1408 + k.val, by omega⟩
/-- The column of the first weight the packed column beside it holds. -/
abbrev ucol (j : Fin 2) (k : Fin 1408) : Fin 5632 := ⟨2816 + (j.val * 1408 + k.val), by omega⟩
/-- The hidden column a point's column is. -/
abbrev hcol (j : Fin 2) (k : Fin 1408) : Fin 2816 := ⟨j.val * 1408 + k.val, by omega⟩
/-- The array row a tile's row is. -/
abbrev trow (i : Fin 16) (r : Fin 512) : Fin 8192 := ⟨i.val * 512 + r.val, by omega⟩

theorem V_win_g (j : Fin 2) (d : Fin 1024) (k : Fin 1408) :
    (V m c main_v13 : Vec Ideal S2x1024x2816 .bf16) (ix3 j d ⟨k.val, by omega⟩) = (m ((c : Thread nD τ).loc main_arg6) : Vec Ideal S1024x5632 .f32) (ix2 d (gcol j k)) := by
  unfold V
  fin_cases j <;> after_reads_at <;> after_reads_at <;> after_reads_at <;>
    exact congrArg (fun r => (m ((c : Thread nD τ).loc main_arg6) : Vec Ideal S1024x5632 .f32) (ix2 d r)) (Fin.ext (by first | (dsimp; omega) | dsimp))

theorem V_win_u (j : Fin 2) (d : Fin 1024) (k : Fin 1408) :
    (V m c main_v13 : Vec Ideal S2x1024x2816 .bf16) (ix3 j d ⟨1408 + k.val, by omega⟩) = (m ((c : Thread nD τ).loc main_arg6) : Vec Ideal S1024x5632 .f32) (ix2 d (ucol j k)) := by
  unfold V
  fin_cases j <;> after_reads_at <;> after_reads_at <;> after_reads_at <;>
    exact congrArg (fun r => (m ((c : Thread nD τ).loc main_arg6) : Vec Ideal S1024x5632 .f32) (ix2 d r)) (Fin.ext (by first | (dsimp; omega) | dsimp))

theorem V_wout (j : Fin 2) (k : Fin 1408) (d : Fin 1024) :
    (V m c main_v15 : Vec Ideal S2x1408x1024 .bf16) (ix3 j k d) = (m ((c : Thread nD τ).loc main_arg7) : Vec Ideal S2816x1024 .f32) (ix2 (hcol j k) d) := by
  unfold V
  after_reads_at

end Cert.KernelIdeal.Head
-- ==== Proof.HeadPoint.lean ====
/-
  The feed-forward call with the loss, read over the reals: with arguments that hold real numbers, what each buffer
  holds after each point of the grid, and from it the five arrays the call leaves.
-/
module

public import proofs.«01_k».proof.Proof.HeadHost

@[expose] public section

noncomputable section

namespace Cert.HeadMath

open Cert.RealKit

/-- The call's arguments as real numbers. -/
structure Data where
  X : Fin 8192 → Fin 1024 → ℝ
  T : Fin 8192 → Fin 1024 → ℝ
  sh : Fin 1024 → ℝ
  sc : Fin 1024 → ℝ
  ga : Fin 1024 → ℝ
  gn : Fin 1024 → ℝ
  Wi : Fin 1024 → Fin 5632 → ℝ
  Wo : Fin 2816 → Fin 1024 → ℝ
  fg : Fin 1024 → ℝ

variable (D : Data)

/-- The product of a normalised row with the first weight. -/
def Data.gu (r : Fin 8192) (k : Fin 5632) : ℝ := ∑ d, hid (D.X r) D.gn D.sc D.sh d * D.Wi d k
/-- The gated activation of a row. -/
def Data.a (r : Fin 8192) (k : Fin 2816) : ℝ := act (D.gu r ⟨k.val, by omega⟩) (D.gu r ⟨2816 + k.val, by omega⟩)
/-- The sub-layer's output. -/
def Data.y (r : Fin 8192) (d : Fin 1024) : ℝ := D.X r d + 1 / 2 * D.ga d * ∑ k, D.a r k * D.Wo k d
/-- The part of the second product that half `j` of the hidden columns makes. -/
def Data.part (j : Fin 2) (r : Fin 8192) (d : Fin 1024) : ℝ :=
  ∑ k : Fin 1408, D.a r ⟨j.val * 1408 + k.val, by omega⟩ * D.Wo ⟨j.val * 1408 + k.val, by omega⟩ d
/-- One row's squared error, summed. -/
def Data.sq (r : Fin 8192) : ℝ := ∑ d, err (D.y r) D.fg (D.T r) d * err (D.y r) D.fg (D.T r) d
/-- One row's part of the final gain's gradient. -/
def Data.dg (r : Fin 8192) (d : Fin 1024) : ℝ := err (D.y r) D.fg (D.T r) d * (1 / 1024) * (D.y r d * rn (D.y r))

theorem Data.part_add (r : Fin 8192) (d : Fin 1024) : D.part 0 r d + D.part 1 r d = ∑ k, D.a r k * D.Wo k d := by
  rw [Idealize.ShloMosaic.Fin.sum_univ_tiles 2 1408 (by norm_num), Fin.sum_univ_two]
  rfl

/-- A sum over the rows of the first `n` tiles. -/
def upTo (f : Fin 8192 → ℝ) (n : ℕ) : ℝ :=
  ∑ i ∈ Finset.range n, if h : i < 16 then ∑ r : Fin 512, f ⟨i * 512 + r.val, by omega⟩ else 0
theorem upTo_succ (f : Fin 8192 → ℝ) (i : Fin 16) : upTo f (i.val + 1) = upTo f i.val + ∑ r : Fin 512, f ⟨i.val * 512 + r.val, by omega⟩ := by
  unfold upTo
  rw [Finset.sum_range_succ, dif_pos i.isLt]
theorem upTo_16 (f : Fin 8192 → ℝ) : upTo f 16 = ∑ r, f r := by
  rw [Idealize.ShloMosaic.Fin.sum_univ_tiles 16 512 (by norm_num)]
  unfold upTo
  rw [Finset.sum_range]
  exact Finset.sum_congr rfl fun i _ => dif_pos i.isLt

end Cert.HeadMath

namespace Cert.KernelIdeal.Head

open Cert.KernelIdeal Cert.KernelIdeal.Gen Idealize.ShloMosaic Idealize.ShloMosaic.TcCoe Cert.RealKit Cert.HeadMath

/-! ## The grid's points -/

theorem crd : ∀ t : Fin cfg0.N, (grid0.coords t 0).val = t.val / 2 ∧ (grid0.coords t 1).val = t.val % 2 := by decide +kernel
theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val / 2 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val / 2 ∧ win0_4.index t 1 = 0 := by decide +kernel
theorem idx5 : ∀ t : Fin cfg0.N, win0_5.index t 0 = t.val / 2 ∧ win0_5.index t 1 = t.val % 2 := by decide +kernel
theorem idx6 : ∀ t : Fin cfg0.N, win0_6.index t 0 = t.val / 2 ∧ win0_6.index t 1 = t.val % 2 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel

theorem t_lt (t : Fin cfg0.N) : t.val < 32 := lt_of_lt_of_eq t.isLt (show cfg0.N = 32 from N_0)
/-- A point's tile of rows. -/
abbrev ti (t : Fin cfg0.N) : Fin 16 := ⟨t.val / 2, by have := t_lt t; omega⟩
/-- A point's half of the hidden columns. -/
abbrev tj (t : Fin cfg0.N) : Fin 2 := ⟨t.val % 2, by omega⟩

variable {F : FTy → Type} [FloatOps F]

theorem row_apply (v : Vec F S8x1024 .f32) (k : Fin 8) (h) (d : Fin 1024) : row v k.val h (ix2 0 d) = v (ix2 k d) :=
  congrArg v (funext fun a => Fin.ext (by fin_cases a <;> simp [Rect.emb, Rect.unit]))

theorem off1 (i : grid0.Coords) : k0_off1 i = ![(i 1).val, 0, 0] := by
  unfold k0_off1
  generalize i 1 = j
  revert j
  decide +kernel
theorem off2 (i : grid0.Coords) : k0_off2 i = ![(i 1).val, 0, 0] := by
  unfold k0_off2
  generalize i 1 = j
  revert j
  decide +kernel

theorem winJ_apply (t : Fin cfg0.N) (w : Vec F S2x1024x2816 .bf16) (d : Fin 1024) (k : Fin 2816) :
    winJ (grid0.coords t) w (ix3 0 d k) = w (ix3 (tj t) d k) :=
  congrArg w (funext fun a => Fin.ext (by
    show k0_off1 (grid0.coords t) a + 1 * (ix3 (n0 := 1) 0 d k a).val = _
    rw [off1, (crd t).2]
    fin_cases a <;> simp))
theorem woutJ_apply (t : Fin cfg0.N) (w : Vec F S2x1408x1024 .bf16) (k : Fin 1408) (d : Fin 1024) :
    woutJ (grid0.coords t) w (ix3 0 k d) = w (ix3 (tj t) k d) :=
  congrArg w (funext fun a => Fin.ext (by
    show k0_off2 (grid0.coords t) a + 1 * (ix3 (n0 := 1) 0 k d a).val = _
    rw [off2, (crd t).2]
    fin_cases a <;> simp))

/-! ## The copied weights -/

section Gen
variable (m : (ℓ : Loc nD τ sig) → Buf (Elt F) ℓ) (c : Dev nD)

/-- After every point the two weight buffers hold the packed weights. -/
theorem weights : ∀ (n : ℕ) (hn : n < cfg0.N), (outsAt0 m c n hn).2.2.2.2.2.2.1 = V m c main_v13
    ∧ (outsAt0 m c n hn).2.2.2.2.2.2.2 = V m c main_v15
  | 0, hn => ⟨at_A_s1 m c ⟨0, hn⟩ rfl (show ¬0 % 2 = 1 by decide), at_A_s2 m c ⟨0, hn⟩ rfl (show ¬0 % 2 = 1 by decide)⟩
  | n + 1, hn => by
    have hN := t_lt ⟨n + 1, hn⟩
    have ih := weights n (Nat.lt_of_succ_lt hn)
    have h0 : ¬(n + 1) % 32 = 0 := by dsimp only at hN; omega
    by_cases h1 : (n + 1) % 2 = 1
    · exact ⟨(at_B_s1 m c ⟨n + 1, hn⟩ h0 h1).trans ih.1, (at_B_s2 m c ⟨n + 1, hn⟩ h0 h1).trans ih.2⟩
    · exact ⟨(at_C_s1 m c ⟨n + 1, hn⟩ h0 h1).trans ih.1, (at_C_s2 m c ⟨n + 1, hn⟩ h0 h1).trans ih.2⟩

theorem at_5 (t : Fin cfg0.N) : (outsAt0 m c t.val t.isLt).2.1 = gOf (grid0.coords t) (iblk m c 0 t) (iblk m c 1 t) (V m c main_v13) := by
  have hN := t_lt t
  by_cases h0 : t.val % 32 = 0
  · exact at_A_5 m c t h0 (by omega)
  · by_cases h1 : t.val % 2 = 1
    · rw [at_B_5 m c t h0 h1, (weights m c _ _).1]
    · rw [at_C_5 m c t h0 h1, (weights m c _ _).1]
theorem at_6 (t : Fin cfg0.N) : (outsAt0 m c t.val t.isLt).2.2.1 = uOf (grid0.coords t) (iblk m c 0 t) (iblk m c 1 t) (V m c main_v13) := by
  have hN := t_lt t
  by_cases h0 : t.val % 32 = 0
  · exact at_A_6 m c t h0 (by omega)
  · by_cases h1 : t.val % 2 = 1
    · rw [at_B_6 m c t h0 h1, (weights m c _ _).1]
    · rw [at_C_6 m c t h0 h1, (weights m c _ _).1]
theorem at_s0_even (t : Fin cfg0.N) (h1 : ¬t.val % 2 = 1) : ∃ acc, (outsAt0 m c t.val t.isLt).2.2.2.2.2.1
    = aOf (grid0.coords t) (iblk m c 0 t) (iblk m c 1 t) (V m c main_v13) (V m c main_v15) acc := by
  by_cases h0 : t.val % 32 = 0
  · exact ⟨_, at_A_s0 m c t h0 h1⟩
  · exact ⟨_, by rw [at_C_s0 m c t h0 h1, (weights m c _ _).1, (weights m c _ _).2]⟩

end Gen

/-! ## Over the reals -/

variable (m : (ℓ : Loc nD τ sig) → Buf (Elt Ideal) ℓ) (c : Dev nD)

/-- The arguments hold the real numbers `D`. -/
structure Holds (D : Data) : Prop where
  X : ∀ r d, (m ((c : Thread nD τ).loc main_arg0) : Vec Ideal S8192x1024 .f32) (ix2 r d) = (D.X r d : EReal)
  T : ∀ r d, (m ((c : Thread nD τ).loc main_arg1) : Vec Ideal S8192x1024 .f32) (ix2 r d) = (D.T r d : EReal)
  sh : ∀ d, (m ((c : Thread nD τ).loc main_arg2) : Vec Ideal S1x1024 .f32) (ix2 0 d) = (D.sh d : EReal)
  sc : ∀ d, (m ((c : Thread nD τ).loc main_arg3) : Vec Ideal S1x1024 .f32) (ix2 0 d) = (D.sc d : EReal)
  ga : ∀ d, (m ((c : Thread nD τ).loc main_arg4) : Vec Ideal S1x1024 .f32) (ix2 0 d) = (D.ga d : EReal)
  gn : ∀ d, (m ((c : Thread nD τ).loc main_arg5) : Vec Ideal S1x1024 .f32) (ix2 0 d) = (D.gn d : EReal)
  Wi : ∀ d k, (m ((c : Thread nD τ).loc main_arg6) : Vec Ideal S1024x5632 .f32) (ix2 d k) = (D.Wi d k : EReal)
  Wo : ∀ k d, (m ((c : Thread nD τ).loc main_arg7) : Vec Ideal S2816x1024 .f32) (ix2 k d) = (D.Wo k d : EReal)
  fg : ∀ d, (m ((c : Thread nD τ).loc main_arg8) : Vec Ideal S1x1024 .f32) (ix2 0 d) = (D.fg d : EReal)

variable {m c} {D : Data} (H : Holds m c D) (t : Fin cfg0.N)
include H

theorem blk_x (r : Fin 512) (d : Fin 1024) : (iblk m c 0 t : Vec Ideal S512x1024 .f32) (ix2 r d) = (D.X (trow (ti t) r) d : EReal) := by
  rw [← H.X, ← V_main_arg0 m c]
  refine congrArg (V m c main_arg0 : Vec Ideal S8192x1024 .f32) (funext fun a => Fin.ext ?_)
  match a with
  | ⟨0, _⟩ => show win0_0.index t 0 * 512 + 1 * r.val = t.val / 2 * 512 + r.val; rw [(idx0 t).1]; omega
  | ⟨1, _⟩ => show win0_0.index t 1 * 1024 + 1 * d.val = d.val; rw [(idx0 t).2]; omega
theorem blk_t (r : Fin 512) (d : Fin 1024) : (iblk m c 2 t : Vec Ideal S512x1024 .f32) (ix2 r d) = (D.T (trow (ti t) r) d : EReal) := by
  rw [← H.T, ← V_main_arg1 m c]
  refine congrArg (V m c main_arg1 : Vec Ideal S8192x1024 .f32) (funext fun a => Fin.ext ?_)
  match a with
  | ⟨0, _⟩ => show win0_2.index t 0 * 512 + 1 * r.val = t.val / 2 * 512 + r.val; rw [(idx2 t).1]; omega
  | ⟨1, _⟩ => show win0_2.index t 1 * 1024 + 1 * d.val = d.val; rw [(idx2 t).2]; omega
omit H in
theorem blk_v (k : Fin 8) (d : Fin 1024) : (iblk m c 1 t : Vec Ideal S8x1024 .f32) (ix2 k d) = (V m c main_v3 : Vec Ideal S8x1024 .f32) (ix2 k d) := by
  refine congrArg (V m c main_v3 : Vec Ideal S8x1024 .f32) (funext fun a => Fin.ext ?_)
  match a with
  | ⟨0, _⟩ => show win0_1.index t 0 * 8 + 1 * k.val = k.val; rw [(idx1 t).1]; omega
  | ⟨1, _⟩ => show win0_1.index t 1 * 1024 + 1 * d.val = d.val; rw [(idx1 t).2]; omega
omit H in
theorem blk_f (k : Fin 8) (d : Fin 1024) : (iblk m c 3 t : Vec Ideal S8x1024 .f32) (ix2 k d) = (V m c main_v1 : Vec Ideal S8x1024 .f32) (ix2 k d) := by
  refine congrArg (V m c main_v1 : Vec Ideal S8x1024 .f32) (funext fun a => Fin.ext ?_)
  match a with
  | ⟨0, _⟩ => show win0_3.index t 0 * 8 + 1 * k.val = k.val; rw [(idx3 t).1]; omega
  | ⟨1, _⟩ => show win0_3.index t 1 * 1024 + 1 * d.val = d.val; rw [(idx3 t).2]; omega

theorem row_sh (d : Fin 1024) : row (iblk m c 1 t) 0 inb_S8x1024_S1x1024_0_0 (ix2 0 d) = (D.sh d : EReal) :=
  (row_apply (F := Ideal) _ 0 _ d).trans ((blk_v t 0 d).trans ((V_row0 m c d).trans (H.sh d)))
theorem row_sc (d : Fin 1024) : row (iblk m c 1 t) 1 inb_S8x1024_S1x1024_1_0 (ix2 0 d) = (D.sc d : EReal) :=
  (row_apply (F := Ideal) _ 1 _ d).trans ((blk_v t 1 d).trans ((V_row1 m c d).trans (H.sc d)))
theorem row_ga (d : Fin 1024) : row (iblk m c 1 t) 2 inb_S8x1024_S1x1024_2_0 (ix2 0 d) = (D.ga d : EReal) :=
  (row_apply (F := Ideal) _ 2 _ d).trans ((blk_v t 2 d).trans ((V_row2 m c d).trans (H.ga d)))
theorem row_gn (d : Fin 1024) : row (iblk m c 1 t) 3 inb_S8x1024_S1x1024_3_0 (ix2 0 d) = (D.gn d : EReal) :=
  (row_apply (F := Ideal) _ 3 _ d).trans ((blk_v t 3 d).trans ((V_row3 m c d).trans (H.gn d)))
theorem row_fg (d : Fin 1024) : row (iblk m c 3 t) 0 inb_S8x1024_S1x1024_0_0 (ix2 0 d) = (D.fg d : EReal) :=
  (row_apply (F := Ideal) _ 0 _ d).trans ((blk_f t 0 d).trans ((V_gain m c d).trans (H.fg d)))

theorem tile_g (r : Fin 512) (k : Fin 1408) :
    gOf (grid0.coords t) (iblk m c 0 t) (iblk m c 1 t) (V m c main_v13) (ix2 r k) = (D.gu (trow (ti t) r) (gcol (tj t) k) : EReal) := by
  unfold gOf
  have hw : ∀ d, winJ (grid0.coords t) (V m c main_v13) (ix3 0 d ⟨k.val, by omega⟩) = (D.Wi d (gcol (tj t) k) : EReal) := fun d =>
    (winJ_apply (F := Ideal) t _ d _).trans ((V_win_g m c (tj t) d k).trans (H.Wi _ _))
  pointwise [k0_pay17, k0_pay16]
  simp only [blk_x H, row_gn H, row_sc H, row_sh H, hw, c_1024, c_eps, ← EReal.coe_one, ← EReal.coe_mul, coe_sum, div1024, ← EReal.coe_add, rs_msq]
  rfl

theorem tile_u (r : Fin 512) (k : Fin 1408) :
    uOf (grid0.coords t) (iblk m c 0 t) (iblk m c 1 t) (V m c main_v13) (ix2 r k) = (D.gu (trow (ti t) r) (ucol (tj t) k) : EReal) := by
  unfold uOf
  have hw : ∀ d, winJ (grid0.coords t) (V m c main_v13) (ix3 0 d ⟨1408 + k.val, by omega⟩) = (D.Wi d (ucol (tj t) k) : EReal) := fun d =>
    (winJ_apply (F := Ideal) t _ d _).trans ((V_win_u m c (tj t) d k).trans (H.Wi _ _))
  pointwise [k0_pay18, k0_pay16]
  simp only [blk_x H, row_gn H, row_sc H, row_sh H, hw, c_1024, c_eps, ← EReal.coe_one, ← EReal.coe_mul, coe_sum, div1024, ← EReal.coe_add, rs_msq]
  rfl

theorem tile_wo (k : Fin 1408) (d : Fin 1024) :
    woutJ (grid0.coords t) (V m c main_v15) (ix3 0 k d) = (D.Wo (hcol (tj t) k) d : EReal) :=
  (woutJ_apply (F := Ideal) t _ k d).trans ((V_wout m c (tj t) k d).trans (H.Wo _ _))

theorem tile_a_even (h1 : ¬t.val % 2 = 1) (acc : Vec Ideal S512x1024 .f32) (r : Fin 512) (d : Fin 1024) :
    aOf (grid0.coords t) (iblk m c 0 t) (iblk m c 1 t) (V m c main_v13) (V m c main_v15) acc (ix2 r d) = (D.part 0 (trow (ti t) r) d : EReal) := by
  have e : tj t = 0 := Fin.ext (by show t.val % 2 = 0; omega)
  unfold aOf
  rw [(crd t).2, show t.val % 2 = 0 by omega]
  refine (pay1_real_0 _ _ acc _ (tile_g H t) (tile_u H t) (tile_wo H t) r d).trans ?_
  rw [e]
  rfl

theorem tile_a_odd (h1 : t.val % 2 = 1) (acc : Vec Ideal S512x1024 .f32)
    (hacc : ∀ r d, acc (ix2 r d) = (D.part 0 (trow (ti t) r) d : EReal)) (r : Fin 512) (d : Fin 1024) :
    aOf (grid0.coords t) (iblk m c 0 t) (iblk m c 1 t) (V m c main_v13) (V m c main_v15) acc (ix2 r d)
      = (∑ k, D.a (trow (ti t) r) k * D.Wo k d : ℝ) := by
  have e : tj t = 1 := Fin.ext h1
  rw [← D.part_add]
  unfold aOf
  rw [(crd t).2, h1]
  refine (pay1_real_1 _ _ acc _ (tile_g H t) (tile_u H t) (tile_wo H t) hacc r d).trans ?_
  rw [e]
  rfl

theorem tile_y (h1 : t.val % 2 = 1) (acc : Vec Ideal S512x1024 .f32)
    (hacc : ∀ r d, acc (ix2 r d) = (D.part 0 (trow (ti t) r) d : EReal)) (r : Fin 512) (d : Fin 1024) :
    yOf (grid0.coords t) (iblk m c 0 t) (iblk m c 1 t) (V m c main_v13) (V m c main_v15) acc (ix2 r d) = (D.y (trow (ti t) r) d : EReal) := by
  unfold yOf
  exact pay3_real _ _ _ acc _ _ _ (tile_a_odd H t h1 acc hacc) (blk_x H t) (row_ga H t) r d

/-- At an odd point the running product is the first half's part. -/
theorem prev_acc (h1 : t.val % 2 = 1) (r : Fin 512) (d : Fin 1024) :
    (prev m c t).2.2.2.2.2.1 (ix2 r d) = (D.part 0 (trow (ti t) r) d : EReal) := by
  have hN := t_lt t
  have hlt : t.val - 1 < cfg0.N := Nat.lt_of_le_of_lt (Nat.sub_le _ _) t.isLt
  obtain ⟨acc, h⟩ := at_s0_even m c ⟨t.val - 1, hlt⟩ (by dsimp only; omega)
  refine (congrFun h _).trans ((tile_a_even H ⟨t.val - 1, hlt⟩ (by dsimp only; omega) acc r d).trans ?_)
  rw [show ti ⟨t.val - 1, hlt⟩ = ti t from Fin.ext (by dsimp only; omega)]

theorem y_at (h1 : t.val % 2 = 1) (r : Fin 512) (d : Fin 1024) :
    yOf (grid0.coords t) (iblk m c 0 t) (iblk m c 1 t) (prev m c t).2.2.2.2.2.2.1 (prev m c t).2.2.2.2.2.2.2 (prev m c t).2.2.2.2.2.1 (ix2 r d)
      = (D.y (trow (ti t) r) d : EReal) := by
  rw [(weights m c _ _).1, (weights m c _ _).2]
  exact tile_y H t h1 _ (prev_acc H t h1) r d

theorem out4 (h1 : t.val % 2 = 1) (r : Fin 512) (d : Fin 1024) :
    (outsAt0 m c t.val t.isLt).1 (ix2 r d) = (dx (D.y (trow (ti t) r)) D.fg (D.T (trow (ti t) r)) d : EReal) := by
  have hN := t_lt t
  rw [at_B_4 m c t (by omega) h1]
  exact pay10_real _ _ _ (y_at H t h1) (blk_t H t) (row_fg H t) r d

/-- The running loss after a point. -/
theorem out7 : ∀ (n : ℕ) (hn : n < cfg0.N) (p : Fin 8) (q : Fin 128),
    (outsAt0 m c n hn).2.2.2.1 (ix2 p q) = (1 / 2048 * upTo D.sq ((n + 1) / 2) : ℝ)
  | 0, hn, p, q => by
    rw [at_A_7 m c ⟨0, hn⟩ rfl (show ¬0 % 2 = 1 by decide)]
    pointwise [k0_pay14]
    simp [upTo]
  | n + 1, hn, p, q => by
    have hN := t_lt ⟨n + 1, hn⟩
    have ih := out7 n (Nat.lt_of_succ_lt hn) p q
    have h0 : ¬(n + 1) % 32 = 0 := by dsimp only at hN; omega
    by_cases h1 : (n + 1) % 2 = 1
    · rw [at_B_7 m c ⟨n + 1, hn⟩ h0 h1]
      refine (pay12_real _ _ _ (y_at H ⟨n + 1, hn⟩ h1) (blk_t H _) (row_fg H _) _ _ p q ih).trans ?_
      rw [show (n + 1 + 1) / 2 = (ti ⟨n + 1, hn⟩).val + 1 by dsimp only; omega, upTo_succ,
        show (n + 1) / 2 = (ti ⟨n + 1, hn⟩).val from rfl, mul_add]
      rfl
    · rw [at_C_7 m c ⟨n + 1, hn⟩ h0 h1]
      refine ih.trans ?_
      rw [show (n + 1 + 1) / 2 = (n + 1) / 2 by omega]

/-- The running gradient of the final gain after a point: in the first row, the others zero. -/
theorem out8 : ∀ (n : ℕ) (hn : n < cfg0.N) (p : Fin 8) (d : Fin 1024),
    (outsAt0 m c n hn).2.2.2.2.1 (ix2 p d) = (if p.val = 0 then upTo (fun r => D.dg r d) ((n + 1) / 2) else 0 : ℝ)
  | 0, hn, p, d => by
    rw [at_A_8 m c ⟨0, hn⟩ rfl (show ¬0 % 2 = 1 by decide)]
    pointwise [k0_pay15]
    simp [upTo]
  | n + 1, hn, p, d => by
    have hN := t_lt ⟨n + 1, hn⟩
    have ih := out8 n (Nat.lt_of_succ_lt hn)
    have h0 : ¬(n + 1) % 32 = 0 := by dsimp only at hN; omega
    by_cases h1 : (n + 1) % 2 = 1
    · rw [at_B_8 m c ⟨n + 1, hn⟩ h0 h1]
      by_cases hp : p.val = 0
      · refine (if_pos hp).trans ?_
        have e := pay11_real _ _ _ (y_at H ⟨n + 1, hn⟩ h1) (blk_t H ⟨n + 1, hn⟩) (row_fg H ⟨n + 1, hn⟩) d
        have ep := (row_apply (F := Ideal) (prev m c ⟨n + 1, hn⟩).2.2.2.2.1 0 inb_S8x1024_S1x1024_0_0 d).trans (ih 0 d)
        rw [if_pos hp, show (n + 1 + 1) / 2 = (ti ⟨n + 1, hn⟩).val + 1 by dsimp only; omega, upTo_succ]
        pointwise [k0_pay4]
        refine (congrArg₂ (· + ·) ep e).trans ?_
        rw [if_pos (show ((0 : Fin 8) : ℕ) = 0 from rfl), ← EReal.coe_add]
        rfl
      · refine (if_neg hp).trans ?_
        refine (ih p d).trans ?_
        rw [if_neg hp, if_neg hp]
    · rw [at_C_8 m c ⟨n + 1, hn⟩ h0 h1]
      refine (ih p d).trans ?_
      rw [show (n + 1 + 1) / 2 = (n + 1) / 2 by omega]

end Cert.KernelIdeal.Head
-- ==== Proof.HeadFinal.lean ====
/-
  The five arrays the feed-forward call with the loss leaves, over the reals.
-/
module

public import proofs.«01_k».proof.Proof.HeadPoint

@[expose] public section

noncomputable section

namespace Cert.KernelIdeal.Head

open Cert.KernelIdeal Cert.KernelIdeal.Gen Idealize.ShloMosaic Idealize.ShloMosaic.TcCoe Cert.RealKit Cert.HeadMath
open Idealize.ShloMosaic.Pipeline (Dat)

variable {m : (ℓ : Loc nD τ sig) → Buf (Elt Ideal) ℓ} {c : Dev nD} {D : Data}

theorem eta2 {a b : ℕ} (z : (⟨2, ![a, b]⟩ : Shape).Idx) : z = ix2 (z 0) (z 1) := funext fun k => by fin_cases k <;> rfl

/-- The gradient of the last activation. -/
def G4 (D : Data) : Vec Ideal S8192x1024 .f32 := fun i => (dx (D.y (i 0)) D.fg (D.T (i 0)) (i 1) : EReal)
/-- The gate half of the hidden columns. -/
def G5 (D : Data) : Vec Ideal S8192x2816 .bf16 := fun i => (D.gu (i 0) ⟨(i 1).val, by have := (i 1).isLt; simp at this; omega⟩ : EReal)
/-- The other half of the hidden columns. -/
def G6 (D : Data) : Vec Ideal S8192x2816 .bf16 := fun i => (D.gu (i 0) ⟨2816 + (i 1).val, by have := (i 1).isLt; simp at this; omega⟩ : EReal)
/-- The loss, in every place. -/
def G7 (D : Data) : Vec Ideal S8x128 .f32 := fun _ => (1 / 2048 * ∑ r, D.sq r : ℝ)
/-- The gradient of the final gain, in the first row. -/
def G8 (D : Data) : Vec Ideal S8x1024 .f32 := fun i => (if (i 0).val = 0 then ∑ r, D.dg r (i 1) else 0 : ℝ)

theorem emb4 (t : Fin cfg0.N) (y : S512x1024.Idx) : ((cfg0.win 4).blk t).view.emb y = ix2 (trow (ti t) (y 0)) (y 1) := by
  refine funext fun a => Fin.ext ?_
  match a with
  | ⟨0, _⟩ => show win0_4.index t 0 * 512 + 1 * (y 0).val = t.val / 2 * 512 + (y 0).val; rw [(idx4 t).1]; omega
  | ⟨1, _⟩ => show win0_4.index t 1 * 1024 + 1 * (y 1).val = (y 1).val; rw [(idx4 t).2]; omega
theorem emb5 (t : Fin cfg0.N) (y : S512x1408.Idx) : ((cfg0.win 5).blk t).view.emb y = ix2 (trow (ti t) (y 0)) (hcol (tj t) (y 1)) := by
  refine funext fun a => Fin.ext ?_
  match a with
  | ⟨0, _⟩ => show win0_5.index t 0 * 512 + 1 * (y 0).val = t.val / 2 * 512 + (y 0).val; rw [(idx5 t).1]; omega
  | ⟨1, _⟩ => show win0_5.index t 1 * 1408 + 1 * (y 1).val = t.val % 2 * 1408 + (y 1).val; rw [(idx5 t).2]; omega
theorem emb6 (t : Fin cfg0.N) (y : S512x1408.Idx) : ((cfg0.win 6).blk t).view.emb y = ix2 (trow (ti t) (y 0)) (hcol (tj t) (y 1)) := by
  refine funext fun a => Fin.ext ?_
  match a with
  | ⟨0, _⟩ => show win0_6.index t 0 * 512 + 1 * (y 0).val = t.val / 2 * 512 + (y 0).val; rw [(idx6 t).1]; omega
  | ⟨1, _⟩ => show win0_6.index t 1 * 1408 + 1 * (y 1).val = t.val % 2 * 1408 + (y 1).val; rw [(idx6 t).2]; omega
theorem emb7 (t : Fin cfg0.N) (y : S8x128.Idx) : ((cfg0.win 7).blk t).view.emb y = ix2 (y 0) (y 1) := by
  refine funext fun a => Fin.ext ?_
  match a with
  | ⟨0, _⟩ => show win0_7.index t 0 * 8 + 1 * (y 0).val = (y 0).val; rw [(idx7 t).1]; omega
  | ⟨1, _⟩ => show win0_7.index t 1 * 128 + 1 * (y 1).val = (y 1).val; rw [(idx7 t).2]; omega
theorem emb8 (t : Fin cfg0.N) (y : S8x1024.Idx) : ((cfg0.win 8).blk t).view.emb y = ix2 (y 0) (y 1) := by
  refine funext fun a => Fin.ext ?_
  match a with
  | ⟨0, _⟩ => show win0_8.index t 0 * 8 + 1 * (y 0).val = (y 0).val; rw [(idx8 t).1]; omega
  | ⟨1, _⟩ => show win0_8.index t 1 * 1024 + 1 * (y 1).val = (y 1).val; rw [(idx8 t).2]; omega

variable (H : Holds m c D)
include H

theorem arr4 : (dats m 0 c).arrAt 4 cfg0.N = G4 D :=
  (dats m 0 c).arrAt_eq_of_cover 4 (G4 D)
    (fun t hf => by
      have h1 := (flush0_4 t).mp hf
      rw [Value.flushed4]
      refine funext fun (y : S512x1024.Idx) => ?_
      refine (congrArg (outsAt0 m c t.val t.isLt).1 (eta2 y)).trans ?_
      refine (out4 H t h1 (y 0) (y 1)).trans ?_
      exact Eq.trans (b := G4 D (ix2 (trow (ti t) (y 0)) (y 1))) rfl ((congrArg (G4 D) (emb4 t y)).symm.trans rfl))
    fun i => by
      have h0 : (i 0 : ℕ) < 8192 := (i 0).isLt
      have h1 : (i 1 : ℕ) < 1024 := (i 1).isLt
      obtain ⟨t, ht⟩ : ∃ t : Fin cfg0.N, t.val = 2 * ((i 0 : ℕ) / 512) + 1 := ⟨⟨_, by rw [show cfg0.N = 32 from N_0]; omega⟩, rfl⟩
      refine ⟨t, (flush0_4 t).mpr (by omega), ?_⟩
      show i ∈ ((View.whole main_v16_0).slice (win0_4.rect t)).set
      rw [View.set_slice_whole, Rect.mem_set_unit]
      have e := idx4 t
      intro a
      match a with
      | ⟨0, _⟩ => show win0_4.index t 0 * 512 ≤ (i 0 : ℕ) ∧ (i 0 : ℕ) < win0_4.index t 0 * 512 + 512
                  rw [e.1]; omega
      | ⟨1, _⟩ => show win0_4.index t 1 * 1024 ≤ (i 1 : ℕ) ∧ (i 1 : ℕ) < win0_4.index t 1 * 1024 + 1024
                  rw [e.2]; omega

theorem arr5 : (dats m 0 c).arrAt 5 cfg0.N = G5 D :=
  (dats m 0 c).arrAt_eq_of_cover 5 (G5 D)
    (fun t hf => by
      rw [Value.flushed5, at_5]
      refine funext fun (y : S512x1408.Idx) => ?_
      refine (congrArg (gOf (grid0.coords t) (iblk m c 0 t) (iblk m c 1 t) (V m c main_v13)) (eta2 y)).trans ?_
      refine (tile_g H t (y 0) (y 1)).trans ?_
      exact Eq.trans (b := G5 D (ix2 (trow (ti t) (y 0)) (hcol (tj t) (y 1)))) rfl ((congrArg (G5 D) (emb5 t y)).symm.trans rfl))
    fun i => by
      have h0 : (i 0 : ℕ) < 8192 := (i 0).isLt
      have h1 : (i 1 : ℕ) < 2816 := (i 1).isLt
      obtain ⟨t, ht⟩ : ∃ t : Fin cfg0.N, t.val = 2 * ((i 0 : ℕ) / 512) + (i 1 : ℕ) / 1408 := ⟨⟨_, by rw [show cfg0.N = 32 from N_0]; omega⟩, rfl⟩
      refine ⟨t, flush0_5 t, ?_⟩
      show i ∈ ((View.whole main_v16_1).slice (win0_5.rect t)).set
      rw [View.set_slice_whole, Rect.mem_set_unit]
      have e := idx5 t
      intro a
      match a with
      | ⟨0, _⟩ => show win0_5.index t 0 * 512 ≤ (i 0 : ℕ) ∧ (i 0 : ℕ) < win0_5.index t 0 * 512 + 512
                  rw [e.1]; omega
      | ⟨1, _⟩ => show win0_5.index t 1 * 1408 ≤ (i 1 : ℕ) ∧ (i 1 : ℕ) < win0_5.index t 1 * 1408 + 1408
                  rw [e.2]; omega

theorem arr6 : (dats m 0 c).arrAt 6 cfg0.N = G6 D :=
  (dats m 0 c).arrAt_eq_of_cover 6 (G6 D)
    (fun t hf => by
      rw [Value.flushed6, at_6]
      refine funext fun (y : S512x1408.Idx) => ?_
      refine (congrArg (uOf (grid0.coords t) (iblk m c 0 t) (iblk m c 1 t) (V m c main_v13)) (eta2 y)).trans ?_
      refine (tile_u H t (y 0) (y 1)).trans ?_
      exact Eq.trans (b := G6 D (ix2 (trow (ti t) (y 0)) (hcol (tj t) (y 1)))) rfl ((congrArg (G6 D) (emb6 t y)).symm.trans rfl))
    fun i => by
      have h0 : (i 0 : ℕ) < 8192 := (i 0).isLt
      have h1 : (i 1 : ℕ) < 2816 := (i 1).isLt
      obtain ⟨t, ht⟩ : ∃ t : Fin cfg0.N, t.val = 2 * ((i 0 : ℕ) / 512) + (i 1 : ℕ) / 1408 := ⟨⟨_, by rw [show cfg0.N = 32 from N_0]; omega⟩, rfl⟩
      refine ⟨t, flush0_6 t, ?_⟩
      show i ∈ ((View.whole main_v16_2).slice (win0_6.rect t)).set
      rw [View.set_slice_whole, Rect.mem_set_unit]
      have e := idx6 t
      intro a
      match a with
      | ⟨0, _⟩ => show win0_6.index t 0 * 512 ≤ (i 0 : ℕ) ∧ (i 0 : ℕ) < win0_6.index t 0 * 512 + 512
                  rw [e.1]; omega
      | ⟨1, _⟩ => show win0_6.index t 1 * 1408 ≤ (i 1 : ℕ) ∧ (i 1 : ℕ) < win0_6.index t 1 * 1408 + 1408
                  rw [e.2]; omega

theorem arr7 : (dats m 0 c).arrAt 7 cfg0.N = G7 D :=
  (dats m 0 c).arrAt_eq_of_cover 7 (G7 D)
    (fun t hf => by
      have h1 := (flush0_7 t).mp hf
      have hN := t_lt t
      rw [Value.flushed7]
      refine funext fun (y : S8x128.Idx) => ?_
      refine (congrArg (outsAt0 m c t.val t.isLt).2.2.2.1 (eta2 y)).trans ?_
      refine (out7 H t.val t.isLt (y 0) (y 1)).trans ?_
      rw [show (t.val + 1) / 2 = 16 by omega, upTo_16]
      exact Eq.trans (b := G7 D (ix2 (y 0) (y 1))) rfl ((congrArg (G7 D) (emb7 t y)).symm.trans rfl))
    fun i => by
      have h0 : (i 0 : ℕ) < 8 := (i 0).isLt
      have h1 : (i 1 : ℕ) < 128 := (i 1).isLt
      obtain ⟨t, ht⟩ : ∃ t : Fin cfg0.N, t.val = 31 := ⟨⟨_, by rw [show cfg0.N = 32 from N_0]; omega⟩, rfl⟩
      refine ⟨t, (flush0_7 t).mpr (by omega), ?_⟩
      show i ∈ ((View.whole main_v16_3).slice (win0_7.rect t)).set
      rw [View.set_slice_whole, Rect.mem_set_unit]
      have e := idx7 t
      intro a
      match a with
      | ⟨0, _⟩ => show win0_7.index t 0 * 8 ≤ (i 0 : ℕ) ∧ (i 0 : ℕ) < win0_7.index t 0 * 8 + 8
                  rw [e.1]; omega
      | ⟨1, _⟩ => show win0_7.index t 1 * 128 ≤ (i 1 : ℕ) ∧ (i 1 : ℕ) < win0_7.index t 1 * 128 + 128
                  rw [e.2]; omega

theorem arr8 : (dats m 0 c).arrAt 8 cfg0.N = G8 D :=
  (dats m 0 c).arrAt_eq_of_cover 8 (G8 D)
    (fun t hf => by
      have h1 := (flush0_8 t).mp hf
      have hN := t_lt t
      rw [Value.flushed8]
      refine funext fun (y : S8x1024.Idx) => ?_
      refine (congrArg (outsAt0 m c t.val t.isLt).2.2.2.2.1 (eta2 y)).trans ?_
      refine (out8 H t.val t.isLt (y 0) (y 1)).trans ?_
      rw [show (t.val + 1) / 2 = 16 by omega, upTo_16]
      exact Eq.trans (b := G8 D (ix2 (y 0) (y 1))) rfl ((congrArg (G8 D) (emb8 t y)).symm.trans rfl))
    fun i => by
      have h0 : (i 0 : ℕ) < 8 := (i 0).isLt
      have h1 : (i 1 : ℕ) < 1024 := (i 1).isLt
      obtain ⟨t, ht⟩ : ∃ t : Fin cfg0.N, t.val = 31 := ⟨⟨_, by rw [show cfg0.N = 32 from N_0]; omega⟩, rfl⟩
      refine ⟨t, (flush0_8 t).mpr (by omega), ?_⟩
      show i ∈ ((View.whole main_v16_4).slice (win0_8.rect t)).set
      rw [View.set_slice_whole, Rect.mem_set_unit]
      have e := idx8 t
      intro a
      match a with
      | ⟨0, _⟩ => show win0_8.index t 0 * 8 ≤ (i 0 : ℕ) ∧ (i 0 : ℕ) < win0_8.index t 0 * 8 + 8
                  rw [e.1]; omega
      | ⟨1, _⟩ => show win0_8.index t 1 * 1024 ≤ (i 1 : ℕ) ∧ (i 1 : ℕ) < win0_8.index t 1 * 1024 + 1024
                  rw [e.2]; omega

end Cert.KernelIdeal.Head
-- ==== Proof.HeadRef.lean ====
/-
  The reference of the feed-forward call with the loss, over the reals: each of its five results at an index when the
  arguments hold real numbers.
-/
module

public import proofs.«01_k».proof.Proof.HeadFinal
public import proofs.«01_k».proof.Proof.Gen.ReferenceIdeal.Read

@[expose] public section

noncomputable section

namespace Cert.ReferenceIdeal.Head

open Cert.ReferenceIdeal Cert.ReferenceIdeal.Read Idealize.ShloMosaic Idealize.ShloMosaic.TcCoe Cert.RealKit Cert.HeadMath
open Cert.KernelIdeal.Head (div1024 rs_msq)

/-- The derivative the reference takes of a row's root mean square, against the closed form. -/
theorem dx_eq (v fg t : Fin 1024 → ℝ) (d : Fin 1024) :
    err v fg t d * (1 / 1024) * fg d * rn v
        + v d * ((∑ k, v k * (err v fg t k * (1 / 1024) * fg k)) * (-(1 / 2) * (rn v / msq v)) / 1024)
        + (∑ k, v k * (err v fg t k * (1 / 1024) * fg k)) * (-(1 / 2) * (rn v / msq v)) / 1024 * v d = dx v fg t d := by
  have h : rn v / msq v = rn v * (rn v * rn v) := by
    unfold rn
    rw [← mul_inv, Real.mul_self_sqrt (msq_pos v).le, div_eq_mul_inv]
  rw [h, dx, show (∑ k, err v fg t k * (1 / 1024) * fg k * (v k * rn v)) = (∑ k, v k * (err v fg t k * (1 / 1024) * fg k)) * rn v by
    rw [Finset.sum_mul]; exact Finset.sum_congr rfl fun k _ => by ring]
  ring

variable {D : Data} {x0 x1 : Vec Ideal S8192x1024 .f32} {x2 x3 x4 x5 x8 : Vec Ideal S1x1024 .f32} {x6 : Vec Ideal S1024x5632 .f32}
  {x7 : Vec Ideal S2816x1024 .f32}

/-- The nine arguments hold the numbers of `D`. -/
structure Args (D : Data) (x0 x1 : Vec Ideal S8192x1024 .f32) (x2 x3 x4 x5 x8 : Vec Ideal S1x1024 .f32)
    (x6 : Vec Ideal S1024x5632 .f32) (x7 : Vec Ideal S2816x1024 .f32) : Prop where
  X : ∀ r d, x0 (ix2 r d) = (D.X r d : EReal)
  T : ∀ r d, x1 (ix2 r d) = (D.T r d : EReal)
  sh : ∀ d, x2 (ix2 0 d) = (D.sh d : EReal)
  sc : ∀ d, x3 (ix2 0 d) = (D.sc d : EReal)
  ga : ∀ d, x4 (ix2 0 d) = (D.ga d : EReal)
  gn : ∀ d, x5 (ix2 0 d) = (D.gn d : EReal)
  Wi : ∀ d k, x6 (ix2 d k) = (D.Wi d k : EReal)
  Wo : ∀ k d, x7 (ix2 k d) = (D.Wo k d : EReal)
  fg : ∀ d, x8 (ix2 0 d) = (D.fg d : EReal)

variable (H : Args D x0 x1 x2 x3 x4 x5 x8 x6 x7)
include H

theorem hid17 (r : Fin 8192) (d : Fin 1024) : val_main_v17 x0 x2 x3 x5 (ix2 r d) = (hid (D.X r) D.gn D.sc D.sh d : EReal) := by
  pointwise [val_main_v17, val_main_v16, val_main_v15, val_main_v14, val_main_v13, val_main_v12, val_main_cst_2, val_main_v11,
    val_main_v10, val_main_v9, val_main_v8, val_main_v7, val_main_v6, val_main_v5, val_main_cst_1, val_main_v4, val_main_v3,
    val_main_cst_0, val_main_v2, val_main_v1, val_main_cst, val_main_v0]
  simp only [H.X, H.sh, H.sc, H.gn, c_1024, c_eps, ← EReal.coe_one, ← EReal.coe_mul, coe_sum, div1024, ← EReal.coe_add, rs_msq]
  rfl

theorem hid36 (r : Fin 8192) (d : Fin 1024) : val_main_v36 x0 x2 x3 x5 (ix2 r d) = (hid (D.X r) D.gn D.sc D.sh d : EReal) :=
  hid17 H r d

theorem gu18 (r : Fin 8192) (k : Fin 5632) : val_main_v18 x0 x2 x3 x5 x6 (ix2 r k) = (D.gu r k : EReal) := by
  pointwise [val_main_v18]
  simp only [hid17 H, H.Wi, ← EReal.coe_mul, coe_sum]
  rfl

theorem gu39 (r : Fin 8192) (k : Fin 5632) : val_main_v39 x0 x2 x3 x5 x6 (ix2 r k) = (D.gu r k : EReal) := gu18 H r k

theorem res98 : val_main_v98 x0 x2 x3 x5 x6 = Cert.KernelIdeal.Head.G5 D := by
  refine funext fun i => ?_
  rw [Cert.KernelIdeal.Head.eta2 i]
  pointwise [val_main_v98, val_main_v97]
  exact gu18 H _ _

theorem res100 : val_main_v100 x0 x2 x3 x5 x6 = Cert.KernelIdeal.Head.G6 D := by
  refine funext fun i => ?_
  rw [Cert.KernelIdeal.Head.eta2 i]
  pointwise [val_main_v100, val_main_v99]
  exact gu18 H _ _

theorem act43 (r : Fin 8192) (k : Fin 2816) : val_main_v43 x0 x2 x3 x5 x6 (ix2 r k) = (D.a r k : EReal) := by
  pointwise [val_main_v43, val_main_v42, val_main_v41, val_main_v40, val_main_call0_v0, val_main_call0_v1, val_main_call0_v2,
    val_main_call0_v3, val_main_call0_v4, val_main_call0_v5, val_main_call0_cst, val_main_call0_cst_0]
  simp only [gu39 H, ← EReal.coe_neg, Ideal.exp_coe, ← EReal.coe_one, ← EReal.coe_add]
  rw [div_real (by positivity), ← EReal.coe_mul, ← EReal.coe_mul, one_div]
  rfl

theorem y47 (r : Fin 8192) (d : Fin 1024) : val_main_v47 x0 x2 x3 x4 x5 x6 x7 (ix2 r d) = (D.y r d : EReal) := by
  pointwise [val_main_v47, val_main_v46, val_main_v45, val_main_v38, val_main_v37, val_main_cst_7, val_main_v44]
  simp only [act43 H, H.Wo, H.X, H.ga, c_half, ← EReal.coe_mul, coe_sum, ← EReal.coe_add]
  rfl

theorem msq54 (r : Fin 8192) : val_main_v54 x0 x2 x3 x4 x5 x6 x7 (ix2 r 0) = (msq (D.y r) : EReal) := by
  pointwise [val_main_v54, val_main_v53, val_main_cst_10, val_main_v52, val_main_v51, val_main_cst_9, val_main_v50, val_main_v49,
    val_main_cst_8, val_main_v48]
  simp only [y47 H, c_1024, c_eps, ← EReal.coe_mul, coe_sum, div1024, ← EReal.coe_add]
  rfl

theorem rn55 (r : Fin 8192) : val_main_v55 x0 x2 x3 x4 x5 x6 x7 (ix2 r 0) = (rn (D.y r) : EReal) := by
  pointwise [val_main_v55]
  rw [msq54 H]
  exact rs_msq _

theorem xn60 (r : Fin 8192) (d : Fin 1024) : val_main_v60 x0 x2 x3 x4 x5 x6 x7 (ix2 r d) = (D.y r d * rn (D.y r) : ℝ) := by
  pointwise [val_main_v60, val_main_v59]
  rw [rn55 H, y47 H, EReal.coe_mul]

theorem err63 (r : Fin 8192) (d : Fin 1024) :
    val_main_v63 x0 x1 x2 x3 x4 x5 x6 x7 x8 (ix2 r d) = (err (D.y r) D.fg (D.T r) d : ℝ) := by
  pointwise [val_main_v63, val_main_v62, val_main_v61]
  simp only [xn60 H, H.fg, H.T, ← EReal.coe_mul, ← EReal.coe_sub]
  rfl

theorem loss71 : val_main_v71 x0 x1 x2 x3 x4 x5 x6 x7 x8 ix0 = (1 / 2048 * ∑ r, D.sq r : ℝ) := by
  pointwise [val_main_v71, val_main_cst_16, val_main_v70, val_main_cst_15, val_main_v69, val_main_v68, val_main_cst_14, val_main_v67,
    val_main_cst_13, val_main_v64]
  simp only [err63 H, c_half, c_1024, ← EReal.coe_mul, coe_sum, div1024]
  refine congrArg _ ?_
  rw [← Finset.sum_div, show (∑ r, D.sq r) = ∑ r, ∑ d, err (D.y r) D.fg (D.T r) d * err (D.y r) D.fg (D.T r) d from rfl]
  ring

theorem dxn77 (r : Fin 8192) (d : Fin 1024) :
    val_main_v77 x0 x1 x2 x3 x4 x5 x6 x7 x8 (ix2 r d) = (err (D.y r) D.fg (D.T r) d * (1 / 1024) : ℝ) := by
  pointwise [val_main_v77, val_main_v76, val_main_v75, val_main_v74, val_main_cst_19, val_main_v73, val_main_v72, val_main_cst_17,
    val_main_cst_18, val_main_v66, val_main_v65, val_main_cst_12]
  simp only [err63 H, c_half, c_two, c_1024, ← EReal.coe_one, ← EReal.coe_mul, div1024]
  refine congrArg _ ?_
  ring

theorem dg80 (d : Fin 1024) : val_main_v80 x0 x1 x2 x3 x4 x5 x6 x7 x8 (ix2 0 d) = (∑ r, D.dg r d : ℝ) := by
  pointwise [val_main_v80, val_main_v79, val_main_cst_20, val_main_v78]
  simp only [dxn77 H, xn60 H, ← EReal.coe_mul, coe_sum]
  exact congrArg _ (Finset.sum_congr rfl fun r _ => mul_comm _ _)

theorem b91 (r : Fin 8192) : val_main_v91 x0 x1 x2 x3 x4 x5 x6 x7 x8 (ix1 r)
    = ((∑ k, D.y r k * (err (D.y r) D.fg (D.T r) k * (1 / 1024) * D.fg k)) * (-(1 / 2) * (rn (D.y r) / msq (D.y r))) / 1024 : ℝ) := by
  pointwise [val_main_v91, val_main_cst_23, val_main_v90, val_main_v89, val_main_cst_22, val_main_v88, val_main_v85, val_main_v84,
    val_main_cst_21, val_main_v83, val_main_v82, val_main_v81, val_main_v58, val_main_v57, val_main_cst_11, val_main_v56]
  simp only [dxn77 H, H.fg, y47 H, rn55 H, msq54 H, c_neg_half, c_1024, ← EReal.coe_mul, coe_sum]
  rw [Fin.sum_univ_one, rn55 H, msq54 H, div_real (msq_pos _).ne', ← EReal.coe_mul, ← EReal.coe_mul, div1024]

theorem dx96 (r : Fin 8192) (d : Fin 1024) :
    val_main_v96 x0 x1 x2 x3 x4 x5 x6 x7 x8 (ix2 r d) = (dx (D.y r) D.fg (D.T r) d : ℝ) := by
  pointwise [val_main_v96, val_main_v95, val_main_v94, val_main_v93, val_main_v92, val_main_v87, val_main_v86, val_main_v82, val_main_v81]
  simp only [dxn77 H, H.fg, rn55 H, y47 H, b91 H, ← EReal.coe_mul, ← EReal.coe_add]
  exact congrArg _ (dx_eq _ _ _ _)

theorem res96 : val_main_v96 x0 x1 x2 x3 x4 x5 x6 x7 x8 = Cert.KernelIdeal.Head.G4 D := by
  refine funext fun i => ?_
  rw [Cert.KernelIdeal.Head.eta2 i]
  exact dx96 H _ _

theorem res101 : val_main_v101 x0 x1 x2 x3 x4 x5 x6 x7 x8 = Cert.KernelIdeal.Head.G7 D := by
  refine funext fun i => ?_
  rw [Cert.KernelIdeal.Head.eta2 i]
  pointwise [val_main_v101]
  exact loss71 H

theorem res103 : val_main_v103 x0 x1 x2 x3 x4 x5 x6 x7 x8 = Cert.KernelIdeal.Head.G8 D := by
  refine funext fun i => ?_
  rw [Cert.KernelIdeal.Head.eta2 i]
  pointwise [val_main_v103, val_main_v102, val_main_cst_24]
  by_cases h : (i 0).val < 1
  · rw [dif_pos h, show (⟨(i 0).val, h⟩ : Fin 1) = 0 from Subsingleton.elim _ _]
    exact (dg80 H (i 1)).trans (congrArg _ (if_pos (by omega)).symm)
  · rw [dif_neg h]
    exact (EReal.coe_zero.symm).trans (congrArg _ (if_neg (by omega)).symm)

end Cert.ReferenceIdeal.Head
-- ==== Proof.HeadPre.lean ====
/-
  The precondition of the feed-forward call with the loss: finite arguments are arrays of real numbers.
-/
module

public import proofs.«01_k».proof.Defs
public import proofs.«01_k».proof.Proof.Gen.Pre_finite
public import proofs.«01_k».proof.Proof.HeadPoint

@[expose] public section

noncomputable section

namespace Cert.KernelIdeal.Head

open Cert.KernelIdeal Cert.KernelIdeal.Gen Idealize.ShloMosaic Idealize.ShloMosaic.TcCoe Cert.RealKit Cert.HeadMath

instance : Subsingleton S_.Idx := ⟨fun a b => funext fun k => k.elim0⟩

/-- Arguments that pass the test "every element is finite" hold real numbers. -/
theorem holds [Cert.Pre_finite.Facts] {m : (ℓ : Loc nD τ sig) → Buf (Elt Ideal) ℓ} (h : Cert.Pre_KernelIdeal_finite m) (c : Dev nD) :
    ∃ D, Holds m c D := by
  have e := congrFun (h c) ix0
  unfold Cert.Pre_finite.fn Cert.Pre_finite.fn_part1 Cert.Pre_finite.fn_part2 at e
  dsimp only at e
  obtain ⟨e, e8⟩ := (IntOp.andi_eq_one ..).mp e
  obtain ⟨e, e7⟩ := (IntOp.andi_eq_one ..).mp e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  obtain ⟨X7, h7⟩ := real_of_all _ _ _ _ _ _ _ e7
  obtain ⟨X8, h8⟩ := real_of_all _ _ _ _ _ _ _ e8
  exact ⟨⟨fun r d => X0 (ix2 r d), fun r d => X1 (ix2 r d), fun d => X2 (ix2 0 d), fun d => X3 (ix2 0 d), fun d => X4 (ix2 0 d),
      fun d => X5 (ix2 0 d), fun d k => X6 (ix2 d k), fun k d => X7 (ix2 k d), fun d => X8 (ix2 0 d)⟩,
    fun r d => congrFun h0 _, fun r d => congrFun h1 _, fun d => congrFun h2 _, fun d => congrFun h3 _, fun d => congrFun h4 _,
    fun d => congrFun h5 _, fun d k => congrFun h6 _, fun k d => congrFun h7 _, fun d => congrFun h8 _⟩

end Cert.KernelIdeal.Head
-- ==== Proof.MixModel.lean ====
/-
  The mixing sub-layer and its gradients over the reals: what each stage is at a row and a column.
-/
module

public import proofs.«01_k».proof.Proof.HeadTile

@[expose] public section

noncomputable section

namespace Cert.MixMath

open Cert.RealKit Cert.HeadMath

/-- Row `r` of tile `τ`. -/
def row (τ : Fin 16) (r : Fin 512) : Fin 8192 := ⟨512 * τ.val + r.val, by omega⟩
/-- Row `t` of chunk `k` within a tile. -/
def ck (k : Fin 4) (t : Fin 128) : Fin 512 := ⟨128 * k.val + t.val, by omega⟩
/-- Column `l` of group `g`. -/
abbrev cl (g : Fin 4) (l : Fin 128) : Fin 512 := ck g l
/-- Row `t` of chunk `n` among all rows. -/
def crow (n : Fin 64) (t : Fin 128) : Fin 8192 := ⟨128 * n.val + t.val, by omega⟩
/-- A row's chunk. -/
def chk (s : Fin 8192) : Fin 64 := ⟨s.val / 128, by omega⟩
/-- A row's place within its chunk. -/
def pos (s : Fin 8192) : Fin 128 := ⟨s.val % 128, by omega⟩
/-- A column's group. -/
def grp (e : Fin 512) : Fin 4 := ⟨e.val / 128, by omega⟩
/-- A column's place within its group. -/
def lane (e : Fin 512) : Fin 128 := ⟨e.val % 128, by omega⟩
/-- A column's head. -/
def hd (e : Fin 512) : Fin 8 := ⟨e.val / 64, by omega⟩
/-- Column `e` of head `hh`. -/
def hcol (hh : Fin 8) (e : Fin 64) : Fin 512 := ⟨64 * hh.val + e.val, by omega⟩
/-- Column `e` of the left half of the gating columns, and of the right half. -/
def lo (e : Fin 512) : Fin 1024 := ⟨e.val, by omega⟩
def hi (e : Fin 512) : Fin 1024 := ⟨512 + e.val, by omega⟩
/-- The projection's pooling columns, and its gating columns. -/
def pa (e : Fin 512) : Fin 1536 := ⟨e.val, by omega⟩
def pz (e : Fin 1024) : Fin 1536 := ⟨512 + e.val, by omega⟩

theorem ck_split (e : Fin 512) : e = ck (grp e) (lane e) := Fin.ext (by simp only [ck, grp, lane]; omega)
theorem exists_ck (e : Fin 512) : ∃ g l, e = ck g l := ⟨_, _, ck_split e⟩
theorem exists_half (e : Fin 1024) : (∃ a, e = lo a) ∨ ∃ a, e = hi a := by
  by_cases h : e.val < 512
  · exact .inl ⟨⟨e.val, h⟩, rfl⟩
  · exact .inr ⟨⟨e.val - 512, by omega⟩, Fin.ext (by simp only [hi]; omega)⟩
theorem exists_part (e : Fin 1536) : (∃ a, e = pa a) ∨ ∃ a, e = pz a := by
  by_cases h : e.val < 512
  · exact .inl ⟨⟨e.val, h⟩, rfl⟩
  · exact .inr ⟨⟨e.val - 512, by omega⟩, Fin.ext (by simp only [pz]; omega)⟩
theorem grp_ck (g : Fin 4) (l : Fin 128) : grp (ck g l) = g := Fin.ext (by simp only [ck, grp]; omega)
theorem lane_ck (g : Fin 4) (l : Fin 128) : lane (ck g l) = l := Fin.ext (by simp only [ck, lane]; omega)
theorem chk_crow (n : Fin 64) (t : Fin 128) : chk (crow n t) = n := Fin.ext (by simp only [crow, chk]; omega)
theorem pos_crow (n : Fin 64) (t : Fin 128) : pos (crow n t) = t := Fin.ext (by simp only [crow, pos]; omega)
theorem crow_split (s : Fin 8192) : s = crow (chk s) (pos s) := Fin.ext (by simp only [crow, chk, pos]; omega)
/-- Chunk `k` of tile `τ`. -/
def tch (τ : Fin 16) (k : Fin 4) : Fin 64 := ⟨4 * τ.val + k.val, by omega⟩
theorem row_ck (τ : Fin 16) (k : Fin 4) (t : Fin 128) : row τ (ck k t) = crow (tch τ k) t :=
  Fin.ext (by simp only [row, ck, crow, tch]; omega)

/-- The factor inside gelu's tangent, the rational its float word stands for. -/
def cg : ℝ := 13386282 / 2 ^ 24
/-- The cubic factor of gelu. -/
def ca : ℝ := 8943 / 200000
/-- Gelu's tangent. -/
def gt (y : ℝ) : ℝ := Real.tanh (cg * (y + ca * y * (y * y)))
/-- Gelu. -/
def gz (y : ℝ) : ℝ := 1 / 2 * y * (1 + gt y)
/-- Gelu's derivative. -/
def gd (y : ℝ) : ℝ := 1 / 2 * (1 + gt y) + 1 / 2 * y * (1 - gt y * gt y) * (cg * (1 + 26829 / 200000 * (y * y)))

/-- The arguments of the mixing sub-layer's backward pass. -/
structure In where
  x : Fin 8192 → Fin 1024 → ℝ
  g : Fin 8192 → Fin 1024 → ℝ
  sh : Fin 1024 → ℝ
  sc : Fin 1024 → ℝ
  ga : Fin 1024 → ℝ
  gn : Fin 1024 → ℝ
  win : Fin 1024 → Fin 1536 → ℝ
  wp : Fin 4 → Fin 128 → Fin 128 → ℝ
  ps : Fin 512 → ℝ
  lg : Fin 512 → ℝ
  lb : Fin 512 → ℝ
  ws : Fin 8 → Fin 128 → Fin 128 → ℝ
  bs : Fin 8 → Fin 128 → ℝ
  wout : Fin 1024 → Fin 1024 → ℝ

namespace In

variable (D : In)

/-- The modulated rows. -/
def h (s : Fin 8192) (d : Fin 1024) : ℝ := hid (D.x s) D.gn D.sc D.sh d
/-- The projection. -/
def proj (s : Fin 8192) (j : Fin 1536) : ℝ := ∑ d, D.h s d * D.win d j
/-- Its gating columns. -/
def zb (s : Fin 8192) (e : Fin 1024) : ℝ := D.proj s (pz e)
/-- The window of a pooling column. -/
def wd (e : Fin 512) : ℕ := 2 ^ (e.val / 128 + 1)
/-- How many rows a row's window holds. -/
def cnt (s : Fin 8192) (e : Fin 512) : ℝ := ((min (s.val + 1) (wd e) : ℕ) : ℝ)
/-- The running sum of a pooling column. -/
def cum (s : Fin 8192) (e : Fin 512) : ℝ := ∑ i, if i.val ≤ s.val then D.proj i (pa e) else 0
/-- The pooled rows: the window's mean less the row. -/
def pool (s : Fin 8192) (e : Fin 512) : ℝ :=
  (D.cum s e - if h : wd e ≤ s.val then D.cum ⟨s.val - wd e, by omega⟩ e else 0) / cnt s e - D.proj s (pa e)
/-- The pooled rows after the square weights. -/
def mixed (s : Fin 8192) (e : Fin 512) : ℝ := ∑ c, D.pool s (ck (grp e) c) * D.wp (grp e) c (lane e)
/-- The two halves of the gelu. -/
def u (s : Fin 8192) (e : Fin 512) : ℝ := gz (D.zb s (lo e))
def v (s : Fin 8192) (e : Fin 512) : ℝ := gz (D.zb s (hi e))
/-- The layer norm: mean, centred row, variance with the small term, reciprocal deviation, normalised row, result. -/
def mu (s : Fin 8192) : ℝ := (∑ e, D.v s e) / 512
def vc (s : Fin 8192) (e : Fin 512) : ℝ := D.v s e - D.mu s
def var (s : Fin 8192) : ℝ := (∑ e, D.vc s e * D.vc s e) / 512 + eps
def rs (s : Fin 8192) : ℝ := (Real.sqrt (D.var s))⁻¹
def vh (s : Fin 8192) (e : Fin 512) : ℝ := D.vc s e * D.rs s
def vl (s : Fin 8192) (e : Fin 512) : ℝ := D.vh s e * D.lg e + D.lb e
theorem var_pos (s : Fin 8192) : 0 < D.var s :=
  add_pos_of_nonneg_of_pos (div_nonneg (Finset.sum_nonneg fun e _ => mul_self_nonneg (D.vc s e)) (by norm_num)) eps_pos
/-- The spatial weight below the diagonal. -/
def wm (hh : Fin 8) (t q : Fin 128) : ℝ := if q.val ≤ t.val then D.ws hh t q else 0
/-- The spatially mixed rows. -/
def sv (s : Fin 8192) (e : Fin 512) : ℝ := (∑ q, D.wm (hd e) (pos s) q * D.vl (crow (chk s) q) e) + D.bs (hd e) (pos s)
/-- The concatenation the last weight reads. -/
def cat (s : Fin 8192) (j : Fin 1024) : ℝ :=
  if h : j.val < 512 then D.mixed s ⟨j.val, h⟩ * D.ps ⟨j.val, h⟩
  else D.u s ⟨j.val - 512, by omega⟩ * D.sv s ⟨j.val - 512, by omega⟩
theorem cat_lo (s : Fin 8192) (e : Fin 512) : D.cat s (lo e) = D.mixed s e * D.ps e := dif_pos e.isLt
theorem cat_hi (s : Fin 8192) (e : Fin 512) : D.cat s (hi e) = D.u s e * D.sv s e := by
  have he : (⟨(hi e).val - 512, by omega⟩ : Fin 512) = e := Fin.ext (by simp only [hi]; omega)
  unfold cat
  rw [dif_neg (by simp only [hi]; omega), he]

/-- The gated incoming gradient. -/
def gg (s : Fin 8192) (d : Fin 1024) : ℝ := D.g s d * D.ga d
/-- The gradient at the concatenation. -/
def dcat (s : Fin 8192) (j : Fin 1024) : ℝ := ∑ d, D.gg s d * D.wout j d
def dm (s : Fin 8192) (e : Fin 512) : ℝ := D.dcat s (lo e) * D.ps e
def dp (s : Fin 8192) (e : Fin 512) : ℝ := ∑ d, D.dm s (ck (grp e) d) * D.wp (grp e) (lane e) d
def q (s : Fin 8192) (e : Fin 512) : ℝ := D.dp s e / cnt s e
/-- The share at a row, none past the last. -/
def qx (n : ℕ) (e : Fin 512) : ℝ := if h : n < 8192 then D.q ⟨n, h⟩ e else 0
/-- The gradient at the pooling columns: each row gets a share of the windows it lies in. -/
def dxa (s : Fin 8192) (e : Fin 512) : ℝ :=
  (∑ k ∈ Finset.range (wd e), D.qx (s.val + k) e) - D.dp s e
def dyb (s : Fin 8192) (e : Fin 512) : ℝ := D.dcat s (hi e)
def du (s : Fin 8192) (e : Fin 512) : ℝ := D.dyb s e * D.sv s e
def dsv (s : Fin 8192) (e : Fin 512) : ℝ := D.dyb s e * D.u s e
def dvl (s : Fin 8192) (e : Fin 512) : ℝ := ∑ t, D.wm (hd e) t (pos s) * D.dsv (crow (chk s) t) e
def dvh (s : Fin 8192) (e : Fin 512) : ℝ := D.dvl s e * D.lg e
/-- The gradient at the layer norm's argument. -/
def dv (s : Fin 8192) (e : Fin 512) : ℝ :=
  D.rs s * (D.dvh s e - (∑ k, D.dvh s k) / 512 - D.vh s e * ((∑ k, D.dvh s k * D.vh s k) / 512))
/-- The gradient at the projection. -/
def dproj (s : Fin 8192) (j : Fin 1536) : ℝ :=
  if h : j.val < 512 then D.dxa s ⟨j.val, h⟩
  else if h' : j.val < 1024 then D.du s ⟨j.val - 512, by omega⟩ * gd (D.zb s ⟨j.val - 512, by omega⟩)
  else D.dv s ⟨j.val - 1024, by omega⟩ * gd (D.zb s ⟨j.val - 512, by omega⟩)
theorem dproj_pa (s : Fin 8192) (e : Fin 512) : D.dproj s (pa e) = D.dxa s e := dif_pos e.isLt
theorem dproj_lo (s : Fin 8192) (e : Fin 512) : D.dproj s (pz (lo e)) = D.du s e * gd (D.zb s (lo e)) := by
  have he : (⟨(pz (lo e)).val - 512, by simp only [pz, lo]; omega⟩ : Fin 512) = e := Fin.ext (by simp only [pz, lo]; omega)
  have he' : (⟨(pz (lo e)).val - 512, by omega⟩ : Fin 1024) = lo e := Fin.ext (by simp only [pz, lo]; omega)
  unfold dproj
  rw [dif_neg (by simp only [pz, lo]; omega), dif_pos (by simp only [pz, lo]; omega), he, he']
theorem dproj_hi (s : Fin 8192) (e : Fin 512) : D.dproj s (pz (hi e)) = D.dv s e * gd (D.zb s (hi e)) := by
  have he : (⟨(pz (hi e)).val - 1024, by omega⟩ : Fin 512) = e := Fin.ext (by simp only [pz, hi]; omega)
  have he' : (⟨(pz (hi e)).val - 512, by omega⟩ : Fin 1024) = hi e := Fin.ext (by simp only [pz, hi]; omega)
  unfold dproj
  rw [dif_neg (by simp only [pz, hi]; omega), dif_neg (by simp only [pz, hi]; omega), he, he']
def dh (s : Fin 8192) (d : Fin 1024) : ℝ := ∑ j, D.dproj s j * D.win d j
/-- The gradient at the normalised rows. -/
def dxn (s : Fin 8192) (d : Fin 1024) : ℝ := D.dh s d * (1 + D.sc d) * D.gn d
def xn (s : Fin 8192) (d : Fin 1024) : ℝ := D.x s d * rn (D.x s)
/-- The gradient of the input. -/
def dx (s : Fin 8192) (d : Fin 1024) : ℝ :=
  D.g s d + rn (D.x s) * (D.dxn s d - D.xn s d * ((∑ k, D.dxn s k * D.xn s k) / 1024))

end In

open Idealize.ShloMosaic in
/-- A small word as an integer. -/
theorem toInt_small {n : Nat} (h : n < 2 ^ 31) : (BitVec.ofNat 32 n).toInt = n := by
  rw [BitVec.toInt_eq_toNat_of_lt, BitVec.toNat_ofNat, Nat.mod_eq_of_lt (by omega)]
  rw [BitVec.toNat_ofNat]; omega

open Idealize.ShloMosaic in
/-- The lesser of two small words. -/
theorem minsi_small {n w : Nat} (hn : n < 2 ^ 31) (hw : w < 2 ^ 31) :
    IntOp.minsi (BitVec.ofNat 32 n) (BitVec.ofNat 32 w) = BitVec.ofNat 32 (min n w) := by
  unfold IntOp.minsi
  simp only [BitVec.slt, toInt_small hn, toInt_small hw, decide_eq_true_eq]
  split_ifs
  · rw [Nat.min_eq_left (by omega)]
  · rw [Nat.min_eq_right (by omega)]

open Idealize.ShloMosaic in
/-- A small word read as a float. -/
theorem sitofp_small {n : Nat} (h : n < 2 ^ 31) : (FloatOps.sitofp FTy.f32 (BitVec.ofNat 32 n) : Ideal .f32) = (((n : ℕ) : ℝ) : EReal) := by
  show (((BitVec.ofNat 32 n).toInt : ℝ) : EReal) = _
  rw [toInt_small h]
  norm_cast

end Cert.MixMath

end
-- ==== Proof.MixSum.lean ====
/-
  Running sums down the rows as the host prints them, read at an entry over the reals: from the first row down to a
  row, and from a row down to the last.
-/
module

public import proofs.«01_k».proof.Proof.MixModel

@[expose] public section

noncomputable section

namespace Cert.MixMath

open Idealize.ShloMosaic Cert.RealKit

theorem foldl_plus {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A fold over an array's positions in order is the sum over its indices. -/
theorem foldl_idx (W : Shape) (g : W.Idx → EReal) (v : EReal) :
    (List.finRange W.numel).foldl (fun r n => r + g (W.rowMajor.symm n)) v = v + ∑ w, g w := by
  rw [foldl_plus, ← Fin.sum_univ_def]
  exact congrArg (v + ·) (Equiv.sum_comp W.rowMajor.symm g)

/-- What a running sum holds at an index: the sum over the window's positions, the padding giving the initial value. -/
theorem window_at {s t U : Shape} (win st lo hi : Fin s.rank → Nat) (x : s.Idx → EReal) (init : U.Idx → EReal) (h : s.ReduceWindows win st lo hi t)
    (hu : 0 < U.numel) (h0 : ∀ z, init z = 0) (j : t.Idx) :
    Host.reduceWindowAdd (F := Ideal) (φ := .f32) win st lo hi x init h hu j
      = ∑ w : (⟨s.rank, win⟩ : Shape).Idx, if hin : ∀ a, lo a ≤ (j (a.cast h.1.symm)).val * st a + (w a).val ∧ (j (a.cast h.1.symm)).val * st a + (w a).val - lo a < s.size a
          then x (fun a => ⟨(j (a.cast h.1.symm)).val * st a + (w a).val - lo a, (hin a).2⟩) else 0 := by
  refine Eq.trans (show _ = Host.reduceWindow (· + ·) win st lo hi x (fun _ : (⟨0, ![]⟩ : Shape).Idx => init (Shape.Idx.first hu)) h (by decide) j from rfl) ?_
  unfold Host.reduceWindow
  dsimp only
  simp only [h0]
  refine Eq.trans ?_ ((foldl_idx (⟨s.rank, win⟩ : Shape) (fun w => if hin : ∀ a, lo a ≤ (j (a.cast h.1.symm)).val * st a + (w a).val ∧ (j (a.cast h.1.symm)).val * st a + (w a).val - lo a < s.size a
          then x (fun a => ⟨(j (a.cast h.1.symm)).val * st a + (w a).val - lo a, (hin a).2⟩) else 0) 0).trans (zero_add _))
  congr! 5

/-- The three axes of the arrays summed. -/
abbrev T3 : Shape := ⟨3, ![8192, 4, 128]⟩
/-- A window: all the rows of one column. -/
abbrev W3 : Shape := ⟨3, ![8192, 1, 1]⟩

theorem sum_w3 (g : W3.Idx → EReal) : ∑ w, g w = ∑ k : Fin 8192, g (ix3 k (0 : Fin 1) (0 : Fin 1)) := by
  have e : ∀ w : W3.Idx, ix3 (w 0) (0 : Fin 1) (0 : Fin 1) = w := fun w => funext fun a => by
    fin_cases a
    · rfl
    · exact Subsingleton.elim (α := Fin 1) _ _
    · exact Subsingleton.elim (α := Fin 1) _ _
  exact Finset.sum_nbij' (fun w => (w 0 : Fin 8192)) (fun k => ix3 k (0 : Fin 1) (0 : Fin 1)) (fun _ _ => Finset.mem_univ _) (fun _ _ => Finset.mem_univ _)
    (fun w _ => e w) (fun _ _ => rfl) (fun w _ => congrArg g (e w).symm)

/-- A pooled entry from the running sums as a program writes it. -/
theorem pool_at (D : In) (s : Fin 8192) (e : Fin 512) (w : ℕ) (hw : In.wd e = w) (h1 : 1 ≤ w) (h2 : w ≤ 16) (y z p : EReal)
    (hy : y = (D.cum s e : EReal)) (hp : p = (D.proj s (pa e) : EReal)) (hz : s.val < w → z = 0)
    (hz' : ∀ h : w ≤ s.val, z = (D.cum ⟨s.val - w, by omega⟩ e : EReal)) :
    Ideal.div (y - z) (FloatOps.sitofp FTy.f32 (IntOp.minsi (IntOp.addi (BitVec.ofNat 32 s.val) 1#32) (BitVec.ofNat 32 w)) : Ideal .f32)
      - p = (D.pool s e : EReal) := by
  subst hy hp
  have hc : ((min (s.val + 1) w : ℕ) : ℝ) ≠ 0 := by
    have : 0 < min (s.val + 1) w := by omega
    exact_mod_cast this.ne'
  have ez : z = ((if h : w ≤ s.val then D.cum ⟨s.val - w, by omega⟩ e else 0 : ℝ) : EReal) := by
    by_cases h : w ≤ s.val
    · rw [dif_pos h, hz' h]
    · rw [dif_neg h, hz (by omega), EReal.coe_zero]
  have ea : IntOp.addi (BitVec.ofNat 32 s.val) 1#32 = BitVec.ofNat 32 (s.val + 1) := (BitVec.ofNat_add ..).symm
  rw [ea, minsi_small (by omega) (by omega), sitofp_small (by omega), ez, ← EReal.coe_sub, div_real hc, ← EReal.coe_sub]
  subst hw
  rfl

variable {U : Shape} (x : T3.Idx → EReal) (init : U.Idx → EReal) (h0 : ∀ z, init z = 0) (hu : 0 < U.numel) (s : Fin 8192) (g : Fin 4) (l : Fin 128)
  (f : Fin 8192 → ℝ) (hf : ∀ i, x (ix3 i g l) = (f i : EReal))
include h0 hf

/-- The running sum from the first row. -/
theorem cumsum_at (h : T3.ReduceWindows (![8192, 1, 1] : Fin 3 → Nat) ![1, 1, 1] ![8191, 0, 0] ![0, 0, 0] T3) :
    Host.reduceWindowAdd (F := Ideal) (s := T3) (t := T3) (φ := .f32) ![8192, 1, 1] ![1, 1, 1] ![8191, 0, 0] ![0, 0, 0] x init h hu (ix3 s g l)
      = ((∑ i, if i.val ≤ s.val then f i else 0 : ℝ) : EReal) := by
  refine (window_at (s := T3) (t := T3) _ _ _ _ x init h hu h0 (ix3 s g l)).trans ((sum_w3 _).trans ?_)
  have hk : ∀ k : Fin 8192, (if hin : ∀ a : Fin 3, (![8191, 0, 0] : Fin 3 → Nat) a ≤ ((ix3 s g l : T3.Idx) a).val * (![1, 1, 1] : Fin 3 → Nat) a + ((ix3 k (0 : Fin 1) (0 : Fin 1) : W3.Idx) a).val
      ∧ ((ix3 s g l : T3.Idx) a).val * (![1, 1, 1] : Fin 3 → Nat) a + ((ix3 k (0 : Fin 1) (0 : Fin 1) : W3.Idx) a).val - (![8191, 0, 0] : Fin 3 → Nat) a < T3.size a
      then x (fun a => ⟨_, (hin a).2⟩) else 0)
      = ((if hh : 8191 ≤ s.val + k.val then f ⟨s.val + k.val - 8191, by omega⟩ else 0 : ℝ) : EReal) := fun k => by
    by_cases hh : 8191 ≤ s.val + k.val
    · rw [dif_pos hh, ← hf, dif_pos (fun a => by
        match a with
        | ⟨0, _⟩ => show 8191 ≤ s.val * 1 + k.val ∧ s.val * 1 + k.val - 8191 < 8192; omega
        | ⟨1, _⟩ => show 0 ≤ g.val * 1 + 0 ∧ g.val * 1 + 0 - 0 < 4; omega
        | ⟨2, _⟩ => show 0 ≤ l.val * 1 + 0 ∧ l.val * 1 + 0 - 0 < 128; omega)]
      refine congrArg x (funext fun a => Fin.ext ?_)
      match a with
      | ⟨0, _⟩ => show s.val * 1 + k.val - 8191 = s.val + k.val - 8191; omega
      | ⟨1, _⟩ => show g.val * 1 + 0 - 0 = g.val; omega
      | ⟨2, _⟩ => show l.val * 1 + 0 - 0 = l.val; omega
    · rw [dif_neg hh, dif_neg (fun hin => hh (by
        have h1 : 8191 ≤ s.val * 1 + k.val := (hin 0).1
        omega)), EReal.coe_zero]
  refine (Finset.sum_congr rfl fun k _ => hk k).trans ((coe_sum _ _).trans (congrArg _ ?_))
  rw [← Finset.sum_filter_add_sum_filter_not Finset.univ (fun k : Fin 8192 => 8191 ≤ s.val + k.val), add_comm,
    Finset.sum_eq_zero (fun k hkk => dif_neg (Finset.mem_filter.1 hkk).2), zero_add, ← Finset.sum_filter]
  exact Finset.sum_bij' (fun k hkk => ⟨s.val + k.val - 8191, by omega⟩) (fun i hi => ⟨i.val + 8191 - s.val, by have := (Finset.mem_filter.1 hi).2; omega⟩)
    (fun k hkk => Finset.mem_filter.2 ⟨Finset.mem_univ _, show s.val + k.val - 8191 ≤ s.val by omega⟩)
    (fun i hi => Finset.mem_filter.2 ⟨Finset.mem_univ _, show 8191 ≤ s.val + (i.val + 8191 - s.val) by omega⟩)
    (fun k hkk => by have := (Finset.mem_filter.1 hkk).2; exact Fin.ext (by dsimp; omega))
    (fun i hi => by have := (Finset.mem_filter.1 hi).2; exact Fin.ext (by dsimp; omega))
    (fun k hkk => dif_pos (Finset.mem_filter.1 hkk).2)

/-- The running sum up from the last row. -/
theorem cumsum_back_at (h : T3.ReduceWindows (![8192, 1, 1] : Fin 3 → Nat) ![1, 1, 1] ![0, 0, 0] ![8191, 0, 0] T3) :
    Host.reduceWindowAdd (F := Ideal) (s := T3) (t := T3) (φ := .f32) ![8192, 1, 1] ![1, 1, 1] ![0, 0, 0] ![8191, 0, 0] x init h hu (ix3 s g l)
      = ((∑ i, if s.val ≤ i.val then f i else 0 : ℝ) : EReal) := by
  refine (window_at (s := T3) (t := T3) _ _ _ _ x init h hu h0 (ix3 s g l)).trans ((sum_w3 _).trans ?_)
  have hk : ∀ k : Fin 8192, (if hin : ∀ a : Fin 3, (![0, 0, 0] : Fin 3 → Nat) a ≤ ((ix3 s g l : T3.Idx) a).val * (![1, 1, 1] : Fin 3 → Nat) a + ((ix3 k (0 : Fin 1) (0 : Fin 1) : W3.Idx) a).val
      ∧ ((ix3 s g l : T3.Idx) a).val * (![1, 1, 1] : Fin 3 → Nat) a + ((ix3 k (0 : Fin 1) (0 : Fin 1) : W3.Idx) a).val - (![0, 0, 0] : Fin 3 → Nat) a < T3.size a
      then x (fun a => ⟨_, (hin a).2⟩) else 0)
      = ((if hh : s.val + k.val < 8192 then f ⟨s.val + k.val, hh⟩ else 0 : ℝ) : EReal) := fun k => by
    by_cases hh : s.val + k.val < 8192
    · rw [dif_pos hh, ← hf, dif_pos (fun a => by
        match a with
        | ⟨0, _⟩ => show 0 ≤ s.val * 1 + k.val ∧ s.val * 1 + k.val - 0 < 8192; omega
        | ⟨1, _⟩ => show 0 ≤ g.val * 1 + 0 ∧ g.val * 1 + 0 - 0 < 4; omega
        | ⟨2, _⟩ => show 0 ≤ l.val * 1 + 0 ∧ l.val * 1 + 0 - 0 < 128; omega)]
      refine congrArg x (funext fun a => Fin.ext ?_)
      match a with
      | ⟨0, _⟩ => show s.val * 1 + k.val - 0 = s.val + k.val; omega
      | ⟨1, _⟩ => show g.val * 1 + 0 - 0 = g.val; omega
      | ⟨2, _⟩ => show l.val * 1 + 0 - 0 = l.val; omega
    · rw [dif_neg hh, dif_neg (fun hin => hh (by
        have h1 : s.val * 1 + k.val - 0 < 8192 := (hin 0).2
        omega)), EReal.coe_zero]
  refine (Finset.sum_congr rfl fun k _ => hk k).trans ((coe_sum _ _).trans (congrArg _ ?_))
  rw [← Finset.sum_filter_add_sum_filter_not Finset.univ (fun k : Fin 8192 => s.val + k.val < 8192), add_comm,
    Finset.sum_eq_zero (fun k hkk => dif_neg (Finset.mem_filter.1 hkk).2), zero_add, ← Finset.sum_filter]
  exact Finset.sum_bij' (fun k hkk => ⟨s.val + k.val, (Finset.mem_filter.1 hkk).2⟩) (fun i hi => ⟨i.val - s.val, by omega⟩)
    (fun k hkk => Finset.mem_filter.2 ⟨Finset.mem_univ _, show s.val ≤ s.val + k.val by omega⟩)
    (fun i hi => Finset.mem_filter.2 ⟨Finset.mem_univ _, show s.val + (i.val - s.val) < 8192 by have := (Finset.mem_filter.1 hi).2; omega⟩)
    (fun k hkk => by have := (Finset.mem_filter.1 hkk).2; exact Fin.ext (by dsimp; omega))
    (fun i hi => by have := (Finset.mem_filter.1 hi).2; exact Fin.ext (by dsimp; omega))
    (fun k hkk => dif_pos (Finset.mem_filter.1 hkk).2)

end Cert.MixMath

end
-- ==== Proof.MixKit.lean ====
/-
  Reading buffers that are filled by several stores: the contents are nested writes of windows, and a load of a window
  is one window's payload or skips it.
-/
module

public import proofs.«01_k».proof.Proof.Gen.Kernel2Ideal.Value
public import Idealize.ShloMosaic.Lib.VecWindow

@[expose] public section

noncomputable section

namespace Cert.Kernel2Ideal.Mix

open Cert.Kernel2Ideal Cert.Kernel2Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {sig : RefSig} {κ : Kind} {sp : Space} {s : Shape} {e : EltTy} {Val : EltTy → Type}

/-- The last of several stores is a window put over what the earlier ones left. -/
theorem read_put (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A covered load is a load of what the stores leave. -/
theorem cov_ld [∀ e, Nonempty (Val e)] (v : View sig κ sp s e) (L : List (View.Piece Val s e)) (r : Rect s) :
    v.readCov L r.toLoadRect = View.ld (v.read Val (v.writes Val v.junk L)) r := View.readAt_eq_ld ..

/-- A window put and then loaded is its payload. -/
theorem ld_put_same (x : s.Idx → Val e) {off size : Fin s.rank → ℕ} (inb : ∀ a, off a + size a ≤ s.size a)
    (w : (Rect.unit off size inb).shape.Idx → Val e) :
    View.ld (Val := Val) (VecWindow.put x off size w) (Rect.unit off size inb) = w := VecWindow.window_put_same x off size inb w

/-- A window apart from the one just put reads what was there before. -/
theorem ld_put_ne (x : s.Idx → Val e) {off size off' size' : Fin s.rank → ℕ} (inb' : ∀ a, off' a + size' a ≤ s.size a)
    (w : ((a : Fin s.rank) → Fin (size a)) → Val e) (h : ∃ a, off' a + size' a ≤ off a ∨ off a + size a ≤ off' a) :
    View.ld (Val := Val) (VecWindow.put x off size w) (Rect.unit off' size' inb') = View.ld (Val := Val) x (Rect.unit off' size' inb') :=
  h.elim fun a ha => VecWindow.window_put_of_disjoint x off size off' size' inb' w a ha
end

section
variable {α : Type} {s : Shape}

/-- A window of the whole shape hides what was there. -/
theorem put_whole {x : s.Idx → α} {off : Fin s.rank → ℕ} (h : off = fun _ => 0) (w : s.Idx → α) :
    VecWindow.put x off s.size w = w := by
  subst h
  funext y
  unfold VecWindow.put
  rw [dif_pos fun a => ⟨Nat.zero_le _, by have := (y a).isLt; omega⟩]
  exact congrArg w (funext fun a => Fin.ext (Nat.sub_zero _))

theorem putw_tile (x w : S512x1024.Idx → α) : VecWindow.put x ![0, 0] ![512, 1024] w = w := put_whole hz2 w
theorem putw_win (x w : S1024x1536.Idx → α) : VecWindow.put x ![0, 0] ![1024, 1536] w = w := put_whole hz2 w
theorem putw_wout (x w : S1024x1024.Idx → α) : VecWindow.put x ![0, 0] ![1024, 1024] w = w := put_whole hz2 w
theorem putw_wpool (x w : S4x128x128.Idx → α) : VecWindow.put x ![0, 0, 0] ![4, 128, 128] w = w := put_whole hz3 w
theorem putw_ws (x w : S8x128x128.Idx → α) : VecWindow.put x ![0, 0, 0] ![8, 128, 128] w = w := put_whole hz3 w
theorem putw_bs (x w : S8x128.Idx → α) : VecWindow.put x ![0, 0] ![8, 128] w = w := put_whole hz2 w
theorem putw_v512 (x w : S8x512.Idx → α) : VecWindow.put x ![0, 0] ![8, 512] w = w := put_whole hz2 w
theorem putw_v1024 (x w : S8x1024.Idx → α) : VecWindow.put x ![0, 0] ![8, 1024] w = w := put_whole hz2 w
theorem putw_acc (x w : S128x512.Idx → α) : VecWindow.put x ![0, 0] ![128, 512] w = w := put_whole hz2 w
end

end Cert.Kernel2Ideal.Mix
-- ==== Proof.MixRun.lean ====
/-
  What the mixing sub-layer's backward call leaves in each of its buffers after each point of its grid, as the payloads
  of its body over the blocks the point reads.
-/
module

public import proofs.«01_k».proof.Proof.MixKit
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

/-- The blocks one point reads. -/
structure Blk (F : FTy → Type) where
  /-- rows of the input -/
  x : Vec F S512x1024 .f32
  /-- rows of the incoming gradient -/
  g : Vec F S512x1024 .f32
  /-- rows of the saved pooled values -/
  pooled : Vec F S512x512 .bf16
  /-- rows of the saved gating half of the projection -/
  zb : Vec F S512x1024 .f32
  /-- the modulation rows -/
  mod : Vec F S8x1024 .f32
  /-- the first weight -/
  win : Vec F S1024x1536 .bf16
  /-- the square weights -/
  wpool : Vec F S4x128x128 .bf16
  /-- the pooling scale and the layer norm's gain and shift -/
  vec : Vec F S8x512 .f32
  /-- the spatial weights, two heads side by side -/
  wcat : Vec F S4x128x256 .bf16
  /-- their transposes, two heads side by side -/
  wtcat : Vec F S4x128x256 .bf16
  /-- the spatial bias, spread over the columns -/
  bias : Vec F S128x512 .f32
  /-- the last weight -/
  wout : Vec F S1024x1024 .bf16

variable {F : FTy → Type} [FloatOps F] [Named F]

/-- The gain row. -/
def Blk.gn (b : Blk F) : Vec F S1x1024 .f32 :=
  k0_pay27 (View.ld b.mod (Rect.unit (s := S8x1024) ![3, 0] S1x1024.size inb_S8x1024_S1x1024_3_0))

/-- The scale row. -/
def Blk.sc (b : Blk F) : Vec F S1x1024 .f32 :=
  k0_pay28 (View.ld b.mod (Rect.unit (s := S8x1024) ![1, 0] S1x1024.size inb_S8x1024_S1x1024_1_0))

/-- The gate row. -/
def Blk.gate (b : Blk F) : Vec F S1x1024 .f32 :=
  k0_pay29 (View.ld b.mod (Rect.unit (s := S8x1024) ![2, 0] S1x1024.size inb_S8x1024_S1x1024_2_0))

/-- The packed layer-norm and pooling vectors. -/
def Blk.vecs (b : Blk F) : Vec F S8x512 .f32 :=
  k0_pay30 b.vec

/-- The normalised, modulated rows, as the products read them. -/
def Blk.h (b : Blk F) : Vec F S512x1024 .bf16 :=
  k0_pay34 (View.ld b.mod (Rect.unit (s := S8x1024) ![3, 0] S1x1024.size inb_S8x1024_S1x1024_3_0)) (View.ld b.mod (Rect.unit (s := S8x1024) ![1, 0] S1x1024.size inb_S8x1024_S1x1024_1_0)) (View.ld b.mod (Rect.unit (s := S8x1024) ![0, 0] S1x1024.size inb_S8x1024_S1x1024_0_0)) b.x

/-- The normalised rows times the gain. -/
def Blk.hp (b : Blk F) : Vec F S512x1024 .f32 :=
  k0_pay33 (View.ld b.mod (Rect.unit (s := S8x1024) ![3, 0] S1x1024.size inb_S8x1024_S1x1024_3_0)) b.x

/-- The pooled rows after each group's square weight. -/
def Blk.mixed (b : Blk F) : Vec F S512x512 .f32 :=
  k0_pay36 b.pooled (View.ld b.wpool (Rect.unit (s := S4x128x128) ![0, 0, 0] S1x128x128.size inb_S4x128x128_S1x128x128_0_0_0)) (View.ld b.wpool (Rect.unit (s := S4x128x128) ![1, 0, 0] S1x128x128.size inb_S4x128x128_S1x128x128_1_0_0)) (View.ld b.wpool (Rect.unit (s := S4x128x128) ![2, 0, 0] S1x128x128.size inb_S4x128x128_S1x128x128_2_0_0)) (View.ld b.wpool (Rect.unit (s := S4x128x128) ![3, 0, 0] S1x128x128.size inb_S4x128x128_S1x128x128_3_0_0))

/-- The gelu of the gating half. -/
def Blk.z (b : Blk F) : Vec F S512x1024 .f32 :=
  k0_pay41 b.zb

/-- The derivative of the gelu of the gating half. -/
def Blk.dz (b : Blk F) : Vec F S512x1024 .f32 :=
  k0_pay43 (k0_pay38 b.zb) (k0_pay39 b.zb) (k0_pay40 b.zb) (k0_pay42 b.zb)

/-- The left half of the gelu. -/
def Blk.u (b : Blk F) : Vec F S512x512 .f32 :=
  k0_pay44 b.z

/-- The layer norm's reciprocal deviations. -/
def Blk.rstd (b : Blk F) : Vec F S512x1 .f32 :=
  k0_pay46 b.z

/-- The layer norm before its gain. -/
def Blk.vhat (b : Blk F) : Vec F S512x512 .f32 :=
  k0_pay47 b.z

/-- The layer norm. -/
def Blk.vl (b : Blk F) : Vec F S512x512 .f32 :=
  k0_pay48 b.vecs b.z

/-- The spatially mixed columns of the first pair of heads. -/
def Blk.sv0 (b : Blk F) : Vec F S512x128 .f32 :=
  k0_pay54 (k0_pay49 b.vecs b.z) (k0_pay50 b.vecs b.z) (k0_pay51 b.vecs b.z) (k0_pay52 b.vecs b.z) k0_pay53 (FloatOps.ofBits FTy.f32 0#32) (View.ld b.wcat (Rect.unit (s := S4x128x256) ![0, 0, 0] S1x128x256.size inb_S4x128x256_S1x128x256_0_0_0)) (View.ld b.bias (Rect.unit (s := S128x512) ![0, 0] S128x128.size inb_S128x512_S128x128_0_0))

/-- The spatially mixed columns of the second pair of heads. -/
def Blk.sv1 (b : Blk F) : Vec F S512x128 .f32 :=
  k0_pay62 (k0_pay55 b.vl) (k0_pay56 b.vl) (k0_pay57 b.vl) (k0_pay58 b.vl) k0_pay59 (k0_pay60 b.vl) k0_pay61 (View.ld b.wcat (Rect.unit (s := S4x128x256) ![1, 0, 0] S1x128x256.size inb_S4x128x256_S1x128x256_1_0_0)) (View.ld b.bias (Rect.unit (s := S128x512) ![0, 128] S128x128.size inb_S128x512_S128x128_0_128))

/-- The spatially mixed columns of the third pair of heads. -/
def Blk.sv2 (b : Blk F) : Vec F S512x128 .f32 :=
  k0_pay71 (k0_pay63 b.vl) (k0_pay64 b.vl) (k0_pay65 b.vl) (k0_pay66 b.vl) k0_pay67 (k0_pay68 b.vl) (k0_pay69 b.vl) (k0_pay70 b.vl) (View.ld b.wcat (Rect.unit (s := S4x128x256) ![2, 0, 0] S1x128x256.size inb_S4x128x256_S1x128x256_2_0_0)) (View.ld b.bias (Rect.unit (s := S128x512) ![0, 256] S128x128.size inb_S128x512_S128x128_0_256))

/-- The spatially mixed rows. -/
def Blk.sv (b : Blk F) : Vec F S512x512 .f32 :=
  k0_pay78 b.sv0 b.sv1 b.sv2 (k0_pay72 b.vl) (k0_pay73 b.vl) (k0_pay74 b.vl) (k0_pay75 b.vl) k0_pay76 (k0_pay77 b.vl) (View.ld b.wcat (Rect.unit (s := S4x128x256) ![3, 0, 0] S1x128x256.size inb_S4x128x256_S1x128x256_3_0_0)) (View.ld b.bias (Rect.unit (s := S128x512) ![0, 384] S128x128.size inb_S128x512_S128x128_0_384))

/-- The gated incoming gradient. -/
def Blk.gg (b : Blk F) : Vec F S512x1024 .bf16 :=
  k0_pay80 b.gate b.g

/-- The gradient at the gating branch. -/
def Blk.dyb (b : Blk F) : Vec F S512x512 .f32 :=
  k0_pay84 b.gg (k0_pay81 b.wout)

/-- The gradient at the pooled rows' product. -/
def Blk.dmixed (b : Blk F) : Vec F S512x512 .bf16 :=
  k0_pay86 (k0_pay37 b.vecs) b.gg (k0_pay81 b.wout)

/-- The gradient at the first group's pooled rows. -/
def Blk.dp0 (b : Blk F) : Vec F S512x128 .f32 :=
  k0_pay88 (k0_pay37 b.vecs) b.gg (k0_pay81 b.wout) (View.ld b.wpool (Rect.unit (s := S4x128x128) ![0, 0, 0] S1x128x128.size inb_S4x128x128_S1x128x128_0_0_0))

/-- The gradient at the second group's pooled rows. -/
def Blk.dp1 (b : Blk F) : Vec F S512x128 .f32 :=
  k0_pay92 b.dmixed (View.ld b.wpool (Rect.unit (s := S4x128x128) ![1, 0, 0] S1x128x128.size inb_S4x128x128_S1x128x128_1_0_0))

/-- The gradient at the third group's pooled rows. -/
def Blk.dp2 (b : Blk F) : Vec F S512x128 .f32 :=
  k0_pay95 b.dmixed (View.ld b.wpool (Rect.unit (s := S4x128x128) ![2, 0, 0] S1x128x128.size inb_S4x128x128_S1x128x128_2_0_0))

/-- The gradient at the fourth group's pooled rows. -/
def Blk.dp3 (b : Blk F) : Vec F S512x128 .f32 :=
  k0_pay101 b.dmixed (View.ld b.wpool (Rect.unit (s := S4x128x128) ![3, 0, 0] S1x128x128.size inb_S4x128x128_S1x128x128_3_0_0))

/-- The first group's gradient over the window lengths. -/
def Blk.q0 (b : Blk F) (v0 : BitVec 32) : Vec F S512x128 .f32 :=
  k0_pay91 (k0_pay90 v0 (k0_pay37 b.vecs) b.gg (k0_pay81 b.wout) (View.ld b.wpool (Rect.unit (s := S4x128x128) ![0, 0, 0] S1x128x128.size inb_S4x128x128_S1x128x128_0_0_0)))

/-- The second group's gradient over the window lengths. -/
def Blk.q1 (b : Blk F) (v0 : BitVec 32) : Vec F S512x128 .f32 :=
  k0_pay94 b.dmixed (k0_pay87 v0) (View.ld b.wpool (Rect.unit (s := S4x128x128) ![1, 0, 0] S1x128x128.size inb_S4x128x128_S1x128x128_1_0_0))

/-- The third group's gradient over the window lengths. -/
def Blk.q2 (b : Blk F) (v0 : BitVec 32) : Vec F S512x128 .f32 :=
  k0_pay100 (k0_pay87 v0) b.dp2

/-- The fourth group's gradient over the window lengths. -/
def Blk.q3 (b : Blk F) (v0 : BitVec 32) : Vec F S512x128 .f32 :=
  k0_pay104 (k0_pay103 b.dmixed (k0_pay87 v0) (View.ld b.wpool (Rect.unit (s := S4x128x128) ![3, 0, 0] S1x128x128.size inb_S4x128x128_S1x128x128_3_0_0)))

/-- The row buffer after the stores of one group. -/
def Blk.buf0 (b : Blk F) (v0 : BitVec 32) (hal : Vec F S528x512 .f32) : Vec F S528x512 .f32 :=
  VecWindow.put (s := S528x512) (hal) ![0, 0] S512x128.size (b.q0 v0)

/-- The row buffer after the stores of two groups. -/
def Blk.buf1 (b : Blk F) (v0 : BitVec 32) (hal : Vec F S528x512 .f32) : Vec F S528x512 .f32 :=
  VecWindow.put (s := S528x512) (b.buf0 v0 hal) ![0, 128] S512x128.size (b.q1 v0)

/-- The row buffer after the stores of three groups. -/
def Blk.buf2 (b : Blk F) (v0 : BitVec 32) (hal : Vec F S528x512 .f32) : Vec F S528x512 .f32 :=
  VecWindow.put (s := S528x512) (b.buf1 v0 hal) ![0, 256] S512x128.size (b.q2 v0)

/-- The row buffer after the stores of all groups. -/
def Blk.buf3 (b : Blk F) (v0 : BitVec 32) (hal : Vec F S528x512 .f32) : Vec F S528x512 .f32 :=
  VecWindow.put (s := S528x512) (b.buf2 v0 hal) ![0, 384] S512x128.size (b.q3 v0)

/-- The gradient at the first group's rows. -/
def Blk.dxa0 (b : Blk F) (v0 : BitVec 32) (hal : Vec F S528x512 .f32) : Vec F S512x128 .f32 :=
  k0_pay105 b.dp0 (b.q0 v0) (View.ld (b.buf0 v0 hal) (Rect.unit (s := S528x512) ![1, 0] S512x128.size inb_S528x512_S512x128_1_0))

/-- The gradient at the second group's rows. -/
def Blk.dxa1 (b : Blk F) (v0 : BitVec 32) (hal : Vec F S528x512 .f32) : Vec F S512x128 .f32 :=
  k0_pay106 b.dp1 (b.q1 v0) (View.ld (b.buf1 v0 hal) (Rect.unit (s := S528x512) ![1, 128] S512x128.size inb_S528x512_S512x128_1_128)) (View.ld (b.buf1 v0 hal) (Rect.unit (s := S528x512) ![2, 128] S512x128.size inb_S528x512_S512x128_2_128)) (View.ld (b.buf1 v0 hal) (Rect.unit (s := S528x512) ![3, 128] S512x128.size inb_S528x512_S512x128_3_128))

/-- The gradient at the third group's rows. -/
def Blk.dxa2 (b : Blk F) (v0 : BitVec 32) (hal : Vec F S528x512 .f32) : Vec F S512x128 .f32 :=
  k0_pay108 b.dp2 (k0_pay107 (b.q2 v0) (View.ld (b.buf2 v0 hal) (Rect.unit (s := S528x512) ![1, 256] S512x128.size inb_S528x512_S512x128_1_256)) (View.ld (b.buf2 v0 hal) (Rect.unit (s := S528x512) ![2, 256] S512x128.size inb_S528x512_S512x128_2_256)) (View.ld (b.buf2 v0 hal) (Rect.unit (s := S528x512) ![3, 256] S512x128.size inb_S528x512_S512x128_3_256)) (View.ld (b.buf2 v0 hal) (Rect.unit (s := S528x512) ![4, 256] S512x128.size inb_S528x512_S512x128_4_256)) (View.ld (b.buf2 v0 hal) (Rect.unit (s := S528x512) ![5, 256] S512x128.size inb_S528x512_S512x128_5_256)) (View.ld (b.buf2 v0 hal) (Rect.unit (s := S528x512) ![6, 256] S512x128.size inb_S528x512_S512x128_6_256)) (View.ld (b.buf2 v0 hal) (Rect.unit (s := S528x512) ![7, 256] S512x128.size inb_S528x512_S512x128_7_256)))

/-- The gradient at the fourth group's rows. -/
def Blk.dxa3 (b : Blk F) (v0 : BitVec 32) (hal : Vec F S528x512 .f32) : Vec F S512x128 .f32 :=
  k0_pay110 b.dp3 (k0_pay109 (b.q3 v0) (View.ld (b.buf3 v0 hal) (Rect.unit (s := S528x512) ![1, 384] S512x128.size inb_S528x512_S512x128_1_384)) (View.ld (b.buf3 v0 hal) (Rect.unit (s := S528x512) ![2, 384] S512x128.size inb_S528x512_S512x128_2_384)) (View.ld (b.buf3 v0 hal) (Rect.unit (s := S528x512) ![3, 384] S512x128.size inb_S528x512_S512x128_3_384)) (View.ld (b.buf3 v0 hal) (Rect.unit (s := S528x512) ![4, 384] S512x128.size inb_S528x512_S512x128_4_384)) (View.ld (b.buf3 v0 hal) (Rect.unit (s := S528x512) ![5, 384] S512x128.size inb_S528x512_S512x128_5_384)) (View.ld (b.buf3 v0 hal) (Rect.unit (s := S528x512) ![6, 384] S512x128.size inb_S528x512_S512x128_6_384)) (View.ld (b.buf3 v0 hal) (Rect.unit (s := S528x512) ![7, 384] S512x128.size inb_S528x512_S512x128_7_384)) (View.ld (b.buf3 v0 hal) (Rect.unit (s := S528x512) ![8, 384] S512x128.size inb_S528x512_S512x128_8_384)) (View.ld (b.buf3 v0 hal) (Rect.unit (s := S528x512) ![9, 384] S512x128.size inb_S528x512_S512x128_9_384)) (View.ld (b.buf3 v0 hal) (Rect.unit (s := S528x512) ![10, 384] S512x128.size inb_S528x512_S512x128_10_384)) (View.ld (b.buf3 v0 hal) (Rect.unit (s := S528x512) ![11, 384] S512x128.size inb_S528x512_S512x128_11_384)) (View.ld (b.buf3 v0 hal) (Rect.unit (s := S528x512) ![12, 384] S512x128.size inb_S528x512_S512x128_12_384)) (View.ld (b.buf3 v0 hal) (Rect.unit (s := S528x512) ![13, 384] S512x128.size inb_S528x512_S512x128_13_384)) (View.ld (b.buf3 v0 hal) (Rect.unit (s := S528x512) ![14, 384] S512x128.size inb_S528x512_S512x128_14_384))) (View.ld (b.buf3 v0 hal) (Rect.unit (s := S528x512) ![15, 384] S512x128.size inb_S528x512_S512x128_15_384))

/-- The gradient at the left half of the gelu. -/
def Blk.du (b : Blk F) : Vec F S512x512 .f32 :=
  k0_pay112 b.sv b.dyb

/-- The gradient at the spatially mixed rows. -/
def Blk.dsv (b : Blk F) : Vec F S512x512 .f32 :=
  k0_pay113 b.u b.dyb

/-- The gradient at the first pair's layer norm. -/
def Blk.dvl0 (b : Blk F) : Vec F S512x128 .f32 :=
  k0_pay128 (k0_pay116 b.u b.dyb) (k0_pay117 b.u b.dyb) k0_pay123 (k0_pay124 b.u b.dyb) (k0_pay125 b.u b.dyb) (k0_pay126 b.u b.dyb) (View.ld b.wtcat (Rect.unit (s := S4x128x256) ![0, 0, 0] S1x128x256.size inb_S4x128x256_S1x128x256_0_0_0))

/-- The gradient at the second pair's layer norm. -/
def Blk.dvl1 (b : Blk F) : Vec F S512x128 .f32 :=
  k0_pay144 (k0_pay132 b.dsv) (k0_pay133 b.dsv) (k0_pay134 b.dsv) (k0_pay135 b.dsv) (View.ld b.wtcat (Rect.unit (s := S4x128x256) ![1, 0, 0] S1x128x256.size inb_S4x128x256_S1x128x256_1_0_0))

/-- The gradient at the third pair's layer norm. -/
def Blk.dvl2 (b : Blk F) : Vec F S512x128 .f32 :=
  k0_pay160 (k0_pay148 b.dsv) (k0_pay149 b.dsv) (k0_pay150 b.dsv) (k0_pay151 b.dsv) k0_pay157 (FloatOps.ofBits FTy.f32 0#32) (View.ld b.wtcat (Rect.unit (s := S4x128x256) ![2, 0, 0] S1x128x256.size inb_S4x128x256_S1x128x256_2_0_0))

/-- The gradient at the layer norm. -/
def Blk.dvl (b : Blk F) : Vec F S512x512 .f32 :=
  k0_pay182 b.dvl0 b.dvl1 b.dvl2 (k0_pay167 b.dsv) k0_pay173 (k0_pay174 b.dsv) (k0_pay175 b.dsv) (k0_pay176 b.dsv) (k0_pay177 b.dsv) (View.ld b.wtcat (Rect.unit (s := S4x128x256) ![3, 0, 0] S1x128x256.size inb_S4x128x256_S1x128x256_3_0_0))

/-- The gradient at the projection. -/
def Blk.dproj (b : Blk F) (v0 : BitVec 32) (hal : Vec F S528x512 .f32) : Vec F S512x1536 .bf16 :=
  k0_pay187 b.vecs b.dz b.rstd b.vhat (b.dxa0 v0 hal) (b.dxa1 v0 hal) (b.dxa2 v0 hal) (b.dxa3 v0 hal) b.du b.dvl

/-- The point's rows of the gradient of the input. -/
def Blk.dx (b : Blk F) (v0 : BitVec 32) (hal : Vec F S528x512 .f32) : Vec F S512x1024 .f32 :=
  k0_pay1 b.g (k0_pay192 b.gn b.sc (k0_pay31 b.x) (k0_pay32 b.x) (b.dproj v0 hal) (k0_pay189 b.win))

/-- The gradient of the first weight after the point. -/
def Blk.dwin (b : Blk F) (v0 : BitVec 32) (hal : Vec F S528x512 .f32) (o : Vec F S1024x1536 .f32) : Vec F S1024x1536 .f32 :=
  k0_pay188 b.vecs b.h b.dz b.rstd b.vhat (b.dxa0 v0 hal) (b.dxa1 v0 hal) (b.dxa2 v0 hal) (b.dxa3 v0 hal) b.du b.dvl o

/-- The gradient of the last weight after the point, without the gate. -/
def Blk.dwout (b : Blk F) (o : Vec F S1024x1024 .f32) : Vec F S1024x1024 .f32 :=
  k0_pay79 b.g b.mixed (k0_pay37 b.vecs) b.u b.sv0 b.sv1 b.sv2 (k0_pay72 b.vl) (k0_pay73 b.vl) (k0_pay74 b.vl) (k0_pay75 b.vl) k0_pay76 (k0_pay77 b.vl) (View.ld b.wcat (Rect.unit (s := S4x128x256) ![3, 0, 0] S1x128x256.size inb_S4x128x256_S1x128x256_3_0_0)) (View.ld b.bias (Rect.unit (s := S128x512) ![0, 384] S128x128.size inb_S128x512_S128x128_0_384)) o

/-- The gradient of the square weights after the point, over their old values. -/
def Blk.dwpool (b : Blk F) (o : Vec F S4x128x128 .f32) (o' : Vec F S4x128x128 .f32) : Vec F S4x128x128 .f32 :=
  VecWindow.put (s := S4x128x128) (VecWindow.put (s := S4x128x128) (VecWindow.put (s := S4x128x128) (VecWindow.put (s := S4x128x128) (o') ![0, 0, 0] S1x128x128.size (k0_pay89 (k0_pay35 b.pooled) (k0_pay37 b.vecs) b.gg (k0_pay81 b.wout) (View.ld o (Rect.unit (s := S4x128x128) ![0, 0, 0] S1x128x128.size inb_S4x128x128_S1x128x128_0_0_0)))) ![1, 0, 0] S1x128x128.size (k0_pay93 (k0_pay35 b.pooled) b.dmixed (View.ld o (Rect.unit (s := S4x128x128) ![1, 0, 0] S1x128x128.size inb_S4x128x128_S1x128x128_1_0_0)))) ![2, 0, 0] S1x128x128.size (k0_pay99 (k0_pay96 (View.ld o (Rect.unit (s := S4x128x128) ![2, 0, 0] S1x128x128.size inb_S4x128x128_S1x128x128_2_0_0))) (k0_pay97 (k0_pay35 b.pooled)) (k0_pay98 b.dmixed))) ![3, 0, 0] S1x128x128.size (k0_pay102 (k0_pay35 b.pooled) b.dmixed (View.ld o (Rect.unit (s := S4x128x128) ![3, 0, 0] S1x128x128.size inb_S4x128x128_S1x128x128_3_0_0)))

/-- The gradient of the first head's spatial weight after the point. -/
def Blk.dws0 (b : Blk F) (o : Vec F S8x128x128 .f32) : Vec F S1x128x128 .f32 :=
  k0_pay130 (k0_pay118 b.vl) (k0_pay119 b.vl) (k0_pay120 b.vl) (k0_pay121 b.vl) (k0_pay124 b.u b.dyb) (View.ld o (Rect.unit (s := S8x128x128) ![0, 0, 0] S1x128x128.size inb_S8x128x128_S1x128x128_0_0_0))

/-- The gradient of the second head's spatial weight after the point. -/
def Blk.dws1 (b : Blk F) (o : Vec F S8x128x128 .f32) : Vec F S1x128x128 .f32 :=
  k0_pay131 (k0_pay116 b.u b.dyb) (k0_pay117 b.u b.dyb) (k0_pay118 b.vl) (k0_pay119 b.vl) (k0_pay120 b.vl) (k0_pay121 b.vl) k0_pay123 (k0_pay125 b.u b.dyb) (k0_pay126 b.u b.dyb) (View.ld o (Rect.unit (s := S8x128x128) ![1, 0, 0] S1x128x128.size inb_S8x128x128_S1x128x128_1_0_0))

/-- The gradient of the third head's spatial weight after the point. -/
def Blk.dws2 (b : Blk F) (o : Vec F S8x128x128 .f32) : Vec F S1x128x128 .f32 :=
  k0_pay146 (k0_pay136 b.vl) (k0_pay137 b.vl) (k0_pay138 b.vl) (k0_pay139 b.vl) (k0_pay142 (k0_pay132 b.dsv) (k0_pay133 b.dsv) (k0_pay134 b.dsv) (k0_pay135 b.dsv)) (View.ld o (Rect.unit (s := S8x128x128) ![2, 0, 0] S1x128x128.size inb_S8x128x128_S1x128x128_2_0_0))

/-- The gradient of the fourth head's spatial weight after the point. -/
def Blk.dws3 (b : Blk F) (o : Vec F S8x128x128 .f32) : Vec F S1x128x128 .f32 :=
  k0_pay147 (k0_pay136 b.vl) (k0_pay137 b.vl) (k0_pay138 b.vl) (k0_pay139 b.vl) (k0_pay143 (k0_pay132 b.dsv) (k0_pay133 b.dsv) (k0_pay134 b.dsv) (k0_pay135 b.dsv)) (View.ld o (Rect.unit (s := S8x128x128) ![3, 0, 0] S1x128x128.size inb_S8x128x128_S1x128x128_3_0_0))

/-- The gradient of the fifth head's spatial weight after the point. -/
def Blk.dws4 (b : Blk F) (o : Vec F S8x128x128 .f32) : Vec F S1x128x128 .f32 :=
  k0_pay162 (k0_pay148 b.dsv) (k0_pay149 b.dsv) (k0_pay150 b.dsv) (k0_pay151 b.dsv) (k0_pay152 b.vl) (k0_pay153 b.vl) (k0_pay154 b.vl) (k0_pay155 b.vl) k0_pay157 (FloatOps.ofBits FTy.f32 0#32) (View.ld o (Rect.unit (s := S8x128x128) ![4, 0, 0] S1x128x128.size inb_S8x128x128_S1x128x128_4_0_0))

/-- The gradient of the sixth head's spatial weight after the point. -/
def Blk.dws5 (b : Blk F) (o : Vec F S8x128x128 .f32) : Vec F S1x128x128 .f32 :=
  k0_pay163 (k0_pay159 (k0_pay148 b.dsv) (k0_pay149 b.dsv) (k0_pay150 b.dsv) (k0_pay151 b.dsv) k0_pay157) (k0_pay161 (k0_pay152 b.vl) (k0_pay153 b.vl) (k0_pay154 b.vl) (k0_pay155 b.vl)) (View.ld o (Rect.unit (s := S8x128x128) ![5, 0, 0] S1x128x128.size inb_S8x128x128_S1x128x128_5_0_0))

/-- The gradient of the seventh head's spatial weight after the point. -/
def Blk.dws6 (b : Blk F) (o : Vec F S8x128x128 .f32) : Vec F S1x128x128 .f32 :=
  k0_pay180 (k0_pay168 b.vl) (k0_pay169 b.vl) (k0_pay170 b.vl) (k0_pay171 b.vl) (k0_pay174 b.dsv) (View.ld o (Rect.unit (s := S8x128x128) ![6, 0, 0] S1x128x128.size inb_S8x128x128_S1x128x128_6_0_0))

/-- The gradient of the eighth head's spatial weight after the point. -/
def Blk.dws7 (b : Blk F) (o : Vec F S8x128x128 .f32) : Vec F S1x128x128 .f32 :=
  k0_pay181 (k0_pay167 b.dsv) (k0_pay168 b.vl) (k0_pay169 b.vl) (k0_pay170 b.vl) (k0_pay171 b.vl) k0_pay173 (k0_pay175 b.dsv) (k0_pay176 b.dsv) (k0_pay177 b.dsv) (View.ld o (Rect.unit (s := S8x128x128) ![7, 0, 0] S1x128x128.size inb_S8x128x128_S1x128x128_7_0_0))

/-- The gradient of the spatial weights after the point, over their old values. -/
def Blk.dws (b : Blk F) (o : Vec F S8x128x128 .f32) (o' : Vec F S8x128x128 .f32) : Vec F S8x128x128 .f32 :=
  VecWindow.put (s := S8x128x128) (VecWindow.put (s := S8x128x128) (VecWindow.put (s := S8x128x128) (VecWindow.put (s := S8x128x128) (VecWindow.put (s := S8x128x128) (VecWindow.put (s := S8x128x128) (VecWindow.put (s := S8x128x128) (VecWindow.put (s := S8x128x128) (o') ![0, 0, 0] S1x128x128.size (b.dws0 o)) ![1, 0, 0] S1x128x128.size (b.dws1 o)) ![2, 0, 0] S1x128x128.size (b.dws2 o)) ![3, 0, 0] S1x128x128.size (b.dws3 o)) ![4, 0, 0] S1x128x128.size (b.dws4 o)) ![5, 0, 0] S1x128x128.size (b.dws5 o)) ![6, 0, 0] S1x128x128.size (b.dws6 o)) ![7, 0, 0] S1x128x128.size (b.dws7 o)

/-- The gradient of the spatial weights after the last point, kept below the diagonal. -/
def Blk.dwsLast (b : Blk F) (o : Vec F S8x128x128 .f32) (o' : Vec F S8x128x128 .f32) : Vec F S8x128x128 .f32 :=
  VecWindow.put (s := S8x128x128) (VecWindow.put (s := S8x128x128) (VecWindow.put (s := S8x128x128) (VecWindow.put (s := S8x128x128) (VecWindow.put (s := S8x128x128) (VecWindow.put (s := S8x128x128) (VecWindow.put (s := S8x128x128) (VecWindow.put (s := S8x128x128) (b.dws o o') ![0, 0, 0] S1x128x128.size (k0_pay6 (b.dws0 o))) ![1, 0, 0] S1x128x128.size (k0_pay8 (k0_pay7 (b.dws1 o)))) ![2, 0, 0] S1x128x128.size (k0_pay9 (iota Kind.tc S128x128 32 [0] iota_S128x128_d0_w32) (iota Kind.tc S128x128 32 [1] iota_S128x128_d1_w32) (b.dws2 o))) ![3, 0, 0] S1x128x128.size (k0_pay10 (iota Kind.tc S128x128 32 [0] iota_S128x128_d0_w32) (iota Kind.tc S128x128 32 [1] iota_S128x128_d1_w32) (b.dws3 o))) ![4, 0, 0] S1x128x128.size (k0_pay11 (iota Kind.tc S128x128 32 [0] iota_S128x128_d0_w32) (iota Kind.tc S128x128 32 [1] iota_S128x128_d1_w32) (b.dws4 o))) ![5, 0, 0] S1x128x128.size (k0_pay13 (k0_pay12 (iota Kind.tc S128x128 32 [0] iota_S128x128_d0_w32) (iota Kind.tc S128x128 32 [1] iota_S128x128_d1_w32) (b.dws5 o)))) ![6, 0, 0] S1x128x128.size (k0_pay14 (iota Kind.tc S128x128 32 [0] iota_S128x128_d0_w32) (iota Kind.tc S128x128 32 [1] iota_S128x128_d1_w32) (b.dws6 o))) ![7, 0, 0] S1x128x128.size (k0_pay15 (iota Kind.tc S128x128 32 [0] iota_S128x128_d0_w32) (iota Kind.tc S128x128 32 [1] iota_S128x128_d1_w32) (b.dws7 o))

/-- The three vectors' gradients after the point. -/
def Blk.v512 (b : Blk F) (o : Vec F S8x512 .f32) : Vec F S8x512 .f32 :=
  VecWindow.put (s := S8x512) (VecWindow.put (s := S8x512) (VecWindow.put (s := S8x512) (o) ![0, 0] S1x512.size (k0_pay85 b.mixed b.gg (k0_pay81 b.wout) (View.ld o (Rect.unit (s := S8x512) ![0, 0] S1x512.size inb_S8x512_S1x512_0_0)))) ![1, 0] S1x512.size (k0_pay185 (k0_pay183 (View.ld o (Rect.unit (s := S8x512) ![1, 0] S1x512.size inb_S8x512_S1x512_1_0))) (k0_pay184 b.vhat b.dvl0 b.dvl1 b.dvl2 (k0_pay167 b.dsv) k0_pay173 (k0_pay174 b.dsv) (k0_pay175 b.dsv) (k0_pay176 b.dsv) (k0_pay177 b.dsv) (View.ld b.wtcat (Rect.unit (s := S4x128x256) ![3, 0, 0] S1x128x256.size inb_S4x128x256_S1x128x256_3_0_0))))) ![2, 0] S1x512.size (k0_pay186 b.dvl (View.ld o (Rect.unit (s := S8x512) ![2, 0] S1x512.size inb_S8x512_S1x512_2_0)))

/-- The modulation rows' gradients after the point. -/
def Blk.vd (b : Blk F) (v0 : BitVec 32) (hal : Vec F S528x512 .f32) (o : Vec F S8x1024 .f32) : Vec F S8x1024 .f32 :=
  VecWindow.put (s := S8x1024) (VecWindow.put (s := S8x1024) (VecWindow.put (s := S8x1024) (o) ![0, 0] S1x1024.size (k0_pay193 (b.dproj v0 hal) (k0_pay189 b.win) (View.ld o (Rect.unit (s := S8x1024) ![0, 0] S1x1024.size inb_S8x1024_S1x1024_0_0)))) ![1, 0] S1x1024.size (k0_pay194 b.hp (b.dproj v0 hal) (k0_pay189 b.win) (View.ld o (Rect.unit (s := S8x1024) ![1, 0] S1x1024.size inb_S8x1024_S1x1024_1_0)))) ![3, 0] S1x1024.size (k0_pay195 b.sc (k0_pay32 b.x) (b.dproj v0 hal) (k0_pay189 b.win) (View.ld o (Rect.unit (s := S8x1024) ![3, 0] S1x1024.size inb_S8x1024_S1x1024_3_0)))

/-- The modulation rows' gradients after the last point, the gate's among them. -/
def Blk.vdLast (b : Blk F) (v0 : BitVec 32) (hal : Vec F S528x512 .f32) (o : Vec F S8x1024 .f32) (w : Vec F S1024x1024 .f32) : Vec F S8x1024 .f32 :=
  VecWindow.put (s := S8x1024) (b.vd v0 hal o) ![2, 0] S1x1024.size (k0_pay4 (b.dwout w) (View.ld o (Rect.unit (s := S8x1024) ![2, 0] S1x1024.size inb_S8x1024_S1x1024_2_0)) b.wout)

/-- The row buffer after the point: its first rows kept for the rows before. -/
def Blk.halo (b : Blk F) (v0 : BitVec 32) (hal hal' : Vec F S528x512 .f32) : Vec F S528x512 .f32 :=
  VecWindow.put (s := S528x512) (b.buf3 v0 hal) ![512, 0] S16x512.size (k0_pay111 (View.ld (b.buf3 v0 hal') (Rect.unit (s := S528x512) ![0, 0] S16x512.size inb_S528x512_S16x512_0_0)))

/-- The spatial bias's gradient before its heads are summed, after the point. -/
def Blk.acc (b : Blk F) (o : Vec F S128x512 .f32) (o' : Vec F S128x512 .f32) : Vec F S128x512 .f32 :=
  VecWindow.put (s := S128x512) (VecWindow.put (s := S128x512) (VecWindow.put (s := S128x512) (VecWindow.put (s := S128x512) (o') ![0, 0] S128x128.size (k0_pay122 b.u b.dyb (View.ld o (Rect.unit (s := S128x512) ![0, 0] S128x128.size inb_S128x512_S128x128_0_0)))) ![0, 128] S128x128.size (k0_pay140 (k0_pay132 b.dsv) (k0_pay133 b.dsv) (k0_pay134 b.dsv) (k0_pay135 b.dsv) (View.ld o (Rect.unit (s := S128x512) ![0, 128] S128x128.size inb_S128x512_S128x128_0_128)))) ![0, 256] S128x128.size (k0_pay156 b.dsv (View.ld o (Rect.unit (s := S128x512) ![0, 256] S128x128.size inb_S128x512_S128x128_0_256)))) ![0, 384] S128x128.size (k0_pay172 b.dsv (View.ld o (Rect.unit (s := S128x512) ![0, 384] S128x128.size inb_S128x512_S128x128_0_384)))

/-- The spatial bias's gradient. -/
def Blk.dbs (b : Blk F) (o : Vec F S128x512 .f32) (o' : Vec F S128x512 .f32) : Vec F S8x128 .f32 :=
  k0_pay2 (iota Kind.tc S8x512 32 [0] iota_S8x512_d0_w32) (iota Kind.tc S8x512 32 [1] iota_S8x512_d1_w32) 64#32 k0_pay16 k0_pay17 k0_pay18 (b.acc o o')

variable (m : (ℓ : Loc nD τ sig) → Buf (Elt F) ℓ) (c : Dev nD) (t : Fin cfg0.N)

/-- The blocks of point `t`. -/
def blk : Blk F := ⟨iblk m c 0 t, iblk m c 1 t, iblk m c 2 t, iblk m c 3 t, iblk m c 4 t, iblk m c 5 t, iblk m c 6 t, iblk m c 7 t, iblk m c 8 t,
  iblk m c 9 t, iblk m c 10 t, iblk m c 11 t⟩

/-- The tile of point `t`, as the body computes it. -/
def tileW : BitVec 32 := Scalar.subi (15#32) (BitVec.ofNat 32 (grid0.coords t 0).val)

/-- The contents after the point before. -/
abbrev prev := outsAt0 m c (t.val - 1) (Nat.lt_of_le_of_lt (Nat.sub_le _ _) t.isLt)

theorem read0 (x : Vec F S528x512 .f32) : View.read (Elt F) (View.whole cc0_scratch0) ((Memref.isWhole_whole cc0_scratch0).unread x) = x :=
  (Memref.isWhole_whole cc0_scratch0).read_unread x
theorem read1 (x : Vec F S128x512 .f32) : View.read (Elt F) (View.whole cc0_scratch1) ((Memref.isWhole_whole cc0_scratch1).unread x) = x :=
  (Memref.isWhole_whole cc0_scratch1).read_unread x

set_option maxHeartbeats 4000000 in
/-- The contents after the first point. -/
theorem at_A (h0 : t.val % 16 = 0) (h1 : ¬t.val % 16 = 15) : ∃ e e0 e2 e15 e16 e17 e3, outsAt0 m c t.val t.isLt =
      ((blk m c t).dx (tileW t) (VecWindow.put (s := S528x512) e ![512, 0] S16x512.size k0_pay26),
        (blk m c t).dwin (tileW t) (VecWindow.put (s := S528x512) e ![512, 0] S16x512.size k0_pay26) k0_pay19,
        (blk m c t).dwout k0_pay20,
        (blk m c t).dwpool k0_pay21 e15,
        (blk m c t).dws k0_pay22 e16,
        e17,
        (blk m c t).v512 k0_pay23,
        (blk m c t).vd (tileW t) (VecWindow.put (s := S528x512) e ![512, 0] S16x512.size k0_pay26) k0_pay24,
        (blk m c t).halo (tileW t) e0 e2,
        (blk m c t).acc k0_pay25 e3) := by
  refine ⟨?e0, ?e1, ?e2, ?e3, ?e4, ?e5, ?e6, ?main⟩
  case main =>
  refine (outsAt0_A m c t h0 h1).trans ?_
  unfold out0_A_12 out0_A_13 out0_A_14 out0_A_15 out0_A_16 out0_A_17 out0_A_18 out0_A_19 sout0_A_0 sout0_A_1
  unfold kernelRun0_A
  dsimp only
  sl_unfold_words
  simp (disch := decide) only [cov_ld, View.readAt_eq_ld, Memref.IsWhole.read_unread, read0, read1, read_put, View.writes_nil, ld_put_same, ld_put_ne,
    View.ld_unit_zero (S := S512x1024) hz2, View.ld_unit_zero (S := S1024x1536) hz2, View.ld_unit_zero (S := S512x512) hz2, View.ld_unit_zero (S := S8x512) hz2,
    View.ld_unit_zero (S := S1024x1024) hz2, View.ld_unit_zero (S := S128x512) hz2, putw_tile, putw_win, putw_wout, putw_wpool, putw_ws, putw_bs,
    putw_v512, putw_v1024, putw_acc]
  simp only [Blk.gn, Blk.sc, Blk.gate, Blk.vecs, Blk.h, Blk.hp, Blk.mixed, Blk.z, Blk.dz, Blk.u, Blk.rstd, Blk.vhat, Blk.vl, Blk.sv0,
    Blk.sv1, Blk.sv2, Blk.sv, Blk.gg, Blk.dyb, Blk.dmixed, Blk.dp0, Blk.dp1, Blk.dp2, Blk.dp3, Blk.q0, Blk.q1, Blk.q2, Blk.q3,
    Blk.buf0, Blk.buf1, Blk.buf2, Blk.buf3, Blk.dxa0, Blk.dxa1, Blk.dxa2, Blk.dxa3, Blk.du, Blk.dsv, Blk.dvl0, Blk.dvl1, Blk.dvl2, Blk.dvl,
    Blk.dproj, Blk.dx, Blk.dwin, Blk.dwout, Blk.dwpool, Blk.dws0, Blk.dws1, Blk.dws2, Blk.dws3, Blk.dws4, Blk.dws5, Blk.dws6, Blk.dws7, Blk.dws,
    Blk.dwsLast, Blk.v512, Blk.vd, Blk.vdLast, Blk.halo, Blk.acc, Blk.dbs, blk, tileW]
  iterate 9 refine congrArg₂ Prod.mk (by first | with_reducible rfl | exact putw_win _ _ | exact putw_wout _ _ | rfl) ?_
  rfl

set_option maxHeartbeats 4000000 in
/-- The contents after the middle points. -/
theorem at_B (h0 : ¬t.val % 16 = 0) (h1 : ¬t.val % 16 = 15) : ∃ e0 e2 e15 e16 e17 e3, outsAt0 m c t.val t.isLt =
      ((blk m c t).dx (tileW t) (prev m c t).2.2.2.2.2.2.2.2.1,
        (blk m c t).dwin (tileW t) (prev m c t).2.2.2.2.2.2.2.2.1 (prev m c t).2.1,
        (blk m c t).dwout (prev m c t).2.2.1,
        (blk m c t).dwpool (prev m c t).2.2.2.1 e15,
        (blk m c t).dws (prev m c t).2.2.2.2.1 e16,
        e17,
        (blk m c t).v512 (prev m c t).2.2.2.2.2.2.1,
        (blk m c t).vd (tileW t) (prev m c t).2.2.2.2.2.2.2.2.1 (prev m c t).2.2.2.2.2.2.2.1,
        (blk m c t).halo (tileW t) e0 e2,
        (blk m c t).acc (prev m c t).2.2.2.2.2.2.2.2.2 e3) := by
  refine ⟨?e0, ?e1, ?e2, ?e3, ?e4, ?e5, ?main⟩
  case main =>
  refine (outsAt0_B m c t h0 h1).trans ?_
  unfold out0_B_12 out0_B_13 out0_B_14 out0_B_15 out0_B_16 out0_B_18 out0_B_19 sout0_B_0 sout0_B_1
  unfold kernelRun0_B
  dsimp only
  sl_unfold_words
  simp (disch := decide) only [cov_ld, View.readAt_eq_ld, Memref.IsWhole.read_unread, read0, read1, read_put, View.writes_nil, ld_put_same, ld_put_ne,
    View.ld_unit_zero (S := S512x1024) hz2, View.ld_unit_zero (S := S1024x1536) hz2, View.ld_unit_zero (S := S512x512) hz2, View.ld_unit_zero (S := S8x512) hz2,
    View.ld_unit_zero (S := S1024x1024) hz2, View.ld_unit_zero (S := S128x512) hz2, putw_tile, putw_win, putw_wout, putw_wpool, putw_ws, putw_bs,
    putw_v512, putw_v1024, putw_acc]
  simp only [Blk.gn, Blk.sc, Blk.gate, Blk.vecs, Blk.h, Blk.hp, Blk.mixed, Blk.z, Blk.dz, Blk.u, Blk.rstd, Blk.vhat, Blk.vl, Blk.sv0,
    Blk.sv1, Blk.sv2, Blk.sv, Blk.gg, Blk.dyb, Blk.dmixed, Blk.dp0, Blk.dp1, Blk.dp2, Blk.dp3, Blk.q0, Blk.q1, Blk.q2, Blk.q3,
    Blk.buf0, Blk.buf1, Blk.buf2, Blk.buf3, Blk.dxa0, Blk.dxa1, Blk.dxa2, Blk.dxa3, Blk.du, Blk.dsv, Blk.dvl0, Blk.dvl1, Blk.dvl2, Blk.dvl,
    Blk.dproj, Blk.dx, Blk.dwin, Blk.dwout, Blk.dwpool, Blk.dws0, Blk.dws1, Blk.dws2, Blk.dws3, Blk.dws4, Blk.dws5, Blk.dws6, Blk.dws7, Blk.dws,
    Blk.dwsLast, Blk.v512, Blk.vd, Blk.vdLast, Blk.halo, Blk.acc, Blk.dbs, blk, tileW]
  iterate 9 refine congrArg₂ Prod.mk (by first | with_reducible rfl | exact putw_win _ _ | exact putw_wout _ _ | rfl) ?_
  rfl

set_option maxHeartbeats 4000000 in
/-- The contents after the last point. -/
theorem at_C (h0 : ¬t.val % 16 = 0) (h1 : t.val % 16 = 15) : ∃ e0 e2 e15 e16 e1 e3, outsAt0 m c t.val t.isLt =
      ((blk m c t).dx (tileW t) (prev m c t).2.2.2.2.2.2.2.2.1,
        (blk m c t).dwin (tileW t) (prev m c t).2.2.2.2.2.2.2.2.1 (prev m c t).2.1,
        k0_pay5 (blk m c t).gate ((blk m c t).dwout (prev m c t).2.2.1),
        (blk m c t).dwpool (prev m c t).2.2.2.1 e15,
        (blk m c t).dwsLast (prev m c t).2.2.2.2.1 e16,
        (blk m c t).dbs (prev m c t).2.2.2.2.2.2.2.2.2 e1,
        (blk m c t).v512 (prev m c t).2.2.2.2.2.2.1,
        (blk m c t).vdLast (tileW t) (prev m c t).2.2.2.2.2.2.2.2.1 (prev m c t).2.2.2.2.2.2.2.1 (prev m c t).2.2.1,
        (blk m c t).halo (tileW t) e0 e2,
        (blk m c t).acc (prev m c t).2.2.2.2.2.2.2.2.2 e3) := by
  refine ⟨?e0, ?e1, ?e2, ?e3, ?e4, ?e5, ?main⟩
  case main =>
  refine (outsAt0_C m c t h0 h1).trans ?_
  unfold out0_C_12 out0_C_13 out0_C_14 out0_C_15 out0_C_16 out0_C_17 out0_C_18 out0_C_19 sout0_C_0 sout0_C_1
  unfold kernelRun0_C
  dsimp only
  sl_unfold_words
  simp (disch := decide) only [cov_ld, View.readAt_eq_ld, Memref.IsWhole.read_unread, read0, read1, read_put, View.writes_nil, ld_put_same, ld_put_ne,
    View.ld_unit_zero (S := S512x1024) hz2, View.ld_unit_zero (S := S1024x1536) hz2, View.ld_unit_zero (S := S512x512) hz2, View.ld_unit_zero (S := S8x512) hz2,
    View.ld_unit_zero (S := S1024x1024) hz2, View.ld_unit_zero (S := S128x512) hz2, putw_tile, putw_win, putw_wout, putw_wpool, putw_ws, putw_bs,
    putw_v512, putw_v1024, putw_acc]
  simp only [Blk.gn, Blk.sc, Blk.gate, Blk.vecs, Blk.h, Blk.hp, Blk.mixed, Blk.z, Blk.dz, Blk.u, Blk.rstd, Blk.vhat, Blk.vl, Blk.sv0,
    Blk.sv1, Blk.sv2, Blk.sv, Blk.gg, Blk.dyb, Blk.dmixed, Blk.dp0, Blk.dp1, Blk.dp2, Blk.dp3, Blk.q0, Blk.q1, Blk.q2, Blk.q3,
    Blk.buf0, Blk.buf1, Blk.buf2, Blk.buf3, Blk.dxa0, Blk.dxa1, Blk.dxa2, Blk.dxa3, Blk.du, Blk.dsv, Blk.dvl0, Blk.dvl1, Blk.dvl2, Blk.dvl,
    Blk.dproj, Blk.dx, Blk.dwin, Blk.dwout, Blk.dwpool, Blk.dws0, Blk.dws1, Blk.dws2, Blk.dws3, Blk.dws4, Blk.dws5, Blk.dws6, Blk.dws7, Blk.dws,
    Blk.dwsLast, Blk.v512, Blk.vd, Blk.vdLast, Blk.halo, Blk.acc, Blk.dbs, blk, tileW]
  iterate 9 refine congrArg₂ Prod.mk (by first | with_reducible rfl | exact putw_win _ _ | exact putw_wout _ _ | rfl) ?_
  rfl

end Cert.Kernel2Ideal.Mix
-- ==== Proof.MixTile.lean ====
/-
  The stages of the mixing sub-layer's backward call over the reals: what each array its body computes is at an index,
  when the blocks the point reads are the rows of one tile and the weights.
-/
module

public import proofs.«01_k».proof.Proof.MixRun
public import proofs.«01_k».proof.Proof.MixModel

@[expose] public section

noncomputable section

namespace Cert.Kernel2Ideal.Mix

open Cert.Kernel2Ideal Cert.Kernel2Ideal.Gen Idealize.ShloMosaic Idealize.ShloMosaic.TcCoe Cert.RealKit Cert.HeadMath Cert.MixMath

/-- The blocks of tile `τ`. -/
structure Rd (b : Blk Ideal) (D : In) (τ : Fin 16) : Prop where
  x : ∀ r d, b.x (ix2 r d) = (D.x (row τ r) d : EReal)
  g : ∀ r d, b.g (ix2 r d) = (D.g (row τ r) d : EReal)
  pool : ∀ r e, b.pooled (ix2 r e) = (D.pool (row τ r) e : EReal)
  zb : ∀ r e, b.zb (ix2 r e) = (D.zb (row τ r) e : EReal)
  sh : ∀ d, b.mod (ix2 0 d) = (D.sh d : EReal)
  sc : ∀ d, b.mod (ix2 1 d) = (D.sc d : EReal)
  ga : ∀ d, b.mod (ix2 2 d) = (D.ga d : EReal)
  gn : ∀ d, b.mod (ix2 3 d) = (D.gn d : EReal)
  win : ∀ d j, b.win (ix2 d j) = (D.win d j : EReal)
  wp : ∀ g c d, b.wpool (ix3 g c d) = (D.wp g c d : EReal)
  ps : ∀ e, b.vec (ix2 0 e) = (D.ps e : EReal)
  lg : ∀ e, b.vec (ix2 1 e) = (D.lg e : EReal)
  lb : ∀ e, b.vec (ix2 2 e) = (D.lb e : EReal)
  wcat : ∀ (p : Fin 4) (t q : Fin 128), b.wcat (ix3 p t ⟨q.val, by omega⟩) = (D.wm ⟨2 * p.val, by omega⟩ t q : EReal)
    ∧ b.wcat (ix3 p t ⟨128 + q.val, by omega⟩) = (D.wm ⟨2 * p.val + 1, by omega⟩ t q : EReal)
  wtcat : ∀ (p : Fin 4) (t q : Fin 128), b.wtcat (ix3 p t ⟨q.val, by omega⟩) = (D.wm ⟨2 * p.val, by omega⟩ q t : EReal)
    ∧ b.wtcat (ix3 p t ⟨128 + q.val, by omega⟩) = (D.wm ⟨2 * p.val + 1, by omega⟩ q t : EReal)
  bias : ∀ t e, b.bias (ix2 t e) = (D.bs (hd e) t : EReal)
  wout : ∀ j d, b.wout (ix2 j d) = (D.wout j d : EReal)

theorem div1024 (r : ℝ) : Ideal.div (r : EReal) ((1024 : ℝ) : EReal) = ((r / 1024 : ℝ) : EReal) := div_real (by norm_num)
theorem div512 (r : ℝ) : Ideal.div (r : EReal) ((512 : ℝ) : EReal) = ((r / 512 : ℝ) : EReal) := div_real (by norm_num)
theorem rs_msq (v : Fin 1024 → ℝ) : Ideal.rsqrt (((∑ d, v d * v d) / 1024 + eps : ℝ) : EReal) = ((rn v : ℝ) : EReal) :=
  rsqrt_pos (msq_pos v)
theorem c_512 : Ideal.ofBits .f32 0x44000000#32 = ((512 : ℝ) : EReal) := by
  simp [Ideal.ofBits, Ideal.ieee, -EReal.coe_mul]; norm_num
theorem c_cg : Ideal.ofBits .f32 0x3F4C422A#32 = ((cg : ℝ) : EReal) := by
  unfold cg; simp [Ideal.ofBits, Ideal.ieee, -EReal.coe_mul]; norm_num

theorem named_a (w : BitVec 32) : (Named.named κ "gelu_a" w : Ideal .f32) = ((ca : ℝ) : EReal) := rfl
theorem named_3a (w : BitVec 32) : (Named.named κ "gelu_3a" w : Ideal .f32) = ((26829 / 200000 : ℝ) : EReal) := rfl
theorem tanh_coe (r : ℝ) : Ideal.tanh (r : EReal) = ((Real.tanh r : ℝ) : EReal) := rfl

variable {b : Blk Ideal} {D : In} {τ : Fin 16} (H : Rd b D τ)
include H

theorem gn_at (d : Fin 1024) : b.gn (ix2 0 d) = (D.gn d : EReal) := by
  unfold Blk.gn; pointwise [k0_pay27]; exact H.gn d
theorem sc_at (d : Fin 1024) : b.sc (ix2 0 d) = (D.sc d : EReal) := by
  unfold Blk.sc; pointwise [k0_pay28]; exact H.sc d
theorem gate_at (d : Fin 1024) : b.gate (ix2 0 d) = (D.ga d : EReal) := by
  unfold Blk.gate; pointwise [k0_pay29]; exact H.ga d

theorem hp_at (r : Fin 512) (d : Fin 1024) : b.hp (ix2 r d) = (D.xn (row τ r) d * D.gn d : ℝ) := by
  unfold Blk.hp; pointwise [k0_pay33, k0_pay32, k0_pay31, k0_pay27]
  simp only [H.x, H.gn, c_1024, c_eps, ← EReal.coe_mul, coe_sum, div1024, ← EReal.coe_add, rs_msq]
  rfl
theorem h_at (r : Fin 512) (d : Fin 1024) : b.h (ix2 r d) = (D.h (row τ r) d : ℝ) := by
  unfold Blk.h; pointwise [k0_pay34, k0_pay33, k0_pay32, k0_pay31, k0_pay27, k0_pay28]
  simp only [H.x, H.gn, H.sc, H.sh, c_1024, c_eps, ← EReal.coe_one, ← EReal.coe_mul, coe_sum, div1024, ← EReal.coe_add, rs_msq]
  rfl

theorem z_at (r : Fin 512) (e : Fin 1024) : b.z (ix2 r e) = (gz (D.zb (row τ r) e) : ℝ) := by
  unfold Blk.z; pointwise [k0_pay41, k0_pay40, k0_pay39, k0_pay38]
  simp only [H.zb, c_half, c_cg, named_a, ← EReal.coe_one, ← EReal.coe_mul, ← EReal.coe_add, tanh_coe]
  rfl
theorem dz_at (r : Fin 512) (e : Fin 1024) : b.dz (ix2 r e) = (gd (D.zb (row τ r) e) : ℝ) := by
  unfold Blk.dz; pointwise [k0_pay43, k0_pay42, k0_pay40, k0_pay39, k0_pay38]
  simp only [H.zb, c_half, c_cg, named_a, named_3a, ← EReal.coe_one, ← EReal.coe_mul, ← EReal.coe_add, ← EReal.coe_sub, tanh_coe]
  rfl
theorem u_at (r : Fin 512) (e : Fin 512) : b.u (ix2 r e) = (D.u (row τ r) e : ℝ) := by
  unfold Blk.u; pointwise [k0_pay44]
  exact z_at H r (lo e)
theorem zhi (r e : Fin 512) : b.z (ix2 r ⟨512 + e.val, by omega⟩) = (D.v (row τ r) e : ℝ) := z_at H r (hi e)
theorem rstd_at (r : Fin 512) : b.rstd (ix2 r 0) = (D.rs (row τ r) : ℝ) := by
  unfold Blk.rstd; pointwise [k0_pay46, k0_pay45]
  simp only [zhi H, c_512, c_eps, ← EReal.coe_mul, coe_sum, div512, ← EReal.coe_add, ← EReal.coe_sub]
  exact rsqrt_pos (D.var_pos (row τ r))
theorem vhat_at (r e : Fin 512) : b.vhat (ix2 r e) = (D.vh (row τ r) e : ℝ) := by
  unfold Blk.vhat; pointwise [k0_pay47, k0_pay46, k0_pay45]
  simp only [zhi H, c_512, c_eps, ← EReal.coe_mul, coe_sum, div512, ← EReal.coe_add, ← EReal.coe_sub]
  exact (congrArg _ (rsqrt_pos (D.var_pos (row τ r)))).trans (EReal.coe_mul _ _).symm
theorem vhat_at' (r e : Fin 512) : k0_pay47 (F := Ideal) b.z (ix2 r e) = (D.vh (row τ r) e : ℝ) := vhat_at H r e
theorem vl_at (r e : Fin 512) : k0_pay48 (F := Ideal) b.vecs b.z (ix2 r e) = (D.vl (row τ r) e : ℝ) := by
  pointwise [k0_pay48]
  rw [vhat_at' H]
  unfold Blk.vecs
  pointwise [k0_pay30]
  simp only [H.lg, H.lb, ← EReal.coe_mul, ← EReal.coe_add]
  rfl
theorem mixed_at (r e : Fin 512) : b.mixed (ix2 r e) = (D.mixed (row τ r) e : ℝ) := by
  obtain ⟨g, l, rfl⟩ := exists_ck e
  unfold Blk.mixed In.mixed
  rw [grp_ck, lane_ck]
  have h2 : 256 + l.val - 128 - 128 = l.val := by omega
  have h3 : 384 + l.val - 128 - 128 - 128 = l.val := by omega
  fin_cases g <;> pointwise [k0_pay36, k0_pay35, ck]
  all_goals simp (disch := omega) only [dif_pos, dif_neg, H.pool, H.wp, h2, h3, Fin.eta, ← EReal.coe_mul, coe_sum]
theorem gg_at (r : Fin 512) (d : Fin 1024) : b.gg (ix2 r d) = (D.gg (row τ r) d : ℝ) := by
  unfold Blk.gg; pointwise [k0_pay80]
  simp only [H.g, gate_at H, ← EReal.coe_mul]
  rfl
theorem dcat_at (r : Fin 512) (j : Fin 1024) : k0_pay82 b.gg (k0_pay81 b.wout) (ix2 r j) = (D.dcat (row τ r) j : ℝ) := by
  pointwise [k0_pay82, k0_pay81]
  simp only [gg_at H, H.wout, ← EReal.coe_mul, coe_sum]
  rfl
theorem dyb_at (r e : Fin 512) : b.dyb (ix2 r e) = (D.dyb (row τ r) e : ℝ) := by
  unfold Blk.dyb; pointwise [k0_pay84]
  exact dcat_at H r (hi e)
theorem dm_at (r e : Fin 512) : k0_pay86 (k0_pay37 b.vecs) b.gg (k0_pay81 b.wout) (ix2 r e) = (D.dm (row τ r) e : ℝ) := by
  pointwise [k0_pay86, k0_pay83, k0_pay37]
  unfold Blk.vecs
  pointwise [k0_pay30]
  rw [H.ps]
  exact (congrArg (· * _) (dcat_at H r (lo e))).trans (EReal.coe_mul _ _).symm
theorem dmixed_at (r e : Fin 512) : b.dmixed (ix2 r e) = (D.dm (row τ r) e : ℝ) := dm_at H r e
theorem dp0_at (r : Fin 512) (l : Fin 128) : b.dp0 (ix2 r l) = (D.dp (row τ r) (ck 0 l) : ℝ) := by
  unfold Blk.dp0 In.dp; rw [grp_ck, lane_ck]; pointwise [k0_pay88, ck]
  simp only [dm_at H, H.wp, ← EReal.coe_mul, coe_sum]
theorem dp1_at (r : Fin 512) (l : Fin 128) : b.dp1 (ix2 r l) = (D.dp (row τ r) (ck 1 l) : ℝ) := by
  unfold Blk.dp1 In.dp; rw [grp_ck, lane_ck]; pointwise [k0_pay92, ck]
  simp only [dmixed_at H, H.wp, ← EReal.coe_mul, coe_sum]
theorem dp2_at (r : Fin 512) (l : Fin 128) : b.dp2 (ix2 r l) = (D.dp (row τ r) (ck 2 l) : ℝ) := by
  unfold Blk.dp2 In.dp; rw [grp_ck, lane_ck]; pointwise [k0_pay95, ck]
  simp only [dmixed_at H, H.wp, ← EReal.coe_mul, coe_sum]
theorem dp3_at (r : Fin 512) (l : Fin 128) : b.dp3 (ix2 r l) = (D.dp (row τ r) (ck 3 l) : ℝ) := by
  unfold Blk.dp3 In.dp; rw [grp_ck, lane_ck]; pointwise [k0_pay101, ck]
  simp only [dmixed_at H, H.wp, ← EReal.coe_mul, coe_sum]

omit H in
/-- A row's window length, as the body computes it in words. -/
theorem cnt_word (τ : Fin 16) (r : Fin 512) (w : Nat) (hw : w ≤ 16) :
    (FloatOps.sitofp FTy.f32 (IntOp.minsi (IntOp.addi (IntOp.addi (Scalar.muli (BitVec.ofNat 32 τ.val) 512#32) (BitVec.ofNat 32 r.val)) 1#32)
      (BitVec.ofNat 32 w)) : Ideal .f32) = (((min ((row τ r).val + 1) w : ℕ) : ℝ) : EReal) := by
  have hs : IntOp.addi (IntOp.addi (Scalar.muli (BitVec.ofNat 32 τ.val) 512#32) (BitVec.ofNat 32 r.val)) 1#32
      = BitVec.ofNat 32 ((row τ r).val + 1) := by
    apply BitVec.eq_of_toNat_eq
    simp only [IntOp.addi, Scalar.muli, IntOp.muli, row, BitVec.toNat_add, BitVec.toNat_mul, BitVec.toNat_ofNat]
    omega
  have hr := (row τ r).isLt
  rw [hs, minsi_small (by omega) (by omega), sitofp_small (by omega)]
omit H in
theorem cnt_pos (s : Fin 8192) (e : Fin 512) : In.cnt s e ≠ 0 := by
  unfold In.cnt In.wd
  have : 0 < 2 ^ (e.val / 128 + 1) := by positivity
  exact Nat.cast_ne_zero.mpr (by omega)

variable {v0 : BitVec 32} (hv : v0 = BitVec.ofNat 32 τ.val)
include hv

theorem q0_at (r : Fin 512) (l : Fin 128) : b.q0 v0 (ix2 r l) = (D.q (row τ r) (ck 0 l) : ℝ) := by
  have hw : In.wd (ck 0 l) = 2 := by unfold In.wd; rw [show (ck 0 l).val / 128 = 0 from congrArg Fin.val (grp_ck 0 l)]; rfl
  have hc := cnt_pos (row τ r) (ck 0 l)
  unfold In.q; unfold In.cnt at hc ⊢; rw [hw] at hc ⊢
  unfold Blk.q0
  pointwise [k0_pay91, k0_pay90, k0_pay87]
  rw [hv, cnt_word τ r 2 (by norm_num)]
  exact (congrArg (Ideal.div · _) (dp0_at H r l)).trans (div_real hc)
theorem q1_at (r : Fin 512) (l : Fin 128) : b.q1 v0 (ix2 r l) = (D.q (row τ r) (ck 1 l) : ℝ) := by
  have hw : In.wd (ck 1 l) = 4 := by unfold In.wd; rw [show (ck 1 l).val / 128 = 1 from congrArg Fin.val (grp_ck 1 l)]; rfl
  have hc := cnt_pos (row τ r) (ck 1 l)
  unfold In.q; unfold In.cnt at hc ⊢; rw [hw] at hc ⊢
  unfold Blk.q1
  pointwise [k0_pay94, k0_pay87]
  rw [hv, cnt_word τ r 4 (by norm_num)]
  exact (congrArg (Ideal.div · _) (dp1_at H r l)).trans (div_real hc)
theorem q2_at (r : Fin 512) (l : Fin 128) : b.q2 v0 (ix2 r l) = (D.q (row τ r) (ck 2 l) : ℝ) := by
  have hw : In.wd (ck 2 l) = 8 := by unfold In.wd; rw [show (ck 2 l).val / 128 = 2 from congrArg Fin.val (grp_ck 2 l)]; rfl
  have hc := cnt_pos (row τ r) (ck 2 l)
  unfold In.q; unfold In.cnt at hc ⊢; rw [hw] at hc ⊢
  unfold Blk.q2
  pointwise [k0_pay100, k0_pay87]
  rw [hv, cnt_word τ r 8 (by norm_num)]
  exact (congrArg (Ideal.div · _) (dp2_at H r l)).trans (div_real hc)
theorem q3_at (r : Fin 512) (l : Fin 128) : b.q3 v0 (ix2 r l) = (D.q (row τ r) (ck 3 l) : ℝ) := by
  have hw : In.wd (ck 3 l) = 16 := by unfold In.wd; rw [show (ck 3 l).val / 128 = 3 from congrArg Fin.val (grp_ck 3 l)]; rfl
  have hc := cnt_pos (row τ r) (ck 3 l)
  unfold In.q; unfold In.cnt at hc ⊢; rw [hw] at hc ⊢
  unfold Blk.q3
  pointwise [k0_pay104, k0_pay103, k0_pay87]
  rw [hv, cnt_word τ r 16 (by norm_num)]
  exact (congrArg (Ideal.div · _) (dp3_at H r l)).trans (div_real hc)

end Cert.Kernel2Ideal.Mix

end
-- ==== Proof.MixHost.lean ====
/-
  The arrays the host hands the mixing sub-layer's backward call, read at an index from its arguments.
-/
module

public import proofs.«01_k».proof.Proof.MixSum
public import proofs.«01_k».proof.Proof.MixTile
public import Idealize.ShloMosaic.Lib.StableHlo.ReadAt

@[expose] public section

noncomputable section

namespace Cert.Kernel2Ideal.Mix

open Cert.Kernel2Ideal Cert.Kernel2Ideal.Gen Idealize.ShloMosaic Idealize.ShloMosaic.TcCoe Cert.RealKit Cert.MixMath Cert.HeadMath

/-- The arguments hold real numbers. -/
structure Args (m : (ℓ : Loc nD τ sig) → Buf (Elt Ideal) ℓ) (c : Dev nD) (D : In) : Prop where
  x : ∀ r d, (m ((c : Thread nD τ).loc main_arg0) : Vec Ideal S8192x1024 .f32) (ix2 r d) = (D.x r d : EReal)
  g : ∀ r d, (m ((c : Thread nD τ).loc main_arg1) : Vec Ideal S8192x1024 .f32) (ix2 r d) = (D.g r d : EReal)
  sh : ∀ d, (m ((c : Thread nD τ).loc main_arg2) : Vec Ideal S1x1024 .f32) (ix2 (0 : Fin 1) d) = (D.sh d : EReal)
  sc : ∀ d, (m ((c : Thread nD τ).loc main_arg3) : Vec Ideal S1x1024 .f32) (ix2 (0 : Fin 1) d) = (D.sc d : EReal)
  ga : ∀ d, (m ((c : Thread nD τ).loc main_arg4) : Vec Ideal S1x1024 .f32) (ix2 (0 : Fin 1) d) = (D.ga d : EReal)
  gn : ∀ d, (m ((c : Thread nD τ).loc main_arg5) : Vec Ideal S1x1024 .f32) (ix2 (0 : Fin 1) d) = (D.gn d : EReal)
  win : ∀ d j, (m ((c : Thread nD τ).loc main_arg6) : Vec Ideal S1024x1536 .f32) (ix2 d j) = (D.win d j : EReal)
  wp : ∀ g a b, (m ((c : Thread nD τ).loc main_arg7) : Vec Ideal S4x128x128 .f32) (ix3 g a b) = (D.wp g a b : EReal)
  ps : ∀ e, (m ((c : Thread nD τ).loc main_arg8) : Vec Ideal S1x512 .f32) (ix2 (0 : Fin 1) e) = (D.ps e : EReal)
  lg : ∀ e, (m ((c : Thread nD τ).loc main_arg9) : Vec Ideal S1x512 .f32) (ix2 (0 : Fin 1) e) = (D.lg e : EReal)
  lb : ∀ e, (m ((c : Thread nD τ).loc main_arg10) : Vec Ideal S1x512 .f32) (ix2 (0 : Fin 1) e) = (D.lb e : EReal)
  ws : ∀ hh t q, (m ((c : Thread nD τ).loc main_arg11) : Vec Ideal S8x128x128 .f32) (ix3 hh t q) = (D.ws hh t q : EReal)
  bs : ∀ hh t, (m ((c : Thread nD τ).loc main_arg12) : Vec Ideal S8x128 .f32) (ix2 hh t) = (D.bs hh t : EReal)
  wout : ∀ j d, (m ((c : Thread nD τ).loc main_arg13) : Vec Ideal S1024x1024 .f32) (ix2 j d) = (D.wout j d : EReal)

/-- What the host's buffers hold once the running sums stand. -/
def Mid (m : (ℓ : Loc nD τ sig) → Buf (Elt Ideal) ℓ) (c : Dev nD) : Valuation τ sig (Elt Ideal) :=
  StableHlo.after [hostOps0, hostOps0_1].flatten (fun b => m (c, b))
theorem V_mid (m : (ℓ : Loc nD τ sig) → Buf (Elt Ideal) ℓ) (c : Dev nD) (b : Ref sig .tc) :
    V m c b = StableHlo.after [hostOps0_2, hostOps0_3, hostOps0_4, hostOps0_5, hostOps0_6].flatten (Mid m c) (Proc.devRef .tc b) := by
  unfold Mid
  rw [← StableHlo.after_append, ← List.flatten_append]
  rfl

variable {m : (ℓ : Loc nD τ sig) → Buf (Elt Ideal) ℓ} {c : Dev nD} {D : In} (H : Args m c D)
include H

theorem V_sh (d : Fin 1024) : (V m c main_v1 : Vec Ideal S8x1024 .f32) (ix2 0 d) = (D.sh d : EReal) := by
  rw [← H.sh]; unfold V; after_reads_at
theorem V_sc (d : Fin 1024) : (V m c main_v1 : Vec Ideal S8x1024 .f32) (ix2 1 d) = (D.sc d : EReal) := by
  rw [← H.sc]; unfold V; after_reads_at
theorem V_ga (d : Fin 1024) : (V m c main_v1 : Vec Ideal S8x1024 .f32) (ix2 2 d) = (D.ga d : EReal) := by
  rw [← H.ga]; unfold V; after_reads_at
theorem V_gn (d : Fin 1024) : (V m c main_v1 : Vec Ideal S8x1024 .f32) (ix2 3 d) = (D.gn d : EReal) := by
  rw [← H.gn]; unfold V; after_reads_at
theorem V_ps (e : Fin 512) : (V m c main_v3 : Vec Ideal S8x512 .f32) (ix2 0 e) = (D.ps e : EReal) := by
  rw [← H.ps]; unfold V; after_reads_at
theorem V_lg (e : Fin 512) : (V m c main_v3 : Vec Ideal S8x512 .f32) (ix2 1 e) = (D.lg e : EReal) := by
  rw [← H.lg]; unfold V; after_reads_at
theorem V_lb (e : Fin 512) : (V m c main_v3 : Vec Ideal S8x512 .f32) (ix2 2 e) = (D.lb e : EReal) := by
  rw [← H.lb]; unfold V; after_reads_at
theorem V_win (d : Fin 1024) (j : Fin 1536) : (V m c main_v124 : Vec Ideal S1024x1536 .bf16) (ix2 d j) = (D.win d j : EReal) := by
  rw [← H.win]; unfold V; after_reads_at
theorem V_wp (g : Fin 4) (a b : Fin 128) : (V m c main_v125 : Vec Ideal S4x128x128 .bf16) (ix3 g a b) = (D.wp g a b : EReal) := by
  rw [← H.wp]; unfold V; after_reads_at
theorem V_wout (j d : Fin 1024) : (V m c main_v126 : Vec Ideal S1024x1024 .bf16) (ix2 j d) = (D.wout j d : EReal) := by
  rw [← H.wout]; unfold V; after_reads_at

theorem V_proj (s : Fin 8192) (j : Fin 1536) : (V m c main_v22 : Vec Ideal S8192x1536 .f32) (ix2 s j) = (D.proj s j : EReal) := by
  have hx := H.x
  have hsh := H.sh
  have hsc := H.sc
  have hgn := H.gn
  have hw := H.win
  unfold V; after_reads_at
  dsimp only [Thread.loc] at hx hsh hsc hgn hw
  simp only [hx, hsh, hsc, hgn, hw, c_1024, c_eps, ← EReal.coe_one, ← EReal.coe_mul, coe_sum, div1024, ← EReal.coe_add, rs_msq]
  rfl

theorem V_bias (t : Fin 128) (e : Fin 512) : (V m c main_v123 : Vec Ideal S128x512 .f32) (ix2 t e) = (D.bs (hd e) t : EReal) := by
  rw [← H.bs]; unfold V; after_reads_at; rfl

theorem V_zb (s : Fin 8192) (e : Fin 1024) : (V m c main_v102 : Vec Ideal S8192x1024 .f32) (ix2 s e) = (D.zb s e : EReal) := by
  refine Eq.trans ?_ (V_proj H s (pz e))
  unfold V; after_reads_at
  rfl

theorem mid_cols (s : Fin 8192) (g : Fin 4) (l : Fin 128) : (Mid m c (Proc.devRef .tc main_v24) : Vec Ideal S8192x4x128 .f32) (ix3 s g l) = (D.proj s (pa (ck g l)) : EReal) := by
  refine Eq.trans ?_ (V_proj H s (pa (ck g l)))
  have e : (pa (ck g l)) = ⟨g.val * 128 + l.val, by omega⟩ := Fin.ext (by simp only [pa, ck]; omega)
  rw [e]
  unfold V Mid; after_reads_at

theorem mid_cum (s : Fin 8192) (g : Fin 4) (l : Fin 128) : (Mid m c (Proc.devRef .tc main_v25) : Vec Ideal S8192x4x128 .f32) (ix3 s g l) = (D.cum s (ck g l) : EReal) := by
  refine Eq.trans ?_ (cumsum_at (Mid m c (Proc.devRef .tc main_v24) : Vec Ideal S8192x4x128 .f32) (broadcastInDim S_ ![] bcast_S_S_ (constant (F := Ideal) S_ .f32 0x00000000#32))
    (fun z => c_zero) (by decide) s g l _ (fun i => mid_cols H i g l)
    reduceWindows_S8192x4x128_S8192x4x128_w8192s1p8191_0_w1s1p0_0_w1s1p0_0)
  unfold Mid; after_reads_simp
  simp -implicitDefEqProofs only [StableHlo.TRef.toBuf, StableHlo.TRef.ofBuf, cast_cast, cast_eq]

omit H in
theorem wd_ck (g : Fin 4) (l : Fin 128) : In.wd (ck g l) = 2 ^ (g.val + 1) := by
  show 2 ^ ((128 * g.val + l.val) / 128 + 1) = _
  rw [show (128 * g.val + l.val) / 128 = g.val by omega]

theorem V_pool0 (s : Fin 8192) (e : Fin 512) (h : e.val / 128 = 0) :
    (V m c main_v101 : Vec Ideal S8192x512 .bf16) (ix2 s e) = (D.pool s (ck 0 ⟨e.val % 128, by omega⟩) : EReal) := by
  rw [V_mid]; after_reads_at
  refine (dif_pos (by omega)).trans ?_
  after_reads_at
  refine pool_at D s _ 2 (wd_ck 0 _) (by omega) (by omega) _ _ _ (mid_cum H _ _ _) (mid_cols H _ _ _) (fun h => ?_) (fun h => ?_)
  · rw [dif_pos h]; after_reads_at
  · rw [dif_neg (by omega)]; after_reads_at; exact mid_cum H _ _ _

theorem V_pool1 (s : Fin 8192) (e : Fin 512) (h : e.val / 128 = 1) :
    (V m c main_v101 : Vec Ideal S8192x512 .bf16) (ix2 s e) = (D.pool s (ck 1 ⟨e.val % 128, by omega⟩) : EReal) := by
  rw [V_mid]; after_reads_at
  refine (dif_neg (by omega)).trans ((dif_pos (by omega)).trans ?_)
  after_reads_at
  refine pool_at D s _ 4 (wd_ck 1 _) (by omega) (by omega) _ _ _ (mid_cum H _ _ _) (mid_cols H _ _ _) (fun h => ?_) (fun h => ?_)
  · rw [dif_pos h]; after_reads_at
  · rw [dif_neg (by omega)]; after_reads_at; exact mid_cum H _ _ _

theorem V_pool2 (s : Fin 8192) (e : Fin 512) (h : e.val / 128 = 2) :
    (V m c main_v101 : Vec Ideal S8192x512 .bf16) (ix2 s e) = (D.pool s (ck 2 ⟨e.val % 128, by omega⟩) : EReal) := by
  rw [V_mid]; after_reads_at
  refine (dif_neg (by omega)).trans ((dif_neg (by omega)).trans ((dif_pos (by omega)).trans ?_))
  after_reads_at
  refine pool_at D s _ 8 (wd_ck 2 _) (by omega) (by omega) _ _ _ (mid_cum H _ _ _) (mid_cols H _ _ _) (fun h => ?_) (fun h => ?_)
  · rw [dif_pos h]; after_reads_at
  · rw [dif_neg (by omega)]; after_reads_at; exact mid_cum H _ _ _

theorem V_pool3 (s : Fin 8192) (e : Fin 512) (h : e.val / 128 = 3) :
    (V m c main_v101 : Vec Ideal S8192x512 .bf16) (ix2 s e) = (D.pool s (ck 3 ⟨e.val % 128, by omega⟩) : EReal) := by
  rw [V_mid]; after_reads_at
  refine (dif_neg (by omega)).trans ((dif_neg (by omega)).trans ((dif_neg (by omega)).trans ?_))
  after_reads_at
  refine pool_at D s _ 16 (wd_ck 3 _) (by omega) (by omega) _ _ _ (mid_cum H _ _ _) (mid_cols H _ _ _) (fun h => ?_) (fun h => ?_)
  · rw [dif_pos h]; after_reads_at
  · rw [dif_neg (by omega)]; after_reads_at; exact mid_cum H _ _ _

theorem V_pool (s : Fin 8192) (e : Fin 512) : (V m c main_v101 : Vec Ideal S8192x512 .bf16) (ix2 s e) = (D.pool s e : EReal) := by
  have hl : ∀ g : Fin 4, e.val / 128 = g.val → (D.pool s (ck g ⟨e.val % 128, by omega⟩) : EReal) = (D.pool s e : EReal) := fun g hg =>
    congrArg (fun r => (D.pool s r : EReal)) (Fin.ext (by simp only [ck]; omega))
  obtain h | h | h | h : e.val / 128 = 0 ∨ e.val / 128 = 1 ∨ e.val / 128 = 2 ∨ e.val / 128 = 3 := by omega
  · exact (V_pool0 H s e h).trans (hl 0 h)
  · exact (V_pool1 H s e h).trans (hl 1 h)
  · exact (V_pool2 H s e h).trans (hl 2 h)
  · exact (V_pool3 H s e h).trans (hl 3 h)

omit H in
theorem tri_word (t q : Fin 128) : IntOp.cmpi CmpIPredicate.sge (IntOp.addi (BitVec.ofNat 32 t.val) 0#32) (BitVec.ofNat 32 q.val) = if q.val ≤ t.val then 1#1 else 0#1 := by
  have e : IntOp.addi (BitVec.ofNat 32 t.val) 0#32 = BitVec.ofNat 32 t.val := by simp [IntOp.addi]
  have h1 := toInt_small (n := q.val) (by omega)
  have h2 := toInt_small (n := t.val) (by omega)
  rw [e]
  unfold IntOp.cmpi
  simp only [BitVec.sle, h1, h2]
  by_cases h : q.val ≤ t.val <;> simp [h]
omit H in
theorem tri_sel (t q : Fin 128) (x z : EReal) (hz : z = 0) : Scalar.select (Scalar.select (if q.val ≤ t.val then 1#1 else 0#1) 1#1 0#1 : BitVec 1) x z = if q.val ≤ t.val then x else 0 := by
  subst hz; split_ifs <;> rfl

theorem V_ws (hh : Fin 8) (t q : Fin 128) : (V m c main_v106 : Vec Ideal S8x128x128 .f32) (ix3 hh t q) = (D.wm hh t q : EReal) := by
  have hw := H.ws
  unfold V; after_reads_at
  rw [tri_word]
  refine (tri_sel t q _ _ c_zero).trans ((if_congr Iff.rfl (hw hh t q) EReal.coe_zero.symm).trans ?_)
  unfold In.wm; split_ifs <;> rfl

omit H in
theorem slab_even (p : Fin 4) : (⟨2 * p.val, by omega⟩ : Fin 8) = ⟨p.val * 2, by omega⟩ := Fin.ext (by dsimp; omega)
omit H in
theorem slab_odd (p : Fin 4) : (⟨2 * p.val + 1, by omega⟩ : Fin 8) = ⟨p.val * 2 + 1, by omega⟩ := Fin.ext (by dsimp; omega)

theorem V_wcat (p : Fin 4) (t q : Fin 128) : (V m c main_v114 : Vec Ideal S4x128x256 .bf16) (ix3 p t ⟨q.val, by omega⟩) = (D.wm ⟨2 * p.val, by omega⟩ t q : EReal)
    ∧ (V m c main_v114 : Vec Ideal S4x128x256 .bf16) (ix3 p t ⟨128 + q.val, by omega⟩) = (D.wm ⟨2 * p.val + 1, by omega⟩ t q : EReal) := by
  rw [slab_even, slab_odd, ← V_ws H, ← V_ws H]
  unfold V
  constructor <;> after_reads_at <;> after_reads_at

theorem V_wtcat (p : Fin 4) (t q : Fin 128) : (V m c main_v120 : Vec Ideal S4x128x256 .bf16) (ix3 p t ⟨q.val, by omega⟩) = (D.wm ⟨2 * p.val, by omega⟩ q t : EReal)
    ∧ (V m c main_v120 : Vec Ideal S4x128x256 .bf16) (ix3 p t ⟨128 + q.val, by omega⟩) = (D.wm ⟨2 * p.val + 1, by omega⟩ q t : EReal) := by
  rw [slab_even, slab_odd, ← V_ws H, ← V_ws H]
  unfold V
  constructor <;> after_reads_at <;> after_reads_at

end Cert.Kernel2Ideal.Mix

end
-- ==== Proof.MixBlk.lean ====
/-
  The points of the mixing sub-layer's backward call: the tile each handles, and the blocks it reads.
-/
module

public import proofs.«01_k».proof.Proof.MixHost

@[expose] public section

noncomputable section

namespace Cert.Kernel2Ideal.Mix

open Cert.Kernel2Ideal Cert.Kernel2Ideal.Gen Idealize.ShloMosaic Idealize.ShloMosaic.TcCoe Cert.RealKit Cert.MixMath Cert.HeadMath

theorem t_lt (t : Fin cfg0.N) : t.val < 16 := lt_of_lt_of_eq t.isLt (show cfg0.N = 16 from N_0)
/-- The tile of rows a point handles: the last first. -/
def tl (t : Fin cfg0.N) : Fin 16 := ⟨15 - t.val, by omega⟩

theorem crd : ∀ t : Fin cfg0.N, tileW t = BitVec.ofNat 32 (15 - t.val) := by decide +kernel
theorem idx0 : ∀ t : Fin cfg0.N, win0_0.index t 0 = 15 - t.val ∧ win0_0.index t 1 = 0 := by decide +kernel
theorem idx1 : ∀ t : Fin cfg0.N, win0_1.index t 0 = 15 - t.val ∧ win0_1.index t 1 = 0 := by decide +kernel
theorem idx2 : ∀ t : Fin cfg0.N, win0_2.index t 0 = 15 - t.val ∧ win0_2.index t 1 = 0 := by decide +kernel
theorem idx3 : ∀ t : Fin cfg0.N, win0_3.index t 0 = 15 - t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 ∧ win0_6.index t 2 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 ∧ win0_8.index t 2 = 0 := by decide +kernel
theorem idx9 : ∀ t : Fin cfg0.N, win0_9.index t 0 = 0 ∧ win0_9.index t 1 = 0 ∧ win0_9.index t 2 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 15 - t.val ∧ win0_12.index t 1 = 0 := by decide +kernel
theorem idx13 : ∀ t : Fin cfg0.N, win0_13.index t 0 = 0 ∧ win0_13.index t 1 = 0 := by decide +kernel
theorem idx14 : ∀ t : Fin cfg0.N, win0_14.index t 0 = 0 ∧ win0_14.index t 1 = 0 := by decide +kernel
theorem idx15 : ∀ t : Fin cfg0.N, win0_15.index t 0 = 0 ∧ win0_15.index t 1 = 0 ∧ win0_15.index t 2 = 0 := by decide +kernel
theorem idx16 : ∀ t : Fin cfg0.N, win0_16.index t 0 = 0 ∧ win0_16.index t 1 = 0 ∧ win0_16.index t 2 = 0 := by decide +kernel
theorem idx17 : ∀ t : Fin cfg0.N, win0_17.index t 0 = 0 ∧ win0_17.index t 1 = 0 := by decide +kernel
theorem idx18 : ∀ t : Fin cfg0.N, win0_18.index t 0 = 0 ∧ win0_18.index t 1 = 0 := by decide +kernel
theorem idx19 : ∀ t : Fin cfg0.N, win0_19.index t 0 = 0 ∧ win0_19.index t 1 = 0 := by decide +kernel

variable {m : (ℓ : Loc nD τ sig) → Buf (Elt Ideal) ℓ} {c : Dev nD} (t : Fin cfg0.N)

theorem blk0 (r : Fin 512) (d : Fin 1024) : (iblk m c 0 t : Vec Ideal S512x1024 .f32) (ix2 r d) = (V m c main_arg0 : Vec Ideal S8192x1024 .f32) (ix2 (row (tl t) r) d) := by
  refine congrArg (V m c main_arg0 : Vec Ideal S8192x1024 .f32) (funext fun a => Fin.ext ?_)
  match a with
  | ⟨0, _⟩ => show win0_0.index t 0 * 512 + 1 * r.val = 512 * (15 - t.val) + r.val; rw [(idx0 t).1]; omega
  | ⟨1, _⟩ => show win0_0.index t 1 * 1024 + 1 * d.val = d.val; rw [(idx0 t).2]; omega
theorem blk1 (r : Fin 512) (d : Fin 1024) : (iblk m c 1 t : Vec Ideal S512x1024 .f32) (ix2 r d) = (V m c main_arg1 : Vec Ideal S8192x1024 .f32) (ix2 (row (tl t) r) d) := by
  refine congrArg (V m c main_arg1 : Vec Ideal S8192x1024 .f32) (funext fun a => Fin.ext ?_)
  match a with
  | ⟨0, _⟩ => show win0_1.index t 0 * 512 + 1 * r.val = 512 * (15 - t.val) + r.val; rw [(idx1 t).1]; omega
  | ⟨1, _⟩ => show win0_1.index t 1 * 1024 + 1 * d.val = d.val; rw [(idx1 t).2]; omega
theorem blk2 (r : Fin 512) (d : Fin 512) : (iblk m c 2 t : Vec Ideal S512x512 .bf16) (ix2 r d) = (V m c main_v101 : Vec Ideal S8192x512 .bf16) (ix2 (row (tl t) r) d) := by
  refine congrArg (V m c main_v101 : Vec Ideal S8192x512 .bf16) (funext fun a => Fin.ext ?_)
  match a with
  | ⟨0, _⟩ => show win0_2.index t 0 * 512 + 1 * r.val = 512 * (15 - t.val) + r.val; rw [(idx2 t).1]; omega
  | ⟨1, _⟩ => show win0_2.index t 1 * 512 + 1 * d.val = d.val; rw [(idx2 t).2]; omega
theorem blk3 (r : Fin 512) (d : Fin 1024) : (iblk m c 3 t : Vec Ideal S512x1024 .f32) (ix2 r d) = (V m c main_v102 : Vec Ideal S8192x1024 .f32) (ix2 (row (tl t) r) d) := by
  refine congrArg (V m c main_v102 : Vec Ideal S8192x1024 .f32) (funext fun a => Fin.ext ?_)
  match a with
  | ⟨0, _⟩ => show win0_3.index t 0 * 512 + 1 * r.val = 512 * (15 - t.val) + r.val; rw [(idx3 t).1]; omega
  | ⟨1, _⟩ => show win0_3.index t 1 * 1024 + 1 * d.val = d.val; rw [(idx3 t).2]; omega
theorem blk4 (p : Fin 8) (q : Fin 1024) : (iblk m c 4 t : Vec Ideal S8x1024 .f32) (ix2 p q) = (V m c main_v1 : Vec Ideal S8x1024 .f32) (ix2 p q) := by
  refine congrArg (V m c main_v1 : Vec Ideal S8x1024 .f32) (funext fun a => Fin.ext ?_)
  match a with
  | ⟨0, _⟩ => show win0_4.index t 0 * 8 + 1 * p.val = p.val; rw [(idx4 t).1]; omega
  | ⟨1, _⟩ => show win0_4.index t 1 * 1024 + 1 * q.val = q.val; rw [(idx4 t).2]; omega
theorem blk5 (p : Fin 1024) (q : Fin 1536) : (iblk m c 5 t : Vec Ideal S1024x1536 .bf16) (ix2 p q) = (V m c main_v124 : Vec Ideal S1024x1536 .bf16) (ix2 p q) := by
  refine congrArg (V m c main_v124 : Vec Ideal S1024x1536 .bf16) (funext fun a => Fin.ext ?_)
  match a with
  | ⟨0, _⟩ => show win0_5.index t 0 * 1024 + 1 * p.val = p.val; rw [(idx5 t).1]; omega
  | ⟨1, _⟩ => show win0_5.index t 1 * 1536 + 1 * q.val = q.val; rw [(idx5 t).2]; omega
theorem blk6 (p : Fin 4) (q : Fin 128) (r : Fin 128) : (iblk m c 6 t : Vec Ideal S4x128x128 .bf16) (ix3 p q r) = (V m c main_v125 : Vec Ideal S4x128x128 .bf16) (ix3 p q r) := by
  refine congrArg (V m c main_v125 : Vec Ideal S4x128x128 .bf16) (funext fun a => Fin.ext ?_)
  match a with
  | ⟨0, _⟩ => show win0_6.index t 0 * 4 + 1 * p.val = p.val; rw [(idx6 t).1]; omega
  | ⟨1, _⟩ => show win0_6.index t 1 * 128 + 1 * q.val = q.val; rw [(idx6 t).2.1]; omega
  | ⟨2, _⟩ => show win0_6.index t 2 * 128 + 1 * r.val = r.val; rw [(idx6 t).2.2]; omega
theorem blk7 (p : Fin 8) (q : Fin 512) : (iblk m c 7 t : Vec Ideal S8x512 .f32) (ix2 p q) = (V m c main_v3 : Vec Ideal S8x512 .f32) (ix2 p q) := by
  refine congrArg (V m c main_v3 : Vec Ideal S8x512 .f32) (funext fun a => Fin.ext ?_)
  match a with
  | ⟨0, _⟩ => show win0_7.index t 0 * 8 + 1 * p.val = p.val; rw [(idx7 t).1]; omega
  | ⟨1, _⟩ => show win0_7.index t 1 * 512 + 1 * q.val = q.val; rw [(idx7 t).2]; omega
theorem blk8 (p : Fin 4) (q : Fin 128) (r : Fin 256) : (iblk m c 8 t : Vec Ideal S4x128x256 .bf16) (ix3 p q r) = (V m c main_v114 : Vec Ideal S4x128x256 .bf16) (ix3 p q r) := by
  refine congrArg (V m c main_v114 : Vec Ideal S4x128x256 .bf16) (funext fun a => Fin.ext ?_)
  match a with
  | ⟨0, _⟩ => show win0_8.index t 0 * 4 + 1 * p.val = p.val; rw [(idx8 t).1]; omega
  | ⟨1, _⟩ => show win0_8.index t 1 * 128 + 1 * q.val = q.val; rw [(idx8 t).2.1]; omega
  | ⟨2, _⟩ => show win0_8.index t 2 * 256 + 1 * r.val = r.val; rw [(idx8 t).2.2]; omega
theorem blk9 (p : Fin 4) (q : Fin 128) (r : Fin 256) : (iblk m c 9 t : Vec Ideal S4x128x256 .bf16) (ix3 p q r) = (V m c main_v120 : Vec Ideal S4x128x256 .bf16) (ix3 p q r) := by
  refine congrArg (V m c main_v120 : Vec Ideal S4x128x256 .bf16) (funext fun a => Fin.ext ?_)
  match a with
  | ⟨0, _⟩ => show win0_9.index t 0 * 4 + 1 * p.val = p.val; rw [(idx9 t).1]; omega
  | ⟨1, _⟩ => show win0_9.index t 1 * 128 + 1 * q.val = q.val; rw [(idx9 t).2.1]; omega
  | ⟨2, _⟩ => show win0_9.index t 2 * 256 + 1 * r.val = r.val; rw [(idx9 t).2.2]; omega
theorem blk10 (p : Fin 128) (q : Fin 512) : (iblk m c 10 t : Vec Ideal S128x512 .f32) (ix2 p q) = (V m c main_v123 : Vec Ideal S128x512 .f32) (ix2 p q) := by
  refine congrArg (V m c main_v123 : Vec Ideal S128x512 .f32) (funext fun a => Fin.ext ?_)
  match a with
  | ⟨0, _⟩ => show win0_10.index t 0 * 128 + 1 * p.val = p.val; rw [(idx10 t).1]; omega
  | ⟨1, _⟩ => show win0_10.index t 1 * 512 + 1 * q.val = q.val; rw [(idx10 t).2]; omega
theorem blk11 (p : Fin 1024) (q : Fin 1024) : (iblk m c 11 t : Vec Ideal S1024x1024 .bf16) (ix2 p q) = (V m c main_v126 : Vec Ideal S1024x1024 .bf16) (ix2 p q) := by
  refine congrArg (V m c main_v126 : Vec Ideal S1024x1024 .bf16) (funext fun a => Fin.ext ?_)
  match a with
  | ⟨0, _⟩ => show win0_11.index t 0 * 1024 + 1 * p.val = p.val; rw [(idx11 t).1]; omega
  | ⟨1, _⟩ => show win0_11.index t 1 * 1024 + 1 * q.val = q.val; rw [(idx11 t).2]; omega

set_option maxHeartbeats 8000000 in
/-- What a point reads of arguments that hold real numbers. -/
theorem reads {D : In} (H : Args m c D) : Rd (blk m c t) D (tl t) where
  x r d := (blk0 t r d).trans ((congrFun (V_main_arg0 m c) _).trans (H.x _ d))
  g r d := (blk1 t r d).trans ((congrFun (V_main_arg1 m c) _).trans (H.g _ d))
  pool r e := (blk2 t r e).trans (V_pool H _ e)
  zb r e := (blk3 t r e).trans (V_zb H _ e)
  sh d := (blk4 t 0 d).trans (V_sh H d)
  sc d := (blk4 t 1 d).trans (V_sc H d)
  ga d := (blk4 t 2 d).trans (V_ga H d)
  gn d := (blk4 t 3 d).trans (V_gn H d)
  win d j := (blk5 t d j).trans (V_win H d j)
  wp g a b := (blk6 t g a b).trans (V_wp H g a b)
  ps e := (blk7 t 0 e).trans (V_ps H e)
  lg e := (blk7 t 1 e).trans (V_lg H e)
  lb e := (blk7 t 2 e).trans (V_lb H e)
  wcat p a b := ⟨(blk8 t p a _).trans (V_wcat H p a b).1, (blk8 t p a _).trans (V_wcat H p a b).2⟩
  wtcat p a b := ⟨(blk9 t p a _).trans (V_wtcat H p a b).1, (blk9 t p a _).trans (V_wtcat H p a b).2⟩
  bias a e := (blk10 t a e).trans (V_bias H a e)
  wout j d := (blk11 t j d).trans (V_wout H j d)

end Cert.Kernel2Ideal.Mix

end
-- ==== Proof.MixWin.lean ====
/-
  The pooling columns of the mixing sub-layer's backward call: the row buffer that carries the first rows of one tile to
  the tile before it, and the windows summed over it.
-/
module

public import proofs.«01_k».proof.Proof.MixTile

@[expose] public section

noncomputable section

namespace Cert.Kernel2Ideal.Mix

open Cert.Kernel2Ideal Cert.Kernel2Ideal.Gen Idealize.ShloMosaic Idealize.ShloMosaic.TcCoe Cert.RealKit Cert.HeadMath Cert.MixMath

/-- A window put, read inside. -/
theorem put_hit {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  unfold VecWindow.put
  rw [dif_pos fun a => by have := h a; have := (z a).isLt; omega]
  exact congrArg w (funext fun a => Fin.ext (by have := h a; show (y a).val - off a = _; omega))
/-- A window put, read outside. -/
theorem put_miss {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg fun q => by have := q a; omega]

/-- The columns of a group put, read in that group: the rows above the carried ones are the payload's. -/
theorem put_in {α : Type} (x : S528x512.Idx → α) (g : Fin 4) (o : ℕ) (ho : o = 128 * g.val) (w : S512x128.Idx → α) (R : Fin 528) (l : Fin 128) :
    VecWindow.put (s := S528x512) x ![0, o] S512x128.size w (ix2 R (ck g l)) = if h : R.val < 512 then w (ix2 ⟨R.val, h⟩ l) else x (ix2 R (ck g l)) := by
  split_ifs with h
  · refine put_hit (s := S528x512) x ![0, o] S512x128.size w (ix2 R (ck g l)) (ix2 ⟨R.val, h⟩ l) fun a => ?_
    fin_cases a
    · exact (Nat.zero_add _).symm
    · subst ho; rfl
  · exact put_miss (s := S528x512) x ![0, o] S512x128.size w (ix2 R (ck g l)) 0 (.inr (show 0 + 512 ≤ R.val by omega))
/-- The columns of a group put, read in another group. -/
theorem put_out {α : Type} (x : S528x512.Idx → α) (g g' : Fin 4) (o : ℕ) (ho : o = 128 * g.val) (hg : g' ≠ g) (w : S512x128.Idx → α) (R : Fin 528) (l : Fin 128) :
    VecWindow.put (s := S528x512) x ![0, o] S512x128.size w (ix2 R (ck g' l)) = x (ix2 R (ck g' l)) := by
  have hne : g'.val ≠ g.val := fun q => hg (Fin.ext q)
  exact put_miss (s := S528x512) x ![0, o] S512x128.size w (ix2 R (ck g' l)) 1
    (by show 128 * g'.val + l.val < o ∨ o + 128 ≤ 128 * g'.val + l.val; omega)

theorem qx_row (D : In) (τ : Fin 16) (r e : Fin 512) : D.q (row τ r) e = D.qx (row τ r).val e := by
  unfold In.qx; rw [dif_pos (row τ r).isLt]

theorem wd0 (l : Fin 128) : In.wd (ck 0 l) = 2 := by
  unfold In.wd; rw [show (ck 0 l).val / 128 = 0 from congrArg Fin.val (grp_ck 0 l)]; rfl
theorem wd1 (l : Fin 128) : In.wd (ck 1 l) = 4 := by
  unfold In.wd; rw [show (ck 1 l).val / 128 = 1 from congrArg Fin.val (grp_ck 1 l)]; rfl
theorem wd2 (l : Fin 128) : In.wd (ck 2 l) = 8 := by
  unfold In.wd; rw [show (ck 2 l).val / 128 = 2 from congrArg Fin.val (grp_ck 2 l)]; rfl
theorem wd3 (l : Fin 128) : In.wd (ck 3 l) = 16 := by
  unfold In.wd; rw [show (ck 3 l).val / 128 = 3 from congrArg Fin.val (grp_ck 3 l)]; rfl

variable {b : Blk Ideal} {D : In} {τ : Fin 16} (H : Rd b D τ) {v0 : BitVec 32} (hv : v0 = BitVec.ofNat 32 τ.val) {hal : Vec Ideal S528x512 .f32}
  (hh : ∀ (R : Fin 528) (e : Fin 512), 512 ≤ R.val → hal (ix2 R e) = (D.qx (512 * τ.val + R.val) e : EReal))

section
include H hv

/-- All groups' columns above the carried rows, whatever lay there before. -/
theorem buf3_top (hal : Vec Ideal S528x512 .f32) (R : Fin 528) (e : Fin 512) (h : R.val < 512) :
    b.buf3 v0 hal (ix2 R e) = (D.qx (512 * τ.val + R.val) e : EReal) := by
  obtain ⟨g, l, rfl⟩ := exists_ck e
  have hq : ∀ e, D.q (row τ ⟨R.val, h⟩) e = D.qx (512 * τ.val + R.val) e := fun e => qx_row D τ ⟨R.val, h⟩ e
  unfold Blk.buf3 Blk.buf2 Blk.buf1 Blk.buf0
  fin_cases g
  · refine (put_out _ 3 0 384 rfl (by decide) _ R l).trans ((put_out _ 2 0 256 rfl (by decide) _ R l).trans
      ((put_out _ 1 0 128 rfl (by decide) _ R l).trans ((put_in _ 0 0 rfl _ R l).trans ?_)))
    rw [dif_pos h, q0_at H hv, hq]; rfl
  · refine (put_out _ 3 1 384 rfl (by decide) _ R l).trans ((put_out _ 2 1 256 rfl (by decide) _ R l).trans
      ((put_in _ 1 128 rfl _ R l).trans ?_))
    rw [dif_pos h, q1_at H hv, hq]; rfl
  · refine (put_out _ 3 2 384 rfl (by decide) _ R l).trans ((put_in _ 2 256 rfl _ R l).trans ?_)
    rw [dif_pos h, q2_at H hv, hq]; rfl
  · refine (put_in _ 3 384 rfl _ R l).trans ?_
    rw [dif_pos h, q3_at H hv, hq]; rfl

/-- What the point leaves for the tile before it. -/
theorem halo_at (hal hal' : Vec Ideal S528x512 .f32) (R : Fin 528) (e : Fin 512) (h : 512 ≤ R.val) :
    b.halo v0 hal hal' (ix2 R e) = (D.qx (512 * τ.val + (R.val - 512)) e : EReal) := by
  unfold Blk.halo
  refine (put_hit (s := S528x512) _ ![512, 0] S16x512.size _ (ix2 R e) (ix2 (⟨R.val - 512, by omega⟩ : Fin 16) e) fun a => ?_).trans ?_
  · fin_cases a
    · exact (show R.val = 512 + (R.val - 512) by omega)
    · exact (Nat.zero_add _).symm
  · pointwise [k0_pay111]
    exact buf3_top H hv hal' ⟨R.val - 512, by omega⟩ e (show R.val - 512 < 512 by omega)

include hh
theorem buf0_at (R : Fin 528) (l : Fin 128) : b.buf0 v0 hal (ix2 R (ck 0 l)) = (D.qx (512 * τ.val + R.val) (ck 0 l) : EReal) := by
  unfold Blk.buf0
  refine (put_in _ 0 0 rfl _ R l).trans ?_
  split_ifs with h
  · exact (q0_at H hv _ _).trans (congrArg _ (qx_row D τ ⟨R.val, h⟩ (ck 0 l)))
  · exact hh R _ (by omega)
theorem ld0 (k : ℕ) (hk : k < 16) (r : Fin 512) (l : Fin 128) (p : k + r.val < 528) (p' : l.val < 512) :
    b.buf0 v0 hal (ix2 ⟨k + r.val, p⟩ ⟨l.val, p'⟩) = (D.qx ((row τ r).val + k) (ck 0 l) : EReal) :=
  (congrArg (fun j : Fin 512 => b.buf0 v0 hal (ix2 _ j)) (Fin.ext (Nat.zero_add l.val).symm)).trans <| (buf0_at H hv hh ⟨k + r.val, p⟩ l).trans (congrArg (fun n : ℕ => ((D.qx n (ck 0 l) : ℝ) : EReal)) (by simp only [row]; omega))
theorem buf1_at (R : Fin 528) (l : Fin 128) : b.buf1 v0 hal (ix2 R (ck 1 l)) = (D.qx (512 * τ.val + R.val) (ck 1 l) : EReal) := by
  unfold Blk.buf1
  refine (put_in _ 1 128 rfl _ R l).trans ?_
  split_ifs with h
  · exact (q1_at H hv _ _).trans (congrArg _ (qx_row D τ ⟨R.val, h⟩ (ck 1 l)))
  · exact (put_out _ 0 1 0 rfl (by decide) _ R l).trans (hh R _ (by omega))
theorem ld1 (k : ℕ) (hk : k < 16) (r : Fin 512) (l : Fin 128) (p : k + r.val < 528) (p' : 128 + l.val < 512) :
    b.buf1 v0 hal (ix2 ⟨k + r.val, p⟩ ⟨128 + l.val, p'⟩) = (D.qx ((row τ r).val + k) (ck 1 l) : EReal) :=
  (buf1_at H hv hh ⟨k + r.val, p⟩ l).trans (congrArg (fun n : ℕ => ((D.qx n (ck 1 l) : ℝ) : EReal)) (by simp only [row]; omega))
theorem buf2_at (R : Fin 528) (l : Fin 128) : b.buf2 v0 hal (ix2 R (ck 2 l)) = (D.qx (512 * τ.val + R.val) (ck 2 l) : EReal) := by
  unfold Blk.buf2
  refine (put_in _ 2 256 rfl _ R l).trans ?_
  split_ifs with h
  · exact (q2_at H hv _ _).trans (congrArg _ (qx_row D τ ⟨R.val, h⟩ (ck 2 l)))
  · exact (put_out _ 1 2 128 rfl (by decide) _ R l).trans ((put_out _ 0 2 0 rfl (by decide) _ R l).trans (hh R _ (by omega)))
theorem ld2 (k : ℕ) (hk : k < 16) (r : Fin 512) (l : Fin 128) (p : k + r.val < 528) (p' : 256 + l.val < 512) :
    b.buf2 v0 hal (ix2 ⟨k + r.val, p⟩ ⟨256 + l.val, p'⟩) = (D.qx ((row τ r).val + k) (ck 2 l) : EReal) :=
  (buf2_at H hv hh ⟨k + r.val, p⟩ l).trans (congrArg (fun n : ℕ => ((D.qx n (ck 2 l) : ℝ) : EReal)) (by simp only [row]; omega))
theorem buf3_at (R : Fin 528) (l : Fin 128) : b.buf3 v0 hal (ix2 R (ck 3 l)) = (D.qx (512 * τ.val + R.val) (ck 3 l) : EReal) := by
  unfold Blk.buf3
  refine (put_in _ 3 384 rfl _ R l).trans ?_
  split_ifs with h
  · exact (q3_at H hv _ _).trans (congrArg _ (qx_row D τ ⟨R.val, h⟩ (ck 3 l)))
  · exact (put_out _ 2 3 256 rfl (by decide) _ R l).trans ((put_out _ 1 3 128 rfl (by decide) _ R l).trans ((put_out _ 0 3 0 rfl (by decide) _ R l).trans (hh R _ (by omega))))
theorem ld3 (k : ℕ) (hk : k < 16) (r : Fin 512) (l : Fin 128) (p : k + r.val < 528) (p' : 384 + l.val < 512) :
    b.buf3 v0 hal (ix2 ⟨k + r.val, p⟩ ⟨384 + l.val, p'⟩) = (D.qx ((row τ r).val + k) (ck 3 l) : EReal) :=
  (buf3_at H hv hh ⟨k + r.val, p⟩ l).trans (congrArg (fun n : ℕ => ((D.qx n (ck 3 l) : ℝ) : EReal)) (by simp only [row]; omega))
theorem dxa0_at (r : Fin 512) (l : Fin 128) : b.dxa0 v0 hal (ix2 r l) = (D.dxa (row τ r) (ck 0 l) : EReal) := by
  unfold In.dxa
  rw [wd0]
  unfold Blk.dxa0
  pointwise [k0_pay105]
  simp (disch := norm_num) only [ld0 H hv hh, q0_at H hv, dp0_at H, qx_row D τ, ← EReal.coe_add, ← EReal.coe_sub, Finset.sum_range_succ,
    Finset.sum_range_zero, zero_add, add_zero]
theorem dxa1_at (r : Fin 512) (l : Fin 128) : b.dxa1 v0 hal (ix2 r l) = (D.dxa (row τ r) (ck 1 l) : EReal) := by
  unfold In.dxa
  rw [wd1]
  unfold Blk.dxa1
  pointwise [k0_pay106]
  simp (disch := norm_num) only [ld1 H hv hh, q1_at H hv, dp1_at H, qx_row D τ, ← EReal.coe_add, ← EReal.coe_sub, Finset.sum_range_succ,
    Finset.sum_range_zero, zero_add, add_zero]
theorem dxa2_at (r : Fin 512) (l : Fin 128) : b.dxa2 v0 hal (ix2 r l) = (D.dxa (row τ r) (ck 2 l) : EReal) := by
  unfold In.dxa
  rw [wd2]
  unfold Blk.dxa2
  pointwise [k0_pay108, k0_pay107]
  simp (disch := norm_num) only [ld2 H hv hh, q2_at H hv, dp2_at H, qx_row D τ, ← EReal.coe_add, ← EReal.coe_sub, Finset.sum_range_succ,
    Finset.sum_range_zero, zero_add, add_zero]
theorem dxa3_at (r : Fin 512) (l : Fin 128) : b.dxa3 v0 hal (ix2 r l) = (D.dxa (row τ r) (ck 3 l) : EReal) := by
  unfold In.dxa
  rw [wd3]
  unfold Blk.dxa3
  pointwise [k0_pay110, k0_pay109]
  simp (disch := norm_num) only [ld3 H hv hh, q3_at H hv, dp3_at H, qx_row D τ, ← EReal.coe_add, ← EReal.coe_sub, Finset.sum_range_succ,
    Finset.sum_range_zero, zero_add, add_zero]
end

end Cert.Kernel2Ideal.Mix

end
-- ==== Proof.MixChunk.lean ====
/-
  The spatial products of the mixing sub-layer's backward call: within each chunk of rows a pair of heads is mixed by one
  product with two weights side by side.
-/
module

public import proofs.«01_k».proof.Proof.MixTile

@[expose] public section

noncomputable section

namespace Cert.Kernel2Ideal.Mix

open Cert.Kernel2Ideal Cert.Kernel2Ideal.Gen Idealize.ShloMosaic Idealize.ShloMosaic.TcCoe Cert.RealKit Cert.HeadMath Cert.MixMath

/-- A lane compared with the middle one. -/
theorem lane_lt (l : Fin 128) : IntOp.cmpi .slt (BitVec.ofNat 32 l.val) 64#32 = if l.val < 64 then 1#1 else 0#1 := by
  have h1 := toInt_small (n := l.val) (by omega)
  have h2 := toInt_small (n := 64) (by omega)
  unfold IntOp.cmpi
  simp only [BitVec.slt, h1, show (64#32 : BitVec 32).toInt = ((64 : ℕ) : ℤ) from h2]
  by_cases h : l.val < 64 <;> simp [h]

theorem hd_lo (g : Fin 4) (l : Fin 128) (h : l.val < 64) : hd (ck g l) = ⟨2 * g.val, by omega⟩ := Fin.ext (by simp only [hd, ck]; omega)
theorem hd_hi (g : Fin 4) (l : Fin 128) (h : ¬l.val < 64) : hd (ck g l) = ⟨2 * g.val + 1, by omega⟩ := Fin.ext (by simp only [hd, ck]; omega)

theorem sv_ck (D : In) (τ : Fin 16) (k : Fin 4) (t : Fin 128) (e : Fin 512) :
    D.sv (row τ (ck k t)) e = (∑ q, D.wm (hd e) t q * D.vl (row τ (ck k q)) e) + D.bs (hd e) t := by
  unfold In.sv; simp only [row_ck, pos_crow, chk_crow]

theorem sel_lane (l : Fin 128) (x y : EReal) :
    Scalar.select (if l.val < 64 then 1#1 else 0#1) x y = if l.val < 64 then x else y := by
  by_cases h : l.val < 64 <;> simp [h, Scalar.select]
theorem sum_lane (l : Fin 128) (f g : Fin 128 → EReal) :
    (∑ q, if l.val < 64 then f q else 0) + (∑ q, if l.val < 64 then 0 else g q) = ∑ q, if l.val < 64 then f q else g q := by
  by_cases h : l.val < 64 <;> simp [h]

theorem coe_lane (l : Fin 128) (x y : ℝ) : (if l.val < 64 then (x : EReal) else (y : EReal)) = ((if l.val < 64 then x else y : ℝ) : EReal) := by
  split_ifs <;> rfl

theorem ck0 (x : Fin 128) (h : x.val < 512) : (⟨x.val, h⟩ : Fin 512) = ck 0 x := Fin.ext (Nat.zero_add _).symm
theorem ck1 (x : Fin 128) (h : 128 + x.val < 512) : (⟨128 + x.val, h⟩ : Fin 512) = ck 1 x := rfl
theorem ck2 (x : Fin 128) (h : 256 + x.val < 512) : (⟨256 + x.val, h⟩ : Fin 512) = ck 2 x := rfl
theorem ck3 (x : Fin 128) (h : 384 + x.val < 512) : (⟨384 + x.val, h⟩ : Fin 512) = ck 3 x := rfl
theorem wm_hd (D : In) (g : Fin 4) (l t q : Fin 128) :
    D.wm (hd (ck g l)) t q = if l.val < 64 then D.wm ⟨2 * g.val, by omega⟩ t q else D.wm ⟨2 * g.val + 1, by omega⟩ t q := by
  split_ifs with h
  · rw [hd_lo g l h]
  · rw [hd_hi g l h]

/-- The pair of heads a product mixes, in each of the four chunks of a tile's rows. -/
def mixR (V : Fin 4 → Fin 128 → Fin 128 → ℝ) (W0 W1 B : Fin 128 → Fin 128 → ℝ) (k : Fin 4) (t l : Fin 128) : ℝ :=
  (∑ q, if l.val < 64 then W0 t q * V k q l else W1 t q * V k q l) + B t l

section
variable {V : Fin 4 → Fin 128 → Fin 128 → ℝ} {W0 W1 B : Fin 128 → Fin 128 → ℝ} (v0 v1 v2 v3 : FVec Ideal S128x128 .f32) (m : IVec S128x128 1)
  (w : FVec Ideal S1x128x256 .bf16) (bi : FVec Ideal S128x128 .f32)
  (h0 : ∀ q l, v0 (ix2 q l) = (V 0 q l : EReal)) (h1 : ∀ q l, v1 (ix2 q l) = (V 1 q l : EReal))
  (h2 : ∀ q l, v2 (ix2 q l) = (V 2 q l : EReal)) (h3 : ∀ q l, v3 (ix2 q l) = (V 3 q l : EReal))
  (hm : ∀ q l : Fin 128, m (ix2 q l) = if l.val < 64 then 1#1 else 0#1)
  (hw0 : ∀ (t q : Fin 128) (h : q.val < 256), w (ix3 0 t ⟨q.val, h⟩) = (W0 t q : EReal))
  (hw1 : ∀ (t q : Fin 128) (h : 128 + q.val < 256), w (ix3 0 t ⟨128 + q.val, h⟩) = (W1 t q : EReal))
  (hb : ∀ t l, bi (ix2 t l) = (B t l : EReal))
include h0 h1 h2 h3 hm hw0 hw1

include hb in
theorem pair54 (k : Fin 4) (t l : Fin 128) : k0_pay54 (F := Ideal) v0 v1 v2 v3 m (FloatOps.ofBits FTy.f32 0#32) w bi (ix2 (ck k t) l)
    = (mixR V W0 W1 B k t l : EReal) := by
  have hr : (ck k t).val = 128 * k.val + t.val := rfl
  generalize ck k t = r at hr ⊢
  pointwise [k0_pay54]
  have i2 : 256 + l.val - 128 - 128 = l.val := by omega
  have i3 : 384 + l.val - 128 - 128 - 128 = l.val := by omega
  obtain ⟨k, hk⟩ := k
  interval_cases k <;> dsimp only at hr
  · have e : r.val = t.val := by omega
    simp (disch := omega) only [dif_pos, dif_neg, e, i2, i3, Fin.eta, h0, h1, h2, h3, hm, hw0, hw1, hb, sel_lane, mul_ite, mul_zero, sum_lane,
      ← EReal.coe_mul, coe_lane, coe_sum, ← EReal.coe_add]
    rfl
  · have e : r.val - 128 = t.val := by omega
    simp (disch := omega) only [dif_pos, dif_neg, e, i2, i3, Fin.eta, h0, h1, h2, h3, hm, hw0, hw1, hb, sel_lane, mul_ite, mul_zero, sum_lane,
      ← EReal.coe_mul, coe_lane, coe_sum, ← EReal.coe_add]
    rfl
  · have e : r.val - 128 - 128 = t.val := by omega
    simp (disch := omega) only [dif_pos, dif_neg, e, i2, i3, Fin.eta, h0, h1, h2, h3, hm, hw0, hw1, hb, sel_lane, mul_ite, mul_zero, sum_lane,
      ← EReal.coe_mul, coe_lane, coe_sum, ← EReal.coe_add]
    rfl
  · have e : r.val - 128 - 128 - 128 = t.val := by omega
    simp (disch := omega) only [dif_pos, dif_neg, e, i2, i3, Fin.eta, h0, h1, h2, h3, hm, hw0, hw1, hb, sel_lane, mul_ite, mul_zero, sum_lane,
      ← EReal.coe_mul, coe_lane, coe_sum, ← EReal.coe_add]
    rfl
end

end Cert.Kernel2Ideal.Mix

end
-- ==== Proof.MixPair.lean ====
/-
  The other spatial products of the mixing sub-layer's backward call, forward and transposed, chunk by chunk.
-/
module

public import proofs.«01_k».proof.Proof.MixChunk

@[expose] public section

noncomputable section

namespace Cert.Kernel2Ideal.Mix

open Cert.Kernel2Ideal Cert.Kernel2Ideal.Gen Idealize.ShloMosaic Idealize.ShloMosaic.TcCoe Cert.RealKit Cert.HeadMath Cert.MixMath

/-- Which chunk a row of a tile lies in, by its number. -/
theorem ck_cases (k : Fin 4) (t : Fin 128) : (k = 0 ∧ (ck k t).val = t.val) ∨ (k = 1 ∧ 128 ≤ (ck k t).val ∧ (ck k t).val < 256 ∧ (ck k t).val - 128 = t.val)
    ∨ (k = 2 ∧ 256 ≤ (ck k t).val ∧ (ck k t).val < 384 ∧ (ck k t).val - 128 - 128 = t.val)
    ∨ (k = 3 ∧ 384 ≤ (ck k t).val ∧ (ck k t).val - 128 - 128 - 128 = t.val) := by
  obtain ⟨k, hk⟩ := k
  simp only [ck, Fin.ext_iff]
  have : ((0 : Fin 4) : ℕ) = 0 ∧ ((1 : Fin 4) : ℕ) = 1 ∧ ((2 : Fin 4) : ℕ) = 2 ∧ ((3 : Fin 4) : ℕ) = 3 := ⟨rfl, rfl, rfl, rfl⟩
  omega

/-- The pair of heads a product mixes, with no bias. -/
def mix0 (V : Fin 4 → Fin 128 → Fin 128 → ℝ) (W0 W1 : Fin 128 → Fin 128 → ℝ) (k : Fin 4) (t l : Fin 128) : ℝ :=
  ∑ q, if l.val < 64 then W0 t q * V k q l else W1 t q * V k q l

section
variable {V : Fin 4 → Fin 128 → Fin 128 → ℝ} {W0 W1 B : Fin 128 → Fin 128 → ℝ} (v0 v1 v2 v3 s0 s1 s2 z : FVec Ideal S128x128 .f32) (m : IVec S128x128 1)
  (S : FVec Ideal S128x512 .f32) (a0 a1 a2 : FVec Ideal S512x128 .f32)
  (w : FVec Ideal S1x128x256 .bf16) (bi : FVec Ideal S128x128 .f32)
  (h0 : ∀ q l, v0 (ix2 q l) = (V 0 q l : EReal)) (h1 : ∀ q l, v1 (ix2 q l) = (V 1 q l : EReal))
  (h2 : ∀ q l, v2 (ix2 q l) = (V 2 q l : EReal)) (h3 : ∀ q l, v3 (ix2 q l) = (V 3 q l : EReal))
  (hm : ∀ q l : Fin 128, m (ix2 q l) = if l.val < 64 then 1#1 else 0#1)
  (hw0 : ∀ (t q : Fin 128) (h : q.val < 256), w (ix3 0 t ⟨q.val, h⟩) = (W0 t q : EReal))
  (hw1 : ∀ (t q : Fin 128) (h : 128 + q.val < 256), w (ix3 0 t ⟨128 + q.val, h⟩) = (W1 t q : EReal))
  (hb : ∀ t l, bi (ix2 t l) = (B t l : EReal)) (hz : ∀ q l, z (ix2 q l) = 0)
  (l0 : ∀ q l, s0 (ix2 q l) = if l.val < 64 then (V 0 q l : EReal) else 0) (l1 : ∀ q l, s1 (ix2 q l) = if l.val < 64 then (V 1 q l : EReal) else 0)
  (l2 : ∀ q l, s2 (ix2 q l) = if l.val < 64 then (V 2 q l : EReal) else 0)
  (u0 : ∀ q l, s0 (ix2 q l) = if l.val < 64 then 0 else (V 0 q l : EReal)) (u1 : ∀ q l, s1 (ix2 q l) = if l.val < 64 then 0 else (V 1 q l : EReal))
  (u2 : ∀ q l, s2 (ix2 q l) = if l.val < 64 then 0 else (V 2 q l : EReal))
  (hS : ∀ k q l, S (ix2 q (ck k l)) = if l.val < 64 then (V k q l : EReal) else 0)
include hw0 hw1

include h0 h1 h2 h3 hm hb hz l0 in
theorem pair62 (k : Fin 4) (t l : Fin 128) : k0_pay62 (F := Ideal) v0 v1 v2 v3 m s0 z w bi (ix2 (ck k t) l) = (mixR V W0 W1 B k t l : EReal) := by
  have hc := ck_cases k t
  generalize ck k t = r at hc ⊢
  pointwise [k0_pay62]
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, Fin.eta, h0, h1, h2, h3, hm, hb, hz, l0, hw0, hw1, lane_lt, sel_lane, mul_ite, mul_zero, sum_lane,
      ← EReal.coe_mul, coe_lane, coe_sum, ← EReal.coe_add]
    rfl

include h0 h1 h2 h3 hm hb l0 l1 l2 in
theorem pair71 (k : Fin 4) (t l : Fin 128) : k0_pay71 (F := Ideal) v0 v1 v2 v3 m s0 s1 s2 w bi (ix2 (ck k t) l) = (mixR V W0 W1 B k t l : EReal) := by
  have hc := ck_cases k t
  generalize ck k t = r at hc ⊢
  pointwise [k0_pay71]
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, Fin.eta, h0, h1, h2, h3, hm, hb, l0, l1, l2, hw0, hw1, lane_lt, sel_lane, mul_ite, mul_zero, sum_lane,
      ← EReal.coe_mul, coe_lane, coe_sum, ← EReal.coe_add]
    rfl

set_option maxHeartbeats 2000000 in
include h0 h1 h2 h3 hm hb hS in
theorem pair78 (k : Fin 4) (t l : Fin 128) : k0_pay78 (F := Ideal) a0 a1 a2 v0 v1 v2 v3 m S w bi (ix2 (ck k t) (ck 3 l)) = (mixR V W0 W1 B k t l : EReal) := by
  have S0 : ∀ (q l : Fin 128) (h : l.val < 512), S (ix2 q ⟨l.val, h⟩) = if l.val < 64 then (V 0 q l : EReal) else 0 := fun q l h => by rw [ck0]; exact hS 0 q l
  have S1 : ∀ (q l : Fin 128) (h : 128 + l.val < 512), S (ix2 q ⟨128 + l.val, h⟩) = if l.val < 64 then (V 1 q l : EReal) else 0 := fun q l h => hS 1 q l
  have S2 : ∀ (q l : Fin 128) (h : 256 + l.val < 512), S (ix2 q ⟨256 + l.val, h⟩) = if l.val < 64 then (V 2 q l : EReal) else 0 := fun q l h => hS 2 q l
  have S3 : ∀ (q l : Fin 128) (h : 384 + l.val < 512), S (ix2 q ⟨384 + l.val, h⟩) = if l.val < 64 then (V 3 q l : EReal) else 0 := fun q l h => hS 3 q l
  have hc := ck_cases k t
  have i4 : (ck 3 l).val = 384 + l.val := rfl
  generalize ck 3 l = L at i4 ⊢
  generalize ck k t = r at hc ⊢
  pointwise [k0_pay78]
  have i5 : L.val - 128 - 128 - 128 = l.val := by omega
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, i5, Fin.eta, h0, h1, h2, h3, hm, hb, hw0, hw1, S0, S1, S2, S3, lane_lt, sel_lane, mul_ite, mul_zero, sum_lane,
      ← EReal.coe_mul, coe_lane, coe_sum, ← EReal.coe_add]
    rfl

include h2 h3 hm hS u0 u1 in
theorem pair128 (k : Fin 4) (t l : Fin 128) : k0_pay128 (F := Ideal) v2 v3 m S s0 s1 w (ix2 (ck k t) l) = (mix0 V W0 W1 k t l : EReal) := by
  have S0 : ∀ (q l : Fin 128) (h : l.val < 512), S (ix2 q ⟨l.val, h⟩) = if l.val < 64 then (V 0 q l : EReal) else 0 := fun q l h => by rw [ck0]; exact hS 0 q l
  have S1 : ∀ (q l : Fin 128) (h : 128 + l.val < 512), S (ix2 q ⟨128 + l.val, h⟩) = if l.val < 64 then (V 1 q l : EReal) else 0 := fun q l h => hS 1 q l
  have S2 : ∀ (q l : Fin 128) (h : 256 + l.val < 512), S (ix2 q ⟨256 + l.val, h⟩) = if l.val < 64 then (V 2 q l : EReal) else 0 := fun q l h => hS 2 q l
  have S3 : ∀ (q l : Fin 128) (h : 384 + l.val < 512), S (ix2 q ⟨384 + l.val, h⟩) = if l.val < 64 then (V 3 q l : EReal) else 0 := fun q l h => hS 3 q l
  have hc := ck_cases k t
  generalize ck k t = r at hc ⊢
  pointwise [k0_pay128, k0_pay127]
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, Fin.eta, h2, h3, hm, u0, u1, hw0, hw1, S0, S1, S2, S3, lane_lt, sel_lane, mul_ite, mul_zero, sum_lane,
      ← EReal.coe_mul, coe_lane, coe_sum, ← EReal.coe_add]
    rfl

include h0 h1 h2 h3 in
theorem pair144 (k : Fin 4) (t l : Fin 128) : k0_pay144 (F := Ideal) v0 v1 v2 v3 w (ix2 (ck k t) l) = (mix0 V W0 W1 k t l : EReal) := by
  have hc := ck_cases k t
  generalize ck k t = r at hc ⊢
  pointwise [k0_pay144, k0_pay143, k0_pay142, k0_pay141, lane_lt]
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, Fin.eta, h0, h1, h2, h3, hw0, hw1, lane_lt, sel_lane, mul_ite, mul_zero, sum_lane,
      ← EReal.coe_mul, coe_lane, coe_sum, ← EReal.coe_add]
    rfl

include h0 h1 h2 h3 hm in
theorem pair160 (k : Fin 4) (t l : Fin 128) : k0_pay160 (F := Ideal) v0 v1 v2 v3 m (FloatOps.ofBits FTy.f32 0#32) w (ix2 (ck k t) l) = (mix0 V W0 W1 k t l : EReal) := by
  have hc := ck_cases k t
  generalize ck k t = r at hc ⊢
  pointwise [k0_pay160, k0_pay159, k0_pay158]
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, Fin.eta, h0, h1, h2, h3, hm, hw0, hw1, lane_lt, sel_lane, mul_ite, mul_zero, sum_lane,
      ← EReal.coe_mul, coe_lane, coe_sum, ← EReal.coe_add]
    rfl

include h3 hm hS u0 u1 u2 in
theorem pair182 (k : Fin 4) (t l : Fin 128) : k0_pay182 (F := Ideal) a0 a1 a2 v3 m S s0 s1 s2 w (ix2 (ck k t) (ck 3 l)) = (mix0 V W0 W1 k t l : EReal) := by
  have S0 : ∀ (q l : Fin 128) (h : l.val < 512), S (ix2 q ⟨l.val, h⟩) = if l.val < 64 then (V 0 q l : EReal) else 0 := fun q l h => by rw [ck0]; exact hS 0 q l
  have S1 : ∀ (q l : Fin 128) (h : 128 + l.val < 512), S (ix2 q ⟨128 + l.val, h⟩) = if l.val < 64 then (V 1 q l : EReal) else 0 := fun q l h => hS 1 q l
  have S2 : ∀ (q l : Fin 128) (h : 256 + l.val < 512), S (ix2 q ⟨256 + l.val, h⟩) = if l.val < 64 then (V 2 q l : EReal) else 0 := fun q l h => hS 2 q l
  have S3 : ∀ (q l : Fin 128) (h : 384 + l.val < 512), S (ix2 q ⟨384 + l.val, h⟩) = if l.val < 64 then (V 3 q l : EReal) else 0 := fun q l h => hS 3 q l
  have hc := ck_cases k t
  have i4 : (ck 3 l).val = 384 + l.val := rfl
  generalize ck 3 l = L at i4 ⊢
  generalize ck k t = r at hc ⊢
  pointwise [k0_pay182, k0_pay178]
  have i5 : L.val - 128 - 128 - 128 = l.val := by omega
  have i2 : 256 + l.val - 128 - 128 = l.val := by omega
  have i3 : 384 + l.val - 128 - 128 - 128 = l.val := by omega
  rcases hc with ⟨rfl, e⟩ | ⟨rfl, ea, eb, e⟩ | ⟨rfl, ea, eb, e⟩ | ⟨rfl, ea, e⟩
  all_goals
    simp (disch := omega) only [dif_pos, dif_neg, e, i2, i3, i5, Fin.eta, h3, hm, u0, u1, u2, hw0, hw1, S0, S1, S2, S3, lane_lt, sel_lane, mul_ite, mul_zero, sum_lane,
      ← EReal.coe_mul, coe_lane, coe_sum, ← EReal.coe_add]
    rfl

omit hw0 hw1 in
theorem pair78_0 (r : Fin 512) (l : Fin 128) : k0_pay78 (F := Ideal) a0 a1 a2 v0 v1 v2 v3 m S w bi (ix2 r (ck 0 l)) = a0 (ix2 r l) := by
  have i4 : (ck 0 l).val = 0 + l.val := rfl
  generalize ck 0 l = L at i4 ⊢
  pointwise [k0_pay78]
  have e : L.val = l.val := by omega
  simp (disch := omega) only [dif_pos, dif_neg, e, Fin.eta]

omit hw0 hw1 in
theorem pair78_1 (r : Fin 512) (l : Fin 128) : k0_pay78 (F := Ideal) a0 a1 a2 v0 v1 v2 v3 m S w bi (ix2 r (ck 1 l)) = a1 (ix2 r l) := by
  have i4 : (ck 1 l).val = 128 + l.val := rfl
  generalize ck 1 l = L at i4 ⊢
  pointwise [k0_pay78]
  have e : L.val - 128 = l.val := by omega
  simp (disch := omega) only [dif_pos, dif_neg, e, Fin.eta]

omit hw0 hw1 in
theorem pair78_2 (r : Fin 512) (l : Fin 128) : k0_pay78 (F := Ideal) a0 a1 a2 v0 v1 v2 v3 m S w bi (ix2 r (ck 2 l)) = a2 (ix2 r l) := by
  have i4 : (ck 2 l).val = 256 + l.val := rfl
  generalize ck 2 l = L at i4 ⊢
  pointwise [k0_pay78]
  have e : L.val - 128 - 128 = l.val := by omega
  simp (disch := omega) only [dif_pos, dif_neg, e, Fin.eta]

omit hw0 hw1 in
theorem pair182_0 (r : Fin 512) (l : Fin 128) : k0_pay182 (F := Ideal) a0 a1 a2 v3 m S s0 s1 s2 w (ix2 r (ck 0 l)) = a0 (ix2 r l) := by
  have i4 : (ck 0 l).val = 0 + l.val := rfl
  generalize ck 0 l = L at i4 ⊢
  pointwise [k0_pay182]
  have e : L.val = l.val := by omega
  simp (disch := omega) only [dif_pos, dif_neg, e, Fin.eta]

omit hw0 hw1 in
theorem pair182_1 (r : Fin 512) (l : Fin 128) : k0_pay182 (F := Ideal) a0 a1 a2 v3 m S s0 s1 s2 w (ix2 r (ck 1 l)) = a1 (ix2 r l) := by
  have i4 : (ck 1 l).val = 128 + l.val := rfl
  generalize ck 1 l = L at i4 ⊢
  pointwise [k0_pay182]
  have e : L.val - 128 = l.val := by omega
  simp (disch := omega) only [dif_pos, dif_neg, e, Fin.eta]

omit hw0 hw1 in
theorem pair182_2 (r : Fin 512) (l : Fin 128) : k0_pay182 (F := Ideal) a0 a1 a2 v3 m S s0 s1 s2 w (ix2 r (ck 2 l)) = a2 (ix2 r l) := by
  have i4 : (ck 2 l).val = 256 + l.val := rfl
  generalize ck 2 l = L at i4 ⊢
  pointwise [k0_pay182]
  have e : L.val - 128 - 128 = l.val := by omega
  simp (disch := omega) only [dif_pos, dif_neg, e, Fin.eta]

end

end Cert.Kernel2Ideal.Mix

end
-- ==== Proof.MixSpace.lean ====
/-
  The spatially mixed rows of one tile, and the gradient at its layer norm.
-/
module

public import proofs.«01_k».proof.Proof.MixPair

@[expose] public section

noncomputable section

namespace Cert.Kernel2Ideal.Mix

open Cert.Kernel2Ideal Cert.Kernel2Ideal.Gen Idealize.ShloMosaic Idealize.ShloMosaic.TcCoe Cert.RealKit Cert.HeadMath Cert.MixMath

theorem mask53 (q l : Fin 128) : k0_pay53 (ix2 q l) = if l.val < 64 then 1#1 else 0#1 := by pointwise [k0_pay53]; exact lane_lt l
theorem mask59 (q l : Fin 128) : k0_pay59 (ix2 q l) = if l.val < 64 then 1#1 else 0#1 := by pointwise [k0_pay59]; exact lane_lt l
theorem mask67 (q l : Fin 128) : k0_pay67 (ix2 q l) = if l.val < 64 then 1#1 else 0#1 := by pointwise [k0_pay67]; exact lane_lt l
theorem mask76 (q l : Fin 128) : k0_pay76 (ix2 q l) = if l.val < 64 then 1#1 else 0#1 := by pointwise [k0_pay76]; exact lane_lt l
theorem mask123 (q l : Fin 128) : k0_pay123 (ix2 q l) = if l.val < 64 then 1#1 else 0#1 := by pointwise [k0_pay123]; exact lane_lt l
theorem mask157 (q l : Fin 128) : k0_pay157 (ix2 q l) = if l.val < 64 then 1#1 else 0#1 := by pointwise [k0_pay157]; exact lane_lt l
theorem mask173 (q l : Fin 128) : k0_pay173 (ix2 q l) = if l.val < 64 then 1#1 else 0#1 := by pointwise [k0_pay173]; exact lane_lt l

variable {b : Blk Ideal} {D : In} {τ : Fin 16} (H : Rd b D τ)
include H

theorem wcat_lo (p : Fin 4) (t q : Fin 128) (h : q.val < 256) : b.wcat (ix3 p t ⟨q.val, h⟩) = (D.wm ⟨2 * p.val, by omega⟩ t q : EReal) := (H.wcat p t q).1
theorem wcat_hi (p : Fin 4) (t q : Fin 128) (h : 128 + q.val < 256) :
    b.wcat (ix3 p t ⟨128 + q.val, h⟩) = (D.wm ⟨2 * p.val + 1, by omega⟩ t q : EReal) := (H.wcat p t q).2
theorem wtcat_lo (p : Fin 4) (t q : Fin 128) (h : q.val < 256) : b.wtcat (ix3 p t ⟨q.val, h⟩) = (D.wm ⟨2 * p.val, by omega⟩ q t : EReal) := (H.wtcat p t q).1
theorem wtcat_hi (p : Fin 4) (t q : Fin 128) (h : 128 + q.val < 256) :
    b.wtcat (ix3 p t ⟨128 + q.val, h⟩) = (D.wm ⟨2 * p.val + 1, by omega⟩ q t : EReal) := (H.wtcat p t q).2
theorem blk_vl_at (r e : Fin 512) : b.vl (ix2 r e) = (D.vl (row τ r) e : EReal) := vl_at H r e
theorem dsv_at (r e : Fin 512) : b.dsv (ix2 r e) = (D.dsv (row τ r) e : EReal) := by
  unfold Blk.dsv; pointwise [k0_pay113]; rw [u_at H, dyb_at H]; exact (EReal.coe_mul _ _).symm
theorem dsv_at' (r e : Fin 512) : k0_pay113 (F := Ideal) b.u b.dyb (ix2 r e) = (D.dsv (row τ r) e : EReal) := dsv_at H r e

omit H in
theorem sv_real (p k : Fin 4) (t l : Fin 128) : D.sv (row τ (ck k t)) (ck p l)
    = mixR (fun k q l => D.vl (row τ (ck k q)) (ck p l)) (D.wm ⟨2 * p.val, by omega⟩) (D.wm ⟨2 * p.val + 1, by omega⟩) (fun t l => D.bs (hd (ck p l)) t) k t l := by
  rw [sv_ck]; unfold mixR; simp only [wm_hd, ite_mul]
omit H in
theorem dvl_real (p k : Fin 4) (t l : Fin 128) : D.dvl (row τ (ck k t)) (ck p l)
    = mix0 (fun k q l => D.dsv (row τ (ck k q)) (ck p l)) (fun t q => D.wm ⟨2 * p.val, by omega⟩ q t) (fun t q => D.wm ⟨2 * p.val + 1, by omega⟩ q t) k t l := by
  unfold In.dvl mix0; simp only [row_ck, pos_crow, chk_crow, wm_hd, ite_mul]

theorem cut49 (q l : Fin 128) : k0_pay49 (F := Ideal) b.vecs b.z (ix2 q l) = (D.vl (row τ (ck 0 q)) (ck 0 l) : EReal) := by
  pointwise [k0_pay49]; try simp only [ck0]
  exact vl_at H (ck 0 q) (ck 0 l)
theorem cut50 (q l : Fin 128) : k0_pay50 (F := Ideal) b.vecs b.z (ix2 q l) = (D.vl (row τ (ck 1 q)) (ck 0 l) : EReal) := by
  pointwise [k0_pay50]; try simp only [ck0]
  exact vl_at H (ck 1 q) (ck 0 l)
theorem cut51 (q l : Fin 128) : k0_pay51 (F := Ideal) b.vecs b.z (ix2 q l) = (D.vl (row τ (ck 2 q)) (ck 0 l) : EReal) := by
  pointwise [k0_pay51]; try simp only [ck0]
  exact vl_at H (ck 2 q) (ck 0 l)
theorem cut52 (q l : Fin 128) : k0_pay52 (F := Ideal) b.vecs b.z (ix2 q l) = (D.vl (row τ (ck 3 q)) (ck 0 l) : EReal) := by
  pointwise [k0_pay52]; try simp only [ck0]
  exact vl_at H (ck 3 q) (ck 0 l)
theorem cut55 (q l : Fin 128) : k0_pay55 (F := Ideal) b.vl (ix2 q l) = (D.vl (row τ (ck 0 q)) (ck 1 l) : EReal) := by
  pointwise [k0_pay55]; try simp only [ck0]
  exact blk_vl_at H (ck 0 q) (ck 1 l)
theorem cut56 (q l : Fin 128) : k0_pay56 (F := Ideal) b.vl (ix2 q l) = (D.vl (row τ (ck 1 q)) (ck 1 l) : EReal) := by
  pointwise [k0_pay56]; try simp only [ck0]
  exact blk_vl_at H (ck 1 q) (ck 1 l)
theorem cut57 (q l : Fin 128) : k0_pay57 (F := Ideal) b.vl (ix2 q l) = (D.vl (row τ (ck 2 q)) (ck 1 l) : EReal) := by
  pointwise [k0_pay57]; try simp only [ck0]
  exact blk_vl_at H (ck 2 q) (ck 1 l)
theorem cut58 (q l : Fin 128) : k0_pay58 (F := Ideal) b.vl (ix2 q l) = (D.vl (row τ (ck 3 q)) (ck 1 l) : EReal) := by
  pointwise [k0_pay58]; try simp only [ck0]
  exact blk_vl_at H (ck 3 q) (ck 1 l)
theorem cut63 (q l : Fin 128) : k0_pay63 (F := Ideal) b.vl (ix2 q l) = (D.vl (row τ (ck 0 q)) (ck 2 l) : EReal) := by
  pointwise [k0_pay63]; try simp only [ck0]
  exact blk_vl_at H (ck 0 q) (ck 2 l)
theorem cut64 (q l : Fin 128) : k0_pay64 (F := Ideal) b.vl (ix2 q l) = (D.vl (row τ (ck 1 q)) (ck 2 l) : EReal) := by
  pointwise [k0_pay64]; try simp only [ck0]
  exact blk_vl_at H (ck 1 q) (ck 2 l)
theorem cut65 (q l : Fin 128) : k0_pay65 (F := Ideal) b.vl (ix2 q l) = (D.vl (row τ (ck 2 q)) (ck 2 l) : EReal) := by
  pointwise [k0_pay65]; try simp only [ck0]
  exact blk_vl_at H (ck 2 q) (ck 2 l)
theorem cut66 (q l : Fin 128) : k0_pay66 (F := Ideal) b.vl (ix2 q l) = (D.vl (row τ (ck 3 q)) (ck 2 l) : EReal) := by
  pointwise [k0_pay66]; try simp only [ck0]
  exact blk_vl_at H (ck 3 q) (ck 2 l)
theorem cut72 (q l : Fin 128) : k0_pay72 (F := Ideal) b.vl (ix2 q l) = (D.vl (row τ (ck 0 q)) (ck 3 l) : EReal) := by
  pointwise [k0_pay72]; try simp only [ck0]
  exact blk_vl_at H (ck 0 q) (ck 3 l)
theorem cut73 (q l : Fin 128) : k0_pay73 (F := Ideal) b.vl (ix2 q l) = (D.vl (row τ (ck 1 q)) (ck 3 l) : EReal) := by
  pointwise [k0_pay73]; try simp only [ck0]
  exact blk_vl_at H (ck 1 q) (ck 3 l)
theorem cut74 (q l : Fin 128) : k0_pay74 (F := Ideal) b.vl (ix2 q l) = (D.vl (row τ (ck 2 q)) (ck 3 l) : EReal) := by
  pointwise [k0_pay74]; try simp only [ck0]
  exact blk_vl_at H (ck 2 q) (ck 3 l)
theorem cut75 (q l : Fin 128) : k0_pay75 (F := Ideal) b.vl (ix2 q l) = (D.vl (row τ (ck 3 q)) (ck 3 l) : EReal) := by
  pointwise [k0_pay75]; try simp only [ck0]
  exact blk_vl_at H (ck 3 q) (ck 3 l)
theorem cut114 (q l : Fin 128) : k0_pay114 (F := Ideal) b.u b.dyb (ix2 q l) = (D.dsv (row τ (ck 0 q)) (ck 0 l) : EReal) := by
  pointwise [k0_pay114]; try simp only [ck0]
  exact dsv_at' H (ck 0 q) (ck 0 l)
theorem cut115 (q l : Fin 128) : k0_pay115 (F := Ideal) b.u b.dyb (ix2 q l) = (D.dsv (row τ (ck 1 q)) (ck 0 l) : EReal) := by
  pointwise [k0_pay115]; try simp only [ck0]
  exact dsv_at' H (ck 1 q) (ck 0 l)
theorem cut116 (q l : Fin 128) : k0_pay116 (F := Ideal) b.u b.dyb (ix2 q l) = (D.dsv (row τ (ck 2 q)) (ck 0 l) : EReal) := by
  pointwise [k0_pay116]; try simp only [ck0]
  exact dsv_at' H (ck 2 q) (ck 0 l)
theorem cut117 (q l : Fin 128) : k0_pay117 (F := Ideal) b.u b.dyb (ix2 q l) = (D.dsv (row τ (ck 3 q)) (ck 0 l) : EReal) := by
  pointwise [k0_pay117]; try simp only [ck0]
  exact dsv_at' H (ck 3 q) (ck 0 l)
theorem cut132 (q l : Fin 128) : k0_pay132 (F := Ideal) b.dsv (ix2 q l) = (D.dsv (row τ (ck 0 q)) (ck 1 l) : EReal) := by
  pointwise [k0_pay132]; try simp only [ck0]
  exact dsv_at H (ck 0 q) (ck 1 l)
theorem cut133 (q l : Fin 128) : k0_pay133 (F := Ideal) b.dsv (ix2 q l) = (D.dsv (row τ (ck 1 q)) (ck 1 l) : EReal) := by
  pointwise [k0_pay133]; try simp only [ck0]
  exact dsv_at H (ck 1 q) (ck 1 l)
theorem cut134 (q l : Fin 128) : k0_pay134 (F := Ideal) b.dsv (ix2 q l) = (D.dsv (row τ (ck 2 q)) (ck 1 l) : EReal) := by
  pointwise [k0_pay134]; try simp only [ck0]
  exact dsv_at H (ck 2 q) (ck 1 l)
theorem cut135 (q l : Fin 128) : k0_pay135 (F := Ideal) b.dsv (ix2 q l) = (D.dsv (row τ (ck 3 q)) (ck 1 l) : EReal) := by
  pointwise [k0_pay135]; try simp only [ck0]
  exact dsv_at H (ck 3 q) (ck 1 l)
theorem cut148 (q l : Fin 128) : k0_pay148 (F := Ideal) b.dsv (ix2 q l) = (D.dsv (row τ (ck 0 q)) (ck 2 l) : EReal) := by
  pointwise [k0_pay148]; try simp only [ck0]
  exact dsv_at H (ck 0 q) (ck 2 l)
theorem cut149 (q l : Fin 128) : k0_pay149 (F := Ideal) b.dsv (ix2 q l) = (D.dsv (row τ (ck 1 q)) (ck 2 l) : EReal) := by
  pointwise [k0_pay149]; try simp only [ck0]
  exact dsv_at H (ck 1 q) (ck 2 l)
theorem cut150 (q l : Fin 128) : k0_pay150 (F := Ideal) b.dsv (ix2 q l) = (D.dsv (row τ (ck 2 q)) (ck 2 l) : EReal) := by
  pointwise [k0_pay150]; try simp only [ck0]
  exact dsv_at H (ck 2 q) (ck 2 l)
theorem cut151 (q l : Fin 128) : k0_pay151 (F := Ideal) b.dsv (ix2 q l) = (D.dsv (row τ (ck 3 q)) (ck 2 l) : EReal) := by
  pointwise [k0_pay151]; try simp only [ck0]
  exact dsv_at H (ck 3 q) (ck 2 l)
theorem cut164 (q l : Fin 128) : k0_pay164 (F := Ideal) b.dsv (ix2 q l) = (D.dsv (row τ (ck 0 q)) (ck 3 l) : EReal) := by
  pointwise [k0_pay164]; try simp only [ck0]
  exact dsv_at H (ck 0 q) (ck 3 l)
theorem cut165 (q l : Fin 128) : k0_pay165 (F := Ideal) b.dsv (ix2 q l) = (D.dsv (row τ (ck 1 q)) (ck 3 l) : EReal) := by
  pointwise [k0_pay165]; try simp only [ck0]
  exact dsv_at H (ck 1 q) (ck 3 l)
theorem cut166 (q l : Fin 128) : k0_pay166 (F := Ideal) b.dsv (ix2 q l) = (D.dsv (row τ (ck 2 q)) (ck 3 l) : EReal) := by
  pointwise [k0_pay166]; try simp only [ck0]
  exact dsv_at H (ck 2 q) (ck 3 l)
theorem cut167 (q l : Fin 128) : k0_pay167 (F := Ideal) b.dsv (ix2 q l) = (D.dsv (row τ (ck 3 q)) (ck 3 l) : EReal) := by
  pointwise [k0_pay167]; try simp only [ck0]
  exact dsv_at H (ck 3 q) (ck 3 l)
theorem cut118 (q l : Fin 128) : k0_pay118 (F := Ideal) b.vl (ix2 q l) = (D.vl (row τ (ck 0 q)) (ck 0 l) : EReal) := by
  pointwise [k0_pay118]; try simp only [ck0]
  exact blk_vl_at H (ck 0 q) (ck 0 l)
theorem cut119 (q l : Fin 128) : k0_pay119 (F := Ideal) b.vl (ix2 q l) = (D.vl (row τ (ck 1 q)) (ck 0 l) : EReal) := by
  pointwise [k0_pay119]; try simp only [ck0]
  exact blk_vl_at H (ck 1 q) (ck 0 l)
theorem cut120 (q l : Fin 128) : k0_pay120 (F := Ideal) b.vl (ix2 q l) = (D.vl (row τ (ck 2 q)) (ck 0 l) : EReal) := by
  pointwise [k0_pay120]; try simp only [ck0]
  exact blk_vl_at H (ck 2 q) (ck 0 l)
theorem cut121 (q l : Fin 128) : k0_pay121 (F := Ideal) b.vl (ix2 q l) = (D.vl (row τ (ck 3 q)) (ck 0 l) : EReal) := by
  pointwise [k0_pay121]; try simp only [ck0]
  exact blk_vl_at H (ck 3 q) (ck 0 l)
theorem cut136 (q l : Fin 128) : k0_pay136 (F := Ideal) b.vl (ix2 q l) = (D.vl (row τ (ck 0 q)) (ck 1 l) : EReal) := by
  pointwise [k0_pay136]; try simp only [ck0]
  exact blk_vl_at H (ck 0 q) (ck 1 l)
theorem cut137 (q l : Fin 128) : k0_pay137 (F := Ideal) b.vl (ix2 q l) = (D.vl (row τ (ck 1 q)) (ck 1 l) : EReal) := by
  pointwise [k0_pay137]; try simp only [ck0]
  exact blk_vl_at H (ck 1 q) (ck 1 l)
theorem cut138 (q l : Fin 128) : k0_pay138 (F := Ideal) b.vl (ix2 q l) = (D.vl (row τ (ck 2 q)) (ck 1 l) : EReal) := by
  pointwise [k0_pay138]; try simp only [ck0]
  exact blk_vl_at H (ck 2 q) (ck 1 l)
theorem cut139 (q l : Fin 128) : k0_pay139 (F := Ideal) b.vl (ix2 q l) = (D.vl (row τ (ck 3 q)) (ck 1 l) : EReal) := by
  pointwise [k0_pay139]; try simp only [ck0]
  exact blk_vl_at H (ck 3 q) (ck 1 l)
theorem cut152 (q l : Fin 128) : k0_pay152 (F := Ideal) b.vl (ix2 q l) = (D.vl (row τ (ck 0 q)) (ck 2 l) : EReal) := by
  pointwise [k0_pay152]; try simp only [ck0]
  exact blk_vl_at H (ck 0 q) (ck 2 l)
theorem cut153 (q l : Fin 128) : k0_pay153 (F := Ideal) b.vl (ix2 q l) = (D.vl (row τ (ck 1 q)) (ck 2 l) : EReal) := by
  pointwise [k0_pay153]; try simp only [ck0]
  exact blk_vl_at H (ck 1 q) (ck 2 l)
theorem cut154 (q l : Fin 128) : k0_pay154 (F := Ideal) b.vl (ix2 q l) = (D.vl (row τ (ck 2 q)) (ck 2 l) : EReal) := by
  pointwise [k0_pay154]; try simp only [ck0]
  exact blk_vl_at H (ck 2 q) (ck 2 l)
theorem cut155 (q l : Fin 128) : k0_pay155 (F := Ideal) b.vl (ix2 q l) = (D.vl (row τ (ck 3 q)) (ck 2 l) : EReal) := by
  pointwise [k0_pay155]; try simp only [ck0]
  exact blk_vl_at H (ck 3 q) (ck 2 l)
theorem cut168 (q l : Fin 128) : k0_pay168 (F := Ideal) b.vl (ix2 q l) = (D.vl (row τ (ck 0 q)) (ck 3 l) : EReal) := by
  pointwise [k0_pay168]; try simp only [ck0]
  exact blk_vl_at H (ck 0 q) (ck 3 l)
theorem cut169 (q l : Fin 128) : k0_pay169 (F := Ideal) b.vl (ix2 q l) = (D.vl (row τ (ck 1 q)) (ck 3 l) : EReal) := by
  pointwise [k0_pay169]; try simp only [ck0]
  exact blk_vl_at H (ck 1 q) (ck 3 l)
theorem cut170 (q l : Fin 128) : k0_pay170 (F := Ideal) b.vl (ix2 q l) = (D.vl (row τ (ck 2 q)) (ck 3 l) : EReal) := by
  pointwise [k0_pay170]; try simp only [ck0]
  exact blk_vl_at H (ck 2 q) (ck 3 l)
theorem cut171 (q l : Fin 128) : k0_pay171 (F := Ideal) b.vl (ix2 q l) = (D.vl (row τ (ck 3 q)) (ck 3 l) : EReal) := by
  pointwise [k0_pay171]; try simp only [ck0]
  exact blk_vl_at H (ck 3 q) (ck 3 l)

theorem cut60 (q l : Fin 128) : k0_pay60 (F := Ideal) b.vl (ix2 q l) = if l.val < 64 then (D.vl (row τ (ck 0 q)) (ck 1 l) : EReal) else 0 := by
  pointwise [k0_pay60]; rw [mask59, sel_lane, cut55 H]
omit H in
theorem cut61 (q l : Fin 128) : k0_pay61 (F := Ideal) (ix2 q l) = 0 := by pointwise [k0_pay61]
theorem cut68 (q l : Fin 128) : k0_pay68 (F := Ideal) b.vl (ix2 q l) = if l.val < 64 then (D.vl (row τ (ck 0 q)) (ck 2 l) : EReal) else 0 := by
  pointwise [k0_pay68]; rw [mask67, sel_lane, cut63 H]
theorem cut69 (q l : Fin 128) : k0_pay69 (F := Ideal) b.vl (ix2 q l) = if l.val < 64 then (D.vl (row τ (ck 1 q)) (ck 2 l) : EReal) else 0 := by
  pointwise [k0_pay69]; rw [mask67, sel_lane, cut64 H]
theorem cut70 (q l : Fin 128) : k0_pay70 (F := Ideal) b.vl (ix2 q l) = if l.val < 64 then (D.vl (row τ (ck 2 q)) (ck 2 l) : EReal) else 0 := by
  pointwise [k0_pay70]; rw [mask67, sel_lane, cut65 H]
theorem cut125 (q l : Fin 128) : k0_pay125 (F := Ideal) b.u b.dyb (ix2 q l) = if l.val < 64 then 0 else (D.dsv (row τ (ck 0 q)) (ck 0 l) : EReal) := by
  pointwise [k0_pay125]; rw [mask123, sel_lane, cut114 H]
theorem cut126 (q l : Fin 128) : k0_pay126 (F := Ideal) b.u b.dyb (ix2 q l) = if l.val < 64 then 0 else (D.dsv (row τ (ck 1 q)) (ck 0 l) : EReal) := by
  pointwise [k0_pay126]; rw [mask123, sel_lane, cut115 H]
theorem cut175 (q l : Fin 128) : k0_pay175 (F := Ideal) b.dsv (ix2 q l) = if l.val < 64 then 0 else (D.dsv (row τ (ck 0 q)) (ck 3 l) : EReal) := by
  pointwise [k0_pay175]; rw [mask173, sel_lane, cut164 H]
theorem cut176 (q l : Fin 128) : k0_pay176 (F := Ideal) b.dsv (ix2 q l) = if l.val < 64 then 0 else (D.dsv (row τ (ck 1 q)) (ck 3 l) : EReal) := by
  pointwise [k0_pay176]; rw [mask173, sel_lane, cut165 H]
theorem cut177 (q l : Fin 128) : k0_pay177 (F := Ideal) b.dsv (ix2 q l) = if l.val < 64 then 0 else (D.dsv (row τ (ck 2 q)) (ck 3 l) : EReal) := by
  pointwise [k0_pay177]; rw [mask173, sel_lane, cut166 H]

theorem cat77 (k : Fin 4) (q l : Fin 128) : k0_pay77 (F := Ideal) b.vl (ix2 q (ck k l)) = if l.val < 64 then (D.vl (row τ (ck k q)) (ck 3 l) : EReal) else 0 := by
  have hc := ck_cases k l
  generalize ck k l = r at hc ⊢
  pointwise [k0_pay77]
  rcases hc with ⟨rfl, e⟩ | ⟨rfl, ea, eb, e⟩ | ⟨rfl, ea, eb, e⟩ | ⟨rfl, ea, e⟩
  all_goals simp (disch := omega) only [dif_pos, dif_neg, e, Fin.eta, mask76, lane_lt, sel_lane, cut72 H, cut73 H, cut74 H, cut75 H]
theorem cat124 (k : Fin 4) (q l : Fin 128) : k0_pay124 (F := Ideal) b.u b.dyb (ix2 q (ck k l)) = if l.val < 64 then (D.dsv (row τ (ck k q)) (ck 0 l) : EReal) else 0 := by
  have hc := ck_cases k l
  generalize ck k l = r at hc ⊢
  pointwise [k0_pay124]
  rcases hc with ⟨rfl, e⟩ | ⟨rfl, ea, eb, e⟩ | ⟨rfl, ea, eb, e⟩ | ⟨rfl, ea, e⟩
  all_goals simp (disch := omega) only [dif_pos, dif_neg, e, Fin.eta, mask123, lane_lt, sel_lane, cut114 H, cut115 H, cut116 H, cut117 H]
theorem cat174 (k : Fin 4) (q l : Fin 128) : k0_pay174 (F := Ideal) b.dsv (ix2 q (ck k l)) = if l.val < 64 then (D.dsv (row τ (ck k q)) (ck 3 l) : EReal) else 0 := by
  have hc := ck_cases k l
  generalize ck k l = r at hc ⊢
  pointwise [k0_pay174]
  rcases hc with ⟨rfl, e⟩ | ⟨rfl, ea, eb, e⟩ | ⟨rfl, ea, eb, e⟩ | ⟨rfl, ea, e⟩
  all_goals simp (disch := omega) only [dif_pos, dif_neg, e, Fin.eta, mask173, lane_lt, sel_lane, cut164 H, cut165 H, cut166 H, cut167 H]
theorem cat127 (k : Fin 4) (q l : Fin 128) : k0_pay127 (F := Ideal) (k0_pay116 b.u b.dyb) (k0_pay117 b.u b.dyb) k0_pay123 (k0_pay125 b.u b.dyb) (k0_pay126 b.u b.dyb) (ix2 q (ck k l)) = if l.val < 64 then 0 else (D.dsv (row τ (ck k q)) (ck 0 l) : EReal) := by
  have hc := ck_cases k l
  generalize ck k l = r at hc ⊢
  pointwise [k0_pay127]
  rcases hc with ⟨rfl, e⟩ | ⟨rfl, ea, eb, e⟩ | ⟨rfl, ea, eb, e⟩ | ⟨rfl, ea, e⟩
  all_goals simp (disch := omega) only [dif_pos, dif_neg, e, Fin.eta, mask123, lane_lt, sel_lane, cut116 H, cut117 H, cut125 H, cut126 H]
theorem cat142 (k : Fin 4) (q l : Fin 128) : k0_pay142 (F := Ideal) (k0_pay132 b.dsv) (k0_pay133 b.dsv) (k0_pay134 b.dsv) (k0_pay135 b.dsv) (ix2 q (ck k l)) = if l.val < 64 then (D.dsv (row τ (ck k q)) (ck 1 l) : EReal) else 0 := by
  have hc := ck_cases k l
  generalize ck k l = r at hc ⊢
  pointwise [k0_pay142, k0_pay141]
  rcases hc with ⟨rfl, e⟩ | ⟨rfl, ea, eb, e⟩ | ⟨rfl, ea, eb, e⟩ | ⟨rfl, ea, e⟩
  all_goals simp (disch := omega) only [dif_pos, dif_neg, e, Fin.eta, mask123, lane_lt, sel_lane, cut132 H, cut133 H, cut134 H, cut135 H]
theorem cat143 (k : Fin 4) (q l : Fin 128) : k0_pay143 (F := Ideal) (k0_pay132 b.dsv) (k0_pay133 b.dsv) (k0_pay134 b.dsv) (k0_pay135 b.dsv) (ix2 q (ck k l)) = if l.val < 64 then 0 else (D.dsv (row τ (ck k q)) (ck 1 l) : EReal) := by
  have hc := ck_cases k l
  generalize ck k l = r at hc ⊢
  pointwise [k0_pay143, k0_pay141]
  rcases hc with ⟨rfl, e⟩ | ⟨rfl, ea, eb, e⟩ | ⟨rfl, ea, eb, e⟩ | ⟨rfl, ea, e⟩
  all_goals simp (disch := omega) only [dif_pos, dif_neg, e, Fin.eta, mask123, lane_lt, sel_lane, cut132 H, cut133 H, cut134 H, cut135 H]
theorem cat158 (k : Fin 4) (q l : Fin 128) : k0_pay158 (F := Ideal) (k0_pay148 b.dsv) (k0_pay149 b.dsv) (k0_pay150 b.dsv) (k0_pay151 b.dsv) k0_pay157 (FloatOps.ofBits FTy.f32 0#32) (ix2 q (ck k l)) = if l.val < 64 then (D.dsv (row τ (ck k q)) (ck 2 l) : EReal) else 0 := by
  have hc := ck_cases k l
  generalize ck k l = r at hc ⊢
  pointwise [k0_pay158]
  rcases hc with ⟨rfl, e⟩ | ⟨rfl, ea, eb, e⟩ | ⟨rfl, ea, eb, e⟩ | ⟨rfl, ea, e⟩
  all_goals simp (disch := omega) only [dif_pos, dif_neg, e, Fin.eta, mask157, lane_lt, sel_lane, cut148 H, cut149 H, cut150 H, cut151 H]
theorem cat159 (k : Fin 4) (q l : Fin 128) : k0_pay159 (F := Ideal) (k0_pay148 b.dsv) (k0_pay149 b.dsv) (k0_pay150 b.dsv) (k0_pay151 b.dsv) k0_pay157 (ix2 q (ck k l)) = if l.val < 64 then 0 else (D.dsv (row τ (ck k q)) (ck 2 l) : EReal) := by
  have hc := ck_cases k l
  generalize ck k l = r at hc ⊢
  pointwise [k0_pay159]
  rcases hc with ⟨rfl, e⟩ | ⟨rfl, ea, eb, e⟩ | ⟨rfl, ea, eb, e⟩ | ⟨rfl, ea, e⟩
  all_goals simp (disch := omega) only [dif_pos, dif_neg, e, Fin.eta, mask157, lane_lt, sel_lane, cut148 H, cut149 H, cut150 H, cut151 H]
theorem cat178 (k : Fin 4) (q l : Fin 128) : k0_pay178 (F := Ideal) (k0_pay167 b.dsv) k0_pay173 (k0_pay175 b.dsv) (k0_pay176 b.dsv) (k0_pay177 b.dsv) (ix2 q (ck k l)) = if l.val < 64 then 0 else (D.dsv (row τ (ck k q)) (ck 3 l) : EReal) := by
  have hc := ck_cases k l
  generalize ck k l = r at hc ⊢
  pointwise [k0_pay178]
  rcases hc with ⟨rfl, e⟩ | ⟨rfl, ea, eb, e⟩ | ⟨rfl, ea, eb, e⟩ | ⟨rfl, ea, e⟩
  all_goals simp (disch := omega) only [dif_pos, dif_neg, e, Fin.eta, mask173, lane_lt, sel_lane, cut167 H, cut175 H, cut176 H, cut177 H]
theorem cat129 (k : Fin 4) (q l : Fin 128) : k0_pay129 (F := Ideal) (k0_pay118 b.vl) (k0_pay119 b.vl) (k0_pay120 b.vl) (k0_pay121 b.vl) (ix2 q (ck k l)) = (D.vl (row τ (ck k q)) (ck 0 l) : EReal) := by
  have hc := ck_cases k l
  generalize ck k l = r at hc ⊢
  pointwise [k0_pay129]
  rcases hc with ⟨rfl, e⟩ | ⟨rfl, ea, eb, e⟩ | ⟨rfl, ea, eb, e⟩ | ⟨rfl, ea, e⟩
  all_goals simp (disch := omega) only [dif_pos, dif_neg, e, Fin.eta, cut118 H, cut119 H, cut120 H, cut121 H]
theorem cat145 (k : Fin 4) (q l : Fin 128) : k0_pay145 (F := Ideal) (k0_pay136 b.vl) (k0_pay137 b.vl) (k0_pay138 b.vl) (k0_pay139 b.vl) (ix2 q (ck k l)) = (D.vl (row τ (ck k q)) (ck 1 l) : EReal) := by
  have hc := ck_cases k l
  generalize ck k l = r at hc ⊢
  pointwise [k0_pay145]
  rcases hc with ⟨rfl, e⟩ | ⟨rfl, ea, eb, e⟩ | ⟨rfl, ea, eb, e⟩ | ⟨rfl, ea, e⟩
  all_goals simp (disch := omega) only [dif_pos, dif_neg, e, Fin.eta, cut136 H, cut137 H, cut138 H, cut139 H]
theorem cat161 (k : Fin 4) (q l : Fin 128) : k0_pay161 (F := Ideal) (k0_pay152 b.vl) (k0_pay153 b.vl) (k0_pay154 b.vl) (k0_pay155 b.vl) (ix2 q (ck k l)) = (D.vl (row τ (ck k q)) (ck 2 l) : EReal) := by
  have hc := ck_cases k l
  generalize ck k l = r at hc ⊢
  pointwise [k0_pay161]
  rcases hc with ⟨rfl, e⟩ | ⟨rfl, ea, eb, e⟩ | ⟨rfl, ea, eb, e⟩ | ⟨rfl, ea, e⟩
  all_goals simp (disch := omega) only [dif_pos, dif_neg, e, Fin.eta, cut152 H, cut153 H, cut154 H, cut155 H]
theorem cat179 (k : Fin 4) (q l : Fin 128) : k0_pay179 (F := Ideal) (k0_pay168 b.vl) (k0_pay169 b.vl) (k0_pay170 b.vl) (k0_pay171 b.vl) (ix2 q (ck k l)) = (D.vl (row τ (ck k q)) (ck 3 l) : EReal) := by
  have hc := ck_cases k l
  generalize ck k l = r at hc ⊢
  pointwise [k0_pay179]
  rcases hc with ⟨rfl, e⟩ | ⟨rfl, ea, eb, e⟩ | ⟨rfl, ea, eb, e⟩ | ⟨rfl, ea, e⟩
  all_goals simp (disch := omega) only [dif_pos, dif_neg, e, Fin.eta, cut168 H, cut169 H, cut170 H, cut171 H]

end Cert.Kernel2Ideal.Mix

end
-- ==== Proof.MixSv.lean ====
/-
  The spatially mixed rows of one tile and the gradient at its layer norm, from the products of its chunks.
-/
module

public import proofs.«01_k».proof.Proof.MixSpace

@[expose] public section

noncomputable section

namespace Cert.Kernel2Ideal.Mix

open Cert.Kernel2Ideal Cert.Kernel2Ideal.Gen Idealize.ShloMosaic Idealize.ShloMosaic.TcCoe Cert.RealKit Cert.HeadMath Cert.MixMath

variable {b : Blk Ideal} {D : In} {τ : Fin 16} (H : Rd b D τ)
include H

theorem sv0_col (k : Fin 4) (t l : Fin 128) : b.sv0 (ix2 (ck k t) l) = (D.sv (row τ (ck k t)) (ck 0 l) : EReal) := by
  rw [sv_real]
  exact pair54 (k := k) (t := t) (l := l) (h0 := cut49 H) (h1 := cut50 H) (h2 := cut51 H) (h3 := cut52 H) (hm := mask53) (hw0 := fun t q h => by pointwise []; exact wcat_lo H 0 t q _) (hw1 := fun t q h => by pointwise []; exact wcat_hi H 0 t q _) (hb := fun t l => by pointwise []; (try simp only [ck0]); exact H.bias t (ck 0 l))

theorem sv1_col (k : Fin 4) (t l : Fin 128) : b.sv1 (ix2 (ck k t) l) = (D.sv (row τ (ck k t)) (ck 1 l) : EReal) := by
  rw [sv_real]
  exact pair62 (k := k) (t := t) (l := l) (h0 := cut55 H) (h1 := cut56 H) (h2 := cut57 H) (h3 := cut58 H) (hm := mask59) (hz := cut61) (l0 := cut60 H) (hw0 := fun t q h => by pointwise []; exact wcat_lo H 1 t q _) (hw1 := fun t q h => by pointwise []; exact wcat_hi H 1 t q _) (hb := fun t l => by pointwise []; (try simp only [ck0]); exact H.bias t (ck 1 l))

theorem sv2_col (k : Fin 4) (t l : Fin 128) : b.sv2 (ix2 (ck k t) l) = (D.sv (row τ (ck k t)) (ck 2 l) : EReal) := by
  rw [sv_real]
  exact pair71 (k := k) (t := t) (l := l) (h0 := cut63 H) (h1 := cut64 H) (h2 := cut65 H) (h3 := cut66 H) (hm := mask67) (l0 := cut68 H) (l1 := cut69 H) (l2 := cut70 H) (hw0 := fun t q h => by pointwise []; exact wcat_lo H 2 t q _) (hw1 := fun t q h => by pointwise []; exact wcat_hi H 2 t q _) (hb := fun t l => by pointwise []; (try simp only [ck0]); exact H.bias t (ck 2 l))

theorem sv_col (k : Fin 4) (t l : Fin 128) : b.sv (ix2 (ck k t) (ck 3 l)) = (D.sv (row τ (ck k t)) (ck 3 l) : EReal) := by
  rw [sv_real]
  exact pair78 (a0 := b.sv0) (a1 := b.sv1) (a2 := b.sv2) (k := k) (t := t) (l := l) (h0 := cut72 H) (h1 := cut73 H) (h2 := cut74 H) (h3 := cut75 H) (hm := mask76) (hS := cat77 H) (hw0 := fun t q h => by pointwise []; exact wcat_lo H 3 t q _) (hw1 := fun t q h => by pointwise []; exact wcat_hi H 3 t q _) (hb := fun t l => by pointwise []; (try simp only [ck0]); exact H.bias t (ck 3 l))

theorem dvl0_col (k : Fin 4) (t l : Fin 128) : b.dvl0 (ix2 (ck k t) l) = (D.dvl (row τ (ck k t)) (ck 0 l) : EReal) := by
  rw [dvl_real]
  exact pair128 (k := k) (t := t) (l := l) (h2 := cut116 H) (h3 := cut117 H) (hm := mask123) (hS := cat124 H) (u0 := cut125 H) (u1 := cut126 H) (hw0 := fun t q h => by pointwise []; exact wtcat_lo H 0 t q _) (hw1 := fun t q h => by pointwise []; exact wtcat_hi H 0 t q _)

theorem dvl1_col (k : Fin 4) (t l : Fin 128) : b.dvl1 (ix2 (ck k t) l) = (D.dvl (row τ (ck k t)) (ck 1 l) : EReal) := by
  rw [dvl_real]
  exact pair144 (k := k) (t := t) (l := l) (h0 := cut132 H) (h1 := cut133 H) (h2 := cut134 H) (h3 := cut135 H) (hw0 := fun t q h => by pointwise []; exact wtcat_lo H 1 t q _) (hw1 := fun t q h => by pointwise []; exact wtcat_hi H 1 t q _)

theorem dvl2_col (k : Fin 4) (t l : Fin 128) : b.dvl2 (ix2 (ck k t) l) = (D.dvl (row τ (ck k t)) (ck 2 l) : EReal) := by
  rw [dvl_real]
  exact pair160 (k := k) (t := t) (l := l) (h0 := cut148 H) (h1 := cut149 H) (h2 := cut150 H) (h3 := cut151 H) (hm := mask157) (hw0 := fun t q h => by pointwise []; exact wtcat_lo H 2 t q _) (hw1 := fun t q h => by pointwise []; exact wtcat_hi H 2 t q _)

theorem dvl_col (k : Fin 4) (t l : Fin 128) : b.dvl (ix2 (ck k t) (ck 3 l)) = (D.dvl (row τ (ck k t)) (ck 3 l) : EReal) := by
  rw [dvl_real]
  exact pair182 (a0 := b.dvl0) (a1 := b.dvl1) (a2 := b.dvl2) (k := k) (t := t) (l := l) (h3 := cut167 H) (hm := mask173) (hS := cat174 H) (u0 := cut175 H) (u1 := cut176 H) (u2 := cut177 H) (hw0 := fun t q h => by pointwise []; exact wtcat_lo H 3 t q _) (hw1 := fun t q h => by pointwise []; exact wtcat_hi H 3 t q _)

theorem sv_at (r e : Fin 512) : b.sv (ix2 r e) = (D.sv (row τ r) e : EReal) := by
  obtain ⟨k, t, rfl⟩ := exists_ck r
  obtain ⟨p, l, rfl⟩ := exists_ck e
  obtain ⟨p, hp⟩ := p
  interval_cases p
  · exact (pair78_0 ..).trans (sv0_col H k t l)
  · exact (pair78_1 ..).trans (sv1_col H k t l)
  · exact (pair78_2 ..).trans (sv2_col H k t l)
  · exact sv_col H k t l

theorem dvl_at (r e : Fin 512) : b.dvl (ix2 r e) = (D.dvl (row τ r) e : EReal) := by
  obtain ⟨k, t, rfl⟩ := exists_ck r
  obtain ⟨p, l, rfl⟩ := exists_ck e
  obtain ⟨p, hp⟩ := p
  interval_cases p
  · exact (pair182_0 ..).trans (dvl0_col H k t l)
  · exact (pair182_1 ..).trans (dvl1_col H k t l)
  · exact (pair182_2 ..).trans (dvl2_col H k t l)
  · exact dvl_col H k t l

end Cert.Kernel2Ideal.Mix

end
-- ==== Proof.MixOut.lean ====
/-
  The gradient at the projection of one tile, the tile's rows of the input's gradient, and what the tile adds to the carried sums of the two
  big weights.
-/
module

public import proofs.«01_k».proof.Proof.MixWin
public import proofs.«01_k».proof.Proof.MixSv

@[expose] public section

noncomputable section

namespace Cert.Kernel2Ideal.Mix

open Cert.Kernel2Ideal Cert.Kernel2Ideal.Gen Idealize.ShloMosaic Idealize.ShloMosaic.TcCoe Cert.RealKit Cert.HeadMath Cert.MixMath

variable {b : Blk Ideal} {D : In} {τ : Fin 16} (H : Rd b D τ)
include H

theorem du_at (r e : Fin 512) : b.du (ix2 r e) = (D.du (row τ r) e : EReal) := by
  unfold Blk.du; pointwise [k0_pay112]; rw [sv_at H, dyb_at H]; exact (EReal.coe_mul _ _).symm

theorem lg_at (e : Fin 512) : b.vecs (ix2 1 e) = (D.lg e : EReal) := by unfold Blk.vecs; pointwise [k0_pay30]; exact H.lg e

theorem dwout_at (o : Vec Ideal S1024x1024 .f32) (j d : Fin 1024) :
    b.dwout o (ix2 j d) = o (ix2 j d) + ((∑ r, D.cat (row τ r) j * D.g (row τ r) d : ℝ) : EReal) := by
  have hs : ∀ r e : Fin 512, k0_pay78 (F := Ideal) b.sv0 b.sv1 b.sv2 (k0_pay72 b.vl) (k0_pay73 b.vl) (k0_pay74 b.vl) (k0_pay75 b.vl) k0_pay76 (k0_pay77 b.vl)
      (View.ld b.wcat (Rect.unit (s := S4x128x256) ![3, 0, 0] S1x128x256.size inb_S4x128x256_S1x128x256_3_0_0))
      (View.ld b.bias (Rect.unit (s := S128x512) ![0, 384] S128x128.size inb_S128x512_S128x128_0_384)) (ix2 r e) = (D.sv (row τ r) e : EReal) := sv_at H
  have hp : ∀ e : Fin 512, k0_pay37 (F := Ideal) b.vecs (ix2 0 e) = (D.ps e : EReal) := fun e => by
    unfold Blk.vecs; pointwise [k0_pay37, k0_pay30]; exact H.ps e
  unfold Blk.dwout
  generalize View.ld b.wcat _ = w3 at hs ⊢
  generalize View.ld b.bias _ = w4 at hs ⊢
  rcases exists_half j with ⟨e, rfl⟩ | ⟨e, rfl⟩
  · simp only [D.cat_lo]
    pointwise [k0_pay79, lo]
    simp only [Fin.eta, H.g, mixed_at H, hp, ← EReal.coe_mul, coe_sum]
  · simp only [D.cat_hi]
    pointwise [k0_pay79, hi]
    simp only [Fin.eta, H.g, u_at H, hs, ← EReal.coe_mul, coe_sum]

variable {v0 : BitVec 32} (hv : v0 = BitVec.ofNat 32 τ.val) {hal : Vec Ideal S528x512 .f32}
  (hh : ∀ (R : Fin 528) (e : Fin 512), 512 ≤ R.val → hal (ix2 R e) = (D.qx (512 * τ.val + R.val) e : EReal))
include hv hh

theorem dproj_at (r : Fin 512) (j : Fin 1536) : b.dproj v0 hal (ix2 r j) = (D.dproj (row τ r) j : EReal) := by
  unfold Blk.dproj
  rcases exists_part j with ⟨e, rfl⟩ | ⟨e, rfl⟩
  · rw [D.dproj_pa]
    obtain ⟨g, l, rfl⟩ := exists_ck e
    have h2 : 256 + l.val - 128 - 128 = l.val := by omega
    have h3 : 384 + l.val - 128 - 128 - 128 = l.val := by omega
    obtain ⟨g, hg⟩ := g
    interval_cases g
    · refine Eq.trans ?_ (dxa0_at H hv hh r l)
      pointwise [k0_pay187, pa, ck]
    · refine Eq.trans ?_ (dxa1_at H hv hh r l)
      pointwise [k0_pay187, pa, ck]
    · refine Eq.trans ?_ (dxa2_at H hv hh r l)
      pointwise [k0_pay187, pa, ck]
      simp (disch := omega) only [dif_pos, dif_neg, h2, h3, Fin.eta]
    · refine Eq.trans ?_ (dxa3_at H hv hh r l)
      pointwise [k0_pay187, pa, ck]
      simp (disch := omega) only [dif_pos, dif_neg, h2, h3, Fin.eta]
  · rcases exists_half e with ⟨e, rfl⟩ | ⟨e, rfl⟩
    · rw [D.dproj_lo]
      pointwise [k0_pay187, pz, lo]
      have h2 : 512 + e.val - 128 - 128 - 128 - 128 = e.val := by omega
      simp (disch := omega) only [dif_pos, dif_neg, h2, Fin.eta]
      exact (congrArg₂ (· * ·) (du_at H r e) (dz_at H r (lo e))).trans (EReal.coe_mul _ _).symm
    · rw [D.dproj_hi]
      pointwise [k0_pay187, pz, hi]
      have h2 : 512 + e.val - 512 = e.val := by omega
      have h3 : 512 + (512 + e.val) - 128 - 128 - 128 - 128 = 512 + e.val := by omega
      simp (disch := omega) only [dif_pos, dif_neg, h2, h3, Fin.eta, rstd_at H, vhat_at H, dvl_at H, lg_at H, c_512, ← EReal.coe_mul, coe_sum, div512,
        ← EReal.coe_sub]
      exact (congrArg (_ * ·) (dz_at H r (hi e))).trans (EReal.coe_mul _ _).symm

theorem dh_at (r : Fin 512) (d : Fin 1024) : k0_pay190 (F := Ideal) (b.dproj v0 hal) (k0_pay189 b.win) (ix2 r d) = (D.dh (row τ r) d : EReal) := by
  pointwise [k0_pay190, k0_pay189]
  simp only [dproj_at H hv hh, H.win, ← EReal.coe_mul, coe_sum]
  rfl

theorem dx_at (r : Fin 512) (d : Fin 1024) : b.dx v0 hal (ix2 r d) = (D.dx (row τ r) d : EReal) := by
  unfold Blk.dx
  pointwise [k0_pay1, k0_pay192, k0_pay191, k0_pay31, k0_pay32]
  simp only [H.x, H.g, gn_at H, sc_at H, dh_at H hv hh, c_1024, c_eps, ← EReal.coe_one, ← EReal.coe_mul, coe_sum, div1024, ← EReal.coe_add, rs_msq, ← EReal.coe_sub]
  refine congrArg _ ?_
  unfold In.dx In.dxn In.xn
  simp only [mul_assoc, mul_comm (D.gn _)]

theorem dwin_at (o : Vec Ideal S1024x1536 .f32) (d : Fin 1024) (j : Fin 1536) :
    b.dwin v0 hal o (ix2 d j) = o (ix2 d j) + ((∑ r, D.h (row τ r) d * D.dproj (row τ r) j : ℝ) : EReal) := by
  have hp : ∀ (r : Fin 512) (j : Fin 1536), k0_pay187 (F := Ideal) b.vecs b.dz b.rstd b.vhat (b.dxa0 v0 hal) (b.dxa1 v0 hal) (b.dxa2 v0 hal) (b.dxa3 v0 hal)
      b.du b.dvl (ix2 r j) = (D.dproj (row τ r) j : EReal) := dproj_at H hv hh
  unfold Blk.dwin
  pointwise [k0_pay188]
  simp only [hp, h_at H, ← EReal.coe_mul, coe_sum]

end Cert.Kernel2Ideal.Mix

end
-- ==== Proof.MixAcc.lean ====
/-
  What one tile adds to the carried sums of the square weights, the spatial bias and the vectors.
-/
module

public import proofs.«01_k».proof.Proof.MixOut

@[expose] public section

noncomputable section

namespace Cert.Kernel2Ideal.Mix

open Cert.Kernel2Ideal Cert.Kernel2Ideal.Gen Idealize.ShloMosaic Idealize.ShloMosaic.TcCoe Cert.RealKit Cert.HeadMath Cert.MixMath

/-- One row put into an array, read at that row and at another. -/
theorem put_row {α : Type} {A B : ℕ} (x : (⟨2, ![A, B]⟩ : Shape).Idx → α) (i : Fin A) (n : ℕ) (hn : i.val = n) (w : (⟨2, ![1, B]⟩ : Shape).Idx → α)
    (d : Fin B) : VecWindow.put (s := ⟨2, ![A, B]⟩) x ![n, 0] (⟨2, ![1, B]⟩ : Shape).size w (ix2 i d) = w (ix2 0 d) := by
  refine put_hit (s := ⟨2, ![A, B]⟩) x ![n, 0] (⟨2, ![1, B]⟩ : Shape).size w (ix2 i d) (ix2 (0 : Fin 1) d) fun a => ?_
  fin_cases a
  · exact hn
  · exact (Nat.zero_add _).symm
theorem put_row_ne {α : Type} {A B : ℕ} (x : (⟨2, ![A, B]⟩ : Shape).Idx → α) (i : Fin A) (n : ℕ) (hn : i.val ≠ n) (w : (⟨2, ![1, B]⟩ : Shape).Idx → α)
    (d : Fin B) : VecWindow.put (s := ⟨2, ![A, B]⟩) x ![n, 0] (⟨2, ![1, B]⟩ : Shape).size w (ix2 i d) = x (ix2 i d) :=
  put_miss (s := ⟨2, ![A, B]⟩) x ![n, 0] (⟨2, ![1, B]⟩ : Shape).size w (ix2 i d) 0 (by show i.val < n ∨ n + 1 ≤ i.val; omega)
/-- One slab put into an array, read at that slab and at another. -/
theorem put_slab {α : Type} {A B C : ℕ} (x : (⟨3, ![A, B, C]⟩ : Shape).Idx → α) (i : Fin A) (n : ℕ) (hn : i.val = n)
    (w : (⟨3, ![1, B, C]⟩ : Shape).Idx → α) (c : Fin B) (d : Fin C) :
    VecWindow.put (s := ⟨3, ![A, B, C]⟩) x ![n, 0, 0] (⟨3, ![1, B, C]⟩ : Shape).size w (ix3 i c d) = w (ix3 0 c d) := by
  refine put_hit (s := ⟨3, ![A, B, C]⟩) x ![n, 0, 0] (⟨3, ![1, B, C]⟩ : Shape).size w (ix3 i c d) (ix3 (0 : Fin 1) c d) fun a => ?_
  fin_cases a
  · exact hn
  · exact (Nat.zero_add _).symm
  · exact (Nat.zero_add _).symm
theorem put_slab_ne {α : Type} {A B C : ℕ} (x : (⟨3, ![A, B, C]⟩ : Shape).Idx → α) (i : Fin A) (n : ℕ) (hn : i.val ≠ n)
    (w : (⟨3, ![1, B, C]⟩ : Shape).Idx → α) (c : Fin B) (d : Fin C) :
    VecWindow.put (s := ⟨3, ![A, B, C]⟩) x ![n, 0, 0] (⟨3, ![1, B, C]⟩ : Shape).size w (ix3 i c d) = x (ix3 i c d) :=
  put_miss (s := ⟨3, ![A, B, C]⟩) x ![n, 0, 0] (⟨3, ![1, B, C]⟩ : Shape).size w (ix3 i c d) 0 (by show i.val < n ∨ n + 1 ≤ i.val; omega)
/-- A group of columns put into the bias's carried sum, read in that group and in another. -/
theorem put_grp {α : Type} (x : S128x512.Idx → α) (g : Fin 4) (o : ℕ) (ho : o = 128 * g.val) (w : S128x128.Idx → α) (t l : Fin 128) :
    VecWindow.put (s := S128x512) x ![0, o] S128x128.size w (ix2 t (ck g l)) = w (ix2 t l) := by
  refine put_hit (s := S128x512) x ![0, o] S128x128.size w (ix2 t (ck g l)) (ix2 t l) fun a => ?_
  fin_cases a
  · exact (Nat.zero_add _).symm
  · subst ho; rfl
theorem put_grp_ne {α : Type} (x : S128x512.Idx → α) (g g' : Fin 4) (o : ℕ) (ho : o = 128 * g.val) (hg : g'.val ≠ g.val) (w : S128x128.Idx → α) (t l : Fin 128) :
    VecWindow.put (s := S128x512) x ![0, o] S128x128.size w (ix2 t (ck g' l)) = x (ix2 t (ck g' l)) := by
  exact put_miss (s := S128x512) x ![0, o] S128x128.size w (ix2 t (ck g' l)) 1
    (by show 128 * g'.val + l.val < o ∨ o + 128 ≤ 128 * g'.val + l.val; omega)

/-- A sum over the columns, by groups and lanes. -/
theorem sum_ck {M : Type*} [AddCommMonoid M] (f : Fin 512 → M) : ∑ x, f x = ∑ k : Fin 4, ∑ l : Fin 128, f (ck k l) := by
  rw [Idealize.ShloMosaic.Fin.sum_univ_tiles 4 128 rfl f]
  exact Finset.sum_congr rfl fun k _ => Finset.sum_congr rfl fun l _ => congrArg f (Fin.ext (by simp only [ck]; omega))
/-- A sum over the lanes of one half. -/
theorem sum_lo64 (f : Fin 128 → ℝ) : (∑ l : Fin 128, if l.val < 64 then f l else 0) = ∑ e : Fin 64, f ⟨e.val, by omega⟩ := by
  rw [Idealize.ShloMosaic.Fin.sum_univ_tiles 2 64 rfl, Fin.sum_univ_two]
  have h0 : ∀ t : Fin 64, ((0 : Fin 2).val * 64 + t.val) = t.val := fun t => by simp
  have h1 : ∀ t : Fin 64, ((1 : Fin 2).val * 64 + t.val) = 64 + t.val := fun t => by simp
  simp only [h0, h1, Fin.is_lt, if_true]
  simp
theorem sum_hi64 (f : Fin 128 → ℝ) : (∑ l : Fin 128, if l.val < 64 then 0 else f l) = ∑ e : Fin 64, f ⟨64 + e.val, by omega⟩ := by
  rw [Idealize.ShloMosaic.Fin.sum_univ_tiles 2 64 rfl, Fin.sum_univ_two]
  have h0 : ∀ t : Fin 64, ((0 : Fin 2).val * 64 + t.val) = t.val := fun t => by simp
  have h1 : ∀ t : Fin 64, ((1 : Fin 2).val * 64 + t.val) = 64 + t.val := fun t => by simp
  simp only [h0, h1, Fin.is_lt, if_true]
  simp

/-- What a tile adds to a head's spatial weight, before the weight is cut below the diagonal. -/
def dws2 (D : In) (τ : Fin 16) (hh : Fin 8) (t q : Fin 128) : ℝ :=
  ∑ k : Fin 4, ∑ e : Fin 64, D.dsv (row τ (ck k t)) (hcol hh e) * D.vl (row τ (ck k q)) (hcol hh e)

/-- A product over all lanes of the chunks where one factor lives in the left heads, or the right ones. -/
theorem slab_lo (D : In) (τ : Fin 16) (p : Fin 4) (S T : FVec Ideal S128x512 .f32) (t q : Fin 128)
    (hS : ∀ k l, S (ix2 t (ck k l)) = if l.val < 64 then (D.dsv (row τ (ck k t)) (ck p l) : EReal) else 0)
    (hT : ∀ k l, T (ix2 q (ck k l)) = (D.vl (row τ (ck k q)) (ck p l) : EReal)) :
    ∑ x, S (ix2 t x) * T (ix2 q x) = (dws2 D τ ⟨2 * p.val, by omega⟩ t q : EReal) := by
  rw [sum_ck]
  have hz : ∀ (l : Fin 128) (y : ℝ), (if l.val < 64 then (y : EReal) else 0) = ((if l.val < 64 then y else 0 : ℝ) : EReal) := fun l y => by split_ifs <;> rfl
  simp only [hS, hT, hz, ← EReal.coe_mul, coe_sum, ite_mul, zero_mul, sum_lo64]
  refine congrArg _ (Finset.sum_congr rfl fun k _ => Finset.sum_congr rfl fun e _ => ?_)
  have : ck p (⟨e.val, by omega⟩ : Fin 128) = hcol ⟨2 * p.val, by omega⟩ e := Fin.ext (by simp only [ck, hcol]; omega)
  rw [this]
theorem slab_hi (D : In) (τ : Fin 16) (p : Fin 4) (S T : FVec Ideal S128x512 .f32) (t q : Fin 128)
    (hS : ∀ k l, S (ix2 t (ck k l)) = if l.val < 64 then 0 else (D.dsv (row τ (ck k t)) (ck p l) : EReal))
    (hT : ∀ k l, T (ix2 q (ck k l)) = (D.vl (row τ (ck k q)) (ck p l) : EReal)) :
    ∑ x, S (ix2 t x) * T (ix2 q x) = (dws2 D τ ⟨2 * p.val + 1, by omega⟩ t q : EReal) := by
  rw [sum_ck]
  have hz : ∀ (l : Fin 128) (y : ℝ), (if l.val < 64 then 0 else (y : EReal)) = ((if l.val < 64 then 0 else y : ℝ) : EReal) := fun l y => by split_ifs <;> rfl
  simp only [hS, hT, hz, ← EReal.coe_mul, coe_sum, ite_mul, zero_mul, sum_hi64]
  refine congrArg _ (Finset.sum_congr rfl fun k _ => Finset.sum_congr rfl fun e _ => ?_)
  have : ck p (⟨64 + e.val, by omega⟩ : Fin 128) = hcol ⟨2 * p.val + 1, by omega⟩ e := Fin.ext (by simp only [ck, hcol]; omega)
  rw [this]

variable {b : Blk Ideal} {D : In} {τ : Fin 16} (H : Rd b D τ)
include H

theorem dws0_at (o : Vec Ideal S8x128x128 .f32) (t q : Fin 128) : b.dws0 o (ix3 0 t q) = o (ix3 0 t q) + (dws2 D τ 0 t q : EReal) := by
  unfold Blk.dws0; pointwise [k0_pay130]
  exact congrArg (_ + ·) (slab_lo D τ 0 _ _ t q (fun k l => cat124 H k t l) (fun k l => cat129 H k q l))
theorem dws1_at (o : Vec Ideal S8x128x128 .f32) (t q : Fin 128) : b.dws1 o (ix3 0 t q) = o (ix3 1 t q) + (dws2 D τ 1 t q : EReal) := by
  unfold Blk.dws1; pointwise [k0_pay131]
  exact congrArg (_ + ·) (slab_hi D τ 0 _ _ t q (fun k l => cat127 H k t l) (fun k l => cat129 H k q l))
theorem dws2_at (o : Vec Ideal S8x128x128 .f32) (t q : Fin 128) : b.dws2 o (ix3 0 t q) = o (ix3 2 t q) + (dws2 D τ 2 t q : EReal) := by
  unfold Blk.dws2; pointwise [k0_pay146]
  exact congrArg (_ + ·) (slab_lo D τ 1 _ _ t q (fun k l => cat142 H k t l) (fun k l => cat145 H k q l))
theorem dws3_at (o : Vec Ideal S8x128x128 .f32) (t q : Fin 128) : b.dws3 o (ix3 0 t q) = o (ix3 3 t q) + (dws2 D τ 3 t q : EReal) := by
  unfold Blk.dws3; pointwise [k0_pay147]
  exact congrArg (_ + ·) (slab_hi D τ 1 _ _ t q (fun k l => cat143 H k t l) (fun k l => cat145 H k q l))
theorem dws4_at (o : Vec Ideal S8x128x128 .f32) (t q : Fin 128) : b.dws4 o (ix3 0 t q) = o (ix3 4 t q) + (dws2 D τ 4 t q : EReal) := by
  unfold Blk.dws4; pointwise [k0_pay162]
  exact congrArg (_ + ·) (slab_lo D τ 2 _ _ t q (fun k l => by have e := cat158 H k t l; rwa [show (FloatOps.ofBits FTy.f32 0#32 : Ideal .f32) = 0 from c_zero] at e) (fun k l => cat161 H k q l))
theorem dws5_at (o : Vec Ideal S8x128x128 .f32) (t q : Fin 128) : b.dws5 o (ix3 0 t q) = o (ix3 5 t q) + (dws2 D τ 5 t q : EReal) := by
  unfold Blk.dws5; pointwise [k0_pay163]
  exact congrArg (_ + ·) (slab_hi D τ 2 _ _ t q (fun k l => cat159 H k t l) (fun k l => cat161 H k q l))
theorem dws6_at (o : Vec Ideal S8x128x128 .f32) (t q : Fin 128) : b.dws6 o (ix3 0 t q) = o (ix3 6 t q) + (dws2 D τ 6 t q : EReal) := by
  unfold Blk.dws6; pointwise [k0_pay180]
  exact congrArg (_ + ·) (slab_lo D τ 3 _ _ t q (fun k l => cat174 H k t l) (fun k l => cat179 H k q l))
theorem dws7_at (o : Vec Ideal S8x128x128 .f32) (t q : Fin 128) : b.dws7 o (ix3 0 t q) = o (ix3 7 t q) + (dws2 D τ 7 t q : EReal) := by
  unfold Blk.dws7; pointwise [k0_pay181]
  exact congrArg (_ + ·) (slab_hi D τ 3 _ _ t q (fun k l => cat178 H k t l) (fun k l => cat179 H k q l))

theorem dws_at (o o' : Vec Ideal S8x128x128 .f32) (hh : Fin 8) (t q : Fin 128) : b.dws o o' (ix3 hh t q) = o (ix3 hh t q) + (dws2 D τ hh t q : EReal) := by
  unfold Blk.dws
  obtain ⟨n, hn⟩ := hh
  interval_cases n
  · rw [put_slab_ne _ _ 7 (by simp), put_slab_ne _ _ 6 (by simp), put_slab_ne _ _ 5 (by simp), put_slab_ne _ _ 4 (by simp), put_slab_ne _ _ 3 (by simp), put_slab_ne _ _ 2 (by simp), put_slab_ne _ _ 1 (by simp), put_slab _ _ 0 rfl]
    exact dws0_at H o t q
  · rw [put_slab_ne _ _ 7 (by simp), put_slab_ne _ _ 6 (by simp), put_slab_ne _ _ 5 (by simp), put_slab_ne _ _ 4 (by simp), put_slab_ne _ _ 3 (by simp), put_slab_ne _ _ 2 (by simp), put_slab _ _ 1 rfl]
    exact dws1_at H o t q
  · rw [put_slab_ne _ _ 7 (by simp), put_slab_ne _ _ 6 (by simp), put_slab_ne _ _ 5 (by simp), put_slab_ne _ _ 4 (by simp), put_slab_ne _ _ 3 (by simp), put_slab _ _ 2 rfl]
    exact dws2_at H o t q
  · rw [put_slab_ne _ _ 7 (by simp), put_slab_ne _ _ 6 (by simp), put_slab_ne _ _ 5 (by simp), put_slab_ne _ _ 4 (by simp), put_slab _ _ 3 rfl]
    exact dws3_at H o t q
  · rw [put_slab_ne _ _ 7 (by simp), put_slab_ne _ _ 6 (by simp), put_slab_ne _ _ 5 (by simp), put_slab _ _ 4 rfl]
    exact dws4_at H o t q
  · rw [put_slab_ne _ _ 7 (by simp), put_slab_ne _ _ 6 (by simp), put_slab _ _ 5 rfl]
    exact dws5_at H o t q
  · rw [put_slab_ne _ _ 7 (by simp), put_slab _ _ 6 rfl]
    exact dws6_at H o t q
  · rw [put_slab _ _ 7 rfl]
    exact dws7_at H o t q

theorem dwpool_at (o o' : Vec Ideal S4x128x128 .f32) (g : Fin 4) (c d : Fin 128) :
    b.dwpool o o' (ix3 g c d) = o (ix3 g c d) + ((∑ r, D.pool (row τ r) (ck g c) * D.dm (row τ r) (ck g d) : ℝ) : EReal) := by
  unfold Blk.dwpool
  obtain ⟨g, hg⟩ := g
  interval_cases g
  · rw [put_slab_ne _ _ 3 (by simp), put_slab_ne _ _ 2 (by simp), put_slab_ne _ _ 1 (by simp), put_slab _ _ 0 rfl]
    pointwise [k0_pay89, k0_pay35]
    refine congrArg (_ + ·) (Eq.trans (Finset.sum_congr rfl fun r _ => ?_) (coe_sum _ _))
    try simp only [ck0]
    exact (congrArg₂ (· * ·) (H.pool r (ck 0 c)) (dm_at H r (ck 0 d))).trans (EReal.coe_mul _ _).symm
  · rw [put_slab_ne _ _ 3 (by simp), put_slab_ne _ _ 2 (by simp), put_slab _ _ 1 rfl]
    pointwise [k0_pay93, k0_pay35]
    refine congrArg (_ + ·) (Eq.trans (Finset.sum_congr rfl fun r _ => ?_) (coe_sum _ _))
    try simp only [ck0]
    exact (congrArg₂ (· * ·) (H.pool r (ck 1 c)) (dm_at H r (ck 1 d))).trans (EReal.coe_mul _ _).symm
  · rw [put_slab_ne _ _ 3 (by simp), put_slab _ _ 2 rfl]
    pointwise [k0_pay99, k0_pay98, k0_pay97, k0_pay96, k0_pay35]
    refine congrArg (_ + ·) (Eq.trans (Finset.sum_congr rfl fun r _ => ?_) (coe_sum _ _))
    try simp only [ck0]
    exact (congrArg₂ (· * ·) (H.pool r (ck 2 c)) (dm_at H r (ck 2 d))).trans (EReal.coe_mul _ _).symm
  · rw [put_slab _ _ 3 rfl]
    pointwise [k0_pay102, k0_pay35]
    refine congrArg (_ + ·) (Eq.trans (Finset.sum_congr rfl fun r _ => ?_) (coe_sum _ _))
    try simp only [ck0]
    exact (congrArg₂ (· * ·) (H.pool r (ck 3 c)) (dm_at H r (ck 3 d))).trans (EReal.coe_mul _ _).symm

theorem acc_at (o o' : Vec Ideal S128x512 .f32) (t : Fin 128) (e : Fin 512) :
    b.acc o o' (ix2 t e) = o (ix2 t e) + ((∑ k : Fin 4, D.dsv (row τ (ck k t)) e : ℝ) : EReal) := by
  unfold Blk.acc
  obtain ⟨g, l, rfl⟩ := exists_ck e
  rw [Fin.sum_univ_four]
  obtain ⟨g, hg⟩ := g
  interval_cases g
  · rw [put_grp_ne _ 3 _ 384 rfl (by simp), put_grp_ne _ 2 _ 256 rfl (by simp), put_grp_ne _ 1 _ 128 rfl (by simp), put_grp _ ⟨0, hg⟩ 0 rfl]
    pointwise [k0_pay122]
    simp only [cut114 H, cut115 H, cut116 H, cut117 H, ← EReal.coe_add]
    try simp only [ck0]
  · rw [put_grp_ne _ 3 _ 384 rfl (by simp), put_grp_ne _ 2 _ 256 rfl (by simp), put_grp _ ⟨1, hg⟩ 128 rfl]
    pointwise [k0_pay140]
    simp only [cut132 H, cut133 H, cut134 H, cut135 H, ← EReal.coe_add]
    try simp only [ck0]
    rfl
  · rw [put_grp_ne _ 3 _ 384 rfl (by simp), put_grp _ ⟨2, hg⟩ 256 rfl]
    pointwise [k0_pay156]
    simp only [cut148 H, cut149 H, cut150 H, cut151 H, ← EReal.coe_add]
    try simp only [ck0]
    rfl
  · rw [put_grp _ ⟨3, hg⟩ 384 rfl]
    pointwise [k0_pay172]
    simp only [cut164 H, cut165 H, cut166 H, cut167 H, ← EReal.coe_add]
    try simp only [ck0]
    rfl

theorem v512_0 (o : Vec Ideal S8x512 .f32) (e : Fin 512) : b.v512 o (ix2 0 e) = o (ix2 0 e) + ((∑ r, D.dcat (row τ r) (lo e) * D.mixed (row τ r) e : ℝ) : EReal) := by
  have hd : ∀ r, k0_pay83 (F := Ideal) b.gg (k0_pay81 b.wout) (ix2 r e) = (D.dcat (row τ r) (lo e) : EReal) := fun r => by
    pointwise [k0_pay83]; exact dcat_at H r (lo e)
  unfold Blk.v512
  rw [put_row_ne _ _ 2 (by simp), put_row_ne _ _ 1 (by simp), put_row _ _ 0 rfl]
  pointwise [k0_pay85]
  simp only [hd, mixed_at H, ← EReal.coe_mul, coe_sum]
theorem v512_1 (o : Vec Ideal S8x512 .f32) (e : Fin 512) : b.v512 o (ix2 1 e) = o (ix2 1 e) + ((∑ r, D.dvl (row τ r) e * D.vh (row τ r) e : ℝ) : EReal) := by
  have hd : ∀ r e : Fin 512, k0_pay182 (F := Ideal) b.dvl0 b.dvl1 b.dvl2 (k0_pay167 b.dsv) k0_pay173 (k0_pay174 b.dsv) (k0_pay175 b.dsv) (k0_pay176 b.dsv)
      (k0_pay177 b.dsv) (View.ld b.wtcat (Rect.unit (s := S4x128x256) ![3, 0, 0] S1x128x256.size inb_S4x128x256_S1x128x256_3_0_0)) (ix2 r e)
      = (D.dvl (row τ r) e : EReal) := dvl_at H
  unfold Blk.v512
  rw [put_row_ne _ _ 2 (by simp), put_row _ _ 1 rfl]
  generalize View.ld b.wtcat _ = w3 at hd ⊢
  pointwise [k0_pay185, k0_pay184, k0_pay183]
  simp only [hd, vhat_at H, ← EReal.coe_mul, coe_sum]
theorem v512_2 (o : Vec Ideal S8x512 .f32) (e : Fin 512) : b.v512 o (ix2 2 e) = o (ix2 2 e) + ((∑ r, D.dvl (row τ r) e : ℝ) : EReal) := by
  unfold Blk.v512
  rw [put_row _ _ 2 rfl]
  pointwise [k0_pay186]
  simp only [dvl_at H, coe_sum]
omit H in
theorem v512_3 (o : Vec Ideal S8x512 .f32) (i : Fin 8) (hi : 3 ≤ i.val) (e : Fin 512) : b.v512 o (ix2 i e) = o (ix2 i e) := by
  unfold Blk.v512
  rw [put_row_ne _ _ 2 (by omega), put_row_ne _ _ 1 (by omega), put_row_ne _ _ 0 (by omega)]

variable {v0 : BitVec 32} (hv : v0 = BitVec.ofNat 32 τ.val) {hal : Vec Ideal S528x512 .f32}
  (hh : ∀ (R : Fin 528) (e : Fin 512), 512 ≤ R.val → hal (ix2 R e) = (D.qx (512 * τ.val + R.val) e : EReal))
include hv hh

theorem vd_0 (o : Vec Ideal S8x1024 .f32) (d : Fin 1024) : b.vd v0 hal o (ix2 0 d) = o (ix2 0 d) + ((∑ r, D.dh (row τ r) d : ℝ) : EReal) := by
  unfold Blk.vd
  rw [put_row_ne _ _ 3 (by simp), put_row_ne _ _ 1 (by simp), put_row _ _ 0 rfl]
  pointwise [k0_pay193]
  simp only [dh_at H hv hh, coe_sum]
theorem vd_1 (o : Vec Ideal S8x1024 .f32) (d : Fin 1024) :
    b.vd v0 hal o (ix2 1 d) = o (ix2 1 d) + ((∑ r, D.dh (row τ r) d * (D.xn (row τ r) d * D.gn d) : ℝ) : EReal) := by
  unfold Blk.vd
  rw [put_row_ne _ _ 3 (by simp), put_row _ _ 1 rfl]
  pointwise [k0_pay194]
  simp only [dh_at H hv hh, hp_at H, ← EReal.coe_mul, coe_sum]
theorem vd_3 (o : Vec Ideal S8x1024 .f32) (d : Fin 1024) :
    b.vd v0 hal o (ix2 3 d) = o (ix2 3 d) + ((∑ r, D.dh (row τ r) d * (1 + D.sc d) * D.xn (row τ r) d : ℝ) : EReal) := by
  have hx : ∀ r, k0_pay32 (F := Ideal) b.x (ix2 r d) = (D.xn (row τ r) d : EReal) := fun r => by
    pointwise [k0_pay32, k0_pay31]
    simp only [H.x, c_1024, c_eps, ← EReal.coe_mul, coe_sum, div1024, ← EReal.coe_add, rs_msq]
    rfl
  unfold Blk.vd
  rw [put_row _ _ 3 rfl]
  pointwise [k0_pay195, k0_pay191]
  simp only [dh_at H hv hh, hx, sc_at H, ← EReal.coe_one, ← EReal.coe_add, ← EReal.coe_mul, coe_sum]
omit H hv hh in
theorem vd_n (o : Vec Ideal S8x1024 .f32) (i : Fin 8) (h0 : i.val ≠ 0) (h1 : i.val ≠ 1) (h3 : i.val ≠ 3) (d : Fin 1024) :
    b.vd v0 hal o (ix2 i d) = o (ix2 i d) := by
  unfold Blk.vd
  rw [put_row_ne _ _ 3 h3, put_row_ne _ _ 1 h1, put_row_ne _ _ 0 h0]

end Cert.Kernel2Ideal.Mix

end
-- ==== Proof.MixLast.lean ====
/-
  What the last point of the mixing sub-layer's backward call writes besides the carried sums.
-/
module

public import proofs.«01_k».proof.Proof.MixAcc

@[expose] public section

noncomputable section

namespace Cert.Kernel2Ideal.Mix

open Cert.Kernel2Ideal Cert.Kernel2Ideal.Gen Idealize.ShloMosaic Idealize.ShloMosaic.TcCoe Cert.RealKit Cert.HeadMath Cert.MixMath

theorem sle_small (q t : Fin 128) : IntOp.cmpi .sle (BitVec.ofNat 32 q.val) (BitVec.ofNat 32 t.val) = if q.val ≤ t.val then 1#1 else 0#1 := by
  have h1 := toInt_small (n := q.val) (by omega)
  have h2 := toInt_small (n := t.val) (by omega)
  unfold IntOp.cmpi
  simp only [BitVec.sle, h1, h2]
  by_cases h : q.val ≤ t.val <;> simp [h]

theorem sel_tri (q t : Fin 128) (x : EReal) : Scalar.select (if q.val ≤ t.val then 1#1 else 0#1) x 0 = if q.val ≤ t.val then x else 0 := by
  split_ifs <;> rfl

variable {b : Blk Ideal} {D : In} {τ : Fin 16} (H : Rd b D τ)

section
include H
theorem dwsLast_at (o o' : Vec Ideal S8x128x128 .f32) (hh : Fin 8) (t q : Fin 128) :
    b.dwsLast o o' (ix3 hh t q) = if q.val ≤ t.val then o (ix3 hh t q) + (dws2 D τ hh t q : EReal) else 0 := by
  unfold Blk.dwsLast
  obtain ⟨n, hn⟩ := hh
  interval_cases n
  · rw [put_slab_ne _ _ 7 (by simp), put_slab_ne _ _ 6 (by simp), put_slab_ne _ _ 5 (by simp), put_slab_ne _ _ 4 (by simp), put_slab_ne _ _ 3 (by simp),
      put_slab_ne _ _ 2 (by simp), put_slab_ne _ _ 1 (by simp), put_slab _ _ 0 rfl]
    pointwise [k0_pay6]
    rw [sle_small, dws0_at H, sel_tri]
  · rw [put_slab_ne _ _ 7 (by simp), put_slab_ne _ _ 6 (by simp), put_slab_ne _ _ 5 (by simp), put_slab_ne _ _ 4 (by simp), put_slab_ne _ _ 3 (by simp),
      put_slab_ne _ _ 2 (by simp), put_slab _ _ 1 rfl]
    pointwise [k0_pay8, k0_pay7]
    rw [sle_small, dws1_at H, sel_tri]
  · rw [put_slab_ne _ _ 7 (by simp), put_slab_ne _ _ 6 (by simp), put_slab_ne _ _ 5 (by simp), put_slab_ne _ _ 4 (by simp), put_slab_ne _ _ 3 (by simp),
      put_slab _ _ 2 rfl]
    pointwise [k0_pay9]
    rw [sle_small, dws2_at H, sel_tri]
  · rw [put_slab_ne _ _ 7 (by simp), put_slab_ne _ _ 6 (by simp), put_slab_ne _ _ 5 (by simp), put_slab_ne _ _ 4 (by simp), put_slab _ _ 3 rfl]
    pointwise [k0_pay10]
    rw [sle_small, dws3_at H, sel_tri]
  · rw [put_slab_ne _ _ 7 (by simp), put_slab_ne _ _ 6 (by simp), put_slab_ne _ _ 5 (by simp), put_slab _ _ 4 rfl]
    pointwise [k0_pay11]
    rw [sle_small, dws4_at H, sel_tri]
  · rw [put_slab_ne _ _ 7 (by simp), put_slab_ne _ _ 6 (by simp), put_slab _ _ 5 rfl]
    pointwise [k0_pay13, k0_pay12]
    rw [sle_small, dws5_at H, sel_tri]
  · rw [put_slab_ne _ _ 7 (by simp), put_slab _ _ 6 rfl]
    pointwise [k0_pay14]
    rw [sle_small, dws6_at H, sel_tri]
  · rw [put_slab _ _ 7 rfl]
    pointwise [k0_pay15]
    rw [sle_small, dws7_at H, sel_tri]

theorem vdLast_2 (v0 : BitVec 32) (hal : Vec Ideal S528x512 .f32) (o : Vec Ideal S8x1024 .f32) (w : Vec Ideal S1024x1024 .f32) (W : Fin 1024 → Fin 1024 → ℝ)
    (hW : ∀ j d, b.dwout w (ix2 j d) = (W j d : EReal)) (d : Fin 1024) :
    b.vdLast v0 hal o w (ix2 2 d) = o (ix2 2 d) + ((∑ j, D.wout j d * W j d : ℝ) : EReal) := by
  unfold Blk.vdLast
  rw [put_row _ _ 2 rfl]
  pointwise [k0_pay4, k0_pay3]
  simp only [hW, H.wout, ← EReal.coe_mul, coe_sum]
end

theorem vdLast_ne (v0 : BitVec 32) (hal : Vec Ideal S528x512 .f32) (o : Vec Ideal S8x1024 .f32) (w : Vec Ideal S1024x1024 .f32) (i : Fin 8)
    (hi : i.val ≠ 2) (d : Fin 1024) : b.vdLast v0 hal o w (ix2 i d) = b.vd v0 hal o (ix2 i d) := by
  unfold Blk.vdLast
  rw [put_row_ne _ _ 2 hi]

theorem gate_row (w : Vec Ideal S1024x1024 .f32) (W : Fin 1024 → Fin 1024 → ℝ) (hW : ∀ j d, w (ix2 j d) = (W j d : EReal)) (H : Rd b D τ) (j d : Fin 1024) :
    k0_pay5 (F := Ideal) b.gate w (ix2 j d) = (W j d * D.ga d : ℝ) := by
  pointwise [k0_pay5, k0_pay3]
  rw [hW, gate_at H]; exact (EReal.coe_mul _ _).symm

/-- The floor of a column over the width of a head, compared with a head. -/
theorem head_word : ∀ (x : Fin 512) (hh : Fin 8), (IntOp.cmpi .eq
    (Scalar.select
      (IntOp.andi
        (IntOp.cmpi .ne
          (IntOp.subi (BitVec.setWidth 32 (IntOp.cmpi .sgt (BitVec.ofNat 32 x.val) 0#32)) (BitVec.setWidth 32 (IntOp.cmpi .slt (BitVec.ofNat 32 x.val) 0#32)))
          (Scalar.subi (Scalar.extui (Scalar.cmpi .sgt 64#32 0#32)) (Scalar.extui (Scalar.cmpi .slt 64#32 0#32))))
        (IntOp.cmpi .ne (IntOp.remsi .vector (BitVec.ofNat 32 x.val) 64#32) 0#32))
      (IntOp.subi (IntOp.divsi .vector (BitVec.ofNat 32 x.val) 64#32) 1#32)
      (IntOp.divsi .vector (BitVec.ofNat 32 x.val) 64#32))
    (BitVec.ofNat 32 hh.val)) = if x.val / 64 = hh.val then 1#1 else 0#1 := by
  decide +kernel

theorem sel_head (p : Prop) [Decidable p] (y : EReal) : Scalar.select (if p then 1#1 else 0#1) y 0 = if p then y else 0 := by
  split_ifs <;> rfl

/-- A sum over the columns of one head. -/
theorem sum_head (f : Fin 512 → ℝ) (hh : Fin 8) : (∑ x, if x.val / 64 = hh.val then f x else 0) = ∑ e : Fin 64, f (hcol hh e) := by
  rw [Idealize.ShloMosaic.Fin.sum_univ_tiles 8 64 rfl, Finset.sum_eq_single hh]
  · refine Finset.sum_congr rfl fun e _ => ?_
    rw [if_pos (show (hh.val * 64 + e.val) / 64 = hh.val by omega)]
    exact congrArg f (Fin.ext (by simp only [hcol]; omega))
  · intro j _ hj
    refine Finset.sum_eq_zero fun e _ => if_neg (show ¬(j.val * 64 + e.val) / 64 = hh.val from fun q => hj (Fin.ext (by omega)))
  · exact fun q => absurd (Finset.mem_univ _) q

theorem dbs_at (o o' : Vec Ideal S128x512 .f32) (A : Fin 128 → Fin 512 → ℝ) (hA : ∀ t e, b.acc o o' (ix2 t e) = (A t e : EReal)) (hh : Fin 8) (t : Fin 128) :
    b.dbs o o' (ix2 hh t) = ((∑ e : Fin 64, A t (hcol hh e) : ℝ) : EReal) := by
  unfold Blk.dbs
  pointwise [k0_pay2, k0_pay16, k0_pay17, k0_pay18]
  have hz : ∀ (x : Fin 512) (y : ℝ), (if x.val / 64 = hh.val then (y : EReal) else 0) = ((if x.val / 64 = hh.val then y else 0 : ℝ) : EReal) :=
    fun x y => by split_ifs <;> rfl
  simp only [head_word, hA, sel_head, hz, coe_sum, sum_head]

end Cert.Kernel2Ideal.Mix

end
-- ==== Proof.MixPoint.lean ====
/-
  What the buffers of the mixing sub-layer's backward call hold after each point of its grid: sums over the tiles done,
  from the last tile down.
-/
module

public import proofs.«01_k».proof.Proof.MixBlk
public import proofs.«01_k».proof.Proof.MixLast

@[expose] public section

noncomputable section

namespace Cert.MixMath

/-- A sum over the last `k` tiles. -/
def up (f : Fin 16 → ℝ) (k : ℕ) : ℝ := ∑ τ, if 16 ≤ τ.val + k then f τ else 0
theorem up_zero (f : Fin 16 → ℝ) : up f 0 = 0 := Finset.sum_eq_zero fun τ _ => if_neg (by omega)
theorem up_all (f : Fin 16 → ℝ) : up f 16 = ∑ τ, f τ := Finset.sum_congr rfl fun τ _ => if_pos (by omega)
theorem up_succ (f : Fin 16 → ℝ) (k : ℕ) (τ : Fin 16) (h : τ.val + k = 15) : up f (k + 1) = up f k + f τ := by
  have e : f τ = ∑ σ, if σ = τ then f σ else 0 := by rw [Finset.sum_ite_eq' Finset.univ τ f, if_pos (Finset.mem_univ _)]
  unfold up
  rw [e, ← Finset.sum_add_distrib]
  refine Finset.sum_congr rfl fun σ _ => ?_
  by_cases h1 : σ = τ
  · subst h1; rw [if_pos (by omega), if_neg (by omega), if_pos rfl, zero_add]
  · have h2 : σ.val ≠ τ.val := fun q => h1 (Fin.ext q)
    rw [if_neg h1, add_zero]
    by_cases h3 : 16 ≤ σ.val + k
    · rw [if_pos (by omega), if_pos h3]
    · rw [if_neg (by omega), if_neg h3]

/-- The rows tile by tile are all the rows. -/
theorem sum_rows (f : Fin 8192 → ℝ) : ∑ τ : Fin 16, ∑ r : Fin 512, f (row τ r) = ∑ s, f s :=
  ((Idealize.ShloMosaic.Fin.sum_univ_tiles 16 512 (by norm_num) f).trans (Finset.sum_congr rfl fun τ _ => Finset.sum_congr rfl fun r _ =>
    congrArg f (Fin.ext (by simp only [row]; omega)))).symm
/-- The chunks tile by tile are all the chunks. -/
theorem sum_tch (f : Fin 64 → ℝ) : ∑ τ : Fin 16, ∑ k : Fin 4, f (tch τ k) = ∑ n, f n :=
  ((Idealize.ShloMosaic.Fin.sum_univ_tiles 16 4 (by norm_num) f).trans (Finset.sum_congr rfl fun τ _ => Finset.sum_congr rfl fun r _ =>
    congrArg f (Fin.ext (by simp only [tch]; omega)))).symm

namespace In
variable (D : In)
/-- What one tile adds to each gradient. -/
def tWin (d : Fin 1024) (j : Fin 1536) (τ : Fin 16) : ℝ := ∑ r, D.h (row τ r) d * D.dproj (row τ r) j
def tWout (j d : Fin 1024) (τ : Fin 16) : ℝ := ∑ r, D.cat (row τ r) j * D.g (row τ r) d
def tWp (g : Fin 4) (a b : Fin 128) (τ : Fin 16) : ℝ := ∑ r, D.pool (row τ r) (ck g a) * D.dm (row τ r) (ck g b)
def tPs (e : Fin 512) (τ : Fin 16) : ℝ := ∑ r, D.dcat (row τ r) (lo e) * D.mixed (row τ r) e
def tLg (e : Fin 512) (τ : Fin 16) : ℝ := ∑ r, D.dvl (row τ r) e * D.vh (row τ r) e
def tLb (e : Fin 512) (τ : Fin 16) : ℝ := ∑ r, D.dvl (row τ r) e
def tSh (d : Fin 1024) (τ : Fin 16) : ℝ := ∑ r, D.dh (row τ r) d
def tSc (d : Fin 1024) (τ : Fin 16) : ℝ := ∑ r, D.dh (row τ r) d * (D.xn (row τ r) d * D.gn d)
def tGn (d : Fin 1024) (τ : Fin 16) : ℝ := ∑ r, D.dh (row τ r) d * (1 + D.sc d) * D.xn (row τ r) d
def tAcc (t : Fin 128) (e : Fin 512) (τ : Fin 16) : ℝ := ∑ k : Fin 4, D.dsv (row τ (ck k t)) e
end In

end Cert.MixMath

namespace Cert.Kernel2Ideal.Mix

open Cert.Kernel2Ideal Cert.Kernel2Ideal.Gen Idealize.ShloMosaic Idealize.ShloMosaic.TcCoe Cert.RealKit Cert.MixMath Cert.HeadMath

/-- What the carried arrays hold with `k` tiles done. -/
structure Carry (D : In) (k : ℕ) (o13 : Vec Ideal S1024x1536 .f32) (o14 : Vec Ideal S1024x1024 .f32) (o15 : Vec Ideal S4x128x128 .f32)
    (o16 : Vec Ideal S8x128x128 .f32) (o18 : Vec Ideal S8x512 .f32) (o19 : Vec Ideal S8x1024 .f32) (s0 : Vec Ideal S528x512 .f32)
    (s1 : Vec Ideal S128x512 .f32) : Prop where
  win : ∀ d j, o13 (ix2 d j) = (up (D.tWin d j) k : EReal)
  wout : ∀ j d, o14 (ix2 j d) = (up (D.tWout j d) k : EReal)
  wp : ∀ g a b, o15 (ix3 g a b) = (up (D.tWp g a b) k : EReal)
  ws : ∀ hh t q, o16 (ix3 hh t q) = (up (fun τ => dws2 D τ hh t q) k : EReal)
  ps : ∀ e, o18 (ix2 0 e) = (up (D.tPs e) k : EReal)
  lg : ∀ e, o18 (ix2 1 e) = (up (D.tLg e) k : EReal)
  lb : ∀ e, o18 (ix2 2 e) = (up (D.tLb e) k : EReal)
  v0 : ∀ (i : Fin 8) e, 3 ≤ i.val → o18 (ix2 i e) = ((0 : ℝ) : EReal)
  sh : ∀ d, o19 (ix2 0 d) = (up (D.tSh d) k : EReal)
  sc : ∀ d, o19 (ix2 1 d) = (up (D.tSc d) k : EReal)
  gn : ∀ d, o19 (ix2 3 d) = (up (D.tGn d) k : EReal)
  d0 : ∀ (i : Fin 8) d, i.val ≠ 0 → i.val ≠ 1 → i.val ≠ 3 → o19 (ix2 i d) = ((0 : ℝ) : EReal)
  halo : ∀ (R : Fin 528) e (x : ℕ), 512 ≤ R.val → 512 * (k + 1) + x = 8192 + R.val → s0 (ix2 R e) = (D.qx x e : EReal)
  acc : ∀ t e, s1 (ix2 t e) = (up (D.tAcc t e) k : EReal)

/-- Zeros, before the first point. -/
theorem carry_zero (D : In) (e : Vec Ideal S528x512 .f32) : Carry D 0 (k0_pay19 (F := Ideal)) (k0_pay20 (F := Ideal)) (k0_pay21 (F := Ideal)) (k0_pay22 (F := Ideal)) (k0_pay23 (F := Ideal)) (k0_pay24 (F := Ideal))
    (VecWindow.put (s := S528x512) e ![512, 0] S16x512.size (k0_pay26 (F := Ideal))) (k0_pay25 (F := Ideal)) where
  win d j := by rw [up_zero]; exact c_zero
  wout j d := by rw [up_zero]; exact c_zero
  wp g a b := by rw [up_zero]; exact c_zero
  ws hh t q := by rw [up_zero]; exact c_zero
  ps e := by rw [up_zero]; exact c_zero
  lg e := by rw [up_zero]; exact c_zero
  lb e := by rw [up_zero]; exact c_zero
  v0 i e h := c_zero
  sh d := by rw [up_zero]; exact c_zero
  sc d := by rw [up_zero]; exact c_zero
  gn d := by rw [up_zero]; exact c_zero
  d0 i d h h' h'' := c_zero
  halo R d x h hx := by
    refine (put_hit (s := S528x512) _ ![512, 0] S16x512.size _ (ix2 R d) (ix2 (⟨R.val - 512, by omega⟩ : Fin 16) d) fun a => ?_).trans ?_
    · fin_cases a
      · exact (show R.val = 512 + (R.val - 512) by omega)
      · exact (Nat.zero_add _).symm
    · unfold In.qx
      rw [dif_neg (by omega)]
      exact c_zero
  acc t e := by rw [up_zero]; exact c_zero

theorem add_up {f : Fin 16 → ℝ} {k : ℕ} {τ : Fin 16} (h : τ.val + k = 15) {y : EReal} (hy : y = (up f k : EReal)) : y + (f τ : EReal) = (up f (k + 1) : EReal) := by
  rw [hy, up_succ f k τ h, EReal.coe_add]

section
variable {b : Blk Ideal} {D : In} {τ : Fin 16} (H : Rd b D τ) {k : ℕ} (hk : τ.val + k = 15) {v0 : BitVec 32} (hv : v0 = BitVec.ofNat 32 τ.val)
  {o13 : Vec Ideal S1024x1536 .f32} {o14 : Vec Ideal S1024x1024 .f32} {o15 : Vec Ideal S4x128x128 .f32}
  {o16 : Vec Ideal S8x128x128 .f32} {o18 : Vec Ideal S8x512 .f32} {o19 : Vec Ideal S8x1024 .f32} {s0 : Vec Ideal S528x512 .f32}
  {s1 : Vec Ideal S128x512 .f32} (C : Carry D k o13 o14 o15 o16 o18 o19 s0 s1)
include H hk hv C

omit H hv in
theorem Carry.below (R : Fin 528) (e : Fin 512) (h : 512 ≤ R.val) : s0 (ix2 R e) = (D.qx (512 * τ.val + R.val) e : EReal) :=
  C.halo R e _ h (by omega)

/-- One more tile. -/
theorem Carry.step (e0 e2 : Vec Ideal S528x512 .f32) (e15 : Vec Ideal S4x128x128 .f32) (e16 : Vec Ideal S8x128x128 .f32) (e3 : Vec Ideal S128x512 .f32) :
    Carry D (k + 1) (b.dwin v0 s0 o13) (b.dwout o14) (b.dwpool o15 e15) (b.dws o16 e16) (b.v512 o18) (b.vd v0 s0 o19) (b.halo v0 e0 e2) (b.acc s1 e3) where
  win d j := (dwin_at H hv (C.below hk) o13 d j).trans (add_up hk (C.win d j))
  wout j d := (dwout_at H o14 j d).trans (add_up hk (C.wout j d))
  wp g x y := (dwpool_at H o15 e15 g x y).trans (add_up hk (C.wp g x y))
  ws hh t q := (dws_at H o16 e16 hh t q).trans (add_up (f := fun τ => dws2 D τ hh t q) hk (C.ws hh t q))
  ps e := (v512_0 H o18 e).trans (add_up hk (C.ps e))
  lg e := (v512_1 H o18 e).trans (add_up hk (C.lg e))
  lb e := (v512_2 H o18 e).trans (add_up hk (C.lb e))
  v0 i e h := (v512_3 o18 i h e).trans (C.v0 i e h)
  sh d := (vd_0 H hv (C.below hk) o19 d).trans (add_up hk (C.sh d))
  sc d := (vd_1 H hv (C.below hk) o19 d).trans (add_up hk (C.sc d))
  gn d := (vd_3 H hv (C.below hk) o19 d).trans (add_up hk (C.gn d))
  d0 i d h h' h'' := (vd_n o19 i h h' h'' d).trans (C.d0 i d h h' h'')
  halo R e x h hx := (halo_at H hv e0 e2 R e h).trans (congrArg (fun n => (D.qx n e : EReal)) (by omega))
  acc t e := (acc_at H s1 e3 t e).trans (add_up hk (C.acc t e))
end

variable {m : (ℓ : Loc nD τ sig) → Buf (Elt Ideal) ℓ} {c : Dev nD} {D : In} (H : Args m c D)
include H

theorem tl_add (t : Fin cfg0.N) : (tl t).val + t.val = 15 := by have := t_lt t; simp only [tl]; omega

/-- What the carried arrays hold after each point but the last. -/
theorem carried : ∀ (n : ℕ) (hn : n < cfg0.N), n < 15 → let o := outsAt0 m c n hn
    Carry D (n + 1) o.2.1 o.2.2.1 o.2.2.2.1 o.2.2.2.2.1 o.2.2.2.2.2.2.1 o.2.2.2.2.2.2.2.1 o.2.2.2.2.2.2.2.2.1 o.2.2.2.2.2.2.2.2.2
  | 0, hn, h => by
    obtain ⟨e, e0, e2, e15, e16, e17, e3, he⟩ := at_A m c ⟨0, hn⟩ rfl (by simp)
    dsimp only at he ⊢
    rw [he]
    exact (carry_zero D e).step (reads ⟨0, hn⟩ H) (tl_add H ⟨0, hn⟩) (crd ⟨0, hn⟩) e0 e2 e15 e16 e3
  | n + 1, hn, h => by
    obtain ⟨e0, e2, e15, e16, e17, e3, he⟩ := at_B m c ⟨n + 1, hn⟩ (by dsimp; omega) (by dsimp; omega)
    have C := carried n (Nat.lt_of_succ_lt hn) (by omega)
    dsimp only at he C ⊢
    rw [he]
    exact Carry.step (reads ⟨n + 1, hn⟩ H) (tl_add H ⟨n + 1, hn⟩) (crd ⟨n + 1, hn⟩) C e0 e2 e15 e16 e3

end Cert.Kernel2Ideal.Mix

end
-- ==== Proof.MixFinal.lean ====
/-
  The arrays the mixing sub-layer's backward call leaves: each gradient over all rows.
-/
module

public import proofs.«01_k».proof.Proof.MixPoint
public import proofs.«01_k».proof.Proof.HeadFinal

@[expose] public section

noncomputable section

namespace Cert.MixMath.In
variable (D : In)
/-- The gradients over all rows. -/
def rWin (d : Fin 1024) (j : Fin 1536) : ℝ := ∑ s, D.h s d * D.dproj s j
def rWout (j d : Fin 1024) : ℝ := (∑ s, D.cat s j * D.g s d) * D.ga d
def rWp (g : Fin 4) (a b : Fin 128) : ℝ := ∑ s, D.pool s (ck g a) * D.dm s (ck g b)
def rWs (hh : Fin 8) (t q : Fin 128) : ℝ :=
  if q.val ≤ t.val then ∑ n, ∑ e : Fin 64, D.dsv (crow n t) (hcol hh e) * D.vl (crow n q) (hcol hh e) else 0
def rBs (hh : Fin 8) (t : Fin 128) : ℝ := ∑ e : Fin 64, ∑ n, D.dsv (crow n t) (hcol hh e)
/-- The rows of the packed vector gradients. -/
def rV (i : Fin 8) (e : Fin 512) : ℝ :=
  if i.val = 0 then ∑ s, D.dcat s (lo e) * D.mixed s e else if i.val = 1 then ∑ s, D.dvl s e * D.vh s e else if i.val = 2 then ∑ s, D.dvl s e else 0
def rD (i : Fin 8) (d : Fin 1024) : ℝ :=
  if i.val = 0 then ∑ s, D.dh s d else if i.val = 1 then ∑ s, D.dh s d * (D.xn s d * D.gn d)
  else if i.val = 2 then ∑ j, D.wout j d * ∑ s, D.cat s j * D.g s d else if i.val = 3 then ∑ s, D.dh s d * (1 + D.sc d) * D.xn s d else 0
end Cert.MixMath.In

namespace Cert.Kernel2Ideal.Mix

open Cert.Kernel2Ideal Cert.Kernel2Ideal.Gen Idealize.ShloMosaic Idealize.ShloMosaic.TcCoe Cert.RealKit Cert.MixMath Cert.HeadMath
open Idealize.ShloMosaic.Pipeline (Dat)
open Cert.KernelIdeal.Head (eta2)

theorem eta3 {a b c : ℕ} (z : (⟨3, ![a, b, c]⟩ : Shape).Idx) : z = ix3 (z 0) (z 1) (z 2) := funext fun k => by fin_cases k <;> rfl

/-- The results, each an array over the reals. -/
def G12 (D : In) : Vec Ideal S8192x1024 .f32 := fun i => (D.dx (i 0) (i 1) : EReal)
def G13 (D : In) : Vec Ideal S1024x1536 .f32 := fun i => (D.rWin (i 0) (i 1) : EReal)
def G14 (D : In) : Vec Ideal S1024x1024 .f32 := fun i => (D.rWout (i 0) (i 1) : EReal)
def G15 (D : In) : Vec Ideal S4x128x128 .f32 := fun i => (D.rWp (i 0) (i 1) (i 2) : EReal)
def G16 (D : In) : Vec Ideal S8x128x128 .f32 := fun i => (D.rWs (i 0) (i 1) (i 2) : EReal)
def G17 (D : In) : Vec Ideal S8x128 .f32 := fun i => (D.rBs (i 0) (i 1) : EReal)
def G18 (D : In) : Vec Ideal S8x512 .f32 := fun i => (D.rV (i 0) (i 1) : EReal)
def G19 (D : In) : Vec Ideal S8x1024 .f32 := fun i => (D.rD (i 0) (i 1) : EReal)

variable {m : (ℓ : Loc nD τ sig) → Buf (Elt Ideal) ℓ} {c : Dev nD} {D : In} (H : Args m c D) (t : Fin cfg0.N)
include H

/-- The carried arrays with all but the last tile done. -/
theorem before (h0 : ¬t.val = 0) : Carry D t.val (prev m c t).2.1 (prev m c t).2.2.1 (prev m c t).2.2.2.1 (prev m c t).2.2.2.2.1
    (prev m c t).2.2.2.2.2.2.1 (prev m c t).2.2.2.2.2.2.2.1 (prev m c t).2.2.2.2.2.2.2.2.1 (prev m c t).2.2.2.2.2.2.2.2.2 := by
  have hN := t_lt t
  have C := carried H (t.val - 1) (Nat.lt_of_le_of_lt (Nat.sub_le _ _) t.isLt) (by omega)
  rw [show t.val - 1 + 1 = t.val by omega] at C
  exact C

/-- The input's gradient, tile by tile. -/
theorem out12 (r : Fin 512) (d : Fin 1024) : (outsAt0 m c t.val t.isLt).1 (ix2 r d) = (D.dx (row (tl t) r) d : EReal) := by
  have hN := t_lt t
  by_cases h0 : t.val = 0
  · obtain ⟨e, e0, e2, e15, e16, e17, e3, he⟩ := at_A m c t (by omega) (by omega)
    rw [he]
    have C := carry_zero D e
    have hk := tl_add H t
    rw [h0] at hk
    exact dx_at (reads t H) (crd t) (C.below hk) r d
  · have C := before H t h0
    by_cases h1 : t.val = 15
    · obtain ⟨e0, e2, e15, e16, e1, e3, he⟩ := at_C m c t (by omega) (by omega)
      rw [he]
      exact dx_at (reads t H) (crd t) (C.below (tl_add H t)) r d
    · obtain ⟨e0, e2, e15, e16, e17, e3, he⟩ := at_B m c t (by omega) (by omega)
      rw [he]
      exact dx_at (reads t H) (crd t) (C.below (tl_add H t)) r d

omit H in
theorem all_rows (f : Fin 8192 → ℝ) : up (fun τ => ∑ r, f (row τ r)) 16 = ∑ s, f s := (up_all _).trans (sum_rows f)
omit H in
theorem all_dws (hh : Fin 8) (t q : Fin 128) : up (fun τ => dws2 D τ hh t q) 16 = ∑ n, ∑ e : Fin 64, D.dsv (crow n t) (hcol hh e) * D.vl (crow n q) (hcol hh e) := by
  rw [up_all]
  unfold dws2
  simp only [row_ck]
  exact sum_tch fun n => ∑ e : Fin 64, D.dsv (crow n t) (hcol hh e) * D.vl (crow n q) (hcol hh e)
omit H in
theorem all_acc (t : Fin 128) (e : Fin 512) : up (D.tAcc t e) 16 = ∑ n, D.dsv (crow n t) e := by
  rw [up_all]
  unfold In.tAcc
  simp only [row_ck]
  exact sum_tch fun n => D.dsv (crow n t) e

/-- What stands after the last point. -/
theorem last (h : t.val % 16 = 15) : let o := outsAt0 m c t.val t.isLt
    (∀ d j, o.2.1 (ix2 d j) = (D.rWin d j : EReal)) ∧ (∀ j d, o.2.2.1 (ix2 j d) = (D.rWout j d : EReal))
      ∧ (∀ g a b, o.2.2.2.1 (ix3 g a b) = (D.rWp g a b : EReal)) ∧ (∀ hh a q, o.2.2.2.2.1 (ix3 hh a q) = (D.rWs hh a q : EReal))
      ∧ (∀ hh a, o.2.2.2.2.2.1 (ix2 hh a) = (D.rBs hh a : EReal)) ∧ (∀ i e, o.2.2.2.2.2.2.1 (ix2 i e) = (D.rV i e : EReal))
      ∧ ∀ i d, o.2.2.2.2.2.2.2.1 (ix2 i d) = (D.rD i d : EReal) := by
  have hN := t_lt t
  have ht : t.val = 15 := by omega
  obtain ⟨e0, e2, e15, e16, e1, e3, he⟩ := at_C m c t (by omega) h
  have C := before H t (by omega)
  have R := reads t H
  have C' := C.step R (tl_add H t) (crd t) e0 e2 e15 e16 e3
  have C2 := C.step R (tl_add H t) (crd t) e0 e2 e15 e16 e1
  rw [show t.val + 1 = 16 by omega] at C' C2
  dsimp only
  rw [he]
  generalize prev m c t = p at C C' C2 ⊢
  generalize blk m c t = b at R C' C2 ⊢
  have hW : ∀ j d, b.dwout p.2.2.1 (ix2 j d) = ((∑ s, D.cat s j * D.g s d : ℝ) : EReal) := fun j d =>
    (C'.wout j d).trans (congrArg _ (all_rows fun s => D.cat s j * D.g s d))
  refine ⟨fun d j => ?_, fun j d => ?_, fun g a b' => ?_, fun hh a q => ?_, fun hh a => ?_, fun i e => ?_, fun i d => ?_⟩
  · exact (C'.win d j).trans (congrArg _ (all_rows fun s => D.h s d * D.dproj s j))
  · exact gate_row _ _ hW R j d
  · exact (C'.wp g a b').trans (congrArg _ (all_rows fun s => D.pool s (ck g a) * D.dm s (ck g b')))
  · refine (dwsLast_at R _ e16 hh a q).trans ?_
    unfold In.rWs
    by_cases hq : q.val ≤ a.val
    · rw [if_pos hq, if_pos hq, ← all_dws, ← C'.ws hh a q, dws_at R]
    · rw [if_neg hq, if_neg hq, EReal.coe_zero]
  · exact (dbs_at _ e1 (fun a e => ∑ n, D.dsv (crow n a) e) (fun a e => (C2.acc a e).trans (congrArg _ (all_acc a e))) hh a).trans rfl
  · unfold In.rV
    by_cases i0 : i.val = 0
    · obtain rfl : i = 0 := Fin.ext i0
      exact (C'.ps e).trans (congrArg _ (all_rows fun s => D.dcat s (lo e) * D.mixed s e))
    by_cases i1 : i.val = 1
    · obtain rfl : i = 1 := Fin.ext i1
      exact (C'.lg e).trans (congrArg _ (all_rows fun s => D.dvl s e * D.vh s e))
    by_cases i2 : i.val = 2
    · obtain rfl : i = 2 := Fin.ext i2
      exact (C'.lb e).trans (congrArg _ (all_rows fun s => D.dvl s e))
    · rw [if_neg i0, if_neg i1, if_neg i2]
      exact C'.v0 i e (by omega)
  · unfold In.rD
    by_cases i2 : i.val = 2
    · obtain rfl : i = 2 := Fin.ext i2
      refine (vdLast_2 R _ _ _ _ _ hW d).trans ?_
      rw [C.d0 2 d (by simp) (by simp) (by simp), EReal.coe_zero, zero_add]
      rfl
    · refine (vdLast_ne _ _ _ _ i i2 d).trans ?_
      by_cases i0 : i.val = 0
      · obtain rfl : i = 0 := Fin.ext i0
        exact (C'.sh d).trans (congrArg _ (all_rows fun s => D.dh s d))
      by_cases i1 : i.val = 1
      · obtain rfl : i = 1 := Fin.ext i1
        exact (C'.sc d).trans (congrArg _ (all_rows fun s => D.dh s d * (D.xn s d * D.gn d)))
      by_cases i3 : i.val = 3
      · obtain rfl : i = 3 := Fin.ext i3
        exact (C'.gn d).trans (congrArg _ (all_rows fun s => D.dh s d * (1 + D.sc d) * D.xn s d))
      · rw [if_neg i0, if_neg i1, if_neg i2, if_neg i3]
        exact C'.d0 i d i0 i1 i3

theorem arr12 : (dats m 0 c).arrAt 12 cfg0.N = G12 D :=
  (dats m 0 c).arrAt_eq_of_cover 12 (G12 D)
    (fun t hf => by
      rw [Value.flushed12]
      refine funext fun (y : S512x1024.Idx) => ?_
      refine (congrArg (outsAt0 m c t.val t.isLt).1 (eta2 y)).trans ((out12 H t (y 0) (y 1)).trans ?_)
      have emb : ((cfg0.win 12).blk t).view.emb y = ix2 (row (tl t) (y 0)) (y 1) := by
        refine funext fun a => Fin.ext ?_
        match a with
        | ⟨0, _⟩ => show win0_12.index t 0 * 512 + 1 * (y 0).val = 512 * (15 - t.val) + (y 0).val; rw [(idx12 t).1]; omega
        | ⟨1, _⟩ => show win0_12.index t 1 * 1024 + 1 * (y 1).val = (y 1).val; rw [(idx12 t).2]; omega
      exact Eq.trans (b := G12 D (ix2 (row (tl t) (y 0)) (y 1))) rfl ((congrArg (G12 D) emb).symm.trans rfl))
    fun i => by
      have h0 : (i 0 : ℕ) < 8192 := (i 0).isLt
      have h1 : (i 1 : ℕ) < 1024 := (i 1).isLt
      obtain ⟨t, ht⟩ : ∃ t : Fin cfg0.N, t.val = 15 - (i 0 : ℕ) / 512 := ⟨⟨_, by rw [show cfg0.N = 16 from N_0]; omega⟩, rfl⟩
      refine ⟨t, flush0_12 t, ?_⟩
      show i ∈ ((View.whole main_v127_0).slice (win0_12.rect t)).set
      rw [View.set_slice_whole, Rect.mem_set_unit]
      have e := idx12 t
      intro a
      match a with
      | ⟨0, _⟩ => show win0_12.index t 0 * 512 ≤ (i 0 : ℕ) ∧ (i 0 : ℕ) < win0_12.index t 0 * 512 + 512
                  rw [e.1]; omega
      | ⟨1, _⟩ => show win0_12.index t 1 * 1024 ≤ (i 1 : ℕ) ∧ (i 1 : ℕ) < win0_12.index t 1 * 1024 + 1024
                  rw [e.2]; omega

omit H in
/-- The last point. -/
theorem end_pt : ∃ t : Fin cfg0.N, t.val % 16 = 15 := ⟨⟨15, by rw [show cfg0.N = 16 from N_0]; omega⟩, rfl⟩

theorem arr13 : (dats m 0 c).arrAt 13 cfg0.N = G13 D :=
  (dats m 0 c).arrAt_eq_of_cover 13 (G13 D)
    (fun t hf => by
      rw [Value.flushed13]
      refine funext fun (y : S1024x1536.Idx) => ?_
      refine (congrArg (outsAt0 m c t.val t.isLt).2.1 (eta2 y)).trans (((last H t ((flush0_13 t).mp hf)).1 (y 0) (y 1)).trans ?_)
      have emb : ((cfg0.win 13).blk t).view.emb y = ix2 (y 0) (y 1) := by
        refine funext fun a => Fin.ext ?_
        match a with
        | ⟨0, _⟩ => show win0_13.index t 0 * 1024 + 1 * (y 0).val = (y 0).val; rw [(idx13 t).1]; omega
        | ⟨1, _⟩ => show win0_13.index t 1 * 1536 + 1 * (y 1).val = (y 1).val; rw [(idx13 t).2]; omega
      exact Eq.trans (b := G13 D (ix2 (y 0) (y 1))) rfl ((congrArg (G13 D) emb).symm.trans rfl))
    fun i => by
      obtain ⟨t, ht⟩ := end_pt
      refine ⟨t, (flush0_13 t).mpr ht, ?_⟩
      show i ∈ ((View.whole main_v127_1).slice (win0_13.rect t)).set
      rw [View.set_slice_whole, Rect.mem_set_unit]
      have e := idx13 t
      intro a
      match a with
      | ⟨0, _⟩ => have hi : (i 0 : ℕ) < 1024 := (i 0).isLt
                  show win0_13.index t 0 * 1024 ≤ (i 0 : ℕ) ∧ (i 0 : ℕ) < win0_13.index t 0 * 1024 + 1024
                  rw [e.1]; omega
      | ⟨1, _⟩ => have hi : (i 1 : ℕ) < 1536 := (i 1).isLt
                  show win0_13.index t 1 * 1536 ≤ (i 1 : ℕ) ∧ (i 1 : ℕ) < win0_13.index t 1 * 1536 + 1536
                  rw [e.2]; omega

theorem arr14 : (dats m 0 c).arrAt 14 cfg0.N = G14 D :=
  (dats m 0 c).arrAt_eq_of_cover 14 (G14 D)
    (fun t hf => by
      rw [Value.flushed14]
      refine funext fun (y : S1024x1024.Idx) => ?_
      refine (congrArg (outsAt0 m c t.val t.isLt).2.2.1 (eta2 y)).trans (((last H t ((flush0_14 t).mp hf)).2.1 (y 0) (y 1)).trans ?_)
      have emb : ((cfg0.win 14).blk t).view.emb y = ix2 (y 0) (y 1) := by
        refine funext fun a => Fin.ext ?_
        match a with
        | ⟨0, _⟩ => show win0_14.index t 0 * 1024 + 1 * (y 0).val = (y 0).val; rw [(idx14 t).1]; omega
        | ⟨1, _⟩ => show win0_14.index t 1 * 1024 + 1 * (y 1).val = (y 1).val; rw [(idx14 t).2]; omega
      exact Eq.trans (b := G14 D (ix2 (y 0) (y 1))) rfl ((congrArg (G14 D) emb).symm.trans rfl))
    fun i => by
      obtain ⟨t, ht⟩ := end_pt
      refine ⟨t, (flush0_14 t).mpr ht, ?_⟩
      show i ∈ ((View.whole main_v127_2).slice (win0_14.rect t)).set
      rw [View.set_slice_whole, Rect.mem_set_unit]
      have e := idx14 t
      intro a
      match a with
      | ⟨0, _⟩ => have hi : (i 0 : ℕ) < 1024 := (i 0).isLt
                  show win0_14.index t 0 * 1024 ≤ (i 0 : ℕ) ∧ (i 0 : ℕ) < win0_14.index t 0 * 1024 + 1024
                  rw [e.1]; omega
      | ⟨1, _⟩ => have hi : (i 1 : ℕ) < 1024 := (i 1).isLt
                  show win0_14.index t 1 * 1024 ≤ (i 1 : ℕ) ∧ (i 1 : ℕ) < win0_14.index t 1 * 1024 + 1024
                  rw [e.2]; omega

theorem arr15 : (dats m 0 c).arrAt 15 cfg0.N = G15 D :=
  (dats m 0 c).arrAt_eq_of_cover 15 (G15 D)
    (fun t hf => by
      rw [Value.flushed15]
      refine funext fun (y : S4x128x128.Idx) => ?_
      refine (congrArg (outsAt0 m c t.val t.isLt).2.2.2.1 (eta3 y)).trans (((last H t ((flush0_15 t).mp hf)).2.2.1 (y 0) (y 1) (y 2)).trans ?_)
      have emb : ((cfg0.win 15).blk t).view.emb y = ix3 (y 0) (y 1) (y 2) := by
        refine funext fun a => Fin.ext ?_
        match a with
        | ⟨0, _⟩ => show win0_15.index t 0 * 4 + 1 * (y 0).val = (y 0).val; rw [(idx15 t).1]; omega
        | ⟨1, _⟩ => show win0_15.index t 1 * 128 + 1 * (y 1).val = (y 1).val; rw [(idx15 t).2.1]; omega
        | ⟨2, _⟩ => show win0_15.index t 2 * 128 + 1 * (y 2).val = (y 2).val; rw [(idx15 t).2.2]; omega
      exact Eq.trans (b := G15 D (ix3 (y 0) (y 1) (y 2))) rfl ((congrArg (G15 D) emb).symm.trans rfl))
    fun i => by
      obtain ⟨t, ht⟩ := end_pt
      refine ⟨t, (flush0_15 t).mpr ht, ?_⟩
      show i ∈ ((View.whole main_v127_3).slice (win0_15.rect t)).set
      rw [View.set_slice_whole, Rect.mem_set_unit]
      have e := idx15 t
      intro a
      match a with
      | ⟨0, _⟩ => have hi : (i 0 : ℕ) < 4 := (i 0).isLt
                  show win0_15.index t 0 * 4 ≤ (i 0 : ℕ) ∧ (i 0 : ℕ) < win0_15.index t 0 * 4 + 4
                  rw [e.1]; omega
      | ⟨1, _⟩ => have hi : (i 1 : ℕ) < 128 := (i 1).isLt
                  show win0_15.index t 1 * 128 ≤ (i 1 : ℕ) ∧ (i 1 : ℕ) < win0_15.index t 1 * 128 + 128
                  rw [e.2.1]; omega
      | ⟨2, _⟩ => have hi : (i 2 : ℕ) < 128 := (i 2).isLt
                  show win0_15.index t 2 * 128 ≤ (i 2 : ℕ) ∧ (i 2 : ℕ) < win0_15.index t 2 * 128 + 128
                  rw [e.2.2]; omega

theorem arr16 : (dats m 0 c).arrAt 16 cfg0.N = G16 D :=
  (dats m 0 c).arrAt_eq_of_cover 16 (G16 D)
    (fun t hf => by
      rw [Value.flushed16]
      refine funext fun (y : S8x128x128.Idx) => ?_
      refine (congrArg (outsAt0 m c t.val t.isLt).2.2.2.2.1 (eta3 y)).trans (((last H t ((flush0_16 t).mp hf)).2.2.2.1 (y 0) (y 1) (y 2)).trans ?_)
      have emb : ((cfg0.win 16).blk t).view.emb y = ix3 (y 0) (y 1) (y 2) := by
        refine funext fun a => Fin.ext ?_
        match a with
        | ⟨0, _⟩ => show win0_16.index t 0 * 8 + 1 * (y 0).val = (y 0).val; rw [(idx16 t).1]; omega
        | ⟨1, _⟩ => show win0_16.index t 1 * 128 + 1 * (y 1).val = (y 1).val; rw [(idx16 t).2.1]; omega
        | ⟨2, _⟩ => show win0_16.index t 2 * 128 + 1 * (y 2).val = (y 2).val; rw [(idx16 t).2.2]; omega
      exact Eq.trans (b := G16 D (ix3 (y 0) (y 1) (y 2))) rfl ((congrArg (G16 D) emb).symm.trans rfl))
    fun i => by
      obtain ⟨t, ht⟩ := end_pt
      refine ⟨t, (flush0_16 t).mpr ht, ?_⟩
      show i ∈ ((View.whole main_v127_4).slice (win0_16.rect t)).set
      rw [View.set_slice_whole, Rect.mem_set_unit]
      have e := idx16 t
      intro a
      match a with
      | ⟨0, _⟩ => have hi : (i 0 : ℕ) < 8 := (i 0).isLt
                  show win0_16.index t 0 * 8 ≤ (i 0 : ℕ) ∧ (i 0 : ℕ) < win0_16.index t 0 * 8 + 8
                  rw [e.1]; omega
      | ⟨1, _⟩ => have hi : (i 1 : ℕ) < 128 := (i 1).isLt
                  show win0_16.index t 1 * 128 ≤ (i 1 : ℕ) ∧ (i 1 : ℕ) < win0_16.index t 1 * 128 + 128
                  rw [e.2.1]; omega
      | ⟨2, _⟩ => have hi : (i 2 : ℕ) < 128 := (i 2).isLt
                  show win0_16.index t 2 * 128 ≤ (i 2 : ℕ) ∧ (i 2 : ℕ) < win0_16.index t 2 * 128 + 128
                  rw [e.2.2]; omega

theorem arr17 : (dats m 0 c).arrAt 17 cfg0.N = G17 D :=
  (dats m 0 c).arrAt_eq_of_cover 17 (G17 D)
    (fun t hf => by
      rw [Value.flushed17]
      refine funext fun (y : S8x128.Idx) => ?_
      refine (congrArg (outsAt0 m c t.val t.isLt).2.2.2.2.2.1 (eta2 y)).trans (((last H t ((flush0_17 t).mp hf)).2.2.2.2.1 (y 0) (y 1)).trans ?_)
      have emb : ((cfg0.win 17).blk t).view.emb y = ix2 (y 0) (y 1) := by
        refine funext fun a => Fin.ext ?_
        match a with
        | ⟨0, _⟩ => show win0_17.index t 0 * 8 + 1 * (y 0).val = (y 0).val; rw [(idx17 t).1]; omega
        | ⟨1, _⟩ => show win0_17.index t 1 * 128 + 1 * (y 1).val = (y 1).val; rw [(idx17 t).2]; omega
      exact Eq.trans (b := G17 D (ix2 (y 0) (y 1))) rfl ((congrArg (G17 D) emb).symm.trans rfl))
    fun i => by
      obtain ⟨t, ht⟩ := end_pt
      refine ⟨t, (flush0_17 t).mpr ht, ?_⟩
      show i ∈ ((View.whole main_v127_5).slice (win0_17.rect t)).set
      rw [View.set_slice_whole, Rect.mem_set_unit]
      have e := idx17 t
      intro a
      match a with
      | ⟨0, _⟩ => have hi : (i 0 : ℕ) < 8 := (i 0).isLt
                  show win0_17.index t 0 * 8 ≤ (i 0 : ℕ) ∧ (i 0 : ℕ) < win0_17.index t 0 * 8 + 8
                  rw [e.1]; omega
      | ⟨1, _⟩ => have hi : (i 1 : ℕ) < 128 := (i 1).isLt
                  show win0_17.index t 1 * 128 ≤ (i 1 : ℕ) ∧ (i 1 : ℕ) < win0_17.index t 1 * 128 + 128
                  rw [e.2]; omega

theorem arr18 : (dats m 0 c).arrAt 18 cfg0.N = G18 D :=
  (dats m 0 c).arrAt_eq_of_cover 18 (G18 D)
    (fun t hf => by
      rw [Value.flushed18]
      refine funext fun (y : S8x512.Idx) => ?_
      refine (congrArg (outsAt0 m c t.val t.isLt).2.2.2.2.2.2.1 (eta2 y)).trans (((last H t ((flush0_18 t).mp hf)).2.2.2.2.2.1 (y 0) (y 1)).trans ?_)
      have emb : ((cfg0.win 18).blk t).view.emb y = ix2 (y 0) (y 1) := by
        refine funext fun a => Fin.ext ?_
        match a with
        | ⟨0, _⟩ => show win0_18.index t 0 * 8 + 1 * (y 0).val = (y 0).val; rw [(idx18 t).1]; omega
        | ⟨1, _⟩ => show win0_18.index t 1 * 512 + 1 * (y 1).val = (y 1).val; rw [(idx18 t).2]; omega
      exact Eq.trans (b := G18 D (ix2 (y 0) (y 1))) rfl ((congrArg (G18 D) emb).symm.trans rfl))
    fun i => by
      obtain ⟨t, ht⟩ := end_pt
      refine ⟨t, (flush0_18 t).mpr ht, ?_⟩
      show i ∈ ((View.whole main_v127_6).slice (win0_18.rect t)).set
      rw [View.set_slice_whole, Rect.mem_set_unit]
      have e := idx18 t
      intro a
      match a with
      | ⟨0, _⟩ => have hi : (i 0 : ℕ) < 8 := (i 0).isLt
                  show win0_18.index t 0 * 8 ≤ (i 0 : ℕ) ∧ (i 0 : ℕ) < win0_18.index t 0 * 8 + 8
                  rw [e.1]; omega
      | ⟨1, _⟩ => have hi : (i 1 : ℕ) < 512 := (i 1).isLt
                  show win0_18.index t 1 * 512 ≤ (i 1 : ℕ) ∧ (i 1 : ℕ) < win0_18.index t 1 * 512 + 512
                  rw [e.2]; omega

theorem arr19 : (dats m 0 c).arrAt 19 cfg0.N = G19 D :=
  (dats m 0 c).arrAt_eq_of_cover 19 (G19 D)
    (fun t hf => by
      rw [Value.flushed19]
      refine funext fun (y : S8x1024.Idx) => ?_
      refine (congrArg (outsAt0 m c t.val t.isLt).2.2.2.2.2.2.2.1 (eta2 y)).trans (((last H t ((flush0_19 t).mp hf)).2.2.2.2.2.2 (y 0) (y 1)).trans ?_)
      have emb : ((cfg0.win 19).blk t).view.emb y = ix2 (y 0) (y 1) := by
        refine funext fun a => Fin.ext ?_
        match a with
        | ⟨0, _⟩ => show win0_19.index t 0 * 8 + 1 * (y 0).val = (y 0).val; rw [(idx19 t).1]; omega
        | ⟨1, _⟩ => show win0_19.index t 1 * 1024 + 1 * (y 1).val = (y 1).val; rw [(idx19 t).2]; omega
      exact Eq.trans (b := G19 D (ix2 (y 0) (y 1))) rfl ((congrArg (G19 D) emb).symm.trans rfl))
    fun i => by
      obtain ⟨t, ht⟩ := end_pt
      refine ⟨t, (flush0_19 t).mpr ht, ?_⟩
      show i ∈ ((View.whole main_v127_7).slice (win0_19.rect t)).set
      rw [View.set_slice_whole, Rect.mem_set_unit]
      have e := idx19 t
      intro a
      match a with
      | ⟨0, _⟩ => have hi : (i 0 : ℕ) < 8 := (i 0).isLt
                  show win0_19.index t 0 * 8 ≤ (i 0 : ℕ) ∧ (i 0 : ℕ) < win0_19.index t 0 * 8 + 8
                  rw [e.1]; omega
      | ⟨1, _⟩ => have hi : (i 1 : ℕ) < 1024 := (i 1).isLt
                  show win0_19.index t 1 * 1024 ≤ (i 1 : ℕ) ∧ (i 1 : ℕ) < win0_19.index t 1 * 1024 + 1024
                  rw [e.2]; omega

end Cert.Kernel2Ideal.Mix

end
-- ==== Proof.MixRefA.lean ====
/-
  The reference of the mixing sub-layer's backward pass, over the reals: its forward stages at an index when the
  arguments hold real numbers.
-/
module

public import proofs.«01_k».proof.Proof.MixFinal
public import proofs.«01_k».proof.Proof.MixSum
public import proofs.«01_k».proof.Proof.Gen.Reference2Ideal.Read

@[expose] public section

noncomputable section

namespace Cert.Reference2Ideal.Mix

open Cert.Reference2Ideal Cert.Reference2Ideal.Read Idealize.ShloMosaic Idealize.ShloMosaic.TcCoe Cert.RealKit Cert.HeadMath Cert.MixMath
open Cert.Kernel2Ideal.Mix (div1024 div512 rs_msq c_512 c_cg tanh_coe wd_ck)

variable {D : In} {x0 x1 : Vec Ideal S8192x1024 .f32} {x2 x3 x4 x5 : Vec Ideal S1x1024 .f32} {x6 : Vec Ideal S1024x1536 .f32}
  {x7 : Vec Ideal S4x128x128 .f32} {x8 x9 x10 : Vec Ideal S1x512 .f32} {x11 : Vec Ideal S8x128x128 .f32} {x12 : Vec Ideal S8x128 .f32}
  {x13 : Vec Ideal S1024x1024 .f32}

/-- The arguments hold the numbers of `D`. -/
structure RArgs (D : In) (x0 x1 : Vec Ideal S8192x1024 .f32) (x2 x3 x4 x5 : Vec Ideal S1x1024 .f32) (x6 : Vec Ideal S1024x1536 .f32)
    (x7 : Vec Ideal S4x128x128 .f32) (x8 x9 x10 : Vec Ideal S1x512 .f32) (x11 : Vec Ideal S8x128x128 .f32) (x12 : Vec Ideal S8x128 .f32)
    (x13 : Vec Ideal S1024x1024 .f32) : Prop where
  x : ∀ r d, x0 (ix2 r d) = (D.x r d : EReal)
  g : ∀ r d, x1 (ix2 r d) = (D.g r d : EReal)
  sh : ∀ d, x2 (ix2 (0 : Fin 1) d) = (D.sh d : EReal)
  sc : ∀ d, x3 (ix2 (0 : Fin 1) d) = (D.sc d : EReal)
  ga : ∀ d, x4 (ix2 (0 : Fin 1) d) = (D.ga d : EReal)
  gn : ∀ d, x5 (ix2 (0 : Fin 1) d) = (D.gn d : EReal)
  win : ∀ d j, x6 (ix2 d j) = (D.win d j : EReal)
  wp : ∀ g a b, x7 (ix3 g a b) = (D.wp g a b : EReal)
  ps : ∀ e, x8 (ix2 (0 : Fin 1) e) = (D.ps e : EReal)
  lg : ∀ e, x9 (ix2 (0 : Fin 1) e) = (D.lg e : EReal)
  lb : ∀ e, x10 (ix2 (0 : Fin 1) e) = (D.lb e : EReal)
  ws : ∀ hh t q, x11 (ix3 hh t q) = (D.ws hh t q : EReal)
  bs : ∀ hh t, x12 (ix2 hh t) = (D.bs hh t : EReal)
  wout : ∀ j d, x13 (ix2 j d) = (D.wout j d : EReal)

theorem c_cubic : Ideal.div (Ideal.ofBits .f32 0x460BBC00#32) (Ideal.ofBits .f32 0x48435000#32) = ((ca : ℝ) : EReal) := by
  have h1 : Ideal.ofBits .f32 0x460BBC00#32 = ((8943 : ℝ) : EReal) := by simp [Ideal.ofBits, Ideal.ieee, -EReal.coe_mul]; norm_num
  have h2 : Ideal.ofBits .f32 0x48435000#32 = ((200000 : ℝ) : EReal) := by simp [Ideal.ofBits, Ideal.ieee, -EReal.coe_mul]; norm_num
  rw [h1, h2, div_real (by norm_num)]
  rfl
theorem c_three : Ideal.ofBits .f32 0x40400000#32 = ((3 : ℝ) : EReal) := by simp [Ideal.ofBits, Ideal.ieee, -EReal.coe_mul]; norm_num

variable (H : RArgs D x0 x1 x2 x3 x4 x5 x6 x7 x8 x9 x10 x11 x12 x13)
include H

theorem h20 (s : Fin 8192) (d : Fin 1024) : val_main_v20 x0 x2 x3 x5 (ix2 s d) = (D.h s d : EReal) := by
  pointwise [val_main_v20, val_main_v18, val_main_v19, val_main_v14, val_main_v17, val_main_v12, val_main_v13, val_main_v16, val_main_v11, val_main_v15, val_main_v7, val_main_cst_3, val_main_v6, val_main_v4, val_main_v5, val_main_v2, val_main_v3, val_main_cst_1, val_main_v1, val_main_cst_0, val_main_v0, val_main_cst]
  simp only [H.x, H.sh, H.sc, H.gn, c_1024, c_eps, c_zero, ← EReal.coe_one, ← EReal.coe_mul, coe_sum, div1024, ← EReal.coe_add, rs_msq]
  rfl
theorem rn7 (s : Fin 8192) : val_main_v7 x0 (ix2 s (0 : Fin 1)) = (rn (D.x s) : EReal) := by
  pointwise [val_main_v7, val_main_v6, val_main_v4, val_main_v5, val_main_v2, val_main_v3, val_main_cst_1, val_main_v1, val_main_cst_0, val_main_v0, val_main_cst]
  simp only [H.x, c_1024, c_eps, c_zero, ← EReal.coe_mul, coe_sum, div1024, ← EReal.coe_add, rs_msq]
theorem rm8 (s : Fin 8192) : val_main_v8 x0 (ix2 s (0 : Fin 1)) = (rn (D.x s) / msq (D.x s) : ℝ) := by
  pointwise [val_main_v8, val_main_v6, val_main_v4, val_main_v5, val_main_v2, val_main_v3, val_main_cst_1, val_main_v1, val_main_cst_0, val_main_v0, val_main_cst]
  simp only [rn7 H, H.x, c_1024, c_eps, c_zero, ← EReal.coe_mul, coe_sum, div1024, ← EReal.coe_add]
  exact div_real (msq_pos (D.x s)).ne'
theorem xn12 (s : Fin 8192) (d : Fin 1024) : val_main_v12 x0 (ix2 s d) = (D.xn s d : EReal) := by
  pointwise [val_main_v12, val_main_v11]
  simp only [rn7 H, H.x, ← EReal.coe_mul]
  rfl
theorem xg14 (s : Fin 8192) (d : Fin 1024) : val_main_v14 x0 x5 (ix2 s d) = (D.xn s d * D.gn d : ℝ) := by
  pointwise [val_main_v14, val_main_v13]
  simp only [xn12 H, H.gn, ← EReal.coe_mul]
theorem sc16 (d : Fin 1024) : val_main_v16 x3 (ix2 (0 : Fin 1) d) = (1 + D.sc d : ℝ) := by
  pointwise [val_main_v16, val_main_v15, val_main_cst_3]
  simp only [H.sc, ← EReal.coe_one, ← EReal.coe_add]

theorem proj21 (s : Fin 8192) (j : Fin 1536) : val_main_v21 x0 x2 x3 x5 x6 (ix2 s j) = (D.proj s j : EReal) := by
  pointwise [val_main_v21]
  simp only [h20 H, H.win, ← EReal.coe_mul, coe_sum]
  rfl
theorem pa23 (s : Fin 8192) (g : Fin 4) (l : Fin 128) : val_main_v23 x0 x2 x3 x5 x6 (ix3 s g l) = (D.proj s (pa (ck g l)) : EReal) := by
  rw [val_main_v23_apply, val_main_v22_apply, ← proj21 H]
  refine congrArg _ (funext fun a => Fin.ext ?_)
  match a with
  | ⟨0, _⟩ => show ((s.val * 4 + g.val) * 128 + l.val) / 512 = s.val; omega
  | ⟨1, _⟩ => show ((s.val * 4 + g.val) * 128 + l.val) % 512 = 128 * g.val + l.val; omega
theorem cum24 (s : Fin 8192) (g : Fin 4) (l : Fin 128) : val_main_v24 x0 x2 x3 x5 x6 (ix3 s g l) = (D.cum s (ck g l) : EReal) :=
  cumsum_at _ _ (fun z => c_zero) _ s g l (fun i => D.proj i (pa (ck g l))) (fun i => pa23 H i g l) _

theorem pool43 (s : Fin 8192) (l : Fin 128) : val_main_v43 x0 x2 x3 x5 x6 (ix2 s l) = (D.pool s (ck 0 l) : EReal) := by
  pointwise [val_main_v43, val_main_v40, val_main_v42, val_main_v38, val_main_v39, val_main_v41, val_main_v27, val_main_v30, val_main_v37, val_main_v26, val_main_v28, val_main_v29, val_main_v36, val_main_cst_4, val_main_v35, val_main_v33, val_main_v34, val_main_v25, val_main_v32, val_main_c_6, val_main_c]
  refine pool_at D s (ck 0 l) 2 (wd_ck 0 l) (by norm_num) (by norm_num) _ _ _ (cum24 H _ _ _) (pa23 H _ _ _) (fun h => ?_) fun h => ?_
  · rw [dif_pos (by omega)]
  · rw [dif_neg (by omega)]; exact cum24 H _ _ _
theorem pool61 (s : Fin 8192) (l : Fin 128) : val_main_v61 x0 x2 x3 x5 x6 (ix2 s l) = (D.pool s (ck 1 l) : EReal) := by
  pointwise [val_main_v61, val_main_v58, val_main_v60, val_main_v56, val_main_v57, val_main_v59, val_main_v45, val_main_v48, val_main_v55, val_main_v44, val_main_v46, val_main_v47, val_main_v54, val_main_cst_7, val_main_v53, val_main_v51, val_main_v52, val_main_v25, val_main_v50, val_main_c_10, val_main_c_9]
  refine pool_at D s (ck 1 l) 4 (wd_ck 1 l) (by norm_num) (by norm_num) _ _ _ (cum24 H _ _ _) (pa23 H _ _ _) (fun h => ?_) fun h => ?_
  · rw [dif_pos (by omega)]
  · rw [dif_neg (by omega)]; exact cum24 H _ _ _
theorem pool79 (s : Fin 8192) (l : Fin 128) : val_main_v79 x0 x2 x3 x5 x6 (ix2 s l) = (D.pool s (ck 2 l) : EReal) := by
  pointwise [val_main_v79, val_main_v76, val_main_v78, val_main_v74, val_main_v75, val_main_v77, val_main_v63, val_main_v66, val_main_v73, val_main_v62, val_main_v64, val_main_v65, val_main_v72, val_main_cst_11, val_main_v71, val_main_v69, val_main_v70, val_main_v25, val_main_v68, val_main_c_14, val_main_c_13]
  refine pool_at D s (ck 2 l) 8 (wd_ck 2 l) (by norm_num) (by norm_num) _ _ _ (cum24 H _ _ _) (pa23 H _ _ _) (fun h => ?_) fun h => ?_
  · rw [dif_pos (by omega)]
  · rw [dif_neg (by omega)]; exact cum24 H _ _ _
theorem pool97 (s : Fin 8192) (l : Fin 128) : val_main_v97 x0 x2 x3 x5 x6 (ix2 s l) = (D.pool s (ck 3 l) : EReal) := by
  pointwise [val_main_v97, val_main_v94, val_main_v96, val_main_v92, val_main_v93, val_main_v95, val_main_v81, val_main_v84, val_main_v91, val_main_v80, val_main_v82, val_main_v83, val_main_v90, val_main_cst_15, val_main_v89, val_main_v87, val_main_v88, val_main_v25, val_main_v86, val_main_c_18, val_main_c_17]
  refine pool_at D s (ck 3 l) 16 (wd_ck 3 l) (by norm_num) (by norm_num) _ _ _ (cum24 H _ _ _) (pa23 H _ _ _) (fun h => ?_) fun h => ?_
  · rw [dif_pos (by omega)]
  · rw [dif_neg (by omega)]; exact cum24 H _ _ _
theorem pool102 (s : Fin 8192) (g : Fin 4) (l : Fin 128) : val_main_v102 x0 x2 x3 x5 x6 (ix3 s g l) = (D.pool s (ck g l) : EReal) := by
  fin_cases g
  · pointwise [val_main_v102, val_main_v98, val_main_v99, val_main_v100, val_main_v101]; exact pool43 H s l
  · pointwise [val_main_v102, val_main_v98, val_main_v99, val_main_v100, val_main_v101]; exact pool61 H s l
  · pointwise [val_main_v102, val_main_v98, val_main_v99, val_main_v100, val_main_v101]; exact pool79 H s l
  · pointwise [val_main_v102, val_main_v98, val_main_v99, val_main_v100, val_main_v101]; exact pool97 H s l
theorem mixed104 (s : Fin 8192) (g : Fin 4) (l : Fin 128) : val_main_v104 x0 x2 x3 x5 x6 x7 (ix3 s g l) = (D.mixed s (ck g l) : EReal) := by
  pointwise [val_main_v104, val_main_v103]
  simp only [H.wp, pool102 H, ← EReal.coe_mul, coe_sum]
  refine congrArg _ ?_
  unfold In.mixed
  rw [grp_ck, lane_ck]
  exact Finset.sum_congr rfl fun c _ => mul_comm _ _
theorem mixed105 (s : Fin 8192) (e : Fin 512) : val_main_v105 x0 x2 x3 x5 x6 x7 (ix2 s e) = (D.mixed s e : EReal) := by
  rw [val_main_v105_apply]
  refine (congrArg _ (?_ : _ = ix3 s (grp e) (lane e))).trans ((mixed104 H s (grp e) (lane e)).trans (by rw [← ck_split]))
  refine funext fun a => Fin.ext ?_
  match a with
  | ⟨0, _⟩ => show (s.val * 512 + e.val) / 512 = s.val; omega
  | ⟨1, _⟩ => show (s.val * 512 + e.val) / 128 % 4 = e.val / 128; omega
  | ⟨2, _⟩ => show (s.val * 512 + e.val) % 128 = e.val % 128; omega

theorem zb108 (s : Fin 8192) (e : Fin 1024) : val_main_v108 x0 x2 x3 x5 x6 (ix2 s e) = (D.zb s e : EReal) := by
  pointwise [val_main_v108]
  exact proj21 H s (pz e)
/-- Gelu's tangent. -/
theorem gt120 (s : Fin 8192) (e : Fin 1024) : val_main_v120 x0 x2 x3 x5 x6 (ix2 s e) = (gt (D.zb s e) : EReal) := by
  pointwise [val_main_v120, val_main_v119, val_main_v118, val_main_v117, val_main_cst_22, val_main_v116, val_main_v115, val_main_v111, val_main_v109, val_main_v110, val_main_cst_19, val_main_cst_20]
  simp only [zb108 H, c_cubic, c_cg, ← EReal.coe_mul, ← EReal.coe_add]
  rw [tanh_coe]
  refine congrArg _ ?_
  unfold gt
  congr 1
  ring
theorem gz130 (s : Fin 8192) (e : Fin 1024) : val_main_v130 x0 x2 x3 x5 x6 (ix2 s e) = (gz (D.zb s e) : EReal) := by
  pointwise [val_main_v130, val_main_v129, val_main_v128, val_main_v127, val_main_cst_26, val_main_v126, val_main_cst_25]
  simp only [zb108 H, gt120 H, c_half, ← EReal.coe_one, ← EReal.coe_mul, ← EReal.coe_add]
  refine congrArg _ ?_
  unfold gz
  ring
theorem u131 (s : Fin 8192) (e : Fin 512) : val_main_v131 x0 x2 x3 x5 x6 (ix2 s e) = (D.u s e : EReal) := by
  pointwise [val_main_v131]
  exact gz130 H s (lo e)
theorem v132 (s : Fin 8192) (e : Fin 512) : val_main_v132 x0 x2 x3 x5 x6 (ix2 s e) = (D.v s e : EReal) := by
  pointwise [val_main_v132]
  exact gz130 H s (hi e)
theorem mu136 (s : Fin 8192) : val_main_v136 x0 x2 x3 x5 x6 (ix2 s (0 : Fin 1)) = (D.mu s : EReal) := by
  pointwise [val_main_v136, val_main_v134, val_main_v135, val_main_v133, val_main_cst_28, val_main_cst_27]
  simp only [v132 H, c_512, c_zero, ← EReal.coe_add, coe_sum, div512]
  refine congrArg _ ?_
  unfold In.mu
  simp
theorem vc138 (s : Fin 8192) (e : Fin 512) : val_main_v138 x0 x2 x3 x5 x6 (ix2 s e) = (D.vc s e : EReal) := by
  pointwise [val_main_v138, val_main_v137]
  simp only [v132 H, mu136 H, ← EReal.coe_sub]
  rfl
theorem vc147 (s : Fin 8192) (e : Fin 512) : val_main_v147 x0 x2 x3 x5 x6 (ix2 s e) = (D.vc s e : EReal) := by
  pointwise [val_main_v147, val_main_v146]
  simp only [v132 H, mu136 H, ← EReal.coe_sub]
  rfl
theorem var149 (s : Fin 8192) : val_main_v149 x0 x2 x3 x5 x6 (ix2 s (0 : Fin 1)) = (D.var s : EReal) := by
  pointwise [val_main_v149, val_main_v145, val_main_v148, val_main_v143, val_main_v144, val_main_cst_32, val_main_v142, val_main_cst_31, val_main_v139, val_main_cst_30]
  simp only [vc138 H, c_512, c_eps, c_zero, ← EReal.coe_mul, ← EReal.coe_add, coe_sum, div512]
  refine congrArg _ ?_
  unfold In.var
  simp
theorem rs150 (s : Fin 8192) : val_main_v150 x0 x2 x3 x5 x6 (ix2 s (0 : Fin 1)) = (D.rs s : EReal) := by
  pointwise [val_main_v150]
  rw [var149 H]
  exact rsqrt_pos (D.var_pos s)
theorem rv151 (s : Fin 8192) : val_main_v151 x0 x2 x3 x5 x6 (ix2 s (0 : Fin 1)) = (D.rs s / D.var s : ℝ) := by
  pointwise [val_main_v151]
  rw [var149 H, rs150 H]
  exact div_real (D.var_pos s).ne'
theorem vh155 (s : Fin 8192) (e : Fin 512) : val_main_v155 x0 x2 x3 x5 x6 (ix2 s e) = (D.vh s e : EReal) := by
  pointwise [val_main_v155, val_main_v154]
  simp only [vc147 H, rs150 H, ← EReal.coe_mul]
  rfl
theorem vl159 (s : Fin 8192) (e : Fin 512) : val_main_v159 x0 x2 x3 x5 x6 x9 x10 (ix2 s e) = (D.vl s e : EReal) := by
  pointwise [val_main_v159, val_main_v157, val_main_v158, val_main_v156]
  simp only [vh155 H, H.lg, H.lb, ← EReal.coe_mul, ← EReal.coe_add]
  rfl

end Cert.Reference2Ideal.Mix

end
-- ==== Proof.MixRefB.lean ====
/-
  The reference of the mixing sub-layer's backward pass: the gating half and its gradients, and the last product's.
-/
module

public import proofs.«01_k».proof.Proof.MixRefA

@[expose] public section

noncomputable section

namespace Cert.Reference2Ideal.Mix

open Cert.Reference2Ideal Cert.Reference2Ideal.Read Idealize.ShloMosaic Idealize.ShloMosaic.TcCoe Cert.RealKit Cert.HeadMath Cert.MixMath
open Cert.Kernel2Ideal.Mix (div1024 div512 rs_msq c_512 c_cg tanh_coe wd_ck tri_word tri_sel)

variable {D : In} {x0 x1 : Vec Ideal S8192x1024 .f32} {x2 x3 x4 x5 : Vec Ideal S1x1024 .f32} {x6 : Vec Ideal S1024x1536 .f32}
  {x7 : Vec Ideal S4x128x128 .f32} {x8 x9 x10 : Vec Ideal S1x512 .f32} {x11 : Vec Ideal S8x128x128 .f32} {x12 : Vec Ideal S8x128 .f32}
  {x13 : Vec Ideal S1024x1024 .f32} (H : RArgs D x0 x1 x2 x3 x4 x5 x6 x7 x8 x9 x10 x11 x12 x13)

theorem hcol_split (e : Fin 512) : e = hcol (hd e) ⟨e.val % 64, by omega⟩ := Fin.ext (by simp only [hcol, hd]; omega)
theorem hd_hcol (hh : Fin 8) (e : Fin 64) : hd (hcol hh e) = hh := Fin.ext (by simp only [hcol, hd]; omega)
/-- A row and a column from a chunk, a row of it, a head and a column of that. -/
theorem split4 (n : Fin 64) (t : Fin 128) (hh : Fin 8) (e : Fin 64) (z : S8192x512.Idx)
    (h0 : (z 0).val = (((n.val * 128 + t.val) * 8 + hh.val) * 64 + e.val) / 512)
    (h1 : (z 1).val = (((n.val * 128 + t.val) * 8 + hh.val) * 64 + e.val) % 512) : z = ix2 (crow n t) (hcol hh e) := by
  refine funext fun a => Fin.ext ?_
  match a with
  | ⟨0, _⟩ => exact h0.trans (by show _ = 128 * n.val + t.val; omega)
  | ⟨1, _⟩ => exact h1.trans (by show _ = 64 * hh.val + e.val; omega)

/-- A sum over the first and the last of four axes. -/
theorem sum03 {a b c d : ℕ} (h : (⟨4, ![a, b, c, d]⟩ : Shape).ReducesTo [0, 3] ⟨2, ![b, c]⟩) (v : (⟨4, ![a, b, c, d]⟩ : Shape).Idx → EReal) (init : EReal)
    (j : Fin b) (k : Fin c) : Ideal.hostReduceAdd h v init (ix2 j k) = init + ∑ n : Fin a, ∑ e : Fin d, v (ix4 n j k e) := by
  have hd : ∀ i, h.drop i = ix2 (i 1) (i 2) := fun i => funext fun x => Fin.ext (by
    match x with
    | ⟨0, _⟩ => rfl
    | ⟨1, _⟩ => rfl)
  unfold Ideal.hostReduceAdd
  rw [← Finset.sum_product']
  refine congrArg (init + ·) (Finset.sum_nbij' (fun i => (i 0, i 3)) (fun p => ix4 p.1 j k p.2) (fun _ _ => Finset.mem_univ _) (fun p _ => ?_) (fun i hi => ?_)
    (fun _ _ => rfl) fun i hi => ?_)
  · exact Finset.mem_filter.2 ⟨Finset.mem_univ _, hd _⟩
  all_goals
    have e := ((hd i).symm.trans (Finset.mem_filter.1 hi).2)
    have e1 : i 1 = j := congrFun e 0
    have e2 : i 2 = k := congrFun e 1
    subst e1 e2
  · exact (eq_ix4 i).symm
  · exact congrArg v (eq_ix4 i)

/-- The reference's derivative of the layer norm, against the closed form. -/
theorem dv_eq (s : Fin 8192) (e : Fin 512) : D.dvh s e * D.rs s + (∑ k, D.vc s k * D.dvh s k) * (-(1 / 2) * (D.rs s / D.var s)) / 512 * (2 * D.vc s e)
    + (∑ k, -(D.dvh s k * D.rs s) + ∑ k, -((∑ k, D.vc s k * D.dvh s k) * (-(1 / 2) * (D.rs s / D.var s)) / 512 * (2 * D.vc s k))) / 512 = D.dv s e := by
  have h : D.rs s / D.var s = D.rs s * (D.rs s * D.rs s) := by
    unfold In.rs
    rw [← mul_inv, Real.mul_self_sqrt (D.var_pos s).le, div_eq_mul_inv]
  have h0 : ∑ k, D.vc s k = 0 := by
    unfold In.vc In.mu
    rw [Finset.sum_sub_distrib]
    simp
    ring
  have h1 : ∑ k, D.dvh s k * D.vh s k = (∑ k, D.vc s k * D.dvh s k) * D.rs s := by
    unfold In.vh
    rw [Finset.sum_mul]
    exact Finset.sum_congr rfl fun k _ => by ring
  rw [h]
  unfold In.dv
  rw [h1, Finset.sum_neg_distrib, Finset.sum_neg_distrib, ← Finset.sum_mul, ← Finset.mul_sum, ← Finset.mul_sum, h0]
  unfold In.vh
  ring

include H

theorem vl160 (n : Fin 64) (t : Fin 128) (hh : Fin 8) (e : Fin 64) : val_main_v160 x0 x2 x3 x5 x6 x9 x10 (ix4 n t hh e) = (D.vl (crow n t) (hcol hh e) : EReal) := by
  rw [val_main_v160_apply, split4 n t hh e (idx_main_v160 (ix4 n t hh e)) rfl rfl]
  exact vl159 H _ _
theorem wm164 (hh : Fin 8) (t q : Fin 128) : val_main_v164_0 x11 (ix3 hh t q) = (D.wm hh t q : EReal) := by
  pointwise [val_main_v164_0, val_main_v164_1, val_main_call2_v1, val_main_v163, val_main_cst_35, val_main_v162, val_main_call1_v4, val_main_v161, val_main_call1_v5, val_main_call1_v2, val_main_call1_v3, val_main_c_34, val_main_call1_c_0, val_main_call1_v0, val_main_call1_v1, val_main_call1_c]
  rw [tri_word]
  refine (tri_sel t q _ _ rfl).trans ((if_congr Iff.rfl (H.ws hh t q) EReal.coe_zero.symm).trans ?_)
  unfold In.wm; split_ifs <;> rfl
theorem sv170 (n : Fin 64) (t : Fin 128) (hh : Fin 8) (e : Fin 64) : val_main_v170 x0 x2 x3 x5 x6 x9 x10 x11 x12 (ix4 n t hh e) = (D.sv (crow n t) (hcol hh e) : EReal) := by
  pointwise [val_main_v170, val_main_v166, val_main_v169, val_main_v165, val_main_v168, val_main_v167]
  simp only [H.bs, vl160 H, wm164 H, ← EReal.coe_mul, coe_sum, ← EReal.coe_add]
  refine congrArg _ ?_
  unfold In.sv
  rw [hd_hcol, pos_crow, chk_crow]
  refine congrArg (· + _) (Finset.sum_congr rfl fun c _ => mul_comm _ _)
omit H in
/-- The other way: a row's chunk and place, a column's head and place. -/
theorem split2 (s : Fin 8192) (e : Fin 512) (z : S64x128x8x64.Idx) (h0 : (z 0).val = (s.val * 512 + e.val) / 65536)
    (h1 : (z 1).val = (s.val * 512 + e.val) / 512 % 128) (h2 : (z 2).val = (s.val * 512 + e.val) / 64 % 8) (h3 : (z 3).val = (s.val * 512 + e.val) % 64) :
    z = ix4 (chk s) (pos s) (hd e) ⟨e.val % 64, by omega⟩ := by
  refine funext fun a => Fin.ext ?_
  match a with
  | ⟨0, _⟩ => exact h0.trans (by show _ = s.val / 128; omega)
  | ⟨1, _⟩ => exact h1.trans (by show _ = s.val % 128; omega)
  | ⟨2, _⟩ => exact h2.trans (by show _ = e.val / 64; omega)
  | ⟨3, _⟩ => exact h3.trans (by show _ = e.val % 64; omega)
theorem sv171 (s : Fin 8192) (e : Fin 512) : val_main_v171 x0 x2 x3 x5 x6 x9 x10 x11 x12 (ix2 s e) = (D.sv s e : EReal) := by
  rw [val_main_v171_apply, split2 s e (idx_main_v171 (ix2 s e)) rfl rfl rfl rfl]
  exact (sv170 H _ _ _ _).trans (by rw [← crow_split, ← hcol_split])
theorem cat173 (s : Fin 8192) (j : Fin 1024) : val_main_v173 x0 x2 x3 x5 x6 x7 x8 x9 x10 x11 x12 (ix2 s j) = (D.cat s j : EReal) := by
  rcases exists_half j with ⟨e, rfl⟩ | ⟨e, rfl⟩
  · rw [In.cat_lo]
    pointwise [val_main_v173, val_main_v107, val_main_v106]
    refine (dif_pos (show (lo e).val < 512 from e.isLt)).trans ?_
    rw [EReal.coe_mul, ← mixed105 H, ← H.ps]
    rfl
  · rw [In.cat_hi]
    pointwise [val_main_v173, val_main_v107, val_main_v172, val_main_v106]
    refine (dif_neg (show ¬(hi e).val < 512 by simp [hi])).trans ?_
    have he : (⟨(hi e).val - 512, by simp only [hi]; omega⟩ : Fin 512) = e := Fin.ext (by simp [hi])
    rw [he, u131 H, sv171 H, EReal.coe_mul]

theorem gg180 (s : Fin 8192) (d : Fin 1024) : val_main_v180 x1 x4 (ix2 s d) = (D.gg s d : EReal) := by
  pointwise [val_main_v180, val_main_v179, val_main_v178]
  simp only [H.g, H.ga, ← EReal.coe_mul]
  exact congrArg _ (mul_comm _ _)
theorem dga183 (d : Fin 1024) : val_main_v183 x0 x1 x2 x3 x5 x6 x7 x8 x9 x10 x11 x12 x13 (ix2 (0 : Fin 1) d) = (∑ j, D.wout j d * ∑ s, D.cat s j * D.g s d : ℝ) := by
  pointwise [val_main_v183, val_main_v182, val_main_v181, val_main_cst_36, val_main_v178, val_main_v174]
  simp only [H.g, H.wout, cat173 H, c_zero, ← EReal.coe_mul, coe_sum, ← EReal.coe_add]
  refine congrArg _ ?_
  simp only [Finset.mul_sum]
  rw [Finset.sum_comm]
  exact Finset.sum_congr rfl fun s _ => Finset.sum_congr rfl fun j _ => by ring
theorem dwout185 (j d : Fin 1024) : val_main_v185 x0 x1 x2 x3 x4 x5 x6 x7 x8 x9 x10 x11 x12 (ix2 j d) = (D.rWout j d : EReal) := by
  pointwise [val_main_v185, val_main_v184]
  simp only [gg180 H, cat173 H, ← EReal.coe_mul, coe_sum]
  refine congrArg _ ?_
  unfold In.rWout In.gg
  rw [Finset.sum_mul]
  exact Finset.sum_congr rfl fun s _ => by ring
theorem dcat186 (s : Fin 8192) (j : Fin 1024) : val_main_v186 x1 x4 x13 (ix2 s j) = (D.dcat s j : EReal) := by
  pointwise [val_main_v186]
  simp only [gg180 H, H.wout, ← EReal.coe_mul, coe_sum]
  rfl
theorem dlo187 (s : Fin 8192) (e : Fin 512) : val_main_v187 x1 x4 x13 (ix2 s e) = (D.dcat s (lo e) : EReal) := by
  pointwise [val_main_v187]
  exact dcat186 H s (lo e)
theorem dyb188 (s : Fin 8192) (e : Fin 512) : val_main_v188 x1 x4 x13 (ix2 s e) = (D.dyb s e : EReal) := by
  pointwise [val_main_v188]
  exact dcat186 H s (hi e)
theorem dsv189 (s : Fin 8192) (e : Fin 512) : val_main_v189 x0 x1 x2 x3 x4 x5 x6 x13 (ix2 s e) = (D.dsv s e : EReal) := by
  pointwise [val_main_v189]
  simp only [u131 H, dyb188 H, ← EReal.coe_mul]
  exact congrArg _ (mul_comm _ _)
theorem du190 (s : Fin 8192) (e : Fin 512) : val_main_v190 x0 x1 x2 x3 x4 x5 x6 x9 x10 x11 x12 x13 (ix2 s e) = (D.du s e : EReal) := by
  pointwise [val_main_v190]
  simp only [sv171 H, dyb188 H, ← EReal.coe_mul]
  rfl
theorem dsv191 (n : Fin 64) (t : Fin 128) (hh : Fin 8) (e : Fin 64) : val_main_v191 x0 x1 x2 x3 x4 x5 x6 x13 (ix4 n t hh e) = (D.dsv (crow n t) (hcol hh e) : EReal) := by
  rw [val_main_v191_apply, split4 n t hh e (idx_main_v191 (ix4 n t hh e)) rfl rfl]
  exact dsv189 H _ _
theorem bs192 (t : Fin 128) (hh : Fin 8) : val_main_v192 x0 x1 x2 x3 x4 x5 x6 x13 (ix2 t hh) = (D.rBs hh t : EReal) := by
  unfold val_main_v192
  refine (sum03 Gen.reducesTo_S64x128x8x64_S128x8_d0_3 (val_main_v191 x0 x1 x2 x3 x4 x5 x6 x13) _ t hh).trans ?_
  rw [show val_main_cst_37 (F := Ideal) _ = ((0 : ℝ) : EReal) from c_zero, EReal.coe_zero, zero_add]
  simp only [dsv191 H, coe_sum]
  refine congrArg _ ?_
  unfold In.rBs
  exact Finset.sum_comm
theorem bs193 (t : Fin 128) (hh : Fin 8) : val_main_v193 x0 x1 x2 x3 x4 x5 x6 x13 (ix4 (0 : Fin 1) t hh (0 : Fin 1)) = (D.rBs hh t : EReal) := by
  pointwise [val_main_v193]
  exact bs192 H t hh
theorem dbs195 (hh : Fin 8) (t : Fin 128) : val_main_v195 x0 x1 x2 x3 x4 x5 x6 x13 (ix2 hh t) = (D.rBs hh t : EReal) := by
  pointwise [val_main_v195, val_main_v194, val_main_cst_38]
  rw [sum03, zero_add, Fin.sum_univ_one, Fin.sum_univ_one]
  exact bs193 H t hh
theorem dws197 (hh : Fin 8) (t q : Fin 128) : val_main_v197 x0 x1 x2 x3 x4 x5 x6 x9 x10 x13 (ix3 hh t q) = (∑ n, ∑ e : Fin 64, D.dsv (crow n t) (hcol hh e) * D.vl (crow n q) (hcol hh e) : ℝ) := by
  pointwise [val_main_v197, val_main_v196]
  simp only [dsv191 H, vl160 H, ← EReal.coe_mul, coe_sum]
theorem dws200 (hh : Fin 8) (t q : Fin 128) : val_main_v200 x0 x1 x2 x3 x4 x5 x6 x9 x10 x13 (ix3 hh t q) = (D.rWs hh t q : EReal) := by
  pointwise [val_main_v200, val_main_v164_1, val_main_call3_v0, val_main_v163, val_main_call3_cst, val_main_v162, val_main_call1_v4, val_main_v161, val_main_call1_v5, val_main_call1_v2, val_main_call1_v3, val_main_c_34, val_main_call1_c_0, val_main_call1_v0, val_main_call1_v1, val_main_call1_c]
  rw [tri_word]
  refine (tri_sel t q _ _ rfl).trans ((if_congr Iff.rfl (dws197 H hh t q) EReal.coe_zero.symm).trans ?_)
  unfold In.rWs; split_ifs <;> rfl
theorem dvl199 (n : Fin 64) (t : Fin 128) (hh : Fin 8) (e : Fin 64) : val_main_v199 x0 x1 x2 x3 x4 x5 x6 x11 x13 (ix4 n t hh e) = (D.dvl (crow n t) (hcol hh e) : EReal) := by
  pointwise [val_main_v199, val_main_v198, val_main_v196]
  simp only [dsv191 H, wm164 H, ← EReal.coe_mul, coe_sum]
  refine congrArg _ ?_
  unfold In.dvl
  rw [hd_hcol, pos_crow, chk_crow]
  exact Finset.sum_congr rfl fun c _ => mul_comm _ _
theorem dvl201 (s : Fin 8192) (e : Fin 512) : val_main_v201 x0 x1 x2 x3 x4 x5 x6 x11 x13 (ix2 s e) = (D.dvl s e : EReal) := by
  rw [val_main_v201_apply, split2 s e (idx_main_v201 (ix2 s e)) rfl rfl rfl rfl]
  exact (dvl199 H _ _ _ _).trans (by rw [← crow_split, ← hcol_split])
theorem dlb203 (e : Fin 512) : val_main_v203 x0 x1 x2 x3 x4 x5 x6 x11 x13 (ix2 (0 : Fin 1) e) = (∑ s, D.dvl s e : ℝ) := by
  pointwise [val_main_v203, val_main_v202, val_main_cst_39]
  simp only [dvl201 H, c_zero, coe_sum, ← EReal.coe_add, zero_add]
theorem dlg206 (e : Fin 512) : val_main_v206 x0 x1 x2 x3 x4 x5 x6 x11 x13 (ix2 (0 : Fin 1) e) = (∑ s, D.dvl s e * D.vh s e : ℝ) := by
  pointwise [val_main_v206, val_main_v205, val_main_v204, val_main_cst_40]
  simp only [dvl201 H, vh155 H, c_zero, ← EReal.coe_mul, coe_sum, ← EReal.coe_add, zero_add]
  exact congrArg _ (Finset.sum_congr rfl fun c _ => mul_comm _ _)
theorem dvh208 (s : Fin 8192) (e : Fin 512) : val_main_v208 x0 x1 x2 x3 x4 x5 x6 x9 x11 x13 (ix2 s e) = (D.dvh s e : EReal) := by
  pointwise [val_main_v208, val_main_v207]
  simp only [dvl201 H, H.lg, ← EReal.coe_mul]
  rfl
theorem dv232 (s : Fin 8192) (e : Fin 512) : val_main_v232 x0 x1 x2 x3 x4 x5 x6 x9 x11 x13 (ix2 s e) = (D.dv s e : EReal) := by
  pointwise [val_main_v232, val_main_v226, val_main_v231, val_main_v213, val_main_v222, val_main_v230, val_main_v212, val_main_v221, val_main_v141, val_main_v229, val_main_cst_47, val_main_v220, val_main_v140, val_main_v227, val_main_v228, val_main_v219, val_main_cst_44, val_main_cst_29, val_main_v217, val_main_v225, val_main_cst_46, val_main_v214, val_main_v218, val_main_v216, val_main_v224, val_main_v211, val_main_v153, val_main_cst_43, val_main_v215, val_main_cst_42, val_main_v223, val_main_cst_45, val_main_v210, val_main_v152, val_main_v209, val_main_cst_41, val_main_cst_33]
  simp only [Fin.sum_univ_one, dvh208 H, vc147 H, vc138 H, rs150 H, rv151 H, c_512, c_two, c_neg_half, Fin.isValue, ← EReal.coe_mul, ← EReal.coe_neg, coe_sum, div512, ← EReal.coe_add]
  exact congrArg _ (dv_eq s e)

end Cert.Reference2Ideal.Mix

end
-- ==== Proof.MixRefC.lean ====
/-
  The reference of the mixing sub-layer's backward pass: the pooling half's gradients and the projection's.
-/
module

public import proofs.«01_k».proof.Proof.MixRefB

@[expose] public section

noncomputable section

namespace Cert.Reference2Ideal.Mix

open Cert.Reference2Ideal Cert.Reference2Ideal.Read Idealize.ShloMosaic Idealize.ShloMosaic.TcCoe Cert.RealKit Cert.HeadMath Cert.MixMath
open Cert.Kernel2Ideal.Mix (div1024 div512 rs_msq c_512 c_cg tanh_coe wd_ck)

variable {D : In} {x0 x1 : Vec Ideal S8192x1024 .f32} {x2 x3 x4 x5 : Vec Ideal S1x1024 .f32} {x6 : Vec Ideal S1024x1536 .f32}
  {x7 : Vec Ideal S4x128x128 .f32} {x8 x9 x10 : Vec Ideal S1x512 .f32} {x11 : Vec Ideal S8x128x128 .f32} {x12 : Vec Ideal S8x128 .f32}
  {x13 : Vec Ideal S1024x1024 .f32} (H : RArgs D x0 x1 x2 x3 x4 x5 x6 x7 x8 x9 x10 x11 x12 x13)
/-- A row's share of its window. -/
theorem share_at (s : Fin 8192) (e : Fin 512) (w : ℕ) (hw : In.wd e = w) (h1 : 1 ≤ w) (h2 : w ≤ 16) (n : ℕ) (hn : n = s.val) (y : EReal)
    (hy : y = (D.dp s e : EReal)) :
    Ideal.div y (FloatOps.sitofp FTy.f32 (IntOp.minsi (IntOp.addi (BitVec.ofNat 32 n) 1#32) (BitVec.ofNat 32 w)) : Ideal .f32) = (D.q s e : EReal) := by
  subst hn hy
  have hc : ((min (s.val + 1) w : ℕ) : ℝ) ≠ 0 := by
    have : 0 < min (s.val + 1) w := by omega
    exact_mod_cast this.ne'
  have ea : IntOp.addi (BitVec.ofNat 32 s.val) 1#32 = BitVec.ofNat 32 (s.val + 1) := (BitVec.ofNat_add ..).symm
  rw [ea, minsi_small (by omega) (by omega), sitofp_small (by omega), div_real hc]
  subst hw
  rfl
/-- A share less the share a window below. -/
theorem dif_at (s : Fin 8192) (e : Fin 512) (w : ℕ) (hw : In.wd e = w) (h1 : 1 ≤ w) (h2 : w ≤ 16) (Y : Fin 8192 → EReal) (hY : ∀ i, Y i = (D.dp i e : EReal)) :
    (Ideal.div (Y s) (FloatOps.sitofp FTy.f32 (IntOp.minsi (IntOp.addi (BitVec.ofNat 32 s.val) 1#32) (BitVec.ofNat 32 w)) : Ideal .f32)
      + if h : s.val < 8192 - w then -Ideal.div (Y ⟨w + s.val, by omega⟩)
          (FloatOps.sitofp FTy.f32 (IntOp.minsi (IntOp.addi (BitVec.ofNat 32 (w + s.val)) 1#32) (BitVec.ofNat 32 w)) : Ideal .f32) else 0)
      = ((D.q s e - D.qx (s.val + w) e : ℝ) : EReal) := by
  rw [share_at s e w hw h1 h2 _ rfl _ (hY s)]
  unfold In.qx
  by_cases h : s.val < 8192 - w
  · rw [dif_pos h, dif_pos (by omega), share_at ⟨w + s.val, by omega⟩ e w hw h1 h2 _ rfl _ (hY _), ← EReal.coe_neg, ← EReal.coe_add]
    refine congrArg _ ?_
    rw [show (⟨w + s.val, by omega⟩ : Fin 8192) = ⟨s.val + w, by omega⟩ from Fin.ext (Nat.add_comm _ _)]
    ring
  · rw [dif_neg h, dif_neg (by omega), add_zero, sub_zero]
/-- The differences from a row on sum to the shares of one window. -/
theorem back_sum (s : Fin 8192) (e : Fin 512) (w : ℕ) : (∑ i : Fin 8192, if s.val ≤ i.val then D.q i e - D.qx (i.val + w) e else 0) = ∑ k ∈ Finset.range w, D.qx (s.val + k) e := by
  have hq : ∀ i : Fin 8192, D.q i e = D.qx i.val e := fun i => by unfold In.qx; rw [dif_pos i.isLt]
  have ht : ∀ n : ℕ, D.qx n e - D.qx (n + w) e = (∑ k ∈ Finset.range w, D.qx (n + k) e) - ∑ k ∈ Finset.range w, D.qx (n + 1 + k) e := fun n => by
    have a := Finset.sum_range_succ (fun k => D.qx (n + k) e) w
    have b := Finset.sum_range_succ' (fun k => D.qx (n + k) e) w
    rw [b] at a
    have c : ∑ k ∈ Finset.range w, D.qx (n + (k + 1)) e = ∑ k ∈ Finset.range w, D.qx (n + 1 + k) e :=
      Finset.sum_congr rfl fun k _ => congrArg (D.qx · e) (by omega)
    rw [c, show n + 0 = n from rfl] at a
    linarith
  simp only [hq]
  rw [Fin.sum_univ_eq_sum_range (fun i => if s.val ≤ i then D.qx i e - D.qx (i + w) e else 0) 8192, ← Finset.sum_filter,
    show (Finset.range 8192).filter (fun i => s.val ≤ i) = Finset.Ico s.val 8192 by ext i; rw [Finset.mem_filter, Finset.mem_range, Finset.mem_Ico]; omega, Finset.sum_Ico_eq_sum_range]
  refine (Finset.sum_congr rfl fun i _ => ht (s.val + i)).trans ?_
  refine (Finset.sum_range_sub' (fun i => ∑ k ∈ Finset.range w, D.qx (s.val + i + k) e) (8192 - s.val)).trans ?_
  rw [show (∑ k ∈ Finset.range w, D.qx (s.val + (8192 - s.val) + k) e) = 0 from Finset.sum_eq_zero fun k _ => by
    unfold In.qx; rw [dif_neg (by omega)], sub_zero]
  rfl

include H

theorem dps249 (e : Fin 512) : val_main_v249 x0 x1 x2 x3 x4 x5 x6 x7 x13 (ix2 (0 : Fin 1) e) = (∑ s, D.dcat s (lo e) * D.mixed s e : ℝ) := by
  pointwise [val_main_v249, val_main_v248, val_main_v247, val_main_cst_51]
  simp only [mixed105 H, dlo187 H, c_zero, ← EReal.coe_mul, coe_sum, ← EReal.coe_add, zero_add]
  exact congrArg _ (Finset.sum_congr rfl fun c _ => mul_comm _ _)
theorem dm251 (s : Fin 8192) (e : Fin 512) : val_main_v251 x1 x4 x8 x13 (ix2 s e) = (D.dm s e : EReal) := by
  pointwise [val_main_v251, val_main_v250]
  simp only [dlo187 H, H.ps, ← EReal.coe_mul]
  rfl
theorem dm252 (s : Fin 8192) (g : Fin 4) (l : Fin 128) : val_main_v252 x1 x4 x8 x13 (ix3 s g l) = (D.dm s (ck g l) : EReal) := by
  rw [val_main_v252_apply, ← dm251 H]
  refine congrArg _ (funext fun a => Fin.ext ?_)
  match a with
  | ⟨0, _⟩ => show ((s.val * 4 + g.val) * 128 + l.val) / 512 = s.val; omega
  | ⟨1, _⟩ => show ((s.val * 4 + g.val) * 128 + l.val) % 512 = 128 * g.val + l.val; omega
theorem dp255 (s : Fin 8192) (g : Fin 4) (l : Fin 128) : val_main_v255 x1 x4 x7 x8 x13 (ix3 s g l) = (D.dp s (ck g l) : EReal) := by
  pointwise [val_main_v255, val_main_v254, val_main_v253]
  simp only [dm252 H, H.wp, ← EReal.coe_mul, coe_sum]
  refine congrArg _ ?_
  unfold In.dp
  rw [grp_ck, lane_ck]
theorem dwp257 (g : Fin 4) (a b : Fin 128) : val_main_v257 x0 x1 x2 x3 x4 x5 x6 x8 x13 (ix3 g a b) = (D.rWp g a b : EReal) := by
  pointwise [val_main_v257, val_main_v256, val_main_v253]
  simp only [dm252 H, pool102 H, ← EReal.coe_mul, coe_sum]
  exact congrArg _ (Finset.sum_congr rfl fun c _ => mul_comm _ _)
/-- Each pooling group's own share, taken away. -/
theorem neg309 (s : Fin 8192) (g : Fin 4) (l : Fin 128) : val_main_v309 x1 x4 x7 x8 x13 (ix3 s g l) = (-D.dp s (ck g l) : ℝ) := by
  fin_cases g
  · pointwise [val_main_v309, val_main_v295, val_main_v308, val_main_v281, val_main_v294, val_main_v307, val_main_cst_61, val_main_v268, val_main_v280, val_main_v293, val_main_cst_58, val_main_v306, val_main_v267, val_main_cst_52, val_main_v279, val_main_cst_55, val_main_v292, val_main_v259, val_main_v266, val_main_v278, val_main_v261, val_main_v258, val_main_v265, val_main_v263, val_main_v260, val_main_v264, val_main_v262]
    rw [dp255 H, ← EReal.coe_neg]
  · pointwise [val_main_v309, val_main_v295, val_main_v308, val_main_v281, val_main_v294, val_main_v307, val_main_cst_61, val_main_v268, val_main_v280, val_main_v293, val_main_cst_58, val_main_v306, val_main_v267, val_main_cst_52, val_main_v279, val_main_cst_55, val_main_v292, val_main_v259, val_main_v266, val_main_v278, val_main_v261, val_main_v258, val_main_v265, val_main_v263, val_main_v260, val_main_v264, val_main_v262]
    rw [dp255 H, ← EReal.coe_neg]
  · pointwise [val_main_v309, val_main_v295, val_main_v308, val_main_v281, val_main_v294, val_main_v307, val_main_cst_61, val_main_v268, val_main_v280, val_main_v293, val_main_cst_58, val_main_v306, val_main_v267, val_main_cst_52, val_main_v279, val_main_cst_55, val_main_v292, val_main_v259, val_main_v266, val_main_v278, val_main_v261, val_main_v258, val_main_v265, val_main_v263, val_main_v260, val_main_v264, val_main_v262]
    rw [dp255 H, ← EReal.coe_neg]
  · pointwise [val_main_v309, val_main_v295, val_main_v308, val_main_v281, val_main_v294, val_main_v307, val_main_cst_61, val_main_v268, val_main_v280, val_main_v293, val_main_cst_58, val_main_v306, val_main_v267, val_main_cst_52, val_main_v279, val_main_cst_55, val_main_v292, val_main_v259, val_main_v266, val_main_v278, val_main_v261, val_main_v258, val_main_v265, val_main_v263, val_main_v260, val_main_v264, val_main_v262]
    rw [dp255 H, ← EReal.coe_neg]
/-- The shares of a row less those of the row a window below. -/
theorem dif319 (s : Fin 8192) (g : Fin 4) (l : Fin 128) : val_main_v319 x1 x4 x7 x8 x13 (ix3 s g l) = (D.q s (ck g l) - D.qx (s.val + 2 ^ (g.val + 1)) (ck g l) : ℝ) := by
  fin_cases g
  · pointwise [val_main_v319, val_main_v305, val_main_v318, val_main_v291, val_main_v304, val_main_v317, val_main_cst_63, val_main_v277, val_main_v290, val_main_v303, val_main_cst_60, val_main_v316, val_main_v276, val_main_cst_54, val_main_v289, val_main_cst_57, val_main_v302, val_main_v311, val_main_v315, val_main_v275, val_main_v288, val_main_v297, val_main_v301, val_main_v259, val_main_v310, val_main_v314, val_main_cst_62, val_main_v270, val_main_v274, val_main_v283, val_main_v287, val_main_v261, val_main_v296, val_main_v300, val_main_cst_59, val_main_v258, val_main_v37, val_main_v312, val_main_v265, val_main_v269, val_main_v273, val_main_cst_53, val_main_v263, val_main_v282, val_main_v286, val_main_cst_56, val_main_v260, val_main_v55, val_main_v298, val_main_v36, val_main_v264, val_main_v91, val_main_v271, val_main_v262, val_main_v73, val_main_v284, val_main_v54, val_main_v35, val_main_v90, val_main_v72, val_main_v53, val_main_v33, val_main_v34, val_main_v89, val_main_v71, val_main_v51, val_main_v52, val_main_v25, val_main_v32, val_main_c_6, val_main_v87, val_main_v88, val_main_v69, val_main_v70, val_main_v50, val_main_c_10, val_main_c, val_main_v86, val_main_c_18, val_main_v68, val_main_c_14, val_main_c_9, val_main_c_17, val_main_c_13]
    exact dif_at s (ck 0 l) 2 (wd_ck 0 l) (by norm_num) (by norm_num) (fun i => val_main_v255 x1 x4 x7 x8 x13 (ix3 i (0 : Fin 4) l)) fun i => dp255 H i 0 l
  · pointwise [val_main_v319, val_main_v305, val_main_v318, val_main_v291, val_main_v304, val_main_v317, val_main_cst_63, val_main_v277, val_main_v290, val_main_v303, val_main_cst_60, val_main_v316, val_main_v276, val_main_cst_54, val_main_v289, val_main_cst_57, val_main_v302, val_main_v311, val_main_v315, val_main_v275, val_main_v288, val_main_v297, val_main_v301, val_main_v259, val_main_v310, val_main_v314, val_main_cst_62, val_main_v270, val_main_v274, val_main_v283, val_main_v287, val_main_v261, val_main_v296, val_main_v300, val_main_cst_59, val_main_v258, val_main_v37, val_main_v312, val_main_v265, val_main_v269, val_main_v273, val_main_cst_53, val_main_v263, val_main_v282, val_main_v286, val_main_cst_56, val_main_v260, val_main_v55, val_main_v298, val_main_v36, val_main_v264, val_main_v91, val_main_v271, val_main_v262, val_main_v73, val_main_v284, val_main_v54, val_main_v35, val_main_v90, val_main_v72, val_main_v53, val_main_v33, val_main_v34, val_main_v89, val_main_v71, val_main_v51, val_main_v52, val_main_v25, val_main_v32, val_main_c_6, val_main_v87, val_main_v88, val_main_v69, val_main_v70, val_main_v50, val_main_c_10, val_main_c, val_main_v86, val_main_c_18, val_main_v68, val_main_c_14, val_main_c_9, val_main_c_17, val_main_c_13]
    exact dif_at s (ck 1 l) 4 (wd_ck 1 l) (by norm_num) (by norm_num) (fun i => val_main_v255 x1 x4 x7 x8 x13 (ix3 i (1 : Fin 4) l)) fun i => dp255 H i 1 l
  · pointwise [val_main_v319, val_main_v305, val_main_v318, val_main_v291, val_main_v304, val_main_v317, val_main_cst_63, val_main_v277, val_main_v290, val_main_v303, val_main_cst_60, val_main_v316, val_main_v276, val_main_cst_54, val_main_v289, val_main_cst_57, val_main_v302, val_main_v311, val_main_v315, val_main_v275, val_main_v288, val_main_v297, val_main_v301, val_main_v259, val_main_v310, val_main_v314, val_main_cst_62, val_main_v270, val_main_v274, val_main_v283, val_main_v287, val_main_v261, val_main_v296, val_main_v300, val_main_cst_59, val_main_v258, val_main_v37, val_main_v312, val_main_v265, val_main_v269, val_main_v273, val_main_cst_53, val_main_v263, val_main_v282, val_main_v286, val_main_cst_56, val_main_v260, val_main_v55, val_main_v298, val_main_v36, val_main_v264, val_main_v91, val_main_v271, val_main_v262, val_main_v73, val_main_v284, val_main_v54, val_main_v35, val_main_v90, val_main_v72, val_main_v53, val_main_v33, val_main_v34, val_main_v89, val_main_v71, val_main_v51, val_main_v52, val_main_v25, val_main_v32, val_main_c_6, val_main_v87, val_main_v88, val_main_v69, val_main_v70, val_main_v50, val_main_c_10, val_main_c, val_main_v86, val_main_c_18, val_main_v68, val_main_c_14, val_main_c_9, val_main_c_17, val_main_c_13]
    exact dif_at s (ck 2 l) 8 (wd_ck 2 l) (by norm_num) (by norm_num) (fun i => val_main_v255 x1 x4 x7 x8 x13 (ix3 i (2 : Fin 4) l)) fun i => dp255 H i 2 l
  · pointwise [val_main_v319, val_main_v305, val_main_v318, val_main_v291, val_main_v304, val_main_v317, val_main_cst_63, val_main_v277, val_main_v290, val_main_v303, val_main_cst_60, val_main_v316, val_main_v276, val_main_cst_54, val_main_v289, val_main_cst_57, val_main_v302, val_main_v311, val_main_v315, val_main_v275, val_main_v288, val_main_v297, val_main_v301, val_main_v259, val_main_v310, val_main_v314, val_main_cst_62, val_main_v270, val_main_v274, val_main_v283, val_main_v287, val_main_v261, val_main_v296, val_main_v300, val_main_cst_59, val_main_v258, val_main_v37, val_main_v312, val_main_v265, val_main_v269, val_main_v273, val_main_cst_53, val_main_v263, val_main_v282, val_main_v286, val_main_cst_56, val_main_v260, val_main_v55, val_main_v298, val_main_v36, val_main_v264, val_main_v91, val_main_v271, val_main_v262, val_main_v73, val_main_v284, val_main_v54, val_main_v35, val_main_v90, val_main_v72, val_main_v53, val_main_v33, val_main_v34, val_main_v89, val_main_v71, val_main_v51, val_main_v52, val_main_v25, val_main_v32, val_main_c_6, val_main_v87, val_main_v88, val_main_v69, val_main_v70, val_main_v50, val_main_c_10, val_main_c, val_main_v86, val_main_c_18, val_main_v68, val_main_c_14, val_main_c_9, val_main_c_17, val_main_c_13]
    exact dif_at s (ck 3 l) 16 (wd_ck 3 l) (by norm_num) (by norm_num) (fun i => val_main_v255 x1 x4 x7 x8 x13 (ix3 i (3 : Fin 4) l)) fun i => dp255 H i 3 l
theorem back320 (s : Fin 8192) (g : Fin 4) (l : Fin 128) : val_main_v320 x1 x4 x7 x8 x13 (ix3 s g l) = (∑ k ∈ Finset.range (2 ^ (g.val + 1)), D.qx (s.val + k) (ck g l) : ℝ) :=
  (cumsum_back_at _ _ (fun z => c_zero) _ s g l (fun i => D.q i (ck g l) - D.qx (i.val + 2 ^ (g.val + 1)) (ck g l)) (fun i => dif319 H i g l) _).trans
    (congrArg _ (back_sum s (ck g l) _))
theorem dxa321 (s : Fin 8192) (g : Fin 4) (l : Fin 128) : val_main_v321 x1 x4 x7 x8 x13 (ix3 s g l) = (D.dxa s (ck g l) : EReal) := by
  pointwise [val_main_v321]
  simp only [neg309 H, back320 H, ← EReal.coe_add]
  refine congrArg _ ?_
  unfold In.dxa
  rw [wd_ck]
  ring
theorem dxa322 (s : Fin 8192) (e : Fin 512) : val_main_v322 x1 x4 x7 x8 x13 (ix2 s e) = (D.dxa s e : EReal) := by
  rw [val_main_v322_apply]
  refine (congrArg _ (?_ : _ = ix3 s (grp e) (lane e))).trans ((dxa321 H s (grp e) (lane e)).trans (by rw [← ck_split]))
  refine funext fun a => Fin.ext ?_
  match a with
  | ⟨0, _⟩ => show (s.val * 512 + e.val) / 512 = s.val; omega
  | ⟨1, _⟩ => show (s.val * 512 + e.val) / 128 % 4 = e.val / 128; omega
  | ⟨2, _⟩ => show (s.val * 512 + e.val) % 128 = e.val % 128; omega
theorem du233 (s : Fin 8192) (e : Fin 512) : val_main_v233 x0 x1 x2 x3 x4 x5 x6 x9 x10 x11 x12 x13 (ix2 s (lo e)) = (D.du s e : EReal) := by
  pointwise [val_main_v233]
  exact (dif_pos (show (lo e).val < 512 from e.isLt)).trans (du190 H s e)
theorem dv233 (s : Fin 8192) (e : Fin 512) : val_main_v233 x0 x1 x2 x3 x4 x5 x6 x9 x10 x11 x12 x13 (ix2 s (hi e)) = (D.dv s e : EReal) := by
  pointwise [val_main_v233]
  refine (dif_neg (show ¬(hi e).val < 512 by simp [hi])).trans ?_
  have he : (⟨(hi e).val - 512, by simp only [hi]; omega⟩ : Fin 512) = e := Fin.ext (by simp [hi])
  rw [he, dv232 H]
/-- The gradient at the gelu's argument. -/
theorem dz245 (s : Fin 8192) (j : Fin 1024) (r : ℝ) (h : val_main_v233 x0 x1 x2 x3 x4 x5 x6 x9 x10 x11 x12 x13 (ix2 s j) = (r : EReal)) : val_main_v245 x0 x1 x2 x3 x4 x5 x6 x9 x10 x11 x12 x13 (ix2 s j) = (r * gd (D.zb s j) : ℝ) := by
  pointwise [val_main_v245, val_main_v241, val_main_v244, val_main_v235, val_main_v240, val_main_v243, val_main_v114, val_main_v129, val_main_v239, val_main_v238, val_main_v242, val_main_v113, val_main_v112, val_main_v128, val_main_v127, val_main_cst_49, val_main_v237, val_main_v125, val_main_v109, val_main_cst_21, val_main_cst_26, val_main_v126, val_main_v236, val_main_v234, val_main_v122, val_main_v124, val_main_cst_19, val_main_cst_20, val_main_cst_25, val_main_cst_48, val_main_v121, val_main_v123, val_main_cst_23, val_main_cst_24]
  simp only [h, zb108 H, gt120 H, c_half, c_cg, c_cubic, c_three, ← EReal.coe_one, ← EReal.coe_mul, ← EReal.coe_add, ← EReal.coe_sub]
  refine congrArg _ ?_
  unfold gd ca
  ring
theorem dproj324 (s : Fin 8192) (j : Fin 1536) : val_main_v324 x0 x1 x2 x3 x4 x5 x6 x7 x8 x9 x10 x11 x12 x13 (ix2 s j) = (D.dproj s j : EReal) := by
  have hz : ∀ k : Fin 1024, val_main_v245 x0 x1 x2 x3 x4 x5 x6 x9 x10 x11 x12 x13 (ix2 s k) = (D.dproj s (pz k) : EReal) := fun k => by
    rcases exists_half k with ⟨e, rfl⟩ | ⟨e, rfl⟩
    · rw [In.dproj_lo]; exact dz245 H s _ _ (du233 H s e)
    · rw [In.dproj_hi]; exact dz245 H s _ _ (dv233 H s e)
  pointwise [val_main_v324, val_main_v246, val_main_v323, val_main_cst_50, val_main_cst_64]
  rcases exists_part j with ⟨e, rfl⟩ | ⟨k, rfl⟩
  · rw [dif_neg (by simp only [pa]; omega), dif_pos (show (pa e).val < 512 from e.isLt), zero_add, In.dproj_pa]
    exact dxa322 H s e
  · have he : (⟨(pz k).val - 512, by simp only [pz]; omega⟩ : Fin 1024) = k := Fin.ext (by simp [pz])
    rw [dif_pos (by simp only [pz]; omega), dif_neg (by simp only [pz]; omega), add_zero, he]
    exact hz k

end Cert.Reference2Ideal.Mix

end
-- ==== Proof.MixRefD.lean ====
/-
  The reference of the mixing sub-layer's backward pass: the input side's gradients, and its eight results as arrays.
-/
module

public import proofs.«01_k».proof.Proof.MixRefC

@[expose] public section

noncomputable section

namespace Cert.Reference2Ideal.Mix

open Cert.Reference2Ideal Cert.Reference2Ideal.Read Idealize.ShloMosaic Idealize.ShloMosaic.TcCoe Cert.RealKit Cert.HeadMath Cert.MixMath
open Cert.Kernel2Ideal.Mix (div1024 div512 rs_msq c_512 c_cg tanh_coe wd_ck eta3 G12 G13 G14 G15 G16 G17 G18 G19)
open Cert.KernelIdeal.Head (eta2)

variable {D : In} {x0 x1 : Vec Ideal S8192x1024 .f32} {x2 x3 x4 x5 : Vec Ideal S1x1024 .f32} {x6 : Vec Ideal S1024x1536 .f32}
  {x7 : Vec Ideal S4x128x128 .f32} {x8 x9 x10 : Vec Ideal S1x512 .f32} {x11 : Vec Ideal S8x128x128 .f32} {x12 : Vec Ideal S8x128 .f32}
  {x13 : Vec Ideal S1024x1024 .f32} (H : RArgs D x0 x1 x2 x3 x4 x5 x6 x7 x8 x9 x10 x11 x12 x13)

/-- The derivative the reference takes of a row's root mean square, against the closed form. -/
theorem dx_eq (s : Fin 8192) (d : Fin 1024) : D.g s d + D.dxn s d * rn (D.x s)
    + D.x s d * ((∑ k, D.x s k * D.dxn s k) * (-(1 / 2) * (rn (D.x s) / msq (D.x s))) / 1024)
    + (∑ k, D.x s k * D.dxn s k) * (-(1 / 2) * (rn (D.x s) / msq (D.x s))) / 1024 * D.x s d = D.dx s d := by
  have h : rn (D.x s) / msq (D.x s) = rn (D.x s) * (rn (D.x s) * rn (D.x s)) := by
    unfold rn
    rw [← mul_inv, Real.mul_self_sqrt (msq_pos _).le, div_eq_mul_inv]
  have h1 : ∑ k, D.dxn s k * D.xn s k = (∑ k, D.x s k * D.dxn s k) * rn (D.x s) := by
    unfold In.xn
    rw [Finset.sum_mul]
    exact Finset.sum_congr rfl fun k _ => by ring
  rw [h]
  unfold In.dx
  rw [h1]
  unfold In.xn
  ring

include H

theorem dwin326 (d : Fin 1024) (j : Fin 1536) : val_main_v326 x0 x1 x2 x3 x4 x5 x6 x7 x8 x9 x10 x11 x12 x13 (ix2 d j) = (D.rWin d j : EReal) := by
  pointwise [val_main_v326, val_main_v325]
  simp only [dproj324 H, h20 H, ← EReal.coe_mul, coe_sum]
  exact congrArg _ (Finset.sum_congr rfl fun c _ => mul_comm _ _)
theorem dh327 (s : Fin 8192) (d : Fin 1024) : val_main_v327 x0 x1 x2 x3 x4 x5 x6 x7 x8 x9 x10 x11 x12 x13 (ix2 s d) = (D.dh s d : EReal) := by
  pointwise [val_main_v327]
  simp only [dproj324 H, H.win, ← EReal.coe_mul, coe_sum]
  rfl
theorem dsh329 (d : Fin 1024) : val_main_v329 x0 x1 x2 x3 x4 x5 x6 x7 x8 x9 x10 x11 x12 x13 (ix2 (0 : Fin 1) d) = (∑ s, D.dh s d : ℝ) := by
  pointwise [val_main_v329, val_main_v328, val_main_cst_65]
  simp only [dh327 H, coe_sum]
theorem dsc332 (d : Fin 1024) : val_main_v332 x0 x1 x2 x3 x4 x5 x6 x7 x8 x9 x10 x11 x12 x13 (ix2 (0 : Fin 1) d) = (∑ s, D.dh s d * (D.xn s d * D.gn d) : ℝ) := by
  pointwise [val_main_v332, val_main_v331, val_main_v330, val_main_cst_66]
  simp only [dh327 H, xg14 H, ← EReal.coe_mul, coe_sum]
  exact congrArg _ (Finset.sum_congr rfl fun c _ => mul_comm _ _)
theorem dg334 (s : Fin 8192) (d : Fin 1024) : val_main_v334 x0 x1 x2 x3 x4 x5 x6 x7 x8 x9 x10 x11 x12 x13 (ix2 s d) = (D.dh s d * (1 + D.sc d) : ℝ) := by
  pointwise [val_main_v334, val_main_v333]
  simp only [dh327 H, sc16 H, ← EReal.coe_mul]
theorem dgn337 (d : Fin 1024) : val_main_v337 x0 x1 x2 x3 x4 x5 x6 x7 x8 x9 x10 x11 x12 x13 (ix2 (0 : Fin 1) d) = (∑ s, D.dh s d * (1 + D.sc d) * D.xn s d : ℝ) := by
  pointwise [val_main_v337, val_main_v336, val_main_v335, val_main_cst_67]
  simp only [dg334 H, xn12 H, ← EReal.coe_mul, coe_sum]
  exact congrArg _ (Finset.sum_congr rfl fun c _ => mul_comm _ _)
theorem dxn339 (s : Fin 8192) (d : Fin 1024) : val_main_v339 x0 x1 x2 x3 x4 x5 x6 x7 x8 x9 x10 x11 x12 x13 (ix2 s d) = (D.dxn s d : EReal) := by
  pointwise [val_main_v339, val_main_v338]
  simp only [dg334 H, H.gn, ← EReal.coe_mul]
  rfl
theorem dx354 (s : Fin 8192) (d : Fin 1024) : val_main_v354 x0 x1 x2 x3 x4 x5 x6 x7 x8 x9 x10 x11 x12 x13 (ix2 s d) = (D.dx s d : EReal) := by
  pointwise [val_main_v354, val_main_v352, val_main_v353, val_main_v345, val_main_v351, val_main_v350, val_main_v344, val_main_v349, val_main_v343, val_main_v348, val_main_cst_70, val_main_v346, val_main_v347, val_main_v342, val_main_v10, val_main_cst_69, val_main_v341, val_main_v9, val_main_v340, val_main_cst_68, val_main_cst_2]
  simp only [Fin.sum_univ_one, dxn339 H, rn7 H, rm8 H, H.x, H.g, c_1024, c_neg_half, Fin.isValue, ← EReal.coe_mul, ← EReal.coe_neg, coe_sum, div1024, ← EReal.coe_add]
  exact congrArg _ (dx_eq s d)
theorem v356 (i : Fin 8) (e : Fin 512) : val_main_v356 x0 x1 x2 x3 x4 x5 x6 x7 x11 x13 (ix2 i e) = (D.rV i e : EReal) := by
  have h0 := dps249 H e
  have h1 := dlg206 H e
  have h2 := dlb203 H e
  fin_cases i
  · pointwise [val_main_v356, val_main_v355, val_main_cst_71]; exact h0
  · pointwise [val_main_v356, val_main_v355, val_main_cst_71]; exact h1
  · pointwise [val_main_v356, val_main_v355, val_main_cst_71]; exact h2
  all_goals
    pointwise [val_main_v356, val_main_v355, val_main_cst_71]
    exact EReal.coe_zero.symm.trans (congrArg _ (by simp [In.rV]))
theorem v358 (i : Fin 8) (d : Fin 1024) : val_main_v358 x0 x1 x2 x3 x4 x5 x6 x7 x8 x9 x10 x11 x12 x13 (ix2 i d) = (D.rD i d : EReal) := by
  have h0 := dsh329 H d
  have h1 := dsc332 H d
  have h2 := dga183 H d
  have h3 := dgn337 H d
  fin_cases i
  · pointwise [val_main_v358, val_main_v357, val_main_cst_72]; exact h0
  · pointwise [val_main_v358, val_main_v357, val_main_cst_72]; exact h1
  · pointwise [val_main_v358, val_main_v357, val_main_cst_72]; exact h2
  · pointwise [val_main_v358, val_main_v357, val_main_cst_72]; exact h3
  all_goals
    pointwise [val_main_v358, val_main_v357, val_main_cst_72]
    exact EReal.coe_zero.symm.trans (congrArg _ (by simp [In.rD]))

/-- The eight results. -/
theorem out12 : val_main_v354 x0 x1 x2 x3 x4 x5 x6 x7 x8 x9 x10 x11 x12 x13 = G12 D := funext fun i => (congrArg _ (eta2 i)).trans (dx354 H (i 0) (i 1))
theorem out13 : val_main_v326 x0 x1 x2 x3 x4 x5 x6 x7 x8 x9 x10 x11 x12 x13 = G13 D := funext fun i => (congrArg _ (eta2 i)).trans (dwin326 H (i 0) (i 1))
theorem out14 : val_main_v185 x0 x1 x2 x3 x4 x5 x6 x7 x8 x9 x10 x11 x12 = G14 D := funext fun i => (congrArg _ (eta2 i)).trans (dwout185 H (i 0) (i 1))
theorem out15 : val_main_v257 x0 x1 x2 x3 x4 x5 x6 x8 x13 = G15 D := funext fun i => (congrArg _ (eta3 i)).trans (dwp257 H (i 0) (i 1) (i 2))
theorem out16 : val_main_v200 x0 x1 x2 x3 x4 x5 x6 x9 x10 x13 = G16 D := funext fun i => (congrArg _ (eta3 i)).trans (dws200 H (i 0) (i 1) (i 2))
theorem out17 : val_main_v195 x0 x1 x2 x3 x4 x5 x6 x13 = G17 D := funext fun i => (congrArg _ (eta2 i)).trans (dbs195 H (i 0) (i 1))
theorem out18 : val_main_v356 x0 x1 x2 x3 x4 x5 x6 x7 x11 x13 = G18 D := funext fun i => (congrArg _ (eta2 i)).trans (v356 H (i 0) (i 1))
theorem out19 : val_main_v358 x0 x1 x2 x3 x4 x5 x6 x7 x8 x9 x10 x11 x12 x13 = G19 D := funext fun i => (congrArg _ (eta2 i)).trans (v358 H (i 0) (i 1))

end Cert.Reference2Ideal.Mix

end
-- ==== Proof.MixPre.lean ====
/-
  The precondition of the mixer's backward call: finite arguments are arrays of real numbers.
-/
module

public import proofs.«01_k».proof.Defs
public import proofs.«01_k».proof.Proof.Gen.Pre_finite_mix
public import proofs.«01_k».proof.Proof.MixHost

@[expose] public section

noncomputable section

namespace Cert.Kernel2Ideal.Mix

open Cert.Kernel2Ideal Cert.Kernel2Ideal.Gen Idealize.ShloMosaic Idealize.ShloMosaic.TcCoe Cert.RealKit

instance : Subsingleton S_.Idx := ⟨fun a b => funext fun k => k.elim0⟩

/-- Arguments that pass the test "every element is finite" hold real numbers. -/
theorem holds [Cert.Pre_finite_mix.Facts] {m : (ℓ : Loc nD τ sig) → Buf (Elt Ideal) ℓ} (h : Cert.Pre_Kernel2Ideal_finite_mix m) (c : Dev nD) :
    ∃ D, Args m c D := by
  have e := congrFun (h c) ix0
  unfold Cert.Pre_finite_mix.fn Cert.Pre_finite_mix.fn_part1 Cert.Pre_finite_mix.fn_part2 Cert.Pre_finite_mix.fn_part3 Cert.Pre_finite_mix.fn_part4 at e
  dsimp only at e
  obtain ⟨e, e13⟩ := (IntOp.andi_eq_one ..).mp e
  obtain ⟨e, e12⟩ := (IntOp.andi_eq_one ..).mp e
  obtain ⟨e, e11⟩ := (IntOp.andi_eq_one ..).mp e
  obtain ⟨e, e10⟩ := (IntOp.andi_eq_one ..).mp e
  obtain ⟨e, e9⟩ := (IntOp.andi_eq_one ..).mp e
  obtain ⟨e, e8⟩ := (IntOp.andi_eq_one ..).mp e
  obtain ⟨e, e7⟩ := (IntOp.andi_eq_one ..).mp e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  obtain ⟨X7, h7⟩ := real_of_all _ _ _ _ _ _ _ e7
  obtain ⟨X8, h8⟩ := real_of_all _ _ _ _ _ _ _ e8
  obtain ⟨X9, h9⟩ := real_of_all _ _ _ _ _ _ _ e9
  obtain ⟨X10, h10⟩ := real_of_all _ _ _ _ _ _ _ e10
  obtain ⟨X11, h11⟩ := real_of_all _ _ _ _ _ _ _ e11
  obtain ⟨X12, h12⟩ := real_of_all _ _ _ _ _ _ _ e12
  obtain ⟨X13, h13⟩ := real_of_all _ _ _ _ _ _ _ e13
  exact ⟨⟨fun r d => X0 (ix2 r d), fun r d => X1 (ix2 r d), fun d => X2 (ix2 0 d), fun d => X3 (ix2 0 d), fun d => X4 (ix2 0 d),
      fun d => X5 (ix2 0 d), fun r d => X6 (ix2 r d), fun g a b => X7 (ix3 g a b), fun d => X8 (ix2 0 d), fun d => X9 (ix2 0 d),
      fun d => X10 (ix2 0 d), fun g a b => X11 (ix3 g a b), fun r d => X12 (ix2 r d), fun r d => X13 (ix2 r d)⟩,
    fun r d => congrFun h0 _, fun r d => congrFun h1 _, fun d => congrFun h2 _, fun d => congrFun h3 _, fun d => congrFun h4 _,
    fun d => congrFun h5 _, fun r d => congrFun h6 _, fun g a b => congrFun h7 _, fun d => congrFun h8 _, fun d => congrFun h9 _,
    fun d => congrFun h10 _, fun g a b => congrFun h11 _, fun r d => congrFun h12 _, fun r d => congrFun h13 _⟩

end Cert.Kernel2Ideal.Mix
-- ==== Proof.FfnBlk.lean ====
/-
  The blocks one point of the feed-forward backward pass reads, and what its body computes of them.
-/
module

public import proofs.«01_k».proof.Proof.Gen.Kernel3Ideal.Skeleton
public import Idealize.ShloMosaic.Lib.VecWindow
public import Idealize.ShloMosaic.Lib.Pointwise

@[expose] public section

noncomputable section

namespace Cert.Kernel3Ideal.Ffn

open Cert.Kernel3Ideal Cert.Kernel3Ideal.Gen Idealize.ShloMosaic Idealize.ShloMosaic.TcCoe

variable {F : FTy → Type} [FloatOps F]

/-- The blocks one point reads: a tile of the rows, the two modulation arrays and the weights of this half. -/
structure Blk (F : FTy → Type) where
  (x xo dh : Vec F S512x1024 .f32)
  (g u : Vec F S512x1408 .bf16)
  (md : Vec F S8x1024 .f32)
  (wo : Vec F S1x1408x1024 .bf16)

namespace Blk

/-- Row `k` of an eight-row block. -/
abbrev row (v : Vec F S8x1024 .f32) (k : ℕ) (h : ∀ a, (![k, 0] : Fin 2 → ℕ) a + S1x1024.size a ≤ S8x1024.size a) : Vec F S1x1024 .f32 :=
  View.ld v (Rect.unit (s := S8x1024) ![k, 0] S1x1024.size h)

variable (b : Blk F) (w : Vec F S1024x2816 .bf16)

def sh := row b.md 0 inb_S8x1024_S1x1024_0_0
def sc := row b.md 1 inb_S8x1024_S1x1024_1_0
def gate := row b.md 2 inb_S8x1024_S1x1024_2_0
def gn := row b.md 3 inb_S8x1024_S1x1024_3_0
/-- The cotangent of the half's output. -/
def dy := k0_pay18 b.gate b.xo
/-- The cotangents of the half's gate and up columns, one beside the other. -/
def dgu := k0_pay24 b.dy b.g b.u b.wo
/-- The cotangent of the modulated rows, both halves. -/
def dhh := k0_pay25 b.dy b.g b.u b.wo w b.dh
def dsh := k0_pay27 b.dy b.g b.u b.wo w b.dh
def dsc := k0_pay28 (k0_pay16 b.gn b.x) b.dy b.g b.u b.wo w b.dh
def dgn := k0_pay29 (k0_pay12 b.sc) (k0_pay15 b.x) b.dy b.g b.u b.wo w b.dh
/-- The tile of the input's cotangent. -/
def dx := k0_pay34 (k0_pay14 b.x) (k0_pay15 b.x) b.xo (k0_pay30 (k0_pay11 b.gn) (k0_pay12 b.sc) b.dy b.g b.u b.wo w b.dh)
/-- The running gradient of the gate and up columns after the point. -/
def accgu (p : Vec F S1024x2816 .f32) := k0_pay1 (k0_pay17 b.gn b.sc b.sh b.x) b.dgu p
/-- The running gradient of the down rows after the point. -/
def accw (p : Vec F S1408x1024 .f32) := k0_pay35 b.xo (k0_pay23 b.g b.u) p

/-- The rows of the vector gradients after the point. -/
def vec (v : Vec F S8x1024 .f32) : Vec F S8x1024 .f32 :=
  VecWindow.put (VecWindow.put (VecWindow.put v ![0, 0] S1x1024.size (k0_pay31 (b.dsh w) (row v 0 inb_S8x1024_S1x1024_0_0)))
    ![1, 0] S1x1024.size (k0_pay32 (b.dsc w) (row v 1 inb_S8x1024_S1x1024_1_0)))
    ![3, 0] S1x1024.size (k0_pay33 (b.dgn w) (row v 3 inb_S8x1024_S1x1024_3_0))

/-- The rows of the vector gradients after the last point: the gate's row filled from the finished weight gradient. -/
def vecLast (v : Vec F S8x1024 .f32) (p : Vec F S1408x1024 .f32) : Vec F S8x1024 .f32 :=
  VecWindow.put (b.vec w v) ![2, 0] S1x1024.size (k0_pay4 (b.accw p) (row v 2 inb_S8x1024_S1x1024_2_0) b.wo)

/-- The down rows' gradient after the last point. -/
def wLast (p : Vec F S1408x1024 .f32) := k0_pay5 (k0_pay13 b.gate) (b.accw p)

end Blk

/-- The two pieces of the gate and up columns' gradient, as the last point stores them. -/
def dwinOf (e : Vec F S2x512x1408 .f32) (g : Vec F S1024x2816 .f32) : Vec F S2x512x1408 .f32 :=
  VecWindow.put (VecWindow.put e ![0, 0, 0] S1x512x1408.size
      (k0_pay6 (View.ld g (Rect.unit (s := S1024x2816) ![0, 0] S512x1408.size inb_S1024x2816_S512x1408_0_0))))
    ![1, 0, 0] S1x512x1408.size (k0_pay7 (View.ld g (Rect.unit (s := S1024x2816) ![0, 1408] S512x1408.size inb_S1024x2816_S512x1408_0_1408)))

/-- The two pieces of the down rows' gradient, as the last point stores them. -/
def dwoutOf (e : Vec F S2x352x1024 .f32) (w : Vec F S1408x1024 .f32) : Vec F S2x352x1024 .f32 :=
  VecWindow.put (VecWindow.put e ![0, 0, 0] S1x352x1024.size
      (k0_pay2 (View.ld w (Rect.unit (s := S1408x1024) ![0, 0] S352x1024.size inb_S1408x1024_S352x1024_0_0))))
    ![1, 0, 0] S1x352x1024.size (k0_pay3 (View.ld w (Rect.unit (s := S1408x1024) ![704, 0] S352x1024.size inb_S1408x1024_S352x1024_704_0)))

end Cert.Kernel3Ideal.Ffn
-- ==== Proof.FfnModel.lean ====
/-
  One half of the feed-forward sub-layer's hidden columns, backward, over the reals: what each stage is at a row and a
  column. `j` says which half.
-/
module

public import proofs.«01_k».proof.Proof.MixModel

@[expose] public section

noncomputable section

namespace Cert.FfnMath

open Cert.RealKit Cert.HeadMath Cert.MixMath

/-- The arguments. -/
structure In where
  (x dxo dh : Fin 8192 → Fin 1024 → ℝ)
  (sh sc ga gn : Fin 1024 → ℝ)
  (win : Fin 1024 → Fin 5632 → ℝ)
  (wout : Fin 2816 → Fin 1024 → ℝ)

/-- The logistic function. -/
def sg (t : ℝ) : ℝ := (1 + Real.exp (-t))⁻¹
/-- Column `k` of half `j` of the hidden columns. -/
def hc (j : Fin 2) (k : Fin 1408) : Fin 2816 := ⟨1408 * j.val + k.val, by omega⟩
/-- Two arrays of a half's columns, one beside the other. -/
def beside (f g : Fin 1408 → ℝ) (k : Fin 2816) : ℝ :=
  if h : k.val < 1408 then f ⟨k.val, h⟩ else g ⟨k.val - 1408, by omega⟩

theorem sum_beside (a b c d : Fin 1408 → ℝ) :
    ∑ k, beside a b k * beside c d k = (∑ k, a k * c k) + ∑ k, b k * d k := by
  rw [Idealize.ShloMosaic.Fin.sum_univ_tiles 2 1408 rfl, Fin.sum_univ_two]
  refine congrArg₂ _ (Finset.sum_congr rfl fun k _ => ?_) (Finset.sum_congr rfl fun k _ => ?_)
  · simp [beside]
  · simp [beside]

namespace In

variable (D : In) (j : Fin 2)

def wg (d : Fin 1024) (k : Fin 1408) : ℝ := D.win d ⟨1408 * j.val + k.val, by omega⟩
def wu (d : Fin 1024) (k : Fin 1408) : ℝ := D.win d ⟨2816 + (1408 * j.val + k.val), by omega⟩
def wd (k : Fin 1408) (d : Fin 1024) : ℝ := D.wout (hc j k) d
def wgu (d : Fin 1024) : Fin 2816 → ℝ := beside (D.wg j d) (D.wu j d)

/-- The normalised row, and the modulated one. -/
def xn (r : Fin 8192) (d : Fin 1024) : ℝ := D.x r d * rn (D.x r)
def h (r : Fin 8192) (d : Fin 1024) : ℝ := D.xn r d * D.gn d * (1 + D.sc d) + D.sh d
def g (r : Fin 8192) (k : Fin 1408) : ℝ := ∑ d, D.h r d * D.wg j d k
def u (r : Fin 8192) (k : Fin 1408) : ℝ := ∑ d, D.h r d * D.wu j d k
def a (r : Fin 8192) (k : Fin 1408) : ℝ := D.g j r k * sg (D.g j r k) * D.u j r k
/-- The cotangent of the half's output, and of its hidden columns. -/
def dy (r : Fin 8192) (d : Fin 1024) : ℝ := D.dxo r d * (1 / 2 * D.ga d)
def da (r : Fin 8192) (k : Fin 1408) : ℝ := ∑ d, D.dy r d * D.wd j k d
def dg (r : Fin 8192) (k : Fin 1408) : ℝ :=
  D.da j r k * D.u j r k * (sg (D.g j r k) * (1 + D.g j r k * (1 - sg (D.g j r k))))
def du (r : Fin 8192) (k : Fin 1408) : ℝ := D.da j r k * (D.g j r k * sg (D.g j r k))
def dgu (r : Fin 8192) : Fin 2816 → ℝ := beside (D.dg j r) (D.du j r)
/-- This half's part of the cotangent of the modulated row, and both halves'. -/
def dhp (r : Fin 8192) (d : Fin 1024) : ℝ := ∑ k, D.dgu j r k * D.wgu j d k
def dht (r : Fin 8192) (d : Fin 1024) : ℝ := D.dh r d + D.dhp j r d
/-- The input's cotangent. -/
def dxn (r : Fin 8192) (d : Fin 1024) : ℝ := D.dht j r d * (D.gn d * (1 + D.sc d))
def dx (r : Fin 8192) (d : Fin 1024) : ℝ :=
  D.dxo r d + rn (D.x r) * (D.dxn j r d - D.xn r d * ((∑ k, D.dxn j r k * D.xn r k) / 1024))
/-- The vectors' cotangents, summed over the rows. -/
def dsh (d : Fin 1024) : ℝ := ∑ r, D.dht j r d
def dsc (d : Fin 1024) : ℝ := ∑ r, D.dht j r d * (D.xn r d * D.gn d)
def dgn (d : Fin 1024) : ℝ := ∑ r, D.dht j r d * (1 + D.sc d) * D.xn r d
/-- The weights' cotangents; the down rows' before the gate. -/
def dwgu (d : Fin 1024) (k : Fin 2816) : ℝ := ∑ r, D.h r d * D.dgu j r k
def dw (k : Fin 1408) (d : Fin 1024) : ℝ := ∑ r, D.a j r k * D.dxo r d
def dga (d : Fin 1024) : ℝ := 1 / 2 * ∑ k, D.wd j k d * D.dw j k d
def dwd (k : Fin 1408) (d : Fin 1024) : ℝ := D.dw j k d * (1 / 2 * D.ga d)

end In

end Cert.FfnMath
-- ==== Proof.FfnTile.lean ====
/-
  The stages of the feed-forward backward pass over the reals: what each array its body computes is at an index, when
  the blocks the point reads are the rows of one tile and the weights of the half.
-/
module

public import proofs.«01_k».proof.Proof.FfnBlk
public import proofs.«01_k».proof.Proof.FfnModel

@[expose] public section

noncomputable section

namespace Cert.Kernel3Ideal.Ffn

open Cert.Kernel3Ideal Cert.Kernel3Ideal.Gen Idealize.ShloMosaic Idealize.ShloMosaic.TcCoe Cert.RealKit Cert.HeadMath Cert.FfnMath
open Cert.MixMath (row)

/-- The blocks of tile `τ`, for half `j`. -/
structure Rd (b : Blk Ideal) (D : In) (j : Fin 2) (τ : Fin 16) : Prop where
  x : ∀ r d, b.x (ix2 r d) = (D.x (row τ r) d : EReal)
  xo : ∀ r d, b.xo (ix2 r d) = (D.dxo (row τ r) d : EReal)
  dh : ∀ r d, b.dh (ix2 r d) = (D.dh (row τ r) d : EReal)
  g : ∀ r k, b.g (ix2 r k) = (D.g j (row τ r) k : EReal)
  u : ∀ r k, b.u (ix2 r k) = (D.u j (row τ r) k : EReal)
  sh : ∀ d, b.md (ix2 0 d) = (D.sh d : EReal)
  sc : ∀ d, b.md (ix2 1 d) = (D.sc d : EReal)
  ga : ∀ d, b.md (ix2 2 d) = (D.ga d : EReal)
  gn : ∀ d, b.md (ix2 3 d) = (D.gn d : EReal)
  wo : ∀ k d, b.wo (ix3 0 k d) = (D.wd j k d : EReal)

theorem div1024 (r : ℝ) : Ideal.div (r : EReal) ((1024 : ℝ) : EReal) = ((r / 1024 : ℝ) : EReal) := div_real (by norm_num)
theorem rs_msq (v : Fin 1024 → ℝ) : Ideal.rsqrt (((∑ d, v d * v d) / 1024 + eps : ℝ) : EReal) = ((rn v : ℝ) : EReal) :=
  rsqrt_pos (msq_pos v)

/-- A row of an eight-row block, read. -/
theorem row_at (v : Vec Ideal S8x1024 .f32) (k : Fin 8) (h : ∀ a, (![k.val, 0] : Fin 2 → ℕ) a + S1x1024.size a ≤ S8x1024.size a) (d : Fin 1024) :
    Blk.row v k.val h (ix2 0 d) = v (ix2 k d) := by
  refine congrArg v (funext fun a => Fin.ext ?_)
  fin_cases a
  · show k.val + 0 * 1 = k.val; omega
  · show 0 + 1 * d.val = d.val; omega

variable {b : Blk Ideal} {D : In} {j : Fin 2} {τ : Fin 16} (H : Rd b D j τ)
include H

theorem sh_at (d : Fin 1024) : b.sh (ix2 0 d) = (D.sh d : EReal) := by exact (row_at b.md _ _ d).trans (H.sh d)
theorem sc_at (d : Fin 1024) : b.sc (ix2 0 d) = (D.sc d : EReal) := by exact (row_at b.md _ _ d).trans (H.sc d)
theorem gate_at (d : Fin 1024) : b.gate (ix2 0 d) = (D.ga d : EReal) := by exact (row_at b.md _ _ d).trans (H.ga d)
theorem gn_at (d : Fin 1024) : b.gn (ix2 0 d) = (D.gn d : EReal) := by exact (row_at b.md _ _ d).trans (H.gn d)

theorem rn_at (r : Fin 512) : k0_pay14 b.x (ix2 r 0) = (rn (D.x (row τ r)) : EReal) := by
  pointwise [k0_pay14]
  simp only [H.x, c_1024, c_eps, ← EReal.coe_mul, coe_sum, div1024, ← EReal.coe_add, rs_msq]
theorem xn_at (r : Fin 512) (d : Fin 1024) : k0_pay15 b.x (ix2 r d) = (D.xn (row τ r) d : EReal) := by
  pointwise [k0_pay15]
  rw [rn_at H, H.x]
  exact (EReal.coe_mul _ _).symm
theorem hp_at (r : Fin 512) (d : Fin 1024) : k0_pay16 b.gn b.x (ix2 r d) = (D.xn (row τ r) d * D.gn d : ℝ) := by
  pointwise [k0_pay16, k0_pay11]
  rw [xn_at H, gn_at H]
  exact (EReal.coe_mul _ _).symm
theorem h_at (r : Fin 512) (d : Fin 1024) : k0_pay17 b.gn b.sc b.sh b.x (ix2 r d) = (D.h (row τ r) d : EReal) := by
  pointwise [k0_pay17, k0_pay12]
  simp only [hp_at H, sc_at H, sh_at H, ← EReal.coe_one, ← EReal.coe_mul, ← EReal.coe_add]
  rfl
theorem dy_at (r : Fin 512) (d : Fin 1024) : b.dy (ix2 r d) = (D.dy (row τ r) d : EReal) := by
  unfold Blk.dy
  pointwise [k0_pay18, k0_pay13]
  simp only [H.xo, gate_at H, c_half, ← EReal.coe_mul]
  rfl
theorem a_at (r : Fin 512) (k : Fin 1408) : k0_pay23 b.g b.u (ix2 r k) = (D.a j (row τ r) k : EReal) := by
  pointwise [k0_pay23, k0_pay22, k0_pay21, k0_pay20, k0_pay19]
  simp only [H.g, H.u, Ideal.logistic_coe, ← EReal.coe_mul]
  rfl
theorem dgu_at (r : Fin 512) (k : Fin 2816) : b.dgu (ix2 r k) = (D.dgu j (row τ r) k : EReal) := by
  unfold Blk.dgu In.dgu beside
  pointwise [k0_pay24, k0_pay22, k0_pay21, k0_pay20, k0_pay19]
  simp only [dy_at H, H.wo, H.g, H.u, Ideal.logistic_coe, ← EReal.coe_one, ← EReal.coe_mul, coe_sum, ← EReal.coe_add, ← EReal.coe_sub]
  split <;> rfl

variable {w : Vec Ideal S1024x2816 .bf16} (hw : ∀ d k, w (ix2 d k) = (D.wgu j d k : EReal))
include hw

theorem dhh_at (r : Fin 512) (d : Fin 1024) : b.dhh w (ix2 r d) = (D.dht j (row τ r) d : EReal) := by
  unfold Blk.dhh
  have e (k : Fin 2816) : k0_pay24 b.dy b.g b.u b.wo (ix2 r k) = (D.dgu j (row τ r) k : EReal) := dgu_at H r k
  pointwise [k0_pay25]
  simp only [e, hw, H.dh, ← EReal.coe_mul, coe_sum, ← EReal.coe_add]
  rfl
theorem dhh_at' (r : Fin 512) (d : Fin 1024) : k0_pay25 b.dy b.g b.u b.wo w b.dh (ix2 r d) = (D.dht j (row τ r) d : EReal) := dhh_at H hw r d
theorem dsh_at (d : Fin 1024) : b.dsh w (ix2 0 d) = (∑ r, D.dht j (row τ r) d : ℝ) := by
  unfold Blk.dsh
  pointwise [k0_pay27]
  simp only [dhh_at' H hw, coe_sum]
theorem dsc_at (d : Fin 1024) : b.dsc w (ix2 0 d) = (∑ r, D.dht j (row τ r) d * (D.xn (row τ r) d * D.gn d) : ℝ) := by
  unfold Blk.dsc
  pointwise [k0_pay28]
  simp only [dhh_at' H hw, hp_at H, ← EReal.coe_mul, coe_sum]
theorem dgn_at (d : Fin 1024) : b.dgn w (ix2 0 d) = (∑ r, D.dht j (row τ r) d * (1 + D.sc d) * D.xn (row τ r) d : ℝ) := by
  unfold Blk.dgn
  pointwise [k0_pay29, k0_pay26, k0_pay12]
  simp only [dhh_at' H hw, xn_at H, sc_at H, ← EReal.coe_one, ← EReal.coe_add, ← EReal.coe_mul, coe_sum]
theorem dx_at (r : Fin 512) (d : Fin 1024) : b.dx w (ix2 r d) = (D.dx j (row τ r) d : EReal) := by
  unfold Blk.dx
  pointwise [k0_pay34, k0_pay30, k0_pay26, k0_pay12, k0_pay11]
  simp only [dhh_at' H hw, xn_at H, sc_at H, gn_at H, rn_at H, H.xo, c_1024, ← EReal.coe_one, ← EReal.coe_add, ← EReal.coe_mul, coe_sum, div1024,
    ← EReal.coe_sub]
  rfl
omit hw

theorem accgu_at (p : Vec Ideal S1024x2816 .f32) (P : ℝ) (d : Fin 1024) (k : Fin 2816) (hp : p (ix2 d k) = (P : EReal)) :
    b.accgu p (ix2 d k) = (P + ∑ r, D.h (row τ r) d * D.dgu j (row τ r) k : ℝ) := by
  unfold Blk.accgu
  pointwise [k0_pay1]
  simp only [h_at H, dgu_at H, hp, ← EReal.coe_mul, coe_sum, ← EReal.coe_add]
theorem accw_at (p : Vec Ideal S1408x1024 .f32) (P : ℝ) (k : Fin 1408) (d : Fin 1024) (hp : p (ix2 k d) = (P : EReal)) :
    b.accw p (ix2 k d) = (P + ∑ r, D.a j (row τ r) k * D.dxo (row τ r) d : ℝ) := by
  unfold Blk.accw
  pointwise [k0_pay35]
  simp only [a_at H, H.xo, hp, ← EReal.coe_mul, coe_sum, ← EReal.coe_add]
theorem wLast_at (p : Vec Ideal S1408x1024 .f32) (P : ℝ) (k : Fin 1408) (d : Fin 1024) (hp : b.accw p (ix2 k d) = (P : EReal)) :
    b.wLast p (ix2 k d) = (P * (1 / 2 * D.ga d) : ℝ) := by
  unfold Blk.wLast
  pointwise [k0_pay5, k0_pay13]
  simp only [hp, gate_at H, c_half, ← EReal.coe_mul]
theorem dga_at (p : Vec Ideal S1408x1024 .f32) (v : Vec Ideal S1x1024 .f32) (P : Fin 1408 → ℝ) (Q : ℝ) (d : Fin 1024)
    (hp : ∀ k, b.accw p (ix2 k d) = (P k : EReal)) (hv : v (ix2 0 d) = (Q : EReal)) :
    k0_pay4 (b.accw p) v b.wo (ix2 0 d) = (Q + 1 / 2 * ∑ k, D.wd j k d * P k : ℝ) := by
  pointwise [k0_pay4]
  simp only [hp, hv, H.wo, c_half, ← EReal.coe_mul, coe_sum, ← EReal.coe_add]

end Cert.Kernel3Ideal.Ffn
-- ==== Proof.FfnOut.lean ====
/-
  The results of the feed-forward backward pass over the reals.
-/
module

public import proofs.«01_k».proof.Proof.FfnTile

@[expose] public section

noncomputable section

namespace Cert.FfnMath

theorem beside_lo (f g : Fin 1408 → ℝ) (k : Fin 1408) (h : k.val < 2816) : beside f g ⟨k.val, h⟩ = f k := dif_pos k.isLt
theorem beside_hi (f g : Fin 1408 → ℝ) (k : Fin 1408) (h : 1408 + k.val < 2816) : beside f g ⟨1408 + k.val, h⟩ = g k :=
  (dif_neg (by simp)).trans (congrArg g (Fin.ext (by simp)))

namespace In
variable (D : In) (j : Fin 2)
/-- The gate (`p = 0`) and up (`p = 1`) columns' gradients: the rows this device keeps. -/
def rGu (p : Fin 2) (d : Fin 512) (k : Fin 1408) : ℝ := D.dwgu j ⟨d.val, by omega⟩ ⟨1408 * p.val + k.val, by omega⟩
/-- The down rows' gradient: the two runs of rows this device keeps. -/
def rWd (p : Fin 2) (k : Fin 352) (d : Fin 1024) : ℝ := D.dwd j ⟨704 * p.val + k.val, by omega⟩ d
/-- The vectors' gradients, one below the other. -/
def rV (i : Fin 8) (d : Fin 1024) : ℝ :=
  if i.val = 0 then D.dsh 1 d else if i.val = 1 then D.dsc 1 d else if i.val = 2 then D.dga 1 d else if i.val = 3 then D.dgn 1 d else 0
/-- The first pass leaves the gate's row only. -/
def rV0 (i : Fin 8) (d : Fin 1024) : ℝ := if i.val = 2 then D.dga 0 d else 0
end In

end Cert.FfnMath

namespace Cert.Kernel3Ideal.Ffn

open Cert.Kernel3Ideal Cert.Kernel3Ideal.Gen Idealize.ShloMosaic Idealize.ShloMosaic.TcCoe Cert.FfnMath

/-- The results, each an array over the reals. -/
def G7 (D : In) : Vec Ideal S8192x1024 .f32 := fun i => (D.dx 1 (i 0) (i 1) : EReal)
def G8 (D : In) : Vec Ideal S2x512x1408 .f32 := fun i => (D.rGu 1 (i 0) (i 1) (i 2) : EReal)
def G9 (D : In) : Vec Ideal S2x352x1024 .f32 := fun i => (D.rWd 1 (i 0) (i 1) (i 2) : EReal)
def G10 (D : In) : Vec Ideal S8x1024 .f32 := fun i => (D.rV (i 0) (i 1) : EReal)

end Cert.Kernel3Ideal.Ffn

end
-- ==== Proof.FfnRef.lean ====
/-
  The reference of the feed-forward backward pass, over the reals: its stages at an index when the arguments hold
  real numbers.
-/
module

public import proofs.«01_k».proof.Proof.FfnOut
public import proofs.«01_k».proof.Proof.MixFinal
public import proofs.«01_k».proof.Proof.Gen.Reference3Ideal.Read

@[expose] public section

noncomputable section

namespace Cert.Reference3Ideal.Ffn

open Cert.Reference3Ideal Cert.Reference3Ideal.Read Idealize.ShloMosaic Idealize.ShloMosaic.TcCoe Cert.RealKit Cert.HeadMath Cert.FfnMath
open Cert.Kernel3Ideal.Ffn (div1024 rs_msq G7 G8 G9 G10)
open Cert.KernelIdeal.Head (eta2)
open Cert.Kernel2Ideal.Mix (eta3)

/-- The arguments hold the numbers of `D`. -/
structure RArgs (D : In) (x0 x1 x2 : Vec Ideal S8192x1024 .f32) (x3 x4 x5 x6 : Vec Ideal S1x1024 .f32) (x7 : Vec Ideal S1024x5632 .f32)
    (x8 : Vec Ideal S2816x1024 .f32) : Prop where
  x : ∀ r d, x0 (ix2 r d) = (D.x r d : EReal)
  dxo : ∀ r d, x1 (ix2 r d) = (D.dxo r d : EReal)
  dh : ∀ r d, x2 (ix2 r d) = (D.dh r d : EReal)
  sh : ∀ d, x3 (ix2 (0 : Fin 1) d) = (D.sh d : EReal)
  sc : ∀ d, x4 (ix2 (0 : Fin 1) d) = (D.sc d : EReal)
  ga : ∀ d, x5 (ix2 (0 : Fin 1) d) = (D.ga d : EReal)
  gn : ∀ d, x6 (ix2 (0 : Fin 1) d) = (D.gn d : EReal)
  win : ∀ d k, x7 (ix2 d k) = (D.win d k : EReal)
  wout : ∀ k d, x8 (ix2 k d) = (D.wout k d : EReal)

variable {D : In} {x0 x1 x2 : Vec Ideal S8192x1024 .f32} {x3 x4 x5 x6 : Vec Ideal S1x1024 .f32} {x7 : Vec Ideal S1024x5632 .f32}
  {x8 : Vec Ideal S2816x1024 .f32}

/-- The derivative the reference takes of a row's root mean square, against the closed form. -/
theorem dx_eq (s : Fin 8192) (d : Fin 1024) : D.dxo s d + D.dxn 1 s d * rn (D.x s)
    + D.x s d * ((∑ k, D.x s k * D.dxn 1 s k) * (-(1 / 2) * (rn (D.x s) / msq (D.x s))) / 1024)
    + (∑ k, D.x s k * D.dxn 1 s k) * (-(1 / 2) * (rn (D.x s) / msq (D.x s))) / 1024 * D.x s d = D.dx 1 s d := by
  have h : rn (D.x s) / msq (D.x s) = rn (D.x s) * (rn (D.x s) * rn (D.x s)) := by
    unfold rn
    rw [← mul_inv, Real.mul_self_sqrt (msq_pos _).le, div_eq_mul_inv]
  have h1 : ∑ k, D.dxn 1 s k * D.xn s k = (∑ k, D.x s k * D.dxn 1 s k) * rn (D.x s) := by
    unfold In.xn
    rw [Finset.sum_mul]
    exact Finset.sum_congr rfl fun k _ => by ring
  rw [h]
  unfold In.dx
  rw [h1]
  unfold In.xn
  ring

variable (H : RArgs D x0 x1 x2 x3 x4 x5 x6 x7 x8)
include H

theorem wg0 (d : Fin 1024) (k : Fin 1408) : val_main_v0 x7 (ix2 d k) = (D.wg 1 d k : EReal) := by
  rw [val_main_v0_apply]
  refine Eq.trans (congrArg x7 ?_) (H.win d ⟨1408 * 1 + k.val, by omega⟩)
  refine funext fun a => Fin.ext ?_
  match a with
  | ⟨0, _⟩ => rfl
  | ⟨1, _⟩ => rfl
theorem wu1 (d : Fin 1024) (k : Fin 1408) : val_main_v1 x7 (ix2 d k) = (D.wu 1 d k : EReal) := by
  rw [val_main_v1_apply]
  refine Eq.trans (congrArg x7 ?_) (H.win d ⟨2816 + (1408 * 1 + k.val), by omega⟩)
  refine funext fun a => Fin.ext ?_
  match a with
  | ⟨0, _⟩ => rfl
  | ⟨1, _⟩ => show 4224 + k.val = 2816 + (1408 * 1 + k.val); omega
theorem wd2 (k : Fin 1408) (d : Fin 1024) : val_main_v2 x8 (ix2 k d) = (D.wd 1 k d : EReal) := by
  rw [val_main_v2_apply]
  refine Eq.trans (congrArg x8 ?_) (H.wout (hc 1 k) d)
  refine funext fun a => Fin.ext ?_
  match a with
  | ⟨0, _⟩ => rfl
  | ⟨1, _⟩ => rfl

theorem rn10 (s : Fin 8192) : val_main_v10 x0 (ix2 s (0 : Fin 1)) = (rn (D.x s) : EReal) := by
  pointwise [val_main_v10, val_main_v9, val_main_v7, val_main_v8, val_main_v5, val_main_v6, val_main_cst_1, val_main_v4, val_main_cst_0, val_main_v3, val_main_cst]
  simp only [H.x, c_1024, c_eps, c_zero, ← EReal.coe_mul, coe_sum, div1024, ← EReal.coe_add, rs_msq]
theorem rm11 (s : Fin 8192) : val_main_v11 x0 (ix2 s (0 : Fin 1)) = (rn (D.x s) / msq (D.x s) : ℝ) := by
  pointwise [val_main_v11, val_main_v9, val_main_v7, val_main_v8, val_main_v5, val_main_v6, val_main_cst_1, val_main_v4, val_main_cst_0, val_main_v3, val_main_cst]
  simp only [rn10 H, H.x, c_1024, c_eps, c_zero, ← EReal.coe_mul, coe_sum, div1024, ← EReal.coe_add]
  exact div_real (msq_pos (D.x s)).ne'
theorem xn15 (s : Fin 8192) (d : Fin 1024) : val_main_v15 x0 (ix2 s d) = (D.xn s d : EReal) := by
  pointwise [val_main_v15, val_main_v14]
  simp only [rn10 H, H.x, ← EReal.coe_mul]
  rfl
theorem xg17 (s : Fin 8192) (d : Fin 1024) : val_main_v17 x0 x6 (ix2 s d) = (D.xn s d * D.gn d : ℝ) := by
  pointwise [val_main_v17, val_main_v16]
  simp only [xn15 H, H.gn, ← EReal.coe_mul]
theorem sc19 (d : Fin 1024) : val_main_v19 x4 (ix2 (0 : Fin 1) d) = (1 + D.sc d : ℝ) := by
  pointwise [val_main_v19, val_main_v18, val_main_cst_3]
  simp only [H.sc, ← EReal.coe_one, ← EReal.coe_add]
theorem h23 (s : Fin 8192) (d : Fin 1024) : val_main_v23 x0 x3 x4 x6 (ix2 s d) = (D.h s d : EReal) := by
  pointwise [val_main_v23, val_main_v22, val_main_v21, val_main_v20]
  simp only [xg17 H, sc19 H, H.sh, ← EReal.coe_mul, ← EReal.coe_add]
  rfl
theorem ga25 (d : Fin 1024) : val_main_v25 x5 (ix2 (0 : Fin 1) d) = (1 / 2 * D.ga d : ℝ) := by
  pointwise [val_main_v25, val_main_v24, val_main_cst_4]
  simp only [H.ga, c_half, ← EReal.coe_mul]

theorem g26 (s : Fin 8192) (k : Fin 1408) : val_main_v26 x0 x3 x4 x6 x7 (ix2 s k) = (D.g 1 s k : EReal) := by
  pointwise [val_main_v26]
  simp only [h23 H, wg0 H, ← EReal.coe_mul, coe_sum]
  rfl
theorem u28 (s : Fin 8192) (k : Fin 1408) : val_main_v28 x0 x3 x4 x6 x7 (ix2 s k) = (D.u 1 s k : EReal) := by
  pointwise [val_main_v28]
  simp only [h23 H, wu1 H, ← EReal.coe_mul, coe_sum]
  rfl
theorem sg27 (s : Fin 8192) (k : Fin 1408) : val_main_v27_2 x0 x3 x4 x6 x7 (ix2 s k) = (sg (D.g 1 s k) : EReal) := by
  pointwise [val_main_v27_2, val_main_call0_v0, val_main_call0_v1, val_main_call0_cst, val_main_call0_v2, val_main_call0_v3, val_main_call0_cst_0, val_main_call0_v4]
  simp only [g26 H, ← EReal.coe_neg, Ideal.exp_coe, ← EReal.coe_one, ← EReal.coe_add]
  rw [div_real (by positivity), one_div]
  rfl
theorem sl27 (s : Fin 8192) (k : Fin 1408) : val_main_v27_0 x0 x3 x4 x6 x7 (ix2 s k) = (D.g 1 s k * sg (D.g 1 s k) : ℝ) := by
  pointwise [val_main_v27_0]
  simp only [g26 H, sg27 H, ← EReal.coe_mul]
theorem ds27 (s : Fin 8192) (k : Fin 1408) : val_main_v27_1 x0 x3 x4 x6 x7 (ix2 s k) = (sg (D.g 1 s k) * (1 - sg (D.g 1 s k)) : ℝ) := by
  pointwise [val_main_v27_1, val_main_call0_v7, val_main_call0_v6, val_main_call0_cst_1]
  simp only [sg27 H, ← EReal.coe_one, ← EReal.coe_sub, ← EReal.coe_mul]
theorem a29 (s : Fin 8192) (k : Fin 1408) : val_main_v29 x0 x3 x4 x6 x7 (ix2 s k) = (D.a 1 s k : EReal) := by
  pointwise [val_main_v29]
  simp only [sl27 H, u28 H, ← EReal.coe_mul]
  rfl

theorem dy36 (s : Fin 8192) (d : Fin 1024) : val_main_v36 x1 x5 (ix2 s d) = (D.dy s d : EReal) := by
  pointwise [val_main_v36, val_main_v35]
  simp only [ga25 H]
  rw [show val_main_v34 x1 (ix2 s d) = (D.dxo s d : EReal) from by pointwise [val_main_v34]; exact H.dxo s d, ← EReal.coe_mul, mul_comm]
  rfl
/-- The gate's gradient: the sum over the rows of the output times its cotangent, the columns first. -/
theorem dga55 (d : Fin 1024) : val_main_v55 x0 x1 x3 x4 x6 x7 x8 (ix2 (0 : Fin 1) d) = (D.dga 1 d : EReal) := by
  have e (s : Fin 8192) : val_main_v34 x1 (ix2 s d) = (D.dxo s d : EReal) := by pointwise [val_main_v34]; exact H.dxo s d
  pointwise [val_main_v55, val_main_v54, val_main_cst_6, val_main_v39, val_main_v38, val_main_cst_5, val_main_v37, val_main_v30]
  simp only [e, a29 H, wd2 H, c_half, ← EReal.coe_mul, coe_sum]
  refine congrArg _ (congrArg _ ?_)
  simp only [In.dw, Finset.mul_sum]
  rw [Finset.sum_comm]
  exact Finset.sum_congr rfl fun k _ => Finset.sum_congr rfl fun s _ => by ring
theorem dwd41 (k : Fin 1408) (d : Fin 1024) : val_main_v41 x0 x1 x3 x4 x5 x6 x7 (ix2 k d) = (D.dwd 1 k d : EReal) := by
  pointwise [val_main_v41, val_main_v40]
  simp only [dy36 H, a29 H, ← EReal.coe_mul, coe_sum]
  refine congrArg _ ?_
  unfold In.dwd In.dw In.dy
  rw [Finset.sum_mul]
  exact Finset.sum_congr rfl fun s _ => by ring
theorem da42 (s : Fin 8192) (k : Fin 1408) : val_main_v42 x1 x5 x8 (ix2 s k) = (D.da 1 s k : EReal) := by
  pointwise [val_main_v42]
  simp only [dy36 H, wd2 H, ← EReal.coe_mul, coe_sum]
  rfl
theorem du43 (s : Fin 8192) (k : Fin 1408) : val_main_v43 x0 x1 x3 x4 x5 x6 x7 x8 (ix2 s k) = (D.du 1 s k : EReal) := by
  pointwise [val_main_v43]
  simp only [sl27 H, da42 H, ← EReal.coe_mul]
  exact congrArg _ (mul_comm _ _)
theorem dg49 (s : Fin 8192) (k : Fin 1408) : val_main_v49 x0 x1 x3 x4 x5 x6 x7 x8 (ix2 s k) = (D.dg 1 s k : EReal) := by
  pointwise [val_main_v49, val_main_call1_v0, val_main_call1_v1, val_main_call1_v2, val_main_v44]
  simp only [g26 H, sg27 H, ds27 H, da42 H, u28 H, ← EReal.coe_mul, ← EReal.coe_add]
  refine congrArg _ ?_
  unfold In.dg
  ring
theorem dwu46 (d : Fin 1024) (k : Fin 1408) : val_main_v46 x0 x1 x3 x4 x5 x6 x7 x8 (ix2 d k) = (∑ s, D.h s d * D.du 1 s k : ℝ) := by
  pointwise [val_main_v46, val_main_v45]
  simp only [du43 H, h23 H, ← EReal.coe_mul, coe_sum]
  exact congrArg _ (Finset.sum_congr rfl fun s _ => mul_comm _ _)
theorem dwg51 (d : Fin 1024) (k : Fin 1408) : val_main_v51 x0 x1 x3 x4 x5 x6 x7 x8 (ix2 d k) = (∑ s, D.h s d * D.dg 1 s k : ℝ) := by
  pointwise [val_main_v51, val_main_v50]
  simp only [dg49 H, h23 H, ← EReal.coe_mul, coe_sum]
  exact congrArg _ (Finset.sum_congr rfl fun s _ => mul_comm _ _)
theorem dht53 (s : Fin 8192) (d : Fin 1024) : val_main_v53 x0 x1 x2 x3 x4 x5 x6 x7 x8 (ix2 s d) = (D.dht 1 s d : EReal) := by
  pointwise [val_main_v53, val_main_v52, val_main_v48, val_main_v47]
  simp only [dg49 H, du43 H, wg0 H, wu1 H, H.dh, ← EReal.coe_mul, coe_sum, ← EReal.coe_add]
  refine congrArg _ ?_
  unfold In.dht In.dhp In.dgu In.wgu
  rw [sum_beside]
  ring
theorem dht56 (s : Fin 8192) (d : Fin 1024) : val_main_v56 x0 x1 x2 x3 x4 x5 x6 x7 x8 (ix2 s d) = (D.dht 1 s d : EReal) := by
  pointwise [val_main_v56]
  exact dht53 H s d
theorem dsh58 (d : Fin 1024) : val_main_v58 x0 x1 x2 x3 x4 x5 x6 x7 x8 (ix2 (0 : Fin 1) d) = (D.dsh 1 d : EReal) := by
  pointwise [val_main_v58, val_main_v57, val_main_cst_7]
  simp only [dht53 H, coe_sum]
  rfl
theorem dsc61 (d : Fin 1024) : val_main_v61 x0 x1 x2 x3 x4 x5 x6 x7 x8 (ix2 (0 : Fin 1) d) = (D.dsc 1 d : EReal) := by
  pointwise [val_main_v61, val_main_v60, val_main_v59, val_main_cst_8]
  simp only [dht56 H, xg17 H, ← EReal.coe_mul, coe_sum]
  exact congrArg _ (Finset.sum_congr rfl fun c _ => mul_comm _ _)
theorem dg63 (s : Fin 8192) (d : Fin 1024) : val_main_v63 x0 x1 x2 x3 x4 x5 x6 x7 x8 (ix2 s d) = (D.dht 1 s d * (1 + D.sc d) : ℝ) := by
  pointwise [val_main_v63, val_main_v62]
  simp only [dht56 H, sc19 H, ← EReal.coe_mul]
theorem dgn66 (d : Fin 1024) : val_main_v66 x0 x1 x2 x3 x4 x5 x6 x7 x8 (ix2 (0 : Fin 1) d) = (D.dgn 1 d : EReal) := by
  pointwise [val_main_v66, val_main_v65, val_main_v64, val_main_cst_9]
  simp only [dg63 H, xn15 H, ← EReal.coe_mul, coe_sum]
  exact congrArg _ (Finset.sum_congr rfl fun c _ => mul_comm _ _)
theorem dxn68 (s : Fin 8192) (d : Fin 1024) : val_main_v68 x0 x1 x2 x3 x4 x5 x6 x7 x8 (ix2 s d) = (D.dxn 1 s d : EReal) := by
  pointwise [val_main_v68, val_main_v67]
  simp only [dg63 H, H.gn, ← EReal.coe_mul]
  refine congrArg _ ?_
  unfold In.dxn
  ring
theorem dx83 (s : Fin 8192) (d : Fin 1024) : val_main_v83 x0 x1 x2 x3 x4 x5 x6 x7 x8 (ix2 s d) = (D.dx 1 s d : EReal) := by
  pointwise [val_main_v83, val_main_v82, val_main_v81, val_main_v80, val_main_v79, val_main_v78, val_main_cst_12, val_main_v77, val_main_v76, val_main_cst_11,
    val_main_v75, val_main_v74, val_main_v73, val_main_v72, val_main_v71, val_main_v70, val_main_cst_10, val_main_v69, val_main_v13, val_main_v12, val_main_cst_2]
  simp only [Fin.sum_univ_one, dxn68 H, rn10 H, rm11 H, H.x, H.dxo, c_1024, c_neg_half, Fin.isValue, ← EReal.coe_mul, ← EReal.coe_neg, coe_sum, div1024, ← EReal.coe_add]
  exact congrArg _ (dx_eq s d)

theorem dwin88 (p : Fin 2) (d : Fin 512) (k : Fin 1408) : val_main_v88 x0 x1 x3 x4 x5 x6 x7 x8 (ix3 p d k) = (D.rGu 1 p d k : EReal) := by
  have e0 := dwg51 H ⟨d.val, by omega⟩ k
  have e1 := dwu46 H ⟨d.val, by omega⟩ k
  unfold In.rGu In.dwgu In.dgu
  fin_cases p
  · pointwise [val_main_v88, val_main_v86, val_main_v84]
    refine e0.trans (congrArg _ (Finset.sum_congr rfl fun s _ => congrArg _ ?_))
    exact (beside_lo _ _ k (by omega)).symm.trans (congrArg _ (Fin.ext (by simp)))
  · pointwise [val_main_v88, val_main_v87, val_main_v85]
    refine e1.trans (congrArg _ (Finset.sum_congr rfl fun s _ => congrArg _ ?_))
    exact (beside_hi _ _ k (by omega)).symm.trans (congrArg _ (Fin.ext (by simp)))
theorem dwout93 (p : Fin 2) (k : Fin 352) (d : Fin 1024) : val_main_v93 x0 x1 x3 x4 x5 x6 x7 (ix3 p k d) = (D.rWd 1 p k d : EReal) := by
  have e := dwd41 H ⟨704 * p.val + k.val, by omega⟩ d
  unfold In.rWd
  rw [← e]
  fin_cases p
  · pointwise [val_main_v93, val_main_v91, val_main_v89]
  · pointwise [val_main_v93, val_main_v92, val_main_v90]
theorem vec95 (i : Fin 8) (d : Fin 1024) : val_main_v95 x0 x1 x2 x3 x4 x5 x6 x7 x8 (ix2 i d) = (D.rV i d : EReal) := by
  have h0 := dsh58 H d
  have h1 := dsc61 H d
  have h2 := dga55 H d
  have h3 := dgn66 H d
  fin_cases i
  · pointwise [val_main_v95]; exact h0
  · pointwise [val_main_v95]; exact h1
  · pointwise [val_main_v95]; exact h2
  · pointwise [val_main_v95]; exact h3
  · pointwise [val_main_v95, val_main_v94, val_main_cst_13]; rfl
  · pointwise [val_main_v95, val_main_v94, val_main_cst_13]; rfl
  · pointwise [val_main_v95, val_main_v94, val_main_cst_13]; rfl
  · pointwise [val_main_v95, val_main_v94, val_main_cst_13]; rfl

/-- The four results as arrays. -/
theorem out83 : val_main_v83 x0 x1 x2 x3 x4 x5 x6 x7 x8 = G7 D := funext fun i => (congrArg _ (eta2 i)).trans (dx83 H (i 0) (i 1))
theorem out88 : val_main_v88 x0 x1 x3 x4 x5 x6 x7 x8 = G8 D := funext fun i => (congrArg _ (eta3 i)).trans (dwin88 H (i 0) (i 1) (i 2))
theorem out93 : val_main_v93 x0 x1 x3 x4 x5 x6 x7 = G9 D := funext fun i => (congrArg _ (eta3 i)).trans (dwout93 H (i 0) (i 1) (i 2))
theorem out95 : val_main_v95 x0 x1 x2 x3 x4 x5 x6 x7 x8 = G10 D := funext fun i => (congrArg _ (eta2 i)).trans (vec95 H (i 0) (i 1))

end Cert.Reference3Ideal.Ffn

end
-- ==== Proof.FfnRun.lean ====
/-
  What the feed-forward backward pass leaves in each of its buffers after each point of its grid, as the payloads of
  its body over the blocks the point reads.
-/
module

public import proofs.«01_k».proof.Proof.Gen.Kernel3Ideal.Value
public import proofs.«01_k».proof.Proof.FfnBlk
public import proofs.«01_k».proof.Proof.MixKit
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel3Ideal.Ffn

open Cert.Kernel3Ideal Cert.Kernel3Ideal.Gen Idealize.ShloMosaic Idealize.ShloMosaic.TcCoe Idealize.SL.Sem
open Idealize.ShloMosaic.Pipeline (Dat)
open Cert.Kernel2Ideal.Mix (hz2 hz3 read_put cov_ld ld_put_same ld_put_ne put_whole)

variable {F : FTy → Type} [FloatOps F]

variable (m : (ℓ : Loc nD τ sig) → Buf (Elt F) ℓ) (c : Dev nD) (t : Fin cfg0.N)

/-- The blocks point `t` reads. -/
def blk : Blk F where
  x := iblk m c 0 t
  xo := iblk m c 1 t
  dh := iblk m c 6 t
  g := iblk m c 2 t
  u := iblk m c 3 t
  md := iblk m c 4 t
  wo := iblk m c 5 t

/-- The contents after the point before. -/
abbrev prev := outsAt0 m c (t.val - 1) (Nat.lt_of_le_of_lt (Nat.sub_le _ _) t.isLt)

theorem read0 (x : Vec F S1024x2816 .f32) : View.read (Elt F) (View.whole cc0_scratch0) ((Memref.isWhole_whole cc0_scratch0).unread x) = x :=
  (Memref.isWhole_whole cc0_scratch0).read_unread x
theorem read1 (x : Vec F S1408x1024 .f32) : View.read (Elt F) (View.whole cc0_scratch1) ((Memref.isWhole_whole cc0_scratch1).unread x) = x :=
  (Memref.isWhole_whole cc0_scratch1).read_unread x
theorem read2 (x : Vec F S1024x2816 .bf16) : View.read (Elt F) (View.whole cc0_scratch2) ((Memref.isWhole_whole cc0_scratch2).unread x) = x :=
  (Memref.isWhole_whole cc0_scratch2).read_unread x

section
variable {α : Type}
theorem putw_tile (x w : S512x1024.Idx → α) : VecWindow.put x ![0, 0] ![512, 1024] w = w := put_whole hz2 w
theorem putw_gu (x w : S1024x2816.Idx → α) : VecWindow.put x ![0, 0] ![1024, 2816] w = w := put_whole hz2 w
theorem putw_w (x w : S1408x1024.Idx → α) : VecWindow.put x ![0, 0] ![1408, 1024] w = w := put_whole hz2 w
theorem putw_vec (x w : S8x1024.Idx → α) : VecWindow.put x ![0, 0] ![8, 1024] w = w := put_whole hz2 w
end

/-- The slot of the first weight the body copies from the host's array. -/
def wslot (x : Vec F S2x1024x2816 .bf16) : Vec F S1024x2816 .bf16 := fun i => x (ix3 1 (i 0) (i 1))

/-- The scratch the first point copied the host's slot into reads back as that slot. -/
theorem fillw (x : Buf (Elt F) ((c : Thread nD τ).loc main_v34)) (f : (View.ty (Memref.view scM0_2)).Contents (Elt F)) (q) :
    View.read (Elt F) scM0_2.view (scM0_2.view.writes (Elt F) f [⟨Rect.whole S1024x2816, ReadAs.same.apply (View.read (Elt F)
      (((Memref.whole main_v34).slice (Rect.unit ![1, 0, 0] S1x1024x2816.size inb_S2x1024x2816_S1x1024x2816_1_0_0) q).squeeze
        S1024x2816 squeezes_S1x1024x2816_S1024x2816).view x)⟩]) = wslot x := by
  funext y
  have h := View.read_writes_cons_emb (Val := Elt F) scM0_2.view f (Rect.whole S1024x2816)
    (ReadAs.same.apply (View.read (Elt F)
      (((Memref.whole main_v34).slice (Rect.unit ![1, 0, 0] S1x1024x2816.size inb_S2x1024x2816_S1x1024x2816_1_0_0) q).squeeze
        S1024x2816 squeezes_S1x1024x2816_S1024x2816).view x)) [] y
  rw [Rect.emb_whole_apply] at h
  refine h.trans ?_
  refine (shapeCast_dropUnit_apply ![1024, 2816] (fun z => (x : Vec F S2x1024x2816 .bf16)
    ((Rect.unit (s := S2x1024x2816) ![1, 0, 0] S1x1024x2816.size inb_S2x1024x2816_S1x1024x2816_1_0_0).emb z))
    squeezes_S1x1024x2816_S1024x2816.numel_eq y).trans ?_
  refine congrArg (x : Vec F S2x1024x2816 .bf16) (funext fun a => Fin.ext ?_)
  match a with
  | ⟨0, _⟩ => rfl
  | ⟨1, _⟩ => exact (show 0 + 1 * (y 0).val = (y 0).val by omega)
  | ⟨2, _⟩ => exact (show 0 + 1 * (y 1).val = (y 1).val by omega)

set_option maxHeartbeats 4000000 in
/-- The contents after the first point. -/
theorem at_A (h0 : t.val % 16 = 0) (h1 : ¬t.val % 16 = 15) : ∃ e1 e2, outsAt0 m c t.val t.isLt =
      ((blk m c t).dx (wslot (V m c main_v34)), e1, e2,
        (blk m c t).vec (wslot (V m c main_v34)) k0_pay10,
        (blk m c t).accgu k0_pay8,
        (blk m c t).accw k0_pay9,
        wslot (V m c main_v34)) := by
  refine ⟨?e0, ?e1, ?main⟩
  case main =>
  refine (outsAt0_A m c t h0 h1).trans ?_
  unfold out0_A_7 out0_A_8 out0_A_9 out0_A_10 sout0_A_0 sout0_A_1 sout0_A_2
  unfold kernelRun0_A
  dsimp only
  sl_unfold_words
  simp (disch := decide) only [cov_ld, View.readAt_eq_ld, Memref.IsWhole.read_unread, read0, read1, read2, fillw c, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, Blk.dy, Blk.dgu, Blk.dhh, Blk.dsh, Blk.dsc, Blk.dgn, Blk.dx, Blk.accgu, Blk.accw, Blk.vec, blk]
  iterate 6 refine congrArg₂ Prod.mk (by first | with_reducible rfl | exact putw_tile _ _ | exact putw_gu _ _ | exact putw_w _ _ | rfl) ?_
  rfl

set_option maxHeartbeats 4000000 in
/-- The contents after the middle points. -/
theorem at_B (h0 : ¬t.val % 16 = 0) (h1 : ¬t.val % 16 = 15) : ∃ e1 e2, outsAt0 m c t.val t.isLt =
      ((blk m c t).dx (prev m c t).2.2.2.2.2.2, e1, e2,
        (blk m c t).vec (prev m c t).2.2.2.2.2.2 (prev m c t).2.2.2.1,
        (blk m c t).accgu (prev m c t).2.2.2.2.1,
        (blk m c t).accw (prev m c t).2.2.2.2.2.1,
        (prev m c t).2.2.2.2.2.2) := by
  refine ⟨?e0, ?e1, ?main⟩
  case main =>
  refine (outsAt0_B m c t h0 h1).trans ?_
  unfold out0_B_7 out0_B_8 out0_B_9 out0_B_10 sout0_B_0 sout0_B_1 sout0_B_2
  unfold kernelRun0_B
  dsimp only
  sl_unfold_words
  simp (disch := decide) only [cov_ld, View.readAt_eq_ld, Memref.IsWhole.read_unread, read0, read1, read2, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, Blk.dy, Blk.dgu, Blk.dhh, Blk.dsh, Blk.dsc, Blk.dgn, Blk.dx, Blk.accgu, Blk.accw, Blk.vec, blk]
  iterate 6 refine congrArg₂ Prod.mk (by first | with_reducible rfl | exact putw_tile _ _ | exact putw_gu _ _ | exact putw_w _ _ | rfl) ?_
  rfl

set_option maxHeartbeats 4000000 in
/-- The contents after the last point. -/
theorem at_C (h0 : ¬t.val % 16 = 0) (h1 : t.val % 16 = 15) : ∃ e1 e2, outsAt0 m c t.val t.isLt =
      ((blk m c t).dx (prev m c t).2.2.2.2.2.2,
        dwinOf e1 ((blk m c t).accgu (prev m c t).2.2.2.2.1), dwoutOf e2 ((blk m c t).wLast (prev m c t).2.2.2.2.2.1),
        (blk m c t).vecLast (prev m c t).2.2.2.2.2.2 (prev m c t).2.2.2.1 (prev m c t).2.2.2.2.2.1,
        (blk m c t).accgu (prev m c t).2.2.2.2.1,
        (blk m c t).wLast (prev m c t).2.2.2.2.2.1,
        (prev m c t).2.2.2.2.2.2) := by
  refine ⟨?e0, ?e1, ?main⟩
  case main =>
  refine (outsAt0_C m c t h0 h1).trans ?_
  unfold out0_C_7 out0_C_8 out0_C_9 out0_C_10 sout0_C_0 sout0_C_1 sout0_C_2
  unfold kernelRun0_C
  dsimp only
  sl_unfold_words
  simp (disch := decide) only [cov_ld, View.readAt_eq_ld, Memref.IsWhole.read_unread, read0, read1, read2, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, Blk.dy, Blk.dgu, Blk.dhh, Blk.dsh, Blk.dsc, Blk.dgn, Blk.dx, Blk.accgu, Blk.accw, Blk.vec, Blk.vecLast, Blk.wLast, dwinOf, dwoutOf, blk]
  iterate 6 refine congrArg₂ Prod.mk (by first | with_reducible rfl | exact putw_tile _ _ | exact putw_gu _ _ | exact putw_w _ _ | rfl) ?_
  rfl

end Cert.Kernel3Ideal.Ffn
-- ==== Proof.FfnHost.lean ====
/-
  The arrays the host hands the feed-forward backward pass, read at an index from its arguments.
-/
module

public import proofs.«01_k».proof.Proof.Gen.Kernel3Ideal.Frame.Runs
public import proofs.«01_k».proof.Proof.FfnTile
public import Idealize.ShloMosaic.Lib.StableHlo.ReadAt

@[expose] public section

noncomputable section

namespace Cert.Kernel3Ideal.Ffn

open Cert.Kernel3Ideal Cert.Kernel3Ideal.Gen Idealize.ShloMosaic Idealize.ShloMosaic.TcCoe Cert.RealKit Cert.HeadMath Cert.FfnMath
open Cert.MixMath (row)

/-- The arguments hold real numbers. -/
structure Args (m : (ℓ : Loc nD τ sig) → Buf (Elt Ideal) ℓ) (c : Dev nD) (D : In) : Prop where
  x : ∀ r d, (m ((c : Thread nD τ).loc main_arg0) : Vec Ideal S8192x1024 .f32) (ix2 r d) = (D.x r d : EReal)
  dxo : ∀ r d, (m ((c : Thread nD τ).loc main_arg1) : Vec Ideal S8192x1024 .f32) (ix2 r d) = (D.dxo r d : EReal)
  dh : ∀ r d, (m ((c : Thread nD τ).loc main_arg2) : Vec Ideal S8192x1024 .f32) (ix2 r d) = (D.dh r d : EReal)
  sh : ∀ d, (m ((c : Thread nD τ).loc main_arg3) : Vec Ideal S1x1024 .f32) (ix2 (0 : Fin 1) d) = (D.sh d : EReal)
  sc : ∀ d, (m ((c : Thread nD τ).loc main_arg4) : Vec Ideal S1x1024 .f32) (ix2 (0 : Fin 1) d) = (D.sc d : EReal)
  ga : ∀ d, (m ((c : Thread nD τ).loc main_arg5) : Vec Ideal S1x1024 .f32) (ix2 (0 : Fin 1) d) = (D.ga d : EReal)
  gn : ∀ d, (m ((c : Thread nD τ).loc main_arg6) : Vec Ideal S1x1024 .f32) (ix2 (0 : Fin 1) d) = (D.gn d : EReal)
  win : ∀ d k, (m ((c : Thread nD τ).loc main_arg7) : Vec Ideal S1024x5632 .f32) (ix2 d k) = (D.win d k : EReal)
  wout : ∀ k d, (m ((c : Thread nD τ).loc main_arg8) : Vec Ideal S2816x1024 .f32) (ix2 k d) = (D.wout k d : EReal)

variable {m : (ℓ : Loc nD τ sig) → Buf (Elt Ideal) ℓ} {c : Dev nD} {D : In} (H : Args m c D)
include H

theorem V_sh (d : Fin 1024) : (V m c main_v24 : Vec Ideal S8x1024 .f32) (ix2 0 d) = (D.sh d : EReal) := by
  rw [← H.sh]; unfold V; after_reads_at
theorem V_sc (d : Fin 1024) : (V m c main_v24 : Vec Ideal S8x1024 .f32) (ix2 1 d) = (D.sc d : EReal) := by
  rw [← H.sc]; unfold V; after_reads_at
theorem V_ga (d : Fin 1024) : (V m c main_v24 : Vec Ideal S8x1024 .f32) (ix2 2 d) = (D.ga d : EReal) := by
  rw [← H.ga]; unfold V; after_reads_at
theorem V_gn (d : Fin 1024) : (V m c main_v24 : Vec Ideal S8x1024 .f32) (ix2 3 d) = (D.gn d : EReal) := by
  rw [← H.gn]; unfold V; after_reads_at

theorem V_proj (r : Fin 8192) (k : Fin 5632) : (V m c main_v18 : Vec Ideal S8192x5632 .f32) (ix2 r k) = ((∑ d, D.h r d * D.win d k : ℝ) : EReal) := by
  have hx := H.x
  have hsh := H.sh
  have hsc := H.sc
  have hgn := H.gn
  have hw := H.win
  unfold V; after_reads_at
  dsimp only [Thread.loc] at hx hsh hsc hgn hw
  simp only [hx, hsh, hsc, hgn, hw, c_1024, c_eps, ← EReal.coe_one, ← EReal.coe_mul, coe_sum, div1024, ← EReal.coe_add, rs_msq]
  rfl
theorem V_g (r : Fin 8192) (k : Fin 2816) :
    (V m c main_v20 : Vec Ideal S8192x2816 .bf16) (ix2 r k) = ((∑ d, D.h r d * D.win d ⟨k.val, by omega⟩ : ℝ) : EReal) := by
  refine Eq.trans ?_ (V_proj H r ⟨k.val, by omega⟩)
  unfold V; after_reads_at
theorem V_u (r : Fin 8192) (k : Fin 2816) :
    (V m c main_v22 : Vec Ideal S8192x2816 .bf16) (ix2 r k) = ((∑ d, D.h r d * D.win d ⟨2816 + k.val, by omega⟩ : ℝ) : EReal) := by
  refine Eq.trans ?_ (V_proj H r ⟨2816 + k.val, by omega⟩)
  unfold V; after_reads_at

theorem V_win (j : Fin 2) (d : Fin 1024) (k : Fin 2816) : (V m c main_v34 : Vec Ideal S2x1024x2816 .bf16) (ix3 j d k) = (D.wgu j d k : EReal) := by
  have hw := H.win
  unfold In.wgu beside In.wg In.wu
  by_cases h : k.val < 1408
  · rw [dif_pos h, ← hw]
    unfold V
    fin_cases j <;> after_reads_at <;> after_reads_at <;> rw [dif_pos h] <;> after_reads_at <;>
      exact congrArg (fun i => (m ((c : Thread nD τ).loc main_arg7) : Vec Ideal S1024x5632 .f32) (ix2 d i)) (Fin.ext (by simp only []; omega))
  · rw [dif_neg h, ← hw]
    unfold V
    fin_cases j <;> after_reads_at <;> after_reads_at <;> rw [dif_neg h] <;> after_reads_at <;>
      exact congrArg (fun i => (m ((c : Thread nD τ).loc main_arg7) : Vec Ideal S1024x5632 .f32) (ix2 d i)) (Fin.ext (by simp only []; omega))
theorem V_wout (j : Fin 2) (k : Fin 1408) (d : Fin 1024) : (V m c main_v36 : Vec Ideal S2x1408x1024 .bf16) (ix3 j k d) = (D.wd j k d : EReal) := by
  have hw := H.wout
  unfold In.wd hc
  rw [← hw]
  unfold V; after_reads_at
  exact congrArg (fun i => (m ((c : Thread nD τ).loc main_arg8) : Vec Ideal S2816x1024 .f32) (ix2 i d)) (Fin.ext (by simp only []; omega))

end Cert.Kernel3Ideal.Ffn
-- ==== Proof.FfnPt.lean ====
/-
  The points of the feed-forward backward pass: the tile each handles, and the blocks it reads.
-/
module

public import proofs.«01_k».proof.Proof.FfnRun
public import proofs.«01_k».proof.Proof.FfnHost

@[expose] public section

noncomputable section

namespace Cert.Kernel3Ideal.Ffn

open Cert.Kernel3Ideal Cert.Kernel3Ideal.Gen Idealize.ShloMosaic Idealize.ShloMosaic.TcCoe Cert.RealKit Cert.HeadMath Cert.FfnMath
open Cert.MixMath (row)

theorem t_lt (t : Fin cfg0.N) : t.val < 16 := lt_of_lt_of_eq t.isLt (show cfg0.N = 16 from N_0)
/-- The tile of rows a point handles. -/
def tl (t : Fin cfg0.N) : Fin 16 := ⟨t.val, t_lt t⟩

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx2 : ∀ t : Fin cfg0.N, win0_2.index t 0 = t.val ∧ win0_2.index t 1 = 1 := by decide +kernel
theorem idx3 : ∀ t : Fin cfg0.N, win0_3.index t 0 = t.val ∧ win0_3.index t 1 = 1 := by decide +kernel
theorem idx4 : ∀ t : Fin cfg0.N, win0_4.index t 0 = 0 ∧ win0_4.index t 1 = 0 := by decide +kernel
theorem idx5 : ∀ t : Fin cfg0.N, win0_5.index t 0 = 1 ∧ win0_5.index t 1 = 0 ∧ win0_5.index t 2 = 0 := by decide +kernel

variable {m : (ℓ : Loc nD τ sig) → Buf (Elt Ideal) ℓ} {c : Dev nD} (t : Fin cfg0.N)

theorem blk0 (r : Fin 512) (d : Fin 1024) : (iblk m c 0 t : Vec Ideal S512x1024 .f32) (ix2 r d) = (V m c main_arg0 : Vec Ideal S8192x1024 .f32) (ix2 (row (tl t) r) d) := by
  refine congrArg (V m c main_arg0 : Vec Ideal S8192x1024 .f32) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega
theorem blk1 (r : Fin 512) (d : Fin 1024) : (iblk m c 1 t : Vec Ideal S512x1024 .f32) (ix2 r d) = (V m c main_arg1 : Vec Ideal S8192x1024 .f32) (ix2 (row (tl t) r) d) := by
  refine congrArg (V m c main_arg1 : Vec Ideal S8192x1024 .f32) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * d.val = d.val; rw [(idx1 t).2]; omega
theorem blk2 (r : Fin 512) (k : Fin 1408) : (iblk m c 2 t : Vec Ideal S512x1408 .bf16) (ix2 r k) = (V m c main_v20 : Vec Ideal S8192x2816 .bf16) (ix2 (row (tl t) r) (hc 1 k)) := by
  refine congrArg (V m c main_v20 : Vec Ideal S8192x2816 .bf16) (funext fun a => Fin.ext ?_)
  match a with
  | ⟨0, _⟩ => show win0_2.index t 0 * 512 + 1 * r.val = 512 * t.val + r.val; rw [(idx2 t).1]; omega
  | ⟨1, _⟩ => show win0_2.index t 1 * 1408 + 1 * k.val = 1408 * 1 + k.val; rw [(idx2 t).2]; omega
theorem blk3 (r : Fin 512) (k : Fin 1408) : (iblk m c 3 t : Vec Ideal S512x1408 .bf16) (ix2 r k) = (V m c main_v22 : Vec Ideal S8192x2816 .bf16) (ix2 (row (tl t) r) (hc 1 k)) := by
  refine congrArg (V m c main_v22 : Vec Ideal S8192x2816 .bf16) (funext fun a => Fin.ext ?_)
  match a with
  | ⟨0, _⟩ => show win0_3.index t 0 * 512 + 1 * r.val = 512 * t.val + r.val; rw [(idx3 t).1]; omega
  | ⟨1, _⟩ => show win0_3.index t 1 * 1408 + 1 * k.val = 1408 * 1 + k.val; rw [(idx3 t).2]; omega
theorem blk4 (p : Fin 8) (q : Fin 1024) : (iblk m c 4 t : Vec Ideal S8x1024 .f32) (ix2 p q) = (V m c main_v24 : Vec Ideal S8x1024 .f32) (ix2 p q) := by
  refine congrArg (V m c main_v24 : Vec Ideal S8x1024 .f32) (funext fun a => Fin.ext ?_)
  match a with
  | ⟨0, _⟩ => show win0_4.index t 0 * 8 + 1 * p.val = p.val; rw [(idx4 t).1]; omega
  | ⟨1, _⟩ => show win0_4.index t 1 * 1024 + 1 * q.val = q.val; rw [(idx4 t).2]; omega
theorem blk5 (k : Fin 1408) (d : Fin 1024) : (iblk m c 5 t : Vec Ideal S1x1408x1024 .bf16) (ix3 0 k d) = (V m c main_v36 : Vec Ideal S2x1408x1024 .bf16) (ix3 1 k d) := by
  refine congrArg (V m c main_v36 : Vec Ideal S2x1408x1024 .bf16) (funext fun a => Fin.ext ?_)
  match a with
  | ⟨0, _⟩ => show win0_5.index t 0 * 1 + 1 * 0 = 1; rw [(idx5 t).1]
  | ⟨1, _⟩ => show win0_5.index t 1 * 1408 + 1 * k.val = k.val; rw [(idx5 t).2.1]; omega
  | ⟨2, _⟩ => show win0_5.index t 2 * 1024 + 1 * d.val = d.val; rw [(idx5 t).2.2]; omega
theorem blk6 (r : Fin 512) (d : Fin 1024) : (iblk m c 6 t : Vec Ideal S512x1024 .f32) (ix2 r d) = (V m c main_arg2 : Vec Ideal S8192x1024 .f32) (ix2 (row (tl t) r) d) := by
  refine congrArg (V m c main_arg2 : Vec Ideal S8192x1024 .f32) (funext fun a => Fin.ext ?_)
  match a with
  | ⟨0, _⟩ => show win0_6.index t 0 * 512 + 1 * r.val = 512 * t.val + r.val; rw [(idx6 t).1]; omega
  | ⟨1, _⟩ => show win0_6.index t 1 * 1024 + 1 * d.val = d.val; rw [(idx6 t).2]; omega

set_option maxHeartbeats 8000000 in
/-- What a point reads of arguments that hold real numbers. -/
theorem reads {D : In} (H : Args m c D) : Rd (blk m c t) D 1 (tl t) where
  x r d := (blk0 t r d).trans ((congrFun (V_main_arg0 m c) _).trans (H.x _ d))
  xo r d := (blk1 t r d).trans ((congrFun (V_main_arg1 m c) _).trans (H.dxo _ d))
  dh r d := (blk6 t r d).trans ((congrFun (V_main_arg2 m c) _).trans (H.dh _ d))
  g r k := (blk2 t r k).trans (V_g H _ _)
  u r k := (blk3 t r k).trans (V_u H _ _)
  sh d := (blk4 t 0 d).trans (V_sh H d)
  sc d := (blk4 t 1 d).trans (V_sc H d)
  ga d := (blk4 t 2 d).trans (V_ga H d)
  gn d := (blk4 t 3 d).trans (V_gn H d)
  wo k d := (blk5 t k d).trans (V_wout H 1 k d)

end Cert.Kernel3Ideal.Ffn

end
-- ==== Proof.FfnPoint.lean ====
/-
  The sums the feed-forward backward pass carries from tile to tile.
-/
module

public import proofs.«01_k».proof.Proof.FfnPt
public import proofs.«01_k».proof.Proof.MixFinal

@[expose] public section

noncomputable section

namespace Cert.Kernel3Ideal.Ffn

open Cert.Kernel3Ideal Cert.Kernel3Ideal.Gen Idealize.ShloMosaic Idealize.ShloMosaic.TcCoe Cert.RealKit Cert.HeadMath Cert.FfnMath
open Cert.MixMath (row)
open Cert.Kernel2Ideal.Mix (put_row put_row_ne)

/-- A sum over the first `k` tiles. -/
def down (f : Fin 16 → ℝ) (k : ℕ) : ℝ := ∑ τ, if τ.val < k then f τ else 0
theorem down_zero (f : Fin 16 → ℝ) : down f 0 = 0 := Finset.sum_eq_zero fun τ _ => if_neg (by omega)
theorem down_all (f : Fin 16 → ℝ) : down f 16 = ∑ τ, f τ := Finset.sum_congr rfl fun τ _ => if_pos τ.isLt
theorem down_succ (f : Fin 16 → ℝ) (k : ℕ) (τ : Fin 16) (h : τ.val = k) : down f (k + 1) = down f k + f τ := by
  have e : f τ = ∑ σ, if σ = τ then f σ else 0 := by rw [Finset.sum_ite_eq' Finset.univ τ f, if_pos (Finset.mem_univ _)]
  unfold down
  rw [e, ← Finset.sum_add_distrib]
  refine Finset.sum_congr rfl fun σ _ => ?_
  by_cases h1 : σ = τ
  · subst h1; rw [if_pos (by omega), if_neg (by omega), if_pos rfl, zero_add]
  · have h2 : σ.val ≠ τ.val := fun q => h1 (Fin.ext q)
    rw [if_neg h1, add_zero]
    by_cases h3 : σ.val < k
    · rw [if_pos h3, if_pos (by omega)]
    · rw [if_neg h3, if_neg (by omega)]

section
variable (b : Blk Ideal) (w : Vec Ideal S1024x2816 .bf16) (v : Vec Ideal S8x1024 .f32) (d : Fin 1024)
theorem vec_0 : b.vec w v (ix2 0 d) = v (ix2 0 d) + b.dsh w (ix2 0 d) := by
  unfold Blk.vec
  rw [put_row_ne _ _ 3 (by simp), put_row_ne _ _ 1 (by simp), put_row _ _ 0 rfl]
  pointwise [k0_pay31]
  exact congrArg (· + _) (row_at v 0 _ d)
theorem vec_1 : b.vec w v (ix2 1 d) = v (ix2 1 d) + b.dsc w (ix2 0 d) := by
  unfold Blk.vec
  rw [put_row_ne _ _ 3 (by simp), put_row _ _ 1 rfl]
  pointwise [k0_pay32]
  exact congrArg (· + _) (row_at v 1 _ d)
theorem vec_3 : b.vec w v (ix2 3 d) = v (ix2 3 d) + b.dgn w (ix2 0 d) := by
  unfold Blk.vec
  rw [put_row _ _ 3 rfl]
  pointwise [k0_pay33]
  exact congrArg (· + _) (row_at v 3 _ d)
theorem vec_n (i : Fin 8) (h0 : i.val ≠ 0) (h1 : i.val ≠ 1) (h3 : i.val ≠ 3) : b.vec w v (ix2 i d) = v (ix2 i d) := by
  unfold Blk.vec
  rw [put_row_ne _ _ 3 h3, put_row_ne _ _ 1 h1, put_row_ne _ _ 0 h0]
end

/-- What is carried once the first `k` tiles are done: the vectors' rows, the two weight gradients and the weights. -/
structure Carry (D : In) (k : ℕ) (v : Vec Ideal S8x1024 .f32) (g : Vec Ideal S1024x2816 .f32) (w : Vec Ideal S1408x1024 .f32)
    (q : Vec Ideal S1024x2816 .bf16) : Prop where
  sh : ∀ d, v (ix2 0 d) = (down (fun τ => ∑ r, D.dht 1 (row τ r) d) k : EReal)
  sc : ∀ d, v (ix2 1 d) = (down (fun τ => ∑ r, D.dht 1 (row τ r) d * (D.xn (row τ r) d * D.gn d)) k : EReal)
  gn : ∀ d, v (ix2 3 d) = (down (fun τ => ∑ r, D.dht 1 (row τ r) d * (1 + D.sc d) * D.xn (row τ r) d) k : EReal)
  v0 : ∀ i d, i.val ≠ 0 → i.val ≠ 1 → i.val ≠ 3 → v (ix2 i d) = 0
  gu : ∀ d k', g (ix2 d k') = (down (fun τ => ∑ r, D.h (row τ r) d * D.dgu 1 (row τ r) k') k : EReal)
  wd : ∀ k' d, w (ix2 k' d) = (down (fun τ => ∑ r, D.a 1 (row τ r) k' * D.dxo (row τ r) d) k : EReal)
  wt : ∀ d k', q (ix2 d k') = (D.wgu 1 d k' : EReal)

/-- Nothing is summed before the first tile. -/
theorem carry_zero (D : In) (q : Vec Ideal S1024x2816 .bf16) (hq : ∀ d k', q (ix2 d k') = (D.wgu 1 d k' : EReal)) :
    Carry D 0 (k0_pay10 (F := Ideal)) (k0_pay8 (F := Ideal)) (k0_pay9 (F := Ideal)) q where
  sh d := by rw [down_zero, EReal.coe_zero]; exact c_zero
  sc d := by rw [down_zero, EReal.coe_zero]; exact c_zero
  gn d := by rw [down_zero, EReal.coe_zero]; exact c_zero
  v0 i d _ _ _ := c_zero
  gu d k := by rw [down_zero, EReal.coe_zero]; exact c_zero
  wd k d := by rw [down_zero, EReal.coe_zero]; exact c_zero
  wt := hq

/-- One more tile. -/
theorem Carry.step {D : In} {k : ℕ} {v : Vec Ideal S8x1024 .f32} {g : Vec Ideal S1024x2816 .f32} {w : Vec Ideal S1408x1024 .f32}
    {q : Vec Ideal S1024x2816 .bf16} (C : Carry D k v g w q) {b : Blk Ideal} {τ : Fin 16} (R : Rd b D 1 τ) (h : τ.val = k) :
    Carry D (k + 1) (b.vec q v) (b.accgu g) (b.accw w) q where
  sh d := by rw [vec_0, C.sh, dsh_at R C.wt, down_succ _ k τ h, EReal.coe_add]
  sc d := by rw [vec_1, C.sc, dsc_at R C.wt, down_succ _ k τ h, EReal.coe_add]
  gn d := by rw [vec_3, C.gn, dgn_at R C.wt, down_succ _ k τ h, EReal.coe_add]
  v0 i d h0 h1 h3 := (vec_n b q v d i h0 h1 h3).trans (C.v0 i d h0 h1 h3)
  gu d k' := (accgu_at R g _ d k' (C.gu d k')).trans (by rw [down_succ _ k τ h])
  wd k' d := (accw_at R w _ k' d (C.wd k' d)).trans (by rw [down_succ _ k τ h])
  wt := C.wt

variable {m : (ℓ : Loc nD τ sig) → Buf (Elt Ideal) ℓ} {c : Dev nD} {D : In} (H : Args m c D)
include H

/-- The weights the pass fetches. -/
theorem slot_at (d : Fin 1024) (k : Fin 2816) : wslot (V m c main_v34) (ix2 d k) = (D.wgu 1 d k : EReal) := V_win H 1 d k

/-- What is carried after each point but the last. -/
theorem carried (n : ℕ) (hn : n < cfg0.N) : Carry D (n + 1) (outsAt0 m c n hn).2.2.2.1 (outsAt0 m c n hn).2.2.2.2.1
    (outsAt0 m c n hn).2.2.2.2.2.1 (outsAt0 m c n hn).2.2.2.2.2.2 ∨ n = 15 := by
  induction n with
  | zero =>
    obtain ⟨e1, e2, he⟩ := at_A m c ⟨0, hn⟩ (by simp) (by simp)
    refine .inl ?_
    rw [show outsAt0 m c 0 hn = _ from he]
    exact (carry_zero D _ (slot_at H)).step (reads ⟨0, hn⟩ H) rfl
  | succ n ih =>
    have h16 : n + 1 < 16 := t_lt ⟨n + 1, hn⟩
    by_cases hl : n + 1 = 15
    · exact .inr hl
    obtain C | C := ih (by omega)
    · obtain ⟨e1, e2, he⟩ := at_B m c ⟨n + 1, hn⟩ (by show ¬ (n + 1) % 16 = 0; omega) (by show ¬ (n + 1) % 16 = 15; omega)
      refine .inl ?_
      rw [show outsAt0 m c (n + 1) hn = _ from he]
      exact Carry.step C (reads ⟨n + 1, hn⟩ H) rfl
    · omega

end Cert.Kernel3Ideal.Ffn

end
-- ==== Proof.FfnFinal.lean ====
/-
  The arrays the feed-forward backward pass leaves.
-/
module

public import proofs.«01_k».proof.Proof.FfnPoint
public import proofs.«01_k».proof.Proof.FfnOut

@[expose] public section

noncomputable section

namespace Cert.Kernel3Ideal.Ffn

open Cert.Kernel3Ideal Cert.Kernel3Ideal.Gen Idealize.ShloMosaic Idealize.ShloMosaic.TcCoe Cert.RealKit Cert.HeadMath Cert.FfnMath
open Idealize.ShloMosaic.Pipeline (Dat)
open Cert.MixMath (row sum_rows)
open Cert.KernelIdeal.Head (eta2)
open Cert.Kernel2Ideal.Mix (put_row put_row_ne put_slab put_slab_ne eta3)

/-- The stored pieces, read. -/
theorem dwin_0 (e : Vec Ideal S2x512x1408 .f32) (g : Vec Ideal S1024x2816 .f32) (d : Fin 512) (k : Fin 1408) :
    dwinOf e g (ix3 0 d k) = g (ix2 ⟨d.val, by omega⟩ ⟨k.val, by omega⟩) := by
  unfold dwinOf
  rw [put_slab_ne _ _ 1 (by simp), put_slab _ _ 0 rfl]
  pointwise [k0_pay6]
theorem dwin_1 (e : Vec Ideal S2x512x1408 .f32) (g : Vec Ideal S1024x2816 .f32) (d : Fin 512) (k : Fin 1408) :
    dwinOf e g (ix3 1 d k) = g (ix2 ⟨d.val, by omega⟩ ⟨1408 + k.val, by omega⟩) := by
  unfold dwinOf
  rw [put_slab _ _ 1 rfl]
  pointwise [k0_pay7]
theorem dwout_0 (e : Vec Ideal S2x352x1024 .f32) (w : Vec Ideal S1408x1024 .f32) (k : Fin 352) (d : Fin 1024) :
    dwoutOf e w (ix3 0 k d) = w (ix2 ⟨k.val, by omega⟩ d) := by
  unfold dwoutOf
  rw [put_slab_ne _ _ 1 (by simp), put_slab _ _ 0 rfl]
  pointwise [k0_pay2]
theorem dwout_1 (e : Vec Ideal S2x352x1024 .f32) (w : Vec Ideal S1408x1024 .f32) (k : Fin 352) (d : Fin 1024) :
    dwoutOf e w (ix3 1 k d) = w (ix2 ⟨704 + k.val, by omega⟩ d) := by
  unfold dwoutOf
  rw [put_slab _ _ 1 rfl]
  pointwise [k0_pay3]

theorem idx8 : ∀ t : Fin cfg0.N, win0_8.index t 0 = 0 ∧ win0_8.index t 1 = 0 ∧ win0_8.index t 2 = 0 := by decide +kernel
theorem idx9 : ∀ t : Fin cfg0.N, win0_9.index t 0 = 0 ∧ win0_9.index t 1 = 0 ∧ win0_9.index t 2 = 0 := by decide +kernel
theorem idx10 : ∀ t : Fin cfg0.N, win0_10.index t 0 = 0 ∧ win0_10.index t 1 = 0 := by decide +kernel

/-- A sum over all tiles is a sum over all rows. -/
theorem all_rows (f : Fin 8192 → ℝ) : down (fun τ => ∑ r, f (row τ r)) 16 = ∑ s, f s := (down_all _).trans (sum_rows f)

variable {m : (ℓ : Loc nD τ sig) → Buf (Elt Ideal) ℓ} {c : Dev nD} {D : In} (H : Args m c D) (t : Fin cfg0.N)
include H

/-- The carried arrays with the tiles before this one done. -/
theorem before (h0 : ¬t.val = 0) : Carry D t.val (prev m c t).2.2.2.1 (prev m c t).2.2.2.2.1
    (prev m c t).2.2.2.2.2.1 (prev m c t).2.2.2.2.2.2 := by
  have hN := t_lt t
  obtain C | C := carried H (t.val - 1) (Nat.lt_of_le_of_lt (Nat.sub_le _ _) t.isLt)
  · rw [show t.val - 1 + 1 = t.val by omega] at C
    exact C
  · omega

/-- The input's gradient, tile by tile. -/
theorem out7 (r : Fin 512) (d : Fin 1024) : (outsAt0 m c t.val t.isLt).1 (ix2 r d) = (D.dx 1 (row (tl t) r) d : EReal) := by
  have hN := t_lt t
  by_cases h0 : t.val = 0
  · obtain ⟨e1, e2, he⟩ := at_A m c t (by omega) (by omega)
    rw [he]
    exact dx_at (reads t H) (slot_at H) r d
  · have C := before H t h0
    by_cases h1 : t.val = 15
    · obtain ⟨e1, e2, he⟩ := at_C m c t (by omega) (by omega)
      rw [he]
      exact dx_at (reads t H) C.wt r d
    · obtain ⟨e1, e2, he⟩ := at_B m c t (by omega) (by omega)
      rw [he]
      exact dx_at (reads t H) C.wt r d

/-- What stands after the last point. -/
theorem last (h : t.val % 16 = 15) : let o := outsAt0 m c t.val t.isLt
    (∀ p d k, o.2.1 (ix3 p d k) = (D.rGu 1 p d k : EReal)) ∧ (∀ p k d, o.2.2.1 (ix3 p k d) = (D.rWd 1 p k d : EReal))
      ∧ ∀ i d, o.2.2.2.1 (ix2 i d) = (D.rV i d : EReal) := by
  have hN := t_lt t
  have ht : t.val = 15 := by omega
  obtain ⟨e1, e2, he⟩ := at_C m c t (by omega) h
  have C := before H t (by omega)
  have R := reads t H
  have C' := C.step R rfl
  rw [show t.val + 1 = 16 by omega] at C'
  dsimp only
  rw [he]
  generalize prev m c t = p at C C' ⊢
  generalize blk m c t = b at R C' ⊢
  have hg : ∀ d k, b.accgu p.2.2.2.2.1 (ix2 d k) = (D.dwgu 1 d k : EReal) := fun d k =>
    (C'.gu d k).trans (congrArg _ (all_rows fun s => D.h s d * D.dgu 1 s k))
  have hw : ∀ k d, b.accw p.2.2.2.2.2.1 (ix2 k d) = (D.dw 1 k d : EReal) := fun k d =>
    (C'.wd k d).trans (congrArg _ (all_rows fun s => D.a 1 s k * D.dxo s d))
  have hl : ∀ k d, b.wLast p.2.2.2.2.2.1 (ix2 k d) = (D.dwd 1 k d : EReal) := fun k d => wLast_at R _ _ k d (hw k d)
  refine ⟨fun q d k => ?_, fun q k d => ?_, fun i d => ?_⟩
  · unfold In.rGu
    rw [← hg]
    fin_cases q
    · exact (dwin_0 e1 _ d k).trans (congrArg (fun i => b.accgu p.2.2.2.2.1 (ix2 _ i)) (Fin.ext (by simp)))
    · exact dwin_1 e1 _ d k
  · unfold In.rWd
    rw [← hl]
    fin_cases q
    · exact (dwout_0 e2 _ k d).trans (congrArg (fun i => b.wLast p.2.2.2.2.2.1 (ix2 i d)) (Fin.ext (by simp)))
    · exact dwout_1 e2 _ k d
  · unfold In.rV Blk.vecLast
    by_cases i2 : i.val = 2
    · obtain rfl : i = 2 := Fin.ext i2
      refine (put_row _ 2 2 rfl _ d).trans ?_
      refine (dga_at R _ _ _ 0 d (fun k => hw k d) ?_).trans (congrArg _ (zero_add _))
      exact (row_at _ 2 _ d).trans (C.v0 2 d (by simp) (by simp) (by simp))
    · refine (put_row_ne _ i 2 i2 _ d).trans ?_
      by_cases i0 : i.val = 0
      · obtain rfl : i = 0 := Fin.ext i0
        exact (C'.sh d).trans (congrArg _ (all_rows fun s => D.dht 1 s d))
      by_cases i1 : i.val = 1
      · obtain rfl : i = 1 := Fin.ext i1
        exact (C'.sc d).trans (congrArg _ (all_rows fun s => D.dht 1 s d * (D.xn s d * D.gn d)))
      by_cases i3 : i.val = 3
      · obtain rfl : i = 3 := Fin.ext i3
        exact (C'.gn d).trans (congrArg _ (all_rows fun s => D.dht 1 s d * (1 + D.sc d) * D.xn s d))
      · rw [if_neg i0, if_neg i1, if_neg i2, if_neg i3]
        exact C'.v0 i d i0 i1 i3

theorem arr7 : (dats m 0 c).arrAt 7 cfg0.N = G7 D :=
  (dats m 0 c).arrAt_eq_of_cover 7 (G7 D)
    (fun t hf => by
      rw [Value.flushed7]
      refine funext fun (y : S512x1024.Idx) => ?_
      refine (congrArg (outsAt0 m c t.val t.isLt).1 (eta2 y)).trans ((out7 H t (y 0) (y 1)).trans ?_)
      have emb : ((cfg0.win 7).blk t).view.emb y = ix2 (row (tl t) (y 0)) (y 1) := by
        refine funext fun a => Fin.ext ?_
        match a with
        | ⟨0, _⟩ => show win0_7.index t 0 * 512 + 1 * (y 0).val = 512 * t.val + (y 0).val; rw [(idx7 t).1]; omega
        | ⟨1, _⟩ => show win0_7.index t 1 * 1024 + 1 * (y 1).val = (y 1).val; rw [(idx7 t).2]; omega
      exact Eq.trans (b := G7 D (ix2 (row (tl t) (y 0)) (y 1))) rfl ((congrArg (G7 D) emb).symm.trans rfl))
    fun i => by
      have h0 : (i 0 : ℕ) < 8192 := (i 0).isLt
      have h1 : (i 1 : ℕ) < 1024 := (i 1).isLt
      obtain ⟨t, ht⟩ : ∃ t : Fin cfg0.N, t.val = (i 0 : ℕ) / 512 := ⟨⟨_, by rw [show cfg0.N = 16 from N_0]; omega⟩, rfl⟩
      refine ⟨t, flush0_7 t, ?_⟩
      show i ∈ ((View.whole main_v37_0).slice (win0_7.rect t)).set
      rw [View.set_slice_whole, Rect.mem_set_unit]
      have e := idx7 t
      intro a
      match a with
      | ⟨0, _⟩ => show win0_7.index t 0 * 512 ≤ (i 0 : ℕ) ∧ (i 0 : ℕ) < win0_7.index t 0 * 512 + 512
                  rw [e.1]; omega
      | ⟨1, _⟩ => show win0_7.index t 1 * 1024 ≤ (i 1 : ℕ) ∧ (i 1 : ℕ) < win0_7.index t 1 * 1024 + 1024
                  rw [e.2]; omega

omit H in
/-- The last point. -/
theorem end_pt : ∃ t : Fin cfg0.N, t.val % 16 = 15 := ⟨⟨15, by rw [show cfg0.N = 16 from N_0]; omega⟩, rfl⟩

theorem arr8 : (dats m 0 c).arrAt 8 cfg0.N = G8 D :=
  (dats m 0 c).arrAt_eq_of_cover 8 (G8 D)
    (fun t hf => by
      rw [Value.flushed8]
      refine funext fun (y : S2x512x1408.Idx) => ?_
      refine (congrArg (outsAt0 m c t.val t.isLt).2.1 (eta3 y)).trans (((last H t ((flush0_8 t).mp hf)).1 (y 0) (y 1) (y 2)).trans ?_)
      have emb : ((cfg0.win 8).blk t).view.emb y = ix3 (y 0) (y 1) (y 2) := by
        refine funext fun a => Fin.ext ?_
        match a with
        | ⟨0, _⟩ => show win0_8.index t 0 * 2 + 1 * (y 0).val = (y 0).val; rw [(idx8 t).1]; omega
        | ⟨1, _⟩ => show win0_8.index t 1 * 512 + 1 * (y 1).val = (y 1).val; rw [(idx8 t).2.1]; omega
        | ⟨2, _⟩ => show win0_8.index t 2 * 1408 + 1 * (y 2).val = (y 2).val; rw [(idx8 t).2.2]; omega
      exact Eq.trans (b := G8 D (ix3 (y 0) (y 1) (y 2))) rfl ((congrArg (G8 D) emb).symm.trans rfl))
    fun i => by
      obtain ⟨t, ht⟩ := end_pt
      refine ⟨t, (flush0_8 t).mpr ht, ?_⟩
      show i ∈ ((View.whole main_v37_1).slice (win0_8.rect t)).set
      rw [View.set_slice_whole, Rect.mem_set_unit]
      have e := idx8 t
      intro a
      match a with
      | ⟨0, _⟩ => have hi : (i 0 : ℕ) < 2 := (i 0).isLt
                  show win0_8.index t 0 * 2 ≤ (i 0 : ℕ) ∧ (i 0 : ℕ) < win0_8.index t 0 * 2 + 2
                  rw [e.1]; omega
      | ⟨1, _⟩ => have hi : (i 1 : ℕ) < 512 := (i 1).isLt
                  show win0_8.index t 1 * 512 ≤ (i 1 : ℕ) ∧ (i 1 : ℕ) < win0_8.index t 1 * 512 + 512
                  rw [e.2.1]; omega
      | ⟨2, _⟩ => have hi : (i 2 : ℕ) < 1408 := (i 2).isLt
                  show win0_8.index t 2 * 1408 ≤ (i 2 : ℕ) ∧ (i 2 : ℕ) < win0_8.index t 2 * 1408 + 1408
                  rw [e.2.2]; omega

theorem arr9 : (dats m 0 c).arrAt 9 cfg0.N = G9 D :=
  (dats m 0 c).arrAt_eq_of_cover 9 (G9 D)
    (fun t hf => by
      rw [Value.flushed9]
      refine funext fun (y : S2x352x1024.Idx) => ?_
      refine (congrArg (outsAt0 m c t.val t.isLt).2.2.1 (eta3 y)).trans (((last H t ((flush0_9 t).mp hf)).2.1 (y 0) (y 1) (y 2)).trans ?_)
      have emb : ((cfg0.win 9).blk t).view.emb y = ix3 (y 0) (y 1) (y 2) := by
        refine funext fun a => Fin.ext ?_
        match a with
        | ⟨0, _⟩ => show win0_9.index t 0 * 2 + 1 * (y 0).val = (y 0).val; rw [(idx9 t).1]; omega
        | ⟨1, _⟩ => show win0_9.index t 1 * 352 + 1 * (y 1).val = (y 1).val; rw [(idx9 t).2.1]; omega
        | ⟨2, _⟩ => show win0_9.index t 2 * 1024 + 1 * (y 2).val = (y 2).val; rw [(idx9 t).2.2]; omega
      exact Eq.trans (b := G9 D (ix3 (y 0) (y 1) (y 2))) rfl ((congrArg (G9 D) emb).symm.trans rfl))
    fun i => by
      obtain ⟨t, ht⟩ := end_pt
      refine ⟨t, (flush0_9 t).mpr ht, ?_⟩
      show i ∈ ((View.whole main_v37_2).slice (win0_9.rect t)).set
      rw [View.set_slice_whole, Rect.mem_set_unit]
      have e := idx9 t
      intro a
      match a with
      | ⟨0, _⟩ => have hi : (i 0 : ℕ) < 2 := (i 0).isLt
                  show win0_9.index t 0 * 2 ≤ (i 0 : ℕ) ∧ (i 0 : ℕ) < win0_9.index t 0 * 2 + 2
                  rw [e.1]; omega
      | ⟨1, _⟩ => have hi : (i 1 : ℕ) < 352 := (i 1).isLt
                  show win0_9.index t 1 * 352 ≤ (i 1 : ℕ) ∧ (i 1 : ℕ) < win0_9.index t 1 * 352 + 352
                  rw [e.2.1]; omega
      | ⟨2, _⟩ => have hi : (i 2 : ℕ) < 1024 := (i 2).isLt
                  show win0_9.index t 2 * 1024 ≤ (i 2 : ℕ) ∧ (i 2 : ℕ) < win0_9.index t 2 * 1024 + 1024
                  rw [e.2.2]; omega

theorem arr10 : (dats m 0 c).arrAt 10 cfg0.N = G10 D :=
  (dats m 0 c).arrAt_eq_of_cover 10 (G10 D)
    (fun t hf => by
      rw [Value.flushed10]
      refine funext fun (y : S8x1024.Idx) => ?_
      refine (congrArg (outsAt0 m c t.val t.isLt).2.2.2.1 (eta2 y)).trans (((last H t ((flush0_10 t).mp hf)).2.2 (y 0) (y 1)).trans ?_)
      have emb : ((cfg0.win 10).blk t).view.emb y = ix2 (y 0) (y 1) := by
        refine funext fun a => Fin.ext ?_
        match a with
        | ⟨0, _⟩ => show win0_10.index t 0 * 8 + 1 * (y 0).val = (y 0).val; rw [(idx10 t).1]; omega
        | ⟨1, _⟩ => show win0_10.index t 1 * 1024 + 1 * (y 1).val = (y 1).val; rw [(idx10 t).2]; omega
      exact Eq.trans (b := G10 D (ix2 (y 0) (y 1))) rfl ((congrArg (G10 D) emb).symm.trans rfl))
    fun i => by
      obtain ⟨t, ht⟩ := end_pt
      refine ⟨t, (flush0_10 t).mpr ht, ?_⟩
      show i ∈ ((View.whole main_v37_3).slice (win0_10.rect t)).set
      rw [View.set_slice_whole, Rect.mem_set_unit]
      have e := idx10 t
      intro a
      match a with
      | ⟨0, _⟩ => have hi : (i 0 : ℕ) < 8 := (i 0).isLt
                  show win0_10.index t 0 * 8 ≤ (i 0 : ℕ) ∧ (i 0 : ℕ) < win0_10.index t 0 * 8 + 8
                  rw [e.1]; omega
      | ⟨1, _⟩ => have hi : (i 1 : ℕ) < 1024 := (i 1).isLt
                  show win0_10.index t 1 * 1024 ≤ (i 1 : ℕ) ∧ (i 1 : ℕ) < win0_10.index t 1 * 1024 + 1024
                  rw [e.2]; omega

end Cert.Kernel3Ideal.Ffn

end
-- ==== Proof.FfnPre.lean ====
/-
  The precondition of the feed-forward backward pass: finite arguments are arrays of real numbers.
-/
module

public import proofs.«01_k».proof.Defs
public import proofs.«01_k».proof.Proof.Gen.Pre_finite_ffn
public import proofs.«01_k».proof.Proof.FfnHost

@[expose] public section

noncomputable section

namespace Cert.Kernel3Ideal.Ffn

open Cert.Kernel3Ideal Cert.Kernel3Ideal.Gen Idealize.ShloMosaic Idealize.ShloMosaic.TcCoe Cert.RealKit Cert.FfnMath

instance : Subsingleton S_.Idx := ⟨fun a b => funext fun k => k.elim0⟩

/-- Arguments that pass the test "every element is finite" hold real numbers. -/
theorem holds [Cert.Pre_finite_ffn.Facts] {m : (ℓ : Loc nD τ sig) → Buf (Elt Ideal) ℓ} (h : Cert.Pre_Kernel3Ideal_finite_ffn m) (c : Dev nD) :
    ∃ D, Args m c D := by
  have e := congrFun (h c) ix0
  unfold Cert.Pre_finite_ffn.fn Cert.Pre_finite_ffn.fn_part1 Cert.Pre_finite_ffn.fn_part2 at e
  dsimp only at e
  obtain ⟨e, e8⟩ := (IntOp.andi_eq_one ..).mp e
  obtain ⟨e, e7⟩ := (IntOp.andi_eq_one ..).mp e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  obtain ⟨X7, h7⟩ := real_of_all _ _ _ _ _ _ _ e7
  obtain ⟨X8, h8⟩ := real_of_all _ _ _ _ _ _ _ e8
  exact ⟨⟨fun r d => X0 (ix2 r d), fun r d => X1 (ix2 r d), fun r d => X2 (ix2 r d), fun d => X3 (ix2 0 d), fun d => X4 (ix2 0 d),
      fun d => X5 (ix2 0 d), fun d => X6 (ix2 0 d), fun d k => X7 (ix2 d k), fun k d => X8 (ix2 k d)⟩,
    fun r d => congrFun h0 _, fun r d => congrFun h1 _, fun r d => congrFun h2 _, fun d => congrFun h3 _, fun d => congrFun h4 _,
    fun d => congrFun h5 _, fun d => congrFun h6 _, fun d k => congrFun h7 _, fun k d => congrFun h8 _⟩

end Cert.Kernel3Ideal.Ffn

end
-- ==== Proof.HalfBlk.lean ====
/-
  What one point of the feed-forward backward's first pass computes of the blocks it reads: the blocks of the second
  pass less the tile of the other half's cotangent.
-/
module

public import proofs.«01_k».proof.Proof.Gen.Kernel4Ideal.Skeleton
public import proofs.«01_k».proof.Proof.FfnBlk

@[expose] public section

noncomputable section

namespace Cert.Kernel4Ideal.Half

open Cert.Kernel4Ideal Cert.Kernel4Ideal.Gen Idealize.ShloMosaic Idealize.ShloMosaic.TcCoe
open Cert.Kernel3Ideal.Ffn (Blk)

variable {F : FTy → Type} [FloatOps F] (b : Blk F)

/-- The cotangent of the half's output. -/
def dy := k0_pay13 b.gate b.xo
/-- The tile of this half's part of the cotangent of the modulated rows. -/
def dhT (w : Vec F S1024x2816 .bf16) := k0_pay19 (dy b) b.g b.u b.wo w
/-- The running gradients of the gate and up columns and of the down rows after the point. -/
def accgu (p : Vec F S1024x2816 .f32) := k0_pay1 p (k0_pay21 (k0_pay12 b.gn b.sc b.sh b.x) (dy b) b.g b.u b.wo)
def accw (p : Vec F S1408x1024 .f32) := k0_pay20 b.xo b.g b.u p
/-- The down rows' gradient and the gate's row after the last point. -/
def wLast (p : Vec F S1408x1024 .f32) := k0_pay5 (k0_pay11 b.gate) (accw b p)
def vecLast (v : Vec F S8x1024 .f32) (p : Vec F S1408x1024 .f32) : Vec F S8x1024 .f32 :=
  VecWindow.put v ![2, 0] S1x1024.size (k0_pay4 (accw b p) (Blk.row v 2 inb_S8x1024_S1x1024_2_0) b.wo)

/-- The pieces of the two weight gradients, as the last point stores them. -/
def dwinOf (e : Vec F S2x512x1408 .f32) (g : Vec F S1024x2816 .f32) : Vec F S2x512x1408 .f32 :=
  VecWindow.put (VecWindow.put e ![0, 0, 0] S1x512x1408.size
      (k0_pay6 (View.ld g (Rect.unit (s := S1024x2816) ![0, 0] S512x1408.size inb_S1024x2816_S512x1408_0_0))))
    ![1, 0, 0] S1x512x1408.size (k0_pay7 (View.ld g (Rect.unit (s := S1024x2816) ![0, 1408] S512x1408.size inb_S1024x2816_S512x1408_0_1408)))
def dwoutOf (e : Vec F S2x352x1024 .f32) (w : Vec F S1408x1024 .f32) : Vec F S2x352x1024 .f32 :=
  VecWindow.put (VecWindow.put e ![0, 0, 0] S1x352x1024.size
      (k0_pay2 (View.ld w (Rect.unit (s := S1408x1024) ![0, 0] S352x1024.size inb_S1408x1024_S352x1024_0_0))))
    ![1, 0, 0] S1x352x1024.size (k0_pay3 (View.ld w (Rect.unit (s := S1408x1024) ![704, 0] S352x1024.size inb_S1408x1024_S352x1024_704_0)))

end Cert.Kernel4Ideal.Half

end
-- ==== Proof.HalfOut.lean ====
/-
  The results of the feed-forward backward's first pass, each an array over the reals.
-/
module

public import proofs.«01_k».proof.Proof.HalfBlk
public import proofs.«01_k».proof.Proof.FfnOut

@[expose] public section

noncomputable section

namespace Cert.Kernel4Ideal.Half

open Cert.Kernel4Ideal Cert.Kernel4Ideal.Gen Idealize.ShloMosaic Idealize.ShloMosaic.TcCoe Cert.FfnMath

def G6 (D : In) : Vec Ideal S8192x1024 .f32 := fun i => (D.dhp 0 (i 0) (i 1) : EReal)
def G7 (D : In) : Vec Ideal S2x512x1408 .f32 := fun i => (D.rGu 0 (i 0) (i 1) (i 2) : EReal)
def G8 (D : In) : Vec Ideal S2x352x1024 .f32 := fun i => (D.rWd 0 (i 0) (i 1) (i 2) : EReal)
def G9 (D : In) : Vec Ideal S8x1024 .f32 := fun i => (D.rV0 (i 0) (i 1) : EReal)

end Cert.Kernel4Ideal.Half

end
-- ==== Proof.HalfRef.lean ====
/-
  The reference of the feed-forward backward's first pass, over the reals: its stages at an index when the arguments hold
  real numbers.
-/
module

public import proofs.«01_k».proof.Proof.HalfOut
public import proofs.«01_k».proof.Proof.FfnTile
public import proofs.«01_k».proof.Proof.MixFinal
public import proofs.«01_k».proof.Proof.Gen.Reference4Ideal.Read

@[expose] public section

noncomputable section

namespace Cert.Reference4Ideal.Half

open Cert.Reference4Ideal Cert.Reference4Ideal.Read Idealize.ShloMosaic Idealize.ShloMosaic.TcCoe Cert.RealKit Cert.HeadMath Cert.FfnMath
open Cert.Kernel3Ideal.Ffn (div1024 rs_msq)
open Cert.Kernel4Ideal.Half (G6 G7 G8 G9)
open Cert.KernelIdeal.Head (eta2)
open Cert.Kernel2Ideal.Mix (eta3)

/-- The arguments hold the numbers of `D`. -/
structure RArgs (D : In) (x0 x1 : Vec Ideal S8192x1024 .f32) (x2 x3 x4 x5 : Vec Ideal S1x1024 .f32) (x6 : Vec Ideal S1024x5632 .f32)
    (x7 : Vec Ideal S2816x1024 .f32) : Prop where
  x : ∀ r d, x0 (ix2 r d) = (D.x r d : EReal)
  dxo : ∀ r d, x1 (ix2 r d) = (D.dxo r d : EReal)
  sh : ∀ d, x2 (ix2 (0 : Fin 1) d) = (D.sh d : EReal)
  sc : ∀ d, x3 (ix2 (0 : Fin 1) d) = (D.sc d : EReal)
  ga : ∀ d, x4 (ix2 (0 : Fin 1) d) = (D.ga d : EReal)
  gn : ∀ d, x5 (ix2 (0 : Fin 1) d) = (D.gn d : EReal)
  win : ∀ d k, x6 (ix2 d k) = (D.win d k : EReal)
  wout : ∀ k d, x7 (ix2 k d) = (D.wout k d : EReal)

variable {D : In} {x0 x1 : Vec Ideal S8192x1024 .f32} {x2 x3 x4 x5 : Vec Ideal S1x1024 .f32} {x6 : Vec Ideal S1024x5632 .f32}
  {x7 : Vec Ideal S2816x1024 .f32}

variable (H : RArgs D x0 x1 x2 x3 x4 x5 x6 x7)
include H

theorem wg18 (d : Fin 1024) (k : Fin 1408) : val_main_v18 x6 (ix2 d k) = (D.wg 0 d k : EReal) := by
  rw [val_main_v18_apply]
  refine Eq.trans (congrArg x6 ?_) (H.win d ⟨1408 * 0 + k.val, by omega⟩)
  refine funext fun a => Fin.ext ?_
  match a with
  | ⟨0, _⟩ => rfl
  | ⟨1, _⟩ => show k.val = 1408 * 0 + k.val; omega
theorem wu19 (d : Fin 1024) (k : Fin 1408) : val_main_v19 x6 (ix2 d k) = (D.wu 0 d k : EReal) := by
  rw [val_main_v19_apply]
  refine Eq.trans (congrArg x6 ?_) (H.win d ⟨2816 + (1408 * 0 + k.val), by omega⟩)
  refine funext fun a => Fin.ext ?_
  match a with
  | ⟨0, _⟩ => rfl
  | ⟨1, _⟩ => show 2816 + k.val = 2816 + (1408 * 0 + k.val); omega
theorem wd20 (k : Fin 1408) (d : Fin 1024) : val_main_v20 x7 (ix2 k d) = (D.wd 0 k d : EReal) := by
  rw [val_main_v20_apply]
  refine Eq.trans (congrArg x7 ?_) (H.wout (hc 0 k) d)
  refine funext fun a => Fin.ext ?_
  match a with
  | ⟨0, _⟩ => show k.val = 1408 * 0 + k.val; omega
  | ⟨1, _⟩ => rfl
theorem rn7 (s : Fin 8192) : val_main_v7 x0 (ix2 s (0 : Fin 1)) = (rn (D.x s) : EReal) := by
  pointwise [val_main_v7, val_main_v6, val_main_v4, val_main_v5, val_main_v2, val_main_v3, val_main_cst_1, val_main_v1, val_main_cst_0, val_main_v0, val_main_cst]
  simp only [H.x, c_1024, c_eps, c_zero, ← EReal.coe_mul, coe_sum, div1024, ← EReal.coe_add, rs_msq]
theorem xn9 (s : Fin 8192) (d : Fin 1024) : val_main_v9 x0 (ix2 s d) = (D.xn s d : EReal) := by
  pointwise [val_main_v9, val_main_v8]
  simp only [rn7 H, H.x, ← EReal.coe_mul]
  rfl
theorem xg11 (s : Fin 8192) (d : Fin 1024) : val_main_v11 x0 x5 (ix2 s d) = (D.xn s d * D.gn d : ℝ) := by
  pointwise [val_main_v11, val_main_v10]
  simp only [xn9 H, H.gn, ← EReal.coe_mul]
theorem sc13 (d : Fin 1024) : val_main_v13 x3 (ix2 (0 : Fin 1) d) = (1 + D.sc d : ℝ) := by
  pointwise [val_main_v13, val_main_v12, val_main_cst_2]
  simp only [H.sc, ← EReal.coe_one, ← EReal.coe_add]
theorem h17 (s : Fin 8192) (d : Fin 1024) : val_main_v17 x0 x2 x3 x5 (ix2 s d) = (D.h s d : EReal) := by
  pointwise [val_main_v17, val_main_v16, val_main_v15, val_main_v14]
  simp only [xg11 H, sc13 H, H.sh, ← EReal.coe_mul, ← EReal.coe_add]
  rfl
theorem ga22 (d : Fin 1024) : val_main_v22 x4 (ix2 (0 : Fin 1) d) = (1 / 2 * D.ga d : ℝ) := by
  pointwise [val_main_v22, val_main_v21, val_main_cst_3]
  simp only [H.ga, c_half, ← EReal.coe_mul]
theorem g23 (s : Fin 8192) (k : Fin 1408) : val_main_v23 x0 x2 x3 x5 x6 (ix2 s k) = (D.g 0 s k : EReal) := by
  pointwise [val_main_v23]
  simp only [h17 H, wg18 H, ← EReal.coe_mul, coe_sum]
  rfl
theorem u25 (s : Fin 8192) (k : Fin 1408) : val_main_v25 x0 x2 x3 x5 x6 (ix2 s k) = (D.u 0 s k : EReal) := by
  pointwise [val_main_v25]
  simp only [h17 H, wu19 H, ← EReal.coe_mul, coe_sum]
  rfl
theorem sg24 (s : Fin 8192) (k : Fin 1408) : val_main_v24_2 x0 x2 x3 x5 x6 (ix2 s k) = (sg (D.g 0 s k) : EReal) := by
  pointwise [val_main_v24_2, val_main_call0_v0, val_main_call0_v1, val_main_call0_cst, val_main_call0_v2, val_main_call0_v3, val_main_call0_cst_0, val_main_call0_v4]
  simp only [g23 H, ← EReal.coe_neg, Ideal.exp_coe, ← EReal.coe_one, ← EReal.coe_add]
  rw [div_real (by positivity), one_div]
  rfl
theorem sl24 (s : Fin 8192) (k : Fin 1408) : val_main_v24_0 x0 x2 x3 x5 x6 (ix2 s k) = (D.g 0 s k * sg (D.g 0 s k) : ℝ) := by
  pointwise [val_main_v24_0]
  simp only [g23 H, sg24 H, ← EReal.coe_mul]
theorem ds24 (s : Fin 8192) (k : Fin 1408) : val_main_v24_1 x0 x2 x3 x5 x6 (ix2 s k) = (sg (D.g 0 s k) * (1 - sg (D.g 0 s k)) : ℝ) := by
  pointwise [val_main_v24_1, val_main_call0_v7, val_main_call0_v6, val_main_call0_cst_1]
  simp only [sg24 H, ← EReal.coe_one, ← EReal.coe_sub, ← EReal.coe_mul]
theorem a26 (s : Fin 8192) (k : Fin 1408) : val_main_v26 x0 x2 x3 x5 x6 (ix2 s k) = (D.a 0 s k : EReal) := by
  pointwise [val_main_v26]
  simp only [sl24 H, u25 H, ← EReal.coe_mul]
  rfl
theorem dy31 (s : Fin 8192) (d : Fin 1024) : val_main_v31 x1 x4 (ix2 s d) = (D.dy s d : EReal) := by
  pointwise [val_main_v31, val_main_v30]
  simp only [ga22 H]
  rw [H.dxo, ← EReal.coe_mul, mul_comm]
  rfl
theorem dga49 (d : Fin 1024) : val_main_v49 x0 x1 x2 x3 x5 x6 x7 (ix2 (0 : Fin 1) d) = (D.dga 0 d : EReal) := by
  pointwise [val_main_v49, val_main_v48, val_main_cst_5, val_main_v34, val_main_v33, val_main_cst_4, val_main_v32, val_main_v27]
  simp only [H.dxo, a26 H, wd20 H, c_half, ← EReal.coe_mul, coe_sum]
  refine congrArg _ (congrArg _ ?_)
  simp only [In.dw, Finset.mul_sum]
  rw [Finset.sum_comm]
  exact Finset.sum_congr rfl fun k _ => Finset.sum_congr rfl fun s _ => by ring
theorem dwd36 (k : Fin 1408) (d : Fin 1024) : val_main_v36 x0 x1 x2 x3 x4 x5 x6 (ix2 k d) = (D.dwd 0 k d : EReal) := by
  pointwise [val_main_v36, val_main_v35]
  simp only [dy31 H, a26 H, ← EReal.coe_mul, coe_sum]
  refine congrArg _ ?_
  unfold In.dwd In.dw In.dy
  rw [Finset.sum_mul]
  exact Finset.sum_congr rfl fun s _ => by ring
theorem da37 (s : Fin 8192) (k : Fin 1408) : val_main_v37 x1 x4 x7 (ix2 s k) = (D.da 0 s k : EReal) := by
  pointwise [val_main_v37]
  simp only [dy31 H, wd20 H, ← EReal.coe_mul, coe_sum]
  rfl
theorem du38 (s : Fin 8192) (k : Fin 1408) : val_main_v38 x0 x1 x2 x3 x4 x5 x6 x7 (ix2 s k) = (D.du 0 s k : EReal) := by
  pointwise [val_main_v38]
  simp only [sl24 H, da37 H, ← EReal.coe_mul]
  exact congrArg _ (mul_comm _ _)
theorem dg43 (s : Fin 8192) (k : Fin 1408) : val_main_v43 x0 x1 x2 x3 x4 x5 x6 x7 (ix2 s k) = (D.dg 0 s k : EReal) := by
  pointwise [val_main_v43, val_main_call1_v0, val_main_call1_v1, val_main_call1_v2, val_main_v39]
  simp only [g23 H, sg24 H, ds24 H, da37 H, u25 H, ← EReal.coe_mul, ← EReal.coe_add]
  refine congrArg _ ?_
  unfold In.dg
  ring
theorem dwu41 (d : Fin 1024) (k : Fin 1408) : val_main_v41 x0 x1 x2 x3 x4 x5 x6 x7 (ix2 d k) = (∑ s, D.h s d * D.du 0 s k : ℝ) := by
  pointwise [val_main_v41, val_main_v40]
  simp only [du38 H, h17 H, ← EReal.coe_mul, coe_sum]
  exact congrArg _ (Finset.sum_congr rfl fun s _ => mul_comm _ _)
theorem dwg45 (d : Fin 1024) (k : Fin 1408) : val_main_v45 x0 x1 x2 x3 x4 x5 x6 x7 (ix2 d k) = (∑ s, D.h s d * D.dg 0 s k : ℝ) := by
  pointwise [val_main_v45, val_main_v44]
  simp only [dg43 H, h17 H, ← EReal.coe_mul, coe_sum]
  exact congrArg _ (Finset.sum_congr rfl fun s _ => mul_comm _ _)
theorem dhp47 (s : Fin 8192) (d : Fin 1024) : val_main_v47 x0 x1 x2 x3 x4 x5 x6 x7 (ix2 s d) = (D.dhp 0 s d : EReal) := by
  pointwise [val_main_v47, val_main_v46, val_main_v42]
  simp only [dg43 H, du38 H, wg18 H, wu19 H, ← EReal.coe_mul, coe_sum, ← EReal.coe_add]
  refine congrArg _ ?_
  unfold In.dhp In.dgu In.wgu
  rw [sum_beside, add_comm]
theorem dwin54 (p : Fin 2) (d : Fin 512) (k : Fin 1408) : val_main_v54 x0 x1 x2 x3 x4 x5 x6 x7 (ix3 p d k) = (D.rGu 0 p d k : EReal) := by
  have e0 := dwg45 H ⟨d.val, by omega⟩ k
  have e1 := dwu41 H ⟨d.val, by omega⟩ k
  unfold In.rGu In.dwgu In.dgu
  fin_cases p
  · pointwise [val_main_v54, val_main_v52, val_main_v50]
    refine e0.trans (congrArg _ (Finset.sum_congr rfl fun s _ => congrArg _ ?_))
    exact (beside_lo _ _ k (by omega)).symm.trans (congrArg _ (Fin.ext (by simp)))
  · pointwise [val_main_v54, val_main_v53, val_main_v51]
    refine e1.trans (congrArg _ (Finset.sum_congr rfl fun s _ => congrArg _ ?_))
    exact (beside_hi _ _ k (by omega)).symm.trans (congrArg _ (Fin.ext (by simp)))
theorem dwout59 (p : Fin 2) (k : Fin 352) (d : Fin 1024) : val_main_v59 x0 x1 x2 x3 x4 x5 x6 (ix3 p k d) = (D.rWd 0 p k d : EReal) := by
  have e := dwd36 H ⟨704 * p.val + k.val, by omega⟩ d
  unfold In.rWd
  rw [← e]
  fin_cases p
  · pointwise [val_main_v59, val_main_v57, val_main_v55]
  · pointwise [val_main_v59, val_main_v58, val_main_v56]
/-- The gate's gradient is the third row, zeros around it. -/
theorem vec62 (i : Fin 8) (d : Fin 1024) : val_main_v62 x0 x1 x2 x3 x5 x6 x7 (ix2 i d) = (D.rV0 i d : EReal) := by
  have h2 := dga49 H d
  fin_cases i
  · pointwise [val_main_v62, val_main_v60, val_main_cst_6]; rfl
  · pointwise [val_main_v62, val_main_v60, val_main_cst_6]; rfl
  · pointwise [val_main_v62]; exact h2
  · pointwise [val_main_v62, val_main_v61, val_main_cst_7]; rfl
  · pointwise [val_main_v62, val_main_v61, val_main_cst_7]; rfl
  · pointwise [val_main_v62, val_main_v61, val_main_cst_7]; rfl
  · pointwise [val_main_v62, val_main_v61, val_main_cst_7]; rfl
  · pointwise [val_main_v62, val_main_v61, val_main_cst_7]; rfl

/-- The four results as arrays. -/
theorem out47 : val_main_v47 x0 x1 x2 x3 x4 x5 x6 x7 = G6 D := funext fun i => (congrArg _ (eta2 i)).trans (dhp47 H (i 0) (i 1))
theorem out54 : val_main_v54 x0 x1 x2 x3 x4 x5 x6 x7 = G7 D := funext fun i => (congrArg _ (eta3 i)).trans (dwin54 H (i 0) (i 1) (i 2))
theorem out59 : val_main_v59 x0 x1 x2 x3 x4 x5 x6 = G8 D := funext fun i => (congrArg _ (eta3 i)).trans (dwout59 H (i 0) (i 1) (i 2))
theorem out62 : val_main_v62 x0 x1 x2 x3 x5 x6 x7 = G9 D := funext fun i => (congrArg _ (eta2 i)).trans (vec62 H (i 0) (i 1))

end Cert.Reference4Ideal.Half

end
-- ==== Proof.HalfRun.lean ====
/-
  What the feed-forward backward's first pass leaves in each of its buffers after each point of its grid, as the payloads of
  its body over the blocks the point reads.
-/
module

public import proofs.«01_k».proof.Proof.Gen.Kernel4Ideal.Value
public import proofs.«01_k».proof.Proof.HalfBlk
public import proofs.«01_k».proof.Proof.MixKit
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel4Ideal.Half

open Cert.Kernel4Ideal Cert.Kernel4Ideal.Gen Idealize.ShloMosaic Idealize.ShloMosaic.TcCoe Idealize.SL.Sem
open Idealize.ShloMosaic.Pipeline (Dat)
open Cert.Kernel3Ideal.Ffn (Blk)
open Cert.Kernel2Ideal.Mix (hz2 hz3 read_put cov_ld ld_put_same ld_put_ne put_whole)

variable {F : FTy → Type} [FloatOps F]

variable (m : (ℓ : Loc nD τ sig) → Buf (Elt F) ℓ) (c : Dev nD) (t : Fin cfg0.N)

/-- The blocks point `t` reads; it reads no tile of another half's cotangent, and `dh` is not used. -/
def blk : Blk F where
  x := iblk m c 0 t
  xo := iblk m c 1 t
  dh := iblk m c 1 t
  g := iblk m c 2 t
  u := iblk m c 3 t
  md := iblk m c 4 t
  wo := iblk m c 5 t

/-- The contents after the point before. -/
abbrev prev := outsAt0 m c (t.val - 1) (Nat.lt_of_le_of_lt (Nat.sub_le _ _) t.isLt)

theorem read0 (x : Vec F S1024x2816 .f32) : View.read (Elt F) (View.whole cc0_scratch0) ((Memref.isWhole_whole cc0_scratch0).unread x) = x :=
  (Memref.isWhole_whole cc0_scratch0).read_unread x
theorem read1 (x : Vec F S1408x1024 .f32) : View.read (Elt F) (View.whole cc0_scratch1) ((Memref.isWhole_whole cc0_scratch1).unread x) = x :=
  (Memref.isWhole_whole cc0_scratch1).read_unread x
theorem read2 (x : Vec F S1024x2816 .bf16) : View.read (Elt F) (View.whole cc0_scratch2) ((Memref.isWhole_whole cc0_scratch2).unread x) = x :=
  (Memref.isWhole_whole cc0_scratch2).read_unread x

section
variable {α : Type}
theorem putw_tile (x w : S512x1024.Idx → α) : VecWindow.put x ![0, 0] ![512, 1024] w = w := put_whole hz2 w
theorem putw_gu (x w : S1024x2816.Idx → α) : VecWindow.put x ![0, 0] ![1024, 2816] w = w := put_whole hz2 w
theorem putw_w (x w : S1408x1024.Idx → α) : VecWindow.put x ![0, 0] ![1408, 1024] w = w := put_whole hz2 w
theorem putw_vec (x w : S8x1024.Idx → α) : VecWindow.put x ![0, 0] ![8, 1024] w = w := put_whole hz2 w
end

/-- The slot of the first weight the body copies from the host's array. -/
def wslot (x : Vec F S2x1024x2816 .bf16) : Vec F S1024x2816 .bf16 := fun i => x (ix3 0 (i 0) (i 1))

/-- The scratch the first point copied the host's slot into reads back as that slot. -/
theorem fillw (x : Buf (Elt F) ((c : Thread nD τ).loc main_v34)) (f : (View.ty (Memref.view scM0_2)).Contents (Elt F)) (q) :
    View.read (Elt F) scM0_2.view (scM0_2.view.writes (Elt F) f [⟨Rect.whole S1024x2816, ReadAs.same.apply (View.read (Elt F)
      (((Memref.whole main_v34).slice (Rect.unit ![0, 0, 0] S1x1024x2816.size inb_S2x1024x2816_S1x1024x2816_0_0_0) q).squeeze
        S1024x2816 squeezes_S1x1024x2816_S1024x2816).view x)⟩]) = wslot x := by
  funext y
  have h := View.read_writes_cons_emb (Val := Elt F) scM0_2.view f (Rect.whole S1024x2816)
    (ReadAs.same.apply (View.read (Elt F)
      (((Memref.whole main_v34).slice (Rect.unit ![0, 0, 0] S1x1024x2816.size inb_S2x1024x2816_S1x1024x2816_0_0_0) q).squeeze
        S1024x2816 squeezes_S1x1024x2816_S1024x2816).view x)) [] y
  rw [Rect.emb_whole_apply] at h
  refine h.trans ?_
  refine (shapeCast_dropUnit_apply ![1024, 2816] (fun z => (x : Vec F S2x1024x2816 .bf16)
    ((Rect.unit (s := S2x1024x2816) ![0, 0, 0] S1x1024x2816.size inb_S2x1024x2816_S1x1024x2816_0_0_0).emb z))
    squeezes_S1x1024x2816_S1024x2816.numel_eq y).trans ?_
  refine congrArg (x : Vec F S2x1024x2816 .bf16) (funext fun a => Fin.ext ?_)
  match a with
  | ⟨0, _⟩ => rfl
  | ⟨1, _⟩ => exact (show 0 + 1 * (y 0).val = (y 0).val by omega)
  | ⟨2, _⟩ => exact (show 0 + 1 * (y 1).val = (y 1).val by omega)

set_option maxHeartbeats 4000000 in
/-- The contents after the first point. -/
theorem at_A (h0 : t.val % 16 = 0) (h1 : ¬t.val % 16 = 15) : ∃ e1 e2, outsAt0 m c t.val t.isLt = (dhT (blk m c t) (wslot (V m c main_v34)), e1, e2, k0_pay10, accgu (blk m c t) k0_pay8,
      accw (blk m c t) k0_pay9, wslot (V m c main_v34)) := by
  refine ⟨?e0, ?e1, ?main⟩
  case main =>
  refine (outsAt0_A m c t h0 h1).trans ?_
  unfold out0_A_6 out0_A_7 out0_A_8 out0_A_9 sout0_A_0 sout0_A_1 sout0_A_2
  unfold kernelRun0_A
  dsimp only
  sl_unfold_words
  simp (disch := decide) only [cov_ld, View.readAt_eq_ld, Memref.IsWhole.read_unread, read0, read1, read2, fillw c, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, dy, dhT, accgu, accw, blk]
  iterate 6 refine congrArg₂ Prod.mk (by first | with_reducible rfl | exact putw_tile _ _ | exact putw_gu _ _ | exact putw_w _ _ | rfl) ?_
  rfl

set_option maxHeartbeats 4000000 in
/-- The contents after the middle points. -/
theorem at_B (h0 : ¬t.val % 16 = 0) (h1 : ¬t.val % 16 = 15) : ∃ e1 e2, outsAt0 m c t.val t.isLt = (dhT (blk m c t) (prev m c t).2.2.2.2.2.2, e1, e2, (prev m c t).2.2.2.1,
      accgu (blk m c t) (prev m c t).2.2.2.2.1, accw (blk m c t) (prev m c t).2.2.2.2.2.1, (prev m c t).2.2.2.2.2.2) := by
  refine ⟨?e0, ?e1, ?main⟩
  case main =>
  refine (outsAt0_B m c t h0 h1).trans ?_
  unfold out0_B_6 out0_B_7 out0_B_8 out0_B_9 sout0_B_0 sout0_B_1 sout0_B_2
  unfold kernelRun0_B
  dsimp only
  sl_unfold_words
  simp (disch := decide) only [cov_ld, View.readAt_eq_ld, Memref.IsWhole.read_unread, read0, read1, read2, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, dy, dhT, accgu, accw, blk]
  iterate 6 refine congrArg₂ Prod.mk (by first | with_reducible rfl | exact putw_tile _ _ | exact putw_gu _ _ | exact putw_w _ _ | rfl) ?_
  rfl

set_option maxHeartbeats 4000000 in
/-- The contents after the last point. -/
theorem at_C (h0 : ¬t.val % 16 = 0) (h1 : t.val % 16 = 15) : ∃ e1 e2, outsAt0 m c t.val t.isLt = (dhT (blk m c t) (prev m c t).2.2.2.2.2.2,
      dwinOf e1 (accgu (blk m c t) (prev m c t).2.2.2.2.1), dwoutOf e2 (wLast (blk m c t) (prev m c t).2.2.2.2.2.1),
      vecLast (blk m c t) (prev m c t).2.2.2.1 (prev m c t).2.2.2.2.2.1, accgu (blk m c t) (prev m c t).2.2.2.2.1,
      wLast (blk m c t) (prev m c t).2.2.2.2.2.1, (prev m c t).2.2.2.2.2.2) := by
  refine ⟨?e0, ?e1, ?main⟩
  case main =>
  refine (outsAt0_C m c t h0 h1).trans ?_
  unfold out0_C_6 out0_C_7 out0_C_8 out0_C_9 sout0_C_0 sout0_C_1 sout0_C_2
  unfold kernelRun0_C
  dsimp only
  sl_unfold_words
  simp (disch := decide) only [cov_ld, View.readAt_eq_ld, Memref.IsWhole.read_unread, read0, read1, read2, read_put, View.writes_nil, ld_put_same, ld_put_ne,
    View.ld_unit_zero (S := S512x1024) hz2, View.ld_unit_zero (S := S512x1408) hz2, View.ld_unit_zero (S := S1024x2816) hz2,
    View.ld_unit_zero (S := S1408x1024) hz2, View.ld_unit_zero (S := S1x1408x1024) hz3, putw_tile, putw_gu, putw_w, putw_vec]
  simp only [Blk.sh, Blk.sc, Blk.gate, Blk.gn, dy, dhT, accgu, accw, vecLast, wLast, dwinOf, dwoutOf, blk]
  iterate 6 refine congrArg₂ Prod.mk (by first | with_reducible rfl | exact putw_tile _ _ | exact putw_gu _ _ | exact putw_w _ _ | rfl) ?_
  rfl

end Cert.Kernel4Ideal.Half
-- ==== Proof.HalfHost.lean ====
/-
  The arrays the host hands the feed-forward backward's first pass, read at an index from its arguments.
-/
module

public import proofs.«01_k».proof.Proof.Gen.Kernel4Ideal.Frame.Runs
public import proofs.«01_k».proof.Proof.FfnTile
public import Idealize.ShloMosaic.Lib.StableHlo.ReadAt

@[expose] public section

noncomputable section

namespace Cert.Kernel4Ideal.Half

open Cert.Kernel4Ideal Cert.Kernel4Ideal.Gen Idealize.ShloMosaic Idealize.ShloMosaic.TcCoe Cert.RealKit Cert.HeadMath Cert.FfnMath
open Cert.Kernel3Ideal.Ffn (div1024 rs_msq)

/-- The arguments hold real numbers; the pass reads no other half's cotangent, and the model's `dh` is not used. -/
structure Args (m : (ℓ : Loc nD τ sig) → Buf (Elt Ideal) ℓ) (c : Dev nD) (D : In) : Prop where
  x : ∀ r d, (m ((c : Thread nD τ).loc main_arg0) : Vec Ideal S8192x1024 .f32) (ix2 r d) = (D.x r d : EReal)
  dxo : ∀ r d, (m ((c : Thread nD τ).loc main_arg1) : Vec Ideal S8192x1024 .f32) (ix2 r d) = (D.dxo r d : EReal)
  dh : ∀ r d, D.dh r d = D.dxo r d
  sh : ∀ d, (m ((c : Thread nD τ).loc main_arg2) : Vec Ideal S1x1024 .f32) (ix2 (0 : Fin 1) d) = (D.sh d : EReal)
  sc : ∀ d, (m ((c : Thread nD τ).loc main_arg3) : Vec Ideal S1x1024 .f32) (ix2 (0 : Fin 1) d) = (D.sc d : EReal)
  ga : ∀ d, (m ((c : Thread nD τ).loc main_arg4) : Vec Ideal S1x1024 .f32) (ix2 (0 : Fin 1) d) = (D.ga d : EReal)
  gn : ∀ d, (m ((c : Thread nD τ).loc main_arg5) : Vec Ideal S1x1024 .f32) (ix2 (0 : Fin 1) d) = (D.gn d : EReal)
  win : ∀ d k, (m ((c : Thread nD τ).loc main_arg6) : Vec Ideal S1024x5632 .f32) (ix2 d k) = (D.win d k : EReal)
  wout : ∀ k d, (m ((c : Thread nD τ).loc main_arg7) : Vec Ideal S2816x1024 .f32) (ix2 k d) = (D.wout k d : EReal)

variable {m : (ℓ : Loc nD τ sig) → Buf (Elt Ideal) ℓ} {c : Dev nD} {D : In} (H : Args m c D)
include H

theorem V_sh (d : Fin 1024) : (V m c main_v24 : Vec Ideal S8x1024 .f32) (ix2 0 d) = (D.sh d : EReal) := by
  rw [← H.sh]; unfold V; after_reads_at
theorem V_sc (d : Fin 1024) : (V m c main_v24 : Vec Ideal S8x1024 .f32) (ix2 1 d) = (D.sc d : EReal) := by
  rw [← H.sc]; unfold V; after_reads_at
theorem V_ga (d : Fin 1024) : (V m c main_v24 : Vec Ideal S8x1024 .f32) (ix2 2 d) = (D.ga d : EReal) := by
  rw [← H.ga]; unfold V; after_reads_at
theorem V_gn (d : Fin 1024) : (V m c main_v24 : Vec Ideal S8x1024 .f32) (ix2 3 d) = (D.gn d : EReal) := by
  rw [← H.gn]; unfold V; after_reads_at

theorem V_proj (r : Fin 8192) (k : Fin 5632) : (V m c main_v18 : Vec Ideal S8192x5632 .f32) (ix2 r k) = ((∑ d, D.h r d * D.win d k : ℝ) : EReal) := by
  have hx := H.x
  have hsh := H.sh
  have hsc := H.sc
  have hgn := H.gn
  have hw := H.win
  unfold V; after_reads_at
  dsimp only [Thread.loc] at hx hsh hsc hgn hw
  simp only [hx, hsh, hsc, hgn, hw, c_1024, c_eps, ← EReal.coe_one, ← EReal.coe_mul, coe_sum, div1024, ← EReal.coe_add, rs_msq]
  rfl
theorem V_g (r : Fin 8192) (k : Fin 2816) :
    (V m c main_v20 : Vec Ideal S8192x2816 .bf16) (ix2 r k) = ((∑ d, D.h r d * D.win d ⟨k.val, by omega⟩ : ℝ) : EReal) := by
  refine Eq.trans ?_ (V_proj H r ⟨k.val, by omega⟩)
  unfold V; after_reads_at
theorem V_u (r : Fin 8192) (k : Fin 2816) :
    (V m c main_v22 : Vec Ideal S8192x2816 .bf16) (ix2 r k) = ((∑ d, D.h r d * D.win d ⟨2816 + k.val, by omega⟩ : ℝ) : EReal) := by
  refine Eq.trans ?_ (V_proj H r ⟨2816 + k.val, by omega⟩)
  unfold V; after_reads_at

theorem V_win (j : Fin 2) (d : Fin 1024) (k : Fin 2816) : (V m c main_v34 : Vec Ideal S2x1024x2816 .bf16) (ix3 j d k) = (D.wgu j d k : EReal) := by
  have hw := H.win
  unfold In.wgu beside In.wg In.wu
  by_cases h : k.val < 1408
  · rw [dif_pos h, ← hw]
    unfold V
    fin_cases j <;> after_reads_at <;> after_reads_at <;> rw [dif_pos h] <;> after_reads_at <;>
      exact congrArg (fun i => (m ((c : Thread nD τ).loc main_arg6) : Vec Ideal S1024x5632 .f32) (ix2 d i)) (Fin.ext (by simp only []; omega))
  · rw [dif_neg h, ← hw]
    unfold V
    fin_cases j <;> after_reads_at <;> after_reads_at <;> rw [dif_neg h] <;> after_reads_at <;>
      exact congrArg (fun i => (m ((c : Thread nD τ).loc main_arg6) : Vec Ideal S1024x5632 .f32) (ix2 d i)) (Fin.ext (by simp only []; omega))
theorem V_wout (j : Fin 2) (k : Fin 1408) (d : Fin 1024) : (V m c main_v36 : Vec Ideal S2x1408x1024 .bf16) (ix3 j k d) = (D.wd j k d : EReal) := by
  have hw := H.wout
  unfold In.wd hc
  rw [← hw]
  unfold V; after_reads_at
  exact congrArg (fun i => (m ((c : Thread nD τ).loc main_arg7) : Vec Ideal S2816x1024 .f32) (ix2 i d)) (Fin.ext (by simp only []; omega))

end Cert.Kernel4Ideal.Half
-- ==== Proof.HalfPt.lean ====
/-
  The points of the feed-forward backward's first pass: the tile each handles, and the blocks it reads.
-/
module

public import proofs.«01_k».proof.Proof.HalfRun
public import proofs.«01_k».proof.Proof.HalfHost

@[expose] public section

noncomputable section

namespace Cert.Kernel4Ideal.Half

open Cert.Kernel4Ideal Cert.Kernel4Ideal.Gen Idealize.ShloMosaic Idealize.ShloMosaic.TcCoe Cert.RealKit Cert.HeadMath Cert.FfnMath
open Cert.MixMath (row)
open Cert.Kernel3Ideal.Ffn (Rd)

theorem t_lt (t : Fin cfg0.N) : t.val < 16 := lt_of_lt_of_eq t.isLt (show cfg0.N = 16 from N_0)
/-- The tile of rows a point handles. -/
def tl (t : Fin cfg0.N) : Fin 16 := ⟨t.val, t_lt t⟩

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx6 : ∀ t : Fin cfg0.N, win0_6.index t 0 = t.val ∧ win0_6.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = 0 := by decide +kernel

variable {m : (ℓ : Loc nD τ sig) → Buf (Elt Ideal) ℓ} {c : Dev nD} (t : Fin cfg0.N)

theorem blk0 (r : Fin 512) (d : Fin 1024) : (iblk m c 0 t : Vec Ideal S512x1024 .f32) (ix2 r d) = (V m c main_arg0 : Vec Ideal S8192x1024 .f32) (ix2 (row (tl t) r) d) := by
  refine congrArg (V m c main_arg0 : Vec Ideal S8192x1024 .f32) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega
theorem blk1 (r : Fin 512) (d : Fin 1024) : (iblk m c 1 t : Vec Ideal S512x1024 .f32) (ix2 r d) = (V m c main_arg1 : Vec Ideal S8192x1024 .f32) (ix2 (row (tl t) r) d) := by
  refine congrArg (V m c main_arg1 : Vec Ideal S8192x1024 .f32) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * d.val = d.val; rw [(idx1 t).2]; omega
theorem blk2 (r : Fin 512) (k : Fin 1408) : (iblk m c 2 t : Vec Ideal S512x1408 .bf16) (ix2 r k) = (V m c main_v20 : Vec Ideal S8192x2816 .bf16) (ix2 (row (tl t) r) (hc 0 k)) := by
  refine congrArg (V m c main_v20 : Vec Ideal S8192x2816 .bf16) (funext fun a => Fin.ext ?_)
  match a with
  | ⟨0, _⟩ => show win0_2.index t 0 * 512 + 1 * r.val = 512 * t.val + r.val; rw [(idx2 t).1]; omega
  | ⟨1, _⟩ => show win0_2.index t 1 * 1408 + 1 * k.val = 1408 * 0 + k.val; rw [(idx2 t).2]; omega
theorem blk3 (r : Fin 512) (k : Fin 1408) : (iblk m c 3 t : Vec Ideal S512x1408 .bf16) (ix2 r k) = (V m c main_v22 : Vec Ideal S8192x2816 .bf16) (ix2 (row (tl t) r) (hc 0 k)) := by
  refine congrArg (V m c main_v22 : Vec Ideal S8192x2816 .bf16) (funext fun a => Fin.ext ?_)
  match a with
  | ⟨0, _⟩ => show win0_3.index t 0 * 512 + 1 * r.val = 512 * t.val + r.val; rw [(idx3 t).1]; omega
  | ⟨1, _⟩ => show win0_3.index t 1 * 1408 + 1 * k.val = 1408 * 0 + k.val; rw [(idx3 t).2]; omega
theorem blk4 (p : Fin 8) (q : Fin 1024) : (iblk m c 4 t : Vec Ideal S8x1024 .f32) (ix2 p q) = (V m c main_v24 : Vec Ideal S8x1024 .f32) (ix2 p q) := by
  refine congrArg (V m c main_v24 : Vec Ideal S8x1024 .f32) (funext fun a => Fin.ext ?_)
  match a with
  | ⟨0, _⟩ => show win0_4.index t 0 * 8 + 1 * p.val = p.val; rw [(idx4 t).1]; omega
  | ⟨1, _⟩ => show win0_4.index t 1 * 1024 + 1 * q.val = q.val; rw [(idx4 t).2]; omega
theorem blk5 (k : Fin 1408) (d : Fin 1024) : (iblk m c 5 t : Vec Ideal S1x1408x1024 .bf16) (ix3 0 k d) = (V m c main_v36 : Vec Ideal S2x1408x1024 .bf16) (ix3 0 k d) := by
  refine congrArg (V m c main_v36 : Vec Ideal S2x1408x1024 .bf16) (funext fun a => Fin.ext ?_)
  match a with
  | ⟨0, _⟩ => show win0_5.index t 0 * 1 + 1 * 0 = 0; rw [(idx5 t).1]
  | ⟨1, _⟩ => show win0_5.index t 1 * 1408 + 1 * k.val = k.val; rw [(idx5 t).2.1]; omega
  | ⟨2, _⟩ => show win0_5.index t 2 * 1024 + 1 * d.val = d.val; rw [(idx5 t).2.2]; omega

set_option maxHeartbeats 8000000 in
/-- What a point reads of arguments that hold real numbers. -/
theorem reads {D : In} (H : Args m c D) : Rd (blk m c t) D 0 (tl t) where
  x r d := (blk0 t r d).trans ((congrFun (V_main_arg0 m c) _).trans (H.x _ d))
  xo r d := (blk1 t r d).trans ((congrFun (V_main_arg1 m c) _).trans (H.dxo _ d))
  dh r d := (blk1 t r d).trans ((congrFun (V_main_arg1 m c) _).trans ((H.dxo _ d).trans (congrArg _ (H.dh _ d).symm)))
  g r k := (blk2 t r k).trans (V_g H _ _)
  u r k := (blk3 t r k).trans (V_u H _ _)
  sh d := (blk4 t 0 d).trans (V_sh H d)
  sc d := (blk4 t 1 d).trans (V_sc H d)
  ga d := (blk4 t 2 d).trans (V_ga H d)
  gn d := (blk4 t 3 d).trans (V_gn H d)
  wo k d := (blk5 t k d).trans (V_wout H 0 k d)

end Cert.Kernel4Ideal.Half

end
-- ==== Proof.HalfPoint.lean ====
/-
  The sums the feed-forward backward's first pass carries from tile to tile.
-/
module

public import proofs.«01_k».proof.Proof.HalfPt
public import proofs.«01_k».proof.Proof.FfnFinal

@[expose] public section

noncomputable section

namespace Cert.Kernel4Ideal.Half

open Cert.Kernel4Ideal Cert.Kernel4Ideal.Gen Idealize.ShloMosaic Idealize.ShloMosaic.TcCoe Cert.RealKit Cert.HeadMath Cert.FfnMath
open Cert.MixMath (row)
open Cert.Kernel3Ideal.Ffn (Blk Rd down down_zero down_succ dgu_at accgu_at accw_at)

section
variable (b : Blk Ideal)
/-- The blocks the two passes compute alike. -/
theorem accgu_eq (p : Vec Ideal S1024x2816 .f32) : accgu b p = b.accgu p := rfl
theorem accw_eq (p : Vec Ideal S1408x1024 .f32) : accw b p = b.accw p := rfl
theorem wLast_eq (p : Vec Ideal S1408x1024 .f32) : wLast b p = b.wLast p := rfl
theorem dgu_eq : k0_pay18 (dy b) b.g b.u b.wo = b.dgu := rfl
end

/-- The tile of this half's part of the cotangent of the modulated rows. -/
theorem dhT_at {b : Blk Ideal} {D : In} {τ : Fin 16} (R : Rd b D 0 τ) {w : Vec Ideal S1024x2816 .bf16}
    (hw : ∀ d k, w (ix2 d k) = (D.wgu 0 d k : EReal)) (r : Fin 512) (d : Fin 1024) : dhT b w (ix2 r d) = (D.dhp 0 (row τ r) d : EReal) := by
  have e (k : Fin 2816) : k0_pay18 (dy b) b.g b.u b.wo (ix2 r k) = (D.dgu 0 (row τ r) k : EReal) := (congrFun (dgu_eq b) _).trans (dgu_at R r k)
  unfold dhT
  pointwise [k0_pay19]
  simp only [e, hw, ← EReal.coe_mul, coe_sum]
  rfl

/-- What is carried once the first `k` tiles are done: zero rows, the two weight gradients and the weights. -/
structure Carry (D : In) (k : ℕ) (v : Vec Ideal S8x1024 .f32) (g : Vec Ideal S1024x2816 .f32) (w : Vec Ideal S1408x1024 .f32)
    (q : Vec Ideal S1024x2816 .bf16) : Prop where
  v0 : ∀ i d, v (ix2 i d) = 0
  gu : ∀ d k', g (ix2 d k') = (down (fun τ => ∑ r, D.h (row τ r) d * D.dgu 0 (row τ r) k') k : EReal)
  wd : ∀ k' d, w (ix2 k' d) = (down (fun τ => ∑ r, D.a 0 (row τ r) k' * D.dxo (row τ r) d) k : EReal)
  wt : ∀ d k', q (ix2 d k') = (D.wgu 0 d k' : EReal)

/-- Nothing is summed before the first tile. -/
theorem carry_zero (D : In) (q : Vec Ideal S1024x2816 .bf16) (hq : ∀ d k', q (ix2 d k') = (D.wgu 0 d k' : EReal)) :
    Carry D 0 (k0_pay10 (F := Ideal)) (k0_pay8 (F := Ideal)) (k0_pay9 (F := Ideal)) q where
  v0 i d := c_zero
  gu d k := by rw [down_zero, EReal.coe_zero]; exact c_zero
  wd k d := by rw [down_zero, EReal.coe_zero]; exact c_zero
  wt := hq

/-- One more tile. -/
theorem Carry.step {D : In} {k : ℕ} {v : Vec Ideal S8x1024 .f32} {g : Vec Ideal S1024x2816 .f32} {w : Vec Ideal S1408x1024 .f32}
    {q : Vec Ideal S1024x2816 .bf16} (C : Carry D k v g w q) {b : Blk Ideal} {τ : Fin 16} (R : Rd b D 0 τ) (h : τ.val = k) :
    Carry D (k + 1) v (accgu b g) (accw b w) q where
  v0 := C.v0
  gu d k' := (congrFun (accgu_eq b g) _).trans ((accgu_at R g _ d k' (C.gu d k')).trans (by rw [down_succ _ k τ h]))
  wd k' d := (congrFun (accw_eq b w) _).trans ((accw_at R w _ k' d (C.wd k' d)).trans (by rw [down_succ _ k τ h]))
  wt := C.wt

variable {m : (ℓ : Loc nD τ sig) → Buf (Elt Ideal) ℓ} {c : Dev nD} {D : In} (H : Args m c D)
include H

/-- The weights the pass fetches. -/
theorem slot_at (d : Fin 1024) (k : Fin 2816) : wslot (V m c main_v34) (ix2 d k) = (D.wgu 0 d k : EReal) := V_win H 0 d k

/-- What is carried after each point but the last. -/
theorem carried (n : ℕ) (hn : n < cfg0.N) : Carry D (n + 1) (outsAt0 m c n hn).2.2.2.1 (outsAt0 m c n hn).2.2.2.2.1
    (outsAt0 m c n hn).2.2.2.2.2.1 (outsAt0 m c n hn).2.2.2.2.2.2 ∨ n = 15 := by
  induction n with
  | zero =>
    obtain ⟨e1, e2, he⟩ := at_A m c ⟨0, hn⟩ (by simp) (by simp)
    refine .inl ?_
    rw [show outsAt0 m c 0 hn = _ from he]
    exact (carry_zero D _ (slot_at H)).step (reads ⟨0, hn⟩ H) rfl
  | succ n ih =>
    have h16 : n + 1 < 16 := t_lt ⟨n + 1, hn⟩
    by_cases hl : n + 1 = 15
    · exact .inr hl
    obtain C | C := ih (by omega)
    · obtain ⟨e1, e2, he⟩ := at_B m c ⟨n + 1, hn⟩ (by show ¬ (n + 1) % 16 = 0; omega) (by show ¬ (n + 1) % 16 = 15; omega)
      refine .inl ?_
      rw [show outsAt0 m c (n + 1) hn = _ from he]
      exact Carry.step C (reads ⟨n + 1, hn⟩ H) rfl
    · omega

end Cert.Kernel4Ideal.Half

end
-- ==== Proof.HalfFinal.lean ====
/-
  The arrays the feed-forward backward's first pass leaves.
-/
module

public import proofs.«01_k».proof.Proof.HalfPoint
public import proofs.«01_k».proof.Proof.HalfOut

@[expose] public section

noncomputable section

namespace Cert.Kernel4Ideal.Half

open Cert.Kernel4Ideal Cert.Kernel4Ideal.Gen Idealize.ShloMosaic Idealize.ShloMosaic.TcCoe Cert.RealKit Cert.HeadMath Cert.FfnMath
open Idealize.ShloMosaic.Pipeline (Dat)
open Cert.MixMath (row)
open Cert.KernelIdeal.Head (eta2)
open Cert.Kernel2Ideal.Mix (put_row put_row_ne eta3)
open Cert.Kernel3Ideal.Ffn (Blk dwin_0 dwin_1 dwout_0 dwout_1 all_rows wLast_at dga_at row_at)

theorem dwinOf_eq (e : Vec Ideal S2x512x1408 .f32) (g : Vec Ideal S1024x2816 .f32) : dwinOf e g = Cert.Kernel3Ideal.Ffn.dwinOf e g := rfl
theorem dwoutOf_eq (e : Vec Ideal S2x352x1024 .f32) (w : Vec Ideal S1408x1024 .f32) : dwoutOf e w = Cert.Kernel3Ideal.Ffn.dwoutOf e w := rfl

theorem idx7 : ∀ t : Fin cfg0.N, win0_7.index t 0 = 0 ∧ win0_7.index t 1 = 0 ∧ win0_7.index t 2 = 0 := by decide +kernel
theorem idx8 : ∀ t : Fin cfg0.N, win0_8.index t 0 = 0 ∧ win0_8.index t 1 = 0 ∧ win0_8.index t 2 = 0 := by decide +kernel
theorem idx9 : ∀ t : Fin cfg0.N, win0_9.index t 0 = 0 ∧ win0_9.index t 1 = 0 := by decide +kernel

variable {m : (ℓ : Loc nD τ sig) → Buf (Elt Ideal) ℓ} {c : Dev nD} {D : In} (H : Args m c D) (t : Fin cfg0.N)
include H

/-- The carried arrays with the tiles before this one done. -/
theorem before (h0 : ¬t.val = 0) : Carry D t.val (prev m c t).2.2.2.1 (prev m c t).2.2.2.2.1
    (prev m c t).2.2.2.2.2.1 (prev m c t).2.2.2.2.2.2 := by
  have hN := t_lt t
  obtain C | C := carried H (t.val - 1) (Nat.lt_of_le_of_lt (Nat.sub_le _ _) t.isLt)
  · rw [show t.val - 1 + 1 = t.val by omega] at C
    exact C
  · omega

/-- The half's part of the cotangent of the modulated rows, tile by tile. -/
theorem out6 (r : Fin 512) (d : Fin 1024) : (outsAt0 m c t.val t.isLt).1 (ix2 r d) = (D.dhp 0 (row (tl t) r) d : EReal) := by
  have hN := t_lt t
  by_cases h0 : t.val = 0
  · obtain ⟨e1, e2, he⟩ := at_A m c t (by omega) (by omega)
    rw [he]
    exact dhT_at (reads t H) (slot_at H) r d
  · have C := before H t h0
    by_cases h1 : t.val = 15
    · obtain ⟨e1, e2, he⟩ := at_C m c t (by omega) (by omega)
      rw [he]
      exact dhT_at (reads t H) C.wt r d
    · obtain ⟨e1, e2, he⟩ := at_B m c t (by omega) (by omega)
      rw [he]
      exact dhT_at (reads t H) C.wt r d

/-- What stands after the last point. -/
theorem last (h : t.val % 16 = 15) : let o := outsAt0 m c t.val t.isLt
    (∀ p d k, o.2.1 (ix3 p d k) = (D.rGu 0 p d k : EReal)) ∧ (∀ p k d, o.2.2.1 (ix3 p k d) = (D.rWd 0 p k d : EReal))
      ∧ ∀ i d, o.2.2.2.1 (ix2 i d) = (D.rV0 i d : EReal) := by
  have hN := t_lt t
  have ht : t.val = 15 := by omega
  obtain ⟨e1, e2, he⟩ := at_C m c t (by omega) h
  have C := before H t (by omega)
  have R := reads t H
  have C' := C.step R rfl
  rw [show t.val + 1 = 16 by omega] at C'
  dsimp only
  rw [he]
  generalize prev m c t = p at C C' ⊢
  generalize blk m c t = b at R C' ⊢
  have hg : ∀ d k, accgu b p.2.2.2.2.1 (ix2 d k) = (D.dwgu 0 d k : EReal) := fun d k =>
    (C'.gu d k).trans (congrArg _ (all_rows fun s => D.h s d * D.dgu 0 s k))
  have hw : ∀ k d, b.accw p.2.2.2.2.2.1 (ix2 k d) = (D.dw 0 k d : EReal) := fun k d =>
    (congrFun (accw_eq b _) _).symm.trans ((C'.wd k d).trans (congrArg _ (all_rows fun s => D.a 0 s k * D.dxo s d)))
  have hl : ∀ k d, wLast b p.2.2.2.2.2.1 (ix2 k d) = (D.dwd 0 k d : EReal) := fun k d =>
    (congrFun (wLast_eq b _) _).trans (wLast_at R _ _ k d (hw k d))
  refine ⟨fun q d k => ?_, fun q k d => ?_, fun i d => ?_⟩
  · refine (congrFun (dwinOf_eq _ _) _).trans ?_
    unfold In.rGu
    rw [← hg]
    fin_cases q
    · exact (dwin_0 e1 _ d k).trans (congrArg (fun i => accgu b p.2.2.2.2.1 (ix2 _ i)) (Fin.ext (by simp)))
    · exact dwin_1 e1 _ d k
  · refine (congrFun (dwoutOf_eq _ _) _).trans ?_
    unfold In.rWd
    rw [← hl]
    fin_cases q
    · exact (dwout_0 e2 _ k d).trans (congrArg (fun i => wLast b p.2.2.2.2.2.1 (ix2 i d)) (Fin.ext (by simp)))
    · exact dwout_1 e2 _ k d
  · unfold In.rV0 vecLast
    by_cases i2 : i.val = 2
    · obtain rfl : i = 2 := Fin.ext i2
      refine (put_row _ 2 2 rfl _ d).trans ?_
      refine (dga_at R _ _ _ 0 d (fun k => hw k d) ?_).trans (congrArg _ (zero_add _))
      exact (row_at _ 2 _ d).trans (C.v0 2 d)
    · refine (put_row_ne _ i 2 i2 _ d).trans ?_
      rw [if_neg i2]
      exact C.v0 i d

theorem arr6 : (dats m 0 c).arrAt 6 cfg0.N = G6 D :=
  (dats m 0 c).arrAt_eq_of_cover 6 (G6 D)
    (fun t hf => by
      rw [Value.flushed6]
      refine funext fun (y : S512x1024.Idx) => ?_
      refine (congrArg (outsAt0 m c t.val t.isLt).1 (eta2 y)).trans ((out6 H t (y 0) (y 1)).trans ?_)
      have emb : ((cfg0.win 6).blk t).view.emb y = ix2 (row (tl t) (y 0)) (y 1) := by
        refine funext fun a => Fin.ext ?_
        match a with
        | ⟨0, _⟩ => show win0_6.index t 0 * 512 + 1 * (y 0).val = 512 * t.val + (y 0).val; rw [(idx6 t).1]; omega
        | ⟨1, _⟩ => show win0_6.index t 1 * 1024 + 1 * (y 1).val = (y 1).val; rw [(idx6 t).2]; omega
      exact Eq.trans (b := G6 D (ix2 (row (tl t) (y 0)) (y 1))) rfl ((congrArg (G6 D) emb).symm.trans rfl))
    fun i => by
      have h0 : (i 0 : ℕ) < 8192 := (i 0).isLt
      have h1 : (i 1 : ℕ) < 1024 := (i 1).isLt
      obtain ⟨t, ht⟩ : ∃ t : Fin cfg0.N, t.val = (i 0 : ℕ) / 512 := ⟨⟨_, by rw [show cfg0.N = 16 from N_0]; omega⟩, rfl⟩
      refine ⟨t, flush0_6 t, ?_⟩
      show i ∈ ((View.whole main_v37_0).slice (win0_6.rect t)).set
      rw [View.set_slice_whole, Rect.mem_set_unit]
      have e := idx6 t
      intro a
      match a with
      | ⟨0, _⟩ => show win0_6.index t 0 * 512 ≤ (i 0 : ℕ) ∧ (i 0 : ℕ) < win0_6.index t 0 * 512 + 512
                  rw [e.1]; omega
      | ⟨1, _⟩ => show win0_6.index t 1 * 1024 ≤ (i 1 : ℕ) ∧ (i 1 : ℕ) < win0_6.index t 1 * 1024 + 1024
                  rw [e.2]; omega

omit H in
/-- The last point. -/
theorem end_pt : ∃ t : Fin cfg0.N, t.val % 16 = 15 := ⟨⟨15, by rw [show cfg0.N = 16 from N_0]; omega⟩, rfl⟩

theorem arr7 : (dats m 0 c).arrAt 7 cfg0.N = G7 D :=
  (dats m 0 c).arrAt_eq_of_cover 7 (G7 D)
    (fun t hf => by
      rw [Value.flushed7]
      refine funext fun (y : S2x512x1408.Idx) => ?_
      refine (congrArg (outsAt0 m c t.val t.isLt).2.1 (eta3 y)).trans (((last H t ((flush0_7 t).mp hf)).1 (y 0) (y 1) (y 2)).trans ?_)
      have emb : ((cfg0.win 7).blk t).view.emb y = ix3 (y 0) (y 1) (y 2) := by
        refine funext fun a => Fin.ext ?_
        match a with
        | ⟨0, _⟩ => show win0_7.index t 0 * 2 + 1 * (y 0).val = (y 0).val; rw [(idx7 t).1]; omega
        | ⟨1, _⟩ => show win0_7.index t 1 * 512 + 1 * (y 1).val = (y 1).val; rw [(idx7 t).2.1]; omega
        | ⟨2, _⟩ => show win0_7.index t 2 * 1408 + 1 * (y 2).val = (y 2).val; rw [(idx7 t).2.2]; omega
      exact Eq.trans (b := G7 D (ix3 (y 0) (y 1) (y 2))) rfl ((congrArg (G7 D) emb).symm.trans rfl))
    fun i => by
      obtain ⟨t, ht⟩ := end_pt
      refine ⟨t, (flush0_7 t).mpr ht, ?_⟩
      show i ∈ ((View.whole main_v37_1).slice (win0_7.rect t)).set
      rw [View.set_slice_whole, Rect.mem_set_unit]
      have e := idx7 t
      intro a
      match a with
      | ⟨0, _⟩ => have hi : (i 0 : ℕ) < 2 := (i 0).isLt
                  show win0_7.index t 0 * 2 ≤ (i 0 : ℕ) ∧ (i 0 : ℕ) < win0_7.index t 0 * 2 + 2
                  rw [e.1]; omega
      | ⟨1, _⟩ => have hi : (i 1 : ℕ) < 512 := (i 1).isLt
                  show win0_7.index t 1 * 512 ≤ (i 1 : ℕ) ∧ (i 1 : ℕ) < win0_7.index t 1 * 512 + 512
                  rw [e.2.1]; omega
      | ⟨2, _⟩ => have hi : (i 2 : ℕ) < 1408 := (i 2).isLt
                  show win0_7.index t 2 * 1408 ≤ (i 2 : ℕ) ∧ (i 2 : ℕ) < win0_7.index t 2 * 1408 + 1408
                  rw [e.2.2]; omega

theorem arr8 : (dats m 0 c).arrAt 8 cfg0.N = G8 D :=
  (dats m 0 c).arrAt_eq_of_cover 8 (G8 D)
    (fun t hf => by
      rw [Value.flushed8]
      refine funext fun (y : S2x352x1024.Idx) => ?_
      refine (congrArg (outsAt0 m c t.val t.isLt).2.2.1 (eta3 y)).trans (((last H t ((flush0_8 t).mp hf)).2.1 (y 0) (y 1) (y 2)).trans ?_)
      have emb : ((cfg0.win 8).blk t).view.emb y = ix3 (y 0) (y 1) (y 2) := by
        refine funext fun a => Fin.ext ?_
        match a with
        | ⟨0, _⟩ => show win0_8.index t 0 * 2 + 1 * (y 0).val = (y 0).val; rw [(idx8 t).1]; omega
        | ⟨1, _⟩ => show win0_8.index t 1 * 352 + 1 * (y 1).val = (y 1).val; rw [(idx8 t).2.1]; omega
        | ⟨2, _⟩ => show win0_8.index t 2 * 1024 + 1 * (y 2).val = (y 2).val; rw [(idx8 t).2.2]; omega
      exact Eq.trans (b := G8 D (ix3 (y 0) (y 1) (y 2))) rfl ((congrArg (G8 D) emb).symm.trans rfl))
    fun i => by
      obtain ⟨t, ht⟩ := end_pt
      refine ⟨t, (flush0_8 t).mpr ht, ?_⟩
      show i ∈ ((View.whole main_v37_2).slice (win0_8.rect t)).set
      rw [View.set_slice_whole, Rect.mem_set_unit]
      have e := idx8 t
      intro a
      match a with
      | ⟨0, _⟩ => have hi : (i 0 : ℕ) < 2 := (i 0).isLt
                  show win0_8.index t 0 * 2 ≤ (i 0 : ℕ) ∧ (i 0 : ℕ) < win0_8.index t 0 * 2 + 2
                  rw [e.1]; omega
      | ⟨1, _⟩ => have hi : (i 1 : ℕ) < 352 := (i 1).isLt
                  show win0_8.index t 1 * 352 ≤ (i 1 : ℕ) ∧ (i 1 : ℕ) < win0_8.index t 1 * 352 + 352
                  rw [e.2.1]; omega
      | ⟨2, _⟩ => have hi : (i 2 : ℕ) < 1024 := (i 2).isLt
                  show win0_8.index t 2 * 1024 ≤ (i 2 : ℕ) ∧ (i 2 : ℕ) < win0_8.index t 2 * 1024 + 1024
                  rw [e.2.2]; omega

theorem arr9 : (dats m 0 c).arrAt 9 cfg0.N = G9 D :=
  (dats m 0 c).arrAt_eq_of_cover 9 (G9 D)
    (fun t hf => by
      rw [Value.flushed9]
      refine funext fun (y : S8x1024.Idx) => ?_
      refine (congrArg (outsAt0 m c t.val t.isLt).2.2.2.1 (eta2 y)).trans (((last H t ((flush0_9 t).mp hf)).2.2 (y 0) (y 1)).trans ?_)
      have emb : ((cfg0.win 9).blk t).view.emb y = ix2 (y 0) (y 1) := by
        refine funext fun a => Fin.ext ?_
        match a with
        | ⟨0, _⟩ => show win0_9.index t 0 * 8 + 1 * (y 0).val = (y 0).val; rw [(idx9 t).1]; omega
        | ⟨1, _⟩ => show win0_9.index t 1 * 1024 + 1 * (y 1).val = (y 1).val; rw [(idx9 t).2]; omega
      exact Eq.trans (b := G9 D (ix2 (y 0) (y 1))) rfl ((congrArg (G9 D) emb).symm.trans rfl))
    fun i => by
      obtain ⟨t, ht⟩ := end_pt
      refine ⟨t, (flush0_9 t).mpr ht, ?_⟩
      show i ∈ ((View.whole main_v37_3).slice (win0_9.rect t)).set
      rw [View.set_slice_whole, Rect.mem_set_unit]
      have e := idx9 t
      intro a
      match a with
      | ⟨0, _⟩ => have hi : (i 0 : ℕ) < 8 := (i 0).isLt
                  show win0_9.index t 0 * 8 ≤ (i 0 : ℕ) ∧ (i 0 : ℕ) < win0_9.index t 0 * 8 + 8
                  rw [e.1]; omega
      | ⟨1, _⟩ => have hi : (i 1 : ℕ) < 1024 := (i 1).isLt
                  show win0_9.index t 1 * 1024 ≤ (i 1 : ℕ) ∧ (i 1 : ℕ) < win0_9.index t 1 * 1024 + 1024
                  rw [e.2]; omega

end Cert.Kernel4Ideal.Half

end
-- ==== Proof.HalfPre.lean ====
/-
  The precondition of the feed-forward backward's first pass: finite arguments are arrays of real numbers.
-/
module

public import proofs.«01_k».proof.Defs
public import proofs.«01_k».proof.Proof.Gen.Pre_finite_half
public import proofs.«01_k».proof.Proof.HalfHost

@[expose] public section

noncomputable section

namespace Cert.Kernel4Ideal.Half

open Cert.Kernel4Ideal Cert.Kernel4Ideal.Gen Idealize.ShloMosaic Idealize.ShloMosaic.TcCoe Cert.RealKit Cert.FfnMath

instance : Subsingleton S_.Idx := ⟨fun a b => funext fun k => k.elim0⟩

/-- Arguments that pass the test "every element is finite" hold real numbers. -/
theorem holds [Cert.Pre_finite_half.Facts] {m : (ℓ : Loc nD τ sig) → Buf (Elt Ideal) ℓ} (h : Cert.Pre_Kernel4Ideal_finite_half m) (c : Dev nD) :
    ∃ D, Args m c D := by
  have e := congrFun (h c) ix0
  unfold Cert.Pre_finite_half.fn Cert.Pre_finite_half.fn_part1 Cert.Pre_finite_half.fn_part2 at e
  dsimp only at e
  obtain ⟨e, e7⟩ := (IntOp.andi_eq_one ..).mp e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  obtain ⟨X7, h7⟩ := real_of_all _ _ _ _ _ _ _ e7
  exact ⟨⟨fun r d => X0 (ix2 r d), fun r d => X1 (ix2 r d), fun r d => X1 (ix2 r d), fun d => X2 (ix2 0 d), fun d => X3 (ix2 0 d),
      fun d => X4 (ix2 0 d), fun d => X5 (ix2 0 d), fun d k => X6 (ix2 d k), fun k d => X7 (ix2 k d)⟩,
    fun r d => congrFun h0 _, fun r d => congrFun h1 _, fun r d => rfl, fun d => congrFun h2 _, fun d => congrFun h3 _,
    fun d => congrFun h4 _, fun d => congrFun h5 _, fun d k => congrFun h6 _, fun k d => congrFun h7 _⟩

end Cert.Kernel4Ideal.Half

end
-- ==== Proof.FwdRun.lean ====
/-
  What the feed-forward forward call leaves in each of its buffers after each point of its grid, as the payloads of its
  body over the blocks the point reads.
-/
module

public import proofs.«01_k».proof.Proof.Gen.Kernel5Ideal.Value
public import proofs.«01_k».proof.Proof.HeadFinal
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel5Ideal.Fwd

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD) (t : Fin cfg0.N)

theorem hz2 : (![0, 0] : Fin 2 → Nat) = fun _ => 0 := Cert.KernelIdeal.Head.hz2

/-- A scratch buffer holding `x` reads back as `x`. -/
theorem read0 (x : Vec F S512x1024 .f32) : View.read (Elt F) (View.whole cc0_scratch0) ((Memref.isWhole_whole cc0_scratch0).unread x) = x :=
  (Memref.isWhole_whole cc0_scratch0).read_unread x
theorem read1 (x : Vec F S2x1024x2816 .bf16) : View.read (Elt F) (View.whole cc0_scratch1) ((Memref.isWhole_whole cc0_scratch1).unread x) = x :=
  (Memref.isWhole_whole cc0_scratch1).read_unread x
theorem read2 (x : Vec F S2x1408x1024 .bf16) : View.read (Elt F) (View.whole cc0_scratch2) ((Memref.isWhole_whole cc0_scratch2).unread x) = x :=
  (Memref.isWhole_whole cc0_scratch2).read_unread x

/-- A scratch the first point copied an array into whole reads back as that array. -/
theorem fill1 (x : Buf (Elt F) ((c : Thread nD τ).loc main_v11)) (f : (View.ty (Memref.view scM0_1)).Contents (Elt F)) :
    View.read (Elt F) scM0_1.view (scM0_1.view.writes (Elt F) f
      [⟨Rect.whole S2x1024x2816, ReadAs.same.apply (View.read (Elt F) (Memref.whole main_v11).view x)⟩]) = x := by
  funext y
  have h := View.read_writes_cons_emb (Val := Elt F) scM0_1.view f (Rect.whole S2x1024x2816)
    (ReadAs.same.apply (View.read (Elt F) (Memref.whole main_v11).view x)) [] y
  rw [Rect.emb_whole_apply] at h
  exact h
theorem fill2 (x : Buf (Elt F) ((c : Thread nD τ).loc main_v13)) (f : (View.ty (Memref.view scM0_2)).Contents (Elt F)) :
    View.read (Elt F) scM0_2.view (scM0_2.view.writes (Elt F) f
      [⟨Rect.whole S2x1408x1024, ReadAs.same.apply (View.read (Elt F) (Memref.whole main_v13).view x)⟩]) = x := by
  funext y
  have h := View.read_writes_cons_emb (Val := Elt F) scM0_2.view f (Rect.whole S2x1408x1024)
    (ReadAs.same.apply (View.read (Elt F) (Memref.whole main_v13).view x)) [] y
  rw [Rect.emb_whole_apply] at h
  exact h

/-- Row `k` of an eight-row block. -/
abbrev row (v : Vec F S8x1024 .f32) (k : ℕ) (h : ∀ a, (![k, 0] : Fin 2 → ℕ) a + S1x1024.size a ≤ S8x1024.size a) : Vec F S1x1024 .f32 :=
  View.ld v (Rect.unit (s := S8x1024) ![k, 0] S1x1024.size h)

/-- The half of a point's rows of the first weight its second coordinate selects. -/
abbrev winJ (i : grid0.Coords) (w : Vec F S2x1024x2816 .bf16) : Vec F S1x1024x2816 .bf16 :=
  View.ld w (Rect.unit (s := S2x1024x2816) (k0_off1 i) S1x1024x2816.size (k0_off1_inb i))
/-- The half of the second weight its second coordinate selects. -/
abbrev woutJ (i : grid0.Coords) (w : Vec F S2x1408x1024 .bf16) : Vec F S1x1408x1024 .bf16 :=
  View.ld w (Rect.unit (s := S2x1408x1024) (k0_off2 i) S1x1408x1024.size (k0_off2_inb i))

/-- The gate half of one point's hidden columns. -/
def gOf (i : grid0.Coords) (x : Vec F S512x1024 .f32) (v : Vec F S8x1024 .f32) (w : Vec F S2x1024x2816 .bf16) : FVec F S512x1408 .bf16 :=
  k0_pay6 x (row v 3 inb_S8x1024_S1x1024_3_0) (row v 1 inb_S8x1024_S1x1024_1_0) (row v 0 inb_S8x1024_S1x1024_0_0) (winJ i w)
/-- The other half of one point's hidden columns. -/
def uOf (i : grid0.Coords) (x : Vec F S512x1024 .f32) (v : Vec F S8x1024 .f32) (w : Vec F S2x1024x2816 .bf16) : FVec F S512x1408 .bf16 :=
  k0_pay7 x (row v 3 inb_S8x1024_S1x1024_3_0) (row v 1 inb_S8x1024_S1x1024_1_0) (row v 0 inb_S8x1024_S1x1024_0_0) (winJ i w)
/-- The running product with the second weight after the point. -/
def aOf (i : grid0.Coords) (x : Vec F S512x1024 .f32) (v : Vec F S8x1024 .f32) (w : Vec F S2x1024x2816 .bf16)
    (wo : Vec F S2x1408x1024 .bf16) (acc : Vec F S512x1024 .f32) : FVec F S512x1024 .f32 :=
  k0_pay1 (BitVec.ofNat 32 (i 1).val) (gOf i x v w) (uOf i x v w) acc (woutJ i wo)
/-- The sub-layer's output at the point, from the running product before it. -/
def yOf (i : grid0.Coords) (x : Vec F S512x1024 .f32) (v : Vec F S8x1024 .f32) (w : Vec F S2x1024x2816 .bf16)
    (wo : Vec F S2x1408x1024 .bf16) (acc : Vec F S512x1024 .f32) : FVec F S512x1024 .f32 :=
  k0_pay3 (BitVec.ofNat 32 (i 1).val) (gOf i x v w) (uOf i x v w) acc (woutJ i wo) x (row v 2 inb_S8x1024_S1x1024_2_0)

/-- The contents after the point before. -/
abbrev prev := outsAt0 m c (t.val - 1) (Nat.lt_of_le_of_lt (Nat.sub_le _ _) t.isLt)

theorem at_A_2 (h0 : t.val % 32 = 0) :
    (outsAt0 m c t.val t.isLt).1 = yOf (grid0.coords t) (iblk m c 0 t) (iblk m c 1 t) (V m c main_v11) (V m c main_v13) k0_pay4 := by
  refine (congrArg (fun p => p.1) (outsAt0_A m c t h0)).trans ?_
  dsimp only
  unfold out0_A_2
  rw [View.read_writes_eq_canon _ _ _ (fun _ => cover0_A_2 ..)]
  unfold kernelRun0_A
  dsimp only
  sl_unfold_words
  rw [View.canon_unit_zero hz2, View.readCov_unit_zero (S := S512x1024) _ hz2]
  simp only [View.readAt_eq_ld, Memref.IsWhole.read_unread, View.ld_unit_zero (S := S512x1024) hz2, read0, read1, read2, fill1 c, fill2 c]
  rfl

theorem at_A_3 (h0 : t.val % 32 = 0) :
    (outsAt0 m c t.val t.isLt).2.1 = gOf (grid0.coords t) (iblk m c 0 t) (iblk m c 1 t) (V m c main_v11) := by
  refine (congrArg (fun p => p.2.1) (outsAt0_A m c t h0)).trans ?_
  dsimp only
  unfold out0_A_3
  rw [View.read_writes_eq_canon _ _ _ (fun _ => cover0_A_3 ..)]
  unfold kernelRun0_A
  dsimp only
  sl_unfold_words
  rw [View.canon_unit_zero hz2]
  simp only [View.readAt_eq_ld, Memref.IsWhole.read_unread, View.ld_unit_zero (S := S512x1024) hz2, read0, read1, read2, fill1 c, fill2 c]
  rfl

theorem at_A_4 (h0 : t.val % 32 = 0) :
    (outsAt0 m c t.val t.isLt).2.2.1 = uOf (grid0.coords t) (iblk m c 0 t) (iblk m c 1 t) (V m c main_v11) := by
  refine (congrArg (fun p => p.2.2.1) (outsAt0_A m c t h0)).trans ?_
  dsimp only
  unfold out0_A_4
  rw [View.read_writes_eq_canon _ _ _ (fun _ => cover0_A_4 ..)]
  unfold kernelRun0_A
  dsimp only
  sl_unfold_words
  rw [View.canon_unit_zero hz2]
  simp only [View.readAt_eq_ld, Memref.IsWhole.read_unread, View.ld_unit_zero (S := S512x1024) hz2, read0, read1, read2, fill1 c, fill2 c]
  rfl

theorem at_A_s0 (h0 : t.val % 32 = 0) :
    (outsAt0 m c t.val t.isLt).2.2.2.1 = aOf (grid0.coords t) (iblk m c 0 t) (iblk m c 1 t) (V m c main_v11) (V m c main_v13) k0_pay4 := by
  refine (congrArg (fun p => p.2.2.2.1) (outsAt0_A m c t h0)).trans ?_
  dsimp only
  unfold sout0_A_0
  rw [View.read_writes_eq_canon _ _ _ (fun _ => scover0_A_0 ..)]
  unfold kernelRun0_A
  dsimp only
  sl_unfold_words
  rw [View.canon_cons_unit_zero hz2, View.readCov_unit_zero (S := S512x1024) _ hz2]
  simp only [View.readAt_eq_ld, Memref.IsWhole.read_unread, View.ld_unit_zero (S := S512x1024) hz2, read0, read1, read2, fill1 c, fill2 c]
  unfold k0_pay2; rw [shapeCast_self]; rfl

theorem at_A_s1 (h0 : t.val % 32 = 0) :
    (outsAt0 m c t.val t.isLt).2.2.2.2.1 = (V m c main_v11) := by
  refine (congrArg (fun p => p.2.2.2.2.1) (outsAt0_A m c t h0)).trans ?_
  dsimp only
  unfold sout0_A_1 kernelRun0_A
  dsimp only
  exact fill1 c _ _

theorem at_A_s2 (h0 : t.val % 32 = 0) :
    (outsAt0 m c t.val t.isLt).2.2.2.2.2 = (V m c main_v13) := by
  refine (congrArg (fun p => p.2.2.2.2.2) (outsAt0_A m c t h0)).trans ?_
  dsimp only
  unfold sout0_A_2 kernelRun0_A
  dsimp only
  exact fill2 c _ _

theorem at_B_2 (h0 : ¬t.val % 32 = 0) :
    (outsAt0 m c t.val t.isLt).1 = yOf (grid0.coords t) (iblk m c 0 t) (iblk m c 1 t) (prev m c t).2.2.2.2.1 (prev m c t).2.2.2.2.2 (prev m c t).2.2.2.1 := by
  refine (congrArg (fun p => p.1) (outsAt0_B m c t h0)).trans ?_
  dsimp only
  unfold out0_B_2
  rw [View.read_writes_eq_canon _ _ _ (fun _ => cover0_B_2 ..)]
  unfold kernelRun0_B
  dsimp only
  sl_unfold_words
  rw [View.canon_unit_zero hz2]
  simp only [View.readAt_eq_ld, Memref.IsWhole.read_unread, View.ld_unit_zero (S := S512x1024) hz2, read0, read1, read2, fill1 c, fill2 c]
  rfl

theorem at_B_3 (h0 : ¬t.val % 32 = 0) :
    (outsAt0 m c t.val t.isLt).2.1 = gOf (grid0.coords t) (iblk m c 0 t) (iblk m c 1 t) (prev m c t).2.2.2.2.1 := by
  refine (congrArg (fun p => p.2.1) (outsAt0_B m c t h0)).trans ?_
  dsimp only
  unfold out0_B_3
  rw [View.read_writes_eq_canon _ _ _ (fun _ => cover0_B_3 ..)]
  unfold kernelRun0_B
  dsimp only
  sl_unfold_words
  rw [View.canon_unit_zero hz2]
  simp only [View.readAt_eq_ld, Memref.IsWhole.read_unread, View.ld_unit_zero (S := S512x1024) hz2, read0, read1, read2, fill1 c, fill2 c]
  rfl

theorem at_B_4 (h0 : ¬t.val % 32 = 0) :
    (outsAt0 m c t.val t.isLt).2.2.1 = uOf (grid0.coords t) (iblk m c 0 t) (iblk m c 1 t) (prev m c t).2.2.2.2.1 := by
  refine (congrArg (fun p => p.2.2.1) (outsAt0_B m c t h0)).trans ?_
  dsimp only
  unfold out0_B_4
  rw [View.read_writes_eq_canon _ _ _ (fun _ => cover0_B_4 ..)]
  unfold kernelRun0_B
  dsimp only
  sl_unfold_words
  rw [View.canon_unit_zero hz2]
  simp only [View.readAt_eq_ld, Memref.IsWhole.read_unread, View.ld_unit_zero (S := S512x1024) hz2, read0, read1, read2, fill1 c, fill2 c]
  rfl

theorem at_B_s0 (h0 : ¬t.val % 32 = 0) :
    (outsAt0 m c t.val t.isLt).2.2.2.1 = aOf (grid0.coords t) (iblk m c 0 t) (iblk m c 1 t) (prev m c t).2.2.2.2.1 (prev m c t).2.2.2.2.2 (prev m c t).2.2.2.1 := by
  refine (congrArg (fun p => p.2.2.2.1) (outsAt0_B m c t h0)).trans ?_
  dsimp only
  unfold sout0_B_0
  rw [View.read_writes_eq_canon _ _ _ (fun _ => scover0_B_0 ..)]
  unfold kernelRun0_B
  dsimp only
  sl_unfold_words
  rw [View.canon_unit_zero hz2]
  simp only [View.readAt_eq_ld, Memref.IsWhole.read_unread, View.ld_unit_zero (S := S512x1024) hz2, read0, read1, read2, fill1 c, fill2 c]
  unfold k0_pay2; rw [shapeCast_self]; rfl

theorem at_B_s1 (h0 : ¬t.val % 32 = 0) :
    (outsAt0 m c t.val t.isLt).2.2.2.2.1 = (prev m c t).2.2.2.2.1 := by
  refine (congrArg (fun p => p.2.2.2.2.1) (outsAt0_B m c t h0)).trans ?_
  rfl

theorem at_B_s2 (h0 : ¬t.val % 32 = 0) :
    (outsAt0 m c t.val t.isLt).2.2.2.2.2 = (prev m c t).2.2.2.2.2 := by
  refine (congrArg (fun p => p.2.2.2.2.2) (outsAt0_B m c t h0)).trans ?_
  rfl

end Cert.Kernel5Ideal.Fwd
-- ==== Proof.FwdHost.lean ====
/-
  The packed operands of the feed-forward forward call, read at an index from the arrays the host packed them from.
-/
module

public import proofs.«01_k».proof.Proof.FwdRun
public import Idealize.ShloMosaic.Lib.StableHlo.ReadAt

@[expose] public section

noncomputable section

namespace Cert.Kernel5Ideal.Fwd

open Cert.Kernel5Ideal Cert.Kernel5Ideal.Gen Idealize.ShloMosaic Idealize.ShloMosaic.TcCoe Cert.RealKit

variable (m : (ℓ : Loc nD τ sig) → Buf (Elt Ideal) ℓ) (c : Dev nD)

theorem V_row0 (d : Fin 1024) : (V m c main_v1 : Vec Ideal S8x1024 .f32) (ix2 0 d) = (m ((c : Thread nD τ).loc main_arg1) : Vec Ideal S1x1024 .f32) (ix2 0 d) := by
  unfold V
  after_reads_at
theorem V_row1 (d : Fin 1024) : (V m c main_v1 : Vec Ideal S8x1024 .f32) (ix2 1 d) = (m ((c : Thread nD τ).loc main_arg2) : Vec Ideal S1x1024 .f32) (ix2 0 d) := by
  unfold V
  after_reads_at
theorem V_row2 (d : Fin 1024) : (V m c main_v1 : Vec Ideal S8x1024 .f32) (ix2 2 d) = (m ((c : Thread nD τ).loc main_arg3) : Vec Ideal S1x1024 .f32) (ix2 0 d) := by
  unfold V
  after_reads_at
theorem V_row3 (d : Fin 1024) : (V m c main_v1 : Vec Ideal S8x1024 .f32) (ix2 3 d) = (m ((c : Thread nD τ).loc main_arg4) : Vec Ideal S1x1024 .f32) (ix2 0 d) := by
  unfold V
  after_reads_at

open Cert.KernelIdeal.Head (gcol ucol hcol trow)

theorem V_win_g (j : Fin 2) (d : Fin 1024) (k : Fin 1408) :
    (V m c main_v11 : Vec Ideal S2x1024x2816 .bf16) (ix3 j d ⟨k.val, by omega⟩) = (m ((c : Thread nD τ).loc main_arg5) : Vec Ideal S1024x5632 .f32) (ix2 d (gcol j k)) := by
  unfold V
  fin_cases j <;> after_reads_at <;> after_reads_at <;> after_reads_at <;>
    exact congrArg (fun r => (m ((c : Thread nD τ).loc main_arg5) : Vec Ideal S1024x5632 .f32) (ix2 d r)) (Fin.ext (by first | (dsimp; omega) | dsimp))

theorem V_win_u (j : Fin 2) (d : Fin 1024) (k : Fin 1408) :
    (V m c main_v11 : Vec Ideal S2x1024x2816 .bf16) (ix3 j d ⟨1408 + k.val, by omega⟩) = (m ((c : Thread nD τ).loc main_arg5) : Vec Ideal S1024x5632 .f32) (ix2 d (ucol j k)) := by
  unfold V
  fin_cases j <;> after_reads_at <;> after_reads_at <;> after_reads_at <;>
    exact congrArg (fun r => (m ((c : Thread nD τ).loc main_arg5) : Vec Ideal S1024x5632 .f32) (ix2 d r)) (Fin.ext (by first | (dsimp; omega) | dsimp))

theorem V_wout (j : Fin 2) (k : Fin 1408) (d : Fin 1024) :
    (V m c main_v13 : Vec Ideal S2x1408x1024 .bf16) (ix3 j k d) = (m ((c : Thread nD τ).loc main_arg6) : Vec Ideal S2816x1024 .f32) (ix2 (hcol j k) d) := by
  unfold V
  after_reads_at

end Cert.Kernel5Ideal.Fwd
-- ==== Proof.FwdPoint.lean ====
/-
  The feed-forward forward call over the reals: with arguments that hold real numbers, what each of its arrays holds after
  each point of the grid.
-/
module

public import proofs.«01_k».proof.Proof.FwdHost

@[expose] public section

noncomputable section

namespace Cert.Kernel5Ideal.Fwd

open Cert.Kernel5Ideal Cert.Kernel5Ideal.Gen Idealize.ShloMosaic Idealize.ShloMosaic.TcCoe Cert.RealKit Cert.HeadMath
open Cert.KernelIdeal.Head (gcol ucol hcol trow div1024 rs_msq pay1_real_0 pay1_real_1 pay3_real)

/-! ## The grid's points -/

theorem crd : ∀ t : Fin cfg0.N, (grid0.coords t 0).val = t.val / 2 ∧ (grid0.coords t 1).val = t.val % 2 := by decide +kernel
theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val / 2 ∧ win0_2.index t 1 = 0 := by decide +kernel
theorem idx3 : ∀ t : Fin cfg0.N, win0_3.index t 0 = t.val / 2 ∧ win0_3.index t 1 = t.val % 2 := by decide +kernel
theorem idx4 : ∀ t : Fin cfg0.N, win0_4.index t 0 = t.val / 2 ∧ win0_4.index t 1 = t.val % 2 := by decide +kernel

theorem t_lt (t : Fin cfg0.N) : t.val < 32 := lt_of_lt_of_eq t.isLt (show cfg0.N = 32 from N_0)
/-- A point's tile of rows. -/
abbrev ti (t : Fin cfg0.N) : Fin 16 := ⟨t.val / 2, by have := t_lt t; omega⟩
/-- A point's half of the hidden columns. -/
abbrev tj (t : Fin cfg0.N) : Fin 2 := ⟨t.val % 2, by omega⟩

variable {F : FTy → Type} [FloatOps F]

theorem row_apply (v : Vec F S8x1024 .f32) (k : Fin 8) (h) (d : Fin 1024) : row v k.val h (ix2 0 d) = v (ix2 k d) :=
  congrArg v (funext fun a => Fin.ext (by fin_cases a <;> simp [Rect.emb, Rect.unit]))

theorem off1 (i : grid0.Coords) : k0_off1 i = ![(i 1).val, 0, 0] := by
  unfold k0_off1
  generalize i 1 = j
  revert j
  decide +kernel
theorem off2 (i : grid0.Coords) : k0_off2 i = ![(i 1).val, 0, 0] := by
  unfold k0_off2
  generalize i 1 = j
  revert j
  decide +kernel

theorem winJ_apply (t : Fin cfg0.N) (w : Vec F S2x1024x2816 .bf16) (d : Fin 1024) (k : Fin 2816) :
    winJ (grid0.coords t) w (ix3 0 d k) = w (ix3 (tj t) d k) :=
  congrArg w (funext fun a => Fin.ext (by
    show k0_off1 (grid0.coords t) a + 1 * (ix3 (n0 := 1) 0 d k a).val = _
    rw [off1, (crd t).2]
    fin_cases a <;> simp))
theorem woutJ_apply (t : Fin cfg0.N) (w : Vec F S2x1408x1024 .bf16) (k : Fin 1408) (d : Fin 1024) :
    woutJ (grid0.coords t) w (ix3 0 k d) = w (ix3 (tj t) k d) :=
  congrArg w (funext fun a => Fin.ext (by
    show k0_off2 (grid0.coords t) a + 1 * (ix3 (n0 := 1) 0 k d a).val = _
    rw [off2, (crd t).2]
    fin_cases a <;> simp))

/-! ## The copied weights -/

section Gen
variable (m : (ℓ : Loc nD τ sig) → Buf (Elt F) ℓ) (c : Dev nD)

/-- After every point the two weight buffers hold the packed weights. -/
theorem weights : ∀ (n : ℕ) (hn : n < cfg0.N), (outsAt0 m c n hn).2.2.2.2.1 = V m c main_v11
    ∧ (outsAt0 m c n hn).2.2.2.2.2 = V m c main_v13
  | 0, hn => ⟨at_A_s1 m c ⟨0, hn⟩ rfl, at_A_s2 m c ⟨0, hn⟩ rfl⟩
  | n + 1, hn => by
    have hN := t_lt ⟨n + 1, hn⟩
    have ih := weights n (Nat.lt_of_succ_lt hn)
    have h0 : ¬(n + 1) % 32 = 0 := by dsimp only at hN; omega
    exact ⟨(at_B_s1 m c ⟨n + 1, hn⟩ h0).trans ih.1, (at_B_s2 m c ⟨n + 1, hn⟩ h0).trans ih.2⟩

theorem at_3 (t : Fin cfg0.N) : (outsAt0 m c t.val t.isLt).2.1 = gOf (grid0.coords t) (iblk m c 0 t) (iblk m c 1 t) (V m c main_v11) := by
  by_cases h0 : t.val % 32 = 0
  · exact at_A_3 m c t h0
  · rw [at_B_3 m c t h0, (weights m c _ _).1]
theorem at_4 (t : Fin cfg0.N) : (outsAt0 m c t.val t.isLt).2.2.1 = uOf (grid0.coords t) (iblk m c 0 t) (iblk m c 1 t) (V m c main_v11) := by
  by_cases h0 : t.val % 32 = 0
  · exact at_A_4 m c t h0
  · rw [at_B_4 m c t h0, (weights m c _ _).1]
theorem at_s0 (t : Fin cfg0.N) : ∃ acc, (outsAt0 m c t.val t.isLt).2.2.2.1
    = aOf (grid0.coords t) (iblk m c 0 t) (iblk m c 1 t) (V m c main_v11) (V m c main_v13) acc := by
  by_cases h0 : t.val % 32 = 0
  · exact ⟨_, at_A_s0 m c t h0⟩
  · exact ⟨_, by rw [at_B_s0 m c t h0, (weights m c _ _).1, (weights m c _ _).2]⟩

end Gen

/-! ## Over the reals -/

variable (m : (ℓ : Loc nD τ sig) → Buf (Elt Ideal) ℓ) (c : Dev nD)

/-- The arguments hold the real numbers `D`. -/
structure Holds (D : Data) : Prop where
  X : ∀ r d, (m ((c : Thread nD τ).loc main_arg0) : Vec Ideal S8192x1024 .f32) (ix2 r d) = (D.X r d : EReal)
  sh : ∀ d, (m ((c : Thread nD τ).loc main_arg1) : Vec Ideal S1x1024 .f32) (ix2 0 d) = (D.sh d : EReal)
  sc : ∀ d, (m ((c : Thread nD τ).loc main_arg2) : Vec Ideal S1x1024 .f32) (ix2 0 d) = (D.sc d : EReal)
  ga : ∀ d, (m ((c : Thread nD τ).loc main_arg3) : Vec Ideal S1x1024 .f32) (ix2 0 d) = (D.ga d : EReal)
  gn : ∀ d, (m ((c : Thread nD τ).loc main_arg4) : Vec Ideal S1x1024 .f32) (ix2 0 d) = (D.gn d : EReal)
  Wi : ∀ d k, (m ((c : Thread nD τ).loc main_arg5) : Vec Ideal S1024x5632 .f32) (ix2 d k) = (D.Wi d k : EReal)
  Wo : ∀ k d, (m ((c : Thread nD τ).loc main_arg6) : Vec Ideal S2816x1024 .f32) (ix2 k d) = (D.Wo k d : EReal)

variable {m c} {D : Data} (H : Holds m c D) (t : Fin cfg0.N)
include H

theorem blk_x (r : Fin 512) (d : Fin 1024) : (iblk m c 0 t : Vec Ideal S512x1024 .f32) (ix2 r d) = (D.X (trow (ti t) r) d : EReal) := by
  rw [← H.X, ← V_main_arg0 m c]
  refine congrArg (V m c main_arg0 : Vec Ideal S8192x1024 .f32) (funext fun a => Fin.ext ?_)
  match a with
  | ⟨0, _⟩ => show win0_0.index t 0 * 512 + 1 * r.val = t.val / 2 * 512 + r.val; rw [(idx0 t).1]; omega
  | ⟨1, _⟩ => show win0_0.index t 1 * 1024 + 1 * d.val = d.val; rw [(idx0 t).2]; omega
omit H in
theorem blk_v (k : Fin 8) (d : Fin 1024) : (iblk m c 1 t : Vec Ideal S8x1024 .f32) (ix2 k d) = (V m c main_v1 : Vec Ideal S8x1024 .f32) (ix2 k d) := by
  refine congrArg (V m c main_v1 : Vec Ideal S8x1024 .f32) (funext fun a => Fin.ext ?_)
  match a with
  | ⟨0, _⟩ => show win0_1.index t 0 * 8 + 1 * k.val = k.val; rw [(idx1 t).1]; omega
  | ⟨1, _⟩ => show win0_1.index t 1 * 1024 + 1 * d.val = d.val; rw [(idx1 t).2]; omega
theorem row_sh (d : Fin 1024) : row (iblk m c 1 t) 0 inb_S8x1024_S1x1024_0_0 (ix2 0 d) = (D.sh d : EReal) :=
  (row_apply (F := Ideal) _ 0 _ d).trans ((blk_v t 0 d).trans ((V_row0 m c d).trans (H.sh d)))
theorem row_sc (d : Fin 1024) : row (iblk m c 1 t) 1 inb_S8x1024_S1x1024_1_0 (ix2 0 d) = (D.sc d : EReal) :=
  (row_apply (F := Ideal) _ 1 _ d).trans ((blk_v t 1 d).trans ((V_row1 m c d).trans (H.sc d)))
theorem row_ga (d : Fin 1024) : row (iblk m c 1 t) 2 inb_S8x1024_S1x1024_2_0 (ix2 0 d) = (D.ga d : EReal) :=
  (row_apply (F := Ideal) _ 2 _ d).trans ((blk_v t 2 d).trans ((V_row2 m c d).trans (H.ga d)))
theorem row_gn (d : Fin 1024) : row (iblk m c 1 t) 3 inb_S8x1024_S1x1024_3_0 (ix2 0 d) = (D.gn d : EReal) :=
  (row_apply (F := Ideal) _ 3 _ d).trans ((blk_v t 3 d).trans ((V_row3 m c d).trans (H.gn d)))
theorem tile_g (r : Fin 512) (k : Fin 1408) :
    gOf (grid0.coords t) (iblk m c 0 t) (iblk m c 1 t) (V m c main_v11) (ix2 r k) = (D.gu (trow (ti t) r) (gcol (tj t) k) : EReal) := by
  unfold gOf
  have hw : ∀ d, winJ (grid0.coords t) (V m c main_v11) (ix3 0 d ⟨k.val, by omega⟩) = (D.Wi d (gcol (tj t) k) : EReal) := fun d =>
    (winJ_apply (F := Ideal) t _ d _).trans ((V_win_g m c (tj t) d k).trans (H.Wi _ _))
  pointwise [k0_pay6, k0_pay5]
  simp only [blk_x H, row_gn H, row_sc H, row_sh H, hw, c_1024, c_eps, ← EReal.coe_one, ← EReal.coe_mul, coe_sum, div1024, ← EReal.coe_add, rs_msq]
  rfl

theorem tile_u (r : Fin 512) (k : Fin 1408) :
    uOf (grid0.coords t) (iblk m c 0 t) (iblk m c 1 t) (V m c main_v11) (ix2 r k) = (D.gu (trow (ti t) r) (ucol (tj t) k) : EReal) := by
  unfold uOf
  have hw : ∀ d, winJ (grid0.coords t) (V m c main_v11) (ix3 0 d ⟨1408 + k.val, by omega⟩) = (D.Wi d (ucol (tj t) k) : EReal) := fun d =>
    (winJ_apply (F := Ideal) t _ d _).trans ((V_win_u m c (tj t) d k).trans (H.Wi _ _))
  pointwise [k0_pay7, k0_pay5]
  simp only [blk_x H, row_gn H, row_sc H, row_sh H, hw, c_1024, c_eps, ← EReal.coe_one, ← EReal.coe_mul, coe_sum, div1024, ← EReal.coe_add, rs_msq]
  rfl

theorem tile_wo (k : Fin 1408) (d : Fin 1024) :
    woutJ (grid0.coords t) (V m c main_v13) (ix3 0 k d) = (D.Wo (hcol (tj t) k) d : EReal) :=
  (woutJ_apply (F := Ideal) t _ k d).trans ((V_wout m c (tj t) k d).trans (H.Wo _ _))

theorem tile_a_even (h1 : ¬t.val % 2 = 1) (acc : Vec Ideal S512x1024 .f32) (r : Fin 512) (d : Fin 1024) :
    aOf (grid0.coords t) (iblk m c 0 t) (iblk m c 1 t) (V m c main_v11) (V m c main_v13) acc (ix2 r d) = (D.part 0 (trow (ti t) r) d : EReal) := by
  have e : tj t = 0 := Fin.ext (by show t.val % 2 = 0; omega)
  unfold aOf
  rw [(crd t).2, show t.val % 2 = 0 by omega]
  refine (pay1_real_0 _ _ acc _ (tile_g H t) (tile_u H t) (tile_wo H t) r d).trans ?_
  rw [e]
  rfl

theorem tile_a_odd (h1 : t.val % 2 = 1) (acc : Vec Ideal S512x1024 .f32)
    (hacc : ∀ r d, acc (ix2 r d) = (D.part 0 (trow (ti t) r) d : EReal)) (r : Fin 512) (d : Fin 1024) :
    aOf (grid0.coords t) (iblk m c 0 t) (iblk m c 1 t) (V m c main_v11) (V m c main_v13) acc (ix2 r d)
      = (∑ k, D.a (trow (ti t) r) k * D.Wo k d : ℝ) := by
  have e : tj t = 1 := Fin.ext h1
  rw [← D.part_add]
  unfold aOf
  rw [(crd t).2, h1]
  refine (pay1_real_1 _ _ acc _ (tile_g H t) (tile_u H t) (tile_wo H t) hacc r d).trans ?_
  rw [e]
  rfl

theorem tile_y (h1 : t.val % 2 = 1) (acc : Vec Ideal S512x1024 .f32)
    (hacc : ∀ r d, acc (ix2 r d) = (D.part 0 (trow (ti t) r) d : EReal)) (r : Fin 512) (d : Fin 1024) :
    yOf (grid0.coords t) (iblk m c 0 t) (iblk m c 1 t) (V m c main_v11) (V m c main_v13) acc (ix2 r d) = (D.y (trow (ti t) r) d : EReal) := by
  unfold yOf
  exact pay3_real _ _ _ acc _ _ _ (tile_a_odd H t h1 acc hacc) (blk_x H t) (row_ga H t) r d

/-- At an odd point the running product is the first half's part. -/
theorem prev_acc (h1 : t.val % 2 = 1) (r : Fin 512) (d : Fin 1024) :
    (prev m c t).2.2.2.1 (ix2 r d) = (D.part 0 (trow (ti t) r) d : EReal) := by
  have hN := t_lt t
  have hlt : t.val - 1 < cfg0.N := Nat.lt_of_le_of_lt (Nat.sub_le _ _) t.isLt
  obtain ⟨acc, h⟩ := at_s0 m c ⟨t.val - 1, hlt⟩
  refine (congrFun h _).trans ((tile_a_even H ⟨t.val - 1, hlt⟩ (by dsimp only; omega) acc r d).trans ?_)
  rw [show ti ⟨t.val - 1, hlt⟩ = ti t from Fin.ext (by dsimp only; omega)]

/-- At an odd point the first result's block is the sub-layer's output. -/
theorem out2 (h1 : t.val % 2 = 1) (r : Fin 512) (d : Fin 1024) :
    (outsAt0 m c t.val t.isLt).1 (ix2 r d) = (D.y (trow (ti t) r) d : EReal) := by
  have hN := t_lt t
  rw [at_B_2 m c t (by omega), (weights m c _ _).1, (weights m c _ _).2]
  exact tile_y H t h1 _ (prev_acc H t h1) r d

end Cert.Kernel5Ideal.Fwd
-- ==== Proof.FwdFinal.lean ====
/-
  The three arrays the feed-forward forward call leaves, over the reals.
-/
module

public import proofs.«01_k».proof.Proof.FwdPoint

@[expose] public section

noncomputable section

namespace Cert.Kernel5Ideal.Fwd

open Cert.Kernel5Ideal Cert.Kernel5Ideal.Gen Idealize.ShloMosaic Idealize.ShloMosaic.TcCoe Cert.RealKit Cert.HeadMath
open Cert.KernelIdeal.Head (hcol trow eta2 G5 G6)
open Idealize.ShloMosaic.Pipeline (Dat)

variable {m : (ℓ : Loc nD τ sig) → Buf (Elt Ideal) ℓ} {c : Dev nD} {D : Data}

/-- The sub-layer's output. -/
def Gy (D : Data) : Vec Ideal S8192x1024 .f32 := fun i => (D.y (i 0) (i 1) : EReal)

theorem emb2 (t : Fin cfg0.N) (y : S512x1024.Idx) : ((cfg0.win 2).blk t).view.emb y = ix2 (trow (ti t) (y 0)) (y 1) := by
  refine funext fun a => Fin.ext ?_
  match a with
  | ⟨0, _⟩ => show win0_2.index t 0 * 512 + 1 * (y 0).val = t.val / 2 * 512 + (y 0).val; rw [(idx2 t).1]; omega
  | ⟨1, _⟩ => show win0_2.index t 1 * 1024 + 1 * (y 1).val = (y 1).val; rw [(idx2 t).2]; omega
theorem emb3 (t : Fin cfg0.N) (y : S512x1408.Idx) : ((cfg0.win 3).blk t).view.emb y = ix2 (trow (ti t) (y 0)) (hcol (tj t) (y 1)) := by
  refine funext fun a => Fin.ext ?_
  match a with
  | ⟨0, _⟩ => show win0_3.index t 0 * 512 + 1 * (y 0).val = t.val / 2 * 512 + (y 0).val; rw [(idx3 t).1]; omega
  | ⟨1, _⟩ => show win0_3.index t 1 * 1408 + 1 * (y 1).val = t.val % 2 * 1408 + (y 1).val; rw [(idx3 t).2]; omega
theorem emb4 (t : Fin cfg0.N) (y : S512x1408.Idx) : ((cfg0.win 4).blk t).view.emb y = ix2 (trow (ti t) (y 0)) (hcol (tj t) (y 1)) := by
  refine funext fun a => Fin.ext ?_
  match a with
  | ⟨0, _⟩ => show win0_4.index t 0 * 512 + 1 * (y 0).val = t.val / 2 * 512 + (y 0).val; rw [(idx4 t).1]; omega
  | ⟨1, _⟩ => show win0_4.index t 1 * 1408 + 1 * (y 1).val = t.val % 2 * 1408 + (y 1).val; rw [(idx4 t).2]; omega
variable (H : Holds m c D)
include H

theorem arr2 : (dats m 0 c).arrAt 2 cfg0.N = Gy D :=
  (dats m 0 c).arrAt_eq_of_cover 2 (Gy D)
    (fun t hf => by
      have h1 := (flush0_2 t).mp hf
      rw [Value.flushed2]
      refine funext fun (y : S512x1024.Idx) => ?_
      refine (congrArg (outsAt0 m c t.val t.isLt).1 (eta2 y)).trans ?_
      refine (out2 H t h1 (y 0) (y 1)).trans ?_
      exact Eq.trans (b := Gy D (ix2 (trow (ti t) (y 0)) (y 1))) rfl ((congrArg (Gy D) (emb2 t y)).symm.trans rfl))
    fun i => by
      have h0 : (i 0 : ℕ) < 8192 := (i 0).isLt
      have h1 : (i 1 : ℕ) < 1024 := (i 1).isLt
      obtain ⟨t, ht⟩ : ∃ t : Fin cfg0.N, t.val = 2 * ((i 0 : ℕ) / 512) + 1 := ⟨⟨_, by rw [show cfg0.N = 32 from N_0]; omega⟩, rfl⟩
      refine ⟨t, (flush0_2 t).mpr (by omega), ?_⟩
      show i ∈ ((View.whole main_v14_0).slice (win0_2.rect t)).set
      rw [View.set_slice_whole, Rect.mem_set_unit]
      have e := idx2 t
      intro a
      match a with
      | ⟨0, _⟩ => show win0_2.index t 0 * 512 ≤ (i 0 : ℕ) ∧ (i 0 : ℕ) < win0_2.index t 0 * 512 + 512
                  rw [e.1]; omega
      | ⟨1, _⟩ => show win0_2.index t 1 * 1024 ≤ (i 1 : ℕ) ∧ (i 1 : ℕ) < win0_2.index t 1 * 1024 + 1024
                  rw [e.2]; omega

theorem arr3 : (dats m 0 c).arrAt 3 cfg0.N = G5 D :=
  (dats m 0 c).arrAt_eq_of_cover 3 (G5 D)
    (fun t hf => by
      rw [Value.flushed3, at_3]
      refine funext fun (y : S512x1408.Idx) => ?_
      refine (congrArg (gOf (grid0.coords t) (iblk m c 0 t) (iblk m c 1 t) (V m c main_v11)) (eta2 y)).trans ?_
      refine (tile_g H t (y 0) (y 1)).trans ?_
      exact Eq.trans (b := G5 D (ix2 (trow (ti t) (y 0)) (hcol (tj t) (y 1)))) rfl ((congrArg (G5 D) (emb3 t y)).symm.trans rfl))
    fun i => by
      have h0 : (i 0 : ℕ) < 8192 := (i 0).isLt
      have h1 : (i 1 : ℕ) < 2816 := (i 1).isLt
      obtain ⟨t, ht⟩ : ∃ t : Fin cfg0.N, t.val = 2 * ((i 0 : ℕ) / 512) + (i 1 : ℕ) / 1408 := ⟨⟨_, by rw [show cfg0.N = 32 from N_0]; omega⟩, rfl⟩
      refine ⟨t, flush0_3 t, ?_⟩
      show i ∈ ((View.whole main_v14_1).slice (win0_3.rect t)).set
      rw [View.set_slice_whole, Rect.mem_set_unit]
      have e := idx3 t
      intro a
      match a with
      | ⟨0, _⟩ => show win0_3.index t 0 * 512 ≤ (i 0 : ℕ) ∧ (i 0 : ℕ) < win0_3.index t 0 * 512 + 512
                  rw [e.1]; omega
      | ⟨1, _⟩ => show win0_3.index t 1 * 1408 ≤ (i 1 : ℕ) ∧ (i 1 : ℕ) < win0_3.index t 1 * 1408 + 1408
                  rw [e.2]; omega

theorem arr4 : (dats m 0 c).arrAt 4 cfg0.N = G6 D :=
  (dats m 0 c).arrAt_eq_of_cover 4 (G6 D)
    (fun t hf => by
      rw [Value.flushed4, at_4]
      refine funext fun (y : S512x1408.Idx) => ?_
      refine (congrArg (uOf (grid0.coords t) (iblk m c 0 t) (iblk m c 1 t) (V m c main_v11)) (eta2 y)).trans ?_
      refine (tile_u H t (y 0) (y 1)).trans ?_
      exact Eq.trans (b := G6 D (ix2 (trow (ti t) (y 0)) (hcol (tj t) (y 1)))) rfl ((congrArg (G6 D) (emb4 t y)).symm.trans rfl))
    fun i => by
      have h0 : (i 0 : ℕ) < 8192 := (i 0).isLt
      have h1 : (i 1 : ℕ) < 2816 := (i 1).isLt
      obtain ⟨t, ht⟩ : ∃ t : Fin cfg0.N, t.val = 2 * ((i 0 : ℕ) / 512) + (i 1 : ℕ) / 1408 := ⟨⟨_, by rw [show cfg0.N = 32 from N_0]; omega⟩, rfl⟩
      refine ⟨t, flush0_4 t, ?_⟩
      show i ∈ ((View.whole main_v14_2).slice (win0_4.rect t)).set
      rw [View.set_slice_whole, Rect.mem_set_unit]
      have e := idx4 t
      intro a
      match a with
      | ⟨0, _⟩ => show win0_4.index t 0 * 512 ≤ (i 0 : ℕ) ∧ (i 0 : ℕ) < win0_4.index t 0 * 512 + 512
                  rw [e.1]; omega
      | ⟨1, _⟩ => show win0_4.index t 1 * 1408 ≤ (i 1 : ℕ) ∧ (i 1 : ℕ) < win0_4.index t 1 * 1408 + 1408
                  rw [e.2]; omega

end Cert.Kernel5Ideal.Fwd
-- ==== Proof.FwdRef.lean ====
/-
  The reference of the feed-forward forward call, over the reals: its three results when the arguments hold real numbers.
-/
module

public import proofs.«01_k».proof.Proof.FwdFinal
public import proofs.«01_k».proof.Proof.Gen.Reference5Ideal.Read

@[expose] public section

noncomputable section

namespace Cert.Reference5Ideal.Fwd

open Cert.Reference5Ideal Cert.Reference5Ideal.Read Idealize.ShloMosaic Idealize.ShloMosaic.TcCoe Cert.RealKit Cert.HeadMath
open Cert.KernelIdeal.Head (div1024 rs_msq)

variable {D : Data} {x0 : Vec Ideal S8192x1024 .f32} {x1 x2 x3 x4 : Vec Ideal S1x1024 .f32} {x5 : Vec Ideal S1024x5632 .f32}
  {x6 : Vec Ideal S2816x1024 .f32}

/-- The seven arguments hold the numbers of `D`. -/
structure Args (D : Data) (x0 : Vec Ideal S8192x1024 .f32) (x1 x2 x3 x4 : Vec Ideal S1x1024 .f32)
    (x5 : Vec Ideal S1024x5632 .f32) (x6 : Vec Ideal S2816x1024 .f32) : Prop where
  X : ∀ r d, x0 (ix2 r d) = (D.X r d : EReal)
  sh : ∀ d, x1 (ix2 0 d) = (D.sh d : EReal)
  sc : ∀ d, x2 (ix2 0 d) = (D.sc d : EReal)
  ga : ∀ d, x3 (ix2 0 d) = (D.ga d : EReal)
  gn : ∀ d, x4 (ix2 0 d) = (D.gn d : EReal)
  Wi : ∀ d k, x5 (ix2 d k) = (D.Wi d k : EReal)
  Wo : ∀ k d, x6 (ix2 k d) = (D.Wo k d : EReal)

variable (H : Args D x0 x1 x2 x3 x4 x5 x6)
include H

theorem hid17 (r : Fin 8192) (d : Fin 1024) : val_main_v17 x0 x1 x2 x4 (ix2 r d) = (hid (D.X r) D.gn D.sc D.sh d : EReal) := by
  pointwise [val_main_v17, val_main_v16, val_main_v15, val_main_v14, val_main_v13, val_main_v12, val_main_cst_2, val_main_v11,
    val_main_v10, val_main_v9, val_main_v8, val_main_v7, val_main_v6, val_main_v5, val_main_cst_1, val_main_v4, val_main_v3,
    val_main_cst_0, val_main_v2, val_main_v1, val_main_cst, val_main_v0]
  simp only [H.X, H.sh, H.sc, H.gn, c_1024, c_eps, ← EReal.coe_one, ← EReal.coe_mul, coe_sum, div1024, ← EReal.coe_add, rs_msq]
  rfl

theorem hid36 (r : Fin 8192) (d : Fin 1024) : val_main_v36 x0 x1 x2 x4 (ix2 r d) = (hid (D.X r) D.gn D.sc D.sh d : EReal) :=
  hid17 H r d

theorem gu18 (r : Fin 8192) (k : Fin 5632) : val_main_v18 x0 x1 x2 x4 x5 (ix2 r k) = (D.gu r k : EReal) := by
  pointwise [val_main_v18]
  simp only [hid17 H, H.Wi, ← EReal.coe_mul, coe_sum]
  rfl

theorem gu39 (r : Fin 8192) (k : Fin 5632) : val_main_v39 x0 x1 x2 x4 x5 (ix2 r k) = (D.gu r k : EReal) := gu18 H r k

theorem res49 : val_main_v49 x0 x1 x2 x4 x5 = Cert.KernelIdeal.Head.G5 D := by
  refine funext fun i => ?_
  rw [Cert.KernelIdeal.Head.eta2 i]
  pointwise [val_main_v49, val_main_v48]
  exact gu18 H _ _

theorem res51 : val_main_v51 x0 x1 x2 x4 x5 = Cert.KernelIdeal.Head.G6 D := by
  refine funext fun i => ?_
  rw [Cert.KernelIdeal.Head.eta2 i]
  pointwise [val_main_v51, val_main_v50]
  exact gu18 H _ _

theorem act43 (r : Fin 8192) (k : Fin 2816) : val_main_v43 x0 x1 x2 x4 x5 (ix2 r k) = (D.a r k : EReal) := by
  pointwise [val_main_v43, val_main_v42, val_main_v41, val_main_v40, val_main_call0_v0, val_main_call0_v1, val_main_call0_v2,
    val_main_call0_v3, val_main_call0_v4, val_main_call0_v5, val_main_call0_cst, val_main_call0_cst_0]
  simp only [gu39 H, ← EReal.coe_neg, Ideal.exp_coe, ← EReal.coe_one, ← EReal.coe_add]
  rw [div_real (by positivity), ← EReal.coe_mul, ← EReal.coe_mul, one_div]
  rfl

theorem y47 (r : Fin 8192) (d : Fin 1024) : val_main_v47 x0 x1 x2 x3 x4 x5 x6 (ix2 r d) = (D.y r d : EReal) := by
  pointwise [val_main_v47, val_main_v46, val_main_v45, val_main_v38, val_main_v37, val_main_cst_7, val_main_v44]
  simp only [act43 H, H.Wo, H.X, H.ga, c_half, ← EReal.coe_mul, coe_sum, ← EReal.coe_add]
  rfl

theorem res47 : val_main_v47 x0 x1 x2 x3 x4 x5 x6 = Cert.Kernel5Ideal.Fwd.Gy D := by
  refine funext fun i => ?_
  rw [Cert.KernelIdeal.Head.eta2 i]
  exact y47 H _ _

end Cert.Reference5Ideal.Fwd
-- ==== Proof.FwdPre.lean ====
/-
  The precondition of the feed-forward forward call: finite arguments are arrays of real numbers.
-/
module

public import proofs.«01_k».proof.Defs
public import proofs.«01_k».proof.Proof.Gen.Pre_finite_fwd
public import proofs.«01_k».proof.Proof.FwdPoint

@[expose] public section

noncomputable section

namespace Cert.Kernel5Ideal.Fwd

open Cert.Kernel5Ideal Cert.Kernel5Ideal.Gen Idealize.ShloMosaic Idealize.ShloMosaic.TcCoe Cert.RealKit Cert.HeadMath

instance : Subsingleton S_.Idx := ⟨fun a b => funext fun k => k.elim0⟩

/-- Arguments that pass the test "every element is finite" hold real numbers. -/
theorem holds [Cert.Pre_finite_fwd.Facts] {m : (ℓ : Loc nD τ sig) → Buf (Elt Ideal) ℓ} (h : Cert.Pre_Kernel5Ideal_finite_fwd m) (c : Dev nD) :
    ∃ D, Holds m c D := by
  have e := congrFun (h c) ix0
  unfold Cert.Pre_finite_fwd.fn Cert.Pre_finite_fwd.fn_part1 at e
  dsimp only at e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  exact ⟨⟨fun r d => X0 (ix2 r d), fun _ _ => 0, fun d => X1 (ix2 0 d), fun d => X2 (ix2 0 d), fun d => X3 (ix2 0 d),
      fun d => X4 (ix2 0 d), fun d k => X5 (ix2 d k), fun k d => X6 (ix2 k d), fun _ => 0⟩,
    fun r d => congrFun h0 _, fun d => congrFun h1 _, fun d => congrFun h2 _, fun d => congrFun h3 _, fun d => congrFun h4 _,
    fun d k => congrFun h5 _, fun k d => congrFun h6 _⟩

end Cert.Kernel5Ideal.Fwd
-- ==== Proof.FmixBlk.lean ====
/-
  The arrays one point of the mixing sub-layer's forward call computes, as the payloads of its body over the blocks the
  point reads and the row buffer it carries.
-/
module

public import proofs.«01_k».proof.Proof.MixKit
public import proofs.«01_k».proof.Proof.Gen.Kernel6Ideal.Value
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel6Ideal.Fmix

open Cert.Kernel6Ideal Cert.Kernel6Ideal.Gen Idealize.ShloMosaic Idealize.ShloMosaic.TcCoe Idealize.SL.Sem
open Idealize.ShloMosaic.Pipeline (Dat)
open Cert.Kernel2Ideal.Mix (hz2 hz3 read_put cov_ld ld_put_same ld_put_ne put_whole)

/-- The blocks one point reads. -/
structure Fb (F : FTy → Type) where
  /-- rows of the input -/
  x : Vec F S512x1024 .f32
  /-- the modulation rows -/
  mod : Vec F S8x1024 .f32
  /-- the first weight -/
  win : Vec F S1024x1536 .bf16
  /-- the square weights -/
  wpool : Vec F S4x128x128 .bf16
  /-- the pooling scale and the layer norm's gain and shift -/
  vec : Vec F S8x512 .f32
  /-- the spatial weights, two heads side by side -/
  wcat : Vec F S4x128x256 .bf16
  /-- the spatial bias, spread over the columns -/
  bias : Vec F S128x512 .f32
  /-- the last weight -/
  wout : Vec F S1024x1024 .bf16

variable {F : FTy → Type} [FloatOps F] [Named F]

/-- The pooled part of the projection. -/
def Fb.xa (b : Fb F) : Vec F S512x512 .f32 :=
  k0_pay4 b.x (View.ld b.mod (Rect.unit (s := S8x1024) ![3, 0] S1x1024.size inb_S8x1024_S1x1024_3_0)) (View.ld b.mod (Rect.unit (s := S8x1024) ![1, 0] S1x1024.size inb_S8x1024_S1x1024_1_0)) (View.ld b.mod (Rect.unit (s := S8x1024) ![0, 0] S1x1024.size inb_S8x1024_S1x1024_0_0)) b.win

/-- The gating part of the projection. -/
def Fb.zb (b : Fb F) : Vec F S512x1024 .f32 :=
  k0_pay5 b.x (View.ld b.mod (Rect.unit (s := S8x1024) ![3, 0] S1x1024.size inb_S8x1024_S1x1024_3_0)) (View.ld b.mod (Rect.unit (s := S8x1024) ![1, 0] S1x1024.size inb_S8x1024_S1x1024_1_0)) (View.ld b.mod (Rect.unit (s := S8x1024) ![0, 0] S1x1024.size inb_S8x1024_S1x1024_0_0)) b.win

/-- The packed layer-norm and pooling vectors. -/
def Fb.vecs (b : Fb F) : Vec F S8x512 .f32 :=
  k0_pay8 b.vec

/-- The row buffer after the point's rows are stored over the rows kept from the point before. -/
def Fb.ext (b : Fb F) (h : Vec F S528x512 .f32) : Vec F S528x512 .f32 :=
  VecWindow.put (s := S528x512) h ![16, 0] S512x512.size (k0_pay6 b.xa)

/-- The pooled rows of the first group. -/
def Fb.p0 (b : Fb F) (v0 : BitVec 32) (E : Vec F S528x512 .f32) : Vec F S512x128 .bf16 :=
  k0_pay9 v0 b.xa (View.ld E (Rect.unit (s := S528x512) ![15, 0] S512x128.size inb_S528x512_S512x128_15_0))

/-- The window sums of the second group. -/
def Fb.s1 (b : Fb F) (E : Vec F S528x512 .f32) : Vec F S512x128 .f32 :=
  k0_pay11 b.xa (View.ld E (Rect.unit (s := S528x512) ![15, 128] S512x128.size inb_S528x512_S512x128_15_128)) (View.ld E (Rect.unit (s := S528x512) ![14, 128] S512x128.size inb_S528x512_S512x128_14_128)) (View.ld E (Rect.unit (s := S528x512) ![13, 128] S512x128.size inb_S528x512_S512x128_13_128))

/-- The pooled rows of the second group. -/
def Fb.p1 (b : Fb F) (v0 : BitVec 32) (E : Vec F S528x512 .f32) : Vec F S512x128 .bf16 :=
  k0_pay13 b.xa (b.s1 E) (k0_pay12 v0)

/-- The pooled rows of the third group. -/
def Fb.p2 (b : Fb F) (v0 : BitVec 32) (E : Vec F S528x512 .f32) : Vec F S512x128 .bf16 :=
  k0_pay15 b.xa (k0_pay7 v0) (View.ld E (Rect.unit (s := S528x512) ![15, 256] S512x128.size inb_S528x512_S512x128_15_256)) (View.ld E (Rect.unit (s := S528x512) ![14, 256] S512x128.size inb_S528x512_S512x128_14_256)) (View.ld E (Rect.unit (s := S528x512) ![13, 256] S512x128.size inb_S528x512_S512x128_13_256)) (View.ld E (Rect.unit (s := S528x512) ![12, 256] S512x128.size inb_S528x512_S512x128_12_256)) (View.ld E (Rect.unit (s := S528x512) ![11, 256] S512x128.size inb_S528x512_S512x128_11_256)) (View.ld E (Rect.unit (s := S528x512) ![10, 256] S512x128.size inb_S528x512_S512x128_10_256)) (View.ld E (Rect.unit (s := S528x512) ![9, 256] S512x128.size inb_S528x512_S512x128_9_256))

/-- The window sums of the fourth group, but for the two oldest rows. -/
def Fb.s3 (b : Fb F) (E : Vec F S528x512 .f32) : Vec F S512x128 .f32 :=
  k0_pay18 b.xa (View.ld E (Rect.unit (s := S528x512) ![15, 384] S512x128.size inb_S528x512_S512x128_15_384)) (View.ld E (Rect.unit (s := S528x512) ![14, 384] S512x128.size inb_S528x512_S512x128_14_384)) (View.ld E (Rect.unit (s := S528x512) ![13, 384] S512x128.size inb_S528x512_S512x128_13_384)) (View.ld E (Rect.unit (s := S528x512) ![12, 384] S512x128.size inb_S528x512_S512x128_12_384)) (View.ld E (Rect.unit (s := S528x512) ![11, 384] S512x128.size inb_S528x512_S512x128_11_384)) (View.ld E (Rect.unit (s := S528x512) ![10, 384] S512x128.size inb_S528x512_S512x128_10_384)) (View.ld E (Rect.unit (s := S528x512) ![9, 384] S512x128.size inb_S528x512_S512x128_9_384)) (View.ld E (Rect.unit (s := S528x512) ![8, 384] S512x128.size inb_S528x512_S512x128_8_384)) (View.ld E (Rect.unit (s := S528x512) ![7, 384] S512x128.size inb_S528x512_S512x128_7_384)) (View.ld E (Rect.unit (s := S528x512) ![6, 384] S512x128.size inb_S528x512_S512x128_6_384)) (View.ld E (Rect.unit (s := S528x512) ![5, 384] S512x128.size inb_S528x512_S512x128_5_384)) (View.ld E (Rect.unit (s := S528x512) ![4, 384] S512x128.size inb_S528x512_S512x128_4_384)) (View.ld E (Rect.unit (s := S528x512) ![3, 384] S512x128.size inb_S528x512_S512x128_3_384))

/-- The pooled rows. -/
def Fb.pooled (b : Fb F) (v0 : BitVec 32) (E : Vec F S528x512 .f32) : Vec F S512x512 .bf16 :=
  k0_pay21 b.xa (k0_pay7 v0) (b.p0 v0 E) (b.p1 v0 E) (b.p2 v0 E) (b.s3 E) (View.ld E (Rect.unit (s := S528x512) ![2, 384] S512x128.size inb_S528x512_S512x128_2_384)) (View.ld E (Rect.unit (s := S528x512) ![1, 384] S512x128.size inb_S528x512_S512x128_1_384))

/-- The first group's rows of the concatenation. -/
def Fb.y0 (b : Fb F) (v0 : BitVec 32) (E : Vec F S528x512 .f32) : Vec F S512x128 .f32 :=
  k0_pay10 v0 b.xa b.vec (View.ld E (Rect.unit (s := S528x512) ![15, 0] S512x128.size inb_S528x512_S512x128_15_0)) (View.ld b.wpool (Rect.unit (s := S4x128x128) ![0, 0, 0] S1x128x128.size inb_S4x128x128_S1x128x128_0_0_0))

/-- The second group's rows of the concatenation. -/
def Fb.y1 (b : Fb F) (v0 : BitVec 32) (E : Vec F S528x512 .f32) : Vec F S512x128 .f32 :=
  k0_pay14 b.xa b.vecs (b.s1 E) (k0_pay12 v0) (View.ld b.wpool (Rect.unit (s := S4x128x128) ![1, 0, 0] S1x128x128.size inb_S4x128x128_S1x128x128_1_0_0))

/-- The third group's rows of the concatenation. -/
def Fb.y2 (b : Fb F) (v0 : BitVec 32) (E : Vec F S528x512 .f32) : Vec F S512x128 .f32 :=
  k0_pay17 b.vecs (b.p2 v0 E) (k0_pay16 (View.ld b.wpool (Rect.unit (s := S4x128x128) ![2, 0, 0] S1x128x128.size inb_S4x128x128_S1x128x128_2_0_0)))

/-- The fourth group's rows of the concatenation. -/
def Fb.y3 (b : Fb F) (v0 : BitVec 32) (E : Vec F S528x512 .f32) : Vec F S512x128 .f32 :=
  k0_pay20 b.xa (k0_pay7 v0) b.vecs (b.s3 E) (View.ld E (Rect.unit (s := S528x512) ![2, 384] S512x128.size inb_S528x512_S512x128_2_384)) (View.ld E (Rect.unit (s := S528x512) ![1, 384] S512x128.size inb_S528x512_S512x128_1_384)) (View.ld b.wpool (Rect.unit (s := S4x128x128) ![3, 0, 0] S1x128x128.size inb_S4x128x128_S1x128x128_3_0_0))

/-- The gelu of the gating part. -/
def Fb.z (b : Fb F) : Vec F S512x1024 .f32 :=
  k0_pay23 b.zb

/-- The left half of the gelu. -/
def Fb.u (b : Fb F) : Vec F S512x512 .f32 :=
  k0_pay24 b.zb

/-- The layer norm. -/
def Fb.vl (b : Fb F) : Vec F S512x512 .f32 :=
  k0_pay25 b.vecs b.z

/-- The spatially mixed columns of the first pair of heads. -/
def Fb.sv0 (b : Fb F) : Vec F S512x128 .f32 :=
  k0_pay36 (k0_pay29 b.vecs b.z) k0_pay30 (k0_pay31 b.vecs b.z) (k0_pay32 b.vecs b.z) (k0_pay33 b.vecs b.z) (k0_pay34 b.vecs b.z) k0_pay35 (View.ld b.wcat (Rect.unit (s := S4x128x256) ![0, 0, 0] S1x128x256.size inb_S4x128x256_S1x128x256_0_0_0)) (View.ld b.bias (Rect.unit (s := S128x512) ![0, 0] S128x128.size inb_S128x512_S128x128_0_0))

/-- The spatially mixed columns of the second pair of heads. -/
def Fb.sv1 (b : Fb F) : Vec F S512x128 .f32 :=
  k0_pay38 (k0_pay37 b.vl) (View.ld b.wcat (Rect.unit (s := S4x128x256) ![1, 0, 0] S1x128x256.size inb_S4x128x256_S1x128x256_1_0_0)) (View.ld b.bias (Rect.unit (s := S128x512) ![0, 128] S128x128.size inb_S128x512_S128x128_0_128))

/-- The spatially mixed columns of the third pair of heads. -/
def Fb.sv2 (b : Fb F) : Vec F S512x128 .f32 :=
  k0_pay40 (k0_pay39 b.vl) (View.ld b.wcat (Rect.unit (s := S4x128x256) ![2, 0, 0] S1x128x256.size inb_S4x128x256_S1x128x256_2_0_0)) (View.ld b.bias (Rect.unit (s := S128x512) ![0, 256] S128x128.size inb_S128x512_S128x128_0_256))

/-- The point's rows of the output. -/
def Fb.xo (b : Fb F) (v0 : BitVec 32) (E : Vec F S528x512 .f32) : Vec F S512x1024 .f32 :=
  k0_pay1 b.x (b.y0 v0 E) (b.y1 v0 E) (b.y2 v0 E) (b.y3 v0 E) b.u b.sv0 b.sv1 b.sv2 (k0_pay41 b.vl (View.ld b.wcat (Rect.unit (s := S4x128x256) ![3, 0, 0] S1x128x256.size inb_S4x128x256_S1x128x256_3_0_0))) (View.ld b.bias (Rect.unit (s := S128x512) ![0, 384] S128x128.size inb_S128x512_S128x128_0_384)) (View.ld b.mod (Rect.unit (s := S8x1024) ![2, 0] S1x1024.size inb_S8x1024_S1x1024_2_0)) b.wout

/-- The contents after a point, given the row buffer it starts from. -/
def Fb.step (b : Fb F) (v0 : BitVec 32) (h e e2 : Vec F S528x512 .f32) :
    Vec F S512x1024 .f32 × Vec F S512x512 .bf16 × Vec F S512x1024 .f32 × Vec F S528x512 .f32 :=
  (b.xo v0 (b.ext h), b.pooled v0 (b.ext h), b.zb,
    VecWindow.put (s := S528x512) (b.ext e) ![0, 0] S16x512.size (k0_pay22 (View.ld (b.ext e2) (Rect.unit (s := S528x512) ![512, 0] S16x512.size inb_S528x512_S16x512_512_0))))

end Cert.Kernel6Ideal.Fmix

end
-- ==== Proof.FmixRun.lean ====
/-
  What the mixing sub-layer's forward call leaves in each of its buffers after each point of its grid, as the payloads of
  its body over the blocks the point reads and the row buffer it carries.
-/
module

public import proofs.«01_k».proof.Proof.FmixBlk
public import Idealize.ShloMosaic.Lib.Tactic
public import Idealize.ShloMosaic.Lib.WritesUnit
public import Idealize.ShloMosaic.Lib.Pipeline.Value
public import Idealize.ShloMosaic.Lib.Pointwise

@[expose] public section

noncomputable section

namespace Cert.Kernel6Ideal.Fmix

open Cert.Kernel6Ideal Cert.Kernel6Ideal.Gen Idealize.ShloMosaic Idealize.ShloMosaic.TcCoe Idealize.SL.Sem
open Idealize.ShloMosaic.Pipeline (Dat)
open Cert.Kernel2Ideal.Mix (hz2 hz3 read_put cov_ld ld_put_same ld_put_ne put_whole)

variable {F : FTy → Type} [FloatOps F] [Named F]

variable (m : (ℓ : Loc nD τ sig) → Buf (Elt F) ℓ) (c : Dev nD) (t : Fin cfg0.N)

/-- The blocks of point `t`. -/
def blk : Fb F := ⟨iblk m c 0 t, iblk m c 1 t, iblk m c 2 t, iblk m c 3 t, iblk m c 4 t, iblk m c 5 t, iblk m c 6 t, iblk m c 7 t⟩

/-- The tile of point `t`, as the body is told it. -/
def tileW : BitVec 32 := BitVec.ofNat 32 (grid0.coords t 0).val

/-- The contents after the point before. -/
abbrev prev := outsAt0 m c (t.val - 1) (Nat.lt_of_le_of_lt (Nat.sub_le _ _) t.isLt)

theorem read0 (x : Vec F S528x512 .f32) : View.read (Elt F) (View.whole cc0_scratch0) ((Memref.isWhole_whole cc0_scratch0).unread x) = x :=
  (Memref.isWhole_whole cc0_scratch0).read_unread x
theorem putw_tile (x w : S512x1024.Idx → Elt F .f32) : VecWindow.put x ![0, 0] ![512, 1024] w = w := put_whole hz2 w
theorem putw_pool (x w : S512x512.Idx → Elt F .bf16) : VecWindow.put x ![0, 0] ![512, 512] w = w := put_whole hz2 w

set_option maxHeartbeats 400000 in
/-- The contents after the first point. -/
theorem at_A (h0 : t.val % 16 = 0) : ∃ e e' e2, outsAt0 m c t.val t.isLt = (blk m c t).step (tileW t) (VecWindow.put (s := S528x512) e ![0, 0] ![16, 512] k0_pay2) e' e2 := by
  refine ⟨View.read (Elt F) (View.whole cc0_scratch0) (View.whole cc0_scratch0).junk, ?e1, ?e2, ?main⟩
  case main =>
  refine (outsAt0_A m c t h0).trans ?_
  unfold out0_A_8 out0_A_9 out0_A_10 sout0_A_0
  unfold kernelRun0_A
  dsimp only
  sl_unfold_words
  simp (disch := decide) only [cov_ld, View.readAt_eq_ld, Memref.IsWhole.read_unread, read0, read_put, View.writes_nil, ld_put_same,
    View.ld_unit_zero (S := S512x1024) hz2, View.ld_unit_zero (S := S1024x1536) hz2, View.ld_unit_zero (S := S512x512) hz2, View.ld_unit_zero (S := S8x512) hz2,
    View.ld_unit_zero (S := S1024x1024) hz2, View.ld_unit_zero (S := S128x512) hz2, putw_tile, putw_pool]
  simp only [VS0_0, Fb.step, Fb.xa, Fb.zb, Fb.vecs, Fb.ext, Fb.p0, Fb.s1, Fb.p1, Fb.p2, Fb.s3, Fb.pooled, Fb.y0, Fb.y1, Fb.y2, Fb.y3, Fb.z, Fb.u, Fb.vl, Fb.sv0, Fb.sv1, Fb.sv2, Fb.xo, blk, tileW]
  iterate 3 refine congrArg₂ Prod.mk (by first | with_reducible rfl | exact putw_tile _ _ | exact putw_pool _ _) ?_
  rfl

set_option maxHeartbeats 4000000 in
/-- The contents after the other points. -/
theorem at_B (h0 : ¬t.val % 16 = 0) : ∃ e' e2, outsAt0 m c t.val t.isLt = (blk m c t).step (tileW t) (prev m c t).2.2.2 e' e2 := by
  refine ⟨?e1, ?e2, ?main⟩
  case main =>
  refine (outsAt0_B m c t h0).trans ?_
  unfold out0_B_8 out0_B_9 out0_B_10 sout0_B_0
  unfold kernelRun0_B
  dsimp only
  sl_unfold_words
  simp (disch := decide) only [cov_ld, View.readAt_eq_ld, Memref.IsWhole.read_unread, read0, read_put, View.writes_nil, ld_put_same,
    View.ld_unit_zero (S := S512x1024) hz2, View.ld_unit_zero (S := S1024x1536) hz2, View.ld_unit_zero (S := S512x512) hz2, View.ld_unit_zero (S := S8x512) hz2,
    View.ld_unit_zero (S := S1024x1024) hz2, View.ld_unit_zero (S := S128x512) hz2, putw_tile, putw_pool]
  simp only [VS0_0, Fb.step, Fb.xa, Fb.zb, Fb.vecs, Fb.ext, Fb.p0, Fb.s1, Fb.p1, Fb.p2, Fb.s3, Fb.pooled, Fb.y0, Fb.y1, Fb.y2, Fb.y3, Fb.z, Fb.u, Fb.vl, Fb.sv0, Fb.sv1, Fb.sv2, Fb.xo, blk, tileW]
  iterate 3 refine congrArg₂ Prod.mk (by first | with_reducible rfl | exact putw_tile _ _ | exact putw_pool _ _) ?_
  rfl

end Cert.Kernel6Ideal.Fmix

end
-- ==== Proof.FmixHost.lean ====
/-
  The arrays the host hands the mixing sub-layer's forward call, read at an index from its arguments.
-/
module

public import proofs.«01_k».proof.Proof.MixHost
public import proofs.«01_k».proof.Proof.FmixRun

@[expose] public section

noncomputable section

namespace Cert.Kernel6Ideal.Fmix

open Cert.Kernel6Ideal Cert.Kernel6Ideal.Gen Idealize.ShloMosaic Idealize.ShloMosaic.TcCoe Cert.RealKit Cert.MixMath Cert.HeadMath
open Cert.Kernel2Ideal.Mix (tri_word tri_sel slab_even slab_odd)

/-- The arguments hold real numbers. -/
structure Args (m : (ℓ : Loc nD τ sig) → Buf (Elt Ideal) ℓ) (c : Dev nD) (D : In) : Prop where
  x : ∀ r d, (m ((c : Thread nD τ).loc main_arg0) : Vec Ideal S8192x1024 .f32) (ix2 r d) = (D.x r d : EReal)
  sh : ∀ d, (m ((c : Thread nD τ).loc main_arg1) : Vec Ideal S1x1024 .f32) (ix2 (0 : Fin 1) d) = (D.sh d : EReal)
  sc : ∀ d, (m ((c : Thread nD τ).loc main_arg2) : Vec Ideal S1x1024 .f32) (ix2 (0 : Fin 1) d) = (D.sc d : EReal)
  ga : ∀ d, (m ((c : Thread nD τ).loc main_arg3) : Vec Ideal S1x1024 .f32) (ix2 (0 : Fin 1) d) = (D.ga d : EReal)
  gn : ∀ d, (m ((c : Thread nD τ).loc main_arg4) : Vec Ideal S1x1024 .f32) (ix2 (0 : Fin 1) d) = (D.gn d : EReal)
  win : ∀ d j, (m ((c : Thread nD τ).loc main_arg5) : Vec Ideal S1024x1536 .f32) (ix2 d j) = (D.win d j : EReal)
  wp : ∀ g a b, (m ((c : Thread nD τ).loc main_arg6) : Vec Ideal S4x128x128 .f32) (ix3 g a b) = (D.wp g a b : EReal)
  ps : ∀ e, (m ((c : Thread nD τ).loc main_arg7) : Vec Ideal S1x512 .f32) (ix2 (0 : Fin 1) e) = (D.ps e : EReal)
  lg : ∀ e, (m ((c : Thread nD τ).loc main_arg8) : Vec Ideal S1x512 .f32) (ix2 (0 : Fin 1) e) = (D.lg e : EReal)
  lb : ∀ e, (m ((c : Thread nD τ).loc main_arg9) : Vec Ideal S1x512 .f32) (ix2 (0 : Fin 1) e) = (D.lb e : EReal)
  ws : ∀ hh t q, (m ((c : Thread nD τ).loc main_arg10) : Vec Ideal S8x128x128 .f32) (ix3 hh t q) = (D.ws hh t q : EReal)
  bs : ∀ hh t, (m ((c : Thread nD τ).loc main_arg11) : Vec Ideal S8x128 .f32) (ix2 hh t) = (D.bs hh t : EReal)
  wout : ∀ j d, (m ((c : Thread nD τ).loc main_arg12) : Vec Ideal S1024x1024 .f32) (ix2 j d) = (D.wout j d : EReal)

variable {m : (ℓ : Loc nD τ sig) → Buf (Elt Ideal) ℓ} {c : Dev nD} {D : In} (H : Args m c D)
include H

theorem V_sh (d : Fin 1024) : (V m c main_v1 : Vec Ideal S8x1024 .f32) (ix2 0 d) = (D.sh d : EReal) := by
  rw [← H.sh]; unfold V; after_reads_at
theorem V_sc (d : Fin 1024) : (V m c main_v1 : Vec Ideal S8x1024 .f32) (ix2 1 d) = (D.sc d : EReal) := by
  rw [← H.sc]; unfold V; after_reads_at
theorem V_ga (d : Fin 1024) : (V m c main_v1 : Vec Ideal S8x1024 .f32) (ix2 2 d) = (D.ga d : EReal) := by
  rw [← H.ga]; unfold V; after_reads_at
theorem V_gn (d : Fin 1024) : (V m c main_v1 : Vec Ideal S8x1024 .f32) (ix2 3 d) = (D.gn d : EReal) := by
  rw [← H.gn]; unfold V; after_reads_at
theorem V_ps (e : Fin 512) : (V m c main_v3 : Vec Ideal S8x512 .f32) (ix2 0 e) = (D.ps e : EReal) := by
  rw [← H.ps]; unfold V; after_reads_at
theorem V_lg (e : Fin 512) : (V m c main_v3 : Vec Ideal S8x512 .f32) (ix2 1 e) = (D.lg e : EReal) := by
  rw [← H.lg]; unfold V; after_reads_at
theorem V_lb (e : Fin 512) : (V m c main_v3 : Vec Ideal S8x512 .f32) (ix2 2 e) = (D.lb e : EReal) := by
  rw [← H.lb]; unfold V; after_reads_at
theorem V_win (d : Fin 1024) (j : Fin 1536) : (V m c main_v18 : Vec Ideal S1024x1536 .bf16) (ix2 d j) = (D.win d j : EReal) := by
  rw [← H.win]; unfold V; after_reads_at
theorem V_wp (g : Fin 4) (a b : Fin 128) : (V m c main_v19 : Vec Ideal S4x128x128 .bf16) (ix3 g a b) = (D.wp g a b : EReal) := by
  rw [← H.wp]; unfold V; after_reads_at
theorem V_wout (j d : Fin 1024) : (V m c main_v20 : Vec Ideal S1024x1024 .bf16) (ix2 j d) = (D.wout j d : EReal) := by
  rw [← H.wout]; unfold V; after_reads_at

theorem V_bias (t : Fin 128) (e : Fin 512) : (V m c main_v17 : Vec Ideal S128x512 .f32) (ix2 t e) = (D.bs (hd e) t : EReal) := by
  rw [← H.bs]; unfold V; after_reads_at; rfl

theorem V_ws (hh : Fin 8) (t q : Fin 128) : (V m c main_v7 : Vec Ideal S8x128x128 .f32) (ix3 hh t q) = (D.wm hh t q : EReal) := by
  have hw := H.ws
  unfold V; after_reads_at
  rw [tri_word]
  refine (tri_sel t q _ _ c_zero).trans ((if_congr Iff.rfl (hw hh t q) EReal.coe_zero.symm).trans ?_)
  unfold In.wm; split_ifs <;> rfl

omit H in
theorem slab_even (p : Fin 4) : (⟨2 * p.val, by omega⟩ : Fin 8) = ⟨p.val * 2, by omega⟩ := Fin.ext (by dsimp; omega)
omit H in
theorem slab_odd (p : Fin 4) : (⟨2 * p.val + 1, by omega⟩ : Fin 8) = ⟨p.val * 2 + 1, by omega⟩ := Fin.ext (by dsimp; omega)

theorem V_wcat (p : Fin 4) (t q : Fin 128) : (V m c main_v14 : Vec Ideal S4x128x256 .bf16) (ix3 p t ⟨q.val, by omega⟩) = (D.wm ⟨2 * p.val, by omega⟩ t q : EReal)
    ∧ (V m c main_v14 : Vec Ideal S4x128x256 .bf16) (ix3 p t ⟨128 + q.val, by omega⟩) = (D.wm ⟨2 * p.val + 1, by omega⟩ t q : EReal) := by
  rw [slab_even, slab_odd, ← V_ws H, ← V_ws H]
  unfold V
  constructor <;> after_reads_at <;> after_reads_at

end Cert.Kernel6Ideal.Fmix

end
-- ==== Proof.FmixSum.lean ====
/-
  The pooling windows of the mixing sub-layer, row by row: the sum of the last few rows is the difference of two running
  sums.
-/
module

public import proofs.«01_k».proof.Proof.MixModel

@[expose] public section

noncomputable section

namespace Cert.MixMath

namespace In
variable (D : In)

/-- The pooling columns with sixteen rows of zeros before them. -/
def px (n : ℕ) (e : Fin 512) : ℝ := if h : 16 ≤ n ∧ n - 16 < 8192 then D.proj ⟨n - 16, h.2⟩ (pa e) else 0

theorem px_row (τ : Fin 16) (r e : Fin 512) : D.px ((row τ r).val + 16) e = D.proj (row τ r) (pa e) := by
  unfold px
  rw [dif_pos ⟨Nat.le_add_left .., by rw [Nat.add_sub_cancel]; exact (row τ r).isLt⟩]
  exact congrArg (fun s => D.proj s (pa e)) (Fin.ext (Nat.add_sub_cancel ..))

theorem cum_succ (n : ℕ) (h : n + 1 < 8192) (e : Fin 512) : D.cum ⟨n + 1, h⟩ e = D.cum ⟨n, Nat.lt_of_succ_lt h⟩ e + D.proj ⟨n + 1, h⟩ (pa e) := by
  have k : D.proj ⟨n + 1, h⟩ (pa e) = ∑ i : Fin 8192, if i = ⟨n + 1, h⟩ then D.proj i (pa e) else 0 := by
    rw [Finset.sum_ite_eq' Finset.univ (⟨n + 1, h⟩ : Fin 8192) (fun i => D.proj i (pa e)), if_pos (Finset.mem_univ _)]
  unfold cum
  rw [k, ← Finset.sum_add_distrib]
  refine Finset.sum_congr rfl fun i _ => ?_
  dsimp only
  by_cases h1 : i = ⟨n + 1, h⟩
  · subst h1; rw [if_pos le_rfl, if_neg (by dsimp only; omega), if_pos rfl, zero_add]
  · have h2 : i.val ≠ n + 1 := fun q => h1 (Fin.ext q)
    rw [if_neg h1, add_zero]
    exact if_congr (by omega) rfl rfl
theorem cum_zero (e : Fin 512) : D.cum ⟨0, by norm_num⟩ e = D.proj ⟨0, by norm_num⟩ (pa e) := by
  unfold cum
  rw [← Finset.sum_ite_eq' Finset.univ (⟨0, by norm_num⟩ : Fin 8192) (fun i => D.proj i (pa e))|>.trans (if_pos (Finset.mem_univ _))]
  exact Finset.sum_congr rfl fun i _ => if_congr ⟨fun q => Fin.ext (Nat.le_zero.mp q), fun q => by subst q; exact le_rfl⟩ rfl rfl

/-- The last `w` rows' sum. -/
theorem window (s : Fin 8192) (e : Fin 512) : ∀ w : ℕ, w ≤ 16 →
    ∑ k ∈ Finset.range w, D.px (s.val + 16 - k) e = D.cum s e - if h : w ≤ s.val then D.cum ⟨s.val - w, by omega⟩ e else 0
  | 0, _ => by
    rw [dif_pos (Nat.zero_le _)]
    exact (sub_self _).symm
  | w + 1, hw => by
    rw [Finset.sum_range_succ, window s e w (Nat.le_of_succ_le hw)]
    obtain ⟨s, hs⟩ := s
    dsimp only
    by_cases h1 : w + 1 ≤ s
    · obtain ⟨n, rfl⟩ : ∃ n, s = n + 1 + w := ⟨s - 1 - w, by omega⟩
      have e1 : D.px (n + 1 + w + 16 - w) e = D.proj ⟨n + 1, by omega⟩ (pa e) := by
        unfold px
        rw [dif_pos (by omega)]
        exact congrArg (fun s => D.proj s (pa e)) (Fin.ext (by dsimp only; omega))
      have e2 : D.cum ⟨n + 1 + w - w, by omega⟩ e = D.cum ⟨n + 1, by omega⟩ e := congrArg (fun s => D.cum s e) (Fin.ext (by dsimp only; omega))
      have e3 : D.cum ⟨n + 1 + w - (w + 1), by omega⟩ e = D.cum ⟨n, by omega⟩ e := congrArg (fun s => D.cum s e) (Fin.ext (by dsimp only; omega))
      rw [dif_pos (by omega), dif_pos h1, e1, e2, e3, D.cum_succ n (by omega) e]
      ring
    · rw [dif_neg h1]
      by_cases h2 : w ≤ s
      · have h3 : s = w := by omega
        subst h3
        have e1 : D.px (s + 16 - s) e = D.proj ⟨0, by norm_num⟩ (pa e) := by
          unfold px
          rw [dif_pos (by omega)]
          exact congrArg (fun s => D.proj s (pa e)) (Fin.ext (by dsimp only; omega))
        have e2 : D.cum ⟨s - s, by omega⟩ e = D.cum ⟨0, by norm_num⟩ e := congrArg (fun s => D.cum s e) (Fin.ext (by dsimp only; omega))
        rw [dif_pos h2, e1, e2, D.cum_zero]
        ring
      · have e1 : D.px (s + 16 - w) e = 0 := by
          unfold px
          exact dif_neg (by omega)
        rw [dif_neg h2, e1]
        ring

/-- The pooled rows from their windows. -/
theorem pool_eq (s : Fin 8192) (e : Fin 512) (w : ℕ) (hw : wd e = w) (hw' : w ≤ 16) :
    D.pool s e = (∑ k ∈ Finset.range w, D.px (s.val + (16 - k)) e) / cnt s e - D.proj s (pa e) := by
  subst hw
  rw [Finset.sum_congr rfl fun k hk => congrArg (fun n => D.px n e) (show s.val + (16 - k) = s.val + 16 - k by have := Finset.mem_range.mp hk; omega),
    D.window s e _ hw']
  rfl

end In

end Cert.MixMath

end
-- ==== Proof.FmixTile.lean ====
/-
  The pooling branch of the mixing sub-layer's forward call over the reals: what each array its body computes is at an
  index, when the blocks the point reads are the rows of one tile and the weights, and the row buffer holds the rows before.
-/
module

public import proofs.«01_k».proof.Proof.FmixBlk
public import proofs.«01_k».proof.Proof.FmixSum
public import proofs.«01_k».proof.Proof.MixSv
public import proofs.«01_k».proof.Proof.MixWin

@[expose] public section

noncomputable section

namespace Cert.Kernel6Ideal.Fmix

open Cert.Kernel6Ideal Cert.Kernel6Ideal.Gen Idealize.ShloMosaic Idealize.ShloMosaic.TcCoe Cert.RealKit Cert.HeadMath Cert.MixMath
open Cert.Kernel2Ideal.Mix (div1024 rs_msq cnt_word cnt_pos wd0 wd1 wd2 wd3 ck0 ck1 ck2 ck3 put_hit put_miss)

/-- The blocks of tile `τ`. -/
structure Rd (b : Fb Ideal) (D : In) (τ : Fin 16) : Prop where
  x : ∀ r d, b.x (ix2 r d) = (D.x (row τ r) d : EReal)
  sh : ∀ d, b.mod (ix2 0 d) = (D.sh d : EReal)
  sc : ∀ d, b.mod (ix2 1 d) = (D.sc d : EReal)
  ga : ∀ d, b.mod (ix2 2 d) = (D.ga d : EReal)
  gn : ∀ d, b.mod (ix2 3 d) = (D.gn d : EReal)
  win : ∀ d j, b.win (ix2 d j) = (D.win d j : EReal)
  wp : ∀ g c d, b.wpool (ix3 g c d) = (D.wp g c d : EReal)
  ps : ∀ e, b.vec (ix2 0 e) = (D.ps e : EReal)
  lg : ∀ e, b.vec (ix2 1 e) = (D.lg e : EReal)
  lb : ∀ e, b.vec (ix2 2 e) = (D.lb e : EReal)
  wcat : ∀ (p : Fin 4) (t q : Fin 128), b.wcat (ix3 p t ⟨q.val, by omega⟩) = (D.wm ⟨2 * p.val, by omega⟩ t q : EReal)
    ∧ b.wcat (ix3 p t ⟨128 + q.val, by omega⟩) = (D.wm ⟨2 * p.val + 1, by omega⟩ t q : EReal)
  bias : ∀ t e, b.bias (ix2 t e) = (D.bs (hd e) t : EReal)
  wout : ∀ j d, b.wout (ix2 j d) = (D.wout j d : EReal)

variable {b : Fb Ideal} {D : In} {τ : Fin 16} (H : Rd b D τ)
include H

theorem xa_proj (r e : Fin 512) : b.xa (ix2 r e) = (D.proj (row τ r) (pa e) : EReal) := by
  unfold Fb.xa
  pointwise [k0_pay4, k0_pay3]
  simp only [H.x, H.gn, H.sc, H.sh, H.win, c_1024, c_eps, ← EReal.coe_one, ← EReal.coe_mul, coe_sum, div1024, ← EReal.coe_add, rs_msq]
  rfl
theorem xa_at (r e : Fin 512) : b.xa (ix2 r e) = (D.px ((row τ r).val + 16) e : EReal) := by rw [xa_proj H, D.px_row]
theorem zb_at (r : Fin 512) (e : Fin 1024) : b.zb (ix2 r e) = (D.zb (row τ r) e : EReal) := by
  unfold Fb.zb
  pointwise [k0_pay5, k0_pay3]
  simp only [H.x, H.gn, H.sc, H.sh, H.win, c_1024, c_eps, ← EReal.coe_one, ← EReal.coe_mul, coe_sum, div1024, ← EReal.coe_add, rs_msq]
  rfl

/-- The rows below the first sixteen of the row buffer are the point's, whatever lay there before. -/
theorem ext_low (h : Vec Ideal S528x512 .f32) (R : Fin 528) (e : Fin 512) (hR : 16 ≤ R.val) : b.ext h (ix2 R e) = (D.px (512 * τ.val + R.val) e : EReal) := by
  unfold Fb.ext
  refine (put_hit (s := S528x512) _ ![16, 0] S512x512.size _ (ix2 R e) (ix2 (⟨R.val - 16, by omega⟩ : Fin 512) e) fun a => ?_).trans ?_
  · fin_cases a
    · exact (show R.val = 16 + (R.val - 16) by omega)
    · exact (Nat.zero_add _).symm
  · pointwise [k0_pay6]
    refine (xa_at H ⟨R.val - 16, by omega⟩ e).trans (congrArg (fun n : ℕ => ((D.px n e : ℝ) : EReal)) ?_)
    simp only [row]; omega

/-- What the point keeps for the tile after it. -/
theorem kept_at (h e' : Vec Ideal S528x512 .f32) (R : Fin 528) (e : Fin 512) (hR : R.val < 16) :
    VecWindow.put (s := S528x512) h ![0, 0] S16x512.size (k0_pay22 (F := Ideal) (View.ld (b.ext e') (Rect.unit (s := S528x512) ![512, 0] S16x512.size inb_S528x512_S16x512_512_0))) (ix2 R e)
      = (D.px (512 * (τ.val + 1) + R.val) e : EReal) := by
  refine (put_hit (s := S528x512) _ ![0, 0] S16x512.size _ (ix2 R e) (ix2 (⟨R.val, hR⟩ : Fin 16) e) fun a => ?_).trans ?_
  · fin_cases a <;> exact (Nat.zero_add _).symm
  · pointwise [k0_pay22]
    refine (ext_low H e' ⟨512 + R.val, by omega⟩ e (by dsimp only; omega)).trans (congrArg (fun n : ℕ => ((D.px n e : ℝ) : EReal)) ?_)
    dsimp only; omega

variable {v0 : BitVec 32} (hv : v0 = BitVec.ofNat 32 τ.val) {h : Vec Ideal S528x512 .f32}
  (hh : ∀ (R : Fin 528) (e : Fin 512), R.val < 16 → h (ix2 R e) = (D.px (512 * τ.val + R.val) e : EReal))
include hh

theorem ext_at (R : Fin 528) (e : Fin 512) : b.ext h (ix2 R e) = (D.px (512 * τ.val + R.val) e : EReal) := by
  by_cases hR : 16 ≤ R.val
  · exact ext_low H h R e hR
  · unfold Fb.ext
    refine (put_miss (s := S528x512) _ ![16, 0] S512x512.size _ (ix2 R e) 0 (.inl (show R.val < 16 by omega))).trans (hh R e (by omega))
theorem ld_at (k : ℕ) (r e : Fin 512) (p : k + r.val < 528) : b.ext h (ix2 ⟨k + r.val, p⟩ e) = (D.px ((row τ r).val + k) e : EReal) :=
  (ext_at H hh ⟨k + r.val, p⟩ e).trans (congrArg (fun n : ℕ => ((D.px n e : ℝ) : EReal)) (by simp only [row]; omega))

theorem s1_at (r : Fin 512) (l : Fin 128) : b.s1 (b.ext h) (ix2 r l) = (∑ k ∈ Finset.range 4, D.px ((row τ r).val + (16 - k)) (ck 1 l) : ℝ) := by
  unfold Fb.s1
  pointwise [k0_pay11]
  simp only [ck1, ld_at H hh, xa_at H, ← EReal.coe_add, Finset.sum_range_succ, Finset.sum_range_zero, zero_add, Nat.reduceSub, Nat.sub_zero]
theorem s3_at (r : Fin 512) (l : Fin 128) : b.s3 (b.ext h) (ix2 r l) = (∑ k ∈ Finset.range 14, D.px ((row τ r).val + (16 - k)) (ck 3 l) : ℝ) := by
  unfold Fb.s3
  pointwise [k0_pay18]
  simp only [ck3, ld_at H hh, xa_at H, ← EReal.coe_add, Finset.sum_range_succ, Finset.sum_range_zero, zero_add, Nat.reduceSub, Nat.sub_zero]

/-- The pooled rows of the fourth group. -/
def _root_.Cert.Kernel6Ideal.Fmix.Fb.p3 {F : FTy → Type} [FloatOps F] [Named F] (b : Fb F) (v0 : BitVec 32) (E : Vec F S528x512 .f32) : Vec F S512x128 .bf16 :=
  k0_pay19 b.xa (k0_pay7 v0) (b.s3 E) (View.ld E (Rect.unit (s := S528x512) ![2, 384] S512x128.size inb_S528x512_S512x128_2_384)) (View.ld E (Rect.unit (s := S528x512) ![1, 384] S512x128.size inb_S528x512_S512x128_1_384))

include hv
theorem p0_at (r : Fin 512) (l : Fin 128) : b.p0 v0 (b.ext h) (ix2 r l) = (D.pool (row τ r) (ck 0 l) : EReal) := by
  have hc := cnt_pos (row τ r) (ck 0 l)
  rw [D.pool_eq _ _ 2 (wd0 l) (by norm_num)]
  unfold In.cnt at hc ⊢; rw [wd0] at hc ⊢
  unfold Fb.p0
  pointwise [k0_pay9, k0_pay7]
  rw [hv, cnt_word τ r 2 (by norm_num)]
  simp only [ck0, ld_at H hh, xa_at H, ← EReal.coe_add, div_real hc, ← EReal.coe_sub, D.px_row, Finset.sum_range_succ, Finset.sum_range_zero, zero_add, Nat.reduceSub, Nat.sub_zero]
theorem p1_at (r : Fin 512) (l : Fin 128) : b.p1 v0 (b.ext h) (ix2 r l) = (D.pool (row τ r) (ck 1 l) : EReal) := by
  have hc := cnt_pos (row τ r) (ck 1 l)
  rw [D.pool_eq _ _ 4 (wd1 l) (by norm_num)]
  unfold In.cnt at hc ⊢; rw [wd1] at hc ⊢
  unfold Fb.p1
  pointwise [k0_pay13, k0_pay12, k0_pay7]
  rw [hv, cnt_word τ r 4 (by norm_num)]
  simp only [ck1, s1_at H hh, xa_proj H, div_real hc, ← EReal.coe_sub]
theorem p2_at (r : Fin 512) (l : Fin 128) : b.p2 v0 (b.ext h) (ix2 r l) = (D.pool (row τ r) (ck 2 l) : EReal) := by
  have hc := cnt_pos (row τ r) (ck 2 l)
  rw [D.pool_eq _ _ 8 (wd2 l) (by norm_num)]
  unfold In.cnt at hc ⊢; rw [wd2] at hc ⊢
  unfold Fb.p2
  pointwise [k0_pay15, k0_pay7]
  rw [hv, cnt_word τ r 8 (by norm_num)]
  simp only [ck2, ld_at H hh, xa_at H, ← EReal.coe_add, div_real hc, ← EReal.coe_sub, D.px_row, Finset.sum_range_succ, Finset.sum_range_zero, zero_add, Nat.reduceSub, Nat.sub_zero]
theorem p3_at (r : Fin 512) (l : Fin 128) : b.p3 v0 (b.ext h) (ix2 r l) = (D.pool (row τ r) (ck 3 l) : EReal) := by
  have hc := cnt_pos (row τ r) (ck 3 l)
  rw [D.pool_eq _ _ 16 (wd3 l) (by norm_num)]
  unfold In.cnt at hc ⊢; rw [wd3] at hc ⊢
  unfold Fb.p3
  pointwise [k0_pay19, k0_pay7]
  rw [hv, cnt_word τ r 16 (by norm_num)]
  simp only [ck3, ld_at H hh, s3_at H hh, xa_proj H, ← EReal.coe_add, div_real hc, ← EReal.coe_sub]
  rw [Finset.sum_range_succ _ 15, Finset.sum_range_succ _ 14]

theorem pooled_at (r e : Fin 512) : b.pooled v0 (b.ext h) (ix2 r e) = (D.pool (row τ r) e : EReal) := by
  obtain ⟨g, l, rfl⟩ := exists_ck e
  obtain ⟨g, hg⟩ := g
  have h2 : 256 + l.val - 128 - 128 = l.val := by omega
  have h3 : 384 + l.val - 128 - 128 - 128 = l.val := by omega
  unfold Fb.pooled
  interval_cases g
  · refine Eq.trans ?_ (p0_at H hv hh r l)
    pointwise [k0_pay21, ck]
  · refine Eq.trans ?_ (p1_at H hv hh r l)
    pointwise [k0_pay21, ck]
  · refine Eq.trans ?_ (p2_at H hv hh r l)
    pointwise [k0_pay21, ck]
    simp (disch := omega) only [dif_pos, dif_neg, h2, h3, Fin.eta]
  · refine Eq.trans ?_ (p3_at H hv hh r l)
    unfold Fb.p3
    pointwise [k0_pay21, ck]
    simp (disch := omega) only [dif_pos, dif_neg, h2, h3, Fin.eta]

/-- One group's product with its square weight. -/
theorem y0_at (r : Fin 512) (l : Fin 128) : b.y0 v0 (b.ext h) (ix2 r l) = (D.mixed (row τ r) (ck 0 l) * D.ps (ck 0 l) : ℝ) := by
  have hp := p0_at H hv hh r
  unfold Fb.p0 at hp
  unfold Fb.y0 In.mixed
  rw [grp_ck, lane_ck]
  pointwise [k0_pay10, k0_pay8]
  simp only [ck0, hp, H.wp, H.ps, ← EReal.coe_mul, coe_sum]
theorem y1_at (r : Fin 512) (l : Fin 128) : b.y1 v0 (b.ext h) (ix2 r l) = (D.mixed (row τ r) (ck 1 l) * D.ps (ck 1 l) : ℝ) := by
  have hp := p1_at H hv hh r
  unfold Fb.p1 at hp
  unfold Fb.y1 Fb.vecs In.mixed
  rw [grp_ck, lane_ck]
  pointwise [k0_pay14, k0_pay8]
  simp only [ck1, hp, H.wp, H.ps, ← EReal.coe_mul, coe_sum]
theorem y2_at (r : Fin 512) (l : Fin 128) : b.y2 v0 (b.ext h) (ix2 r l) = (D.mixed (row τ r) (ck 2 l) * D.ps (ck 2 l) : ℝ) := by
  have hp := p2_at H hv hh r
  unfold Fb.y2 Fb.vecs In.mixed
  rw [grp_ck, lane_ck]
  pointwise [k0_pay17, k0_pay16, k0_pay8]
  simp only [ck2, hp, H.wp, H.ps, ← EReal.coe_mul, coe_sum]
theorem y3_at (r : Fin 512) (l : Fin 128) : b.y3 v0 (b.ext h) (ix2 r l) = (D.mixed (row τ r) (ck 3 l) * D.ps (ck 3 l) : ℝ) := by
  have hp := p3_at H hv hh r
  unfold Fb.p3 at hp
  unfold Fb.y3 Fb.vecs In.mixed
  rw [grp_ck, lane_ck]
  pointwise [k0_pay20, k0_pay8]
  simp only [ck3, hp, H.wp, H.ps, ← EReal.coe_mul, coe_sum]

end Cert.Kernel6Ideal.Fmix

end
-- ==== Proof.FmixOut.lean ====
/-
  The gating branch and the output of the mixing sub-layer's forward call over the reals. The gating branch is the one the
  backward call computes again, so its entries are read from that call's lemmas.
-/
module

public import proofs.«01_k».proof.Proof.FmixTile

@[expose] public section

noncomputable section

namespace Cert.Kernel6Ideal.Fmix

open Cert.Kernel6Ideal Cert.Kernel6Ideal.Gen Idealize.ShloMosaic Idealize.ShloMosaic.TcCoe Cert.RealKit Cert.HeadMath Cert.MixMath
open Cert.Kernel2Ideal.Mix (pair78_0 pair78_1 pair78_2)

/-- The blocks the backward call would read for the same tile. -/
def twin (b : Fb Ideal) (D : In) (τ : Fin 16) : Cert.Kernel2Ideal.Mix.Blk Ideal where
  x := b.x
  g := fun i => (D.g (row τ (i 0)) (i 1) : EReal)
  pooled := fun i => (D.pool (row τ (i 0)) (i 1) : EReal)
  zb := b.zb
  mod := b.mod
  win := b.win
  wpool := b.wpool
  vec := b.vec
  wcat := b.wcat
  wtcat := fun i => if h : (i 2).val < 128 then (D.wm ⟨2 * (i 0).val, by have : (i 0).val < 4 := (i 0).isLt; omega⟩ ⟨(i 2).val, h⟩ (i 1) : EReal)
    else (D.wm ⟨2 * (i 0).val + 1, by have : (i 0).val < 4 := (i 0).isLt; omega⟩ ⟨(i 2).val - 128, by have : (i 2).val < 256 := (i 2).isLt; omega⟩ (i 1) : EReal)
  bias := b.bias
  wout := b.wout

variable {b : Fb Ideal} {D : In} {τ : Fin 16} (H : Rd b D τ)
include H

theorem twin_rd : Cert.Kernel2Ideal.Mix.Rd (twin b D τ) D τ where
  x := H.x
  g _ _ := rfl
  pool _ _ := rfl
  zb := zb_at H
  sh := H.sh
  sc := H.sc
  ga := H.ga
  gn := H.gn
  win := H.win
  wp := H.wp
  ps := H.ps
  lg := H.lg
  lb := H.lb
  wcat := H.wcat
  wtcat p t q := by
    constructor
    · exact dif_pos q.isLt
    · refine (dif_neg (show ¬128 + q.val < 128 by omega)).trans ?_
      exact congrArg (fun k => (D.wm _ k t : EReal)) (Fin.ext (Nat.add_sub_cancel_left ..))
  bias := H.bias
  wout := H.wout

theorem z_at (r : Fin 512) (e : Fin 1024) : b.z (ix2 r e) = (gz (D.zb (row τ r) e) : ℝ) := by
  unfold Fb.z; pointwise [k0_pay23]
  simp only [zb_at H, c_half, Cert.Kernel2Ideal.Mix.c_cg, show ∀ w, (Named.named κ "gelu_a" w : Ideal .f32) = ((ca : ℝ) : EReal) from fun _ => rfl,
    ← EReal.coe_one, ← EReal.coe_mul, ← EReal.coe_add, Cert.Kernel2Ideal.Mix.tanh_coe]
  rfl
theorem z_twin : b.z = (twin b D τ).z := funext fun i => by
  rw [show i = ix2 (i 0) (i 1) from funext fun k => by fin_cases k <;> rfl]
  exact (z_at H (i 0) (i 1)).trans (Cert.Kernel2Ideal.Mix.z_at (twin_rd H) (i 0) (i 1)).symm
theorem u_at (r e : Fin 512) : b.u (ix2 r e) = (D.u (row τ r) e : ℝ) := by
  refine Eq.trans ?_ (z_at H r (lo e))
  unfold Fb.u Fb.z
  pointwise [k0_pay24, lo]
omit H in
theorem vl_twin (v : Vec Ideal S8x512 .f32) (z : Vec Ideal S512x1024 .f32) : k0_pay25 v z = Cert.Kernel2Ideal.Gen.k0_pay48 (F := Ideal) v z := rfl
omit H in
theorem sv0_twin (v : Vec Ideal S8x512 .f32) (z : Vec Ideal S512x1024 .f32) (w : Vec Ideal S1x128x256 .bf16) (bi : Vec Ideal S128x128 .f32) :
    k0_pay36 (k0_pay29 v z) k0_pay30 (k0_pay31 v z) (k0_pay32 v z) (k0_pay33 v z) (k0_pay34 v z) k0_pay35 w bi
      = Cert.Kernel2Ideal.Gen.k0_pay54 (F := Ideal) (Cert.Kernel2Ideal.Gen.k0_pay49 (F := Ideal) v z) (Cert.Kernel2Ideal.Gen.k0_pay50 (F := Ideal) v z) (Cert.Kernel2Ideal.Gen.k0_pay51 (F := Ideal) v z)
        (Cert.Kernel2Ideal.Gen.k0_pay52 (F := Ideal) v z) Cert.Kernel2Ideal.Gen.k0_pay53 (FloatOps.ofBits (F := Ideal) FTy.f32 0#32) w bi := rfl
omit H in
theorem sv1_twin (y : Vec Ideal S512x512 .f32) (w : Vec Ideal S1x128x256 .bf16) (bi : Vec Ideal S128x128 .f32) :
    k0_pay38 (k0_pay37 y) w bi
      = Cert.Kernel2Ideal.Gen.k0_pay62 (F := Ideal) (Cert.Kernel2Ideal.Gen.k0_pay55 (F := Ideal) y) (Cert.Kernel2Ideal.Gen.k0_pay56 (F := Ideal) y) (Cert.Kernel2Ideal.Gen.k0_pay57 (F := Ideal) y)
        (Cert.Kernel2Ideal.Gen.k0_pay58 (F := Ideal) y) Cert.Kernel2Ideal.Gen.k0_pay59 (Cert.Kernel2Ideal.Gen.k0_pay60 (F := Ideal) y) Cert.Kernel2Ideal.Gen.k0_pay61 w bi := rfl
omit H in
theorem sv2_twin (y : Vec Ideal S512x512 .f32) (w : Vec Ideal S1x128x256 .bf16) (bi : Vec Ideal S128x128 .f32) :
    k0_pay40 (k0_pay39 y) w bi
      = Cert.Kernel2Ideal.Gen.k0_pay71 (F := Ideal) (Cert.Kernel2Ideal.Gen.k0_pay63 (F := Ideal) y) (Cert.Kernel2Ideal.Gen.k0_pay64 (F := Ideal) y) (Cert.Kernel2Ideal.Gen.k0_pay65 (F := Ideal) y)
        (Cert.Kernel2Ideal.Gen.k0_pay66 (F := Ideal) y) Cert.Kernel2Ideal.Gen.k0_pay67 (Cert.Kernel2Ideal.Gen.k0_pay68 (F := Ideal) y) (Cert.Kernel2Ideal.Gen.k0_pay69 (F := Ideal) y)
        (Cert.Kernel2Ideal.Gen.k0_pay70 (F := Ideal) y) w bi := rfl

omit H in
theorem vl_eq : k0_pay25 (F := Ideal) b.vecs (twin b D τ).z = (twin b D τ).vl := vl_twin _ _
theorem vl_k : b.vl = (twin b D τ).vl := by
  unfold Fb.vl; rw [z_twin H]; exact vl_eq
theorem sv0_k : b.sv0 = (twin b D τ).sv0 := by
  unfold Fb.sv0; rw [z_twin H]; exact sv0_twin _ _ _ _
theorem sv1_k : b.sv1 = (twin b D τ).sv1 := by
  unfold Fb.sv1; rw [vl_k H]; exact sv1_twin _ _ _
theorem sv2_k : b.sv2 = (twin b D τ).sv2 := by
  unfold Fb.sv2; rw [vl_k H]; exact sv2_twin _ _ _

omit H in
/-- The rows of the concatenation: four groups of pooled columns, then the gated ones. -/
def catOf (y0 y1 y2 y3 : Vec Ideal S512x128 .f32) (u sv : Vec Ideal S512x512 .f32) : Vec Ideal S512x1024 .f32 :=
  concatenate S512x1024 1 [⟨S512x128, y0⟩, ⟨S512x128, y1⟩, ⟨S512x128, y2⟩, ⟨S512x128, y3⟩, ⟨S512x512, mulf (F := Ideal) (φ := .f32) u sv⟩]
    concatenates_S512x128_S512x128_S512x128_S512x128_S512x512_S512x1024_d1
omit H in
/-- The rows of the output from the concatenation's. -/
def outOf (x cat : Vec Ideal S512x1024 .f32) (ga : Vec Ideal S1x1024 .f32) (w : Vec Ideal S1024x1024 .bf16) : Vec Ideal S512x1024 .f32 :=
  addf (F := Ideal) (φ := .f32) x (mulf (F := Ideal) (φ := .f32) (broadcastTo S512x1024 (shapeCast S1x1024 ga shapeCasts_S1x1024_S1x1024) broadcasts_S1x1024_S512x1024)
    (matmul dot_S512x1024_S1024x1024_S512x1024_1_0_0_1_n_n none (truncf .bf16 cat bitsLt_bf16_f32) (show FVec Ideal S1024x1024 .bf16 from shapeCast S1024x1024 w shapeCasts_S1024x1024_S1024x1024)
      (constant (F := Ideal) S512x1024 .f32 0x00000000#32)))
omit H in
theorem pay1_split (x : Vec Ideal S512x1024 .f32) (y0 y1 y2 y3 s0 s1 s2 : Vec Ideal S512x128 .f32) (u vl : Vec Ideal S512x512 .f32) (wc : Vec Ideal S1x128x256 .bf16)
    (bi : Vec Ideal S128x128 .f32) (ga : Vec Ideal S1x1024 .f32) (w : Vec Ideal S1024x1024 .bf16) :
    k0_pay1 x y0 y1 y2 y3 u s0 s1 s2 (k0_pay41 vl wc) bi ga w
      = outOf x (catOf y0 y1 y2 y3 u (Cert.Kernel2Ideal.Gen.k0_pay78 (F := Ideal) s0 s1 s2 (Cert.Kernel2Ideal.Gen.k0_pay72 (F := Ideal) vl)
          (Cert.Kernel2Ideal.Gen.k0_pay73 (F := Ideal) vl) (Cert.Kernel2Ideal.Gen.k0_pay74 (F := Ideal) vl) (Cert.Kernel2Ideal.Gen.k0_pay75 (F := Ideal) vl)
          Cert.Kernel2Ideal.Gen.k0_pay76 (Cert.Kernel2Ideal.Gen.k0_pay77 (F := Ideal) vl) wc bi)) ga w := rfl

section Cat
omit H
variable (y0 y1 y2 y3 : Vec Ideal S512x128 .f32) (u sv : Vec Ideal S512x512 .f32) (r : Fin 512)

theorem catOf_0 (l : Fin 128) : catOf y0 y1 y2 y3 u sv (ix2 r (lo (ck 0 l))) = y0 (ix2 r l) := by
  have i4 : (lo (ck 0 l)).val = 0 + l.val := rfl
  generalize lo (ck 0 l) = L at i4 ⊢
  pointwise [catOf]
  have e : L.val = l.val := by omega
  simp (disch := omega) only [dif_pos, dif_neg, e, Fin.eta]
theorem catOf_1 (l : Fin 128) : catOf y0 y1 y2 y3 u sv (ix2 r (lo (ck 1 l))) = y1 (ix2 r l) := by
  have i4 : (lo (ck 1 l)).val = 128 + l.val := rfl
  generalize lo (ck 1 l) = L at i4 ⊢
  pointwise [catOf]
  have e : L.val - 128 = l.val := by omega
  simp (disch := omega) only [dif_pos, dif_neg, e, Fin.eta]
theorem catOf_2 (l : Fin 128) : catOf y0 y1 y2 y3 u sv (ix2 r (lo (ck 2 l))) = y2 (ix2 r l) := by
  have i4 : (lo (ck 2 l)).val = 256 + l.val := rfl
  generalize lo (ck 2 l) = L at i4 ⊢
  pointwise [catOf]
  have e : L.val - 128 - 128 = l.val := by omega
  simp (disch := omega) only [dif_pos, dif_neg, e, Fin.eta]
theorem catOf_3 (l : Fin 128) : catOf y0 y1 y2 y3 u sv (ix2 r (lo (ck 3 l))) = y3 (ix2 r l) := by
  have i4 : (lo (ck 3 l)).val = 384 + l.val := rfl
  generalize lo (ck 3 l) = L at i4 ⊢
  pointwise [catOf]
  have e : L.val - 128 - 128 - 128 = l.val := by omega
  simp (disch := omega) only [dif_pos, dif_neg, e, Fin.eta]
theorem catOf_4 (l : Fin 512) : catOf y0 y1 y2 y3 u sv (ix2 r (hi l)) = u (ix2 r l) * sv (ix2 r l) := by
  have i4 : (hi l).val = 512 + l.val := rfl
  generalize hi l = L at i4 ⊢
  pointwise [catOf]
  have e : L.val - 128 - 128 - 128 - 128 = l.val := by omega
  simp (disch := omega) only [dif_pos, dif_neg, e, Fin.eta]

end Cat

variable {v0 : BitVec 32} (hv : v0 = BitVec.ofNat 32 τ.val) {h : Vec Ideal S528x512 .f32} (hh : ∀ R e, R.val < 16 → h (ix2 R e) = (D.px (512 * τ.val + R.val) e : EReal))
include hv hh

/-- The concatenation of a tile. -/
theorem catOf_at (r : Fin 512) (j : Fin 1024) :
    catOf (b.y0 v0 (b.ext h)) (b.y1 v0 (b.ext h)) (b.y2 v0 (b.ext h)) (b.y3 v0 (b.ext h)) b.u (twin b D τ).sv (ix2 r j) = (D.cat (row τ r) j : EReal) := by
  rcases exists_half j with ⟨e, rfl⟩ | ⟨e, rfl⟩
  · rw [In.cat_lo]
    obtain ⟨p, l, rfl⟩ := exists_ck e
    obtain ⟨p, hp⟩ := p
    interval_cases p
    · exact (catOf_0 ..).trans (y0_at H hv hh r l)
    · exact (catOf_1 ..).trans (y1_at H hv hh r l)
    · exact (catOf_2 ..).trans (y2_at H hv hh r l)
    · exact (catOf_3 ..).trans (y3_at H hv hh r l)
  · rw [In.cat_hi, catOf_4, u_at H, Cert.Kernel2Ideal.Mix.sv_at (twin_rd H), EReal.coe_mul]

/-- The output of a tile. -/
theorem xo_at (r : Fin 512) (d : Fin 1024) :
    b.xo v0 (b.ext h) (ix2 r d) = (D.x (row τ r) d + D.ga d * ∑ j, D.cat (row τ r) j * D.wout j d : ℝ) := by
  have hs : b.xo v0 (b.ext h) = outOf b.x (catOf (b.y0 v0 (b.ext h)) (b.y1 v0 (b.ext h)) (b.y2 v0 (b.ext h)) (b.y3 v0 (b.ext h)) b.u (twin b D τ).sv)
      (View.ld b.mod (Rect.unit (s := S8x1024) ![2, 0] S1x1024.size inb_S8x1024_S1x1024_2_0)) b.wout := by
    unfold Fb.xo
    rw [sv0_k H, sv1_k H, sv2_k H, vl_k H]
    exact pay1_split ..
  rw [hs]
  pointwise [outOf]
  simp only [catOf_at H hv hh, H.x, H.ga, H.wout, ← EReal.coe_mul, coe_sum, ← EReal.coe_add]

end Cert.Kernel6Ideal.Fmix

end
-- ==== Proof.FmixPoint.lean ====
/-
  The mixing sub-layer's forward call over the reals: with arguments that hold real numbers, what each of its arrays holds
  after each point of the grid.
-/
module

public import proofs.«01_k».proof.Proof.FmixHost
public import proofs.«01_k».proof.Proof.FmixOut

@[expose] public section

noncomputable section

namespace Cert.Kernel6Ideal.Fmix

open Cert.Kernel6Ideal Cert.Kernel6Ideal.Gen Idealize.ShloMosaic Idealize.ShloMosaic.TcCoe Cert.RealKit Cert.HeadMath Cert.MixMath
open Cert.Kernel2Ideal.Mix (put_hit)

theorem crd : ∀ t : Fin cfg0.N, (grid0.coords t 0).val = t.val := by decide +kernel
theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel

theorem t_lt (t : Fin cfg0.N) : t.val < 16 := lt_of_lt_of_eq t.isLt (show cfg0.N = 16 from N_0)
/-- A point's tile of rows. -/
abbrev ti (t : Fin cfg0.N) : Fin 16 := ⟨t.val, t_lt t⟩

variable {m : (ℓ : Loc nD τ sig) → Buf (Elt Ideal) ℓ} {c : Dev nD} (t : Fin cfg0.N)

/-! ## The blocks -/

theorem blk_mod : (blk m c t).mod = (V m c main_v1 : Vec Ideal S8x1024 .f32) := by
  refine funext fun i => congrArg (V m c main_v1 : Vec Ideal S8x1024 .f32) (funext fun a => Fin.ext ?_)
  match a with
  | ⟨0, _⟩ => show win0_1.index t 0 * 8 + 1 * (i 0).val = (i 0).val; rw [(idx1 t).1]; omega
  | ⟨1, _⟩ => show win0_1.index t 1 * 1024 + 1 * (i 1).val = (i 1).val; rw [(idx1 t).2]; omega
theorem blk_win : (blk m c t).win = (V m c main_v18 : Vec Ideal S1024x1536 .bf16) := by
  refine funext fun i => congrArg (V m c main_v18 : Vec Ideal S1024x1536 .bf16) (funext fun a => Fin.ext ?_)
  match a with
  | ⟨0, _⟩ => show win0_2.index t 0 * 1024 + 1 * (i 0).val = (i 0).val; rw [(idx2 t).1]; omega
  | ⟨1, _⟩ => show win0_2.index t 1 * 1536 + 1 * (i 1).val = (i 1).val; rw [(idx2 t).2]; omega
theorem blk_wpool : (blk m c t).wpool = (V m c main_v19 : Vec Ideal S4x128x128 .bf16) := by
  refine funext fun i => congrArg (V m c main_v19 : Vec Ideal S4x128x128 .bf16) (funext fun a => Fin.ext ?_)
  match a with
  | ⟨0, _⟩ => show win0_3.index t 0 * 4 + 1 * (i 0).val = (i 0).val; rw [(idx3 t).1]; omega
  | ⟨1, _⟩ => show win0_3.index t 1 * 128 + 1 * (i 1).val = (i 1).val; rw [(idx3 t).2.1]; omega
  | ⟨2, _⟩ => show win0_3.index t 2 * 128 + 1 * (i 2).val = (i 2).val; rw [(idx3 t).2.2]; omega
theorem blk_vec : (blk m c t).vec = (V m c main_v3 : Vec Ideal S8x512 .f32) := by
  refine funext fun i => congrArg (V m c main_v3 : Vec Ideal S8x512 .f32) (funext fun a => Fin.ext ?_)
  match a with
  | ⟨0, _⟩ => show win0_4.index t 0 * 8 + 1 * (i 0).val = (i 0).val; rw [(idx4 t).1]; omega
  | ⟨1, _⟩ => show win0_4.index t 1 * 512 + 1 * (i 1).val = (i 1).val; rw [(idx4 t).2]; omega
theorem blk_wcat : (blk m c t).wcat = (V m c main_v14 : Vec Ideal S4x128x256 .bf16) := by
  refine funext fun i => congrArg (V m c main_v14 : Vec Ideal S4x128x256 .bf16) (funext fun a => Fin.ext ?_)
  match a with
  | ⟨0, _⟩ => show win0_5.index t 0 * 4 + 1 * (i 0).val = (i 0).val; rw [(idx5 t).1]; omega
  | ⟨1, _⟩ => show win0_5.index t 1 * 128 + 1 * (i 1).val = (i 1).val; rw [(idx5 t).2.1]; omega
  | ⟨2, _⟩ => show win0_5.index t 2 * 256 + 1 * (i 2).val = (i 2).val; rw [(idx5 t).2.2]; omega
theorem blk_bias : (blk m c t).bias = (V m c main_v17 : Vec Ideal S128x512 .f32) := by
  refine funext fun i => congrArg (V m c main_v17 : Vec Ideal S128x512 .f32) (funext fun a => Fin.ext ?_)
  match a with
  | ⟨0, _⟩ => show win0_6.index t 0 * 128 + 1 * (i 0).val = (i 0).val; rw [(idx6 t).1]; omega
  | ⟨1, _⟩ => show win0_6.index t 1 * 512 + 1 * (i 1).val = (i 1).val; rw [(idx6 t).2]; omega
theorem blk_wout : (blk m c t).wout = (V m c main_v20 : Vec Ideal S1024x1024 .bf16) := by
  refine funext fun i => congrArg (V m c main_v20 : Vec Ideal S1024x1024 .bf16) (funext fun a => Fin.ext ?_)
  match a with
  | ⟨0, _⟩ => show win0_7.index t 0 * 1024 + 1 * (i 0).val = (i 0).val; rw [(idx7 t).1]; omega
  | ⟨1, _⟩ => show win0_7.index t 1 * 1024 + 1 * (i 1).val = (i 1).val; rw [(idx7 t).2]; omega

variable {D : In} (H : Args m c D)
include H

theorem blk_x (r : Fin 512) (d : Fin 1024) : (blk m c t).x (ix2 r d) = (D.x (row (ti t) r) d : EReal) := by
  rw [← H.x, ← V_main_arg0 m c]
  refine congrArg (V m c main_arg0 : Vec Ideal S8192x1024 .f32) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega

/-- A point's blocks are its tile's. -/
theorem rd : Rd (blk m c t) D (ti t) where
  x := blk_x t H
  sh d := by rw [blk_mod]; exact V_sh H d
  sc d := by rw [blk_mod]; exact V_sc H d
  ga d := by rw [blk_mod]; exact V_ga H d
  gn d := by rw [blk_mod]; exact V_gn H d
  win d j := by rw [blk_win]; exact V_win H d j
  wp g a b := by rw [blk_wpool]; exact V_wp H g a b
  ps e := by rw [blk_vec]; exact V_ps H e
  lg e := by rw [blk_vec]; exact V_lg H e
  lb e := by rw [blk_vec]; exact V_lb H e
  wcat p t' q := by rw [blk_wcat]; exact V_wcat H p t' q
  bias t' e := by rw [blk_bias]; exact V_bias H t' e
  wout j d := by rw [blk_wout]; exact V_wout H j d

/-! ## The points -/

theorem tile_w : tileW t = BitVec.ofNat 32 (ti t).val := congrArg (BitVec.ofNat 32) (crd t)

omit H in
/-- At the first point the rows kept are zero, which is what lies before the first row. -/
theorem zeros_at (e : Vec Ideal S528x512 .f32) (R : Fin 528) (k : Fin 512) (hR : R.val < 16) :
    VecWindow.put (s := S528x512) e ![0, 0] ![16, 512] (k0_pay2 (F := Ideal)) (ix2 R k) = (D.px (512 * 0 + R.val) k : EReal) := by
  refine (put_hit (s := S528x512) _ ![0, 0] ![16, 512] _ (ix2 R k) (ix2 (⟨R.val, hR⟩ : Fin 16) k) fun a => ?_).trans ?_
  · fin_cases a
    · exact (Nat.zero_add _).symm
    · exact (Nat.zero_add _).symm
  · pointwise [k0_pay2]
    unfold In.px
    rw [dif_neg (by omega)]
    exact EReal.coe_zero.symm

/-- The rows a point starts from are the last of the point before. -/
theorem point : ∀ (n : ℕ) (hn : n < cfg0.N), ∃ h e' e2, outsAt0 m c n hn = (blk m c ⟨n, hn⟩).step (tileW ⟨n, hn⟩) h e' e2
    ∧ ∀ (R : Fin 528) (e : Fin 512), R.val < 16 → h (ix2 R e) = (D.px (512 * (ti ⟨n, hn⟩).val + R.val) e : EReal)
  | 0, hn => by
    obtain ⟨e, e', e2, h⟩ := at_A m c ⟨0, hn⟩ rfl
    exact ⟨_, e', e2, h, zeros_at e⟩
  | n + 1, hn => by
    have hN := t_lt ⟨n + 1, hn⟩
    obtain ⟨h0, f, f2, hp, h1⟩ := point n (Nat.lt_of_succ_lt hn)
    obtain ⟨e', e2, h⟩ := at_B m c ⟨n + 1, hn⟩ (by dsimp only at hN ⊢; omega)
    refine ⟨_, e', e2, h, fun R e hR => ?_⟩
    refine (congrFun (congrArg (fun p => p.2.2.2) hp) (ix2 R e)).trans ?_
    exact kept_at (rd ⟨n, Nat.lt_of_succ_lt hn⟩ H) _ f2 R e hR

theorem out8 (r : Fin 512) (d : Fin 1024) : (outsAt0 m c t.val t.isLt).1 (ix2 r d)
    = (D.x (row (ti t) r) d + D.ga d * ∑ j, D.cat (row (ti t) r) j * D.wout j d : ℝ) := by
  obtain ⟨h, e', e2, hp, hh⟩ := point H t.val t.isLt
  rw [hp]
  exact xo_at (rd t H) (tile_w t H) hh r d
theorem out9 (r e : Fin 512) : (outsAt0 m c t.val t.isLt).2.1 (ix2 r e) = (D.pool (row (ti t) r) e : EReal) := by
  obtain ⟨h, e', e2, hp, hh⟩ := point H t.val t.isLt
  rw [hp]
  exact pooled_at (rd t H) (tile_w t H) hh r e
theorem out10 (r : Fin 512) (e : Fin 1024) : (outsAt0 m c t.val t.isLt).2.2.1 (ix2 r e) = (D.zb (row (ti t) r) e : EReal) := by
  obtain ⟨h, e', e2, hp, hh⟩ := point H t.val t.isLt
  rw [hp]
  exact zb_at (rd t H) r e

end Cert.Kernel6Ideal.Fmix
-- ==== Proof.FmixFinal.lean ====
/-
  The three arrays the mixing sub-layer's forward call leaves, over the reals.
-/
module

public import proofs.«01_k».proof.Proof.FmixPoint
public import proofs.«01_k».proof.Proof.HeadFinal

@[expose] public section

noncomputable section

namespace Cert.Kernel6Ideal.Fmix

open Cert.Kernel6Ideal Cert.Kernel6Ideal.Gen Idealize.ShloMosaic Idealize.ShloMosaic.TcCoe Cert.RealKit Cert.HeadMath Cert.MixMath
open Cert.KernelIdeal.Head (eta2)
open Idealize.ShloMosaic.Pipeline (Dat)

variable {m : (ℓ : Loc nD τ sig) → Buf (Elt Ideal) ℓ} {c : Dev nD} {D : In}

/-- The sub-layer's output. -/
def Gx (D : In) : Vec Ideal S8192x1024 .f32 := fun i => (D.x (i 0) (i 1) + D.ga (i 1) * ∑ j, D.cat (i 0) j * D.wout j (i 1) : ℝ)
/-- The pooled rows. -/
def Gp (D : In) : Vec Ideal S8192x512 .bf16 := fun i => (D.pool (i 0) (i 1) : EReal)
/-- The gating part of the projection. -/
def Gz (D : In) : Vec Ideal S8192x1024 .f32 := fun i => (D.zb (i 0) (i 1) : EReal)

theorem emb8 (t : Fin cfg0.N) (y : S512x1024.Idx) : ((cfg0.win 8).blk t).view.emb y = ix2 (row (ti t) (y 0)) (y 1) := by
  refine funext fun a => Fin.ext ?_
  match a with
  | ⟨0, _⟩ => show win0_8.index t 0 * 512 + 1 * (y 0).val = 512 * t.val + (y 0).val; rw [(idx8 t).1]; omega
  | ⟨1, _⟩ => show win0_8.index t 1 * 1024 + 1 * (y 1).val = (y 1).val; rw [(idx8 t).2]; omega
theorem emb9 (t : Fin cfg0.N) (y : S512x512.Idx) : ((cfg0.win 9).blk t).view.emb y = ix2 (row (ti t) (y 0)) (y 1) := by
  refine funext fun a => Fin.ext ?_
  match a with
  | ⟨0, _⟩ => show win0_9.index t 0 * 512 + 1 * (y 0).val = 512 * t.val + (y 0).val; rw [(idx9 t).1]; omega
  | ⟨1, _⟩ => show win0_9.index t 1 * 512 + 1 * (y 1).val = (y 1).val; rw [(idx9 t).2]; omega
theorem emb10 (t : Fin cfg0.N) (y : S512x1024.Idx) : ((cfg0.win 10).blk t).view.emb y = ix2 (row (ti t) (y 0)) (y 1) := by
  refine funext fun a => Fin.ext ?_
  match a with
  | ⟨0, _⟩ => show win0_10.index t 0 * 512 + 1 * (y 0).val = 512 * t.val + (y 0).val; rw [(idx10 t).1]; omega
  | ⟨1, _⟩ => show win0_10.index t 1 * 1024 + 1 * (y 1).val = (y 1).val; rw [(idx10 t).2]; omega
variable (H : Args m c D)
include H

theorem arr8 : (dats m 0 c).arrAt 8 cfg0.N = Gx D :=
  (dats m 0 c).arrAt_eq_of_cover 8 (Gx D)
    (fun t hf => by
      rw [Value.flushed8]
      refine funext fun (y : S512x1024.Idx) => ?_
      refine (congrArg (outsAt0 m c t.val t.isLt).1 (eta2 y)).trans ?_
      refine (out8 t H (y 0) (y 1)).trans ?_
      exact Eq.trans (b := Gx D (ix2 (row (ti t) (y 0)) (y 1))) rfl ((congrArg (Gx D) (emb8 t y)).symm.trans rfl))
    fun i => by
      have h0 : (i 0 : ℕ) < 8192 := (i 0).isLt
      have h1 : (i 1 : ℕ) < 1024 := (i 1).isLt
      obtain ⟨t, ht⟩ : ∃ t : Fin cfg0.N, t.val = (i 0 : ℕ) / 512 := ⟨⟨_, by rw [show cfg0.N = 16 from N_0]; omega⟩, rfl⟩
      refine ⟨t, flush0_8 t, ?_⟩
      show i ∈ ((View.whole main_v21_0).slice (win0_8.rect t)).set
      rw [View.set_slice_whole, Rect.mem_set_unit]
      have e := idx8 t
      intro a
      match a with
      | ⟨0, _⟩ => show win0_8.index t 0 * 512 ≤ (i 0 : ℕ) ∧ (i 0 : ℕ) < win0_8.index t 0 * 512 + 512
                  rw [e.1]; omega
      | ⟨1, _⟩ => show win0_8.index t 1 * 1024 ≤ (i 1 : ℕ) ∧ (i 1 : ℕ) < win0_8.index t 1 * 1024 + 1024
                  rw [e.2]; omega

theorem arr9 : (dats m 0 c).arrAt 9 cfg0.N = Gp D :=
  (dats m 0 c).arrAt_eq_of_cover 9 (Gp D)
    (fun t hf => by
      rw [Value.flushed9]
      refine funext fun (y : S512x512.Idx) => ?_
      refine (congrArg (outsAt0 m c t.val t.isLt).2.1 (eta2 y)).trans ?_
      refine (out9 t H (y 0) (y 1)).trans ?_
      exact Eq.trans (b := Gp D (ix2 (row (ti t) (y 0)) (y 1))) rfl ((congrArg (Gp D) (emb9 t y)).symm.trans rfl))
    fun i => by
      have h0 : (i 0 : ℕ) < 8192 := (i 0).isLt
      have h1 : (i 1 : ℕ) < 512 := (i 1).isLt
      obtain ⟨t, ht⟩ : ∃ t : Fin cfg0.N, t.val = (i 0 : ℕ) / 512 := ⟨⟨_, by rw [show cfg0.N = 16 from N_0]; omega⟩, rfl⟩
      refine ⟨t, flush0_9 t, ?_⟩
      show i ∈ ((View.whole main_v21_1).slice (win0_9.rect t)).set
      rw [View.set_slice_whole, Rect.mem_set_unit]
      have e := idx9 t
      intro a
      match a with
      | ⟨0, _⟩ => show win0_9.index t 0 * 512 ≤ (i 0 : ℕ) ∧ (i 0 : ℕ) < win0_9.index t 0 * 512 + 512
                  rw [e.1]; omega
      | ⟨1, _⟩ => show win0_9.index t 1 * 512 ≤ (i 1 : ℕ) ∧ (i 1 : ℕ) < win0_9.index t 1 * 512 + 512
                  rw [e.2]; omega

theorem arr10 : (dats m 0 c).arrAt 10 cfg0.N = Gz D :=
  (dats m 0 c).arrAt_eq_of_cover 10 (Gz D)
    (fun t hf => by
      rw [Value.flushed10]
      refine funext fun (y : S512x1024.Idx) => ?_
      refine (congrArg (outsAt0 m c t.val t.isLt).2.2.1 (eta2 y)).trans ?_
      refine (out10 t H (y 0) (y 1)).trans ?_
      exact Eq.trans (b := Gz D (ix2 (row (ti t) (y 0)) (y 1))) rfl ((congrArg (Gz D) (emb10 t y)).symm.trans rfl))
    fun i => by
      have h0 : (i 0 : ℕ) < 8192 := (i 0).isLt
      have h1 : (i 1 : ℕ) < 1024 := (i 1).isLt
      obtain ⟨t, ht⟩ : ∃ t : Fin cfg0.N, t.val = (i 0 : ℕ) / 512 := ⟨⟨_, by rw [show cfg0.N = 16 from N_0]; omega⟩, rfl⟩
      refine ⟨t, flush0_10 t, ?_⟩
      show i ∈ ((View.whole main_v21_2).slice (win0_10.rect t)).set
      rw [View.set_slice_whole, Rect.mem_set_unit]
      have e := idx10 t
      intro a
      match a with
      | ⟨0, _⟩ => show win0_10.index t 0 * 512 ≤ (i 0 : ℕ) ∧ (i 0 : ℕ) < win0_10.index t 0 * 512 + 512
                  rw [e.1]; omega
      | ⟨1, _⟩ => show win0_10.index t 1 * 1024 ≤ (i 1 : ℕ) ∧ (i 1 : ℕ) < win0_10.index t 1 * 1024 + 1024
                  rw [e.2]; omega

end Cert.Kernel6Ideal.Fmix
-- ==== Proof.FmixRef.lean ====
/-
  The reference of the mixing sub-layer's forward pass, over the reals: its values at an index when the arguments hold real
  numbers.
-/
module

public import proofs.«01_k».proof.Proof.MixRefB
public import proofs.«01_k».proof.Proof.Gen.Reference6Ideal.Read

@[expose] public section

noncomputable section

namespace Cert.Reference6Ideal.Fmix

open Cert.Reference6Ideal Cert.Reference6Ideal.Read Idealize.ShloMosaic Idealize.ShloMosaic.TcCoe Cert.RealKit Cert.HeadMath Cert.MixMath
open Cert.Kernel2Ideal.Mix (div1024 div512 rs_msq c_512 c_cg tanh_coe wd_ck tri_word tri_sel)
open Cert.Reference2Ideal.Mix (c_cubic split4 split2 hd_hcol hcol_split)

variable {D : In} {x0 : Vec Ideal S8192x1024 .f32} {x1 x2 x3 x4 : Vec Ideal S1x1024 .f32} {x5 : Vec Ideal S1024x1536 .f32}
  {x6 : Vec Ideal S4x128x128 .f32} {x7 x8 x9 : Vec Ideal S1x512 .f32} {x10 : Vec Ideal S8x128x128 .f32} {x11 : Vec Ideal S8x128 .f32}
  {x12 : Vec Ideal S1024x1024 .f32}

/-- The arguments hold the numbers of `D`. -/
structure RArgs (D : In) (x0 : Vec Ideal S8192x1024 .f32) (x1 x2 x3 x4 : Vec Ideal S1x1024 .f32) (x5 : Vec Ideal S1024x1536 .f32)
    (x6 : Vec Ideal S4x128x128 .f32) (x7 x8 x9 : Vec Ideal S1x512 .f32) (x10 : Vec Ideal S8x128x128 .f32) (x11 : Vec Ideal S8x128 .f32)
    (x12 : Vec Ideal S1024x1024 .f32) : Prop where
  x : ∀ r d, x0 (ix2 r d) = (D.x r d : EReal)
  sh : ∀ d, x1 (ix2 (0 : Fin 1) d) = (D.sh d : EReal)
  sc : ∀ d, x2 (ix2 (0 : Fin 1) d) = (D.sc d : EReal)
  ga : ∀ d, x3 (ix2 (0 : Fin 1) d) = (D.ga d : EReal)
  gn : ∀ d, x4 (ix2 (0 : Fin 1) d) = (D.gn d : EReal)
  win : ∀ d j, x5 (ix2 d j) = (D.win d j : EReal)
  wp : ∀ g a b, x6 (ix3 g a b) = (D.wp g a b : EReal)
  ps : ∀ e, x7 (ix2 (0 : Fin 1) e) = (D.ps e : EReal)
  lg : ∀ e, x8 (ix2 (0 : Fin 1) e) = (D.lg e : EReal)
  lb : ∀ e, x9 (ix2 (0 : Fin 1) e) = (D.lb e : EReal)
  ws : ∀ hh t q, x10 (ix3 hh t q) = (D.ws hh t q : EReal)
  bs : ∀ hh t, x11 (ix2 hh t) = (D.bs hh t : EReal)
  wout : ∀ j d, x12 (ix2 j d) = (D.wout j d : EReal)

variable (H : RArgs D x0 x1 x2 x3 x4 x5 x6 x7 x8 x9 x10 x11 x12)
include H

theorem h17 (s : Fin 8192) (d : Fin 1024) : val_main_v17 x0 x1 x2 x4 (ix2 s d) = (D.h s d : EReal) := by
  pointwise [val_main_v17, val_main_v15, val_main_v16, val_main_v11, val_main_v14, val_main_v9, val_main_v10, val_main_v13, val_main_v8, val_main_v12, val_main_v7, val_main_cst_2, val_main_v6, val_main_v4, val_main_v5, val_main_v2, val_main_v3, val_main_cst_1, val_main_v1, val_main_cst_0, val_main_v0, val_main_cst]
  simp only [H.x, H.sh, H.sc, H.gn, c_1024, c_eps, c_zero, ← EReal.coe_one, ← EReal.coe_mul, coe_sum, div1024, ← EReal.coe_add, rs_msq]
  rfl
theorem proj18 (s : Fin 8192) (j : Fin 1536) : val_main_v18 x0 x1 x2 x4 x5 (ix2 s j) = (D.proj s j : EReal) := by
  pointwise [val_main_v18]
  simp only [h17 H, H.win, ← EReal.coe_mul, coe_sum]
  rfl
theorem zb19 (s : Fin 8192) (e : Fin 1024) : val_main_v19 x0 x1 x2 x4 x5 (ix2 s e) = (D.zb s e : EReal) := by
  pointwise [val_main_v19]
  exact proj18 H s (pz e)
theorem pa21 (s : Fin 8192) (g : Fin 4) (l : Fin 128) : val_main_v21 x0 x1 x2 x4 x5 (ix3 s g l) = (D.proj s (pa (ck g l)) : EReal) := by
  rw [val_main_v21_apply, val_main_v20_apply, ← proj18 H]
  refine congrArg _ (funext fun a => Fin.ext ?_)
  match a with
  | ⟨0, _⟩ => show ((s.val * 4 + g.val) * 128 + l.val) / 512 = s.val; omega
  | ⟨1, _⟩ => show ((s.val * 4 + g.val) * 128 + l.val) % 512 = 128 * g.val + l.val; omega
theorem cum22 (s : Fin 8192) (g : Fin 4) (l : Fin 128) : val_main_v22 x0 x1 x2 x4 x5 (ix3 s g l) = (D.cum s (ck g l) : EReal) :=
  cumsum_at _ _ (fun z => c_zero) _ s g l (fun i => D.proj i (pa (ck g l))) (fun i => pa21 H i g l) _

theorem pool40 (s : Fin 8192) (l : Fin 128) : val_main_v40 x0 x1 x2 x4 x5 (ix2 s l) = (D.pool s (ck 0 l) : EReal) := by
  pointwise [val_main_v40, val_main_v37, val_main_v39, val_main_v35, val_main_v36, val_main_v38, val_main_v25, val_main_v28, val_main_v34, val_main_v24, val_main_v26, val_main_v27, val_main_v33, val_main_cst_3, val_main_v32, val_main_v30, val_main_v31, val_main_v23, val_main_v29, val_main_c_4, val_main_c]
  refine pool_at D s (ck 0 l) 2 (wd_ck 0 l) (by norm_num) (by norm_num) _ _ _ (cum22 H _ _ _) (pa21 H _ _ _) (fun h => ?_) fun h => ?_
  · rw [dif_pos (by omega)]
  · rw [dif_neg (by omega)]; exact cum22 H _ _ _
theorem pool57 (s : Fin 8192) (l : Fin 128) : val_main_v57 x0 x1 x2 x4 x5 (ix2 s l) = (D.pool s (ck 1 l) : EReal) := by
  pointwise [val_main_v57, val_main_v54, val_main_v56, val_main_v52, val_main_v53, val_main_v55, val_main_v42, val_main_v45, val_main_v51, val_main_v41, val_main_v43, val_main_v44, val_main_v50, val_main_cst_5, val_main_v49, val_main_v47, val_main_v48, val_main_v23, val_main_v46, val_main_c_7, val_main_c_6]
  refine pool_at D s (ck 1 l) 4 (wd_ck 1 l) (by norm_num) (by norm_num) _ _ _ (cum22 H _ _ _) (pa21 H _ _ _) (fun h => ?_) fun h => ?_
  · rw [dif_pos (by omega)]
  · rw [dif_neg (by omega)]; exact cum22 H _ _ _
theorem pool74 (s : Fin 8192) (l : Fin 128) : val_main_v74 x0 x1 x2 x4 x5 (ix2 s l) = (D.pool s (ck 2 l) : EReal) := by
  pointwise [val_main_v74, val_main_v71, val_main_v73, val_main_v69, val_main_v70, val_main_v72, val_main_v59, val_main_v62, val_main_v68, val_main_v58, val_main_v60, val_main_v61, val_main_v67, val_main_cst_8, val_main_v66, val_main_v64, val_main_v65, val_main_v23, val_main_v63, val_main_c_10, val_main_c_9]
  refine pool_at D s (ck 2 l) 8 (wd_ck 2 l) (by norm_num) (by norm_num) _ _ _ (cum22 H _ _ _) (pa21 H _ _ _) (fun h => ?_) fun h => ?_
  · rw [dif_pos (by omega)]
  · rw [dif_neg (by omega)]; exact cum22 H _ _ _
theorem pool91 (s : Fin 8192) (l : Fin 128) : val_main_v91 x0 x1 x2 x4 x5 (ix2 s l) = (D.pool s (ck 3 l) : EReal) := by
  pointwise [val_main_v91, val_main_v88, val_main_v90, val_main_v86, val_main_v87, val_main_v89, val_main_v76, val_main_v79, val_main_v85, val_main_v75, val_main_v77, val_main_v78, val_main_v84, val_main_cst_11, val_main_v83, val_main_v81, val_main_v82, val_main_v23, val_main_v80, val_main_c_13, val_main_c_12]
  refine pool_at D s (ck 3 l) 16 (wd_ck 3 l) (by norm_num) (by norm_num) _ _ _ (cum22 H _ _ _) (pa21 H _ _ _) (fun h => ?_) fun h => ?_
  · rw [dif_pos (by omega)]
  · rw [dif_neg (by omega)]; exact cum22 H _ _ _
theorem pool96 (s : Fin 8192) (g : Fin 4) (l : Fin 128) : val_main_v96 x0 x1 x2 x4 x5 (ix3 s g l) = (D.pool s (ck g l) : EReal) := by
  fin_cases g
  all_goals pointwise [val_main_v96, val_main_v92, val_main_v93, val_main_v94, val_main_v95]
  exacts [pool40 H s l, pool57 H s l, pool74 H s l, pool91 H s l]
omit H in
/-- A column as its group and its place in it. -/
theorem split_grp (s : Fin 8192) (e : Fin 512) (z : S8192x4x128.Idx) (h0 : (z 0).val = (s.val * 512 + e.val) / 512)
    (h1 : (z 1).val = (s.val * 512 + e.val) / 128 % 4) (h2 : (z 2).val = (s.val * 512 + e.val) % 128) : z = ix3 s (grp e) (lane e) := by
  refine funext fun a => Fin.ext ?_
  match a with
  | ⟨0, _⟩ => exact h0.trans (by show _ = s.val; omega)
  | ⟨1, _⟩ => exact h1.trans (by show _ = e.val / 128; omega)
  | ⟨2, _⟩ => exact h2.trans (by show _ = e.val % 128; omega)
theorem pool159 (s : Fin 8192) (e : Fin 512) : val_main_v159 x0 x1 x2 x4 x5 (ix2 s e) = (D.pool s e : EReal) := by
  rw [val_main_v159_apply, val_main_v158_apply]
  exact (congrArg _ (split_grp s e _ rfl rfl rfl)).trans ((pool96 H s (grp e) (lane e)).trans (by rw [← ck_split]))
theorem mixed98 (s : Fin 8192) (g : Fin 4) (l : Fin 128) : val_main_v98 x0 x1 x2 x4 x5 x6 (ix3 s g l) = (D.mixed s (ck g l) : EReal) := by
  pointwise [val_main_v98, val_main_v97]
  simp only [H.wp, pool96 H, ← EReal.coe_mul, coe_sum]
  refine congrArg _ ?_
  unfold In.mixed
  rw [grp_ck, lane_ck]
  exact Finset.sum_congr rfl fun c _ => mul_comm _ _
theorem mixed99 (s : Fin 8192) (e : Fin 512) : val_main_v99 x0 x1 x2 x4 x5 x6 (ix2 s e) = (D.mixed s e : EReal) := by
  rw [val_main_v99_apply]
  exact (congrArg _ (split_grp s e _ rfl rfl rfl)).trans ((mixed98 H s (grp e) (lane e)).trans (by rw [← ck_split]))

theorem gz115 (s : Fin 8192) (e : Fin 1024) : val_main_v115 x0 x1 x2 x4 x5 (ix2 s e) = (gz (D.zb s e) : EReal) := by
  pointwise [val_main_v115, val_main_v114, val_main_v113, val_main_v112, val_main_v111, val_main_v110, val_main_v109, val_main_v108, val_main_v107, val_main_v106, val_main_v105, val_main_v104, val_main_v103, val_main_v102, val_main_cst_14, val_main_cst_15, val_main_cst_16, val_main_cst_17, val_main_cst_18]
  simp only [zb19 H, c_cubic, c_cg, c_half, ← EReal.coe_one, ← EReal.coe_mul, ← EReal.coe_add, tanh_coe]
  refine congrArg _ ?_
  unfold gz gt
  ring_nf
theorem u116 (s : Fin 8192) (e : Fin 512) : val_main_v116 x0 x1 x2 x4 x5 (ix2 s e) = (D.u s e : EReal) := by
  pointwise [val_main_v116]
  exact gz115 H s (lo e)
theorem v117 (s : Fin 8192) (e : Fin 512) : val_main_v117 x0 x1 x2 x4 x5 (ix2 s e) = (D.v s e : EReal) := by
  pointwise [val_main_v117]
  exact gz115 H s (hi e)
theorem mu121 (s : Fin 8192) : val_main_v121 x0 x1 x2 x4 x5 (ix2 s (0 : Fin 1)) = (D.mu s : EReal) := by
  pointwise [val_main_v121, val_main_v119, val_main_v120, val_main_v118, val_main_cst_20, val_main_cst_19]
  simp only [v117 H, c_512, c_zero, ← EReal.coe_add, coe_sum, div512]
  refine congrArg _ ?_
  unfold In.mu
  simp
theorem vc123 (s : Fin 8192) (e : Fin 512) : val_main_v123 x0 x1 x2 x4 x5 (ix2 s e) = (D.vc s e : EReal) := by
  pointwise [val_main_v123, val_main_v122]
  simp only [v117 H, mu121 H, ← EReal.coe_sub]
  rfl
theorem var132 (s : Fin 8192) : val_main_v132 x0 x1 x2 x4 x5 (ix2 s (0 : Fin 1)) = (D.var s : EReal) := by
  pointwise [val_main_v132, val_main_v128, val_main_v131, val_main_v126, val_main_v127, val_main_cst_23, val_main_v125, val_main_cst_22, val_main_v124, val_main_cst_21]
  simp only [vc123 H, c_512, c_eps, c_zero, ← EReal.coe_mul, ← EReal.coe_add, coe_sum, div512]
  refine congrArg _ ?_
  unfold In.var
  simp
theorem rs133 (s : Fin 8192) : val_main_v133 x0 x1 x2 x4 x5 (ix2 s (0 : Fin 1)) = (D.rs s : EReal) := by
  pointwise [val_main_v133]
  rw [var132 H]
  exact rsqrt_pos (D.var_pos s)
theorem vl139 (s : Fin 8192) (e : Fin 512) : val_main_v139 x0 x1 x2 x4 x5 x8 x9 (ix2 s e) = (D.vl s e : EReal) := by
  pointwise [val_main_v139, val_main_v137, val_main_v138, val_main_v135, val_main_v136, val_main_v130, val_main_v134, val_main_v129]
  simp only [v117 H, mu121 H, rs133 H, H.lg, H.lb, ← EReal.coe_sub, ← EReal.coe_mul, ← EReal.coe_add]
  rfl
theorem vl140 (n : Fin 64) (t : Fin 128) (hh : Fin 8) (e : Fin 64) : val_main_v140 x0 x1 x2 x4 x5 x8 x9 (ix4 n t hh e) = (D.vl (crow n t) (hcol hh e) : EReal) := by
  rw [val_main_v140_apply, split4 n t hh e (idx_main_v140 (ix4 n t hh e)) rfl rfl]
  exact vl139 H _ _
theorem wm144 (hh : Fin 8) (t q : Fin 128) : val_main_v144 x10 (ix3 hh t q) = (D.wm hh t q : EReal) := by
  pointwise [val_main_v144, val_main_call2_v0, val_main_call2_v1, val_main_v143, val_main_cst_25, val_main_v142, val_main_call1_v4, val_main_v141, val_main_call1_v5, val_main_call1_v2, val_main_call1_v3, val_main_c_24, val_main_call1_c_0, val_main_call1_v0, val_main_call1_v1, val_main_call1_c]
  rw [tri_word]
  refine (tri_sel t q _ _ rfl).trans ((if_congr Iff.rfl (H.ws hh t q) EReal.coe_zero.symm).trans ?_)
  unfold In.wm; split_ifs <;> rfl
theorem sv150 (n : Fin 64) (t : Fin 128) (hh : Fin 8) (e : Fin 64) : val_main_v150 x0 x1 x2 x4 x5 x8 x9 x10 x11 (ix4 n t hh e) = (D.sv (crow n t) (hcol hh e) : EReal) := by
  pointwise [val_main_v150, val_main_v146, val_main_v149, val_main_v145, val_main_v148, val_main_v147]
  simp only [H.bs, vl140 H, wm144 H, ← EReal.coe_mul, coe_sum, ← EReal.coe_add]
  refine congrArg _ ?_
  unfold In.sv
  rw [hd_hcol, pos_crow, chk_crow]
  refine congrArg (· + _) (Finset.sum_congr rfl fun c _ => mul_comm _ _)
theorem sv151 (s : Fin 8192) (e : Fin 512) : val_main_v151 x0 x1 x2 x4 x5 x8 x9 x10 x11 (ix2 s e) = (D.sv s e : EReal) := by
  rw [val_main_v151_apply, split2 s e (idx_main_v151 (ix2 s e)) rfl rfl rfl rfl]
  exact (sv150 H _ _ _ _).trans (by rw [← crow_split, ← hcol_split])
theorem cat153 (s : Fin 8192) (j : Fin 1024) : val_main_v153 x0 x1 x2 x4 x5 x6 x7 x8 x9 x10 x11 (ix2 s j) = (D.cat s j : EReal) := by
  rcases exists_half j with ⟨e, rfl⟩ | ⟨e, rfl⟩
  · rw [In.cat_lo]
    pointwise [val_main_v153, val_main_v101, val_main_v100]
    refine (dif_pos (show (lo e).val < 512 from e.isLt)).trans ?_
    rw [EReal.coe_mul, ← mixed99 H, ← H.ps]
    rfl
  · rw [In.cat_hi]
    pointwise [val_main_v153, val_main_v101, val_main_v152, val_main_v100]
    refine (dif_neg (show ¬(hi e).val < 512 by simp [hi])).trans ?_
    have he : (⟨(hi e).val - 512, by simp only [hi]; omega⟩ : Fin 512) = e := Fin.ext (by simp [hi])
    rw [he, u116 H, sv151 H, EReal.coe_mul]
theorem out157 (s : Fin 8192) (d : Fin 1024) : val_main_v157 x0 x1 x2 x3 x4 x5 x6 x7 x8 x9 x10 x11 x12 (ix2 s d) = (D.x s d + D.ga d * ∑ j, D.cat s j * D.wout j d : ℝ) := by
  pointwise [val_main_v157, val_main_v156, val_main_v155, val_main_v154]
  simp only [H.x, H.ga, H.wout, cat153 H, ← EReal.coe_mul, coe_sum, ← EReal.coe_add]

end Cert.Reference6Ideal.Fmix

end
-- ==== Proof.FmixPre.lean ====
/-
  The precondition of the mixer's forward call: finite arguments are arrays of real numbers, and on
  those the reference's results are the arrays the call leaves.
-/
module

public import proofs.«01_k».proof.Defs
public import proofs.«01_k».proof.Proof.Gen.Pre_finite_pool
public import proofs.«01_k».proof.Proof.FmixFinal
public import proofs.«01_k».proof.Proof.FmixRef

@[expose] public section

noncomputable section

namespace Cert.Kernel6Ideal.Fmix

open Cert.Kernel6Ideal Cert.Kernel6Ideal.Gen Idealize.ShloMosaic Idealize.ShloMosaic.TcCoe Cert.RealKit

instance : Subsingleton S_.Idx := ⟨fun a b => funext fun k => k.elim0⟩

/-- Arguments that pass the test "every element is finite" hold real numbers. -/
theorem holds [Cert.Pre_finite_pool.Facts] {m : (ℓ : Loc nD τ sig) → Buf (Elt Ideal) ℓ} (h : Cert.Pre_Kernel6Ideal_finite_pool m) (c : Dev nD) :
    ∃ D, Args m c D := by
  have e := congrFun (h c) ix0
  unfold Cert.Pre_finite_pool.fn Cert.Pre_finite_pool.fn_part1 Cert.Pre_finite_pool.fn_part2 Cert.Pre_finite_pool.fn_part3 at e
  dsimp only at e
  obtain ⟨e, e12⟩ := (IntOp.andi_eq_one ..).mp e
  obtain ⟨e, e11⟩ := (IntOp.andi_eq_one ..).mp e
  obtain ⟨e, e10⟩ := (IntOp.andi_eq_one ..).mp e
  obtain ⟨e, e9⟩ := (IntOp.andi_eq_one ..).mp e
  obtain ⟨e, e8⟩ := (IntOp.andi_eq_one ..).mp e
  obtain ⟨e, e7⟩ := (IntOp.andi_eq_one ..).mp e
  obtain ⟨e, e6⟩ := (IntOp.andi_eq_one ..).mp e
  obtain ⟨e, e5⟩ := (IntOp.andi_eq_one ..).mp e
  obtain ⟨e, e4⟩ := (IntOp.andi_eq_one ..).mp e
  obtain ⟨e, e3⟩ := (IntOp.andi_eq_one ..).mp e
  obtain ⟨e, e2⟩ := (IntOp.andi_eq_one ..).mp e
  obtain ⟨e0, e1⟩ := (IntOp.andi_eq_one ..).mp e
  obtain ⟨X0, h0⟩ := real_of_all _ _ _ _ _ _ _ e0
  obtain ⟨X1, h1⟩ := real_of_all _ _ _ _ _ _ _ e1
  obtain ⟨X2, h2⟩ := real_of_all _ _ _ _ _ _ _ e2
  obtain ⟨X3, h3⟩ := real_of_all _ _ _ _ _ _ _ e3
  obtain ⟨X4, h4⟩ := real_of_all _ _ _ _ _ _ _ e4
  obtain ⟨X5, h5⟩ := real_of_all _ _ _ _ _ _ _ e5
  obtain ⟨X6, h6⟩ := real_of_all _ _ _ _ _ _ _ e6
  obtain ⟨X7, h7⟩ := real_of_all _ _ _ _ _ _ _ e7
  obtain ⟨X8, h8⟩ := real_of_all _ _ _ _ _ _ _ e8
  obtain ⟨X9, h9⟩ := real_of_all _ _ _ _ _ _ _ e9
  obtain ⟨X10, h10⟩ := real_of_all _ _ _ _ _ _ _ e10
  obtain ⟨X11, h11⟩ := real_of_all _ _ _ _ _ _ _ e11
  obtain ⟨X12, h12⟩ := real_of_all _ _ _ _ _ _ _ e12
  exact ⟨⟨fun r d => X0 (ix2 r d), fun _ _ => 0, fun d => X1 (ix2 0 d), fun d => X2 (ix2 0 d), fun d => X3 (ix2 0 d),
      fun d => X4 (ix2 0 d), fun r d => X5 (ix2 r d), fun g a b => X6 (ix3 g a b), fun d => X7 (ix2 0 d), fun d => X8 (ix2 0 d),
      fun d => X9 (ix2 0 d), fun g a b => X10 (ix3 g a b), fun r d => X11 (ix2 r d), fun r d => X12 (ix2 r d)⟩,
    fun r d => congrFun h0 _, fun d => congrFun h1 _, fun d => congrFun h2 _, fun d => congrFun h3 _,
    fun d => congrFun h4 _, fun r d => congrFun h5 _, fun g a b => congrFun h6 _, fun d => congrFun h7 _, fun d => congrFun h8 _,
    fun d => congrFun h9 _, fun g a b => congrFun h10 _, fun r d => congrFun h11 _, fun r d => congrFun h12 _⟩

section Reference
open Cert.Reference6Ideal.Fmix Cert.Reference6Ideal.Read Cert.MixMath Cert.KernelIdeal.Head
variable {D : In} {x0 : Vec Ideal S8192x1024 .f32} {x1 x2 x3 x4 : Vec Ideal S1x1024 .f32} {x5 : Vec Ideal S1024x1536 .f32}
  {x6 : Vec Ideal S4x128x128 .f32} {x7 x8 x9 : Vec Ideal S1x512 .f32} {x10 : Vec Ideal S8x128x128 .f32} {x11 : Vec Ideal S8x128 .f32}
  {x12 : Vec Ideal S1024x1024 .f32} (A : RArgs D x0 x1 x2 x3 x4 x5 x6 x7 x8 x9 x10 x11 x12)
include A

/-- The reference's three results are the arrays the call leaves. -/
theorem res157 : val_main_v157 x0 x1 x2 x3 x4 x5 x6 x7 x8 x9 x10 x11 x12 = Gx D :=
  funext fun i => (congrArg _ (eta2 i)).trans (out157 A (i 0) (i 1))
theorem res159 : val_main_v159 x0 x1 x2 x4 x5 = Gp D := funext fun i => (congrArg _ (eta2 i)).trans (pool159 A (i 0) (i 1))
theorem res19 : val_main_v19 x0 x1 x2 x4 x5 = Gz D := funext fun i => (congrArg _ (eta2 i)).trans (zb19 A (i 0) (i 1))

end Reference

end Cert.Kernel6Ideal.Fmix
-- ==== Proof.AdaVal.lean ====
/-
  The gradient of the modulation's weight and its AdamW step: what each point of the call's grid leaves, entry by entry, and
  the reference's entries beside it.
-/
module

public import proofs.«01_k».proof.Proof.Gen.Kernel7Ideal.Value
public import proofs.«01_k».proof.Proof.Gen.Reference7Ideal.Read
public import proofs.«01_k».proof.Proof.HeadFinal
public import Idealize.ShloMosaic.Lib.StableHlo.ReadAt
public import Idealize.ShloMosaic.Lib.Tactic
public import Idealize.ShloMosaic.Lib.Pipeline.Value
public import Idealize.ShloMosaic.Lib.Pointwise

@[expose] public section

noncomputable section

namespace Cert.Kernel7Ideal.Ada

open Cert.Kernel7Ideal Cert.Kernel7Ideal.Gen Idealize.ShloMosaic Idealize.ShloMosaic.TcCoe Cert.RealKit
open Cert.KernelIdeal.Head (eta2 hz2)
open Cert.Reference7Ideal.Read (val_main_call0_v5 val_main_call0_v4 val_main_call0_v3 val_main_call0_v2 val_main_call0_v1
  val_main_call0_v0 val_main_call0_cst val_main_call0_cst_0 val_main_v0 val_main_v2 val_main_v2_apply val_main_v3 val_main_v3_apply val_main_v8 val_main_v14 val_main_v27)

/-- A word of the step as the number it is. -/
abbrev lit (w : BitVec 32) : Ideal FTy.f32 := FloatOps.ofBits (F := Ideal) .f32 w

/-- The new first moment of an entry. -/
def fm (g m : Ideal FTy.f32) : Ideal FTy.f32 := FloatOps.addf (FloatOps.mulf (lit 0x3F666666#32) m) (FloatOps.mulf (lit 0x3DCCCCCD#32) g)
/-- The new second moment of an entry. -/
def fv (g v : Ideal FTy.f32) : Ideal FTy.f32 := FloatOps.addf (FloatOps.mulf (lit 0x3F7FBE77#32) v) (FloatOps.mulf (lit 0x3A83126F#32) (FloatOps.mulf g g))
/-- The change of an entry of the weight. -/
def fd (g w m v : Ideal FTy.f32) : Ideal FTy.f32 :=
  FloatOps.mulf (lit 0xBA83126F#32) (FloatOps.addf
    (FloatOps.divf (FloatOps.divf (fm g m) (lit 0x3F26BD02#32))
      (FloatOps.addf (FloatOps.sqrt (FloatOps.divf (fv g v) (lit 0x3C231ACC#32))) (lit 0x322BCC77#32)))
    (FloatOps.mulf (lit 0x3C23D70A#32) w))

theorem pay2_at (x0 : Vec Ideal S1024x8 .f32) (x1 : Vec Ideal S8x256 .f32) (x3 : Vec Ideal S1024x256 .f32) (y : S1024x256.Idx) :
    k0_pay2 x0 x1 x3 y = fm (k0_pay1 x0 x1 y) (x3 y) := rfl
theorem pay3_at (x0 : Vec Ideal S1024x8 .f32) (x1 : Vec Ideal S8x256 .f32) (x4 : Vec Ideal S1024x256 .f32) (y : S1024x256.Idx) :
    k0_pay3 x0 x1 x4 y = fv (k0_pay1 x0 x1 y) (x4 y) := rfl
theorem pay4_at (x0 : Vec Ideal S1024x8 .f32) (x1 : Vec Ideal S8x256 .f32) (x2 x3 x4 : Vec Ideal S1024x256 .f32) (y : S1024x256.Idx) :
    k0_pay4 x0 x1 x2 x3 x4 y = fd (k0_pay1 x0 x1 y) (x2 y) (x3 y) (x4 y) := rfl

theorem pay1_at (x0 : Vec Ideal S1024x8 .f32) (x1 : Vec Ideal S8x256 .f32) (r : Fin 1024) (k : Fin 256) :
    k0_pay1 x0 x1 (ix2 r k) = ∑ j : Fin 8, x0 (ix2 r j) * x1 (ix2 j k) := by
  pointwise [k0_pay1]

variable (x0 : Vec Ideal S8x1024 .f32) (x1 : Vec Ideal S8x2304 .f32) (x2 x3 x4 : Vec Ideal S1024x2304 .f32) (i : S1024x2304.Idx)

theorem ref8 : val_main_v8 x0 x1 x3 i = fm (val_main_v3 x0 x1 i) (x3 i) := rfl
theorem ref14 : val_main_v14 x0 x1 x4 i = fv (val_main_v3 x0 x1 i) (x4 i) := rfl
theorem ref27 : val_main_v27 x0 x1 x2 x3 x4 i = fd (val_main_v3 x0 x1 i) (x2 i) (x3 i) (x4 i) := rfl

theorem act_at (z : S8x1024.Idx) : val_main_v0 x0 z = x0 z * Ideal.div 1 (1 + Ideal.exp (-x0 z)) := by
  pointwise [val_main_v0, val_main_call0_v5, val_main_call0_v4, val_main_call0_v3, val_main_call0_v2, val_main_call0_v1,
    val_main_call0_v0, val_main_call0_cst, val_main_call0_cst_0]

theorem ref3 (r : Fin 1024) (k : Fin 2304) :
    val_main_v3 x0 x1 (ix2 r k) = ∑ j : Fin 8, val_main_v0 x0 (ix2 j r) * x1 (ix2 j k) := by
  rw [val_main_v3_apply, val_main_v2_apply]
  refine Finset.sum_congr rfl fun j _ => ?_
  refine (mul_comm _ _).trans (congrArg₂ (· * ·) (congrArg _ ?_) (congrArg _ ?_)) <;>
    exact funext fun a => by fin_cases a <;> rfl

variable (m : (ℓ : Loc nD τ sig) → Buf (Elt Ideal) ℓ) (c : Dev nD) (t : Fin cfg0.N)

/-- The host's transposed activation is the reference's. -/
theorem V_act (r : Fin 1024) (j : Fin 8) :
    (V m c main_v7 : Vec Ideal S1024x8 .f32) (ix2 r j) = val_main_v0 (m ((c : Thread nD τ).loc main_arg0)) (ix2 j r) := by
  rw [act_at]
  unfold V
  after_reads_at

/-! ## The grid's points -/

theorem idx0 : ∀ t : Fin cfg0.N, win0_0.index t 0 = 0 ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel

theorem t_lt : t.val < 9 := lt_of_lt_of_eq t.isLt (show cfg0.N = 9 from N_0)
/-- A point's column `k` among all columns. -/
abbrev col (k : Fin 256) : Fin 2304 := ⟨256 * t.val + k.val, by have := t_lt t; omega⟩

theorem blk0 (r : Fin 1024) (j : Fin 8) : (iblk m c 0 t : Vec Ideal S1024x8 .f32) (ix2 r j) = (V m c main_v7 : Vec Ideal S1024x8 .f32) (ix2 r j) := by
  refine congrArg (V m c main_v7 : Vec Ideal S1024x8 .f32) (funext fun a => Fin.ext ?_)
  match a with
  | ⟨0, _⟩ => show win0_0.index t 0 * 1024 + 1 * r.val = r.val; rw [(idx0 t).1]; omega
  | ⟨1, _⟩ => show win0_0.index t 1 * 8 + 1 * j.val = j.val; rw [(idx0 t).2]; omega
theorem blk1 (j : Fin 8) (k : Fin 256) : (iblk m c 1 t : Vec Ideal S8x256 .f32) (ix2 j k) = (m ((c : Thread nD τ).loc main_arg1) : Vec Ideal S8x2304 .f32) (ix2 j (col t k)) := by
  rw [← V_main_arg1 m c]
  refine congrArg (V m c main_arg1 : Vec Ideal S8x2304 .f32) (funext fun a => Fin.ext ?_)
  match a with
  | ⟨0, _⟩ => show win0_1.index t 0 * 8 + 1 * j.val = j.val; rw [(idx1 t).1]; omega
  | ⟨1, _⟩ => show win0_1.index t 1 * 256 + 1 * k.val = 256 * t.val + k.val; rw [(idx1 t).2]; omega
theorem blk2 (y : S1024x256.Idx) : (iblk m c 2 t : Vec Ideal S1024x256 .f32) y = (m ((c : Thread nD τ).loc main_arg2) : Vec Ideal S1024x2304 .f32) (ix2 (y 0) (col t (y 1))) := by
  rw [← V_main_arg2 m c]
  refine congrArg (V m c main_arg2 : Vec Ideal S1024x2304 .f32) (funext fun a => Fin.ext ?_)
  match a with
  | ⟨0, _⟩ => show win0_2.index t 0 * 1024 + 1 * (y 0).val = (y 0).val; rw [(idx2 t).1]; omega
  | ⟨1, _⟩ => show win0_2.index t 1 * 256 + 1 * (y 1).val = 256 * t.val + (y 1).val; rw [(idx2 t).2]; omega
theorem blk3 (y : S1024x256.Idx) : (iblk m c 3 t : Vec Ideal S1024x256 .f32) y = (m ((c : Thread nD τ).loc main_arg3) : Vec Ideal S1024x2304 .f32) (ix2 (y 0) (col t (y 1))) := by
  rw [← V_main_arg3 m c]
  refine congrArg (V m c main_arg3 : Vec Ideal S1024x2304 .f32) (funext fun a => Fin.ext ?_)
  match a with
  | ⟨0, _⟩ => show win0_3.index t 0 * 1024 + 1 * (y 0).val = (y 0).val; rw [(idx3 t).1]; omega
  | ⟨1, _⟩ => show win0_3.index t 1 * 256 + 1 * (y 1).val = 256 * t.val + (y 1).val; rw [(idx3 t).2]; omega
theorem blk4 (y : S1024x256.Idx) : (iblk m c 4 t : Vec Ideal S1024x256 .f32) y = (m ((c : Thread nD τ).loc main_arg4) : Vec Ideal S1024x2304 .f32) (ix2 (y 0) (col t (y 1))) := by
  rw [← V_main_arg4 m c]
  refine congrArg (V m c main_arg4 : Vec Ideal S1024x2304 .f32) (funext fun a => Fin.ext ?_)
  match a with
  | ⟨0, _⟩ => show win0_4.index t 0 * 1024 + 1 * (y 0).val = (y 0).val; rw [(idx4 t).1]; omega
  | ⟨1, _⟩ => show win0_4.index t 1 * 256 + 1 * (y 1).val = 256 * t.val + (y 1).val; rw [(idx4 t).2]; omega

/-- A point's block of the gradient is the reference's. -/
theorem grad_at (y : S1024x256.Idx) : k0_pay1 (F := Ideal) (iblk m c 0 t) (iblk m c 1 t) y
    = val_main_v3 (m ((c : Thread nD τ).loc main_arg0)) (m ((c : Thread nD τ).loc main_arg1)) (ix2 (y 0) (col t (y 1))) := by
  refine (congrArg (k0_pay1 (F := Ideal) (iblk m c 0 t) (iblk m c 1 t)) (eta2 y)).trans ?_
  refine (pay1_at _ _ (y 0) (y 1)).trans (Eq.trans ?_ (ref3 _ _ (y 0) (col t (y 1))).symm)
  refine Finset.sum_congr rfl fun j _ => ?_
  exact congrArg₂ (· * ·) ((blk0 m c t (y 0) j).trans (V_act m c (y 0) j)) (blk1 m c t j (y 1))

/-! ## What a point stores -/

variable (b0 : Vec Ideal S1024x8 .f32) (b1 : Vec Ideal S8x256 .f32) (b2 b3 b4 : Vec Ideal S1024x256 .f32)

theorem st5 : out0_5 b0 b1 b2 b3 b4 = k0_pay1 b0 b1 := by
  unfold out0_5
  rw [View.canon_unit_zero hz2, View.ld_unit_zero (S := S1024x8) hz2, View.ld_unit_zero (S := S8x256) hz2]
theorem st6 : out0_6 b0 b1 b2 b3 b4 = k0_pay4 b0 b1 b2 b3 b4 := by
  unfold out0_6
  rw [View.canon_unit_zero hz2, View.ld_unit_zero (S := S1024x8) hz2, View.ld_unit_zero (S := S8x256) hz2, View.ld_unit_zero (S := S1024x256) hz2,
    View.ld_unit_zero (S := S1024x256) hz2, View.ld_unit_zero (S := S1024x256) hz2]
theorem st7 : out0_7 b0 b1 b2 b3 b4 = k0_pay2 b0 b1 b3 := by
  unfold out0_7
  rw [View.canon_unit_zero hz2, View.ld_unit_zero (S := S1024x8) hz2, View.ld_unit_zero (S := S8x256) hz2, View.ld_unit_zero (S := S1024x256) hz2]
theorem st8 : out0_8 b0 b1 b2 b3 b4 = k0_pay3 b0 b1 b4 := by
  unfold out0_8
  rw [View.canon_unit_zero hz2, View.ld_unit_zero (S := S1024x8) hz2, View.ld_unit_zero (S := S8x256) hz2, View.ld_unit_zero (S := S1024x256) hz2]

end Cert.Kernel7Ideal.Ada

end
-- ==== Proof.AdaFinal.lean ====
/-
  The four arrays the modulation weight's gradient call leaves: the reference's gradient, change of the weight and moments.
-/
module

public import proofs.«01_k».proof.Proof.AdaVal

@[expose] public section

noncomputable section

namespace Cert.Kernel7Ideal.Ada

open Cert.Kernel7Ideal Cert.Kernel7Ideal.Gen Idealize.ShloMosaic Idealize.ShloMosaic.TcCoe Cert.RealKit
open Idealize.ShloMosaic.Pipeline (Dat)
open Cert.Reference7Ideal.Read (val_main_v3 val_main_v8 val_main_v14 val_main_v27)

variable (m : (ℓ : Loc nD τ sig) → Buf (Elt Ideal) ℓ) (c : Dev nD)

/-- The point whose block holds an entry. -/
theorem point_of (i : S1024x2304.Idx) : ∃ t : Fin cfg0.N, t.val = (i 1 : ℕ) / 256 := by
  have h1 : (i 1 : ℕ) < 2304 := (i 1).isLt
  exact ⟨⟨_, by rw [show cfg0.N = 9 from N_0]; omega⟩, rfl⟩

theorem inside {i : S1024x2304.Idx} {n : Fin 2 → ℕ} {t : ℕ} (h0 : n 0 = 0) (h1 : n 1 = t) (ht : t = (i 1 : ℕ) / 256) (a : Fin 2) :
    n a * S1024x256.size a ≤ (i a : ℕ) ∧ (i a : ℕ) < n a * S1024x256.size a + S1024x256.size a := by
  have e0 : (i 0 : ℕ) < 1024 := (i 0).isLt
  match a with
  | ⟨0, _⟩ => show n 0 * 1024 ≤ (i 0 : ℕ) ∧ (i 0 : ℕ) < n 0 * 1024 + 1024
              rw [h0]; omega
  | ⟨1, _⟩ => show n 1 * 256 ≤ (i 1 : ℕ) ∧ (i 1 : ℕ) < n 1 * 256 + 256
              rw [h1]; omega

/-- An argument's array. -/
abbrev arg (r : Ref sig .tc) := m ((c : Thread nD τ).loc r)

theorem emb5 (t : Fin cfg0.N) (y : S1024x256.Idx) : ((cfg0.win 5).blk t).view.emb y = ix2 (y 0) (col t (y 1)) := by
  refine funext fun a => Fin.ext ?_
  match a with
  | ⟨0, _⟩ => show win0_5.index t 0 * 1024 + 1 * (y 0).val = (y 0).val; rw [(idx5 t).1]; omega
  | ⟨1, _⟩ => show win0_5.index t 1 * 256 + 1 * (y 1).val = 256 * t.val + (y 1).val; rw [(idx5 t).2]; omega
theorem arr5 : (dats m 0 c).arrAt 5 cfg0.N = val_main_v3 (arg m c main_arg0) (arg m c main_arg1) :=
  (dats m 0 c).arrAt_eq_of_cover 5 _
    (fun t hf => by
      rw [Value.flushed5, st5]
      refine funext fun (y : S1024x256.Idx) => ?_
      refine Eq.trans ?_ (congrArg (val_main_v3 _ _) (emb5 t y)).symm
      exact grad_at m c t y)
    fun i => by
      obtain ⟨t, ht⟩ := point_of i
      refine ⟨t, flush0_5 t, ?_⟩
      show i ∈ ((View.whole main_v8_0).slice (win0_5.rect t)).set
      rw [View.set_slice_whole, Rect.mem_set_unit]
      exact inside (idx5 t).1 (idx5 t).2 ht

theorem emb6 (t : Fin cfg0.N) (y : S1024x256.Idx) : ((cfg0.win 6).blk t).view.emb y = ix2 (y 0) (col t (y 1)) := emb5 t y
theorem arr6 : (dats m 0 c).arrAt 6 cfg0.N = val_main_v27 (arg m c main_arg0) (arg m c main_arg1) (arg m c main_arg2) (arg m c main_arg3) (arg m c main_arg4) :=
  (dats m 0 c).arrAt_eq_of_cover 6 _
    (fun t hf => by
      rw [Value.flushed6, st6]
      refine funext fun (y : S1024x256.Idx) => ?_
      refine Eq.trans ?_ (congrArg (val_main_v27 _ _ _ _ _) (emb6 t y)).symm
      refine (pay4_at _ _ _ _ _ y).trans (Eq.trans ?_ (ref27 _ _ _ _ _ _).symm)
      rw [grad_at, blk2, blk3, blk4]
      rfl)
    fun i => by
      obtain ⟨t, ht⟩ := point_of i
      refine ⟨t, flush0_6 t, ?_⟩
      show i ∈ ((View.whole main_v8_1).slice (win0_6.rect t)).set
      rw [View.set_slice_whole, Rect.mem_set_unit]
      exact inside (idx6 t).1 (idx6 t).2 ht

theorem emb7 (t : Fin cfg0.N) (y : S1024x256.Idx) : ((cfg0.win 7).blk t).view.emb y = ix2 (y 0) (col t (y 1)) := emb5 t y
theorem arr7 : (dats m 0 c).arrAt 7 cfg0.N = val_main_v8 (arg m c main_arg0) (arg m c main_arg1) (arg m c main_arg3) :=
  (dats m 0 c).arrAt_eq_of_cover 7 _
    (fun t hf => by
      rw [Value.flushed7, st7]
      refine funext fun (y : S1024x256.Idx) => ?_
      refine Eq.trans ?_ (congrArg (val_main_v8 _ _ _) (emb7 t y)).symm
      refine (pay2_at _ _ _ y).trans (Eq.trans ?_ (ref8 _ _ _ _).symm)
      rw [grad_at, blk3]
      rfl)
    fun i => by
      obtain ⟨t, ht⟩ := point_of i
      refine ⟨t, flush0_7 t, ?_⟩
      show i ∈ ((View.whole main_v8_2).slice (win0_7.rect t)).set
      rw [View.set_slice_whole, Rect.mem_set_unit]
      exact inside (idx7 t).1 (idx7 t).2 ht

theorem emb8 (t : Fin cfg0.N) (y : S1024x256.Idx) : ((cfg0.win 8).blk t).view.emb y = ix2 (y 0) (col t (y 1)) := emb5 t y
theorem arr8 : (dats m 0 c).arrAt 8 cfg0.N = val_main_v14 (arg m c main_arg0) (arg m c main_arg1) (arg m c main_arg4) :=
  (dats m 0 c).arrAt_eq_of_cover 8 _
    (fun t hf => by
      rw [Value.flushed8, st8]
      refine funext fun (y : S1024x256.Idx) => ?_
      refine Eq.trans ?_ (congrArg (val_main_v14 _ _ _) (emb8 t y)).symm
      refine (pay3_at _ _ _ y).trans (Eq.trans ?_ (ref14 _ _ _ _).symm)
      rw [grad_at, blk4]
      rfl)
    fun i => by
      obtain ⟨t, ht⟩ := point_of i
      refine ⟨t, flush0_8 t, ?_⟩
      show i ∈ ((View.whole main_v8_3).slice (win0_8.rect t)).set
      rw [View.set_slice_whole, Rect.mem_set_unit]
      exact inside (idx8 t).1 (idx8 t).2 ht

end Cert.Kernel7Ideal.Ada

end
-- ==== Proof.Halves.lean ====
/-
  The AdamW step over a weight whose gradient stands in two halves: what each point of the call's grid leaves, and the four
  arrays it leaves, beside the reference's.
-/
module

public import proofs.«01_k».proof.Proof.Gen.Kernel8Ideal.Value
public import proofs.«01_k».proof.Proof.Gen.Reference8Ideal.Read
public import proofs.«01_k».proof.Proof.AdaVal

@[expose] public section

noncomputable section

namespace Cert.Kernel8Ideal.Halves

open Cert.Kernel8Ideal Cert.Kernel8Ideal.Gen Idealize.ShloMosaic Idealize.ShloMosaic.TcCoe Cert.RealKit
open Idealize.ShloMosaic.Pipeline (Dat)
open Cert.KernelIdeal.Head (eta2 hz2)
open Cert.Kernel7Ideal.Ada (fm fv fd)
open Cert.Reference8Ideal.Read (val_main_v0 val_main_v5 val_main_v11 val_main_v24)

/-! ## The stored entries -/

variable (p : grid0.Coords) (z0 z1 z2 z3 z4 : Vec Ideal S256x1408 .f32) (y : S256x1408.Idx)

theorem pay1_first (h : (p 0).val = 0) : k0_pay1 p z1 z2 y = z1 y := by
  unfold k0_pay1
  rw [h]
  rfl
theorem pay1_second (h : (p 0).val = 1) : k0_pay1 p z1 z2 y = z2 y := by
  unfold k0_pay1
  rw [h]
  rfl
theorem pay2_at : k0_pay2 p z1 z2 z3 y = fm (k0_pay1 p z1 z2 y) (z3 y) := rfl
theorem pay3_at : k0_pay3 p z1 z2 z4 y = fv (k0_pay1 p z1 z2 y) (z4 y) := rfl
theorem pay4_at : k0_pay4 p z1 z2 z0 z3 z4 y = fd (k0_pay1 p z1 z2 y) (z0 y) (z3 y) (z4 y) := rfl

theorem st5 : out0_5 p z0 z1 z2 z3 z4 = k0_pay1 p z1 z2 := by
  unfold out0_5
  rw [View.canon_unit_zero hz2]
  simp only [View.ld_unit_zero (S := S256x1408) hz2]
theorem st6 : out0_6 p z0 z1 z2 z3 z4 = k0_pay4 p z1 z2 z0 z3 z4 := by
  unfold out0_6
  rw [View.canon_unit_zero hz2]
  simp only [View.ld_unit_zero (S := S256x1408) hz2]
theorem st7 : out0_7 p z0 z1 z2 z3 z4 = k0_pay2 p z1 z2 z3 := by
  unfold out0_7
  rw [View.canon_unit_zero hz2]
  simp only [View.ld_unit_zero (S := S256x1408) hz2]
theorem st8 : out0_8 p z0 z1 z2 z3 z4 = k0_pay3 p z1 z2 z4 := by
  unfold out0_8
  rw [View.canon_unit_zero hz2]
  simp only [View.ld_unit_zero (S := S256x1408) hz2]

/-! ## The reference's entries -/

variable (x1 x2 : Vec Ideal S512x1408 .f32) (x0 x3 x4 : Vec Ideal S1024x1408 .f32) (i : S1024x1408.Idx)

theorem ref5 : val_main_v5 x1 x2 x3 i = fm (val_main_v0 x1 x2 i) (x3 i) := rfl
theorem ref11 : val_main_v11 x1 x2 x4 i = fv (val_main_v0 x1 x2 i) (x4 i) := rfl
theorem ref24 : val_main_v24 x0 x1 x2 x3 x4 i = fd (val_main_v0 x1 x2 i) (x0 i) (x3 i) (x4 i) := rfl

theorem ref0_first (r : Fin 1024) (s : Fin 512) (k : Fin 1408) (h : s.val = r.val) :
    val_main_v0 x1 x2 (ix2 r k) = x1 (ix2 s k) :=
  concatenate_pair_apply_left (0 : Fin 2) x1 x2 Cert.Reference8Ideal.Facts₀.concatenates_S512x1408_S512x1408_S1024x1408_d0 (ix2 r k) rfl (ix2 s k)
    fun b => match b with | ⟨0, _⟩ => h | ⟨1, _⟩ => rfl
theorem ref0_second (r : Fin 1024) (s : Fin 512) (k : Fin 1408) (h : s.val + 512 = r.val) :
    val_main_v0 x1 x2 (ix2 r k) = x2 (ix2 s k) :=
  concatenate_pair_apply_right (0 : Fin 2) x1 x2 Cert.Reference8Ideal.Facts₀.concatenates_S512x1408_S512x1408_S1024x1408_d0 (ix2 r k) rfl rfl (ix2 s k)
    (fun b hb => match b with | ⟨0, _⟩ => absurd rfl hb | ⟨1, _⟩ => rfl) h

/-! ## The grid's points -/

theorem idx0 : ∀ t : Fin cfg0.N, win0_0.index t 0 = t.val ∧ win0_0.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx1 : ∀ t : Fin cfg0.N, win0_1.index t 0 = t.val % 2 ∧ win0_1.index t 1 = 0 := by decide +kernel
theorem idx2 : ∀ t : Fin cfg0.N, win0_2.index t 0 = t.val % 2 ∧ win0_2.index t 1 = 0 := by decide +kernel
theorem half_of : ∀ t : Fin cfg0.N, (grid0.coords t 0).val = t.val / 2 := by decide +kernel

variable (m : (ℓ : Loc nD τ sig) → Buf (Elt Ideal) ℓ) (c : Dev nD) (t : Fin cfg0.N)

/-- An argument's array. -/
abbrev arg (r : Ref sig .tc) := m ((c : Thread nD τ).loc r)

theorem t_lt : t.val < 4 := lt_of_lt_of_eq t.isLt (show cfg0.N = 4 from N_0)
/-- A point's row `r` among all rows. -/
abbrev row (r : Fin 256) : Fin 1024 := ⟨256 * t.val + r.val, by have := t_lt t; omega⟩
/-- A point's row `r` among the rows of its half. -/
abbrev hrow (r : Fin 256) : Fin 512 := ⟨256 * (t.val % 2) + r.val, by omega⟩

theorem blk0 : (iblk m c 0 t : Vec Ideal S256x1408 .f32) y = (arg m c main_arg0 : Vec Ideal S1024x1408 .f32) (ix2 (row t (y 0)) (y 1)) := by
  show _ = (m ((c : Thread nD τ).loc main_arg0) : Vec Ideal S1024x1408 .f32) _
  rw [← V_main_arg0 m c]
  refine congrArg (V m c main_arg0 : Vec Ideal S1024x1408 .f32) (funext fun a => Fin.ext ?_)
  match a with
  | ⟨0, _⟩ => show win0_0.index t 0 * 256 + 1 * (y 0).val = 256 * t.val + (y 0).val; rw [(idx0 t).1]; omega
  | ⟨1, _⟩ => show win0_0.index t 1 * 1408 + 1 * (y 1).val = (y 1).val; rw [(idx0 t).2]; omega
theorem blk1 : (iblk m c 1 t : Vec Ideal S256x1408 .f32) y = (arg m c main_arg1 : Vec Ideal S512x1408 .f32) (ix2 (hrow t (y 0)) (y 1)) := by
  show _ = (m ((c : Thread nD τ).loc main_arg1) : Vec Ideal S512x1408 .f32) _
  rw [← V_main_arg1 m c]
  refine congrArg (V m c main_arg1 : Vec Ideal S512x1408 .f32) (funext fun a => Fin.ext ?_)
  match a with
  | ⟨0, _⟩ => show win0_1.index t 0 * 256 + 1 * (y 0).val = 256 * (t.val % 2) + (y 0).val; rw [(idx1 t).1]; omega
  | ⟨1, _⟩ => show win0_1.index t 1 * 1408 + 1 * (y 1).val = (y 1).val; rw [(idx1 t).2]; omega
theorem blk2 : (iblk m c 2 t : Vec Ideal S256x1408 .f32) y = (arg m c main_arg2 : Vec Ideal S512x1408 .f32) (ix2 (hrow t (y 0)) (y 1)) := by
  show _ = (m ((c : Thread nD τ).loc main_arg2) : Vec Ideal S512x1408 .f32) _
  rw [← V_main_arg2 m c]
  refine congrArg (V m c main_arg2 : Vec Ideal S512x1408 .f32) (funext fun a => Fin.ext ?_)
  match a with
  | ⟨0, _⟩ => show win0_2.index t 0 * 256 + 1 * (y 0).val = 256 * (t.val % 2) + (y 0).val; rw [(idx2 t).1]; omega
  | ⟨1, _⟩ => show win0_2.index t 1 * 1408 + 1 * (y 1).val = (y 1).val; rw [(idx2 t).2]; omega
theorem blk3 : (iblk m c 3 t : Vec Ideal S256x1408 .f32) y = (arg m c main_arg3 : Vec Ideal S1024x1408 .f32) (ix2 (row t (y 0)) (y 1)) := by
  show _ = (m ((c : Thread nD τ).loc main_arg3) : Vec Ideal S1024x1408 .f32) _
  rw [← V_main_arg3 m c]
  refine congrArg (V m c main_arg3 : Vec Ideal S1024x1408 .f32) (funext fun a => Fin.ext ?_)
  match a with
  | ⟨0, _⟩ => show win0_3.index t 0 * 256 + 1 * (y 0).val = 256 * t.val + (y 0).val; rw [(idx3 t).1]; omega
  | ⟨1, _⟩ => show win0_3.index t 1 * 1408 + 1 * (y 1).val = (y 1).val; rw [(idx3 t).2]; omega
theorem blk4 : (iblk m c 4 t : Vec Ideal S256x1408 .f32) y = (arg m c main_arg4 : Vec Ideal S1024x1408 .f32) (ix2 (row t (y 0)) (y 1)) := by
  show _ = (m ((c : Thread nD τ).loc main_arg4) : Vec Ideal S1024x1408 .f32) _
  rw [← V_main_arg4 m c]
  refine congrArg (V m c main_arg4 : Vec Ideal S1024x1408 .f32) (funext fun a => Fin.ext ?_)
  match a with
  | ⟨0, _⟩ => show win0_4.index t 0 * 256 + 1 * (y 0).val = 256 * t.val + (y 0).val; rw [(idx4 t).1]; omega
  | ⟨1, _⟩ => show win0_4.index t 1 * 1408 + 1 * (y 1).val = (y 1).val; rw [(idx4 t).2]; omega

/-- A point's block of the gradient is the reference's joined halves. -/
theorem grad_at : k0_pay1 (F := Ideal) (grid0.coords t) (iblk m c 1 t) (iblk m c 2 t) y
    = val_main_v0 (arg m c main_arg1) (arg m c main_arg2) (ix2 (row t (y 0)) (y 1)) := by
  have ht := t_lt t
  by_cases h : t.val < 2
  · refine (pay1_first _ _ _ y ((half_of t).trans (by omega))).trans ((blk1 y m c t).trans ?_)
    exact (ref0_first _ _ (row t (y 0)) (hrow t (y 0)) (y 1) (by show 256 * (t.val % 2) + (y 0).val = 256 * t.val + (y 0).val; omega)).symm
  · refine (pay1_second _ _ _ y ((half_of t).trans (by omega))).trans ((blk2 y m c t).trans ?_)
    exact (ref0_second _ _ (row t (y 0)) (hrow t (y 0)) (y 1) (by show 256 * (t.val % 2) + (y 0).val + 512 = 256 * t.val + (y 0).val; omega)).symm

/-- The point whose block holds an entry. -/
theorem point_of (i : S1024x1408.Idx) : ∃ t : Fin cfg0.N, t.val = (i 0 : ℕ) / 256 := by
  have h0 : (i 0 : ℕ) < 1024 := (i 0).isLt
  exact ⟨⟨_, by rw [show cfg0.N = 4 from N_0]; omega⟩, rfl⟩

theorem inside {i : S1024x1408.Idx} {n : Fin 2 → ℕ} {t : ℕ} (h0 : n 0 = t) (h1 : n 1 = 0) (ht : t = (i 0 : ℕ) / 256) (a : Fin 2) :
    n a * S256x1408.size a ≤ (i a : ℕ) ∧ (i a : ℕ) < n a * S256x1408.size a + S256x1408.size a := by
  have e1 : (i 1 : ℕ) < 1408 := (i 1).isLt
  match a with
  | ⟨0, _⟩ => show n 0 * 256 ≤ (i 0 : ℕ) ∧ (i 0 : ℕ) < n 0 * 256 + 256
              rw [h0]; omega
  | ⟨1, _⟩ => show n 1 * 1408 ≤ (i 1 : ℕ) ∧ (i 1 : ℕ) < n 1 * 1408 + 1408
              rw [h1]; omega

/-! ## The arrays -/

theorem emb5 : ((cfg0.win 5).blk t).view.emb y = ix2 (row t (y 0)) (y 1) := by
  refine funext fun a => Fin.ext ?_
  match a with
  | ⟨0, _⟩ => show win0_5.index t 0 * 256 + 1 * (y 0).val = 256 * t.val + (y 0).val; rw [(idx5 t).1]; omega
  | ⟨1, _⟩ => show win0_5.index t 1 * 1408 + 1 * (y 1).val = (y 1).val; rw [(idx5 t).2]; omega
theorem arr5 : (dats m 0 c).arrAt 5 cfg0.N = val_main_v0 (arg m c main_arg1) (arg m c main_arg2) :=
  (dats m 0 c).arrAt_eq_of_cover 5 _
    (fun t hf => by
      rw [Value.flushed5, st5]
      refine funext fun (y : S256x1408.Idx) => ?_
      refine Eq.trans ?_ (congrArg (val_main_v0 _ _) (emb5 y t)).symm
      exact grad_at y m c t)
    fun i => by
      obtain ⟨t, ht⟩ := point_of i
      refine ⟨t, flush0_5 t, ?_⟩
      show i ∈ ((View.whole main_v0_0).slice (win0_5.rect t)).set
      rw [View.set_slice_whole, Rect.mem_set_unit]
      exact inside (idx5 t).1 (idx5 t).2 ht

theorem emb6 : ((cfg0.win 6).blk t).view.emb y = ix2 (row t (y 0)) (y 1) := emb5 y t
theorem arr6 : (dats m 0 c).arrAt 6 cfg0.N = val_main_v24 (arg m c main_arg0) (arg m c main_arg1) (arg m c main_arg2) (arg m c main_arg3) (arg m c main_arg4) :=
  (dats m 0 c).arrAt_eq_of_cover 6 _
    (fun t hf => by
      rw [Value.flushed6, st6]
      refine funext fun (y : S256x1408.Idx) => ?_
      refine Eq.trans ?_ (congrArg (val_main_v24 _ _ _ _ _) (emb6 y t)).symm
      refine (pay4_at _ _ _ _ _ _ y).trans (Eq.trans ?_ (ref24 _ _ _ _ _ _).symm)
      rw [grad_at, blk0, blk3, blk4]
      rfl)
    fun i => by
      obtain ⟨t, ht⟩ := point_of i
      refine ⟨t, flush0_6 t, ?_⟩
      show i ∈ ((View.whole main_v0_1).slice (win0_6.rect t)).set
      rw [View.set_slice_whole, Rect.mem_set_unit]
      exact inside (idx6 t).1 (idx6 t).2 ht

theorem emb7 : ((cfg0.win 7).blk t).view.emb y = ix2 (row t (y 0)) (y 1) := emb5 y t
theorem arr7 : (dats m 0 c).arrAt 7 cfg0.N = val_main_v5 (arg m c main_arg1) (arg m c main_arg2) (arg m c main_arg3) :=
  (dats m 0 c).arrAt_eq_of_cover 7 _
    (fun t hf => by
      rw [Value.flushed7, st7]
      refine funext fun (y : S256x1408.Idx) => ?_
      refine Eq.trans ?_ (congrArg (val_main_v5 _ _ _) (emb7 y t)).symm
      refine (pay2_at _ _ _ _ y).trans (Eq.trans ?_ (ref5 _ _ _ _).symm)
      rw [grad_at, blk3]
      rfl)
    fun i => by
      obtain ⟨t, ht⟩ := point_of i
      refine ⟨t, flush0_7 t, ?_⟩
      show i ∈ ((View.whole main_v0_2).slice (win0_7.rect t)).set
      rw [View.set_slice_whole, Rect.mem_set_unit]
      exact inside (idx7 t).1 (idx7 t).2 ht

theorem emb8 : ((cfg0.win 8).blk t).view.emb y = ix2 (row t (y 0)) (y 1) := emb5 y t
theorem arr8 : (dats m 0 c).arrAt 8 cfg0.N = val_main_v11 (arg m c main_arg1) (arg m c main_arg2) (arg m c main_arg4) :=
  (dats m 0 c).arrAt_eq_of_cover 8 _
    (fun t hf => by
      rw [Value.flushed8, st8]
      refine funext fun (y : S256x1408.Idx) => ?_
      refine Eq.trans ?_ (congrArg (val_main_v11 _ _ _) (emb8 y t)).symm
      refine (pay3_at _ _ _ _ y).trans (Eq.trans ?_ (ref11 _ _ _ _).symm)
      rw [grad_at, blk4]
      rfl)
    fun i => by
      obtain ⟨t, ht⟩ := point_of i
      refine ⟨t, flush0_8 t, ?_⟩
      show i ∈ ((View.whole main_v0_3).slice (win0_8.rect t)).set
      rw [View.set_slice_whole, Rect.mem_set_unit]
      exact inside (idx8 t).1 (idx8 t).2 ht

end Cert.Kernel8Ideal.Halves

end
-- ==== Proof.Sum4.lean ====
/-
  The sum of four devices' parts of a gradient: the array the call leaves is the reference's.
-/
module

public import proofs.«01_k».proof.Proof.Gen.Kernel10Ideal.Value
public import proofs.«01_k».proof.Proof.Gen.Reference10Ideal.Read
public import proofs.«01_k».proof.Proof.HeadFinal

@[expose] public section

noncomputable section

namespace Cert.Kernel10Ideal.Sum4

open Cert.Kernel10Ideal Cert.Kernel10Ideal.Gen Idealize.ShloMosaic Idealize.ShloMosaic.TcCoe Cert.RealKit
open Idealize.ShloMosaic.Pipeline (Dat)
open Cert.Reference10Ideal.Read

theorem zero3 : (![0, 0, 0] : Fin 3 → Nat) = fun _ => 0 := funext fun a => by fin_cases a <;> rfl

/-- The sum of four parts of an entry, in the order of the devices from the receiving one on. -/
def four (a b c d : Ideal FTy.bf16) : Ideal FTy.f32 :=
  FloatOps.addf (FloatOps.addf (FloatOps.addf (FloatOps.extf .f32 bitsLt_bf16_f32 a) (FloatOps.extf .f32 bitsLt_bf16_f32 b))
    (FloatOps.extf .f32 bitsLt_bf16_f32 c)) (FloatOps.extf .f32 bitsLt_bf16_f32 d)

variable (z0 z1 z2 z3 : Vec Ideal S1x256x1408 .bf16) (y : S256x1408.Idx)

theorem st4 : out0_4 z0 z1 z2 z3 y = four (z0 (Value.ix4_0 y)) (z1 (Value.ix4_1 y)) (z2 (Value.ix4_2 y)) (z3 (Value.ix4_3 y)) := by
  unfold out0_4
  simp only [View.ld_unit_zero (S := S1x256x1408) zero3]
  exact Value.canon4_eq z0 z1 z2 z3 y

/-! ## The reference's entries -/

/-- Entry `r`, `k` of part `q`. -/
abbrev at3 (q : Fin 4) (r : Fin 512) (k : Fin 1408) : S4x512x1408.Idx := fun a => match a with
  | ⟨0, _⟩ => q
  | ⟨1, _⟩ => r
  | ⟨2, _⟩ => k

variable (x0 x1 : Vec Ideal S4x512x1408 .bf16) (i : S512x1408.Idx)

theorem ref14 : val_main_v14 x0 x1 i = four (x0 (at3 0 (i 0) (i 1))) (x1 (at3 1 (i 0) (i 1))) (x1 (at3 2 (i 0) (i 1))) (x1 (at3 3 (i 0) (i 1))) := by
  have h0 : (i 0).val < 512 := (i 0).isLt
  have h1 : (i 1).val < 1408 := (i 1).isLt
  rw [val_main_v14_apply, val_main_v13_apply, val_main_v10_apply, val_main_v9_apply, val_main_v6_apply, val_main_v5_apply, val_main_v2_apply,
    val_main_v1_apply, val_main_v0_apply, val_main_v4_apply, val_main_v3_apply, val_main_v8_apply, val_main_v7_apply, val_main_v12_apply, val_main_v11_apply]
  have e : ∀ (j j' : S4x512x1408.Idx), (j 0).val = (j' 0).val → (j 1).val = (j' 1).val → (j 2).val = (j' 2).val → j = j' := fun j j' a b c =>
    funext fun d => Fin.ext (match d with | ⟨0, _⟩ => a | ⟨1, _⟩ => b | ⟨2, _⟩ => c)
  have p : ((i 0).val * 1408 + (i 1).val) / 1408 % 512 = (i 0).val := by omega
  have q : ((i 0).val * 1408 + (i 1).val) % 1408 = (i 1).val := by omega
  rw [e (idx_main_v0 (idx_main_v1 i)) (at3 0 (i 0) (i 1)) rfl p q, e (idx_main_v3 (idx_main_v4 i)) (at3 1 (i 0) (i 1)) rfl p q,
    e (idx_main_v7 (idx_main_v8 i)) (at3 2 (i 0) (i 1)) rfl p q, e (idx_main_v11 (idx_main_v12 i)) (at3 3 (i 0) (i 1)) rfl p q]
  rfl

/-! ## The grid's points -/

theorem idx0 : ∀ t : Fin cfg0.N, win0_0.index t 0 = 0 ∧ win0_0.index t 1 = t.val ∧ win0_0.index t 2 = 0 := by decide +kernel
theorem idx1 : ∀ t : Fin cfg0.N, win0_1.index t 0 = 1 ∧ win0_1.index t 1 = t.val ∧ win0_1.index t 2 = 0 := by decide +kernel
theorem idx2 : ∀ t : Fin cfg0.N, win0_2.index t 0 = 2 ∧ win0_2.index t 1 = t.val ∧ win0_2.index t 2 = 0 := by decide +kernel
theorem idx3 : ∀ t : Fin cfg0.N, win0_3.index t 0 = 3 ∧ win0_3.index t 1 = t.val ∧ win0_3.index t 2 = 0 := by decide +kernel
theorem idx4 : ∀ t : Fin cfg0.N, win0_4.index t 0 = t.val ∧ win0_4.index t 1 = 0 := by decide +kernel

variable (m : (ℓ : Loc nD τ sig) → Buf (Elt Ideal) ℓ) (c : Dev nD) (t : Fin cfg0.N)

/-- An argument's array. -/
abbrev arg (r : Ref sig .tc) := m ((c : Thread nD τ).loc r)

theorem t_lt : t.val < 2 := lt_of_lt_of_eq t.isLt (show cfg0.N = 2 from N_0)
/-- A point's row `r` among all rows. -/
abbrev row (r : Fin 256) : Fin 512 := ⟨256 * t.val + r.val, by have := t_lt t; omega⟩

theorem blk0 : (iblk m c 0 t : Vec Ideal S1x256x1408 .bf16) (Value.ix4_0 y) = (arg m c main_arg0 : Vec Ideal S4x512x1408 .bf16) (at3 0 (row t (y 0)) (y 1)) := by
  show _ = (m ((c : Thread nD τ).loc main_arg0) : Vec Ideal S4x512x1408 .bf16) _
  rw [← V_main_arg0 m c]
  refine congrArg (V m c main_arg0 : Vec Ideal S4x512x1408 .bf16) (funext fun a => Fin.ext ?_)
  match a with
  | ⟨0, _⟩ => show win0_0.index t 0 * 1 + 1 * 0 = 0; rw [(idx0 t).1]
  | ⟨1, _⟩ => show win0_0.index t 1 * 256 + 1 * (y 0).val = 256 * t.val + (y 0).val; rw [(idx0 t).2.1]; omega
  | ⟨2, _⟩ => show win0_0.index t 2 * 1408 + 1 * (y 1).val = (y 1).val; rw [(idx0 t).2.2]; omega
theorem blk1 : (iblk m c 1 t : Vec Ideal S1x256x1408 .bf16) (Value.ix4_1 y) = (arg m c main_arg1 : Vec Ideal S4x512x1408 .bf16) (at3 1 (row t (y 0)) (y 1)) := by
  show _ = (m ((c : Thread nD τ).loc main_arg1) : Vec Ideal S4x512x1408 .bf16) _
  rw [← V_main_arg1 m c]
  refine congrArg (V m c main_arg1 : Vec Ideal S4x512x1408 .bf16) (funext fun a => Fin.ext ?_)
  match a with
  | ⟨0, _⟩ => show win0_1.index t 0 * 1 + 1 * 0 = 1; rw [(idx1 t).1]
  | ⟨1, _⟩ => show win0_1.index t 1 * 256 + 1 * (y 0).val = 256 * t.val + (y 0).val; rw [(idx1 t).2.1]; omega
  | ⟨2, _⟩ => show win0_1.index t 2 * 1408 + 1 * (y 1).val = (y 1).val; rw [(idx1 t).2.2]; omega
theorem blk2 : (iblk m c 2 t : Vec Ideal S1x256x1408 .bf16) (Value.ix4_2 y) = (arg m c main_arg1 : Vec Ideal S4x512x1408 .bf16) (at3 2 (row t (y 0)) (y 1)) := by
  show _ = (m ((c : Thread nD τ).loc main_arg1) : Vec Ideal S4x512x1408 .bf16) _
  rw [← V_main_arg1 m c]
  refine congrArg (V m c main_arg1 : Vec Ideal S4x512x1408 .bf16) (funext fun a => Fin.ext ?_)
  match a with
  | ⟨0, _⟩ => show win0_2.index t 0 * 1 + 1 * 0 = 2; rw [(idx2 t).1]
  | ⟨1, _⟩ => show win0_2.index t 1 * 256 + 1 * (y 0).val = 256 * t.val + (y 0).val; rw [(idx2 t).2.1]; omega
  | ⟨2, _⟩ => show win0_2.index t 2 * 1408 + 1 * (y 1).val = (y 1).val; rw [(idx2 t).2.2]; omega
theorem blk3 : (iblk m c 3 t : Vec Ideal S1x256x1408 .bf16) (Value.ix4_3 y) = (arg m c main_arg1 : Vec Ideal S4x512x1408 .bf16) (at3 3 (row t (y 0)) (y 1)) := by
  show _ = (m ((c : Thread nD τ).loc main_arg1) : Vec Ideal S4x512x1408 .bf16) _
  rw [← V_main_arg1 m c]
  refine congrArg (V m c main_arg1 : Vec Ideal S4x512x1408 .bf16) (funext fun a => Fin.ext ?_)
  match a with
  | ⟨0, _⟩ => show win0_3.index t 0 * 1 + 1 * 0 = 3; rw [(idx3 t).1]
  | ⟨1, _⟩ => show win0_3.index t 1 * 256 + 1 * (y 0).val = 256 * t.val + (y 0).val; rw [(idx3 t).2.1]; omega
  | ⟨2, _⟩ => show win0_3.index t 2 * 1408 + 1 * (y 1).val = (y 1).val; rw [(idx3 t).2.2]; omega

/-- The point whose block holds an entry. -/
theorem point_of (i : S512x1408.Idx) : ∃ t : Fin cfg0.N, t.val = (i 0 : ℕ) / 256 := by
  have h0 : (i 0 : ℕ) < 512 := (i 0).isLt
  exact ⟨⟨_, by rw [show cfg0.N = 2 from N_0]; omega⟩, rfl⟩

theorem inside {i : S512x1408.Idx} {n : Fin 2 → ℕ} {t : ℕ} (h0 : n 0 = t) (h1 : n 1 = 0) (ht : t = (i 0 : ℕ) / 256) (a : Fin 2) :
    n a * S256x1408.size a ≤ (i a : ℕ) ∧ (i a : ℕ) < n a * S256x1408.size a + S256x1408.size a := by
  have e1 : (i 1 : ℕ) < 1408 := (i 1).isLt
  match a with
  | ⟨0, _⟩ => show n 0 * 256 ≤ (i 0 : ℕ) ∧ (i 0 : ℕ) < n 0 * 256 + 256
              rw [h0]; omega
  | ⟨1, _⟩ => show n 1 * 1408 ≤ (i 1 : ℕ) ∧ (i 1 : ℕ) < n 1 * 1408 + 1408
              rw [h1]; omega

theorem emb4 : ((cfg0.win 4).blk t).view.emb y = (ix2 (row t (y 0)) (y 1) : S512x1408.Idx) := by
  refine funext fun a => Fin.ext ?_
  match a with
  | ⟨0, _⟩ => show win0_4.index t 0 * 256 + 1 * (y 0).val = 256 * t.val + (y 0).val; rw [(idx4 t).1]; omega
  | ⟨1, _⟩ => show win0_4.index t 1 * 1408 + 1 * (y 1).val = (y 1).val; rw [(idx4 t).2]; omega

/-- The array the call leaves is the reference's sum. -/
theorem arr4 : (dats m 0 c).arrAt 4 cfg0.N = val_main_v14 (arg m c main_arg0) (arg m c main_arg1) :=
  (dats m 0 c).arrAt_eq_of_cover 4 _
    (fun t hf => by
      rw [Value.flushed4]
      refine funext fun (y : S256x1408.Idx) => ?_
      refine Eq.trans ?_ (congrArg (val_main_v14 _ _) (emb4 y t)).symm
      refine (st4 _ _ _ _ y).trans (Eq.trans ?_ (ref14 _ _ _).symm)
      rw [blk0, blk1, blk2, blk3]
      rfl)
    fun i => by
      obtain ⟨t, ht⟩ := point_of i
      refine ⟨t, flush0_4 t, ?_⟩
      show i ∈ ((View.whole main_v0).slice (win0_4.rect t)).set
      rw [View.set_slice_whole, Rect.mem_set_unit]
      exact inside (idx4 t).1 (idx4 t).2 ht

end Cert.Kernel10Ideal.Sum4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_mix
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_ffn
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_half
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_fwd
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite_pool
public import proofs.«01_k».proof.Proof.Gen.Kernel6Ideal.Value
public import proofs.«01_k».proof.Proof.Gen.Reference6Ideal.Run
public import proofs.«01_k».proof.Proof.Gen.Reference6Ideal.Read
public import proofs.«01_k».proof.Proof.HeadRef
public import proofs.«01_k».proof.Proof.HeadPre
public import proofs.«01_k».proof.Proof.MixRefD
public import proofs.«01_k».proof.Proof.MixPre
public import proofs.«01_k».proof.Proof.FfnRef
public import proofs.«01_k».proof.Proof.FfnFinal
public import proofs.«01_k».proof.Proof.FfnPre
public import proofs.«01_k».proof.Proof.HalfRef
public import proofs.«01_k».proof.Proof.HalfFinal
public import proofs.«01_k».proof.Proof.HalfPre
public import proofs.«01_k».proof.Proof.FwdRef
public import proofs.«01_k».proof.Proof.FwdFinal
public import proofs.«01_k».proof.Proof.FwdPre
public import proofs.«01_k».proof.Proof.FmixPre
public import proofs.«01_k».proof.Proof.AdaFinal
public import proofs.«01_k».proof.Proof.Halves
public import proofs.«01_k».proof.Proof.Sum4
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read

@[expose] public section

noncomputable section

namespace Cert.Proof

open Idealize.ShloMosaic Idealize.SL.Sem

/-- The reference runs and keeps its arguments; it declares no semaphore. -/
theorem frame_reference : Cert.quiescent_ReferenceIdeal := fun m ρ _ =>
  θ_run_mono (Cert.ReferenceIdeal.Value.run m ρ) fun r h =>
    ⟨fun c => (h c).2.2.2.2.2, sem_eq_zero_of_no_sems (by decide) r.2⟩

open Cert.KernelIdeal.Head Cert.ReferenceIdeal.Head Cert.ReferenceIdeal.Read in
/-- On finite arguments the call leaves what the reference computes. -/
theorem algebraic : Cert.algebraic_KernelIdeal_ReferenceIdeal_pre_finite := by
  intro m g m' g' hpre hagree
  refine ⟨_, _, _, _, _, θ_run_mono (Cert.KernelIdeal.Value.run_blocks m g) fun r h => h,
    θ_run_mono (Cert.ReferenceIdeal.Value.run m' g') fun r h c => ?_⟩
  obtain ⟨D, H⟩ := holds hpre c
  obtain ⟨a0, a1, a2, a3, a4, a5, a6, a7, a8⟩ := hagree c
  have A : Args D (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg8)) (m' ((c.tc : Thread _ _).loc Cert.ReferenceIdeal.main_arg6))
      (m' ((c.tc : Thread _ _).loc Cert.ReferenceIdeal.main_arg7)) := by
    rw [a0, a1, a2, a3, a4, a5, a6, a7, a8]
    exact ⟨H.X, H.T, H.sh, H.sc, H.ga, H.gn, H.Wi, H.Wo, H.fg⟩
  obtain ⟨r4, r5, r6, r7, r8, kept⟩ := h c
  exact ⟨r4.trans ((val_main_v96_eq m' c).trans ((res96 A).trans (arr4 H).symm)),
    r5.trans ((val_main_v98_eq ..).trans ((res98 A).trans (arr5 H).symm)),
    r6.trans ((val_main_v100_eq ..).trans ((res100 A).trans (arr6 H).symm)),
    r7.trans ((val_main_v101_eq m' c).trans ((res101 A).trans (arr7 H).symm)),
    r8.trans ((val_main_v103_eq m' c).trans ((res103 A).trans (arr8 H).symm)), kept⟩

/-- The mixer's reference runs and keeps its arguments; it declares no semaphore. -/
theorem frame_reference2 : Cert.quiescent_Reference2Ideal := fun m ρ _ =>
  θ_run_mono (Cert.Reference2Ideal.Value.run m ρ) fun r h =>
    ⟨fun c => (h c).2.2.2.2.2.2.2.2, sem_eq_zero_of_no_sems (by decide) r.2⟩

/-- The mixer's two named factors stand for the words they replace. -/
theorem preserves2 : Cert.preserves_Kernel2_Kernel2Ideal :=
  ⟨IdealRules.named_const.statement Cert.Kernel2Ideal.κ "gelu_a" .f32 0x3D372713#32 ((8943/200000 : ℝ) : EReal) rfl,
    IdealRules.named_const.statement Cert.Kernel2Ideal.κ "gelu_3a" .f32 0x3E095D4F#32 ((26829/200000 : ℝ) : EReal) rfl⟩

open Cert.Kernel2Ideal.Mix Cert.Reference2Ideal.Mix Cert.Reference2Ideal.Read in
/-- On finite arguments the mixer's backward call leaves what the derivative of the plain mixer computes. -/
theorem algebraic2 : Cert.algebraic_Kernel2Ideal_Reference2Ideal_pre_finite_mix := by
  intro m g m' g' hpre hagree
  refine ⟨_, _, _, _, _, _, _, _, θ_run_mono (Cert.Kernel2Ideal.Value.run_blocks m g) fun r h => h,
    θ_run_mono (Cert.Reference2Ideal.Value.run m' g') fun r h c => ?_⟩
  obtain ⟨D, H⟩ := holds hpre c
  obtain ⟨a0, a1, a2, a3, a4, a5, a6, a7, a8, a9, a10, a11, a12, a13⟩ := hagree c
  have A : RArgs D (m' ((c.tc : Thread _ _).loc Cert.Reference2Ideal.main_arg0)) (m' ((c.tc : Thread _ _).loc Cert.Reference2Ideal.main_arg1))
      (m' ((c.tc : Thread _ _).loc Cert.Reference2Ideal.main_arg2)) (m' ((c.tc : Thread _ _).loc Cert.Reference2Ideal.main_arg3))
      (m' ((c.tc : Thread _ _).loc Cert.Reference2Ideal.main_arg4)) (m' ((c.tc : Thread _ _).loc Cert.Reference2Ideal.main_arg5))
      (m' ((c.tc : Thread _ _).loc Cert.Reference2Ideal.main_arg6)) (m' ((c.tc : Thread _ _).loc Cert.Reference2Ideal.main_arg7))
      (m' ((c.tc : Thread _ _).loc Cert.Reference2Ideal.main_arg8)) (m' ((c.tc : Thread _ _).loc Cert.Reference2Ideal.main_arg9))
      (m' ((c.tc : Thread _ _).loc Cert.Reference2Ideal.main_arg10)) (m' ((c.tc : Thread _ _).loc Cert.Reference2Ideal.main_arg11))
      (m' ((c.tc : Thread _ _).loc Cert.Reference2Ideal.main_arg12)) (m' ((c.tc : Thread _ _).loc Cert.Reference2Ideal.main_arg13)) := by
    rw [a0, a1, a2, a3, a4, a5, a6, a7, a8, a9, a10, a11, a12, a13]
    exact ⟨H.x, H.g, H.sh, H.sc, H.ga, H.gn, H.win, H.wp, H.ps, H.lg, H.lb, H.ws, H.bs, H.wout⟩
  have t0 := (val_main_v354_eq (StableHlo.launchContents m' c)).trans ((out12 A).trans (arr12 H).symm)
  have t1 := (val_main_v326_eq (StableHlo.launchContents m' c)).trans ((out13 A).trans (arr13 H).symm)
  have t2 := (val_main_v185_eq (StableHlo.launchContents m' c)).trans ((out14 A).trans (arr14 H).symm)
  have t3 := (val_main_v257_eq (StableHlo.launchContents m' c)).trans ((out15 A).trans (arr15 H).symm)
  have t4 := (val_main_v200_eq (StableHlo.launchContents m' c)).trans ((out16 A).trans (arr16 H).symm)
  have t5 := (val_main_v195_eq (StableHlo.launchContents m' c)).trans ((out17 A).trans (arr17 H).symm)
  have t6 := (val_main_v356_eq (StableHlo.launchContents m' c)).trans ((out18 A).trans (arr18 H).symm)
  have t7 := (val_main_v358_eq (StableHlo.launchContents m' c)).trans ((out19 A).trans (arr19 H).symm)
  obtain ⟨r0, r1, r2, r3, r4, r5, r6, r7, kept⟩ := h c
  exact ⟨r0.trans t0, r1.trans t1, r2.trans t2, r3.trans t3, r4.trans t4, r5.trans t5, r6.trans t6, r7.trans t7, kept⟩

/-- The feed-forward pass's reference runs and keeps its arguments; it declares no semaphore. -/
theorem frame_reference3 : Cert.quiescent_Reference3Ideal := fun m ρ _ =>
  θ_run_mono (Cert.Reference3Ideal.Value.run m ρ) fun r h =>
    ⟨fun c => (h c).2.2.2.2, sem_eq_zero_of_no_sems (by decide) r.2⟩

open Cert.Kernel3Ideal.Ffn Cert.Reference3Ideal.Ffn Cert.Reference3Ideal.Read in
/-- On finite arguments the feed-forward backward pass leaves what the derivative of the plain sub-layer computes. -/
theorem algebraic3 : Cert.algebraic_Kernel3Ideal_Reference3Ideal_pre_finite_ffn := by
  intro m g m' g' hpre hagree
  refine ⟨_, _, _, _, θ_run_mono (Cert.Kernel3Ideal.Value.run_blocks m g) fun r h => h,
    θ_run_mono (Cert.Reference3Ideal.Value.run m' g') fun r h c => ?_⟩
  obtain ⟨D, H⟩ := holds hpre c
  obtain ⟨a0, a1, a2, a3, a4, a5, a6, a7, a8⟩ := hagree c
  have A : RArgs D (m' ((c.tc : Thread _ _).loc Cert.Reference3Ideal.main_arg0)) (m' ((c.tc : Thread _ _).loc Cert.Reference3Ideal.main_arg1))
      (m' ((c.tc : Thread _ _).loc Cert.Reference3Ideal.main_arg2)) (m' ((c.tc : Thread _ _).loc Cert.Reference3Ideal.main_arg3))
      (m' ((c.tc : Thread _ _).loc Cert.Reference3Ideal.main_arg4)) (m' ((c.tc : Thread _ _).loc Cert.Reference3Ideal.main_arg5))
      (m' ((c.tc : Thread _ _).loc Cert.Reference3Ideal.main_arg6)) (m' ((c.tc : Thread _ _).loc Cert.Reference3Ideal.main_arg7))
      (m' ((c.tc : Thread _ _).loc Cert.Reference3Ideal.main_arg8)) := by
    rw [a0, a1, a2, a3, a4, a5, a6, a7, a8]
    exact ⟨H.x, H.dxo, H.dh, H.sh, H.sc, H.ga, H.gn, H.win, H.wout⟩
  have t0 := (val_main_v83_eq m' c).trans ((out83 A).trans (arr7 H).symm)
  have t1 := (val_main_v88_eq m' c).trans ((out88 A).trans (arr8 H).symm)
  have t2 := (val_main_v93_eq m' c).trans ((out93 A).trans (arr9 H).symm)
  have t3 := (val_main_v95_eq m' c).trans ((out95 A).trans (arr10 H).symm)
  obtain ⟨r0, r1, r2, r3, kept⟩ := h c
  exact ⟨r0.trans t0, r1.trans t1, r2.trans t2, r3.trans t3, kept⟩

/-- The feed-forward backward's first pass's reference runs and keeps its arguments; it declares no semaphore. -/
theorem frame_reference4 : Cert.quiescent_Reference4Ideal := fun m ρ _ =>
  θ_run_mono (Cert.Reference4Ideal.Value.run m ρ) fun r h =>
    ⟨fun c => (h c).2.2.2.2, sem_eq_zero_of_no_sems (by decide) r.2⟩

open Cert.Kernel4Ideal.Half Cert.Reference4Ideal.Half Cert.Reference4Ideal.Read in
/-- On finite arguments the feed-forward backward's first pass leaves what the derivative of the plain half sub-layer computes. -/
theorem algebraic4 : Cert.algebraic_Kernel4Ideal_Reference4Ideal_pre_finite_half := by
  intro m g m' g' hpre hagree
  refine ⟨_, _, _, _, θ_run_mono (Cert.Kernel4Ideal.Value.run_blocks m g) fun r h => h,
    θ_run_mono (Cert.Reference4Ideal.Value.run m' g') fun r h c => ?_⟩
  obtain ⟨D, H⟩ := holds hpre c
  obtain ⟨a0, a1, a2, a3, a4, a5, a6, a7⟩ := hagree c
  have A : RArgs D (m' ((c.tc : Thread _ _).loc Cert.Reference4Ideal.main_arg0)) (m' ((c.tc : Thread _ _).loc Cert.Reference4Ideal.main_arg1))
      (m' ((c.tc : Thread _ _).loc Cert.Reference4Ideal.main_arg2)) (m' ((c.tc : Thread _ _).loc Cert.Reference4Ideal.main_arg3))
      (m' ((c.tc : Thread _ _).loc Cert.Reference4Ideal.main_arg4)) (m' ((c.tc : Thread _ _).loc Cert.Reference4Ideal.main_arg5))
      (m' ((c.tc : Thread _ _).loc Cert.Reference4Ideal.main_arg6)) (m' ((c.tc : Thread _ _).loc Cert.Reference4Ideal.main_arg7)) := by
    rw [a0, a1, a2, a3, a4, a5, a6, a7]
    exact ⟨H.x, H.dxo, H.sh, H.sc, H.ga, H.gn, H.win, H.wout⟩
  have t0 := (val_main_v47_eq m' c).trans ((out47 A).trans (arr6 H).symm)
  have t1 := (val_main_v54_eq m' c).trans ((out54 A).trans (arr7 H).symm)
  have t2 := (val_main_v59_eq m' c).trans ((out59 A).trans (arr8 H).symm)
  have t3 := (val_main_v62_eq m' c).trans ((out62 A).trans (arr9 H).symm)
  obtain ⟨r0, r1, r2, r3, kept⟩ := h c
  exact ⟨r0.trans t0, r1.trans t1, r2.trans t2, r3.trans t3, kept⟩

/-- The feed-forward forward call's reference runs and keeps its arguments; it declares no semaphore. -/
theorem frame_reference5 : Cert.quiescent_Reference5Ideal := fun m ρ _ =>
  θ_run_mono (Cert.Reference5Ideal.Value.run m ρ) fun r h =>
    ⟨fun c => (h c).2.2.2, sem_eq_zero_of_no_sems (by decide) r.2⟩

open Cert.Kernel5Ideal.Fwd Cert.Reference5Ideal.Fwd Cert.Reference5Ideal.Read in
/-- On finite arguments the feed-forward forward call leaves what the plain sub-layer computes. -/
theorem algebraic5 : Cert.algebraic_Kernel5Ideal_Reference5Ideal_pre_finite_fwd := by
  intro m g m' g' hpre hagree
  refine ⟨_, _, _, θ_run_mono (Cert.Kernel5Ideal.Value.run_blocks m g) fun r h => h,
    θ_run_mono (Cert.Reference5Ideal.Value.run m' g') fun r h c => ?_⟩
  obtain ⟨D, H⟩ := holds hpre c
  obtain ⟨a0, a1, a2, a3, a4, a5, a6⟩ := hagree c
  have A : Args D (m' ((c.tc : Thread _ _).loc Cert.Reference5Ideal.main_arg0)) (m' ((c.tc : Thread _ _).loc Cert.Reference5Ideal.main_arg1))
      (m' ((c.tc : Thread _ _).loc Cert.Reference5Ideal.main_arg2)) (m' ((c.tc : Thread _ _).loc Cert.Reference5Ideal.main_arg3))
      (m' ((c.tc : Thread _ _).loc Cert.Reference5Ideal.main_arg4)) (m' ((c.tc : Thread _ _).loc Cert.Reference5Ideal.main_arg5))
      (m' ((c.tc : Thread _ _).loc Cert.Reference5Ideal.main_arg6)) := by
    rw [a0, a1, a2, a3, a4, a5, a6]
    exact ⟨H.X, H.sh, H.sc, H.ga, H.gn, H.Wi, H.Wo⟩
  have t0 := (val_main_v47_eq ..).trans ((res47 A).trans (arr2 H).symm)
  have t1 := (val_main_v49_eq ..).trans ((res49 A).trans (arr3 H).symm)
  have t2 := (val_main_v51_eq ..).trans ((res51 A).trans (arr4 H).symm)
  obtain ⟨r0, r1, r2, kept⟩ := h c
  exact ⟨r0.trans t0, r1.trans t1, r2.trans t2, kept⟩

/-- The mixer's forward call's reference runs and keeps its arguments; it declares no semaphore. -/
theorem frame_reference6 : Cert.quiescent_Reference6Ideal := fun m ρ _ =>
  θ_run_mono (Cert.Reference6Ideal.Value.run m ρ) fun r h =>
    ⟨fun c => (h c).2.2.2, sem_eq_zero_of_no_sems (by decide) r.2⟩

/-- The kernel's one named constant is the fraction its bit pattern rounds. -/
theorem preserves6 : Cert.preserves_Kernel6_Kernel6Ideal :=
  IdealRules.named_const.statement Cert.Kernel6Ideal.κ "gelu_a" .f32 0x3D372713#32 ((8943/200000 : ℝ) : EReal) rfl

open Cert.Kernel6Ideal.Fmix Cert.Reference6Ideal.Fmix Cert.Reference6Ideal.Read in
/-- On finite arguments the mixer's forward call leaves what the plain mixer computes. -/
theorem algebraic6 : Cert.algebraic_Kernel6Ideal_Reference6Ideal_pre_finite_pool := by
  intro m g m' g' hpre hagree
  refine ⟨_, _, _, θ_run_mono (Cert.Kernel6Ideal.Value.run_blocks m g) fun r h => h,
    θ_run_mono (Cert.Reference6Ideal.Value.run m' g') fun r h c => ?_⟩
  obtain ⟨D, H⟩ := holds hpre c
  obtain ⟨a0, a1, a2, a3, a4, a5, a6, a7, a8, a9, a10, a11, a12⟩ := hagree c
  have A : RArgs D (m' ((c.tc : Thread _ _).loc Cert.Reference6Ideal.main_arg0))
      (m' ((c.tc : Thread _ _).loc Cert.Reference6Ideal.main_arg1)) (m' ((c.tc : Thread _ _).loc Cert.Reference6Ideal.main_arg2))
      (m' ((c.tc : Thread _ _).loc Cert.Reference6Ideal.main_arg3)) (m' ((c.tc : Thread _ _).loc Cert.Reference6Ideal.main_arg4))
      (m' ((c.tc : Thread _ _).loc Cert.Reference6Ideal.main_arg5)) (m' ((c.tc : Thread _ _).loc Cert.Reference6Ideal.main_arg6))
      (m' ((c.tc : Thread _ _).loc Cert.Reference6Ideal.main_arg7)) (m' ((c.tc : Thread _ _).loc Cert.Reference6Ideal.main_arg8))
      (m' ((c.tc : Thread _ _).loc Cert.Reference6Ideal.main_arg9)) (m' ((c.tc : Thread _ _).loc Cert.Reference6Ideal.main_arg10))
      (m' ((c.tc : Thread _ _).loc Cert.Reference6Ideal.main_arg11)) (m' ((c.tc : Thread _ _).loc Cert.Reference6Ideal.main_arg12)) := by
    rw [a0, a1, a2, a3, a4, a5, a6, a7, a8, a9, a10, a11, a12]
    exact ⟨H.x, H.sh, H.sc, H.ga, H.gn, H.win, H.wp, H.ps, H.lg, H.lb, H.ws, H.bs, H.wout⟩
  have t0 := (val_main_v157_eq (StableHlo.launchContents m' c)).trans ((res157 A).trans (arr8 H).symm)
  have t1 := (val_main_v159_eq (StableHlo.launchContents m' c)).trans ((res159 A).trans (arr9 H).symm)
  have t2 := (val_main_v19_eq (StableHlo.launchContents m' c)).trans ((res19 A).trans (arr10 H).symm)
  obtain ⟨r0, r1, r2, kept⟩ := h c
  exact ⟨r0.trans t0, r1.trans t1, r2.trans t2, kept⟩

/-- The reference of the modulation weight's gradient runs and keeps its arguments; it declares no semaphore. -/
theorem frame_reference7 : Cert.quiescent_Reference7Ideal := fun m ρ _ =>
  θ_run_mono (Cert.Reference7Ideal.Value.run m ρ) fun r h =>
    ⟨fun c => (h c).2.2.2.2, sem_eq_zero_of_no_sems (by decide) r.2⟩

open Cert.Kernel7Ideal.Ada Cert.Reference7Ideal.Read in
/-- The modulation weight's gradient call leaves the derivative of the plain modulation and the plain AdamW step of it. -/
theorem algebraic7 : Cert.algebraic_Kernel7Ideal_Reference7Ideal := by
  intro m g m' g' _ hagree
  refine ⟨_, _, _, _, θ_run_mono (Cert.Kernel7Ideal.Value.run_blocks m g) fun r h => h,
    θ_run_mono (Cert.Reference7Ideal.Value.run m' g') fun r h c => ?_⟩
  obtain ⟨a0, a1, a2, a3, a4⟩ := hagree c
  have t0 := (val_main_v3_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))).trans
    ((by rw [a0, a1] : _ = val_main_v3 (F := Ideal) (arg m c Cert.Kernel7Ideal.main_arg0) (arg m c Cert.Kernel7Ideal.main_arg1)).trans (arr5 m c).symm)
  have t1 := (val_main_v27_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))).trans
    ((by rw [a0, a1, a2, a3, a4] : _ = val_main_v27 (F := Ideal) (arg m c Cert.Kernel7Ideal.main_arg0) (arg m c Cert.Kernel7Ideal.main_arg1) (arg m c Cert.Kernel7Ideal.main_arg2) (arg m c Cert.Kernel7Ideal.main_arg3) (arg m c Cert.Kernel7Ideal.main_arg4)).trans (arr6 m c).symm)
  have t2 := (val_main_v8_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg3))).trans
    ((by rw [a0, a1, a3] : _ = val_main_v8 (F := Ideal) (arg m c Cert.Kernel7Ideal.main_arg0) (arg m c Cert.Kernel7Ideal.main_arg1) (arg m c Cert.Kernel7Ideal.main_arg3)).trans (arr7 m c).symm)
  have t3 := (val_main_v14_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg4))).trans
    ((by rw [a0, a1, a4] : _ = val_main_v14 (F := Ideal) (arg m c Cert.Kernel7Ideal.main_arg0) (arg m c Cert.Kernel7Ideal.main_arg1) (arg m c Cert.Kernel7Ideal.main_arg4)).trans (arr8 m c).symm)
  obtain ⟨r0, r1, r2, r3, kept⟩ := h c
  exact ⟨r0.trans t0, r1.trans t1, r2.trans t2, r3.trans t3, kept⟩

/-- The AdamW step's reference runs and keeps its arguments; it declares no semaphore. -/
theorem frame_reference8 : Cert.quiescent_Reference8Ideal := fun m ρ _ =>
  θ_run_mono (Cert.Reference8Ideal.Value.run m ρ) fun r h =>
    ⟨fun c => (h c).2.2.2.2, sem_eq_zero_of_no_sems (by decide) r.2⟩

open Cert.Kernel8Ideal.Halves Cert.Reference8Ideal.Read in
/-- The AdamW call over the two halves of a gradient leaves the joined gradient and the plain AdamW step of it. -/
theorem algebraic8 : Cert.algebraic_Kernel8Ideal_Reference8Ideal := by
  intro m g m' g' _ hagree
  refine ⟨_, _, _, _, θ_run_mono (Cert.Kernel8Ideal.Value.run_blocks m g) fun r h => h,
    θ_run_mono (Cert.Reference8Ideal.Value.run m' g') fun r h c => ?_⟩
  obtain ⟨a0, a1, a2, a3, a4⟩ := hagree c
  have t0 := (val_main_v0_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))).trans
    ((by rw [a1, a2] : _ = val_main_v0 (F := Ideal) (arg m c Cert.Kernel8Ideal.main_arg1) (arg m c Cert.Kernel8Ideal.main_arg2)).trans (arr5 m c).symm)
  have t1 := (val_main_v24_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))).trans
    ((by rw [a0, a1, a2, a3, a4] : _ = val_main_v24 (F := Ideal) (arg m c Cert.Kernel8Ideal.main_arg0) (arg m c Cert.Kernel8Ideal.main_arg1) (arg m c Cert.Kernel8Ideal.main_arg2) (arg m c Cert.Kernel8Ideal.main_arg3) (arg m c Cert.Kernel8Ideal.main_arg4)).trans (arr6 m c).symm)
  have t2 := (val_main_v5_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3))).trans
    ((by rw [a1, a2, a3] : _ = val_main_v5 (F := Ideal) (arg m c Cert.Kernel8Ideal.main_arg1) (arg m c Cert.Kernel8Ideal.main_arg2) (arg m c Cert.Kernel8Ideal.main_arg3)).trans (arr7 m c).symm)
  have t3 := (val_main_v11_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg4))).trans
    ((by rw [a1, a2, a4] : _ = val_main_v11 (F := Ideal) (arg m c Cert.Kernel8Ideal.main_arg1) (arg m c Cert.Kernel8Ideal.main_arg2) (arg m c Cert.Kernel8Ideal.main_arg4)).trans (arr8 m c).symm)
  obtain ⟨r0, r1, r2, r3, kept⟩ := h c
  exact ⟨r0.trans t0, r1.trans t1, r2.trans t2, r3.trans t3, kept⟩

/-- The sum's reference runs and keeps its arguments; it declares no semaphore. -/
theorem frame_reference9 : Cert.quiescent_Reference9Ideal := fun m ρ _ =>
  θ_run_mono (Cert.Reference9Ideal.Value.run m ρ) fun r h =>
    ⟨fun c => (h c).2, sem_eq_zero_of_no_sems (by decide) r.2⟩

/-- The call that sums two cores' parts leaves the plain sum. -/
theorem algebraic9 : Cert.algebraic_Kernel9Ideal_Reference9Ideal := by
  intro m g m' g' _ hagree
  refine ⟨_, θ_run_mono (Cert.Kernel9Ideal.Value.run m g) fun r h => h,
    θ_run_mono (Cert.Reference9Ideal.Value.run m' g') fun r h c => ?_⟩
  obtain ⟨a0, a1⟩ := hagree c
  refine ⟨(h c).1.trans ?_, (h c).2⟩
  rw [a0, a1]
  rfl

/-- The four parts' sum's reference runs and keeps its arguments; it declares no semaphore. -/
theorem frame_reference10 : Cert.quiescent_Reference10Ideal := fun m ρ _ =>
  θ_run_mono (Cert.Reference10Ideal.Value.run m ρ) fun r h =>
    ⟨fun c => (h c).2, sem_eq_zero_of_no_sems (by decide) r.2⟩

open Cert.Kernel10Ideal.Sum4 Cert.Reference10Ideal.Read in
/-- The call that sums four devices' parts leaves the plain sum. -/
theorem algebraic10 : Cert.algebraic_Kernel10Ideal_Reference10Ideal := by
  intro m g m' g' _ hagree
  refine ⟨_, θ_run_mono (Cert.Kernel10Ideal.Value.run_blocks m g) fun r h => h,
    θ_run_mono (Cert.Reference10Ideal.Value.run m' g') fun r h c => ?_⟩
  obtain ⟨a0, a1⟩ := hagree c
  have t0 := (val_main_v14_eq (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))).trans
    ((by rw [a0, a1] : _ = val_main_v14 (F := Ideal) (arg m c Cert.Kernel10Ideal.main_arg0) (arg m c Cert.Kernel10Ideal.main_arg1)).trans (arr4 m c).symm)
  exact ⟨(h c).1.trans t0, (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite_mix.Gen.facts, Cert.Pre_finite_ffn.Gen.facts, Cert.Pre_finite_half.Gen.facts,
  Cert.Pre_finite_fwd.Gen.facts, Cert.Pre_finite_pool.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  trivial, algebraic, preserves2, algebraic2, trivial, algebraic3, trivial, algebraic4, trivial, algebraic5,
  preserves6, algebraic6, trivial, algebraic7, trivial, algebraic8, trivial, algebraic9, trivial, algebraic10⟩

end Cert.Proof

end
